-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite [hPre_finite : Cert.Pre_finite.Facts] (m : (ℓ : Loc Cert.ScanIdeal.nD Cert.ScanIdeal.τ Cert.ScanIdeal.sig) → Buf (Elt Ideal) ℓ) : Prop :=
  ∀ c : Dev Cert.ScanIdeal.nD,
    (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite [hPre_finite : Cert.Pre_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Rg (m : (ℓ : Loc Cert.Rg.nD Cert.Rg.τ Cert.Rg.sig) → Buf (Elt Bits) ℓ) : Prop :=
  True

def Pre_RgIdeal (m : (ℓ : Loc Cert.RgIdeal.nD Cert.RgIdeal.τ Cert.RgIdeal.sig) → Buf (Elt Ideal) ℓ) : Prop :=
  True

def Pre_RgRefIdeal (m : (ℓ : Loc Cert.RgRefIdeal.nD Cert.RgRefIdeal.τ Cert.RgRefIdeal.sig) → Buf (Elt Ideal) ℓ) : Prop :=
  True

def Pre_Sm (m : (ℓ : Loc Cert.Sm.nD Cert.Sm.τ Cert.Sm.sig) → Buf (Elt Bits) ℓ) : Prop :=
  True

def Pre_SmIdeal (m : (ℓ : Loc Cert.SmIdeal.nD Cert.SmIdeal.τ Cert.SmIdeal.sig) → Buf (Elt Ideal) ℓ) : Prop :=
  True

def Pre_SmRefIdeal (m : (ℓ : Loc Cert.SmRefIdeal.nD Cert.SmRefIdeal.τ Cert.SmRefIdeal.sig) → Buf (Elt Ideal) ℓ) : Prop :=
  True

def Pre_AdamL (m : (ℓ : Loc Cert.AdamL.nD Cert.AdamL.τ Cert.AdamL.sig) → Buf (Elt Bits) ℓ) : Prop :=
  True

def Pre_AdamLIdeal (m : (ℓ : Loc Cert.AdamLIdeal.nD Cert.AdamLIdeal.τ Cert.AdamLIdeal.sig) → Buf (Elt Ideal) ℓ) : Prop :=
  True

def Pre_AdamLRefIdeal (m : (ℓ : Loc Cert.AdamLRefIdeal.nD Cert.AdamLRefIdeal.τ Cert.AdamLRefIdeal.sig) → Buf (Elt Ideal) ℓ) : Prop :=
  True

def Pre_AdamS (m : (ℓ : Loc Cert.AdamS.nD Cert.AdamS.τ Cert.AdamS.sig) → Buf (Elt Bits) ℓ) : Prop :=
  True

def Pre_AdamSIdeal (m : (ℓ : Loc Cert.AdamSIdeal.nD Cert.AdamSIdeal.τ Cert.AdamSIdeal.sig) → Buf (Elt Ideal) ℓ) : Prop :=
  True

def Pre_AdamSRefIdeal (m : (ℓ : Loc Cert.AdamSRefIdeal.nD Cert.AdamSRefIdeal.τ Cert.AdamSRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def quiescent_ScanIdeal_pre_finite [hScanIdeal : Cert.ScanIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2))
      ∧ r.2.sem = fun _ => 0)

def quiescent_ScanRefIdeal_pre_finite [hScanRefIdeal : Cert.ScanRefIdeal.Facts] [hPre_finite : Cert.Pre_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Rg [hRg : Cert.Rg.Facts] : Prop :=
  ∀ (m : (ℓ : Loc Cert.Rg.nD Cert.Rg.τ Cert.Rg.sig) → Buf (Elt Bits) ℓ) (g : Dev Cert.Rg.nD → PrngReg), Pre_Rg m →
    θ_run (Cert.Rg.defs (F := Bits)) (onTc (τ := Cert.Rg.τ) (Cert.Rg.main (F := Bits))) ⟨m, fun _ => 0, g⟩ (fun r => (∀ c : Dev Cert.Rg.nD,
      r.2.mem ((c.tc : Thread Cert.Rg.nD Cert.Rg.τ).loc Cert.Rg.main_arg0) = m ((c.tc : Thread Cert.Rg.nD Cert.Rg.τ).loc Cert.Rg.main_arg0)
      ∧ r.2.mem ((c.tc : Thread Cert.Rg.nD Cert.Rg.τ).loc Cert.Rg.main_arg1) = m ((c.tc : Thread Cert.Rg.nD Cert.Rg.τ).loc Cert.Rg.main_arg1)
      ∧ r.2.mem ((c.tc : Thread Cert.Rg.nD Cert.Rg.τ).loc Cert.Rg.main_arg2) = m ((c.tc : Thread Cert.Rg.nD Cert.Rg.τ).loc Cert.Rg.main_arg2)
      ∧ r.2.mem ((c.tc : Thread Cert.Rg.nD Cert.Rg.τ).loc Cert.Rg.main_arg3) = m ((c.tc : Thread Cert.Rg.nD Cert.Rg.τ).loc Cert.Rg.main_arg3)
      ∧ r.2.mem ((c.tc : Thread Cert.Rg.nD Cert.Rg.τ).loc Cert.Rg.main_arg4) = m ((c.tc : Thread Cert.Rg.nD Cert.Rg.τ).loc Cert.Rg.main_arg4)
      ∧ r.2.mem ((c.tc : Thread Cert.Rg.nD Cert.Rg.τ).loc Cert.Rg.main_arg5) = m ((c.tc : Thread Cert.Rg.nD Cert.Rg.τ).loc Cert.Rg.main_arg5)
      ∧ r.2.mem ((c.tc : Thread Cert.Rg.nD Cert.Rg.τ).loc Cert.Rg.main_arg6) = m ((c.tc : Thread Cert.Rg.nD Cert.Rg.τ).loc Cert.Rg.main_arg6)
      ∧ r.2.mem ((c.tc : Thread Cert.Rg.nD Cert.Rg.τ).loc Cert.Rg.main_arg7) = m ((c.tc : Thread Cert.Rg.nD Cert.Rg.τ).loc Cert.Rg.main_arg7)
      ∧ r.2.mem ((c.tc : Thread Cert.Rg.nD Cert.Rg.τ).loc Cert.Rg.main_arg8) = m ((c.tc : Thread Cert.Rg.nD Cert.Rg.τ).loc Cert.Rg.main_arg8))
      ∧ r.2.sem = fun _ => 0)

def quiescent_RgIdeal [hRgIdeal : Cert.RgIdeal.Facts] : Prop :=
  ∀ (m : (ℓ : Loc Cert.RgIdeal.nD Cert.RgIdeal.τ Cert.RgIdeal.sig) → Buf (Elt Ideal) ℓ) (g : Dev Cert.RgIdeal.nD → PrngReg), Pre_RgIdeal m →
    θ_run (Cert.RgIdeal.defs (F := Ideal)) (onTc (τ := Cert.RgIdeal.τ) (Cert.RgIdeal.main (F := Ideal))) ⟨m, fun _ => 0, g⟩ (fun r => (∀ c : Dev Cert.RgIdeal.nD,
      r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
      ∧ r.2.mem ((c.tc : Thread Cert.RgIdeal.nD Cert.RgIdeal.τ).loc Cert.RgIdeal.main_arg8) = m ((c.tc : Thread Cert.RgIdeal.nD Cert.RgIdeal.τ).loc Cert.RgIdeal.main_arg8))
      ∧ r.2.sem = fun _ => 0)

def quiescent_RgRefIdeal [hRgRefIdeal : Cert.RgRefIdeal.Facts] : Prop :=
  ∀ (m : (ℓ : Loc Cert.RgRefIdeal.nD Cert.RgRefIdeal.τ Cert.RgRefIdeal.sig) → Buf (Elt Ideal) ℓ) (g : Dev Cert.RgRefIdeal.nD → PrngReg), Pre_RgRefIdeal m →
    θ_run (Cert.RgRefIdeal.defs (F := Ideal)) (onTc (τ := Cert.RgRefIdeal.τ) (Cert.RgRefIdeal.main (F := Ideal))) ⟨m, fun _ => 0, g⟩ (fun r => (∀ c : Dev Cert.RgRefIdeal.nD,
      r.2.mem ((c.tc : Thread Cert.RgRefIdeal.nD Cert.RgRefIdeal.τ).loc Cert.RgRefIdeal.main_arg0) = m ((c.tc : Thread Cert.RgRefIdeal.nD Cert.RgRefIdeal.τ).loc Cert.RgRefIdeal.main_arg0)
      ∧ r.2.mem ((c.tc : Thread Cert.RgRefIdeal.nD Cert.RgRefIdeal.τ).loc Cert.RgRefIdeal.main_arg1) = m ((c.tc : Thread Cert.RgRefIdeal.nD Cert.RgRefIdeal.τ).loc Cert.RgRefIdeal.main_arg1)
      ∧ r.2.mem ((c.tc : Thread Cert.RgRefIdeal.nD Cert.RgRefIdeal.τ).loc Cert.RgRefIdeal.main_arg2) = m ((c.tc : Thread Cert.RgRefIdeal.nD Cert.RgRefIdeal.τ).loc Cert.RgRefIdeal.main_arg2)
      ∧ r.2.mem ((c.tc : Thread Cert.RgRefIdeal.nD Cert.RgRefIdeal.τ).loc Cert.RgRefIdeal.main_arg3) = m ((c.tc : Thread Cert.RgRefIdeal.nD Cert.RgRefIdeal.τ).loc Cert.RgRefIdeal.main_arg3)
      ∧ r.2.mem ((c.tc : Thread Cert.RgRefIdeal.nD Cert.RgRefIdeal.τ).loc Cert.RgRefIdeal.main_arg4) = m ((c.tc : Thread Cert.RgRefIdeal.nD Cert.RgRefIdeal.τ).loc Cert.RgRefIdeal.main_arg4)
      ∧ r.2.mem ((c.tc : Thread Cert.RgRefIdeal.nD Cert.RgRefIdeal.τ).loc Cert.RgRefIdeal.main_arg5) = m ((c.tc : Thread Cert.RgRefIdeal.nD Cert.RgRefIdeal.τ).loc Cert.RgRefIdeal.main_arg5)
      ∧ r.2.mem ((c.tc : Thread Cert.RgRefIdeal.nD Cert.RgRefIdeal.τ).loc Cert.RgRefIdeal.main_arg6) = m ((c.tc : Thread Cert.RgRefIdeal.nD Cert.RgRefIdeal.τ).loc Cert.RgRefIdeal.main_arg6)
      ∧ r.2.mem ((c.tc : Thread Cert.RgRefIdeal.nD Cert.RgRefIdeal.τ).loc Cert.RgRefIdeal.main_arg7) = m ((c.tc : Thread Cert.RgRefIdeal.nD Cert.RgRefIdeal.τ).loc Cert.RgRefIdeal.main_arg7)
      ∧ r.2.mem ((c.tc : Thread Cert.RgRefIdeal.nD Cert.RgRefIdeal.τ).loc Cert.RgRefIdeal.main_arg8) = m ((c.tc : Thread Cert.RgRefIdeal.nD Cert.RgRefIdeal.τ).loc Cert.RgRefIdeal.main_arg8))
      ∧ r.2.sem = fun _ => 0)

def quiescent_Sm [hSm : Cert.Sm.Facts] : Prop :=
  ∀ (m : (ℓ : Loc Cert.Sm.nD Cert.Sm.τ Cert.Sm.sig) → Buf (Elt Bits) ℓ) (g : Dev Cert.Sm.nD → PrngReg), Pre_Sm m →
    θ_run (Cert.Sm.defs (F := Bits)) (onTc (τ := Cert.Sm.τ) (Cert.Sm.main (F := Bits))) ⟨m, fun _ => 0, g⟩ (fun r => (∀ c : Dev Cert.Sm.nD,
      r.2.mem ((c.tc : Thread Cert.Sm.nD Cert.Sm.τ).loc Cert.Sm.main_arg0) = m ((c.tc : Thread Cert.Sm.nD Cert.Sm.τ).loc Cert.Sm.main_arg0)
      ∧ r.2.mem ((c.tc : Thread Cert.Sm.nD Cert.Sm.τ).loc Cert.Sm.main_arg1) = m ((c.tc : Thread Cert.Sm.nD Cert.Sm.τ).loc Cert.Sm.main_arg1)
      ∧ r.2.mem ((c.tc : Thread Cert.Sm.nD Cert.Sm.τ).loc Cert.Sm.main_arg2) = m ((c.tc : Thread Cert.Sm.nD Cert.Sm.τ).loc Cert.Sm.main_arg2)
      ∧ r.2.mem ((c.tc : Thread Cert.Sm.nD Cert.Sm.τ).loc Cert.Sm.main_arg3) = m ((c.tc : Thread Cert.Sm.nD Cert.Sm.τ).loc Cert.Sm.main_arg3)
      ∧ r.2.mem ((c.tc : Thread Cert.Sm.nD Cert.Sm.τ).loc Cert.Sm.main_arg4) = m ((c.tc : Thread Cert.Sm.nD Cert.Sm.τ).loc Cert.Sm.main_arg4)
      ∧ r.2.mem ((c.tc : Thread Cert.Sm.nD Cert.Sm.τ).loc Cert.Sm.main_arg5) = m ((c.tc : Thread Cert.Sm.nD Cert.Sm.τ).loc Cert.Sm.main_arg5)
      ∧ r.2.mem ((c.tc : Thread Cert.Sm.nD Cert.Sm.τ).loc Cert.Sm.main_arg6) = m ((c.tc : Thread Cert.Sm.nD Cert.Sm.τ).loc Cert.Sm.main_arg6)
      ∧ r.2.mem ((c.tc : Thread Cert.Sm.nD Cert.Sm.τ).loc Cert.Sm.main_arg7) = m ((c.tc : Thread Cert.Sm.nD Cert.Sm.τ).loc Cert.Sm.main_arg7)
      ∧ r.2.mem ((c.tc : Thread Cert.Sm.nD Cert.Sm.τ).loc Cert.Sm.main_arg8) = m ((c.tc : Thread Cert.Sm.nD Cert.Sm.τ).loc Cert.Sm.main_arg8))
      ∧ r.2.sem = fun _ => 0)

def quiescent_SmIdeal [hSmIdeal : Cert.SmIdeal.Facts] : Prop :=
  ∀ (m : (ℓ : Loc Cert.SmIdeal.nD Cert.SmIdeal.τ Cert.SmIdeal.sig) → Buf (Elt Ideal) ℓ) (g : Dev Cert.SmIdeal.nD → PrngReg), Pre_SmIdeal m →
    θ_run (Cert.SmIdeal.defs (F := Ideal)) (onTc (τ := Cert.SmIdeal.τ) (Cert.SmIdeal.main (F := Ideal))) ⟨m, fun _ => 0, g⟩ (fun r => (∀ c : Dev Cert.SmIdeal.nD,
      r.2.mem ((c.tc : Thread Cert.SmIdeal.nD Cert.SmIdeal.τ).loc Cert.SmIdeal.main_arg0) = m ((c.tc : Thread Cert.SmIdeal.nD Cert.SmIdeal.τ).loc Cert.SmIdeal.main_arg0)
      ∧ r.2.mem ((c.tc : Thread Cert.SmIdeal.nD Cert.SmIdeal.τ).loc Cert.SmIdeal.main_arg1) = m ((c.tc : Thread Cert.SmIdeal.nD Cert.SmIdeal.τ).loc Cert.SmIdeal.main_arg1)
      ∧ r.2.mem ((c.tc : Thread Cert.SmIdeal.nD Cert.SmIdeal.τ).loc Cert.SmIdeal.main_arg2) = m ((c.tc : Thread Cert.SmIdeal.nD Cert.SmIdeal.τ).loc Cert.SmIdeal.main_arg2)
      ∧ r.2.mem ((c.tc : Thread Cert.SmIdeal.nD Cert.SmIdeal.τ).loc Cert.SmIdeal.main_arg3) = m ((c.tc : Thread Cert.SmIdeal.nD Cert.SmIdeal.τ).loc Cert.SmIdeal.main_arg3)
      ∧ r.2.mem ((c.tc : Thread Cert.SmIdeal.nD Cert.SmIdeal.τ).loc Cert.SmIdeal.main_arg4) = m ((c.tc : Thread Cert.SmIdeal.nD Cert.SmIdeal.τ).loc Cert.SmIdeal.main_arg4)
      ∧ r.2.mem ((c.tc : Thread Cert.SmIdeal.nD Cert.SmIdeal.τ).loc Cert.SmIdeal.main_arg5) = m ((c.tc : Thread Cert.SmIdeal.nD Cert.SmIdeal.τ).loc Cert.SmIdeal.main_arg5)
      ∧ r.2.mem ((c.tc : Thread Cert.SmIdeal.nD Cert.SmIdeal.τ).loc Cert.SmIdeal.main_arg6) = m ((c.tc : Thread Cert.SmIdeal.nD Cert.SmIdeal.τ).loc Cert.SmIdeal.main_arg6)
      ∧ r.2.mem ((c.tc : Thread Cert.SmIdeal.nD Cert.SmIdeal.τ).loc Cert.SmIdeal.main_arg7) = m ((c.tc : Thread Cert.SmIdeal.nD Cert.SmIdeal.τ).loc Cert.SmIdeal.main_arg7)
      ∧ r.2.mem ((c.tc : Thread Cert.SmIdeal.nD Cert.SmIdeal.τ).loc Cert.SmIdeal.main_arg8) = m ((c.tc : Thread Cert.SmIdeal.nD Cert.SmIdeal.τ).loc Cert.SmIdeal.main_arg8))
      ∧ r.2.sem = fun _ => 0)

def quiescent_SmRefIdeal [hSmRefIdeal : Cert.SmRefIdeal.Facts] : Prop :=
  ∀ (m : (ℓ : Loc Cert.SmRefIdeal.nD Cert.SmRefIdeal.τ Cert.SmRefIdeal.sig) → Buf (Elt Ideal) ℓ) (g : Dev Cert.SmRefIdeal.nD → PrngReg), Pre_SmRefIdeal m →
    θ_run (Cert.SmRefIdeal.defs (F := Ideal)) (onTc (τ := Cert.SmRefIdeal.τ) (Cert.SmRefIdeal.main (F := Ideal))) ⟨m, fun _ => 0, g⟩ (fun r => (∀ c : Dev Cert.SmRefIdeal.nD,
      r.2.mem ((c.tc : Thread Cert.SmRefIdeal.nD Cert.SmRefIdeal.τ).loc Cert.SmRefIdeal.main_arg0) = m ((c.tc : Thread Cert.SmRefIdeal.nD Cert.SmRefIdeal.τ).loc Cert.SmRefIdeal.main_arg0)
      ∧ r.2.mem ((c.tc : Thread Cert.SmRefIdeal.nD Cert.SmRefIdeal.τ).loc Cert.SmRefIdeal.main_arg1) = m ((c.tc : Thread Cert.SmRefIdeal.nD Cert.SmRefIdeal.τ).loc Cert.SmRefIdeal.main_arg1)
      ∧ r.2.mem ((c.tc : Thread Cert.SmRefIdeal.nD Cert.SmRefIdeal.τ).loc Cert.SmRefIdeal.main_arg2) = m ((c.tc : Thread Cert.SmRefIdeal.nD Cert.SmRefIdeal.τ).loc Cert.SmRefIdeal.main_arg2)
      ∧ r.2.mem ((c.tc : Thread Cert.SmRefIdeal.nD Cert.SmRefIdeal.τ).loc Cert.SmRefIdeal.main_arg3) = m ((c.tc : Thread Cert.SmRefIdeal.nD Cert.SmRefIdeal.τ).loc Cert.SmRefIdeal.main_arg3)
      ∧ r.2.mem ((c.tc : Thread Cert.SmRefIdeal.nD Cert.SmRefIdeal.τ).loc Cert.SmRefIdeal.main_arg4) = m ((c.tc : Thread Cert.SmRefIdeal.nD Cert.SmRefIdeal.τ).loc Cert.SmRefIdeal.main_arg4)
      ∧ r.2.mem ((c.tc : Thread Cert.SmRefIdeal.nD Cert.SmRefIdeal.τ).loc Cert.SmRefIdeal.main_arg5) = m ((c.tc : Thread Cert.SmRefIdeal.nD Cert.SmRefIdeal.τ).loc Cert.SmRefIdeal.main_arg5)
      ∧ r.2.mem ((c.tc : Thread Cert.SmRefIdeal.nD Cert.SmRefIdeal.τ).loc Cert.SmRefIdeal.main_arg6) = m ((c.tc : Thread Cert.SmRefIdeal.nD Cert.SmRefIdeal.τ).loc Cert.SmRefIdeal.main_arg6)
      ∧ r.2.mem ((c.tc : Thread Cert.SmRefIdeal.nD Cert.SmRefIdeal.τ).loc Cert.SmRefIdeal.main_arg7) = m ((c.tc : Thread Cert.SmRefIdeal.nD Cert.SmRefIdeal.τ).loc Cert.SmRefIdeal.main_arg7)
      ∧ r.2.mem ((c.tc : Thread Cert.SmRefIdeal.nD Cert.SmRefIdeal.τ).loc Cert.SmRefIdeal.main_arg8) = m ((c.tc : Thread Cert.SmRefIdeal.nD Cert.SmRefIdeal.τ).loc Cert.SmRefIdeal.main_arg8))
      ∧ r.2.sem = fun _ => 0)

def quiescent_AdamL [hAdamL : Cert.AdamL.Facts] : Prop :=
  ∀ (m : (ℓ : Loc Cert.AdamL.nD Cert.AdamL.τ Cert.AdamL.sig) → Buf (Elt Bits) ℓ) (g : Dev Cert.AdamL.nD → PrngReg), Pre_AdamL m →
    θ_run (Cert.AdamL.defs (F := Bits)) (onTc (τ := Cert.AdamL.τ) (Cert.AdamL.main (F := Bits))) ⟨m, fun _ => 0, g⟩ (fun r => (∀ c : Dev Cert.AdamL.nD,
      r.2.mem ((c.tc : Thread Cert.AdamL.nD Cert.AdamL.τ).loc Cert.AdamL.main_arg0) = m ((c.tc : Thread Cert.AdamL.nD Cert.AdamL.τ).loc Cert.AdamL.main_arg0)
      ∧ r.2.mem ((c.tc : Thread Cert.AdamL.nD Cert.AdamL.τ).loc Cert.AdamL.main_arg1) = m ((c.tc : Thread Cert.AdamL.nD Cert.AdamL.τ).loc Cert.AdamL.main_arg1)
      ∧ r.2.mem ((c.tc : Thread Cert.AdamL.nD Cert.AdamL.τ).loc Cert.AdamL.main_arg2) = m ((c.tc : Thread Cert.AdamL.nD Cert.AdamL.τ).loc Cert.AdamL.main_arg2)
      ∧ r.2.mem ((c.tc : Thread Cert.AdamL.nD Cert.AdamL.τ).loc Cert.AdamL.main_arg3) = m ((c.tc : Thread Cert.AdamL.nD Cert.AdamL.τ).loc Cert.AdamL.main_arg3)
      ∧ r.2.mem ((c.tc : Thread Cert.AdamL.nD Cert.AdamL.τ).loc Cert.AdamL.main_arg4) = m ((c.tc : Thread Cert.AdamL.nD Cert.AdamL.τ).loc Cert.AdamL.main_arg4)
      ∧ r.2.mem ((c.tc : Thread Cert.AdamL.nD Cert.AdamL.τ).loc Cert.AdamL.main_arg5) = m ((c.tc : Thread Cert.AdamL.nD Cert.AdamL.τ).loc Cert.AdamL.main_arg5)
      ∧ r.2.mem ((c.tc : Thread Cert.AdamL.nD Cert.AdamL.τ).loc Cert.AdamL.main_arg6) = m ((c.tc : Thread Cert.AdamL.nD Cert.AdamL.τ).loc Cert.AdamL.main_arg6)
      ∧ r.2.mem ((c.tc : Thread Cert.AdamL.nD Cert.AdamL.τ).loc Cert.AdamL.main_arg7) = m ((c.tc : Thread Cert.AdamL.nD Cert.AdamL.τ).loc Cert.AdamL.main_arg7)
      ∧ r.2.mem ((c.tc : Thread Cert.AdamL.nD Cert.AdamL.τ).loc Cert.AdamL.main_arg8) = m ((c.tc : Thread Cert.AdamL.nD Cert.AdamL.τ).loc Cert.AdamL.main_arg8)
      ∧ r.2.mem ((c.tc : Thread Cert.AdamL.nD Cert.AdamL.τ).loc Cert.AdamL.main_arg9) = m ((c.tc : Thread Cert.AdamL.nD Cert.AdamL.τ).loc Cert.AdamL.main_arg9)
      ∧ r.2.mem ((c.tc : Thread Cert.AdamL.nD Cert.AdamL.τ).loc Cert.AdamL.main_arg10) = m ((c.tc : Thread Cert.AdamL.nD Cert.AdamL.τ).loc Cert.AdamL.main_arg10)
      ∧ r.2.mem ((c.tc : Thread Cert.AdamL.nD Cert.AdamL.τ).loc Cert.AdamL.main_arg11) = m ((c.tc : Thread Cert.AdamL.nD Cert.AdamL.τ).loc Cert.AdamL.main_arg11)
      ∧ r.2.mem ((c.tc : Thread Cert.AdamL.nD Cert.AdamL.τ).loc Cert.AdamL.main_arg12) = m ((c.tc : Thread Cert.AdamL.nD Cert.AdamL.τ).loc Cert.AdamL.main_arg12)
      ∧ r.2.mem ((c.tc : Thread Cert.AdamL.nD Cert.AdamL.τ).loc Cert.AdamL.main_arg13) = m ((c.tc : Thread Cert.AdamL.nD Cert.AdamL.τ).loc Cert.AdamL.main_arg13)
      ∧ r.2.mem ((c.tc : Thread Cert.AdamL.nD Cert.AdamL.τ).loc Cert.AdamL.main_arg14) = m ((c.tc : Thread Cert.AdamL.nD Cert.AdamL.τ).loc Cert.AdamL.main_arg14)
      ∧ r.2.mem ((c.tc : Thread Cert.AdamL.nD Cert.AdamL.τ).loc Cert.AdamL.main_arg15) = m ((c.tc : Thread Cert.AdamL.nD Cert.AdamL.τ).loc Cert.AdamL.main_arg15)
      ∧ r.2.mem ((c.tc : Thread Cert.AdamL.nD Cert.AdamL.τ).loc Cert.AdamL.main_arg16) = m ((c.tc : Thread Cert.AdamL.nD Cert.AdamL.τ).loc Cert.AdamL.main_arg16)
      ∧ r.2.mem ((c.tc : Thread Cert.AdamL.nD Cert.AdamL.τ).loc Cert.AdamL.main_arg17) = m ((c.tc : Thread Cert.AdamL.nD Cert.AdamL.τ).loc Cert.AdamL.main_arg17)
      ∧ r.2.mem ((c.tc : Thread Cert.AdamL.nD Cert.AdamL.τ).loc Cert.AdamL.main_arg18) = m ((c.tc : Thread Cert.AdamL.nD Cert.AdamL.τ).loc Cert.AdamL.main_arg18)
      ∧ r.2.mem ((c.tc : Thread Cert.AdamL.nD Cert.AdamL.τ).loc Cert.AdamL.main_arg19) = m ((c.tc : Thread Cert.AdamL.nD Cert.AdamL.τ).loc Cert.AdamL.main_arg19)
      ∧ r.2.mem ((c.tc : Thread Cert.AdamL.nD Cert.AdamL.τ).loc Cert.AdamL.main_arg20) = m ((c.tc : Thread Cert.AdamL.nD Cert.AdamL.τ).loc Cert.AdamL.main_arg20)
      ∧ r.2.mem ((c.tc : Thread Cert.AdamL.nD Cert.AdamL.τ).loc Cert.AdamL.main_arg21) = m ((c.tc : Thread Cert.AdamL.nD Cert.AdamL.τ).loc Cert.AdamL.main_arg21)
      ∧ r.2.mem ((c.tc : Thread Cert.AdamL.nD Cert.AdamL.τ).loc Cert.AdamL.main_arg22) = m ((c.tc : Thread Cert.AdamL.nD Cert.AdamL.τ).loc Cert.AdamL.main_arg22)
      ∧ r.2.mem ((c.tc : Thread Cert.AdamL.nD Cert.AdamL.τ).loc Cert.AdamL.main_arg23) = m ((c.tc : Thread Cert.AdamL.nD Cert.AdamL.τ).loc Cert.AdamL.main_arg23)
      ∧ r.2.mem ((c.tc : Thread Cert.AdamL.nD Cert.AdamL.τ).loc Cert.AdamL.main_arg24) = m ((c.tc : Thread Cert.AdamL.nD Cert.AdamL.τ).loc Cert.AdamL.main_arg24)
      ∧ r.2.mem ((c.tc : Thread Cert.AdamL.nD Cert.AdamL.τ).loc Cert.AdamL.main_arg25) = m ((c.tc : Thread Cert.AdamL.nD Cert.AdamL.τ).loc Cert.AdamL.main_arg25)
      ∧ r.2.mem ((c.tc : Thread Cert.AdamL.nD Cert.AdamL.τ).loc Cert.AdamL.main_arg26) = m ((c.tc : Thread Cert.AdamL.nD Cert.AdamL.τ).loc Cert.AdamL.main_arg26)
      ∧ r.2.mem ((c.tc : Thread Cert.AdamL.nD Cert.AdamL.τ).loc Cert.AdamL.main_arg27) = m ((c.tc : Thread Cert.AdamL.nD Cert.AdamL.τ).loc Cert.AdamL.main_arg27)
      ∧ r.2.mem ((c.tc : Thread Cert.AdamL.nD Cert.AdamL.τ).loc Cert.AdamL.main_arg28) = m ((c.tc : Thread Cert.AdamL.nD Cert.AdamL.τ).loc Cert.AdamL.main_arg28)
      ∧ r.2.mem ((c.tc : Thread Cert.AdamL.nD Cert.AdamL.τ).loc Cert.AdamL.main_arg29) = m ((c.tc : Thread Cert.AdamL.nD Cert.AdamL.τ).loc Cert.AdamL.main_arg29)
      ∧ r.2.mem ((c.tc : Thread Cert.AdamL.nD Cert.AdamL.τ).loc Cert.AdamL.main_arg30) = m ((c.tc : Thread Cert.AdamL.nD Cert.AdamL.τ).loc Cert.AdamL.main_arg30)
      ∧ r.2.mem ((c.tc : Thread Cert.AdamL.nD Cert.AdamL.τ).loc Cert.AdamL.main_arg31) = m ((c.tc : Thread Cert.AdamL.nD Cert.AdamL.τ).loc Cert.AdamL.main_arg31))
      ∧ r.2.sem = fun _ => 0)

def quiescent_AdamLIdeal [hAdamLIdeal : Cert.AdamLIdeal.Facts] : Prop :=
  ∀ (m : (ℓ : Loc Cert.AdamLIdeal.nD Cert.AdamLIdeal.τ Cert.AdamLIdeal.sig) → Buf (Elt Ideal) ℓ) (g : Dev Cert.AdamLIdeal.nD → PrngReg), Pre_AdamLIdeal m →
    θ_run (Cert.AdamLIdeal.defs (F := Ideal)) (onTc (τ := Cert.AdamLIdeal.τ) (Cert.AdamLIdeal.main (F := Ideal))) ⟨m, fun _ => 0, g⟩ (fun r => (∀ c : Dev Cert.AdamLIdeal.nD,
      r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
      ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
      ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
      ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3)
      ∧ r.2.mem ((c.tc : Thread Cert.AdamLIdeal.nD Cert.AdamLIdeal.τ).loc Cert.AdamLIdeal.main_arg4) = m ((c.tc : Thread Cert.AdamLIdeal.nD Cert.AdamLIdeal.τ).loc Cert.AdamLIdeal.main_arg4)
      ∧ r.2.mem ((c.tc : Thread Cert.AdamLIdeal.nD Cert.AdamLIdeal.τ).loc Cert.AdamLIdeal.main_arg5) = m ((c.tc : Thread Cert.AdamLIdeal.nD Cert.AdamLIdeal.τ).loc Cert.AdamLIdeal.main_arg5)
      ∧ r.2.mem ((c.tc : Thread Cert.AdamLIdeal.nD Cert.AdamLIdeal.τ).loc Cert.AdamLIdeal.main_arg6) = m ((c.tc : Thread Cert.AdamLIdeal.nD Cert.AdamLIdeal.τ).loc Cert.AdamLIdeal.main_arg6)
      ∧ r.2.mem ((c.tc : Thread Cert.AdamLIdeal.nD Cert.AdamLIdeal.τ).loc Cert.AdamLIdeal.main_arg7) = m ((c.tc : Thread Cert.AdamLIdeal.nD Cert.AdamLIdeal.τ).loc Cert.AdamLIdeal.main_arg7)
      ∧ r.2.mem ((c.tc : Thread Cert.AdamLIdeal.nD Cert.AdamLIdeal.τ).loc Cert.AdamLIdeal.main_arg8) = m ((c.tc : Thread Cert.AdamLIdeal.nD Cert.AdamLIdeal.τ).loc Cert.AdamLIdeal.main_arg8)
      ∧ r.2.mem ((c.tc : Thread Cert.AdamLIdeal.nD Cert.AdamLIdeal.τ).loc Cert.AdamLIdeal.main_arg9) = m ((c.tc : Thread Cert.AdamLIdeal.nD Cert.AdamLIdeal.τ).loc Cert.AdamLIdeal.main_arg9)
      ∧ r.2.mem ((c.tc : Thread Cert.AdamLIdeal.nD Cert.AdamLIdeal.τ).loc Cert.AdamLIdeal.main_arg10) = m ((c.tc : Thread Cert.AdamLIdeal.nD Cert.AdamLIdeal.τ).loc Cert.AdamLIdeal.main_arg10)
      ∧ r.2.mem ((c.tc : Thread Cert.AdamLIdeal.nD Cert.AdamLIdeal.τ).loc Cert.AdamLIdeal.main_arg11) = m ((c.tc : Thread Cert.AdamLIdeal.nD Cert.AdamLIdeal.τ).loc Cert.AdamLIdeal.main_arg11)
      ∧ r.2.mem ((c.tc : Thread Cert.AdamLIdeal.nD Cert.AdamLIdeal.τ).loc Cert.AdamLIdeal.main_arg12) = m ((c.tc : Thread Cert.AdamLIdeal.nD Cert.AdamLIdeal.τ).loc Cert.AdamLIdeal.main_arg12)
      ∧ r.2.mem ((c.tc : Thread Cert.AdamLIdeal.nD Cert.AdamLIdeal.τ).loc Cert.AdamLIdeal.main_arg13) = m ((c.tc : Thread Cert.AdamLIdeal.nD Cert.AdamLIdeal.τ).loc Cert.AdamLIdeal.main_arg13)
      ∧ r.2.mem ((c.tc : Thread Cert.AdamLIdeal.nD Cert.AdamLIdeal.τ).loc Cert.AdamLIdeal.main_arg14) = m ((c.tc : Thread Cert.AdamLIdeal.nD Cert.AdamLIdeal.τ).loc Cert.AdamLIdeal.main_arg14)
      ∧ r.2.mem ((c.tc : Thread Cert.AdamLIdeal.nD Cert.AdamLIdeal.τ).loc Cert.AdamLIdeal.main_arg15) = m ((c.tc : Thread Cert.AdamLIdeal.nD Cert.AdamLIdeal.τ).loc Cert.AdamLIdeal.main_arg15)
      ∧ r.2.mem ((c.tc : Thread Cert.AdamLIdeal.nD Cert.AdamLIdeal.τ).loc Cert.AdamLIdeal.main_arg16) = m ((c.tc : Thread Cert.AdamLIdeal.nD Cert.AdamLIdeal.τ).loc Cert.AdamLIdeal.main_arg16)
      ∧ r.2.mem ((c.tc : Thread Cert.AdamLIdeal.nD Cert.AdamLIdeal.τ).loc Cert.AdamLIdeal.main_arg17) = m ((c.tc : Thread Cert.AdamLIdeal.nD Cert.AdamLIdeal.τ).loc Cert.AdamLIdeal.main_arg17)
      ∧ r.2.mem ((c.tc : Thread Cert.AdamLIdeal.nD Cert.AdamLIdeal.τ).loc Cert.AdamLIdeal.main_arg18) = m ((c.tc : Thread Cert.AdamLIdeal.nD Cert.AdamLIdeal.τ).loc Cert.AdamLIdeal.main_arg18)
      ∧ r.2.mem ((c.tc : Thread Cert.AdamLIdeal.nD Cert.AdamLIdeal.τ).loc Cert.AdamLIdeal.main_arg19) = m ((c.tc : Thread Cert.AdamLIdeal.nD Cert.AdamLIdeal.τ).loc Cert.AdamLIdeal.main_arg19)
      ∧ r.2.mem ((c.tc : Thread Cert.AdamLIdeal.nD Cert.AdamLIdeal.τ).loc Cert.AdamLIdeal.main_arg20) = m ((c.tc : Thread Cert.AdamLIdeal.nD Cert.AdamLIdeal.τ).loc Cert.AdamLIdeal.main_arg20)
      ∧ r.2.mem ((c.tc : Thread Cert.AdamLIdeal.nD Cert.AdamLIdeal.τ).loc Cert.AdamLIdeal.main_arg21) = m ((c.tc : Thread Cert.AdamLIdeal.nD Cert.AdamLIdeal.τ).loc Cert.AdamLIdeal.main_arg21)
      ∧ r.2.mem ((c.tc : Thread Cert.AdamLIdeal.nD Cert.AdamLIdeal.τ).loc Cert.AdamLIdeal.main_arg22) = m ((c.tc : Thread Cert.AdamLIdeal.nD Cert.AdamLIdeal.τ).loc Cert.AdamLIdeal.main_arg22)
      ∧ r.2.mem ((c.tc : Thread Cert.AdamLIdeal.nD Cert.AdamLIdeal.τ).loc Cert.AdamLIdeal.main_arg23) = m ((c.tc : Thread Cert.AdamLIdeal.nD Cert.AdamLIdeal.τ).loc Cert.AdamLIdeal.main_arg23)
      ∧ r.2.mem ((c.tc : Thread Cert.AdamLIdeal.nD Cert.AdamLIdeal.τ).loc Cert.AdamLIdeal.main_arg24) = m ((c.tc : Thread Cert.AdamLIdeal.nD Cert.AdamLIdeal.τ).loc Cert.AdamLIdeal.main_arg24)
      ∧ r.2.mem ((c.tc : Thread Cert.AdamLIdeal.nD Cert.AdamLIdeal.τ).loc Cert.AdamLIdeal.main_arg25) = m ((c.tc : Thread Cert.AdamLIdeal.nD Cert.AdamLIdeal.τ).loc Cert.AdamLIdeal.main_arg25)
      ∧ r.2.mem ((c.tc : Thread Cert.AdamLIdeal.nD Cert.AdamLIdeal.τ).loc Cert.AdamLIdeal.main_arg26) = m ((c.tc : Thread Cert.AdamLIdeal.nD Cert.AdamLIdeal.τ).loc Cert.AdamLIdeal.main_arg26)
      ∧ r.2.mem ((c.tc : Thread Cert.AdamLIdeal.nD Cert.AdamLIdeal.τ).loc Cert.AdamLIdeal.main_arg27) = m ((c.tc : Thread Cert.AdamLIdeal.nD Cert.AdamLIdeal.τ).loc Cert.AdamLIdeal.main_arg27)
      ∧ r.2.mem ((c.tc : Thread Cert.AdamLIdeal.nD Cert.AdamLIdeal.τ).loc Cert.AdamLIdeal.main_arg28) = m ((c.tc : Thread Cert.AdamLIdeal.nD Cert.AdamLIdeal.τ).loc Cert.AdamLIdeal.main_arg28)
      ∧ r.2.mem ((c.tc : Thread Cert.AdamLIdeal.nD Cert.AdamLIdeal.τ).loc Cert.AdamLIdeal.main_arg29) = m ((c.tc : Thread Cert.AdamLIdeal.nD Cert.AdamLIdeal.τ).loc Cert.AdamLIdeal.main_arg29)
      ∧ r.2.mem ((c.tc : Thread Cert.AdamLIdeal.nD Cert.AdamLIdeal.τ).loc Cert.AdamLIdeal.main_arg30) = m ((c.tc : Thread Cert.AdamLIdeal.nD Cert.AdamLIdeal.τ).loc Cert.AdamLIdeal.main_arg30)
      ∧ r.2.mem ((c.tc : Thread Cert.AdamLIdeal.nD Cert.AdamLIdeal.τ).loc Cert.AdamLIdeal.main_arg31) = m ((c.tc : Thread Cert.AdamLIdeal.nD Cert.AdamLIdeal.τ).loc Cert.AdamLIdeal.main_arg31))
      ∧ r.2.sem = fun _ => 0)

def quiescent_AdamLRefIdeal [hAdamLRefIdeal : Cert.AdamLRefIdeal.Facts] : Prop :=
  ∀ (m : (ℓ : Loc Cert.AdamLRefIdeal.nD Cert.AdamLRefIdeal.τ Cert.AdamLRefIdeal.sig) → Buf (Elt Ideal) ℓ) (g : Dev Cert.AdamLRefIdeal.nD → PrngReg), Pre_AdamLRefIdeal m →
    θ_run (Cert.AdamLRefIdeal.defs (F := Ideal)) (onTc (τ := Cert.AdamLRefIdeal.τ) (Cert.AdamLRefIdeal.main (F := Ideal))) ⟨m, fun _ => 0, g⟩ (fun r => (∀ c : Dev Cert.AdamLRefIdeal.nD,
      r.2.mem ((c.tc : Thread Cert.AdamLRefIdeal.nD Cert.AdamLRefIdeal.τ).loc Cert.AdamLRefIdeal.main_arg0) = m ((c.tc : Thread Cert.AdamLRefIdeal.nD Cert.AdamLRefIdeal.τ).loc Cert.AdamLRefIdeal.main_arg0)
      ∧ r.2.mem ((c.tc : Thread Cert.AdamLRefIdeal.nD Cert.AdamLRefIdeal.τ).loc Cert.AdamLRefIdeal.main_arg1) = m ((c.tc : Thread Cert.AdamLRefIdeal.nD Cert.AdamLRefIdeal.τ).loc Cert.AdamLRefIdeal.main_arg1)
      ∧ r.2.mem ((c.tc : Thread Cert.AdamLRefIdeal.nD Cert.AdamLRefIdeal.τ).loc Cert.AdamLRefIdeal.main_arg2) = m ((c.tc : Thread Cert.AdamLRefIdeal.nD Cert.AdamLRefIdeal.τ).loc Cert.AdamLRefIdeal.main_arg2)
      ∧ r.2.mem ((c.tc : Thread Cert.AdamLRefIdeal.nD Cert.AdamLRefIdeal.τ).loc Cert.AdamLRefIdeal.main_arg3) = m ((c.tc : Thread Cert.AdamLRefIdeal.nD Cert.AdamLRefIdeal.τ).loc Cert.AdamLRefIdeal.main_arg3)
      ∧ r.2.mem ((c.tc : Thread Cert.AdamLRefIdeal.nD Cert.AdamLRefIdeal.τ).loc Cert.AdamLRefIdeal.main_arg4) = m ((c.tc : Thread Cert.AdamLRefIdeal.nD Cert.AdamLRefIdeal.τ).loc Cert.AdamLRefIdeal.main_arg4)
      ∧ r.2.mem ((c.tc : Thread Cert.AdamLRefIdeal.nD Cert.AdamLRefIdeal.τ).loc Cert.AdamLRefIdeal.main_arg5) = m ((c.tc : Thread Cert.AdamLRefIdeal.nD Cert.AdamLRefIdeal.τ).loc Cert.AdamLRefIdeal.main_arg5)
      ∧ r.2.mem ((c.tc : Thread Cert.AdamLRefIdeal.nD Cert.AdamLRefIdeal.τ).loc Cert.AdamLRefIdeal.main_arg6) = m ((c.tc : Thread Cert.AdamLRefIdeal.nD Cert.AdamLRefIdeal.τ).loc Cert.AdamLRefIdeal.main_arg6)
      ∧ r.2.mem ((c.tc : Thread Cert.AdamLRefIdeal.nD Cert.AdamLRefIdeal.τ).loc Cert.AdamLRefIdeal.main_arg7) = m ((c.tc : Thread Cert.AdamLRefIdeal.nD Cert.AdamLRefIdeal.τ).loc Cert.AdamLRefIdeal.main_arg7)
      ∧ r.2.mem ((c.tc : Thread Cert.AdamLRefIdeal.nD Cert.AdamLRefIdeal.τ).loc Cert.AdamLRefIdeal.main_arg8) = m ((c.tc : Thread Cert.AdamLRefIdeal.nD Cert.AdamLRefIdeal.τ).loc Cert.AdamLRefIdeal.main_arg8)
      ∧ r.2.mem ((c.tc : Thread Cert.AdamLRefIdeal.nD Cert.AdamLRefIdeal.τ).loc Cert.AdamLRefIdeal.main_arg9) = m ((c.tc : Thread Cert.AdamLRefIdeal.nD Cert.AdamLRefIdeal.τ).loc Cert.AdamLRefIdeal.main_arg9)
      ∧ r.2.mem ((c.tc : Thread Cert.AdamLRefIdeal.nD Cert.AdamLRefIdeal.τ).loc Cert.AdamLRefIdeal.main_arg10) = m ((c.tc : Thread Cert.AdamLRefIdeal.nD Cert.AdamLRefIdeal.τ).loc Cert.AdamLRefIdeal.main_arg10)
      ∧ r.2.mem ((c.tc : Thread Cert.AdamLRefIdeal.nD Cert.AdamLRefIdeal.τ).loc Cert.AdamLRefIdeal.main_arg11) = m ((c.tc : Thread Cert.AdamLRefIdeal.nD Cert.AdamLRefIdeal.τ).loc Cert.AdamLRefIdeal.main_arg11)
      ∧ r.2.mem ((c.tc : Thread Cert.AdamLRefIdeal.nD Cert.AdamLRefIdeal.τ).loc Cert.AdamLRefIdeal.main_arg12) = m ((c.tc : Thread Cert.AdamLRefIdeal.nD Cert.AdamLRefIdeal.τ).loc Cert.AdamLRefIdeal.main_arg12)
      ∧ r.2.mem ((c.tc : Thread Cert.AdamLRefIdeal.nD Cert.AdamLRefIdeal.τ).loc Cert.AdamLRefIdeal.main_arg13) = m ((c.tc : Thread Cert.AdamLRefIdeal.nD Cert.AdamLRefIdeal.τ).loc Cert.AdamLRefIdeal.main_arg13)
      ∧ r.2.mem ((c.tc : Thread Cert.AdamLRefIdeal.nD Cert.AdamLRefIdeal.τ).loc Cert.AdamLRefIdeal.main_arg14) = m ((c.tc : Thread Cert.AdamLRefIdeal.nD Cert.AdamLRefIdeal.τ).loc Cert.AdamLRefIdeal.main_arg14)
      ∧ r.2.mem ((c.tc : Thread Cert.AdamLRefIdeal.nD Cert.AdamLRefIdeal.τ).loc Cert.AdamLRefIdeal.main_arg15) = m ((c.tc : Thread Cert.AdamLRefIdeal.nD Cert.AdamLRefIdeal.τ).loc Cert.AdamLRefIdeal.main_arg15)
      ∧ r.2.mem ((c.tc : Thread Cert.AdamLRefIdeal.nD Cert.AdamLRefIdeal.τ).loc Cert.AdamLRefIdeal.main_arg16) = m ((c.tc : Thread Cert.AdamLRefIdeal.nD Cert.AdamLRefIdeal.τ).loc Cert.AdamLRefIdeal.main_arg16)
      ∧ r.2.mem ((c.tc : Thread Cert.AdamLRefIdeal.nD Cert.AdamLRefIdeal.τ).loc Cert.AdamLRefIdeal.main_arg17) = m ((c.tc : Thread Cert.AdamLRefIdeal.nD Cert.AdamLRefIdeal.τ).loc Cert.AdamLRefIdeal.main_arg17)
      ∧ r.2.mem ((c.tc : Thread Cert.AdamLRefIdeal.nD Cert.AdamLRefIdeal.τ).loc Cert.AdamLRefIdeal.main_arg18) = m ((c.tc : Thread Cert.AdamLRefIdeal.nD Cert.AdamLRefIdeal.τ).loc Cert.AdamLRefIdeal.main_arg18)
      ∧ r.2.mem ((c.tc : Thread Cert.AdamLRefIdeal.nD Cert.AdamLRefIdeal.τ).loc Cert.AdamLRefIdeal.main_arg19) = m ((c.tc : Thread Cert.AdamLRefIdeal.nD Cert.AdamLRefIdeal.τ).loc Cert.AdamLRefIdeal.main_arg19)
      ∧ r.2.mem ((c.tc : Thread Cert.AdamLRefIdeal.nD Cert.AdamLRefIdeal.τ).loc Cert.AdamLRefIdeal.main_arg20) = m ((c.tc : Thread Cert.AdamLRefIdeal.nD Cert.AdamLRefIdeal.τ).loc Cert.AdamLRefIdeal.main_arg20)
      ∧ r.2.mem ((c.tc : Thread Cert.AdamLRefIdeal.nD Cert.AdamLRefIdeal.τ).loc Cert.AdamLRefIdeal.main_arg21) = m ((c.tc : Thread Cert.AdamLRefIdeal.nD Cert.AdamLRefIdeal.τ).loc Cert.AdamLRefIdeal.main_arg21)
      ∧ r.2.mem ((c.tc : Thread Cert.AdamLRefIdeal.nD Cert.AdamLRefIdeal.τ).loc Cert.AdamLRefIdeal.main_arg22) = m ((c.tc : Thread Cert.AdamLRefIdeal.nD Cert.AdamLRefIdeal.τ).loc Cert.AdamLRefIdeal.main_arg22)
      ∧ r.2.mem ((c.tc : Thread Cert.AdamLRefIdeal.nD Cert.AdamLRefIdeal.τ).loc Cert.AdamLRefIdeal.main_arg23) = m ((c.tc : Thread Cert.AdamLRefIdeal.nD Cert.AdamLRefIdeal.τ).loc Cert.AdamLRefIdeal.main_arg23)
      ∧ r.2.mem ((c.tc : Thread Cert.AdamLRefIdeal.nD Cert.AdamLRefIdeal.τ).loc Cert.AdamLRefIdeal.main_arg24) = m ((c.tc : Thread Cert.AdamLRefIdeal.nD Cert.AdamLRefIdeal.τ).loc Cert.AdamLRefIdeal.main_arg24)
      ∧ r.2.mem ((c.tc : Thread Cert.AdamLRefIdeal.nD Cert.AdamLRefIdeal.τ).loc Cert.AdamLRefIdeal.main_arg25) = m ((c.tc : Thread Cert.AdamLRefIdeal.nD Cert.AdamLRefIdeal.τ).loc Cert.AdamLRefIdeal.main_arg25)
      ∧ r.2.mem ((c.tc : Thread Cert.AdamLRefIdeal.nD Cert.AdamLRefIdeal.τ).loc Cert.AdamLRefIdeal.main_arg26) = m ((c.tc : Thread Cert.AdamLRefIdeal.nD Cert.AdamLRefIdeal.τ).loc Cert.AdamLRefIdeal.main_arg26)
      ∧ r.2.mem ((c.tc : Thread Cert.AdamLRefIdeal.nD Cert.AdamLRefIdeal.τ).loc Cert.AdamLRefIdeal.main_arg27) = m ((c.tc : Thread Cert.AdamLRefIdeal.nD Cert.AdamLRefIdeal.τ).loc Cert.AdamLRefIdeal.main_arg27)
      ∧ r.2.mem ((c.tc : Thread Cert.AdamLRefIdeal.nD Cert.AdamLRefIdeal.τ).loc Cert.AdamLRefIdeal.main_arg28) = m ((c.tc : Thread Cert.AdamLRefIdeal.nD Cert.AdamLRefIdeal.τ).loc Cert.AdamLRefIdeal.main_arg28)
      ∧ r.2.mem ((c.tc : Thread Cert.AdamLRefIdeal.nD Cert.AdamLRefIdeal.τ).loc Cert.AdamLRefIdeal.main_arg29) = m ((c.tc : Thread Cert.AdamLRefIdeal.nD Cert.AdamLRefIdeal.τ).loc Cert.AdamLRefIdeal.main_arg29)
      ∧ r.2.mem ((c.tc : Thread Cert.AdamLRefIdeal.nD Cert.AdamLRefIdeal.τ).loc Cert.AdamLRefIdeal.main_arg30) = m ((c.tc : Thread Cert.AdamLRefIdeal.nD Cert.AdamLRefIdeal.τ).loc Cert.AdamLRefIdeal.main_arg30)
      ∧ r.2.mem ((c.tc : Thread Cert.AdamLRefIdeal.nD Cert.AdamLRefIdeal.τ).loc Cert.AdamLRefIdeal.main_arg31) = m ((c.tc : Thread Cert.AdamLRefIdeal.nD Cert.AdamLRefIdeal.τ).loc Cert.AdamLRefIdeal.main_arg31))
      ∧ r.2.sem = fun _ => 0)

def quiescent_AdamS [hAdamS : Cert.AdamS.Facts] : Prop :=
  ∀ (m : (ℓ : Loc Cert.AdamS.nD Cert.AdamS.τ Cert.AdamS.sig) → Buf (Elt Bits) ℓ) (g : Dev Cert.AdamS.nD → PrngReg), Pre_AdamS m →
    θ_run (Cert.AdamS.defs (F := Bits)) (onTc (τ := Cert.AdamS.τ) (Cert.AdamS.main (F := Bits))) ⟨m, fun _ => 0, g⟩ (fun r => (∀ c : Dev Cert.AdamS.nD,
      r.2.mem ((c.tc : Thread Cert.AdamS.nD Cert.AdamS.τ).loc Cert.AdamS.main_arg0) = m ((c.tc : Thread Cert.AdamS.nD Cert.AdamS.τ).loc Cert.AdamS.main_arg0)
      ∧ r.2.mem ((c.tc : Thread Cert.AdamS.nD Cert.AdamS.τ).loc Cert.AdamS.main_arg1) = m ((c.tc : Thread Cert.AdamS.nD Cert.AdamS.τ).loc Cert.AdamS.main_arg1)
      ∧ r.2.mem ((c.tc : Thread Cert.AdamS.nD Cert.AdamS.τ).loc Cert.AdamS.main_arg2) = m ((c.tc : Thread Cert.AdamS.nD Cert.AdamS.τ).loc Cert.AdamS.main_arg2)
      ∧ r.2.mem ((c.tc : Thread Cert.AdamS.nD Cert.AdamS.τ).loc Cert.AdamS.main_arg3) = m ((c.tc : Thread Cert.AdamS.nD Cert.AdamS.τ).loc Cert.AdamS.main_arg3)
      ∧ r.2.mem ((c.tc : Thread Cert.AdamS.nD Cert.AdamS.τ).loc Cert.AdamS.main_arg4) = m ((c.tc : Thread Cert.AdamS.nD Cert.AdamS.τ).loc Cert.AdamS.main_arg4)
      ∧ r.2.mem ((c.tc : Thread Cert.AdamS.nD Cert.AdamS.τ).loc Cert.AdamS.main_arg5) = m ((c.tc : Thread Cert.AdamS.nD Cert.AdamS.τ).loc Cert.AdamS.main_arg5)
      ∧ r.2.mem ((c.tc : Thread Cert.AdamS.nD Cert.AdamS.τ).loc Cert.AdamS.main_arg6) = m ((c.tc : Thread Cert.AdamS.nD Cert.AdamS.τ).loc Cert.AdamS.main_arg6)
      ∧ r.2.mem ((c.tc : Thread Cert.AdamS.nD Cert.AdamS.τ).loc Cert.AdamS.main_arg7) = m ((c.tc : Thread Cert.AdamS.nD Cert.AdamS.τ).loc Cert.AdamS.main_arg7)
      ∧ r.2.mem ((c.tc : Thread Cert.AdamS.nD Cert.AdamS.τ).loc Cert.AdamS.main_arg8) = m ((c.tc : Thread Cert.AdamS.nD Cert.AdamS.τ).loc Cert.AdamS.main_arg8)
      ∧ r.2.mem ((c.tc : Thread Cert.AdamS.nD Cert.AdamS.τ).loc Cert.AdamS.main_arg9) = m ((c.tc : Thread Cert.AdamS.nD Cert.AdamS.τ).loc Cert.AdamS.main_arg9)
      ∧ r.2.mem ((c.tc : Thread Cert.AdamS.nD Cert.AdamS.τ).loc Cert.AdamS.main_arg10) = m ((c.tc : Thread Cert.AdamS.nD Cert.AdamS.τ).loc Cert.AdamS.main_arg10)
      ∧ r.2.mem ((c.tc : Thread Cert.AdamS.nD Cert.AdamS.τ).loc Cert.AdamS.main_arg11) = m ((c.tc : Thread Cert.AdamS.nD Cert.AdamS.τ).loc Cert.AdamS.main_arg11)
      ∧ r.2.mem ((c.tc : Thread Cert.AdamS.nD Cert.AdamS.τ).loc Cert.AdamS.main_arg12) = m ((c.tc : Thread Cert.AdamS.nD Cert.AdamS.τ).loc Cert.AdamS.main_arg12)
      ∧ r.2.mem ((c.tc : Thread Cert.AdamS.nD Cert.AdamS.τ).loc Cert.AdamS.main_arg13) = m ((c.tc : Thread Cert.AdamS.nD Cert.AdamS.τ).loc Cert.AdamS.main_arg13)
      ∧ r.2.mem ((c.tc : Thread Cert.AdamS.nD Cert.AdamS.τ).loc Cert.AdamS.main_arg14) = m ((c.tc : Thread Cert.AdamS.nD Cert.AdamS.τ).loc Cert.AdamS.main_arg14)
      ∧ r.2.mem ((c.tc : Thread Cert.AdamS.nD Cert.AdamS.τ).loc Cert.AdamS.main_arg15) = m ((c.tc : Thread Cert.AdamS.nD Cert.AdamS.τ).loc Cert.AdamS.main_arg15)
      ∧ r.2.mem ((c.tc : Thread Cert.AdamS.nD Cert.AdamS.τ).loc Cert.AdamS.main_arg16) = m ((c.tc : Thread Cert.AdamS.nD Cert.AdamS.τ).loc Cert.AdamS.main_arg16)
      ∧ r.2.mem ((c.tc : Thread Cert.AdamS.nD Cert.AdamS.τ).loc Cert.AdamS.main_arg17) = m ((c.tc : Thread Cert.AdamS.nD Cert.AdamS.τ).loc Cert.AdamS.main_arg17)
      ∧ r.2.mem ((c.tc : Thread Cert.AdamS.nD Cert.AdamS.τ).loc Cert.AdamS.main_arg18) = m ((c.tc : Thread Cert.AdamS.nD Cert.AdamS.τ).loc Cert.AdamS.main_arg18)
      ∧ r.2.mem ((c.tc : Thread Cert.AdamS.nD Cert.AdamS.τ).loc Cert.AdamS.main_arg19) = m ((c.tc : Thread Cert.AdamS.nD Cert.AdamS.τ).loc Cert.AdamS.main_arg19)
      ∧ r.2.mem ((c.tc : Thread Cert.AdamS.nD Cert.AdamS.τ).loc Cert.AdamS.main_arg20) = m ((c.tc : Thread Cert.AdamS.nD Cert.AdamS.τ).loc Cert.AdamS.main_arg20)
      ∧ r.2.mem ((c.tc : Thread Cert.AdamS.nD Cert.AdamS.τ).loc Cert.AdamS.main_arg21) = m ((c.tc : Thread Cert.AdamS.nD Cert.AdamS.τ).loc Cert.AdamS.main_arg21)
      ∧ r.2.mem ((c.tc : Thread Cert.AdamS.nD Cert.AdamS.τ).loc Cert.AdamS.main_arg22) = m ((c.tc : Thread Cert.AdamS.nD Cert.AdamS.τ).loc Cert.AdamS.main_arg22)
      ∧ r.2.mem ((c.tc : Thread Cert.AdamS.nD Cert.AdamS.τ).loc Cert.AdamS.main_arg23) = m ((c.tc : Thread Cert.AdamS.nD Cert.AdamS.τ).loc Cert.AdamS.main_arg23)
      ∧ r.2.mem ((c.tc : Thread Cert.AdamS.nD Cert.AdamS.τ).loc Cert.AdamS.main_arg24) = m ((c.tc : Thread Cert.AdamS.nD Cert.AdamS.τ).loc Cert.AdamS.main_arg24)
      ∧ r.2.mem ((c.tc : Thread Cert.AdamS.nD Cert.AdamS.τ).loc Cert.AdamS.main_arg25) = m ((c.tc : Thread Cert.AdamS.nD Cert.AdamS.τ).loc Cert.AdamS.main_arg25)
      ∧ r.2.mem ((c.tc : Thread Cert.AdamS.nD Cert.AdamS.τ).loc Cert.AdamS.main_arg26) = m ((c.tc : Thread Cert.AdamS.nD Cert.AdamS.τ).loc Cert.AdamS.main_arg26)
      ∧ r.2.mem ((c.tc : Thread Cert.AdamS.nD Cert.AdamS.τ).loc Cert.AdamS.main_arg27) = m ((c.tc : Thread Cert.AdamS.nD Cert.AdamS.τ).loc Cert.AdamS.main_arg27)
      ∧ r.2.mem ((c.tc : Thread Cert.AdamS.nD Cert.AdamS.τ).loc Cert.AdamS.main_arg28) = m ((c.tc : Thread Cert.AdamS.nD Cert.AdamS.τ).loc Cert.AdamS.main_arg28)
      ∧ r.2.mem ((c.tc : Thread Cert.AdamS.nD Cert.AdamS.τ).loc Cert.AdamS.main_arg29) = m ((c.tc : Thread Cert.AdamS.nD Cert.AdamS.τ).loc Cert.AdamS.main_arg29)
      ∧ r.2.mem ((c.tc : Thread Cert.AdamS.nD Cert.AdamS.τ).loc Cert.AdamS.main_arg30) = m ((c.tc : Thread Cert.AdamS.nD Cert.AdamS.τ).loc Cert.AdamS.main_arg30)
      ∧ r.2.mem ((c.tc : Thread Cert.AdamS.nD Cert.AdamS.τ).loc Cert.AdamS.main_arg31) = m ((c.tc : Thread Cert.AdamS.nD Cert.AdamS.τ).loc Cert.AdamS.main_arg31)
      ∧ r.2.mem ((c.tc : Thread Cert.AdamS.nD Cert.AdamS.τ).loc Cert.AdamS.main_arg32) = m ((c.tc : Thread Cert.AdamS.nD Cert.AdamS.τ).loc Cert.AdamS.main_arg32)
      ∧ r.2.mem ((c.tc : Thread Cert.AdamS.nD Cert.AdamS.τ).loc Cert.AdamS.main_arg33) = m ((c.tc : Thread Cert.AdamS.nD Cert.AdamS.τ).loc Cert.AdamS.main_arg33)
      ∧ r.2.mem ((c.tc : Thread Cert.AdamS.nD Cert.AdamS.τ).loc Cert.AdamS.main_arg34) = m ((c.tc : Thread Cert.AdamS.nD Cert.AdamS.τ).loc Cert.AdamS.main_arg34)
      ∧ r.2.mem ((c.tc : Thread Cert.AdamS.nD Cert.AdamS.τ).loc Cert.AdamS.main_arg35) = m ((c.tc : Thread Cert.AdamS.nD Cert.AdamS.τ).loc Cert.AdamS.main_arg35)
      ∧ r.2.mem ((c.tc : Thread Cert.AdamS.nD Cert.AdamS.τ).loc Cert.AdamS.main_arg36) = m ((c.tc : Thread Cert.AdamS.nD Cert.AdamS.τ).loc Cert.AdamS.main_arg36)
      ∧ r.2.mem ((c.tc : Thread Cert.AdamS.nD Cert.AdamS.τ).loc Cert.AdamS.main_arg37) = m ((c.tc : Thread Cert.AdamS.nD Cert.AdamS.τ).loc Cert.AdamS.main_arg37)
      ∧ r.2.mem ((c.tc : Thread Cert.AdamS.nD Cert.AdamS.τ).loc Cert.AdamS.main_arg38) = m ((c.tc : Thread Cert.AdamS.nD Cert.AdamS.τ).loc Cert.AdamS.main_arg38)
      ∧ r.2.mem ((c.tc : Thread Cert.AdamS.nD Cert.AdamS.τ).loc Cert.AdamS.main_arg39) = m ((c.tc : Thread Cert.AdamS.nD Cert.AdamS.τ).loc Cert.AdamS.main_arg39))
      ∧ r.2.sem = fun _ => 0)

def quiescent_AdamSIdeal [hAdamSIdeal : Cert.AdamSIdeal.Facts] : Prop :=
  ∀ (m : (ℓ : Loc Cert.AdamSIdeal.nD Cert.AdamSIdeal.τ Cert.AdamSIdeal.sig) → Buf (Elt Ideal) ℓ) (g : Dev Cert.AdamSIdeal.nD → PrngReg), Pre_AdamSIdeal m →
    θ_run (Cert.AdamSIdeal.defs (F := Ideal)) (onTc (τ := Cert.AdamSIdeal.τ) (Cert.AdamSIdeal.main (F := Ideal))) ⟨m, fun _ => 0, g⟩ (fun r => (∀ c : Dev Cert.AdamSIdeal.nD,
      r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
      ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
      ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
      ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3)
      ∧ r.2.mem ((c.tc : Thread Cert.AdamSIdeal.nD Cert.AdamSIdeal.τ).loc Cert.AdamSIdeal.main_arg4) = m ((c.tc : Thread Cert.AdamSIdeal.nD Cert.AdamSIdeal.τ).loc Cert.AdamSIdeal.main_arg4)
      ∧ r.2.mem ((c.tc : Thread Cert.AdamSIdeal.nD Cert.AdamSIdeal.τ).loc Cert.AdamSIdeal.main_arg5) = m ((c.tc : Thread Cert.AdamSIdeal.nD Cert.AdamSIdeal.τ).loc Cert.AdamSIdeal.main_arg5)
      ∧ r.2.mem ((c.tc : Thread Cert.AdamSIdeal.nD Cert.AdamSIdeal.τ).loc Cert.AdamSIdeal.main_arg6) = m ((c.tc : Thread Cert.AdamSIdeal.nD Cert.AdamSIdeal.τ).loc Cert.AdamSIdeal.main_arg6)
      ∧ r.2.mem ((c.tc : Thread Cert.AdamSIdeal.nD Cert.AdamSIdeal.τ).loc Cert.AdamSIdeal.main_arg7) = m ((c.tc : Thread Cert.AdamSIdeal.nD Cert.AdamSIdeal.τ).loc Cert.AdamSIdeal.main_arg7)
      ∧ r.2.mem ((c.tc : Thread Cert.AdamSIdeal.nD Cert.AdamSIdeal.τ).loc Cert.AdamSIdeal.main_arg8) = m ((c.tc : Thread Cert.AdamSIdeal.nD Cert.AdamSIdeal.τ).loc Cert.AdamSIdeal.main_arg8)
      ∧ r.2.mem ((c.tc : Thread Cert.AdamSIdeal.nD Cert.AdamSIdeal.τ).loc Cert.AdamSIdeal.main_arg9) = m ((c.tc : Thread Cert.AdamSIdeal.nD Cert.AdamSIdeal.τ).loc Cert.AdamSIdeal.main_arg9)
      ∧ r.2.mem ((c.tc : Thread Cert.AdamSIdeal.nD Cert.AdamSIdeal.τ).loc Cert.AdamSIdeal.main_arg10) = m ((c.tc : Thread Cert.AdamSIdeal.nD Cert.AdamSIdeal.τ).loc Cert.AdamSIdeal.main_arg10)
      ∧ r.2.mem ((c.tc : Thread Cert.AdamSIdeal.nD Cert.AdamSIdeal.τ).loc Cert.AdamSIdeal.main_arg11) = m ((c.tc : Thread Cert.AdamSIdeal.nD Cert.AdamSIdeal.τ).loc Cert.AdamSIdeal.main_arg11)
      ∧ r.2.mem ((c.tc : Thread Cert.AdamSIdeal.nD Cert.AdamSIdeal.τ).loc Cert.AdamSIdeal.main_arg12) = m ((c.tc : Thread Cert.AdamSIdeal.nD Cert.AdamSIdeal.τ).loc Cert.AdamSIdeal.main_arg12)
      ∧ r.2.mem ((c.tc : Thread Cert.AdamSIdeal.nD Cert.AdamSIdeal.τ).loc Cert.AdamSIdeal.main_arg13) = m ((c.tc : Thread Cert.AdamSIdeal.nD Cert.AdamSIdeal.τ).loc Cert.AdamSIdeal.main_arg13)
      ∧ r.2.mem ((c.tc : Thread Cert.AdamSIdeal.nD Cert.AdamSIdeal.τ).loc Cert.AdamSIdeal.main_arg14) = m ((c.tc : Thread Cert.AdamSIdeal.nD Cert.AdamSIdeal.τ).loc Cert.AdamSIdeal.main_arg14)
      ∧ r.2.mem ((c.tc : Thread Cert.AdamSIdeal.nD Cert.AdamSIdeal.τ).loc Cert.AdamSIdeal.main_arg15) = m ((c.tc : Thread Cert.AdamSIdeal.nD Cert.AdamSIdeal.τ).loc Cert.AdamSIdeal.main_arg15)
      ∧ r.2.mem ((c.tc : Thread Cert.AdamSIdeal.nD Cert.AdamSIdeal.τ).loc Cert.AdamSIdeal.main_arg16) = m ((c.tc : Thread Cert.AdamSIdeal.nD Cert.AdamSIdeal.τ).loc Cert.AdamSIdeal.main_arg16)
      ∧ r.2.mem ((c.tc : Thread Cert.AdamSIdeal.nD Cert.AdamSIdeal.τ).loc Cert.AdamSIdeal.main_arg17) = m ((c.tc : Thread Cert.AdamSIdeal.nD Cert.AdamSIdeal.τ).loc Cert.AdamSIdeal.main_arg17)
      ∧ r.2.mem ((c.tc : Thread Cert.AdamSIdeal.nD Cert.AdamSIdeal.τ).loc Cert.AdamSIdeal.main_arg18) = m ((c.tc : Thread Cert.AdamSIdeal.nD Cert.AdamSIdeal.τ).loc Cert.AdamSIdeal.main_arg18)
      ∧ r.2.mem ((c.tc : Thread Cert.AdamSIdeal.nD Cert.AdamSIdeal.τ).loc Cert.AdamSIdeal.main_arg19) = m ((c.tc : Thread Cert.AdamSIdeal.nD Cert.AdamSIdeal.τ).loc Cert.AdamSIdeal.main_arg19)
      ∧ r.2.mem ((c.tc : Thread Cert.AdamSIdeal.nD Cert.AdamSIdeal.τ).loc Cert.AdamSIdeal.main_arg20) = m ((c.tc : Thread Cert.AdamSIdeal.nD Cert.AdamSIdeal.τ).loc Cert.AdamSIdeal.main_arg20)
      ∧ r.2.mem ((c.tc : Thread Cert.AdamSIdeal.nD Cert.AdamSIdeal.τ).loc Cert.AdamSIdeal.main_arg21) = m ((c.tc : Thread Cert.AdamSIdeal.nD Cert.AdamSIdeal.τ).loc Cert.AdamSIdeal.main_arg21)
      ∧ r.2.mem ((c.tc : Thread Cert.AdamSIdeal.nD Cert.AdamSIdeal.τ).loc Cert.AdamSIdeal.main_arg22) = m ((c.tc : Thread Cert.AdamSIdeal.nD Cert.AdamSIdeal.τ).loc Cert.AdamSIdeal.main_arg22)
      ∧ r.2.mem ((c.tc : Thread Cert.AdamSIdeal.nD Cert.AdamSIdeal.τ).loc Cert.AdamSIdeal.main_arg23) = m ((c.tc : Thread Cert.AdamSIdeal.nD Cert.AdamSIdeal.τ).loc Cert.AdamSIdeal.main_arg23)
      ∧ r.2.mem ((c.tc : Thread Cert.AdamSIdeal.nD Cert.AdamSIdeal.τ).loc Cert.AdamSIdeal.main_arg24) = m ((c.tc : Thread Cert.AdamSIdeal.nD Cert.AdamSIdeal.τ).loc Cert.AdamSIdeal.main_arg24)
      ∧ r.2.mem ((c.tc : Thread Cert.AdamSIdeal.nD Cert.AdamSIdeal.τ).loc Cert.AdamSIdeal.main_arg25) = m ((c.tc : Thread Cert.AdamSIdeal.nD Cert.AdamSIdeal.τ).loc Cert.AdamSIdeal.main_arg25)
      ∧ r.2.mem ((c.tc : Thread Cert.AdamSIdeal.nD Cert.AdamSIdeal.τ).loc Cert.AdamSIdeal.main_arg26) = m ((c.tc : Thread Cert.AdamSIdeal.nD Cert.AdamSIdeal.τ).loc Cert.AdamSIdeal.main_arg26)
      ∧ r.2.mem ((c.tc : Thread Cert.AdamSIdeal.nD Cert.AdamSIdeal.τ).loc Cert.AdamSIdeal.main_arg27) = m ((c.tc : Thread Cert.AdamSIdeal.nD Cert.AdamSIdeal.τ).loc Cert.AdamSIdeal.main_arg27)
      ∧ r.2.mem ((c.tc : Thread Cert.AdamSIdeal.nD Cert.AdamSIdeal.τ).loc Cert.AdamSIdeal.main_arg28) = m ((c.tc : Thread Cert.AdamSIdeal.nD Cert.AdamSIdeal.τ).loc Cert.AdamSIdeal.main_arg28)
      ∧ r.2.mem ((c.tc : Thread Cert.AdamSIdeal.nD Cert.AdamSIdeal.τ).loc Cert.AdamSIdeal.main_arg29) = m ((c.tc : Thread Cert.AdamSIdeal.nD Cert.AdamSIdeal.τ).loc Cert.AdamSIdeal.main_arg29)
      ∧ r.2.mem ((c.tc : Thread Cert.AdamSIdeal.nD Cert.AdamSIdeal.τ).loc Cert.AdamSIdeal.main_arg30) = m ((c.tc : Thread Cert.AdamSIdeal.nD Cert.AdamSIdeal.τ).loc Cert.AdamSIdeal.main_arg30)
      ∧ r.2.mem ((c.tc : Thread Cert.AdamSIdeal.nD Cert.AdamSIdeal.τ).loc Cert.AdamSIdeal.main_arg31) = m ((c.tc : Thread Cert.AdamSIdeal.nD Cert.AdamSIdeal.τ).loc Cert.AdamSIdeal.main_arg31)
      ∧ r.2.mem ((c.tc : Thread Cert.AdamSIdeal.nD Cert.AdamSIdeal.τ).loc Cert.AdamSIdeal.main_arg32) = m ((c.tc : Thread Cert.AdamSIdeal.nD Cert.AdamSIdeal.τ).loc Cert.AdamSIdeal.main_arg32)
      ∧ r.2.mem ((c.tc : Thread Cert.AdamSIdeal.nD Cert.AdamSIdeal.τ).loc Cert.AdamSIdeal.main_arg33) = m ((c.tc : Thread Cert.AdamSIdeal.nD Cert.AdamSIdeal.τ).loc Cert.AdamSIdeal.main_arg33)
      ∧ r.2.mem ((c.tc : Thread Cert.AdamSIdeal.nD Cert.AdamSIdeal.τ).loc Cert.AdamSIdeal.main_arg34) = m ((c.tc : Thread Cert.AdamSIdeal.nD Cert.AdamSIdeal.τ).loc Cert.AdamSIdeal.main_arg34)
      ∧ r.2.mem ((c.tc : Thread Cert.AdamSIdeal.nD Cert.AdamSIdeal.τ).loc Cert.AdamSIdeal.main_arg35) = m ((c.tc : Thread Cert.AdamSIdeal.nD Cert.AdamSIdeal.τ).loc Cert.AdamSIdeal.main_arg35)
      ∧ r.2.mem ((c.tc : Thread Cert.AdamSIdeal.nD Cert.AdamSIdeal.τ).loc Cert.AdamSIdeal.main_arg36) = m ((c.tc : Thread Cert.AdamSIdeal.nD Cert.AdamSIdeal.τ).loc Cert.AdamSIdeal.main_arg36)
      ∧ r.2.mem ((c.tc : Thread Cert.AdamSIdeal.nD Cert.AdamSIdeal.τ).loc Cert.AdamSIdeal.main_arg37) = m ((c.tc : Thread Cert.AdamSIdeal.nD Cert.AdamSIdeal.τ).loc Cert.AdamSIdeal.main_arg37)
      ∧ r.2.mem ((c.tc : Thread Cert.AdamSIdeal.nD Cert.AdamSIdeal.τ).loc Cert.AdamSIdeal.main_arg38) = m ((c.tc : Thread Cert.AdamSIdeal.nD Cert.AdamSIdeal.τ).loc Cert.AdamSIdeal.main_arg38)
      ∧ r.2.mem ((c.tc : Thread Cert.AdamSIdeal.nD Cert.AdamSIdeal.τ).loc Cert.AdamSIdeal.main_arg39) = m ((c.tc : Thread Cert.AdamSIdeal.nD Cert.AdamSIdeal.τ).loc Cert.AdamSIdeal.main_arg39))
      ∧ r.2.sem = fun _ => 0)

def quiescent_AdamSRefIdeal [hAdamSRefIdeal : Cert.AdamSRefIdeal.Facts] : Prop :=
  ∀ (m : (ℓ : Loc Cert.AdamSRefIdeal.nD Cert.AdamSRefIdeal.τ Cert.AdamSRefIdeal.sig) → Buf (Elt Ideal) ℓ) (g : Dev Cert.AdamSRefIdeal.nD → PrngReg), Pre_AdamSRefIdeal m →
    θ_run (Cert.AdamSRefIdeal.defs (F := Ideal)) (onTc (τ := Cert.AdamSRefIdeal.τ) (Cert.AdamSRefIdeal.main (F := Ideal))) ⟨m, fun _ => 0, g⟩ (fun r => (∀ c : Dev Cert.AdamSRefIdeal.nD,
      r.2.mem ((c.tc : Thread Cert.AdamSRefIdeal.nD Cert.AdamSRefIdeal.τ).loc Cert.AdamSRefIdeal.main_arg0) = m ((c.tc : Thread Cert.AdamSRefIdeal.nD Cert.AdamSRefIdeal.τ).loc Cert.AdamSRefIdeal.main_arg0)
      ∧ r.2.mem ((c.tc : Thread Cert.AdamSRefIdeal.nD Cert.AdamSRefIdeal.τ).loc Cert.AdamSRefIdeal.main_arg1) = m ((c.tc : Thread Cert.AdamSRefIdeal.nD Cert.AdamSRefIdeal.τ).loc Cert.AdamSRefIdeal.main_arg1)
      ∧ r.2.mem ((c.tc : Thread Cert.AdamSRefIdeal.nD Cert.AdamSRefIdeal.τ).loc Cert.AdamSRefIdeal.main_arg2) = m ((c.tc : Thread Cert.AdamSRefIdeal.nD Cert.AdamSRefIdeal.τ).loc Cert.AdamSRefIdeal.main_arg2)
      ∧ r.2.mem ((c.tc : Thread Cert.AdamSRefIdeal.nD Cert.AdamSRefIdeal.τ).loc Cert.AdamSRefIdeal.main_arg3) = m ((c.tc : Thread Cert.AdamSRefIdeal.nD Cert.AdamSRefIdeal.τ).loc Cert.AdamSRefIdeal.main_arg3)
      ∧ r.2.mem ((c.tc : Thread Cert.AdamSRefIdeal.nD Cert.AdamSRefIdeal.τ).loc Cert.AdamSRefIdeal.main_arg4) = m ((c.tc : Thread Cert.AdamSRefIdeal.nD Cert.AdamSRefIdeal.τ).loc Cert.AdamSRefIdeal.main_arg4)
      ∧ r.2.mem ((c.tc : Thread Cert.AdamSRefIdeal.nD Cert.AdamSRefIdeal.τ).loc Cert.AdamSRefIdeal.main_arg5) = m ((c.tc : Thread Cert.AdamSRefIdeal.nD Cert.AdamSRefIdeal.τ).loc Cert.AdamSRefIdeal.main_arg5)
      ∧ r.2.mem ((c.tc : Thread Cert.AdamSRefIdeal.nD Cert.AdamSRefIdeal.τ).loc Cert.AdamSRefIdeal.main_arg6) = m ((c.tc : Thread Cert.AdamSRefIdeal.nD Cert.AdamSRefIdeal.τ).loc Cert.AdamSRefIdeal.main_arg6)
      ∧ r.2.mem ((c.tc : Thread Cert.AdamSRefIdeal.nD Cert.AdamSRefIdeal.τ).loc Cert.AdamSRefIdeal.main_arg7) = m ((c.tc : Thread Cert.AdamSRefIdeal.nD Cert.AdamSRefIdeal.τ).loc Cert.AdamSRefIdeal.main_arg7)
      ∧ r.2.mem ((c.tc : Thread Cert.AdamSRefIdeal.nD Cert.AdamSRefIdeal.τ).loc Cert.AdamSRefIdeal.main_arg8) = m ((c.tc : Thread Cert.AdamSRefIdeal.nD Cert.AdamSRefIdeal.τ).loc Cert.AdamSRefIdeal.main_arg8)
      ∧ r.2.mem ((c.tc : Thread Cert.AdamSRefIdeal.nD Cert.AdamSRefIdeal.τ).loc Cert.AdamSRefIdeal.main_arg9) = m ((c.tc : Thread Cert.AdamSRefIdeal.nD Cert.AdamSRefIdeal.τ).loc Cert.AdamSRefIdeal.main_arg9)
      ∧ r.2.mem ((c.tc : Thread Cert.AdamSRefIdeal.nD Cert.AdamSRefIdeal.τ).loc Cert.AdamSRefIdeal.main_arg10) = m ((c.tc : Thread Cert.AdamSRefIdeal.nD Cert.AdamSRefIdeal.τ).loc Cert.AdamSRefIdeal.main_arg10)
      ∧ r.2.mem ((c.tc : Thread Cert.AdamSRefIdeal.nD Cert.AdamSRefIdeal.τ).loc Cert.AdamSRefIdeal.main_arg11) = m ((c.tc : Thread Cert.AdamSRefIdeal.nD Cert.AdamSRefIdeal.τ).loc Cert.AdamSRefIdeal.main_arg11)
      ∧ r.2.mem ((c.tc : Thread Cert.AdamSRefIdeal.nD Cert.AdamSRefIdeal.τ).loc Cert.AdamSRefIdeal.main_arg12) = m ((c.tc : Thread Cert.AdamSRefIdeal.nD Cert.AdamSRefIdeal.τ).loc Cert.AdamSRefIdeal.main_arg12)
      ∧ r.2.mem ((c.tc : Thread Cert.AdamSRefIdeal.nD Cert.AdamSRefIdeal.τ).loc Cert.AdamSRefIdeal.main_arg13) = m ((c.tc : Thread Cert.AdamSRefIdeal.nD Cert.AdamSRefIdeal.τ).loc Cert.AdamSRefIdeal.main_arg13)
      ∧ r.2.mem ((c.tc : Thread Cert.AdamSRefIdeal.nD Cert.AdamSRefIdeal.τ).loc Cert.AdamSRefIdeal.main_arg14) = m ((c.tc : Thread Cert.AdamSRefIdeal.nD Cert.AdamSRefIdeal.τ).loc Cert.AdamSRefIdeal.main_arg14)
      ∧ r.2.mem ((c.tc : Thread Cert.AdamSRefIdeal.nD Cert.AdamSRefIdeal.τ).loc Cert.AdamSRefIdeal.main_arg15) = m ((c.tc : Thread Cert.AdamSRefIdeal.nD Cert.AdamSRefIdeal.τ).loc Cert.AdamSRefIdeal.main_arg15)
      ∧ r.2.mem ((c.tc : Thread Cert.AdamSRefIdeal.nD Cert.AdamSRefIdeal.τ).loc Cert.AdamSRefIdeal.main_arg16) = m ((c.tc : Thread Cert.AdamSRefIdeal.nD Cert.AdamSRefIdeal.τ).loc Cert.AdamSRefIdeal.main_arg16)
      ∧ r.2.mem ((c.tc : Thread Cert.AdamSRefIdeal.nD Cert.AdamSRefIdeal.τ).loc Cert.AdamSRefIdeal.main_arg17) = m ((c.tc : Thread Cert.AdamSRefIdeal.nD Cert.AdamSRefIdeal.τ).loc Cert.AdamSRefIdeal.main_arg17)
      ∧ r.2.mem ((c.tc : Thread Cert.AdamSRefIdeal.nD Cert.AdamSRefIdeal.τ).loc Cert.AdamSRefIdeal.main_arg18) = m ((c.tc : Thread Cert.AdamSRefIdeal.nD Cert.AdamSRefIdeal.τ).loc Cert.AdamSRefIdeal.main_arg18)
      ∧ r.2.mem ((c.tc : Thread Cert.AdamSRefIdeal.nD Cert.AdamSRefIdeal.τ).loc Cert.AdamSRefIdeal.main_arg19) = m ((c.tc : Thread Cert.AdamSRefIdeal.nD Cert.AdamSRefIdeal.τ).loc Cert.AdamSRefIdeal.main_arg19)
      ∧ r.2.mem ((c.tc : Thread Cert.AdamSRefIdeal.nD Cert.AdamSRefIdeal.τ).loc Cert.AdamSRefIdeal.main_arg20) = m ((c.tc : Thread Cert.AdamSRefIdeal.nD Cert.AdamSRefIdeal.τ).loc Cert.AdamSRefIdeal.main_arg20)
      ∧ r.2.mem ((c.tc : Thread Cert.AdamSRefIdeal.nD Cert.AdamSRefIdeal.τ).loc Cert.AdamSRefIdeal.main_arg21) = m ((c.tc : Thread Cert.AdamSRefIdeal.nD Cert.AdamSRefIdeal.τ).loc Cert.AdamSRefIdeal.main_arg21)
      ∧ r.2.mem ((c.tc : Thread Cert.AdamSRefIdeal.nD Cert.AdamSRefIdeal.τ).loc Cert.AdamSRefIdeal.main_arg22) = m ((c.tc : Thread Cert.AdamSRefIdeal.nD Cert.AdamSRefIdeal.τ).loc Cert.AdamSRefIdeal.main_arg22)
      ∧ r.2.mem ((c.tc : Thread Cert.AdamSRefIdeal.nD Cert.AdamSRefIdeal.τ).loc Cert.AdamSRefIdeal.main_arg23) = m ((c.tc : Thread Cert.AdamSRefIdeal.nD Cert.AdamSRefIdeal.τ).loc Cert.AdamSRefIdeal.main_arg23)
      ∧ r.2.mem ((c.tc : Thread Cert.AdamSRefIdeal.nD Cert.AdamSRefIdeal.τ).loc Cert.AdamSRefIdeal.main_arg24) = m ((c.tc : Thread Cert.AdamSRefIdeal.nD Cert.AdamSRefIdeal.τ).loc Cert.AdamSRefIdeal.main_arg24)
      ∧ r.2.mem ((c.tc : Thread Cert.AdamSRefIdeal.nD Cert.AdamSRefIdeal.τ).loc Cert.AdamSRefIdeal.main_arg25) = m ((c.tc : Thread Cert.AdamSRefIdeal.nD Cert.AdamSRefIdeal.τ).loc Cert.AdamSRefIdeal.main_arg25)
      ∧ r.2.mem ((c.tc : Thread Cert.AdamSRefIdeal.nD Cert.AdamSRefIdeal.τ).loc Cert.AdamSRefIdeal.main_arg26) = m ((c.tc : Thread Cert.AdamSRefIdeal.nD Cert.AdamSRefIdeal.τ).loc Cert.AdamSRefIdeal.main_arg26)
      ∧ r.2.mem ((c.tc : Thread Cert.AdamSRefIdeal.nD Cert.AdamSRefIdeal.τ).loc Cert.AdamSRefIdeal.main_arg27) = m ((c.tc : Thread Cert.AdamSRefIdeal.nD Cert.AdamSRefIdeal.τ).loc Cert.AdamSRefIdeal.main_arg27)
      ∧ r.2.mem ((c.tc : Thread Cert.AdamSRefIdeal.nD Cert.AdamSRefIdeal.τ).loc Cert.AdamSRefIdeal.main_arg28) = m ((c.tc : Thread Cert.AdamSRefIdeal.nD Cert.AdamSRefIdeal.τ).loc Cert.AdamSRefIdeal.main_arg28)
      ∧ r.2.mem ((c.tc : Thread Cert.AdamSRefIdeal.nD Cert.AdamSRefIdeal.τ).loc Cert.AdamSRefIdeal.main_arg29) = m ((c.tc : Thread Cert.AdamSRefIdeal.nD Cert.AdamSRefIdeal.τ).loc Cert.AdamSRefIdeal.main_arg29)
      ∧ r.2.mem ((c.tc : Thread Cert.AdamSRefIdeal.nD Cert.AdamSRefIdeal.τ).loc Cert.AdamSRefIdeal.main_arg30) = m ((c.tc : Thread Cert.AdamSRefIdeal.nD Cert.AdamSRefIdeal.τ).loc Cert.AdamSRefIdeal.main_arg30)
      ∧ r.2.mem ((c.tc : Thread Cert.AdamSRefIdeal.nD Cert.AdamSRefIdeal.τ).loc Cert.AdamSRefIdeal.main_arg31) = m ((c.tc : Thread Cert.AdamSRefIdeal.nD Cert.AdamSRefIdeal.τ).loc Cert.AdamSRefIdeal.main_arg31)
      ∧ r.2.mem ((c.tc : Thread Cert.AdamSRefIdeal.nD Cert.AdamSRefIdeal.τ).loc Cert.AdamSRefIdeal.main_arg32) = m ((c.tc : Thread Cert.AdamSRefIdeal.nD Cert.AdamSRefIdeal.τ).loc Cert.AdamSRefIdeal.main_arg32)
      ∧ r.2.mem ((c.tc : Thread Cert.AdamSRefIdeal.nD Cert.AdamSRefIdeal.τ).loc Cert.AdamSRefIdeal.main_arg33) = m ((c.tc : Thread Cert.AdamSRefIdeal.nD Cert.AdamSRefIdeal.τ).loc Cert.AdamSRefIdeal.main_arg33)
      ∧ r.2.mem ((c.tc : Thread Cert.AdamSRefIdeal.nD Cert.AdamSRefIdeal.τ).loc Cert.AdamSRefIdeal.main_arg34) = m ((c.tc : Thread Cert.AdamSRefIdeal.nD Cert.AdamSRefIdeal.τ).loc Cert.AdamSRefIdeal.main_arg34)
      ∧ r.2.mem ((c.tc : Thread Cert.AdamSRefIdeal.nD Cert.AdamSRefIdeal.τ).loc Cert.AdamSRefIdeal.main_arg35) = m ((c.tc : Thread Cert.AdamSRefIdeal.nD Cert.AdamSRefIdeal.τ).loc Cert.AdamSRefIdeal.main_arg35)
      ∧ r.2.mem ((c.tc : Thread Cert.AdamSRefIdeal.nD Cert.AdamSRefIdeal.τ).loc Cert.AdamSRefIdeal.main_arg36) = m ((c.tc : Thread Cert.AdamSRefIdeal.nD Cert.AdamSRefIdeal.τ).loc Cert.AdamSRefIdeal.main_arg36)
      ∧ r.2.mem ((c.tc : Thread Cert.AdamSRefIdeal.nD Cert.AdamSRefIdeal.τ).loc Cert.AdamSRefIdeal.main_arg37) = m ((c.tc : Thread Cert.AdamSRefIdeal.nD Cert.AdamSRefIdeal.τ).loc Cert.AdamSRefIdeal.main_arg37)
      ∧ r.2.mem ((c.tc : Thread Cert.AdamSRefIdeal.nD Cert.AdamSRefIdeal.τ).loc Cert.AdamSRefIdeal.main_arg38) = m ((c.tc : Thread Cert.AdamSRefIdeal.nD Cert.AdamSRefIdeal.τ).loc Cert.AdamSRefIdeal.main_arg38)
      ∧ r.2.mem ((c.tc : Thread Cert.AdamSRefIdeal.nD Cert.AdamSRefIdeal.τ).loc Cert.AdamSRefIdeal.main_arg39) = m ((c.tc : Thread Cert.AdamSRefIdeal.nD Cert.AdamSRefIdeal.τ).loc Cert.AdamSRefIdeal.main_arg39))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Scan_ScanIdeal : Prop :=
  True

def algebraic_ScanIdeal_ScanRefIdeal_pre_finite [hScanIdeal : Cert.ScanIdeal.Facts] [hScanRefIdeal : Cert.ScanRefIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)) →
    ∃ (v0 : (c : Dev Cert.ScanIdeal.nD) → Buf (Elt Ideal) ((c.tc : Thread Cert.ScanIdeal.nD Cert.ScanIdeal.τ).loc Cert.ScanIdeal.main_v0)) (v1 : (c : Dev Cert.ScanIdeal.nD) → Buf (Elt Ideal) ((c.tc : Thread Cert.ScanIdeal.nD Cert.ScanIdeal.τ).loc Cert.ScanIdeal.main_v1_0)) (v2 : (c : Dev Cert.ScanIdeal.nD) → Buf (Elt Ideal) ((c.tc : Thread Cert.ScanIdeal.nD Cert.ScanIdeal.τ).loc Cert.ScanIdeal.main_v1_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0) = v0 c
          ∧ r.2.mem ((c.tc : Thread Cert.ScanIdeal.nD Cert.ScanIdeal.τ).loc Cert.ScanIdeal.main_v1_0) = v1 c
          ∧ r.2.mem ((c.tc : Thread Cert.ScanIdeal.nD Cert.ScanIdeal.τ).loc Cert.ScanIdeal.main_v1_1) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v3_4) = v0 c
          ∧ r.2.mem ((c.tc : Thread Cert.ScanRefIdeal.nD Cert.ScanRefIdeal.τ).loc Cert.ScanRefIdeal.main_v8_6) = v1 c
          ∧ r.2.mem ((c.tc : Thread Cert.ScanRefIdeal.nD Cert.ScanRefIdeal.τ).loc Cert.ScanRefIdeal.main_v8_5) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v10_1)) (v1 : (c : Dev Cert.MlpIdeal.nD) → Buf (Elt Ideal) ((c.tc : Thread Cert.MlpIdeal.nD Cert.MlpIdeal.τ).loc Cert.MlpIdeal.main_v10_0)) (v2 : (c : Dev Cert.MlpIdeal.nD) → Buf (Elt Ideal) ((c.tc : Thread Cert.MlpIdeal.nD Cert.MlpIdeal.τ).loc Cert.MlpIdeal.main_v15)) (v3 : (c : Dev Cert.MlpIdeal.nD) → Buf (Elt Ideal) ((c.tc : Thread Cert.MlpIdeal.nD Cert.MlpIdeal.τ).loc Cert.MlpIdeal.main_v17)) (v4 : (c : Dev Cert.MlpIdeal.nD) → Buf (Elt Ideal) ((c.tc : Thread Cert.MlpIdeal.nD Cert.MlpIdeal.τ).loc Cert.MlpIdeal.main_v12)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10_1) = v0 c
          ∧ r.2.mem ((c.tc : Thread Cert.MlpIdeal.nD Cert.MlpIdeal.τ).loc Cert.MlpIdeal.main_v10_0) = v1 c
          ∧ r.2.mem ((c.tc : Thread Cert.MlpIdeal.nD Cert.MlpIdeal.τ).loc Cert.MlpIdeal.main_v15) = v2 c
          ∧ r.2.mem ((c.tc : Thread Cert.MlpIdeal.nD Cert.MlpIdeal.τ).loc Cert.MlpIdeal.main_v17) = v3 c
          ∧ r.2.mem ((c.tc : Thread Cert.MlpIdeal.nD Cert.MlpIdeal.τ).loc Cert.MlpIdeal.main_v12) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_v25) = v1 c
          ∧ r.2.mem ((c.tc : Thread Cert.MlpRefIdeal.nD Cert.MlpRefIdeal.τ).loc Cert.MlpRefIdeal.main_v48) = v2 c
          ∧ r.2.mem ((c.tc : Thread Cert.MlpRefIdeal.nD Cert.MlpRefIdeal.τ).loc Cert.MlpRefIdeal.main_v47) = v3 c
          ∧ r.2.mem ((c.tc : Thread Cert.MlpRefIdeal.nD Cert.MlpRefIdeal.τ).loc Cert.MlpRefIdeal.main_v41) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Rg_RgIdeal : Prop :=
  True

def algebraic_RgIdeal_RgRefIdeal [hRgIdeal : Cert.RgIdeal.Facts] [hRgRefIdeal : Cert.RgRefIdeal.Facts] : Prop :=
  ∀ (m : (ℓ : Loc Cert.RgIdeal.nD Cert.RgIdeal.τ Cert.RgIdeal.sig) → Buf (Elt Ideal) ℓ) (g : Dev Cert.RgIdeal.nD → PrngReg)
    (m' : (ℓ : Loc Cert.RgRefIdeal.nD Cert.RgRefIdeal.τ Cert.RgRefIdeal.sig) → Buf (Elt Ideal) ℓ) (g' : Dev Cert.RgRefIdeal.nD → PrngReg), Pre_RgIdeal m →
    (∀ c : Dev Cert.RgIdeal.nD,
      m' ((c.tc : Thread Cert.RgRefIdeal.nD Cert.RgRefIdeal.τ).loc Cert.RgRefIdeal.main_arg0) = m ((c.tc : Thread Cert.RgIdeal.nD Cert.RgIdeal.τ).loc Cert.RgIdeal.main_arg0)
      ∧ m' ((c.tc : Thread Cert.RgRefIdeal.nD Cert.RgRefIdeal.τ).loc Cert.RgRefIdeal.main_arg1) = m ((c.tc : Thread Cert.RgIdeal.nD Cert.RgIdeal.τ).loc Cert.RgIdeal.main_arg1)
      ∧ m' ((c.tc : Thread Cert.RgRefIdeal.nD Cert.RgRefIdeal.τ).loc Cert.RgRefIdeal.main_arg2) = m ((c.tc : Thread Cert.RgIdeal.nD Cert.RgIdeal.τ).loc Cert.RgIdeal.main_arg2)
      ∧ m' ((c.tc : Thread Cert.RgRefIdeal.nD Cert.RgRefIdeal.τ).loc Cert.RgRefIdeal.main_arg3) = m ((c.tc : Thread Cert.RgIdeal.nD Cert.RgIdeal.τ).loc Cert.RgIdeal.main_arg3)
      ∧ m' ((c.tc : Thread Cert.RgRefIdeal.nD Cert.RgRefIdeal.τ).loc Cert.RgRefIdeal.main_arg4) = m ((c.tc : Thread Cert.RgIdeal.nD Cert.RgIdeal.τ).loc Cert.RgIdeal.main_arg4)
      ∧ m' ((c.tc : Thread Cert.RgRefIdeal.nD Cert.RgRefIdeal.τ).loc Cert.RgRefIdeal.main_arg5) = m ((c.tc : Thread Cert.RgIdeal.nD Cert.RgIdeal.τ).loc Cert.RgIdeal.main_arg5)
      ∧ m' ((c.tc : Thread Cert.RgRefIdeal.nD Cert.RgRefIdeal.τ).loc Cert.RgRefIdeal.main_arg6) = m ((c.tc : Thread Cert.RgIdeal.nD Cert.RgIdeal.τ).loc Cert.RgIdeal.main_arg6)
      ∧ m' ((c.tc : Thread Cert.RgRefIdeal.nD Cert.RgRefIdeal.τ).loc Cert.RgRefIdeal.main_arg7) = m ((c.tc : Thread Cert.RgIdeal.nD Cert.RgIdeal.τ).loc Cert.RgIdeal.main_arg7)
      ∧ m' ((c.tc : Thread Cert.RgRefIdeal.nD Cert.RgRefIdeal.τ).loc Cert.RgRefIdeal.main_arg8) = m ((c.tc : Thread Cert.RgIdeal.nD Cert.RgIdeal.τ).loc Cert.RgIdeal.main_arg8)) →
    ∃ (v0 : (c : Dev Cert.RgIdeal.nD) → Buf (Elt Ideal) ((c.tc : Thread Cert.RgIdeal.nD Cert.RgIdeal.τ).loc Cert.RgIdeal.main_v15_1)) (v1 : (c : Dev Cert.RgIdeal.nD) → Buf (Elt Ideal) ((c.tc : Thread Cert.RgIdeal.nD Cert.RgIdeal.τ).loc Cert.RgIdeal.main_v12)) (v2 : (c : Dev Cert.RgIdeal.nD) → Buf (Elt Ideal) ((c.tc : Thread Cert.RgIdeal.nD Cert.RgIdeal.τ).loc Cert.RgIdeal.main_v15_0)) (v3 : (c : Dev Cert.RgIdeal.nD) → Buf (Elt Ideal) ((c.tc : Thread Cert.RgIdeal.nD Cert.RgIdeal.τ).loc Cert.RgIdeal.main_v20_0)) (v4 : (c : Dev Cert.RgIdeal.nD) → Buf (Elt Ideal) ((c.tc : Thread Cert.RgIdeal.nD Cert.RgIdeal.τ).loc Cert.RgIdeal.main_v23)) (v5 : (c : Dev Cert.RgIdeal.nD) → Buf (Elt Ideal) ((c.tc : Thread Cert.RgIdeal.nD Cert.RgIdeal.τ).loc Cert.RgIdeal.main_v24)) (v6 : (c : Dev Cert.RgIdeal.nD) → Buf (Elt Ideal) ((c.tc : Thread Cert.RgIdeal.nD Cert.RgIdeal.τ).loc Cert.RgIdeal.main_v21)) (v7 : (c : Dev Cert.RgIdeal.nD) → Buf (Elt Ideal) ((c.tc : Thread Cert.RgIdeal.nD Cert.RgIdeal.τ).loc Cert.RgIdeal.main_v22)) (v8 : (c : Dev Cert.RgIdeal.nD) → Buf (Elt Ideal) ((c.tc : Thread Cert.RgIdeal.nD Cert.RgIdeal.τ).loc Cert.RgIdeal.main_v18)),
      θ_run (Cert.RgIdeal.defs (F := Ideal)) (onTc (τ := Cert.RgIdeal.τ) (Cert.RgIdeal.main (F := Ideal))) ⟨m, fun _ => 0, g⟩ (fun r => ∀ c : Dev Cert.RgIdeal.nD,
          r.2.mem ((c.tc : Thread Cert.RgIdeal.nD Cert.RgIdeal.τ).loc Cert.RgIdeal.main_v15_1) = v0 c
          ∧ r.2.mem ((c.tc : Thread Cert.RgIdeal.nD Cert.RgIdeal.τ).loc Cert.RgIdeal.main_v12) = v1 c
          ∧ r.2.mem ((c.tc : Thread Cert.RgIdeal.nD Cert.RgIdeal.τ).loc Cert.RgIdeal.main_v15_0) = v2 c
          ∧ r.2.mem ((c.tc : Thread Cert.RgIdeal.nD Cert.RgIdeal.τ).loc Cert.RgIdeal.main_v20_0) = v3 c
          ∧ r.2.mem ((c.tc : Thread Cert.RgIdeal.nD Cert.RgIdeal.τ).loc Cert.RgIdeal.main_v23) = v4 c
          ∧ r.2.mem ((c.tc : Thread Cert.RgIdeal.nD Cert.RgIdeal.τ).loc Cert.RgIdeal.main_v24) = v5 c
          ∧ r.2.mem ((c.tc : Thread Cert.RgIdeal.nD Cert.RgIdeal.τ).loc Cert.RgIdeal.main_v21) = v6 c
          ∧ r.2.mem ((c.tc : Thread Cert.RgIdeal.nD Cert.RgIdeal.τ).loc Cert.RgIdeal.main_v22) = v7 c
          ∧ r.2.mem ((c.tc : Thread Cert.RgIdeal.nD Cert.RgIdeal.τ).loc Cert.RgIdeal.main_v18) = v8 c
          ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
          ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
          ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
          ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
          ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
          ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
          ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
          ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
          ∧ r.2.mem ((c.tc : Thread Cert.RgIdeal.nD Cert.RgIdeal.τ).loc Cert.RgIdeal.main_arg8) = m ((c.tc : Thread Cert.RgIdeal.nD Cert.RgIdeal.τ).loc Cert.RgIdeal.main_arg8))
      ∧ θ_run (Cert.RgRefIdeal.defs (F := Ideal)) (onTc (τ := Cert.RgRefIdeal.τ) (Cert.RgRefIdeal.main (F := Ideal))) ⟨m', fun _ => 0, g'⟩ (fun r => ∀ c : Dev Cert.RgRefIdeal.nD,
          r.2.mem ((c.tc : Thread Cert.RgRefIdeal.nD Cert.RgRefIdeal.τ).loc Cert.RgRefIdeal.main_v80) = v0 c
          ∧ r.2.mem ((c.tc : Thread Cert.RgRefIdeal.nD Cert.RgRefIdeal.τ).loc Cert.RgRefIdeal.main_v15) = v1 c
          ∧ r.2.mem ((c.tc : Thread Cert.RgRefIdeal.nD Cert.RgRefIdeal.τ).loc Cert.RgRefIdeal.main_v43) = v2 c
          ∧ r.2.mem ((c.tc : Thread Cert.RgRefIdeal.nD Cert.RgRefIdeal.τ).loc Cert.RgRefIdeal.main_v51) = v3 c
          ∧ r.2.mem ((c.tc : Thread Cert.RgRefIdeal.nD Cert.RgRefIdeal.τ).loc Cert.RgRefIdeal.main_v46) = v4 c
          ∧ r.2.mem ((c.tc : Thread Cert.RgRefIdeal.nD Cert.RgRefIdeal.τ).loc Cert.RgRefIdeal.main_v66) = v5 c
          ∧ r.2.mem ((c.tc : Thread Cert.RgRefIdeal.nD Cert.RgRefIdeal.τ).loc Cert.RgRefIdeal.main_v45) = v6 c
          ∧ r.2.mem ((c.tc : Thread Cert.RgRefIdeal.nD Cert.RgRefIdeal.τ).loc Cert.RgRefIdeal.main_v65) = v7 c
          ∧ r.2.mem ((c.tc : Thread Cert.RgRefIdeal.nD Cert.RgRefIdeal.τ).loc Cert.RgRefIdeal.main_v48) = v8 c
          ∧ r.2.mem ((c.tc : Thread Cert.RgRefIdeal.nD Cert.RgRefIdeal.τ).loc Cert.RgRefIdeal.main_arg0) = m' ((c.tc : Thread Cert.RgRefIdeal.nD Cert.RgRefIdeal.τ).loc Cert.RgRefIdeal.main_arg0)
          ∧ r.2.mem ((c.tc : Thread Cert.RgRefIdeal.nD Cert.RgRefIdeal.τ).loc Cert.RgRefIdeal.main_arg1) = m' ((c.tc : Thread Cert.RgRefIdeal.nD Cert.RgRefIdeal.τ).loc Cert.RgRefIdeal.main_arg1)
          ∧ r.2.mem ((c.tc : Thread Cert.RgRefIdeal.nD Cert.RgRefIdeal.τ).loc Cert.RgRefIdeal.main_arg2) = m' ((c.tc : Thread Cert.RgRefIdeal.nD Cert.RgRefIdeal.τ).loc Cert.RgRefIdeal.main_arg2)
          ∧ r.2.mem ((c.tc : Thread Cert.RgRefIdeal.nD Cert.RgRefIdeal.τ).loc Cert.RgRefIdeal.main_arg3) = m' ((c.tc : Thread Cert.RgRefIdeal.nD Cert.RgRefIdeal.τ).loc Cert.RgRefIdeal.main_arg3)
          ∧ r.2.mem ((c.tc : Thread Cert.RgRefIdeal.nD Cert.RgRefIdeal.τ).loc Cert.RgRefIdeal.main_arg4) = m' ((c.tc : Thread Cert.RgRefIdeal.nD Cert.RgRefIdeal.τ).loc Cert.RgRefIdeal.main_arg4)
          ∧ r.2.mem ((c.tc : Thread Cert.RgRefIdeal.nD Cert.RgRefIdeal.τ).loc Cert.RgRefIdeal.main_arg5) = m' ((c.tc : Thread Cert.RgRefIdeal.nD Cert.RgRefIdeal.τ).loc Cert.RgRefIdeal.main_arg5)
          ∧ r.2.mem ((c.tc : Thread Cert.RgRefIdeal.nD Cert.RgRefIdeal.τ).loc Cert.RgRefIdeal.main_arg6) = m' ((c.tc : Thread Cert.RgRefIdeal.nD Cert.RgRefIdeal.τ).loc Cert.RgRefIdeal.main_arg6)
          ∧ r.2.mem ((c.tc : Thread Cert.RgRefIdeal.nD Cert.RgRefIdeal.τ).loc Cert.RgRefIdeal.main_arg7) = m' ((c.tc : Thread Cert.RgRefIdeal.nD Cert.RgRefIdeal.τ).loc Cert.RgRefIdeal.main_arg7)
          ∧ r.2.mem ((c.tc : Thread Cert.RgRefIdeal.nD Cert.RgRefIdeal.τ).loc Cert.RgRefIdeal.main_arg8) = m' ((c.tc : Thread Cert.RgRefIdeal.nD Cert.RgRefIdeal.τ).loc Cert.RgRefIdeal.main_arg8))

def preserves_Sm_SmIdeal : Prop :=
  True

def algebraic_SmIdeal_SmRefIdeal [hSmIdeal : Cert.SmIdeal.Facts] [hSmRefIdeal : Cert.SmRefIdeal.Facts] : Prop :=
  ∀ (m : (ℓ : Loc Cert.SmIdeal.nD Cert.SmIdeal.τ Cert.SmIdeal.sig) → Buf (Elt Ideal) ℓ) (g : Dev Cert.SmIdeal.nD → PrngReg)
    (m' : (ℓ : Loc Cert.SmRefIdeal.nD Cert.SmRefIdeal.τ Cert.SmRefIdeal.sig) → Buf (Elt Ideal) ℓ) (g' : Dev Cert.SmRefIdeal.nD → PrngReg), Pre_SmIdeal m →
    (∀ c : Dev Cert.SmIdeal.nD,
      m' ((c.tc : Thread Cert.SmRefIdeal.nD Cert.SmRefIdeal.τ).loc Cert.SmRefIdeal.main_arg0) = m ((c.tc : Thread Cert.SmIdeal.nD Cert.SmIdeal.τ).loc Cert.SmIdeal.main_arg0)
      ∧ m' ((c.tc : Thread Cert.SmRefIdeal.nD Cert.SmRefIdeal.τ).loc Cert.SmRefIdeal.main_arg1) = m ((c.tc : Thread Cert.SmIdeal.nD Cert.SmIdeal.τ).loc Cert.SmIdeal.main_arg1)
      ∧ m' ((c.tc : Thread Cert.SmRefIdeal.nD Cert.SmRefIdeal.τ).loc Cert.SmRefIdeal.main_arg2) = m ((c.tc : Thread Cert.SmIdeal.nD Cert.SmIdeal.τ).loc Cert.SmIdeal.main_arg2)
      ∧ m' ((c.tc : Thread Cert.SmRefIdeal.nD Cert.SmRefIdeal.τ).loc Cert.SmRefIdeal.main_arg3) = m ((c.tc : Thread Cert.SmIdeal.nD Cert.SmIdeal.τ).loc Cert.SmIdeal.main_arg3)
      ∧ m' ((c.tc : Thread Cert.SmRefIdeal.nD Cert.SmRefIdeal.τ).loc Cert.SmRefIdeal.main_arg4) = m ((c.tc : Thread Cert.SmIdeal.nD Cert.SmIdeal.τ).loc Cert.SmIdeal.main_arg4)
      ∧ m' ((c.tc : Thread Cert.SmRefIdeal.nD Cert.SmRefIdeal.τ).loc Cert.SmRefIdeal.main_arg5) = m ((c.tc : Thread Cert.SmIdeal.nD Cert.SmIdeal.τ).loc Cert.SmIdeal.main_arg5)
      ∧ m' ((c.tc : Thread Cert.SmRefIdeal.nD Cert.SmRefIdeal.τ).loc Cert.SmRefIdeal.main_arg6) = m ((c.tc : Thread Cert.SmIdeal.nD Cert.SmIdeal.τ).loc Cert.SmIdeal.main_arg6)
      ∧ m' ((c.tc : Thread Cert.SmRefIdeal.nD Cert.SmRefIdeal.τ).loc Cert.SmRefIdeal.main_arg7) = m ((c.tc : Thread Cert.SmIdeal.nD Cert.SmIdeal.τ).loc Cert.SmIdeal.main_arg7)
      ∧ m' ((c.tc : Thread Cert.SmRefIdeal.nD Cert.SmRefIdeal.τ).loc Cert.SmRefIdeal.main_arg8) = m ((c.tc : Thread Cert.SmIdeal.nD Cert.SmIdeal.τ).loc Cert.SmIdeal.main_arg8)) →
    ∃ (v0 : (c : Dev Cert.SmIdeal.nD) → Buf (Elt Ideal) ((c.tc : Thread Cert.SmIdeal.nD Cert.SmIdeal.τ).loc Cert.SmIdeal.main_v30_1)) (v1 : (c : Dev Cert.SmIdeal.nD) → Buf (Elt Ideal) ((c.tc : Thread Cert.SmIdeal.nD Cert.SmIdeal.τ).loc Cert.SmIdeal.main_v56)) (v2 : (c : Dev Cert.SmIdeal.nD) → Buf (Elt Ideal) ((c.tc : Thread Cert.SmIdeal.nD Cert.SmIdeal.τ).loc Cert.SmIdeal.main_v30_0)) (v3 : (c : Dev Cert.SmIdeal.nD) → Buf (Elt Ideal) ((c.tc : Thread Cert.SmIdeal.nD Cert.SmIdeal.τ).loc Cert.SmIdeal.main_v44)) (v4 : (c : Dev Cert.SmIdeal.nD) → Buf (Elt Ideal) ((c.tc : Thread Cert.SmIdeal.nD Cert.SmIdeal.τ).loc Cert.SmIdeal.main_v41)) (v5 : (c : Dev Cert.SmIdeal.nD) → Buf (Elt Ideal) ((c.tc : Thread Cert.SmIdeal.nD Cert.SmIdeal.τ).loc Cert.SmIdeal.main_v48)) (v6 : (c : Dev Cert.SmIdeal.nD) → Buf (Elt Ideal) ((c.tc : Thread Cert.SmIdeal.nD Cert.SmIdeal.τ).loc Cert.SmIdeal.main_v60)) (v7 : (c : Dev Cert.SmIdeal.nD) → Buf (Elt Ideal) ((c.tc : Thread Cert.SmIdeal.nD Cert.SmIdeal.τ).loc Cert.SmIdeal.main_v52)),
      θ_run (Cert.SmIdeal.defs (F := Ideal)) (onTc (τ := Cert.SmIdeal.τ) (Cert.SmIdeal.main (F := Ideal))) ⟨m, fun _ => 0, g⟩ (fun r => ∀ c : Dev Cert.SmIdeal.nD,
          r.2.mem ((c.tc : Thread Cert.SmIdeal.nD Cert.SmIdeal.τ).loc Cert.SmIdeal.main_v30_1) = v0 c
          ∧ r.2.mem ((c.tc : Thread Cert.SmIdeal.nD Cert.SmIdeal.τ).loc Cert.SmIdeal.main_v56) = v1 c
          ∧ r.2.mem ((c.tc : Thread Cert.SmIdeal.nD Cert.SmIdeal.τ).loc Cert.SmIdeal.main_v30_0) = v2 c
          ∧ r.2.mem ((c.tc : Thread Cert.SmIdeal.nD Cert.SmIdeal.τ).loc Cert.SmIdeal.main_v44) = v3 c
          ∧ r.2.mem ((c.tc : Thread Cert.SmIdeal.nD Cert.SmIdeal.τ).loc Cert.SmIdeal.main_v41) = v4 c
          ∧ r.2.mem ((c.tc : Thread Cert.SmIdeal.nD Cert.SmIdeal.τ).loc Cert.SmIdeal.main_v48) = v5 c
          ∧ r.2.mem ((c.tc : Thread Cert.SmIdeal.nD Cert.SmIdeal.τ).loc Cert.SmIdeal.main_v60) = v6 c
          ∧ r.2.mem ((c.tc : Thread Cert.SmIdeal.nD Cert.SmIdeal.τ).loc Cert.SmIdeal.main_v52) = v7 c
          ∧ r.2.mem ((c.tc : Thread Cert.SmIdeal.nD Cert.SmIdeal.τ).loc Cert.SmIdeal.main_arg0) = m ((c.tc : Thread Cert.SmIdeal.nD Cert.SmIdeal.τ).loc Cert.SmIdeal.main_arg0)
          ∧ r.2.mem ((c.tc : Thread Cert.SmIdeal.nD Cert.SmIdeal.τ).loc Cert.SmIdeal.main_arg1) = m ((c.tc : Thread Cert.SmIdeal.nD Cert.SmIdeal.τ).loc Cert.SmIdeal.main_arg1)
          ∧ r.2.mem ((c.tc : Thread Cert.SmIdeal.nD Cert.SmIdeal.τ).loc Cert.SmIdeal.main_arg2) = m ((c.tc : Thread Cert.SmIdeal.nD Cert.SmIdeal.τ).loc Cert.SmIdeal.main_arg2)
          ∧ r.2.mem ((c.tc : Thread Cert.SmIdeal.nD Cert.SmIdeal.τ).loc Cert.SmIdeal.main_arg3) = m ((c.tc : Thread Cert.SmIdeal.nD Cert.SmIdeal.τ).loc Cert.SmIdeal.main_arg3)
          ∧ r.2.mem ((c.tc : Thread Cert.SmIdeal.nD Cert.SmIdeal.τ).loc Cert.SmIdeal.main_arg4) = m ((c.tc : Thread Cert.SmIdeal.nD Cert.SmIdeal.τ).loc Cert.SmIdeal.main_arg4)
          ∧ r.2.mem ((c.tc : Thread Cert.SmIdeal.nD Cert.SmIdeal.τ).loc Cert.SmIdeal.main_arg5) = m ((c.tc : Thread Cert.SmIdeal.nD Cert.SmIdeal.τ).loc Cert.SmIdeal.main_arg5)
          ∧ r.2.mem ((c.tc : Thread Cert.SmIdeal.nD Cert.SmIdeal.τ).loc Cert.SmIdeal.main_arg6) = m ((c.tc : Thread Cert.SmIdeal.nD Cert.SmIdeal.τ).loc Cert.SmIdeal.main_arg6)
          ∧ r.2.mem ((c.tc : Thread Cert.SmIdeal.nD Cert.SmIdeal.τ).loc Cert.SmIdeal.main_arg7) = m ((c.tc : Thread Cert.SmIdeal.nD Cert.SmIdeal.τ).loc Cert.SmIdeal.main_arg7)
          ∧ r.2.mem ((c.tc : Thread Cert.SmIdeal.nD Cert.SmIdeal.τ).loc Cert.SmIdeal.main_arg8) = m ((c.tc : Thread Cert.SmIdeal.nD Cert.SmIdeal.τ).loc Cert.SmIdeal.main_arg8))
      ∧ θ_run (Cert.SmRefIdeal.defs (F := Ideal)) (onTc (τ := Cert.SmRefIdeal.τ) (Cert.SmRefIdeal.main (F := Ideal))) ⟨m', fun _ => 0, g'⟩ (fun r => ∀ c : Dev Cert.SmRefIdeal.nD,
          r.2.mem ((c.tc : Thread Cert.SmRefIdeal.nD Cert.SmRefIdeal.τ).loc Cert.SmRefIdeal.main_v41) = v0 c
          ∧ r.2.mem ((c.tc : Thread Cert.SmRefIdeal.nD Cert.SmRefIdeal.τ).loc Cert.SmRefIdeal.main_v15) = v1 c
          ∧ r.2.mem ((c.tc : Thread Cert.SmRefIdeal.nD Cert.SmRefIdeal.τ).loc Cert.SmRefIdeal.main_v19) = v2 c
          ∧ r.2.mem ((c.tc : Thread Cert.SmRefIdeal.nD Cert.SmRefIdeal.τ).loc Cert.SmRefIdeal.main_v22) = v3 c
          ∧ r.2.mem ((c.tc : Thread Cert.SmRefIdeal.nD Cert.SmRefIdeal.τ).loc Cert.SmRefIdeal.main_v26) = v4 c
          ∧ r.2.mem ((c.tc : Thread Cert.SmRefIdeal.nD Cert.SmRefIdeal.τ).loc Cert.SmRefIdeal.main_v27) = v5 c
          ∧ r.2.mem ((c.tc : Thread Cert.SmRefIdeal.nD Cert.SmRefIdeal.τ).loc Cert.SmRefIdeal.main_v21) = v6 c
          ∧ r.2.mem ((c.tc : Thread Cert.SmRefIdeal.nD Cert.SmRefIdeal.τ).loc Cert.SmRefIdeal.main_v24) = v7 c
          ∧ r.2.mem ((c.tc : Thread Cert.SmRefIdeal.nD Cert.SmRefIdeal.τ).loc Cert.SmRefIdeal.main_arg0) = m' ((c.tc : Thread Cert.SmRefIdeal.nD Cert.SmRefIdeal.τ).loc Cert.SmRefIdeal.main_arg0)
          ∧ r.2.mem ((c.tc : Thread Cert.SmRefIdeal.nD Cert.SmRefIdeal.τ).loc Cert.SmRefIdeal.main_arg1) = m' ((c.tc : Thread Cert.SmRefIdeal.nD Cert.SmRefIdeal.τ).loc Cert.SmRefIdeal.main_arg1)
          ∧ r.2.mem ((c.tc : Thread Cert.SmRefIdeal.nD Cert.SmRefIdeal.τ).loc Cert.SmRefIdeal.main_arg2) = m' ((c.tc : Thread Cert.SmRefIdeal.nD Cert.SmRefIdeal.τ).loc Cert.SmRefIdeal.main_arg2)
          ∧ r.2.mem ((c.tc : Thread Cert.SmRefIdeal.nD Cert.SmRefIdeal.τ).loc Cert.SmRefIdeal.main_arg3) = m' ((c.tc : Thread Cert.SmRefIdeal.nD Cert.SmRefIdeal.τ).loc Cert.SmRefIdeal.main_arg3)
          ∧ r.2.mem ((c.tc : Thread Cert.SmRefIdeal.nD Cert.SmRefIdeal.τ).loc Cert.SmRefIdeal.main_arg4) = m' ((c.tc : Thread Cert.SmRefIdeal.nD Cert.SmRefIdeal.τ).loc Cert.SmRefIdeal.main_arg4)
          ∧ r.2.mem ((c.tc : Thread Cert.SmRefIdeal.nD Cert.SmRefIdeal.τ).loc Cert.SmRefIdeal.main_arg5) = m' ((c.tc : Thread Cert.SmRefIdeal.nD Cert.SmRefIdeal.τ).loc Cert.SmRefIdeal.main_arg5)
          ∧ r.2.mem ((c.tc : Thread Cert.SmRefIdeal.nD Cert.SmRefIdeal.τ).loc Cert.SmRefIdeal.main_arg6) = m' ((c.tc : Thread Cert.SmRefIdeal.nD Cert.SmRefIdeal.τ).loc Cert.SmRefIdeal.main_arg6)
          ∧ r.2.mem ((c.tc : Thread Cert.SmRefIdeal.nD Cert.SmRefIdeal.τ).loc Cert.SmRefIdeal.main_arg7) = m' ((c.tc : Thread Cert.SmRefIdeal.nD Cert.SmRefIdeal.τ).loc Cert.SmRefIdeal.main_arg7)
          ∧ r.2.mem ((c.tc : Thread Cert.SmRefIdeal.nD Cert.SmRefIdeal.τ).loc Cert.SmRefIdeal.main_arg8) = m' ((c.tc : Thread Cert.SmRefIdeal.nD Cert.SmRefIdeal.τ).loc Cert.SmRefIdeal.main_arg8))

def preserves_AdamL_AdamLIdeal : Prop :=
  True

def algebraic_AdamLIdeal_AdamLRefIdeal [hAdamLIdeal : Cert.AdamLIdeal.Facts] [hAdamLRefIdeal : Cert.AdamLRefIdeal.Facts] : Prop :=
  ∀ (m : (ℓ : Loc Cert.AdamLIdeal.nD Cert.AdamLIdeal.τ Cert.AdamLIdeal.sig) → Buf (Elt Ideal) ℓ) (g : Dev Cert.AdamLIdeal.nD → PrngReg)
    (m' : (ℓ : Loc Cert.AdamLRefIdeal.nD Cert.AdamLRefIdeal.τ Cert.AdamLRefIdeal.sig) → Buf (Elt Ideal) ℓ) (g' : Dev Cert.AdamLRefIdeal.nD → PrngReg), Pre_AdamLIdeal m →
    (∀ c : Dev Cert.AdamLIdeal.nD,
      m' ((c.tc : Thread Cert.AdamLRefIdeal.nD Cert.AdamLRefIdeal.τ).loc Cert.AdamLRefIdeal.main_arg0) = m ((c.tc : Thread Cert.AdamLIdeal.nD Cert.AdamLIdeal.τ).loc Cert.AdamLIdeal.main_arg0)
      ∧ m' ((c.tc : Thread Cert.AdamLRefIdeal.nD Cert.AdamLRefIdeal.τ).loc Cert.AdamLRefIdeal.main_arg1) = m ((c.tc : Thread Cert.AdamLIdeal.nD Cert.AdamLIdeal.τ).loc Cert.AdamLIdeal.main_arg1)
      ∧ m' ((c.tc : Thread Cert.AdamLRefIdeal.nD Cert.AdamLRefIdeal.τ).loc Cert.AdamLRefIdeal.main_arg2) = m ((c.tc : Thread Cert.AdamLIdeal.nD Cert.AdamLIdeal.τ).loc Cert.AdamLIdeal.main_arg2)
      ∧ m' ((c.tc : Thread Cert.AdamLRefIdeal.nD Cert.AdamLRefIdeal.τ).loc Cert.AdamLRefIdeal.main_arg3) = m ((c.tc : Thread Cert.AdamLIdeal.nD Cert.AdamLIdeal.τ).loc Cert.AdamLIdeal.main_arg3)
      ∧ m' ((c.tc : Thread Cert.AdamLRefIdeal.nD Cert.AdamLRefIdeal.τ).loc Cert.AdamLRefIdeal.main_arg4) = m ((c.tc : Thread Cert.AdamLIdeal.nD Cert.AdamLIdeal.τ).loc Cert.AdamLIdeal.main_arg4)
      ∧ m' ((c.tc : Thread Cert.AdamLRefIdeal.nD Cert.AdamLRefIdeal.τ).loc Cert.AdamLRefIdeal.main_arg5) = m ((c.tc : Thread Cert.AdamLIdeal.nD Cert.AdamLIdeal.τ).loc Cert.AdamLIdeal.main_arg5)
      ∧ m' ((c.tc : Thread Cert.AdamLRefIdeal.nD Cert.AdamLRefIdeal.τ).loc Cert.AdamLRefIdeal.main_arg6) = m ((c.tc : Thread Cert.AdamLIdeal.nD Cert.AdamLIdeal.τ).loc Cert.AdamLIdeal.main_arg6)
      ∧ m' ((c.tc : Thread Cert.AdamLRefIdeal.nD Cert.AdamLRefIdeal.τ).loc Cert.AdamLRefIdeal.main_arg7) = m ((c.tc : Thread Cert.AdamLIdeal.nD Cert.AdamLIdeal.τ).loc Cert.AdamLIdeal.main_arg7)
      ∧ m' ((c.tc : Thread Cert.AdamLRefIdeal.nD Cert.AdamLRefIdeal.τ).loc Cert.AdamLRefIdeal.main_arg8) = m ((c.tc : Thread Cert.AdamLIdeal.nD Cert.AdamLIdeal.τ).loc Cert.AdamLIdeal.main_arg8)
      ∧ m' ((c.tc : Thread Cert.AdamLRefIdeal.nD Cert.AdamLRefIdeal.τ).loc Cert.AdamLRefIdeal.main_arg9) = m ((c.tc : Thread Cert.AdamLIdeal.nD Cert.AdamLIdeal.τ).loc Cert.AdamLIdeal.main_arg9)
      ∧ m' ((c.tc : Thread Cert.AdamLRefIdeal.nD Cert.AdamLRefIdeal.τ).loc Cert.AdamLRefIdeal.main_arg10) = m ((c.tc : Thread Cert.AdamLIdeal.nD Cert.AdamLIdeal.τ).loc Cert.AdamLIdeal.main_arg10)
      ∧ m' ((c.tc : Thread Cert.AdamLRefIdeal.nD Cert.AdamLRefIdeal.τ).loc Cert.AdamLRefIdeal.main_arg11) = m ((c.tc : Thread Cert.AdamLIdeal.nD Cert.AdamLIdeal.τ).loc Cert.AdamLIdeal.main_arg11)
      ∧ m' ((c.tc : Thread Cert.AdamLRefIdeal.nD Cert.AdamLRefIdeal.τ).loc Cert.AdamLRefIdeal.main_arg12) = m ((c.tc : Thread Cert.AdamLIdeal.nD Cert.AdamLIdeal.τ).loc Cert.AdamLIdeal.main_arg12)
      ∧ m' ((c.tc : Thread Cert.AdamLRefIdeal.nD Cert.AdamLRefIdeal.τ).loc Cert.AdamLRefIdeal.main_arg13) = m ((c.tc : Thread Cert.AdamLIdeal.nD Cert.AdamLIdeal.τ).loc Cert.AdamLIdeal.main_arg13)
      ∧ m' ((c.tc : Thread Cert.AdamLRefIdeal.nD Cert.AdamLRefIdeal.τ).loc Cert.AdamLRefIdeal.main_arg14) = m ((c.tc : Thread Cert.AdamLIdeal.nD Cert.AdamLIdeal.τ).loc Cert.AdamLIdeal.main_arg14)
      ∧ m' ((c.tc : Thread Cert.AdamLRefIdeal.nD Cert.AdamLRefIdeal.τ).loc Cert.AdamLRefIdeal.main_arg15) = m ((c.tc : Thread Cert.AdamLIdeal.nD Cert.AdamLIdeal.τ).loc Cert.AdamLIdeal.main_arg15)
      ∧ m' ((c.tc : Thread Cert.AdamLRefIdeal.nD Cert.AdamLRefIdeal.τ).loc Cert.AdamLRefIdeal.main_arg16) = m ((c.tc : Thread Cert.AdamLIdeal.nD Cert.AdamLIdeal.τ).loc Cert.AdamLIdeal.main_arg16)
      ∧ m' ((c.tc : Thread Cert.AdamLRefIdeal.nD Cert.AdamLRefIdeal.τ).loc Cert.AdamLRefIdeal.main_arg17) = m ((c.tc : Thread Cert.AdamLIdeal.nD Cert.AdamLIdeal.τ).loc Cert.AdamLIdeal.main_arg17)
      ∧ m' ((c.tc : Thread Cert.AdamLRefIdeal.nD Cert.AdamLRefIdeal.τ).loc Cert.AdamLRefIdeal.main_arg18) = m ((c.tc : Thread Cert.AdamLIdeal.nD Cert.AdamLIdeal.τ).loc Cert.AdamLIdeal.main_arg18)
      ∧ m' ((c.tc : Thread Cert.AdamLRefIdeal.nD Cert.AdamLRefIdeal.τ).loc Cert.AdamLRefIdeal.main_arg19) = m ((c.tc : Thread Cert.AdamLIdeal.nD Cert.AdamLIdeal.τ).loc Cert.AdamLIdeal.main_arg19)
      ∧ m' ((c.tc : Thread Cert.AdamLRefIdeal.nD Cert.AdamLRefIdeal.τ).loc Cert.AdamLRefIdeal.main_arg20) = m ((c.tc : Thread Cert.AdamLIdeal.nD Cert.AdamLIdeal.τ).loc Cert.AdamLIdeal.main_arg20)
      ∧ m' ((c.tc : Thread Cert.AdamLRefIdeal.nD Cert.AdamLRefIdeal.τ).loc Cert.AdamLRefIdeal.main_arg21) = m ((c.tc : Thread Cert.AdamLIdeal.nD Cert.AdamLIdeal.τ).loc Cert.AdamLIdeal.main_arg21)
      ∧ m' ((c.tc : Thread Cert.AdamLRefIdeal.nD Cert.AdamLRefIdeal.τ).loc Cert.AdamLRefIdeal.main_arg22) = m ((c.tc : Thread Cert.AdamLIdeal.nD Cert.AdamLIdeal.τ).loc Cert.AdamLIdeal.main_arg22)
      ∧ m' ((c.tc : Thread Cert.AdamLRefIdeal.nD Cert.AdamLRefIdeal.τ).loc Cert.AdamLRefIdeal.main_arg23) = m ((c.tc : Thread Cert.AdamLIdeal.nD Cert.AdamLIdeal.τ).loc Cert.AdamLIdeal.main_arg23)
      ∧ m' ((c.tc : Thread Cert.AdamLRefIdeal.nD Cert.AdamLRefIdeal.τ).loc Cert.AdamLRefIdeal.main_arg24) = m ((c.tc : Thread Cert.AdamLIdeal.nD Cert.AdamLIdeal.τ).loc Cert.AdamLIdeal.main_arg24)
      ∧ m' ((c.tc : Thread Cert.AdamLRefIdeal.nD Cert.AdamLRefIdeal.τ).loc Cert.AdamLRefIdeal.main_arg25) = m ((c.tc : Thread Cert.AdamLIdeal.nD Cert.AdamLIdeal.τ).loc Cert.AdamLIdeal.main_arg25)
      ∧ m' ((c.tc : Thread Cert.AdamLRefIdeal.nD Cert.AdamLRefIdeal.τ).loc Cert.AdamLRefIdeal.main_arg26) = m ((c.tc : Thread Cert.AdamLIdeal.nD Cert.AdamLIdeal.τ).loc Cert.AdamLIdeal.main_arg26)
      ∧ m' ((c.tc : Thread Cert.AdamLRefIdeal.nD Cert.AdamLRefIdeal.τ).loc Cert.AdamLRefIdeal.main_arg27) = m ((c.tc : Thread Cert.AdamLIdeal.nD Cert.AdamLIdeal.τ).loc Cert.AdamLIdeal.main_arg27)
      ∧ m' ((c.tc : Thread Cert.AdamLRefIdeal.nD Cert.AdamLRefIdeal.τ).loc Cert.AdamLRefIdeal.main_arg28) = m ((c.tc : Thread Cert.AdamLIdeal.nD Cert.AdamLIdeal.τ).loc Cert.AdamLIdeal.main_arg28)
      ∧ m' ((c.tc : Thread Cert.AdamLRefIdeal.nD Cert.AdamLRefIdeal.τ).loc Cert.AdamLRefIdeal.main_arg29) = m ((c.tc : Thread Cert.AdamLIdeal.nD Cert.AdamLIdeal.τ).loc Cert.AdamLIdeal.main_arg29)
      ∧ m' ((c.tc : Thread Cert.AdamLRefIdeal.nD Cert.AdamLRefIdeal.τ).loc Cert.AdamLRefIdeal.main_arg30) = m ((c.tc : Thread Cert.AdamLIdeal.nD Cert.AdamLIdeal.τ).loc Cert.AdamLIdeal.main_arg30)
      ∧ m' ((c.tc : Thread Cert.AdamLRefIdeal.nD Cert.AdamLRefIdeal.τ).loc Cert.AdamLRefIdeal.main_arg31) = m ((c.tc : Thread Cert.AdamLIdeal.nD Cert.AdamLIdeal.τ).loc Cert.AdamLIdeal.main_arg31)) →
    ∃ (v0 : (c : Dev Cert.AdamLIdeal.nD) → Buf (Elt Ideal) ((c.tc : Thread Cert.AdamLIdeal.nD Cert.AdamLIdeal.τ).loc Cert.AdamLIdeal.main_v0_1)) (v1 : (c : Dev Cert.AdamLIdeal.nD) → Buf (Elt Ideal) ((c.tc : Thread Cert.AdamLIdeal.nD Cert.AdamLIdeal.τ).loc Cert.AdamLIdeal.main_v0_2)) (v2 : (c : Dev Cert.AdamLIdeal.nD) → Buf (Elt Ideal) ((c.tc : Thread Cert.AdamLIdeal.nD Cert.AdamLIdeal.τ).loc Cert.AdamLIdeal.main_v0_3)) (v3 : (c : Dev Cert.AdamLIdeal.nD) → Buf (Elt Ideal) ((c.tc : Thread Cert.AdamLIdeal.nD Cert.AdamLIdeal.τ).loc Cert.AdamLIdeal.main_v1_1)) (v4 : (c : Dev Cert.AdamLIdeal.nD) → Buf (Elt Ideal) ((c.tc : Thread Cert.AdamLIdeal.nD Cert.AdamLIdeal.τ).loc Cert.AdamLIdeal.main_v1_2)) (v5 : (c : Dev Cert.AdamLIdeal.nD) → Buf (Elt Ideal) ((c.tc : Thread Cert.AdamLIdeal.nD Cert.AdamLIdeal.τ).loc Cert.AdamLIdeal.main_v1_3)) (v6 : (c : Dev Cert.AdamLIdeal.nD) → Buf (Elt Ideal) ((c.tc : Thread Cert.AdamLIdeal.nD Cert.AdamLIdeal.τ).loc Cert.AdamLIdeal.main_v2_1)) (v7 : (c : Dev Cert.AdamLIdeal.nD) → Buf (Elt Ideal) ((c.tc : Thread Cert.AdamLIdeal.nD Cert.AdamLIdeal.τ).loc Cert.AdamLIdeal.main_v2_2)) (v8 : (c : Dev Cert.AdamLIdeal.nD) → Buf (Elt Ideal) ((c.tc : Thread Cert.AdamLIdeal.nD Cert.AdamLIdeal.τ).loc Cert.AdamLIdeal.main_v2_3)) (v9 : (c : Dev Cert.AdamLIdeal.nD) → Buf (Elt Ideal) ((c.tc : Thread Cert.AdamLIdeal.nD Cert.AdamLIdeal.τ).loc Cert.AdamLIdeal.main_v3_1)) (v10 : (c : Dev Cert.AdamLIdeal.nD) → Buf (Elt Ideal) ((c.tc : Thread Cert.AdamLIdeal.nD Cert.AdamLIdeal.τ).loc Cert.AdamLIdeal.main_v3_2)) (v11 : (c : Dev Cert.AdamLIdeal.nD) → Buf (Elt Ideal) ((c.tc : Thread Cert.AdamLIdeal.nD Cert.AdamLIdeal.τ).loc Cert.AdamLIdeal.main_v3_3)) (v12 : (c : Dev Cert.AdamLIdeal.nD) → Buf (Elt Ideal) ((c.tc : Thread Cert.AdamLIdeal.nD Cert.AdamLIdeal.τ).loc Cert.AdamLIdeal.main_v4_1)) (v13 : (c : Dev Cert.AdamLIdeal.nD) → Buf (Elt Ideal) ((c.tc : Thread Cert.AdamLIdeal.nD Cert.AdamLIdeal.τ).loc Cert.AdamLIdeal.main_v4_2)) (v14 : (c : Dev Cert.AdamLIdeal.nD) → Buf (Elt Ideal) ((c.tc : Thread Cert.AdamLIdeal.nD Cert.AdamLIdeal.τ).loc Cert.AdamLIdeal.main_v4_3)) (v15 : (c : Dev Cert.AdamLIdeal.nD) → Buf (Elt Ideal) ((c.tc : Thread Cert.AdamLIdeal.nD Cert.AdamLIdeal.τ).loc Cert.AdamLIdeal.main_v5_1)) (v16 : (c : Dev Cert.AdamLIdeal.nD) → Buf (Elt Ideal) ((c.tc : Thread Cert.AdamLIdeal.nD Cert.AdamLIdeal.τ).loc Cert.AdamLIdeal.main_v5_2)) (v17 : (c : Dev Cert.AdamLIdeal.nD) → Buf (Elt Ideal) ((c.tc : Thread Cert.AdamLIdeal.nD Cert.AdamLIdeal.τ).loc Cert.AdamLIdeal.main_v5_3)) (v18 : (c : Dev Cert.AdamLIdeal.nD) → Buf (Elt Ideal) ((c.tc : Thread Cert.AdamLIdeal.nD Cert.AdamLIdeal.τ).loc Cert.AdamLIdeal.main_v6_1)) (v19 : (c : Dev Cert.AdamLIdeal.nD) → Buf (Elt Ideal) ((c.tc : Thread Cert.AdamLIdeal.nD Cert.AdamLIdeal.τ).loc Cert.AdamLIdeal.main_v6_2)) (v20 : (c : Dev Cert.AdamLIdeal.nD) → Buf (Elt Ideal) ((c.tc : Thread Cert.AdamLIdeal.nD Cert.AdamLIdeal.τ).loc Cert.AdamLIdeal.main_v6_3)) (v21 : (c : Dev Cert.AdamLIdeal.nD) → Buf (Elt Ideal) ((c.tc : Thread Cert.AdamLIdeal.nD Cert.AdamLIdeal.τ).loc Cert.AdamLIdeal.main_v7_1)) (v22 : (c : Dev Cert.AdamLIdeal.nD) → Buf (Elt Ideal) ((c.tc : Thread Cert.AdamLIdeal.nD Cert.AdamLIdeal.τ).loc Cert.AdamLIdeal.main_v7_2)) (v23 : (c : Dev Cert.AdamLIdeal.nD) → Buf (Elt Ideal) ((c.tc : Thread Cert.AdamLIdeal.nD Cert.AdamLIdeal.τ).loc Cert.AdamLIdeal.main_v7_3)),
      θ_run (Cert.AdamLIdeal.defs (F := Ideal)) (onTc (τ := Cert.AdamLIdeal.τ) (Cert.AdamLIdeal.main (F := Ideal))) ⟨m, fun _ => 0, g⟩ (fun r => ∀ c : Dev Cert.AdamLIdeal.nD,
          r.2.mem ((c.tc : Thread Cert.AdamLIdeal.nD Cert.AdamLIdeal.τ).loc Cert.AdamLIdeal.main_v0_1) = v0 c
          ∧ r.2.mem ((c.tc : Thread Cert.AdamLIdeal.nD Cert.AdamLIdeal.τ).loc Cert.AdamLIdeal.main_v0_2) = v1 c
          ∧ r.2.mem ((c.tc : Thread Cert.AdamLIdeal.nD Cert.AdamLIdeal.τ).loc Cert.AdamLIdeal.main_v0_3) = v2 c
          ∧ r.2.mem ((c.tc : Thread Cert.AdamLIdeal.nD Cert.AdamLIdeal.τ).loc Cert.AdamLIdeal.main_v1_1) = v3 c
          ∧ r.2.mem ((c.tc : Thread Cert.AdamLIdeal.nD Cert.AdamLIdeal.τ).loc Cert.AdamLIdeal.main_v1_2) = v4 c
          ∧ r.2.mem ((c.tc : Thread Cert.AdamLIdeal.nD Cert.AdamLIdeal.τ).loc Cert.AdamLIdeal.main_v1_3) = v5 c
          ∧ r.2.mem ((c.tc : Thread Cert.AdamLIdeal.nD Cert.AdamLIdeal.τ).loc Cert.AdamLIdeal.main_v2_1) = v6 c
          ∧ r.2.mem ((c.tc : Thread Cert.AdamLIdeal.nD Cert.AdamLIdeal.τ).loc Cert.AdamLIdeal.main_v2_2) = v7 c
          ∧ r.2.mem ((c.tc : Thread Cert.AdamLIdeal.nD Cert.AdamLIdeal.τ).loc Cert.AdamLIdeal.main_v2_3) = v8 c
          ∧ r.2.mem ((c.tc : Thread Cert.AdamLIdeal.nD Cert.AdamLIdeal.τ).loc Cert.AdamLIdeal.main_v3_1) = v9 c
          ∧ r.2.mem ((c.tc : Thread Cert.AdamLIdeal.nD Cert.AdamLIdeal.τ).loc Cert.AdamLIdeal.main_v3_2) = v10 c
          ∧ r.2.mem ((c.tc : Thread Cert.AdamLIdeal.nD Cert.AdamLIdeal.τ).loc Cert.AdamLIdeal.main_v3_3) = v11 c
          ∧ r.2.mem ((c.tc : Thread Cert.AdamLIdeal.nD Cert.AdamLIdeal.τ).loc Cert.AdamLIdeal.main_v4_1) = v12 c
          ∧ r.2.mem ((c.tc : Thread Cert.AdamLIdeal.nD Cert.AdamLIdeal.τ).loc Cert.AdamLIdeal.main_v4_2) = v13 c
          ∧ r.2.mem ((c.tc : Thread Cert.AdamLIdeal.nD Cert.AdamLIdeal.τ).loc Cert.AdamLIdeal.main_v4_3) = v14 c
          ∧ r.2.mem ((c.tc : Thread Cert.AdamLIdeal.nD Cert.AdamLIdeal.τ).loc Cert.AdamLIdeal.main_v5_1) = v15 c
          ∧ r.2.mem ((c.tc : Thread Cert.AdamLIdeal.nD Cert.AdamLIdeal.τ).loc Cert.AdamLIdeal.main_v5_2) = v16 c
          ∧ r.2.mem ((c.tc : Thread Cert.AdamLIdeal.nD Cert.AdamLIdeal.τ).loc Cert.AdamLIdeal.main_v5_3) = v17 c
          ∧ r.2.mem ((c.tc : Thread Cert.AdamLIdeal.nD Cert.AdamLIdeal.τ).loc Cert.AdamLIdeal.main_v6_1) = v18 c
          ∧ r.2.mem ((c.tc : Thread Cert.AdamLIdeal.nD Cert.AdamLIdeal.τ).loc Cert.AdamLIdeal.main_v6_2) = v19 c
          ∧ r.2.mem ((c.tc : Thread Cert.AdamLIdeal.nD Cert.AdamLIdeal.τ).loc Cert.AdamLIdeal.main_v6_3) = v20 c
          ∧ r.2.mem ((c.tc : Thread Cert.AdamLIdeal.nD Cert.AdamLIdeal.τ).loc Cert.AdamLIdeal.main_v7_1) = v21 c
          ∧ r.2.mem ((c.tc : Thread Cert.AdamLIdeal.nD Cert.AdamLIdeal.τ).loc Cert.AdamLIdeal.main_v7_2) = v22 c
          ∧ r.2.mem ((c.tc : Thread Cert.AdamLIdeal.nD Cert.AdamLIdeal.τ).loc Cert.AdamLIdeal.main_v7_3) = v23 c
          ∧ r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
          ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
          ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
          ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3)
          ∧ r.2.mem ((c.tc : Thread Cert.AdamLIdeal.nD Cert.AdamLIdeal.τ).loc Cert.AdamLIdeal.main_arg4) = m ((c.tc : Thread Cert.AdamLIdeal.nD Cert.AdamLIdeal.τ).loc Cert.AdamLIdeal.main_arg4)
          ∧ r.2.mem ((c.tc : Thread Cert.AdamLIdeal.nD Cert.AdamLIdeal.τ).loc Cert.AdamLIdeal.main_arg5) = m ((c.tc : Thread Cert.AdamLIdeal.nD Cert.AdamLIdeal.τ).loc Cert.AdamLIdeal.main_arg5)
          ∧ r.2.mem ((c.tc : Thread Cert.AdamLIdeal.nD Cert.AdamLIdeal.τ).loc Cert.AdamLIdeal.main_arg6) = m ((c.tc : Thread Cert.AdamLIdeal.nD Cert.AdamLIdeal.τ).loc Cert.AdamLIdeal.main_arg6)
          ∧ r.2.mem ((c.tc : Thread Cert.AdamLIdeal.nD Cert.AdamLIdeal.τ).loc Cert.AdamLIdeal.main_arg7) = m ((c.tc : Thread Cert.AdamLIdeal.nD Cert.AdamLIdeal.τ).loc Cert.AdamLIdeal.main_arg7)
          ∧ r.2.mem ((c.tc : Thread Cert.AdamLIdeal.nD Cert.AdamLIdeal.τ).loc Cert.AdamLIdeal.main_arg8) = m ((c.tc : Thread Cert.AdamLIdeal.nD Cert.AdamLIdeal.τ).loc Cert.AdamLIdeal.main_arg8)
          ∧ r.2.mem ((c.tc : Thread Cert.AdamLIdeal.nD Cert.AdamLIdeal.τ).loc Cert.AdamLIdeal.main_arg9) = m ((c.tc : Thread Cert.AdamLIdeal.nD Cert.AdamLIdeal.τ).loc Cert.AdamLIdeal.main_arg9)
          ∧ r.2.mem ((c.tc : Thread Cert.AdamLIdeal.nD Cert.AdamLIdeal.τ).loc Cert.AdamLIdeal.main_arg10) = m ((c.tc : Thread Cert.AdamLIdeal.nD Cert.AdamLIdeal.τ).loc Cert.AdamLIdeal.main_arg10)
          ∧ r.2.mem ((c.tc : Thread Cert.AdamLIdeal.nD Cert.AdamLIdeal.τ).loc Cert.AdamLIdeal.main_arg11) = m ((c.tc : Thread Cert.AdamLIdeal.nD Cert.AdamLIdeal.τ).loc Cert.AdamLIdeal.main_arg11)
          ∧ r.2.mem ((c.tc : Thread Cert.AdamLIdeal.nD Cert.AdamLIdeal.τ).loc Cert.AdamLIdeal.main_arg12) = m ((c.tc : Thread Cert.AdamLIdeal.nD Cert.AdamLIdeal.τ).loc Cert.AdamLIdeal.main_arg12)
          ∧ r.2.mem ((c.tc : Thread Cert.AdamLIdeal.nD Cert.AdamLIdeal.τ).loc Cert.AdamLIdeal.main_arg13) = m ((c.tc : Thread Cert.AdamLIdeal.nD Cert.AdamLIdeal.τ).loc Cert.AdamLIdeal.main_arg13)
          ∧ r.2.mem ((c.tc : Thread Cert.AdamLIdeal.nD Cert.AdamLIdeal.τ).loc Cert.AdamLIdeal.main_arg14) = m ((c.tc : Thread Cert.AdamLIdeal.nD Cert.AdamLIdeal.τ).loc Cert.AdamLIdeal.main_arg14)
          ∧ r.2.mem ((c.tc : Thread Cert.AdamLIdeal.nD Cert.AdamLIdeal.τ).loc Cert.AdamLIdeal.main_arg15) = m ((c.tc : Thread Cert.AdamLIdeal.nD Cert.AdamLIdeal.τ).loc Cert.AdamLIdeal.main_arg15)
          ∧ r.2.mem ((c.tc : Thread Cert.AdamLIdeal.nD Cert.AdamLIdeal.τ).loc Cert.AdamLIdeal.main_arg16) = m ((c.tc : Thread Cert.AdamLIdeal.nD Cert.AdamLIdeal.τ).loc Cert.AdamLIdeal.main_arg16)
          ∧ r.2.mem ((c.tc : Thread Cert.AdamLIdeal.nD Cert.AdamLIdeal.τ).loc Cert.AdamLIdeal.main_arg17) = m ((c.tc : Thread Cert.AdamLIdeal.nD Cert.AdamLIdeal.τ).loc Cert.AdamLIdeal.main_arg17)
          ∧ r.2.mem ((c.tc : Thread Cert.AdamLIdeal.nD Cert.AdamLIdeal.τ).loc Cert.AdamLIdeal.main_arg18) = m ((c.tc : Thread Cert.AdamLIdeal.nD Cert.AdamLIdeal.τ).loc Cert.AdamLIdeal.main_arg18)
          ∧ r.2.mem ((c.tc : Thread Cert.AdamLIdeal.nD Cert.AdamLIdeal.τ).loc Cert.AdamLIdeal.main_arg19) = m ((c.tc : Thread Cert.AdamLIdeal.nD Cert.AdamLIdeal.τ).loc Cert.AdamLIdeal.main_arg19)
          ∧ r.2.mem ((c.tc : Thread Cert.AdamLIdeal.nD Cert.AdamLIdeal.τ).loc Cert.AdamLIdeal.main_arg20) = m ((c.tc : Thread Cert.AdamLIdeal.nD Cert.AdamLIdeal.τ).loc Cert.AdamLIdeal.main_arg20)
          ∧ r.2.mem ((c.tc : Thread Cert.AdamLIdeal.nD Cert.AdamLIdeal.τ).loc Cert.AdamLIdeal.main_arg21) = m ((c.tc : Thread Cert.AdamLIdeal.nD Cert.AdamLIdeal.τ).loc Cert.AdamLIdeal.main_arg21)
          ∧ r.2.mem ((c.tc : Thread Cert.AdamLIdeal.nD Cert.AdamLIdeal.τ).loc Cert.AdamLIdeal.main_arg22) = m ((c.tc : Thread Cert.AdamLIdeal.nD Cert.AdamLIdeal.τ).loc Cert.AdamLIdeal.main_arg22)
          ∧ r.2.mem ((c.tc : Thread Cert.AdamLIdeal.nD Cert.AdamLIdeal.τ).loc Cert.AdamLIdeal.main_arg23) = m ((c.tc : Thread Cert.AdamLIdeal.nD Cert.AdamLIdeal.τ).loc Cert.AdamLIdeal.main_arg23)
          ∧ r.2.mem ((c.tc : Thread Cert.AdamLIdeal.nD Cert.AdamLIdeal.τ).loc Cert.AdamLIdeal.main_arg24) = m ((c.tc : Thread Cert.AdamLIdeal.nD Cert.AdamLIdeal.τ).loc Cert.AdamLIdeal.main_arg24)
          ∧ r.2.mem ((c.tc : Thread Cert.AdamLIdeal.nD Cert.AdamLIdeal.τ).loc Cert.AdamLIdeal.main_arg25) = m ((c.tc : Thread Cert.AdamLIdeal.nD Cert.AdamLIdeal.τ).loc Cert.AdamLIdeal.main_arg25)
          ∧ r.2.mem ((c.tc : Thread Cert.AdamLIdeal.nD Cert.AdamLIdeal.τ).loc Cert.AdamLIdeal.main_arg26) = m ((c.tc : Thread Cert.AdamLIdeal.nD Cert.AdamLIdeal.τ).loc Cert.AdamLIdeal.main_arg26)
          ∧ r.2.mem ((c.tc : Thread Cert.AdamLIdeal.nD Cert.AdamLIdeal.τ).loc Cert.AdamLIdeal.main_arg27) = m ((c.tc : Thread Cert.AdamLIdeal.nD Cert.AdamLIdeal.τ).loc Cert.AdamLIdeal.main_arg27)
          ∧ r.2.mem ((c.tc : Thread Cert.AdamLIdeal.nD Cert.AdamLIdeal.τ).loc Cert.AdamLIdeal.main_arg28) = m ((c.tc : Thread Cert.AdamLIdeal.nD Cert.AdamLIdeal.τ).loc Cert.AdamLIdeal.main_arg28)
          ∧ r.2.mem ((c.tc : Thread Cert.AdamLIdeal.nD Cert.AdamLIdeal.τ).loc Cert.AdamLIdeal.main_arg29) = m ((c.tc : Thread Cert.AdamLIdeal.nD Cert.AdamLIdeal.τ).loc Cert.AdamLIdeal.main_arg29)
          ∧ r.2.mem ((c.tc : Thread Cert.AdamLIdeal.nD Cert.AdamLIdeal.τ).loc Cert.AdamLIdeal.main_arg30) = m ((c.tc : Thread Cert.AdamLIdeal.nD Cert.AdamLIdeal.τ).loc Cert.AdamLIdeal.main_arg30)
          ∧ r.2.mem ((c.tc : Thread Cert.AdamLIdeal.nD Cert.AdamLIdeal.τ).loc Cert.AdamLIdeal.main_arg31) = m ((c.tc : Thread Cert.AdamLIdeal.nD Cert.AdamLIdeal.τ).loc Cert.AdamLIdeal.main_arg31))
      ∧ θ_run (Cert.AdamLRefIdeal.defs (F := Ideal)) (onTc (τ := Cert.AdamLRefIdeal.τ) (Cert.AdamLRefIdeal.main (F := Ideal))) ⟨m', fun _ => 0, g'⟩ (fun r => ∀ c : Dev Cert.AdamLRefIdeal.nD,
          r.2.mem ((c.tc : Thread Cert.AdamLRefIdeal.nD Cert.AdamLRefIdeal.τ).loc Cert.AdamLRefIdeal.main_v23) = v0 c
          ∧ r.2.mem ((c.tc : Thread Cert.AdamLRefIdeal.nD Cert.AdamLRefIdeal.τ).loc Cert.AdamLRefIdeal.main_v4) = v1 c
          ∧ r.2.mem ((c.tc : Thread Cert.AdamLRefIdeal.nD Cert.AdamLRefIdeal.τ).loc Cert.AdamLRefIdeal.main_v10) = v2 c
          ∧ r.2.mem ((c.tc : Thread Cert.AdamLRefIdeal.nD Cert.AdamLRefIdeal.τ).loc Cert.AdamLRefIdeal.main_v47) = v3 c
          ∧ r.2.mem ((c.tc : Thread Cert.AdamLRefIdeal.nD Cert.AdamLRefIdeal.τ).loc Cert.AdamLRefIdeal.main_v28) = v4 c
          ∧ r.2.mem ((c.tc : Thread Cert.AdamLRefIdeal.nD Cert.AdamLRefIdeal.τ).loc Cert.AdamLRefIdeal.main_v34) = v5 c
          ∧ r.2.mem ((c.tc : Thread Cert.AdamLRefIdeal.nD Cert.AdamLRefIdeal.τ).loc Cert.AdamLRefIdeal.main_v71) = v6 c
          ∧ r.2.mem ((c.tc : Thread Cert.AdamLRefIdeal.nD Cert.AdamLRefIdeal.τ).loc Cert.AdamLRefIdeal.main_v52) = v7 c
          ∧ r.2.mem ((c.tc : Thread Cert.AdamLRefIdeal.nD Cert.AdamLRefIdeal.τ).loc Cert.AdamLRefIdeal.main_v58) = v8 c
          ∧ r.2.mem ((c.tc : Thread Cert.AdamLRefIdeal.nD Cert.AdamLRefIdeal.τ).loc Cert.AdamLRefIdeal.main_v95) = v9 c
          ∧ r.2.mem ((c.tc : Thread Cert.AdamLRefIdeal.nD Cert.AdamLRefIdeal.τ).loc Cert.AdamLRefIdeal.main_v76) = v10 c
          ∧ r.2.mem ((c.tc : Thread Cert.AdamLRefIdeal.nD Cert.AdamLRefIdeal.τ).loc Cert.AdamLRefIdeal.main_v82) = v11 c
          ∧ r.2.mem ((c.tc : Thread Cert.AdamLRefIdeal.nD Cert.AdamLRefIdeal.τ).loc Cert.AdamLRefIdeal.main_v119) = v12 c
          ∧ r.2.mem ((c.tc : Thread Cert.AdamLRefIdeal.nD Cert.AdamLRefIdeal.τ).loc Cert.AdamLRefIdeal.main_v100) = v13 c
          ∧ r.2.mem ((c.tc : Thread Cert.AdamLRefIdeal.nD Cert.AdamLRefIdeal.τ).loc Cert.AdamLRefIdeal.main_v106) = v14 c
          ∧ r.2.mem ((c.tc : Thread Cert.AdamLRefIdeal.nD Cert.AdamLRefIdeal.τ).loc Cert.AdamLRefIdeal.main_v143) = v15 c
          ∧ r.2.mem ((c.tc : Thread Cert.AdamLRefIdeal.nD Cert.AdamLRefIdeal.τ).loc Cert.AdamLRefIdeal.main_v124) = v16 c
          ∧ r.2.mem ((c.tc : Thread Cert.AdamLRefIdeal.nD Cert.AdamLRefIdeal.τ).loc Cert.AdamLRefIdeal.main_v130) = v17 c
          ∧ r.2.mem ((c.tc : Thread Cert.AdamLRefIdeal.nD Cert.AdamLRefIdeal.τ).loc Cert.AdamLRefIdeal.main_v167) = v18 c
          ∧ r.2.mem ((c.tc : Thread Cert.AdamLRefIdeal.nD Cert.AdamLRefIdeal.τ).loc Cert.AdamLRefIdeal.main_v148) = v19 c
          ∧ r.2.mem ((c.tc : Thread Cert.AdamLRefIdeal.nD Cert.AdamLRefIdeal.τ).loc Cert.AdamLRefIdeal.main_v154) = v20 c
          ∧ r.2.mem ((c.tc : Thread Cert.AdamLRefIdeal.nD Cert.AdamLRefIdeal.τ).loc Cert.AdamLRefIdeal.main_v191) = v21 c
          ∧ r.2.mem ((c.tc : Thread Cert.AdamLRefIdeal.nD Cert.AdamLRefIdeal.τ).loc Cert.AdamLRefIdeal.main_v172) = v22 c
          ∧ r.2.mem ((c.tc : Thread Cert.AdamLRefIdeal.nD Cert.AdamLRefIdeal.τ).loc Cert.AdamLRefIdeal.main_v178) = v23 c
          ∧ r.2.mem ((c.tc : Thread Cert.AdamLRefIdeal.nD Cert.AdamLRefIdeal.τ).loc Cert.AdamLRefIdeal.main_arg0) = m' ((c.tc : Thread Cert.AdamLRefIdeal.nD Cert.AdamLRefIdeal.τ).loc Cert.AdamLRefIdeal.main_arg0)
          ∧ r.2.mem ((c.tc : Thread Cert.AdamLRefIdeal.nD Cert.AdamLRefIdeal.τ).loc Cert.AdamLRefIdeal.main_arg1) = m' ((c.tc : Thread Cert.AdamLRefIdeal.nD Cert.AdamLRefIdeal.τ).loc Cert.AdamLRefIdeal.main_arg1)
          ∧ r.2.mem ((c.tc : Thread Cert.AdamLRefIdeal.nD Cert.AdamLRefIdeal.τ).loc Cert.AdamLRefIdeal.main_arg2) = m' ((c.tc : Thread Cert.AdamLRefIdeal.nD Cert.AdamLRefIdeal.τ).loc Cert.AdamLRefIdeal.main_arg2)
          ∧ r.2.mem ((c.tc : Thread Cert.AdamLRefIdeal.nD Cert.AdamLRefIdeal.τ).loc Cert.AdamLRefIdeal.main_arg3) = m' ((c.tc : Thread Cert.AdamLRefIdeal.nD Cert.AdamLRefIdeal.τ).loc Cert.AdamLRefIdeal.main_arg3)
          ∧ r.2.mem ((c.tc : Thread Cert.AdamLRefIdeal.nD Cert.AdamLRefIdeal.τ).loc Cert.AdamLRefIdeal.main_arg4) = m' ((c.tc : Thread Cert.AdamLRefIdeal.nD Cert.AdamLRefIdeal.τ).loc Cert.AdamLRefIdeal.main_arg4)
          ∧ r.2.mem ((c.tc : Thread Cert.AdamLRefIdeal.nD Cert.AdamLRefIdeal.τ).loc Cert.AdamLRefIdeal.main_arg5) = m' ((c.tc : Thread Cert.AdamLRefIdeal.nD Cert.AdamLRefIdeal.τ).loc Cert.AdamLRefIdeal.main_arg5)
          ∧ r.2.mem ((c.tc : Thread Cert.AdamLRefIdeal.nD Cert.AdamLRefIdeal.τ).loc Cert.AdamLRefIdeal.main_arg6) = m' ((c.tc : Thread Cert.AdamLRefIdeal.nD Cert.AdamLRefIdeal.τ).loc Cert.AdamLRefIdeal.main_arg6)
          ∧ r.2.mem ((c.tc : Thread Cert.AdamLRefIdeal.nD Cert.AdamLRefIdeal.τ).loc Cert.AdamLRefIdeal.main_arg7) = m' ((c.tc : Thread Cert.AdamLRefIdeal.nD Cert.AdamLRefIdeal.τ).loc Cert.AdamLRefIdeal.main_arg7)
          ∧ r.2.mem ((c.tc : Thread Cert.AdamLRefIdeal.nD Cert.AdamLRefIdeal.τ).loc Cert.AdamLRefIdeal.main_arg8) = m' ((c.tc : Thread Cert.AdamLRefIdeal.nD Cert.AdamLRefIdeal.τ).loc Cert.AdamLRefIdeal.main_arg8)
          ∧ r.2.mem ((c.tc : Thread Cert.AdamLRefIdeal.nD Cert.AdamLRefIdeal.τ).loc Cert.AdamLRefIdeal.main_arg9) = m' ((c.tc : Thread Cert.AdamLRefIdeal.nD Cert.AdamLRefIdeal.τ).loc Cert.AdamLRefIdeal.main_arg9)
          ∧ r.2.mem ((c.tc : Thread Cert.AdamLRefIdeal.nD Cert.AdamLRefIdeal.τ).loc Cert.AdamLRefIdeal.main_arg10) = m' ((c.tc : Thread Cert.AdamLRefIdeal.nD Cert.AdamLRefIdeal.τ).loc Cert.AdamLRefIdeal.main_arg10)
          ∧ r.2.mem ((c.tc : Thread Cert.AdamLRefIdeal.nD Cert.AdamLRefIdeal.τ).loc Cert.AdamLRefIdeal.main_arg11) = m' ((c.tc : Thread Cert.AdamLRefIdeal.nD Cert.AdamLRefIdeal.τ).loc Cert.AdamLRefIdeal.main_arg11)
          ∧ r.2.mem ((c.tc : Thread Cert.AdamLRefIdeal.nD Cert.AdamLRefIdeal.τ).loc Cert.AdamLRefIdeal.main_arg12) = m' ((c.tc : Thread Cert.AdamLRefIdeal.nD Cert.AdamLRefIdeal.τ).loc Cert.AdamLRefIdeal.main_arg12)
          ∧ r.2.mem ((c.tc : Thread Cert.AdamLRefIdeal.nD Cert.AdamLRefIdeal.τ).loc Cert.AdamLRefIdeal.main_arg13) = m' ((c.tc : Thread Cert.AdamLRefIdeal.nD Cert.AdamLRefIdeal.τ).loc Cert.AdamLRefIdeal.main_arg13)
          ∧ r.2.mem ((c.tc : Thread Cert.AdamLRefIdeal.nD Cert.AdamLRefIdeal.τ).loc Cert.AdamLRefIdeal.main_arg14) = m' ((c.tc : Thread Cert.AdamLRefIdeal.nD Cert.AdamLRefIdeal.τ).loc Cert.AdamLRefIdeal.main_arg14)
          ∧ r.2.mem ((c.tc : Thread Cert.AdamLRefIdeal.nD Cert.AdamLRefIdeal.τ).loc Cert.AdamLRefIdeal.main_arg15) = m' ((c.tc : Thread Cert.AdamLRefIdeal.nD Cert.AdamLRefIdeal.τ).loc Cert.AdamLRefIdeal.main_arg15)
          ∧ r.2.mem ((c.tc : Thread Cert.AdamLRefIdeal.nD Cert.AdamLRefIdeal.τ).loc Cert.AdamLRefIdeal.main_arg16) = m' ((c.tc : Thread Cert.AdamLRefIdeal.nD Cert.AdamLRefIdeal.τ).loc Cert.AdamLRefIdeal.main_arg16)
          ∧ r.2.mem ((c.tc : Thread Cert.AdamLRefIdeal.nD Cert.AdamLRefIdeal.τ).loc Cert.AdamLRefIdeal.main_arg17) = m' ((c.tc : Thread Cert.AdamLRefIdeal.nD Cert.AdamLRefIdeal.τ).loc Cert.AdamLRefIdeal.main_arg17)
          ∧ r.2.mem ((c.tc : Thread Cert.AdamLRefIdeal.nD Cert.AdamLRefIdeal.τ).loc Cert.AdamLRefIdeal.main_arg18) = m' ((c.tc : Thread Cert.AdamLRefIdeal.nD Cert.AdamLRefIdeal.τ).loc Cert.AdamLRefIdeal.main_arg18)
          ∧ r.2.mem ((c.tc : Thread Cert.AdamLRefIdeal.nD Cert.AdamLRefIdeal.τ).loc Cert.AdamLRefIdeal.main_arg19) = m' ((c.tc : Thread Cert.AdamLRefIdeal.nD Cert.AdamLRefIdeal.τ).loc Cert.AdamLRefIdeal.main_arg19)
          ∧ r.2.mem ((c.tc : Thread Cert.AdamLRefIdeal.nD Cert.AdamLRefIdeal.τ).loc Cert.AdamLRefIdeal.main_arg20) = m' ((c.tc : Thread Cert.AdamLRefIdeal.nD Cert.AdamLRefIdeal.τ).loc Cert.AdamLRefIdeal.main_arg20)
          ∧ r.2.mem ((c.tc : Thread Cert.AdamLRefIdeal.nD Cert.AdamLRefIdeal.τ).loc Cert.AdamLRefIdeal.main_arg21) = m' ((c.tc : Thread Cert.AdamLRefIdeal.nD Cert.AdamLRefIdeal.τ).loc Cert.AdamLRefIdeal.main_arg21)
          ∧ r.2.mem ((c.tc : Thread Cert.AdamLRefIdeal.nD Cert.AdamLRefIdeal.τ).loc Cert.AdamLRefIdeal.main_arg22) = m' ((c.tc : Thread Cert.AdamLRefIdeal.nD Cert.AdamLRefIdeal.τ).loc Cert.AdamLRefIdeal.main_arg22)
          ∧ r.2.mem ((c.tc : Thread Cert.AdamLRefIdeal.nD Cert.AdamLRefIdeal.τ).loc Cert.AdamLRefIdeal.main_arg23) = m' ((c.tc : Thread Cert.AdamLRefIdeal.nD Cert.AdamLRefIdeal.τ).loc Cert.AdamLRefIdeal.main_arg23)
          ∧ r.2.mem ((c.tc : Thread Cert.AdamLRefIdeal.nD Cert.AdamLRefIdeal.τ).loc Cert.AdamLRefIdeal.main_arg24) = m' ((c.tc : Thread Cert.AdamLRefIdeal.nD Cert.AdamLRefIdeal.τ).loc Cert.AdamLRefIdeal.main_arg24)
          ∧ r.2.mem ((c.tc : Thread Cert.AdamLRefIdeal.nD Cert.AdamLRefIdeal.τ).loc Cert.AdamLRefIdeal.main_arg25) = m' ((c.tc : Thread Cert.AdamLRefIdeal.nD Cert.AdamLRefIdeal.τ).loc Cert.AdamLRefIdeal.main_arg25)
          ∧ r.2.mem ((c.tc : Thread Cert.AdamLRefIdeal.nD Cert.AdamLRefIdeal.τ).loc Cert.AdamLRefIdeal.main_arg26) = m' ((c.tc : Thread Cert.AdamLRefIdeal.nD Cert.AdamLRefIdeal.τ).loc Cert.AdamLRefIdeal.main_arg26)
          ∧ r.2.mem ((c.tc : Thread Cert.AdamLRefIdeal.nD Cert.AdamLRefIdeal.τ).loc Cert.AdamLRefIdeal.main_arg27) = m' ((c.tc : Thread Cert.AdamLRefIdeal.nD Cert.AdamLRefIdeal.τ).loc Cert.AdamLRefIdeal.main_arg27)
          ∧ r.2.mem ((c.tc : Thread Cert.AdamLRefIdeal.nD Cert.AdamLRefIdeal.τ).loc Cert.AdamLRefIdeal.main_arg28) = m' ((c.tc : Thread Cert.AdamLRefIdeal.nD Cert.AdamLRefIdeal.τ).loc Cert.AdamLRefIdeal.main_arg28)
          ∧ r.2.mem ((c.tc : Thread Cert.AdamLRefIdeal.nD Cert.AdamLRefIdeal.τ).loc Cert.AdamLRefIdeal.main_arg29) = m' ((c.tc : Thread Cert.AdamLRefIdeal.nD Cert.AdamLRefIdeal.τ).loc Cert.AdamLRefIdeal.main_arg29)
          ∧ r.2.mem ((c.tc : Thread Cert.AdamLRefIdeal.nD Cert.AdamLRefIdeal.τ).loc Cert.AdamLRefIdeal.main_arg30) = m' ((c.tc : Thread Cert.AdamLRefIdeal.nD Cert.AdamLRefIdeal.τ).loc Cert.AdamLRefIdeal.main_arg30)
          ∧ r.2.mem ((c.tc : Thread Cert.AdamLRefIdeal.nD Cert.AdamLRefIdeal.τ).loc Cert.AdamLRefIdeal.main_arg31) = m' ((c.tc : Thread Cert.AdamLRefIdeal.nD Cert.AdamLRefIdeal.τ).loc Cert.AdamLRefIdeal.main_arg31))

def preserves_AdamS_AdamSIdeal : Prop :=
  True

def algebraic_AdamSIdeal_AdamSRefIdeal [hAdamSIdeal : Cert.AdamSIdeal.Facts] [hAdamSRefIdeal : Cert.AdamSRefIdeal.Facts] : Prop :=
  ∀ (m : (ℓ : Loc Cert.AdamSIdeal.nD Cert.AdamSIdeal.τ Cert.AdamSIdeal.sig) → Buf (Elt Ideal) ℓ) (g : Dev Cert.AdamSIdeal.nD → PrngReg)
    (m' : (ℓ : Loc Cert.AdamSRefIdeal.nD Cert.AdamSRefIdeal.τ Cert.AdamSRefIdeal.sig) → Buf (Elt Ideal) ℓ) (g' : Dev Cert.AdamSRefIdeal.nD → PrngReg), Pre_AdamSIdeal m →
    (∀ c : Dev Cert.AdamSIdeal.nD,
      m' ((c.tc : Thread Cert.AdamSRefIdeal.nD Cert.AdamSRefIdeal.τ).loc Cert.AdamSRefIdeal.main_arg0) = m ((c.tc : Thread Cert.AdamSIdeal.nD Cert.AdamSIdeal.τ).loc Cert.AdamSIdeal.main_arg0)
      ∧ m' ((c.tc : Thread Cert.AdamSRefIdeal.nD Cert.AdamSRefIdeal.τ).loc Cert.AdamSRefIdeal.main_arg1) = m ((c.tc : Thread Cert.AdamSIdeal.nD Cert.AdamSIdeal.τ).loc Cert.AdamSIdeal.main_arg1)
      ∧ m' ((c.tc : Thread Cert.AdamSRefIdeal.nD Cert.AdamSRefIdeal.τ).loc Cert.AdamSRefIdeal.main_arg2) = m ((c.tc : Thread Cert.AdamSIdeal.nD Cert.AdamSIdeal.τ).loc Cert.AdamSIdeal.main_arg2)
      ∧ m' ((c.tc : Thread Cert.AdamSRefIdeal.nD Cert.AdamSRefIdeal.τ).loc Cert.AdamSRefIdeal.main_arg3) = m ((c.tc : Thread Cert.AdamSIdeal.nD Cert.AdamSIdeal.τ).loc Cert.AdamSIdeal.main_arg3)
      ∧ m' ((c.tc : Thread Cert.AdamSRefIdeal.nD Cert.AdamSRefIdeal.τ).loc Cert.AdamSRefIdeal.main_arg4) = m ((c.tc : Thread Cert.AdamSIdeal.nD Cert.AdamSIdeal.τ).loc Cert.AdamSIdeal.main_arg4)
      ∧ m' ((c.tc : Thread Cert.AdamSRefIdeal.nD Cert.AdamSRefIdeal.τ).loc Cert.AdamSRefIdeal.main_arg5) = m ((c.tc : Thread Cert.AdamSIdeal.nD Cert.AdamSIdeal.τ).loc Cert.AdamSIdeal.main_arg5)
      ∧ m' ((c.tc : Thread Cert.AdamSRefIdeal.nD Cert.AdamSRefIdeal.τ).loc Cert.AdamSRefIdeal.main_arg6) = m ((c.tc : Thread Cert.AdamSIdeal.nD Cert.AdamSIdeal.τ).loc Cert.AdamSIdeal.main_arg6)
      ∧ m' ((c.tc : Thread Cert.AdamSRefIdeal.nD Cert.AdamSRefIdeal.τ).loc Cert.AdamSRefIdeal.main_arg7) = m ((c.tc : Thread Cert.AdamSIdeal.nD Cert.AdamSIdeal.τ).loc Cert.AdamSIdeal.main_arg7)
      ∧ m' ((c.tc : Thread Cert.AdamSRefIdeal.nD Cert.AdamSRefIdeal.τ).loc Cert.AdamSRefIdeal.main_arg8) = m ((c.tc : Thread Cert.AdamSIdeal.nD Cert.AdamSIdeal.τ).loc Cert.AdamSIdeal.main_arg8)
      ∧ m' ((c.tc : Thread Cert.AdamSRefIdeal.nD Cert.AdamSRefIdeal.τ).loc Cert.AdamSRefIdeal.main_arg9) = m ((c.tc : Thread Cert.AdamSIdeal.nD Cert.AdamSIdeal.τ).loc Cert.AdamSIdeal.main_arg9)
      ∧ m' ((c.tc : Thread Cert.AdamSRefIdeal.nD Cert.AdamSRefIdeal.τ).loc Cert.AdamSRefIdeal.main_arg10) = m ((c.tc : Thread Cert.AdamSIdeal.nD Cert.AdamSIdeal.τ).loc Cert.AdamSIdeal.main_arg10)
      ∧ m' ((c.tc : Thread Cert.AdamSRefIdeal.nD Cert.AdamSRefIdeal.τ).loc Cert.AdamSRefIdeal.main_arg11) = m ((c.tc : Thread Cert.AdamSIdeal.nD Cert.AdamSIdeal.τ).loc Cert.AdamSIdeal.main_arg11)
      ∧ m' ((c.tc : Thread Cert.AdamSRefIdeal.nD Cert.AdamSRefIdeal.τ).loc Cert.AdamSRefIdeal.main_arg12) = m ((c.tc : Thread Cert.AdamSIdeal.nD Cert.AdamSIdeal.τ).loc Cert.AdamSIdeal.main_arg12)
      ∧ m' ((c.tc : Thread Cert.AdamSRefIdeal.nD Cert.AdamSRefIdeal.τ).loc Cert.AdamSRefIdeal.main_arg13) = m ((c.tc : Thread Cert.AdamSIdeal.nD Cert.AdamSIdeal.τ).loc Cert.AdamSIdeal.main_arg13)
      ∧ m' ((c.tc : Thread Cert.AdamSRefIdeal.nD Cert.AdamSRefIdeal.τ).loc Cert.AdamSRefIdeal.main_arg14) = m ((c.tc : Thread Cert.AdamSIdeal.nD Cert.AdamSIdeal.τ).loc Cert.AdamSIdeal.main_arg14)
      ∧ m' ((c.tc : Thread Cert.AdamSRefIdeal.nD Cert.AdamSRefIdeal.τ).loc Cert.AdamSRefIdeal.main_arg15) = m ((c.tc : Thread Cert.AdamSIdeal.nD Cert.AdamSIdeal.τ).loc Cert.AdamSIdeal.main_arg15)
      ∧ m' ((c.tc : Thread Cert.AdamSRefIdeal.nD Cert.AdamSRefIdeal.τ).loc Cert.AdamSRefIdeal.main_arg16) = m ((c.tc : Thread Cert.AdamSIdeal.nD Cert.AdamSIdeal.τ).loc Cert.AdamSIdeal.main_arg16)
      ∧ m' ((c.tc : Thread Cert.AdamSRefIdeal.nD Cert.AdamSRefIdeal.τ).loc Cert.AdamSRefIdeal.main_arg17) = m ((c.tc : Thread Cert.AdamSIdeal.nD Cert.AdamSIdeal.τ).loc Cert.AdamSIdeal.main_arg17)
      ∧ m' ((c.tc : Thread Cert.AdamSRefIdeal.nD Cert.AdamSRefIdeal.τ).loc Cert.AdamSRefIdeal.main_arg18) = m ((c.tc : Thread Cert.AdamSIdeal.nD Cert.AdamSIdeal.τ).loc Cert.AdamSIdeal.main_arg18)
      ∧ m' ((c.tc : Thread Cert.AdamSRefIdeal.nD Cert.AdamSRefIdeal.τ).loc Cert.AdamSRefIdeal.main_arg19) = m ((c.tc : Thread Cert.AdamSIdeal.nD Cert.AdamSIdeal.τ).loc Cert.AdamSIdeal.main_arg19)
      ∧ m' ((c.tc : Thread Cert.AdamSRefIdeal.nD Cert.AdamSRefIdeal.τ).loc Cert.AdamSRefIdeal.main_arg20) = m ((c.tc : Thread Cert.AdamSIdeal.nD Cert.AdamSIdeal.τ).loc Cert.AdamSIdeal.main_arg20)
      ∧ m' ((c.tc : Thread Cert.AdamSRefIdeal.nD Cert.AdamSRefIdeal.τ).loc Cert.AdamSRefIdeal.main_arg21) = m ((c.tc : Thread Cert.AdamSIdeal.nD Cert.AdamSIdeal.τ).loc Cert.AdamSIdeal.main_arg21)
      ∧ m' ((c.tc : Thread Cert.AdamSRefIdeal.nD Cert.AdamSRefIdeal.τ).loc Cert.AdamSRefIdeal.main_arg22) = m ((c.tc : Thread Cert.AdamSIdeal.nD Cert.AdamSIdeal.τ).loc Cert.AdamSIdeal.main_arg22)
      ∧ m' ((c.tc : Thread Cert.AdamSRefIdeal.nD Cert.AdamSRefIdeal.τ).loc Cert.AdamSRefIdeal.main_arg23) = m ((c.tc : Thread Cert.AdamSIdeal.nD Cert.AdamSIdeal.τ).loc Cert.AdamSIdeal.main_arg23)
      ∧ m' ((c.tc : Thread Cert.AdamSRefIdeal.nD Cert.AdamSRefIdeal.τ).loc Cert.AdamSRefIdeal.main_arg24) = m ((c.tc : Thread Cert.AdamSIdeal.nD Cert.AdamSIdeal.τ).loc Cert.AdamSIdeal.main_arg24)
      ∧ m' ((c.tc : Thread Cert.AdamSRefIdeal.nD Cert.AdamSRefIdeal.τ).loc Cert.AdamSRefIdeal.main_arg25) = m ((c.tc : Thread Cert.AdamSIdeal.nD Cert.AdamSIdeal.τ).loc Cert.AdamSIdeal.main_arg25)
      ∧ m' ((c.tc : Thread Cert.AdamSRefIdeal.nD Cert.AdamSRefIdeal.τ).loc Cert.AdamSRefIdeal.main_arg26) = m ((c.tc : Thread Cert.AdamSIdeal.nD Cert.AdamSIdeal.τ).loc Cert.AdamSIdeal.main_arg26)
      ∧ m' ((c.tc : Thread Cert.AdamSRefIdeal.nD Cert.AdamSRefIdeal.τ).loc Cert.AdamSRefIdeal.main_arg27) = m ((c.tc : Thread Cert.AdamSIdeal.nD Cert.AdamSIdeal.τ).loc Cert.AdamSIdeal.main_arg27)
      ∧ m' ((c.tc : Thread Cert.AdamSRefIdeal.nD Cert.AdamSRefIdeal.τ).loc Cert.AdamSRefIdeal.main_arg28) = m ((c.tc : Thread Cert.AdamSIdeal.nD Cert.AdamSIdeal.τ).loc Cert.AdamSIdeal.main_arg28)
      ∧ m' ((c.tc : Thread Cert.AdamSRefIdeal.nD Cert.AdamSRefIdeal.τ).loc Cert.AdamSRefIdeal.main_arg29) = m ((c.tc : Thread Cert.AdamSIdeal.nD Cert.AdamSIdeal.τ).loc Cert.AdamSIdeal.main_arg29)
      ∧ m' ((c.tc : Thread Cert.AdamSRefIdeal.nD Cert.AdamSRefIdeal.τ).loc Cert.AdamSRefIdeal.main_arg30) = m ((c.tc : Thread Cert.AdamSIdeal.nD Cert.AdamSIdeal.τ).loc Cert.AdamSIdeal.main_arg30)
      ∧ m' ((c.tc : Thread Cert.AdamSRefIdeal.nD Cert.AdamSRefIdeal.τ).loc Cert.AdamSRefIdeal.main_arg31) = m ((c.tc : Thread Cert.AdamSIdeal.nD Cert.AdamSIdeal.τ).loc Cert.AdamSIdeal.main_arg31)
      ∧ m' ((c.tc : Thread Cert.AdamSRefIdeal.nD Cert.AdamSRefIdeal.τ).loc Cert.AdamSRefIdeal.main_arg32) = m ((c.tc : Thread Cert.AdamSIdeal.nD Cert.AdamSIdeal.τ).loc Cert.AdamSIdeal.main_arg32)
      ∧ m' ((c.tc : Thread Cert.AdamSRefIdeal.nD Cert.AdamSRefIdeal.τ).loc Cert.AdamSRefIdeal.main_arg33) = m ((c.tc : Thread Cert.AdamSIdeal.nD Cert.AdamSIdeal.τ).loc Cert.AdamSIdeal.main_arg33)
      ∧ m' ((c.tc : Thread Cert.AdamSRefIdeal.nD Cert.AdamSRefIdeal.τ).loc Cert.AdamSRefIdeal.main_arg34) = m ((c.tc : Thread Cert.AdamSIdeal.nD Cert.AdamSIdeal.τ).loc Cert.AdamSIdeal.main_arg34)
      ∧ m' ((c.tc : Thread Cert.AdamSRefIdeal.nD Cert.AdamSRefIdeal.τ).loc Cert.AdamSRefIdeal.main_arg35) = m ((c.tc : Thread Cert.AdamSIdeal.nD Cert.AdamSIdeal.τ).loc Cert.AdamSIdeal.main_arg35)
      ∧ m' ((c.tc : Thread Cert.AdamSRefIdeal.nD Cert.AdamSRefIdeal.τ).loc Cert.AdamSRefIdeal.main_arg36) = m ((c.tc : Thread Cert.AdamSIdeal.nD Cert.AdamSIdeal.τ).loc Cert.AdamSIdeal.main_arg36)
      ∧ m' ((c.tc : Thread Cert.AdamSRefIdeal.nD Cert.AdamSRefIdeal.τ).loc Cert.AdamSRefIdeal.main_arg37) = m ((c.tc : Thread Cert.AdamSIdeal.nD Cert.AdamSIdeal.τ).loc Cert.AdamSIdeal.main_arg37)
      ∧ m' ((c.tc : Thread Cert.AdamSRefIdeal.nD Cert.AdamSRefIdeal.τ).loc Cert.AdamSRefIdeal.main_arg38) = m ((c.tc : Thread Cert.AdamSIdeal.nD Cert.AdamSIdeal.τ).loc Cert.AdamSIdeal.main_arg38)
      ∧ m' ((c.tc : Thread Cert.AdamSRefIdeal.nD Cert.AdamSRefIdeal.τ).loc Cert.AdamSRefIdeal.main_arg39) = m ((c.tc : Thread Cert.AdamSIdeal.nD Cert.AdamSIdeal.τ).loc Cert.AdamSIdeal.main_arg39)) →
    ∃ (v0 : (c : Dev Cert.AdamSIdeal.nD) → Buf (Elt Ideal) ((c.tc : Thread Cert.AdamSIdeal.nD Cert.AdamSIdeal.τ).loc Cert.AdamSIdeal.main_v0_1)) (v1 : (c : Dev Cert.AdamSIdeal.nD) → Buf (Elt Ideal) ((c.tc : Thread Cert.AdamSIdeal.nD Cert.AdamSIdeal.τ).loc Cert.AdamSIdeal.main_v0_2)) (v2 : (c : Dev Cert.AdamSIdeal.nD) → Buf (Elt Ideal) ((c.tc : Thread Cert.AdamSIdeal.nD Cert.AdamSIdeal.τ).loc Cert.AdamSIdeal.main_v0_3)) (v3 : (c : Dev Cert.AdamSIdeal.nD) → Buf (Elt Ideal) ((c.tc : Thread Cert.AdamSIdeal.nD Cert.AdamSIdeal.τ).loc Cert.AdamSIdeal.main_v1_1)) (v4 : (c : Dev Cert.AdamSIdeal.nD) → Buf (Elt Ideal) ((c.tc : Thread Cert.AdamSIdeal.nD Cert.AdamSIdeal.τ).loc Cert.AdamSIdeal.main_v1_2)) (v5 : (c : Dev Cert.AdamSIdeal.nD) → Buf (Elt Ideal) ((c.tc : Thread Cert.AdamSIdeal.nD Cert.AdamSIdeal.τ).loc Cert.AdamSIdeal.main_v1_3)) (v6 : (c : Dev Cert.AdamSIdeal.nD) → Buf (Elt Ideal) ((c.tc : Thread Cert.AdamSIdeal.nD Cert.AdamSIdeal.τ).loc Cert.AdamSIdeal.main_v2_1)) (v7 : (c : Dev Cert.AdamSIdeal.nD) → Buf (Elt Ideal) ((c.tc : Thread Cert.AdamSIdeal.nD Cert.AdamSIdeal.τ).loc Cert.AdamSIdeal.main_v2_2)) (v8 : (c : Dev Cert.AdamSIdeal.nD) → Buf (Elt Ideal) ((c.tc : Thread Cert.AdamSIdeal.nD Cert.AdamSIdeal.τ).loc Cert.AdamSIdeal.main_v2_3)) (v9 : (c : Dev Cert.AdamSIdeal.nD) → Buf (Elt Ideal) ((c.tc : Thread Cert.AdamSIdeal.nD Cert.AdamSIdeal.τ).loc Cert.AdamSIdeal.main_v3_1)) (v10 : (c : Dev Cert.AdamSIdeal.nD) → Buf (Elt Ideal) ((c.tc : Thread Cert.AdamSIdeal.nD Cert.AdamSIdeal.τ).loc Cert.AdamSIdeal.main_v3_2)) (v11 : (c : Dev Cert.AdamSIdeal.nD) → Buf (Elt Ideal) ((c.tc : Thread Cert.AdamSIdeal.nD Cert.AdamSIdeal.τ).loc Cert.AdamSIdeal.main_v3_3)) (v12 : (c : Dev Cert.AdamSIdeal.nD) → Buf (Elt Ideal) ((c.tc : Thread Cert.AdamSIdeal.nD Cert.AdamSIdeal.τ).loc Cert.AdamSIdeal.main_v4_1)) (v13 : (c : Dev Cert.AdamSIdeal.nD) → Buf (Elt Ideal) ((c.tc : Thread Cert.AdamSIdeal.nD Cert.AdamSIdeal.τ).loc Cert.AdamSIdeal.main_v4_2)) (v14 : (c : Dev Cert.AdamSIdeal.nD) → Buf (Elt Ideal) ((c.tc : Thread Cert.AdamSIdeal.nD Cert.AdamSIdeal.τ).loc Cert.AdamSIdeal.main_v4_3)) (v15 : (c : Dev Cert.AdamSIdeal.nD) → Buf (Elt Ideal) ((c.tc : Thread Cert.AdamSIdeal.nD Cert.AdamSIdeal.τ).loc Cert.AdamSIdeal.main_v5_1)) (v16 : (c : Dev Cert.AdamSIdeal.nD) → Buf (Elt Ideal) ((c.tc : Thread Cert.AdamSIdeal.nD Cert.AdamSIdeal.τ).loc Cert.AdamSIdeal.main_v5_2)) (v17 : (c : Dev Cert.AdamSIdeal.nD) → Buf (Elt Ideal) ((c.tc : Thread Cert.AdamSIdeal.nD Cert.AdamSIdeal.τ).loc Cert.AdamSIdeal.main_v5_3)) (v18 : (c : Dev Cert.AdamSIdeal.nD) → Buf (Elt Ideal) ((c.tc : Thread Cert.AdamSIdeal.nD Cert.AdamSIdeal.τ).loc Cert.AdamSIdeal.main_v6_1)) (v19 : (c : Dev Cert.AdamSIdeal.nD) → Buf (Elt Ideal) ((c.tc : Thread Cert.AdamSIdeal.nD Cert.AdamSIdeal.τ).loc Cert.AdamSIdeal.main_v6_2)) (v20 : (c : Dev Cert.AdamSIdeal.nD) → Buf (Elt Ideal) ((c.tc : Thread Cert.AdamSIdeal.nD Cert.AdamSIdeal.τ).loc Cert.AdamSIdeal.main_v6_3)) (v21 : (c : Dev Cert.AdamSIdeal.nD) → Buf (Elt Ideal) ((c.tc : Thread Cert.AdamSIdeal.nD Cert.AdamSIdeal.τ).loc Cert.AdamSIdeal.main_v7_1)) (v22 : (c : Dev Cert.AdamSIdeal.nD) → Buf (Elt Ideal) ((c.tc : Thread Cert.AdamSIdeal.nD Cert.AdamSIdeal.τ).loc Cert.AdamSIdeal.main_v7_2)) (v23 : (c : Dev Cert.AdamSIdeal.nD) → Buf (Elt Ideal) ((c.tc : Thread Cert.AdamSIdeal.nD Cert.AdamSIdeal.τ).loc Cert.AdamSIdeal.main_v7_3)) (v24 : (c : Dev Cert.AdamSIdeal.nD) → Buf (Elt Ideal) ((c.tc : Thread Cert.AdamSIdeal.nD Cert.AdamSIdeal.τ).loc Cert.AdamSIdeal.main_v8_1)) (v25 : (c : Dev Cert.AdamSIdeal.nD) → Buf (Elt Ideal) ((c.tc : Thread Cert.AdamSIdeal.nD Cert.AdamSIdeal.τ).loc Cert.AdamSIdeal.main_v8_2)) (v26 : (c : Dev Cert.AdamSIdeal.nD) → Buf (Elt Ideal) ((c.tc : Thread Cert.AdamSIdeal.nD Cert.AdamSIdeal.τ).loc Cert.AdamSIdeal.main_v8_3)) (v27 : (c : Dev Cert.AdamSIdeal.nD) → Buf (Elt Ideal) ((c.tc : Thread Cert.AdamSIdeal.nD Cert.AdamSIdeal.τ).loc Cert.AdamSIdeal.main_v9_1)) (v28 : (c : Dev Cert.AdamSIdeal.nD) → Buf (Elt Ideal) ((c.tc : Thread Cert.AdamSIdeal.nD Cert.AdamSIdeal.τ).loc Cert.AdamSIdeal.main_v9_2)) (v29 : (c : Dev Cert.AdamSIdeal.nD) → Buf (Elt Ideal) ((c.tc : Thread Cert.AdamSIdeal.nD Cert.AdamSIdeal.τ).loc Cert.AdamSIdeal.main_v9_3)),
      θ_run (Cert.AdamSIdeal.defs (F := Ideal)) (onTc (τ := Cert.AdamSIdeal.τ) (Cert.AdamSIdeal.main (F := Ideal))) ⟨m, fun _ => 0, g⟩ (fun r => ∀ c : Dev Cert.AdamSIdeal.nD,
          r.2.mem ((c.tc : Thread Cert.AdamSIdeal.nD Cert.AdamSIdeal.τ).loc Cert.AdamSIdeal.main_v0_1) = v0 c
          ∧ r.2.mem ((c.tc : Thread Cert.AdamSIdeal.nD Cert.AdamSIdeal.τ).loc Cert.AdamSIdeal.main_v0_2) = v1 c
          ∧ r.2.mem ((c.tc : Thread Cert.AdamSIdeal.nD Cert.AdamSIdeal.τ).loc Cert.AdamSIdeal.main_v0_3) = v2 c
          ∧ r.2.mem ((c.tc : Thread Cert.AdamSIdeal.nD Cert.AdamSIdeal.τ).loc Cert.AdamSIdeal.main_v1_1) = v3 c
          ∧ r.2.mem ((c.tc : Thread Cert.AdamSIdeal.nD Cert.AdamSIdeal.τ).loc Cert.AdamSIdeal.main_v1_2) = v4 c
          ∧ r.2.mem ((c.tc : Thread Cert.AdamSIdeal.nD Cert.AdamSIdeal.τ).loc Cert.AdamSIdeal.main_v1_3) = v5 c
          ∧ r.2.mem ((c.tc : Thread Cert.AdamSIdeal.nD Cert.AdamSIdeal.τ).loc Cert.AdamSIdeal.main_v2_1) = v6 c
          ∧ r.2.mem ((c.tc : Thread Cert.AdamSIdeal.nD Cert.AdamSIdeal.τ).loc Cert.AdamSIdeal.main_v2_2) = v7 c
          ∧ r.2.mem ((c.tc : Thread Cert.AdamSIdeal.nD Cert.AdamSIdeal.τ).loc Cert.AdamSIdeal.main_v2_3) = v8 c
          ∧ r.2.mem ((c.tc : Thread Cert.AdamSIdeal.nD Cert.AdamSIdeal.τ).loc Cert.AdamSIdeal.main_v3_1) = v9 c
          ∧ r.2.mem ((c.tc : Thread Cert.AdamSIdeal.nD Cert.AdamSIdeal.τ).loc Cert.AdamSIdeal.main_v3_2) = v10 c
          ∧ r.2.mem ((c.tc : Thread Cert.AdamSIdeal.nD Cert.AdamSIdeal.τ).loc Cert.AdamSIdeal.main_v3_3) = v11 c
          ∧ r.2.mem ((c.tc : Thread Cert.AdamSIdeal.nD Cert.AdamSIdeal.τ).loc Cert.AdamSIdeal.main_v4_1) = v12 c
          ∧ r.2.mem ((c.tc : Thread Cert.AdamSIdeal.nD Cert.AdamSIdeal.τ).loc Cert.AdamSIdeal.main_v4_2) = v13 c
          ∧ r.2.mem ((c.tc : Thread Cert.AdamSIdeal.nD Cert.AdamSIdeal.τ).loc Cert.AdamSIdeal.main_v4_3) = v14 c
          ∧ r.2.mem ((c.tc : Thread Cert.AdamSIdeal.nD Cert.AdamSIdeal.τ).loc Cert.AdamSIdeal.main_v5_1) = v15 c
          ∧ r.2.mem ((c.tc : Thread Cert.AdamSIdeal.nD Cert.AdamSIdeal.τ).loc Cert.AdamSIdeal.main_v5_2) = v16 c
          ∧ r.2.mem ((c.tc : Thread Cert.AdamSIdeal.nD Cert.AdamSIdeal.τ).loc Cert.AdamSIdeal.main_v5_3) = v17 c
          ∧ r.2.mem ((c.tc : Thread Cert.AdamSIdeal.nD Cert.AdamSIdeal.τ).loc Cert.AdamSIdeal.main_v6_1) = v18 c
          ∧ r.2.mem ((c.tc : Thread Cert.AdamSIdeal.nD Cert.AdamSIdeal.τ).loc Cert.AdamSIdeal.main_v6_2) = v19 c
          ∧ r.2.mem ((c.tc : Thread Cert.AdamSIdeal.nD Cert.AdamSIdeal.τ).loc Cert.AdamSIdeal.main_v6_3) = v20 c
          ∧ r.2.mem ((c.tc : Thread Cert.AdamSIdeal.nD Cert.AdamSIdeal.τ).loc Cert.AdamSIdeal.main_v7_1) = v21 c
          ∧ r.2.mem ((c.tc : Thread Cert.AdamSIdeal.nD Cert.AdamSIdeal.τ).loc Cert.AdamSIdeal.main_v7_2) = v22 c
          ∧ r.2.mem ((c.tc : Thread Cert.AdamSIdeal.nD Cert.AdamSIdeal.τ).loc Cert.AdamSIdeal.main_v7_3) = v23 c
          ∧ r.2.mem ((c.tc : Thread Cert.AdamSIdeal.nD Cert.AdamSIdeal.τ).loc Cert.AdamSIdeal.main_v8_1) = v24 c
          ∧ r.2.mem ((c.tc : Thread Cert.AdamSIdeal.nD Cert.AdamSIdeal.τ).loc Cert.AdamSIdeal.main_v8_2) = v25 c
          ∧ r.2.mem ((c.tc : Thread Cert.AdamSIdeal.nD Cert.AdamSIdeal.τ).loc Cert.AdamSIdeal.main_v8_3) = v26 c
          ∧ r.2.mem ((c.tc : Thread Cert.AdamSIdeal.nD Cert.AdamSIdeal.τ).loc Cert.AdamSIdeal.main_v9_1) = v27 c
          ∧ r.2.mem ((c.tc : Thread Cert.AdamSIdeal.nD Cert.AdamSIdeal.τ).loc Cert.AdamSIdeal.main_v9_2) = v28 c
          ∧ r.2.mem ((c.tc : Thread Cert.AdamSIdeal.nD Cert.AdamSIdeal.τ).loc Cert.AdamSIdeal.main_v9_3) = v29 c
          ∧ r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
          ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
          ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
          ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3)
          ∧ r.2.mem ((c.tc : Thread Cert.AdamSIdeal.nD Cert.AdamSIdeal.τ).loc Cert.AdamSIdeal.main_arg4) = m ((c.tc : Thread Cert.AdamSIdeal.nD Cert.AdamSIdeal.τ).loc Cert.AdamSIdeal.main_arg4)
          ∧ r.2.mem ((c.tc : Thread Cert.AdamSIdeal.nD Cert.AdamSIdeal.τ).loc Cert.AdamSIdeal.main_arg5) = m ((c.tc : Thread Cert.AdamSIdeal.nD Cert.AdamSIdeal.τ).loc Cert.AdamSIdeal.main_arg5)
          ∧ r.2.mem ((c.tc : Thread Cert.AdamSIdeal.nD Cert.AdamSIdeal.τ).loc Cert.AdamSIdeal.main_arg6) = m ((c.tc : Thread Cert.AdamSIdeal.nD Cert.AdamSIdeal.τ).loc Cert.AdamSIdeal.main_arg6)
          ∧ r.2.mem ((c.tc : Thread Cert.AdamSIdeal.nD Cert.AdamSIdeal.τ).loc Cert.AdamSIdeal.main_arg7) = m ((c.tc : Thread Cert.AdamSIdeal.nD Cert.AdamSIdeal.τ).loc Cert.AdamSIdeal.main_arg7)
          ∧ r.2.mem ((c.tc : Thread Cert.AdamSIdeal.nD Cert.AdamSIdeal.τ).loc Cert.AdamSIdeal.main_arg8) = m ((c.tc : Thread Cert.AdamSIdeal.nD Cert.AdamSIdeal.τ).loc Cert.AdamSIdeal.main_arg8)
          ∧ r.2.mem ((c.tc : Thread Cert.AdamSIdeal.nD Cert.AdamSIdeal.τ).loc Cert.AdamSIdeal.main_arg9) = m ((c.tc : Thread Cert.AdamSIdeal.nD Cert.AdamSIdeal.τ).loc Cert.AdamSIdeal.main_arg9)
          ∧ r.2.mem ((c.tc : Thread Cert.AdamSIdeal.nD Cert.AdamSIdeal.τ).loc Cert.AdamSIdeal.main_arg10) = m ((c.tc : Thread Cert.AdamSIdeal.nD Cert.AdamSIdeal.τ).loc Cert.AdamSIdeal.main_arg10)
          ∧ r.2.mem ((c.tc : Thread Cert.AdamSIdeal.nD Cert.AdamSIdeal.τ).loc Cert.AdamSIdeal.main_arg11) = m ((c.tc : Thread Cert.AdamSIdeal.nD Cert.AdamSIdeal.τ).loc Cert.AdamSIdeal.main_arg11)
          ∧ r.2.mem ((c.tc : Thread Cert.AdamSIdeal.nD Cert.AdamSIdeal.τ).loc Cert.AdamSIdeal.main_arg12) = m ((c.tc : Thread Cert.AdamSIdeal.nD Cert.AdamSIdeal.τ).loc Cert.AdamSIdeal.main_arg12)
          ∧ r.2.mem ((c.tc : Thread Cert.AdamSIdeal.nD Cert.AdamSIdeal.τ).loc Cert.AdamSIdeal.main_arg13) = m ((c.tc : Thread Cert.AdamSIdeal.nD Cert.AdamSIdeal.τ).loc Cert.AdamSIdeal.main_arg13)
          ∧ r.2.mem ((c.tc : Thread Cert.AdamSIdeal.nD Cert.AdamSIdeal.τ).loc Cert.AdamSIdeal.main_arg14) = m ((c.tc : Thread Cert.AdamSIdeal.nD Cert.AdamSIdeal.τ).loc Cert.AdamSIdeal.main_arg14)
          ∧ r.2.mem ((c.tc : Thread Cert.AdamSIdeal.nD Cert.AdamSIdeal.τ).loc Cert.AdamSIdeal.main_arg15) = m ((c.tc : Thread Cert.AdamSIdeal.nD Cert.AdamSIdeal.τ).loc Cert.AdamSIdeal.main_arg15)
          ∧ r.2.mem ((c.tc : Thread Cert.AdamSIdeal.nD Cert.AdamSIdeal.τ).loc Cert.AdamSIdeal.main_arg16) = m ((c.tc : Thread Cert.AdamSIdeal.nD Cert.AdamSIdeal.τ).loc Cert.AdamSIdeal.main_arg16)
          ∧ r.2.mem ((c.tc : Thread Cert.AdamSIdeal.nD Cert.AdamSIdeal.τ).loc Cert.AdamSIdeal.main_arg17) = m ((c.tc : Thread Cert.AdamSIdeal.nD Cert.AdamSIdeal.τ).loc Cert.AdamSIdeal.main_arg17)
          ∧ r.2.mem ((c.tc : Thread Cert.AdamSIdeal.nD Cert.AdamSIdeal.τ).loc Cert.AdamSIdeal.main_arg18) = m ((c.tc : Thread Cert.AdamSIdeal.nD Cert.AdamSIdeal.τ).loc Cert.AdamSIdeal.main_arg18)
          ∧ r.2.mem ((c.tc : Thread Cert.AdamSIdeal.nD Cert.AdamSIdeal.τ).loc Cert.AdamSIdeal.main_arg19) = m ((c.tc : Thread Cert.AdamSIdeal.nD Cert.AdamSIdeal.τ).loc Cert.AdamSIdeal.main_arg19)
          ∧ r.2.mem ((c.tc : Thread Cert.AdamSIdeal.nD Cert.AdamSIdeal.τ).loc Cert.AdamSIdeal.main_arg20) = m ((c.tc : Thread Cert.AdamSIdeal.nD Cert.AdamSIdeal.τ).loc Cert.AdamSIdeal.main_arg20)
          ∧ r.2.mem ((c.tc : Thread Cert.AdamSIdeal.nD Cert.AdamSIdeal.τ).loc Cert.AdamSIdeal.main_arg21) = m ((c.tc : Thread Cert.AdamSIdeal.nD Cert.AdamSIdeal.τ).loc Cert.AdamSIdeal.main_arg21)
          ∧ r.2.mem ((c.tc : Thread Cert.AdamSIdeal.nD Cert.AdamSIdeal.τ).loc Cert.AdamSIdeal.main_arg22) = m ((c.tc : Thread Cert.AdamSIdeal.nD Cert.AdamSIdeal.τ).loc Cert.AdamSIdeal.main_arg22)
          ∧ r.2.mem ((c.tc : Thread Cert.AdamSIdeal.nD Cert.AdamSIdeal.τ).loc Cert.AdamSIdeal.main_arg23) = m ((c.tc : Thread Cert.AdamSIdeal.nD Cert.AdamSIdeal.τ).loc Cert.AdamSIdeal.main_arg23)
          ∧ r.2.mem ((c.tc : Thread Cert.AdamSIdeal.nD Cert.AdamSIdeal.τ).loc Cert.AdamSIdeal.main_arg24) = m ((c.tc : Thread Cert.AdamSIdeal.nD Cert.AdamSIdeal.τ).loc Cert.AdamSIdeal.main_arg24)
          ∧ r.2.mem ((c.tc : Thread Cert.AdamSIdeal.nD Cert.AdamSIdeal.τ).loc Cert.AdamSIdeal.main_arg25) = m ((c.tc : Thread Cert.AdamSIdeal.nD Cert.AdamSIdeal.τ).loc Cert.AdamSIdeal.main_arg25)
          ∧ r.2.mem ((c.tc : Thread Cert.AdamSIdeal.nD Cert.AdamSIdeal.τ).loc Cert.AdamSIdeal.main_arg26) = m ((c.tc : Thread Cert.AdamSIdeal.nD Cert.AdamSIdeal.τ).loc Cert.AdamSIdeal.main_arg26)
          ∧ r.2.mem ((c.tc : Thread Cert.AdamSIdeal.nD Cert.AdamSIdeal.τ).loc Cert.AdamSIdeal.main_arg27) = m ((c.tc : Thread Cert.AdamSIdeal.nD Cert.AdamSIdeal.τ).loc Cert.AdamSIdeal.main_arg27)
          ∧ r.2.mem ((c.tc : Thread Cert.AdamSIdeal.nD Cert.AdamSIdeal.τ).loc Cert.AdamSIdeal.main_arg28) = m ((c.tc : Thread Cert.AdamSIdeal.nD Cert.AdamSIdeal.τ).loc Cert.AdamSIdeal.main_arg28)
          ∧ r.2.mem ((c.tc : Thread Cert.AdamSIdeal.nD Cert.AdamSIdeal.τ).loc Cert.AdamSIdeal.main_arg29) = m ((c.tc : Thread Cert.AdamSIdeal.nD Cert.AdamSIdeal.τ).loc Cert.AdamSIdeal.main_arg29)
          ∧ r.2.mem ((c.tc : Thread Cert.AdamSIdeal.nD Cert.AdamSIdeal.τ).loc Cert.AdamSIdeal.main_arg30) = m ((c.tc : Thread Cert.AdamSIdeal.nD Cert.AdamSIdeal.τ).loc Cert.AdamSIdeal.main_arg30)
          ∧ r.2.mem ((c.tc : Thread Cert.AdamSIdeal.nD Cert.AdamSIdeal.τ).loc Cert.AdamSIdeal.main_arg31) = m ((c.tc : Thread Cert.AdamSIdeal.nD Cert.AdamSIdeal.τ).loc Cert.AdamSIdeal.main_arg31)
          ∧ r.2.mem ((c.tc : Thread Cert.AdamSIdeal.nD Cert.AdamSIdeal.τ).loc Cert.AdamSIdeal.main_arg32) = m ((c.tc : Thread Cert.AdamSIdeal.nD Cert.AdamSIdeal.τ).loc Cert.AdamSIdeal.main_arg32)
          ∧ r.2.mem ((c.tc : Thread Cert.AdamSIdeal.nD Cert.AdamSIdeal.τ).loc Cert.AdamSIdeal.main_arg33) = m ((c.tc : Thread Cert.AdamSIdeal.nD Cert.AdamSIdeal.τ).loc Cert.AdamSIdeal.main_arg33)
          ∧ r.2.mem ((c.tc : Thread Cert.AdamSIdeal.nD Cert.AdamSIdeal.τ).loc Cert.AdamSIdeal.main_arg34) = m ((c.tc : Thread Cert.AdamSIdeal.nD Cert.AdamSIdeal.τ).loc Cert.AdamSIdeal.main_arg34)
          ∧ r.2.mem ((c.tc : Thread Cert.AdamSIdeal.nD Cert.AdamSIdeal.τ).loc Cert.AdamSIdeal.main_arg35) = m ((c.tc : Thread Cert.AdamSIdeal.nD Cert.AdamSIdeal.τ).loc Cert.AdamSIdeal.main_arg35)
          ∧ r.2.mem ((c.tc : Thread Cert.AdamSIdeal.nD Cert.AdamSIdeal.τ).loc Cert.AdamSIdeal.main_arg36) = m ((c.tc : Thread Cert.AdamSIdeal.nD Cert.AdamSIdeal.τ).loc Cert.AdamSIdeal.main_arg36)
          ∧ r.2.mem ((c.tc : Thread Cert.AdamSIdeal.nD Cert.AdamSIdeal.τ).loc Cert.AdamSIdeal.main_arg37) = m ((c.tc : Thread Cert.AdamSIdeal.nD Cert.AdamSIdeal.τ).loc Cert.AdamSIdeal.main_arg37)
          ∧ r.2.mem ((c.tc : Thread Cert.AdamSIdeal.nD Cert.AdamSIdeal.τ).loc Cert.AdamSIdeal.main_arg38) = m ((c.tc : Thread Cert.AdamSIdeal.nD Cert.AdamSIdeal.τ).loc Cert.AdamSIdeal.main_arg38)
          ∧ r.2.mem ((c.tc : Thread Cert.AdamSIdeal.nD Cert.AdamSIdeal.τ).loc Cert.AdamSIdeal.main_arg39) = m ((c.tc : Thread Cert.AdamSIdeal.nD Cert.AdamSIdeal.τ).loc Cert.AdamSIdeal.main_arg39))
      ∧ θ_run (Cert.AdamSRefIdeal.defs (F := Ideal)) (onTc (τ := Cert.AdamSRefIdeal.τ) (Cert.AdamSRefIdeal.main (F := Ideal))) ⟨m', fun _ => 0, g'⟩ (fun r => ∀ c : Dev Cert.AdamSRefIdeal.nD,
          r.2.mem ((c.tc : Thread Cert.AdamSRefIdeal.nD Cert.AdamSRefIdeal.τ).loc Cert.AdamSRefIdeal.main_v23) = v0 c
          ∧ r.2.mem ((c.tc : Thread Cert.AdamSRefIdeal.nD Cert.AdamSRefIdeal.τ).loc Cert.AdamSRefIdeal.main_v4) = v1 c
          ∧ r.2.mem ((c.tc : Thread Cert.AdamSRefIdeal.nD Cert.AdamSRefIdeal.τ).loc Cert.AdamSRefIdeal.main_v10) = v2 c
          ∧ r.2.mem ((c.tc : Thread Cert.AdamSRefIdeal.nD Cert.AdamSRefIdeal.τ).loc Cert.AdamSRefIdeal.main_v47) = v3 c
          ∧ r.2.mem ((c.tc : Thread Cert.AdamSRefIdeal.nD Cert.AdamSRefIdeal.τ).loc Cert.AdamSRefIdeal.main_v28) = v4 c
          ∧ r.2.mem ((c.tc : Thread Cert.AdamSRefIdeal.nD Cert.AdamSRefIdeal.τ).loc Cert.AdamSRefIdeal.main_v34) = v5 c
          ∧ r.2.mem ((c.tc : Thread Cert.AdamSRefIdeal.nD Cert.AdamSRefIdeal.τ).loc Cert.AdamSRefIdeal.main_v71) = v6 c
          ∧ r.2.mem ((c.tc : Thread Cert.AdamSRefIdeal.nD Cert.AdamSRefIdeal.τ).loc Cert.AdamSRefIdeal.main_v52) = v7 c
          ∧ r.2.mem ((c.tc : Thread Cert.AdamSRefIdeal.nD Cert.AdamSRefIdeal.τ).loc Cert.AdamSRefIdeal.main_v58) = v8 c
          ∧ r.2.mem ((c.tc : Thread Cert.AdamSRefIdeal.nD Cert.AdamSRefIdeal.τ).loc Cert.AdamSRefIdeal.main_v95) = v9 c
          ∧ r.2.mem ((c.tc : Thread Cert.AdamSRefIdeal.nD Cert.AdamSRefIdeal.τ).loc Cert.AdamSRefIdeal.main_v76) = v10 c
          ∧ r.2.mem ((c.tc : Thread Cert.AdamSRefIdeal.nD Cert.AdamSRefIdeal.τ).loc Cert.AdamSRefIdeal.main_v82) = v11 c
          ∧ r.2.mem ((c.tc : Thread Cert.AdamSRefIdeal.nD Cert.AdamSRefIdeal.τ).loc Cert.AdamSRefIdeal.main_v119) = v12 c
          ∧ r.2.mem ((c.tc : Thread Cert.AdamSRefIdeal.nD Cert.AdamSRefIdeal.τ).loc Cert.AdamSRefIdeal.main_v100) = v13 c
          ∧ r.2.mem ((c.tc : Thread Cert.AdamSRefIdeal.nD Cert.AdamSRefIdeal.τ).loc Cert.AdamSRefIdeal.main_v106) = v14 c
          ∧ r.2.mem ((c.tc : Thread Cert.AdamSRefIdeal.nD Cert.AdamSRefIdeal.τ).loc Cert.AdamSRefIdeal.main_v143) = v15 c
          ∧ r.2.mem ((c.tc : Thread Cert.AdamSRefIdeal.nD Cert.AdamSRefIdeal.τ).loc Cert.AdamSRefIdeal.main_v124) = v16 c
          ∧ r.2.mem ((c.tc : Thread Cert.AdamSRefIdeal.nD Cert.AdamSRefIdeal.τ).loc Cert.AdamSRefIdeal.main_v130) = v17 c
          ∧ r.2.mem ((c.tc : Thread Cert.AdamSRefIdeal.nD Cert.AdamSRefIdeal.τ).loc Cert.AdamSRefIdeal.main_v167) = v18 c
          ∧ r.2.mem ((c.tc : Thread Cert.AdamSRefIdeal.nD Cert.AdamSRefIdeal.τ).loc Cert.AdamSRefIdeal.main_v148) = v19 c
          ∧ r.2.mem ((c.tc : Thread Cert.AdamSRefIdeal.nD Cert.AdamSRefIdeal.τ).loc Cert.AdamSRefIdeal.main_v154) = v20 c
          ∧ r.2.mem ((c.tc : Thread Cert.AdamSRefIdeal.nD Cert.AdamSRefIdeal.τ).loc Cert.AdamSRefIdeal.main_v191) = v21 c
          ∧ r.2.mem ((c.tc : Thread Cert.AdamSRefIdeal.nD Cert.AdamSRefIdeal.τ).loc Cert.AdamSRefIdeal.main_v172) = v22 c
          ∧ r.2.mem ((c.tc : Thread Cert.AdamSRefIdeal.nD Cert.AdamSRefIdeal.τ).loc Cert.AdamSRefIdeal.main_v178) = v23 c
          ∧ r.2.mem ((c.tc : Thread Cert.AdamSRefIdeal.nD Cert.AdamSRefIdeal.τ).loc Cert.AdamSRefIdeal.main_v215) = v24 c
          ∧ r.2.mem ((c.tc : Thread Cert.AdamSRefIdeal.nD Cert.AdamSRefIdeal.τ).loc Cert.AdamSRefIdeal.main_v196) = v25 c
          ∧ r.2.mem ((c.tc : Thread Cert.AdamSRefIdeal.nD Cert.AdamSRefIdeal.τ).loc Cert.AdamSRefIdeal.main_v202) = v26 c
          ∧ r.2.mem ((c.tc : Thread Cert.AdamSRefIdeal.nD Cert.AdamSRefIdeal.τ).loc Cert.AdamSRefIdeal.main_v239) = v27 c
          ∧ r.2.mem ((c.tc : Thread Cert.AdamSRefIdeal.nD Cert.AdamSRefIdeal.τ).loc Cert.AdamSRefIdeal.main_v220) = v28 c
          ∧ r.2.mem ((c.tc : Thread Cert.AdamSRefIdeal.nD Cert.AdamSRefIdeal.τ).loc Cert.AdamSRefIdeal.main_v226) = v29 c
          ∧ r.2.mem ((c.tc : Thread Cert.AdamSRefIdeal.nD Cert.AdamSRefIdeal.τ).loc Cert.AdamSRefIdeal.main_arg0) = m' ((c.tc : Thread Cert.AdamSRefIdeal.nD Cert.AdamSRefIdeal.τ).loc Cert.AdamSRefIdeal.main_arg0)
          ∧ r.2.mem ((c.tc : Thread Cert.AdamSRefIdeal.nD Cert.AdamSRefIdeal.τ).loc Cert.AdamSRefIdeal.main_arg1) = m' ((c.tc : Thread Cert.AdamSRefIdeal.nD Cert.AdamSRefIdeal.τ).loc Cert.AdamSRefIdeal.main_arg1)
          ∧ r.2.mem ((c.tc : Thread Cert.AdamSRefIdeal.nD Cert.AdamSRefIdeal.τ).loc Cert.AdamSRefIdeal.main_arg2) = m' ((c.tc : Thread Cert.AdamSRefIdeal.nD Cert.AdamSRefIdeal.τ).loc Cert.AdamSRefIdeal.main_arg2)
          ∧ r.2.mem ((c.tc : Thread Cert.AdamSRefIdeal.nD Cert.AdamSRefIdeal.τ).loc Cert.AdamSRefIdeal.main_arg3) = m' ((c.tc : Thread Cert.AdamSRefIdeal.nD Cert.AdamSRefIdeal.τ).loc Cert.AdamSRefIdeal.main_arg3)
          ∧ r.2.mem ((c.tc : Thread Cert.AdamSRefIdeal.nD Cert.AdamSRefIdeal.τ).loc Cert.AdamSRefIdeal.main_arg4) = m' ((c.tc : Thread Cert.AdamSRefIdeal.nD Cert.AdamSRefIdeal.τ).loc Cert.AdamSRefIdeal.main_arg4)
          ∧ r.2.mem ((c.tc : Thread Cert.AdamSRefIdeal.nD Cert.AdamSRefIdeal.τ).loc Cert.AdamSRefIdeal.main_arg5) = m' ((c.tc : Thread Cert.AdamSRefIdeal.nD Cert.AdamSRefIdeal.τ).loc Cert.AdamSRefIdeal.main_arg5)
          ∧ r.2.mem ((c.tc : Thread Cert.AdamSRefIdeal.nD Cert.AdamSRefIdeal.τ).loc Cert.AdamSRefIdeal.main_arg6) = m' ((c.tc : Thread Cert.AdamSRefIdeal.nD Cert.AdamSRefIdeal.τ).loc Cert.AdamSRefIdeal.main_arg6)
          ∧ r.2.mem ((c.tc : Thread Cert.AdamSRefIdeal.nD Cert.AdamSRefIdeal.τ).loc Cert.AdamSRefIdeal.main_arg7) = m' ((c.tc : Thread Cert.AdamSRefIdeal.nD Cert.AdamSRefIdeal.τ).loc Cert.AdamSRefIdeal.main_arg7)
          ∧ r.2.mem ((c.tc : Thread Cert.AdamSRefIdeal.nD Cert.AdamSRefIdeal.τ).loc Cert.AdamSRefIdeal.main_arg8) = m' ((c.tc : Thread Cert.AdamSRefIdeal.nD Cert.AdamSRefIdeal.τ).loc Cert.AdamSRefIdeal.main_arg8)
          ∧ r.2.mem ((c.tc : Thread Cert.AdamSRefIdeal.nD Cert.AdamSRefIdeal.τ).loc Cert.AdamSRefIdeal.main_arg9) = m' ((c.tc : Thread Cert.AdamSRefIdeal.nD Cert.AdamSRefIdeal.τ).loc Cert.AdamSRefIdeal.main_arg9)
          ∧ r.2.mem ((c.tc : Thread Cert.AdamSRefIdeal.nD Cert.AdamSRefIdeal.τ).loc Cert.AdamSRefIdeal.main_arg10) = m' ((c.tc : Thread Cert.AdamSRefIdeal.nD Cert.AdamSRefIdeal.τ).loc Cert.AdamSRefIdeal.main_arg10)
          ∧ r.2.mem ((c.tc : Thread Cert.AdamSRefIdeal.nD Cert.AdamSRefIdeal.τ).loc Cert.AdamSRefIdeal.main_arg11) = m' ((c.tc : Thread Cert.AdamSRefIdeal.nD Cert.AdamSRefIdeal.τ).loc Cert.AdamSRefIdeal.main_arg11)
          ∧ r.2.mem ((c.tc : Thread Cert.AdamSRefIdeal.nD Cert.AdamSRefIdeal.τ).loc Cert.AdamSRefIdeal.main_arg12) = m' ((c.tc : Thread Cert.AdamSRefIdeal.nD Cert.AdamSRefIdeal.τ).loc Cert.AdamSRefIdeal.main_arg12)
          ∧ r.2.mem ((c.tc : Thread Cert.AdamSRefIdeal.nD Cert.AdamSRefIdeal.τ).loc Cert.AdamSRefIdeal.main_arg13) = m' ((c.tc : Thread Cert.AdamSRefIdeal.nD Cert.AdamSRefIdeal.τ).loc Cert.AdamSRefIdeal.main_arg13)
          ∧ r.2.mem ((c.tc : Thread Cert.AdamSRefIdeal.nD Cert.AdamSRefIdeal.τ).loc Cert.AdamSRefIdeal.main_arg14) = m' ((c.tc : Thread Cert.AdamSRefIdeal.nD Cert.AdamSRefIdeal.τ).loc Cert.AdamSRefIdeal.main_arg14)
          ∧ r.2.mem ((c.tc : Thread Cert.AdamSRefIdeal.nD Cert.AdamSRefIdeal.τ).loc Cert.AdamSRefIdeal.main_arg15) = m' ((c.tc : Thread Cert.AdamSRefIdeal.nD Cert.AdamSRefIdeal.τ).loc Cert.AdamSRefIdeal.main_arg15)
          ∧ r.2.mem ((c.tc : Thread Cert.AdamSRefIdeal.nD Cert.AdamSRefIdeal.τ).loc Cert.AdamSRefIdeal.main_arg16) = m' ((c.tc : Thread Cert.AdamSRefIdeal.nD Cert.AdamSRefIdeal.τ).loc Cert.AdamSRefIdeal.main_arg16)
          ∧ r.2.mem ((c.tc : Thread Cert.AdamSRefIdeal.nD Cert.AdamSRefIdeal.τ).loc Cert.AdamSRefIdeal.main_arg17) = m' ((c.tc : Thread Cert.AdamSRefIdeal.nD Cert.AdamSRefIdeal.τ).loc Cert.AdamSRefIdeal.main_arg17)
          ∧ r.2.mem ((c.tc : Thread Cert.AdamSRefIdeal.nD Cert.AdamSRefIdeal.τ).loc Cert.AdamSRefIdeal.main_arg18) = m' ((c.tc : Thread Cert.AdamSRefIdeal.nD Cert.AdamSRefIdeal.τ).loc Cert.AdamSRefIdeal.main_arg18)
          ∧ r.2.mem ((c.tc : Thread Cert.AdamSRefIdeal.nD Cert.AdamSRefIdeal.τ).loc Cert.AdamSRefIdeal.main_arg19) = m' ((c.tc : Thread Cert.AdamSRefIdeal.nD Cert.AdamSRefIdeal.τ).loc Cert.AdamSRefIdeal.main_arg19)
          ∧ r.2.mem ((c.tc : Thread Cert.AdamSRefIdeal.nD Cert.AdamSRefIdeal.τ).loc Cert.AdamSRefIdeal.main_arg20) = m' ((c.tc : Thread Cert.AdamSRefIdeal.nD Cert.AdamSRefIdeal.τ).loc Cert.AdamSRefIdeal.main_arg20)
          ∧ r.2.mem ((c.tc : Thread Cert.AdamSRefIdeal.nD Cert.AdamSRefIdeal.τ).loc Cert.AdamSRefIdeal.main_arg21) = m' ((c.tc : Thread Cert.AdamSRefIdeal.nD Cert.AdamSRefIdeal.τ).loc Cert.AdamSRefIdeal.main_arg21)
          ∧ r.2.mem ((c.tc : Thread Cert.AdamSRefIdeal.nD Cert.AdamSRefIdeal.τ).loc Cert.AdamSRefIdeal.main_arg22) = m' ((c.tc : Thread Cert.AdamSRefIdeal.nD Cert.AdamSRefIdeal.τ).loc Cert.AdamSRefIdeal.main_arg22)
          ∧ r.2.mem ((c.tc : Thread Cert.AdamSRefIdeal.nD Cert.AdamSRefIdeal.τ).loc Cert.AdamSRefIdeal.main_arg23) = m' ((c.tc : Thread Cert.AdamSRefIdeal.nD Cert.AdamSRefIdeal.τ).loc Cert.AdamSRefIdeal.main_arg23)
          ∧ r.2.mem ((c.tc : Thread Cert.AdamSRefIdeal.nD Cert.AdamSRefIdeal.τ).loc Cert.AdamSRefIdeal.main_arg24) = m' ((c.tc : Thread Cert.AdamSRefIdeal.nD Cert.AdamSRefIdeal.τ).loc Cert.AdamSRefIdeal.main_arg24)
          ∧ r.2.mem ((c.tc : Thread Cert.AdamSRefIdeal.nD Cert.AdamSRefIdeal.τ).loc Cert.AdamSRefIdeal.main_arg25) = m' ((c.tc : Thread Cert.AdamSRefIdeal.nD Cert.AdamSRefIdeal.τ).loc Cert.AdamSRefIdeal.main_arg25)
          ∧ r.2.mem ((c.tc : Thread Cert.AdamSRefIdeal.nD Cert.AdamSRefIdeal.τ).loc Cert.AdamSRefIdeal.main_arg26) = m' ((c.tc : Thread Cert.AdamSRefIdeal.nD Cert.AdamSRefIdeal.τ).loc Cert.AdamSRefIdeal.main_arg26)
          ∧ r.2.mem ((c.tc : Thread Cert.AdamSRefIdeal.nD Cert.AdamSRefIdeal.τ).loc Cert.AdamSRefIdeal.main_arg27) = m' ((c.tc : Thread Cert.AdamSRefIdeal.nD Cert.AdamSRefIdeal.τ).loc Cert.AdamSRefIdeal.main_arg27)
          ∧ r.2.mem ((c.tc : Thread Cert.AdamSRefIdeal.nD Cert.AdamSRefIdeal.τ).loc Cert.AdamSRefIdeal.main_arg28) = m' ((c.tc : Thread Cert.AdamSRefIdeal.nD Cert.AdamSRefIdeal.τ).loc Cert.AdamSRefIdeal.main_arg28)
          ∧ r.2.mem ((c.tc : Thread Cert.AdamSRefIdeal.nD Cert.AdamSRefIdeal.τ).loc Cert.AdamSRefIdeal.main_arg29) = m' ((c.tc : Thread Cert.AdamSRefIdeal.nD Cert.AdamSRefIdeal.τ).loc Cert.AdamSRefIdeal.main_arg29)
          ∧ r.2.mem ((c.tc : Thread Cert.AdamSRefIdeal.nD Cert.AdamSRefIdeal.τ).loc Cert.AdamSRefIdeal.main_arg30) = m' ((c.tc : Thread Cert.AdamSRefIdeal.nD Cert.AdamSRefIdeal.τ).loc Cert.AdamSRefIdeal.main_arg30)
          ∧ r.2.mem ((c.tc : Thread Cert.AdamSRefIdeal.nD Cert.AdamSRefIdeal.τ).loc Cert.AdamSRefIdeal.main_arg31) = m' ((c.tc : Thread Cert.AdamSRefIdeal.nD Cert.AdamSRefIdeal.τ).loc Cert.AdamSRefIdeal.main_arg31)
          ∧ r.2.mem ((c.tc : Thread Cert.AdamSRefIdeal.nD Cert.AdamSRefIdeal.τ).loc Cert.AdamSRefIdeal.main_arg32) = m' ((c.tc : Thread Cert.AdamSRefIdeal.nD Cert.AdamSRefIdeal.τ).loc Cert.AdamSRefIdeal.main_arg32)
          ∧ r.2.mem ((c.tc : Thread Cert.AdamSRefIdeal.nD Cert.AdamSRefIdeal.τ).loc Cert.AdamSRefIdeal.main_arg33) = m' ((c.tc : Thread Cert.AdamSRefIdeal.nD Cert.AdamSRefIdeal.τ).loc Cert.AdamSRefIdeal.main_arg33)
          ∧ r.2.mem ((c.tc : Thread Cert.AdamSRefIdeal.nD Cert.AdamSRefIdeal.τ).loc Cert.AdamSRefIdeal.main_arg34) = m' ((c.tc : Thread Cert.AdamSRefIdeal.nD Cert.AdamSRefIdeal.τ).loc Cert.AdamSRefIdeal.main_arg34)
          ∧ r.2.mem ((c.tc : Thread Cert.AdamSRefIdeal.nD Cert.AdamSRefIdeal.τ).loc Cert.AdamSRefIdeal.main_arg35) = m' ((c.tc : Thread Cert.AdamSRefIdeal.nD Cert.AdamSRefIdeal.τ).loc Cert.AdamSRefIdeal.main_arg35)
          ∧ r.2.mem ((c.tc : Thread Cert.AdamSRefIdeal.nD Cert.AdamSRefIdeal.τ).loc Cert.AdamSRefIdeal.main_arg36) = m' ((c.tc : Thread Cert.AdamSRefIdeal.nD Cert.AdamSRefIdeal.τ).loc Cert.AdamSRefIdeal.main_arg36)
          ∧ r.2.mem ((c.tc : Thread Cert.AdamSRefIdeal.nD Cert.AdamSRefIdeal.τ).loc Cert.AdamSRefIdeal.main_arg37) = m' ((c.tc : Thread Cert.AdamSRefIdeal.nD Cert.AdamSRefIdeal.τ).loc Cert.AdamSRefIdeal.main_arg37)
          ∧ r.2.mem ((c.tc : Thread Cert.AdamSRefIdeal.nD Cert.AdamSRefIdeal.τ).loc Cert.AdamSRefIdeal.main_arg38) = m' ((c.tc : Thread Cert.AdamSRefIdeal.nD Cert.AdamSRefIdeal.τ).loc Cert.AdamSRefIdeal.main_arg38)
          ∧ r.2.mem ((c.tc : Thread Cert.AdamSRefIdeal.nD Cert.AdamSRefIdeal.τ).loc Cert.AdamSRefIdeal.main_arg39) = m' ((c.tc : Thread Cert.AdamSRefIdeal.nD Cert.AdamSRefIdeal.τ).loc Cert.AdamSRefIdeal.main_arg39))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v4)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hScan : Cert.Scan.Facts) (hScanIdeal : Cert.ScanIdeal.Facts) (hScanRefIdeal : Cert.ScanRefIdeal.Facts) (hMlp : Cert.Mlp.Facts) (hMlpIdeal : Cert.MlpIdeal.Facts) (hMlpRefIdeal : Cert.MlpRefIdeal.Facts) (hRg : Cert.Rg.Facts) (hRgIdeal : Cert.RgIdeal.Facts) (hRgRefIdeal : Cert.RgRefIdeal.Facts) (hSm : Cert.Sm.Facts) (hSmIdeal : Cert.SmIdeal.Facts) (hSmRefIdeal : Cert.SmRefIdeal.Facts) (hAdamL : Cert.AdamL.Facts) (hAdamLIdeal : Cert.AdamLIdeal.Facts) (hAdamLRefIdeal : Cert.AdamLRefIdeal.Facts) (hAdamS : Cert.AdamS.Facts) (hAdamSIdeal : Cert.AdamSIdeal.Facts) (hAdamSRefIdeal : Cert.AdamSRefIdeal.Facts) (hLoss : Cert.Loss.Facts) (hLossIdeal : Cert.LossIdeal.Facts) (hLossRefIdeal : Cert.LossRefIdeal.Facts) (hPre_finite : Cert.Pre_finite.Facts),
    quiescent_Scan (hScan := hScan)
    ∧ quiescent_ScanIdeal (hScanIdeal := hScanIdeal)
    ∧ quiescent_ScanIdeal_pre_finite (hScanIdeal := hScanIdeal) (hPre_finite := hPre_finite)
    ∧ quiescent_ScanRefIdeal (hScanRefIdeal := hScanRefIdeal)
    ∧ quiescent_ScanRefIdeal_pre_finite (hScanRefIdeal := hScanRefIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Rg (hRg := hRg)
    ∧ quiescent_RgIdeal (hRgIdeal := hRgIdeal)
    ∧ quiescent_RgRefIdeal (hRgRefIdeal := hRgRefIdeal)
    ∧ quiescent_Sm (hSm := hSm)
    ∧ quiescent_SmIdeal (hSmIdeal := hSmIdeal)
    ∧ quiescent_SmRefIdeal (hSmRefIdeal := hSmRefIdeal)
    ∧ quiescent_AdamL (hAdamL := hAdamL)
    ∧ quiescent_AdamLIdeal (hAdamLIdeal := hAdamLIdeal)
    ∧ quiescent_AdamLRefIdeal (hAdamLRefIdeal := hAdamLRefIdeal)
    ∧ quiescent_AdamS (hAdamS := hAdamS)
    ∧ quiescent_AdamSIdeal (hAdamSIdeal := hAdamSIdeal)
    ∧ quiescent_AdamSRefIdeal (hAdamSRefIdeal := hAdamSRefIdeal)
    ∧ quiescent_Loss (hLoss := hLoss)
    ∧ quiescent_LossIdeal (hLossIdeal := hLossIdeal)
    ∧ quiescent_LossRefIdeal (hLossRefIdeal := hLossRefIdeal)
    ∧ preserves_Scan_ScanIdeal
    ∧ algebraic_ScanIdeal_ScanRefIdeal_pre_finite (hScanIdeal := hScanIdeal) (hScanRefIdeal := hScanRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Rg_RgIdeal
    ∧ algebraic_RgIdeal_RgRefIdeal (hRgIdeal := hRgIdeal) (hRgRefIdeal := hRgRefIdeal)
    ∧ preserves_Sm_SmIdeal
    ∧ algebraic_SmIdeal_SmRefIdeal (hSmIdeal := hSmIdeal) (hSmRefIdeal := hSmRefIdeal)
    ∧ preserves_AdamL_AdamLIdeal
    ∧ algebraic_AdamLIdeal_AdamLRefIdeal (hAdamLIdeal := hAdamLIdeal) (hAdamLRefIdeal := hAdamLRefIdeal)
    ∧ preserves_AdamS_AdamSIdeal
    ∧ algebraic_AdamSIdeal_AdamSRefIdeal (hAdamSIdeal := hAdamSIdeal) (hAdamSRefIdeal := hAdamSRefIdeal)
    ∧ preserves_Loss_LossIdeal
    ∧ algebraic_LossIdeal_LossRefIdeal (hLossIdeal := hLossIdeal) (hLossRefIdeal := hLossRefIdeal)
-- ==== Pre_finite.lean ====
abbrev S4224x1280 : Shape := ⟨2, ![4224, 1280]⟩
abbrev S_ : Shape := ⟨0, ![]⟩

class Facts : Prop where
  bcast_S_S4224x1280 : S_.BroadcastsInDim S4224x1280 (![] : Fin 0 → Fin S4224x1280.rank)

variable [Facts]

def fn {F : FTy → Type} [FloatOps F] (main_arg0 : FVec F S4224x1280 .f32) (main_arg1 : FVec F S4224x1280 .f32) (main_arg2 : FVec F S4224x1280 .f32) : IVec S4224x1280 1 :=
  let main_v0 : FVec F S4224x1280 .f32 := Host.absf main_arg0
  let main_cst : FVec F S_ .f32 := constant S_ .f32 0x7F800000#32
  let main_v1 : FVec F S4224x1280 .f32 := broadcastInDim S4224x1280 ![] bcast_S_S4224x1280 main_cst
  let main_v2 : IVec S4224x1280 1 := cmpf .olt main_v0 main_v1
  let main_v3 : FVec F S4224x1280 .f32 := Host.absf main_arg1
  let main_cst_0 : FVec F S_ .f32 := constant S_ .f32 0x7F800000#32
  let main_v4 : FVec F S4224x1280 .f32 := broadcastInDim S4224x1280 ![] bcast_S_S4224x1280 main_cst_0
  let main_v5 : IVec S4224x1280 1 := cmpf .olt main_v3 main_v4
  let main_v6 : IVec S4224x1280 1 := andi main_v2 main_v5
  let main_v7 : FVec F S4224x1280 .f32 := Host.absf main_arg2
  let main_cst_1 : FVec F S_ .f32 := constant S_ .f32 0x7F800000#32
  let main_v8 : FVec F S4224x1280 .f32 := broadcastInDim S4224x1280 ![] bcast_S_S4224x1280 main_cst_1
  let main_v9 : IVec S4224x1280 1 := cmpf .olt main_v7 main_v8
  let main_v10 : IVec S4224x1280 1 := andi main_v6 main_v9
  main_v10
-- ==== Scan.lean ====
abbrev S4224x1280 : Shape := ⟨2, ![4224, 1280]⟩
abbrev S528x1280 : Shape := ⟨2, ![528, 1280]⟩
abbrev S8x1280 : Shape := ⟨2, ![8, 1280]⟩
abbrev S8x1 : Shape := ⟨2, ![8, 1]⟩
abbrev S1x1280 : Shape := ⟨2, ![1, 1280]⟩

abbrev nBuf : Space → Nat
  | .hbm => 6
  | .vmem => 21
  | .smem => 0
  | _ => 0

abbrev bufTy : (tb : Table) → Fin (tcTables nBuf tb) → BufTy
  | .hbm, ⟨0, _⟩ => ⟨S4224x1280, .f32⟩
  | .hbm, ⟨1, _⟩ => ⟨S4224x1280, .f32⟩
  | .hbm, ⟨2, _⟩ => ⟨S4224x1280, .f32⟩
  | .hbm, ⟨3, _⟩ => ⟨S4224x1280, .f32⟩
  | .hbm, ⟨4, _⟩ => ⟨S4224x1280, .f32⟩
  | .hbm, ⟨5, _⟩ => ⟨S4224x1280, .f32⟩
  | .local _ .vmem, ⟨0, _⟩ => ⟨S528x1280, .f32⟩
  | .local _ .vmem, ⟨1, _⟩ => ⟨S528x1280, .f32⟩
  | .local _ .vmem, ⟨2, _⟩ => ⟨S528x1280, .f32⟩
  | .local _ .vmem, ⟨3, _⟩ => ⟨S528x1280, .f32⟩
  | .local _ .vmem, ⟨4, _⟩ => ⟨S528x1280, .f32⟩
  | .local _ .vmem, ⟨5, _⟩ => ⟨S528x1280, .f32⟩
  | .local _ .vmem, ⟨6, _⟩ => ⟨S8x1280, .f32⟩
  | .local _ .vmem, ⟨7, _⟩ => ⟨S528x1280, .f32⟩
  | .local _ .vmem, ⟨8, _⟩ => ⟨S528x1280, .f32⟩
  | .local _ .vmem, ⟨9, _⟩ => ⟨S528x1280, .f32⟩
  | .local _ .vmem, ⟨10, _⟩ => ⟨S528x1280, .f32⟩
  | .local _ .vmem, ⟨11, _⟩ => ⟨S8x1280, .f32⟩
  | .local _ .vmem, ⟨12, _⟩ => ⟨S8x1280, .f32⟩
  | .local _ .vmem, ⟨13, _⟩ => ⟨S528x1280, .f32⟩
  | .local _ .vmem, ⟨14, _⟩ => ⟨S528x1280, .f32⟩
  | .local _ .vmem, ⟨15, _⟩ => ⟨S528x1280, .f32⟩
  | .local _ .vmem, ⟨16, _⟩ => ⟨S528x1280, .f32⟩
  | .local _ .vmem, ⟨17, _⟩ => ⟨S528x1280, .f32⟩
  | .local _ .vmem, ⟨18, _⟩ => ⟨S528x1280, .f32⟩
  | .local _ .vmem, ⟨19, _⟩ => ⟨S8x1280, .f32⟩
  | .local _ .vmem, ⟨20, _⟩ => ⟨S8x1280, .f32⟩
  | _, _ => ⟨S4224x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c66_i32 : BitVec 32 := 66#32
  let v5 : BitVec 32 := Scalar.addi c0_i32_2 c66_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c8_i32 : BitVec 32 := 8#32
  let v10 : BitVec 32 := Scalar.muli arg5 c8_i32
  v10
def k0_off1 (k0_t1 : Fin k0_t1_loop.trips) : Fin 2 → Nat :=
  let c0_i32_2 : BitVec 32 := 0#32
  let c1_i32 : BitVec 32 := 1#32
  let arg5 : BitVec 32 := Scf.iv c0_i32_2 c1_i32 k0_t1
  let c8_i32 : BitVec 32 := 8#32
  let v10 : BitVec 32 := Scalar.muli arg5 c8_i32
  let v11 : BitVec 32 := v10
  let v12 : Index := Scalar.indexCast v11
  let c0_6 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

@[reducible] def k1_t1_loop : Scf.Loop 32 :=
  let c0_i32_6 : BitVec 32 := 0#32
  let c66_i32 : BitVec 32 := 66#32
  let v11 : BitVec 32 := Scalar.addi c0_i32_6 c66_i32
  let c1_i32 : BitVec 32 := 1#32
  ⟨c0_i32_6, v11, c1_i32⟩
def k1_mult1 (k1_t1 : Fin k1_t1_loop.trips) : BitVec 32 :=
  let c65_i32 : BitVec 32 := 65#32
  let c0_i32_6 : BitVec 32 := 0#32
  let c1_i32 : BitVec 32 := 1#32
  let arg9 : BitVec 32 := Scf.iv c0_i32_6 c1_i32 k1_t1
  let v19 : BitVec 32 := Scalar.subi c65_i32 arg9
  let c8_i32 : BitVec 32 := 8#32
  let v20 : BitVec 32 := Scalar.muli v19 c8_i32
  v20
def k1_off1 (k1_t1 : Fin k1_t1_loop.trips) : Fin 2 → Nat :=
  let c65_i32 : BitVec 32 := 65#32
  let c0_i32_6 : BitVec 32 := 0#32
  let c1_i32 : BitVec 32 := 1#32
  let arg9 : BitVec 32 := Scf.iv c0_i32_6 c1_i32 k1_t1
  let v19 : BitVec 32 := Scalar.subi c65_i32 arg9
  let c8_i32 : BitVec 32 := 8#32
  let v20 : BitVec 32 := Scalar.muli v19 c8_i32
  let v21 : BitVec 32 := v20
  let v22 : Index := Scalar.indexCast v21
  let c0_12 : Index := 0#32
  ![v22.toNat, 0]
def k1_mult2 (k1_t1 : Fin k1_t1_loop.trips) : BitVec 32 :=
  let c65_i32 : BitVec 32 := 65#32
  let c0_i32_6 : BitVec 32 := 0#32
  let c1_i32 : BitVec 32 := 1#32
  let arg9 : BitVec 32 := Scf.iv c0_i32_6 c1_i32 k1_t1
  let v19 : BitVec 32 := Scalar.subi c65_i32 arg9
  let c1_i32_15 : BitVec 32 := 1#32
  let v29 : BitVec 32 := Scalar.subi v19 c1_i32_15
  let c0_i32_16 : BitVec 32 := 0#32
  let v30 : BitVec 32 := Scalar.maxsi v29 c0_i32_16
  let c8_i32_17 : BitVec 32 := 8#32
  let v31 : BitVec 32 := Scalar.muli v30 c8_i32_17
  v31
def k1_off2 (k1_t1 : Fin k1_t1_loop.trips) : Fin 2 → Nat :=
  let c65_i32 : BitVec 32 := 65#32
  let c0_i32_6 : BitVec 32 := 0#32
  let c1_i32 : BitVec 32 := 1#32
  let arg9 : BitVec 32 := Scf.iv c0_i32_6 c1_i32 k1_t1
  let v19 : BitVec 32 := Scalar.subi c65_i32 arg9
  let c1_i32_15 : BitVec 32 := 1#32
  let v29 : BitVec 32 := Scalar.subi v19 c1_i32_15
  let c0_i32_16 : BitVec 32 := 0#32
  let v30 : BitVec 32 := Scalar.maxsi v29 c0_i32_16
  let c8_i32_17 : BitVec 32 := 8#32
  let v31 : BitVec 32 := Scalar.muli v30 c8_i32_17
  let v32 : BitVec 32 := v31
  let v34 : Index := Scalar.indexCast v32
  let c0_19 : Index := 0#32
  ![v34.toNat, 0]
def cc1_transform_0 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c7_i32 : BitVec 32 := 7#32
  let v0 : BitVec 32 := Scalar.subi c7_i32 arg0
  let c66_i32 : BitVec 32 := 66#32
  let v1 : BitVec 32 := Scalar.muli v0 c66_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage1_0 : Fin 2 → Memref sig .tc .vmem S528x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S528x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S528x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S528x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S528x1280 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ScanRefIdeal.lean ====
abbrev S4224x1280 : Shape := ⟨2, ![4224, 1280]⟩
abbrev S_ : Shape := ⟨0, ![]⟩
abbrev S1280 : Shape := ⟨1, ![1280]⟩
abbrev S1x1280 : Shape := ⟨2, ![1, 1280]⟩

abbrev nBuf : Space → Nat
  | .hbm => 76
  | .vmem => 0
  | .smem => 0
  | _ => 0

abbrev bufTy : (tb : Table) → Fin (tcTables nBuf tb) → BufTy
  | .hbm, ⟨0, _⟩ => ⟨S4224x1280, .f32⟩
  | .hbm, ⟨1, _⟩ => ⟨S4224x1280, .f32⟩
  | .hbm, ⟨2, _⟩ => ⟨S4224x1280, .f32⟩
  | .hbm, ⟨3, _⟩ => ⟨S_, .f32⟩
  | .hbm, ⟨4, _⟩ => ⟨S1280, .f32⟩
  | .hbm, ⟨5, _⟩ => ⟨S_, .f32⟩
  | .hbm, ⟨6, _⟩ => ⟨S4224x1280, .f32⟩
  | .hbm, ⟨7, _⟩ => ⟨S_, .f32⟩
  | .hbm, ⟨8, _⟩ => ⟨S4224x1280, .f32⟩
  | .hbm, ⟨9, _⟩ => ⟨S_, .i32⟩
  | .hbm, ⟨10, _⟩ => ⟨S4224x1280, .f32⟩
  | .hbm, ⟨11, _⟩ => ⟨S4224x1280, .f32⟩
  | .hbm, ⟨12, _⟩ => ⟨S_, .i32⟩
  | .hbm, ⟨13, _⟩ => ⟨S1280, .f32⟩
  | .hbm, ⟨14, _⟩ => ⟨S4224x1280, .f32⟩
  | .hbm, ⟨15, _⟩ => ⟨S4224x1280, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x1280, .f32⟩
  | .hbm, ⟨20, _⟩ => ⟨S1280, .f32⟩
  | .hbm, ⟨21, _⟩ => ⟨S_, .i32⟩
  | .hbm, ⟨22, _⟩ => ⟨S1x1280, .f32⟩
  | .hbm, ⟨23, _⟩ => ⟨S1280, .f32⟩
  | .hbm, ⟨24, _⟩ => ⟨S1280, .f32⟩
  | .hbm, ⟨25, _⟩ => ⟨S1280, .f32⟩
  | .hbm, ⟨26, _⟩ => ⟨S1x1280, .f32⟩
  | .hbm, ⟨27, _⟩ => ⟨S_, .i32⟩
  | .hbm, ⟨28, _⟩ => ⟨S4224x1280, .f32⟩
  | .hbm, ⟨29, _⟩ => ⟨S1x1280, .f32⟩
  | .hbm, ⟨30, _⟩ => ⟨S_, .i32⟩
  | .hbm, ⟨31, _⟩ => ⟨S4224x1280, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S1280, .f32⟩
  | .hbm, ⟨36, _⟩ => ⟨S_, .f32⟩
  | .hbm, ⟨37, _⟩ => ⟨S1280, .f32⟩
  | .hbm, ⟨38, _⟩ => ⟨S_, .f32⟩
  | .hbm, ⟨39, _⟩ => ⟨S4224x1280, .f32⟩
  | .hbm, ⟨40, _⟩ => ⟨S_, .f32⟩
  | .hbm, ⟨41, _⟩ => ⟨S4224x1280, .f32⟩
  | .hbm, ⟨42, _⟩ => ⟨S_, .i32⟩
  | .hbm, ⟨43, _⟩ => ⟨S4224x1280, .f32⟩
  | .hbm, ⟨44, _⟩ => ⟨S4224x1280, .f32⟩
  | .hbm, ⟨45, _⟩ => ⟨S4224x1280, .f32⟩
  | .hbm, ⟨46, _⟩ => ⟨S_, .i32⟩
  | .hbm, ⟨47, _⟩ => ⟨S1280, .f32⟩
  | .hbm, ⟨48, _⟩ => ⟨S4224x1280, .f32⟩
  | .hbm, ⟨49, _⟩ => ⟨S4224x1280, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x1280, .f32⟩
  | .hbm, ⟨58, _⟩ => ⟨S1280, .f32⟩
  | .hbm, ⟨59, _⟩ => ⟨S_, .i32⟩
  | .hbm, ⟨60, _⟩ => ⟨S1x1280, .f32⟩
  | .hbm, ⟨61, _⟩ => ⟨S1280, .f32⟩
  | .hbm, ⟨62, _⟩ => ⟨S_, .i32⟩
  | .hbm, ⟨63, _⟩ => ⟨S1x1280, .f32⟩
  | .hbm, ⟨64, _⟩ => ⟨S1280, .f32⟩
  | .hbm, ⟨65, _⟩ => ⟨S1280, .f32⟩
  | .hbm, ⟨66, _⟩ => ⟨S1280, .f32⟩
  | .hbm, ⟨67, _⟩ => ⟨S1280, .f32⟩
  | .hbm, ⟨68, _⟩ => ⟨S1x1280, .f32⟩
  | .hbm, ⟨69, _⟩ => ⟨S_, .i32⟩
  | .hbm, ⟨70, _⟩ => ⟨S4224x1280, .f32⟩
  | .hbm, ⟨71, _⟩ => ⟨S1x1280, .f32⟩
  | .hbm, ⟨72, _⟩ => ⟨S_, .i32⟩
  | .hbm, ⟨73, _⟩ => ⟨S4224x1280, .f32⟩
  | .hbm, ⟨74, _⟩ => ⟨S_, .i32⟩
  | .hbm, ⟨75, _⟩ => ⟨S_, .i32⟩
  | _, _ => ⟨S4224x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_12 : Ref sig .tc := ⟨.hbm, 16, rfl⟩
abbrev main_while0c_v9 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v9 : Ref sig .tc := ⟨.hbm, 20, rfl⟩
abbrev main_while0b_call1_c : Ref sig .tc := ⟨.hbm, 21, rfl⟩
abbrev main_while0b_call1_v0 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_call2_v0 : Ref sig .tc := ⟨.hbm, 26, rfl⟩
abbrev main_while0b_call2_c : Ref sig .tc := ⟨.hbm, 27, rfl⟩
abbrev main_while0b_v13 : Ref sig .tc := ⟨.hbm, 28, rfl⟩
abbrev main_while0b_call3_v0 : Ref sig .tc := ⟨.hbm, 29, rfl⟩
abbrev main_while0b_call3_c : Ref sig .tc := ⟨.hbm, 30, rfl⟩
abbrev main_while0b_v14 : Ref sig .tc := ⟨.hbm, 31, rfl⟩
abbrev main_while0b_c_12 : Ref sig .tc := ⟨.hbm, 32, rfl⟩
abbrev main_while0b_v15 : Ref sig .tc := ⟨.hbm, 33, rfl⟩
abbrev main_cst_2 : Ref sig .tc := ⟨.hbm, 34, rfl⟩
abbrev main_v4 : Ref sig .tc := ⟨.hbm, 35, rfl⟩
abbrev main_cst_3 : Ref sig .tc := ⟨.hbm, 36, rfl⟩
abbrev main_v5 : Ref sig .tc := ⟨.hbm, 37, rfl⟩
abbrev main_cst_4 : Ref sig .tc := ⟨.hbm, 38, rfl⟩
abbrev main_v6 : Ref sig .tc := ⟨.hbm, 39, rfl⟩
abbrev main_cst_5 : Ref sig .tc := ⟨.hbm, 40, rfl⟩
abbrev main_v7 : Ref sig .tc := ⟨.hbm, 41, rfl⟩
abbrev main_c_6 : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_while1c_c_13 : Ref sig .tc := ⟨.hbm, 50, rfl⟩
abbrev main_while1c_v9 : Ref sig .tc := ⟨.hbm, 51, rfl⟩
abbrev main_while1b_c_13 : Ref sig .tc := ⟨.hbm, 52, rfl⟩
abbrev main_while1b_v9 : Ref sig .tc := ⟨.hbm, 53, rfl⟩
abbrev main_while1b_c_14 : Ref sig .tc := ⟨.hbm, 54, rfl⟩
abbrev main_while1b_v10 : Ref sig .tc := ⟨.hbm, 55, rfl⟩
abbrev main_while1b_call4_c : Ref sig .tc := ⟨.hbm, 56, rfl⟩
abbrev main_while1b_call4_v0 : Ref sig .tc := ⟨.hbm, 57, rfl⟩
abbrev main_while1b_v11 : Ref sig .tc := ⟨.hbm, 58, rfl⟩
abbrev main_while1b_call5_c : Ref sig .tc := ⟨.hbm, 59, rfl⟩
abbrev main_while1b_call5_v0 : Ref sig .tc := ⟨.hbm, 60, rfl⟩
abbrev main_while1b_v12 : Ref sig .tc := ⟨.hbm, 61, rfl⟩
abbrev main_while1b_call6_c : Ref sig .tc := ⟨.hbm, 62, rfl⟩
abbrev main_while1b_call6_v0 : Ref sig .tc := ⟨.hbm, 63, rfl⟩
abbrev main_while1b_v13 : Ref sig .tc := ⟨.hbm, 64, rfl⟩
abbrev main_while1b_v14 : Ref sig .tc := ⟨.hbm, 65, rfl⟩
abbrev main_while1b_v15 : Ref sig .tc := ⟨.hbm, 66, rfl⟩
abbrev main_while1b_v16 : Ref sig .tc := ⟨.hbm, 67, rfl⟩
abbrev main_while1b_call7_v0 : Ref sig .tc := ⟨.hbm, 68, rfl⟩
abbrev main_while1b_call7_c : Ref sig .tc := ⟨.hbm, 69, rfl⟩
abbrev main_while1b_v17 : Ref sig .tc := ⟨.hbm, 70, rfl⟩
abbrev main_while1b_call8_v0 : Ref sig .tc := ⟨.hbm, 71, rfl⟩
abbrev main_while1b_call8_c : Ref sig .tc := ⟨.hbm, 72, rfl⟩
abbrev main_while1b_v18 : Ref sig .tc := ⟨.hbm, 73, rfl⟩
abbrev main_while1b_c_15 : Ref sig .tc := ⟨.hbm, 74, rfl⟩
abbrev main_while1b_v19 : Ref sig .tc := ⟨.hbm, 75, rfl⟩

abbrev nD : Nat := 1
abbrev τ : Topo := Topo.v7x

variable {F : FTy → Type} [FloatOps F]

abbrev main_while0_count : Scf.Loop 32 := ⟨0#32, 4224#32, 1#32⟩

abbrev main_while1_count : Scf.Loop 32 := ⟨0#32, 4224#32, 1#32⟩
-- ==== Mlp.lean ====
abbrev S4224x1024 : Shape := ⟨2, ![4224, 1024]⟩
abbrev S1024 : Shape := ⟨1, ![1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S4x1024x4x1024 : Shape := ⟨4, ![4, 1024, 4, 1024]⟩
abbrev S4x4x1024x1024 : Shape := ⟨4, ![4, 4, 1024, 1024]⟩
abbrev S528x1024 : Shape := ⟨2, ![528, 1024]⟩
abbrev S528 : Shape := ⟨1, ![528]⟩
abbrev S528x1 : Shape := ⟨2, ![528, 1]⟩
abbrev S4224x4096 : Shape := ⟨2, ![4224, 4096]⟩
abbrev S1056x1024 : Shape := ⟨2, ![1056, 1024]⟩
abbrev S1x1x1024x1024 : Shape := ⟨4, ![1, 1, 1024, 1024]⟩
abbrev S1024x1024 : Shape := ⟨2, ![1024, 1024]⟩
abbrev S528x4096 : Shape := ⟨2, ![528, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x4x1024 : Shape := ⟨3, ![1024, 4, 1024]⟩
abbrev S1024x4096 : Shape := ⟨2, ![1024, 4096]⟩

abbrev nBuf : Space → Nat
  | .hbm => 26
  | .vmem => 52
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S4x1024x4096, .f32⟩
  | .hbm, ⟨4, _⟩ => ⟨S4x4096x1024, .f32⟩
  | .hbm, ⟨5, _⟩ => ⟨S4224x1024, .f32⟩
  | .hbm, ⟨6, _⟩ => ⟨S1x1024, .f32⟩
  | .hbm, ⟨7, _⟩ => ⟨S1x1024, .f32⟩
  | .hbm, ⟨8, _⟩ => ⟨S4x1024x4096, .bf16⟩
  | .hbm, ⟨9, _⟩ => ⟨S4x1024x4x1024, .bf16⟩
  | .hbm, ⟨10, _⟩ => ⟨S4x4x1024x1024, .bf16⟩
  | .hbm, ⟨11, _⟩ => ⟨S4x4096x1024, .bf16⟩
  | .hbm, ⟨12, _⟩ => ⟨S4x4x1024x1024, .bf16⟩
  | .hbm, ⟨13, _⟩ => ⟨S4x4x1024x1024, .bf16⟩
  | .hbm, ⟨14, _⟩ => ⟨S4224x1024, .bf16⟩
  | .hbm, ⟨15, _⟩ => ⟨S4224x4096, .bf16⟩
  | .hbm, ⟨16, _⟩ => ⟨S4224x4096, .bf16⟩
  | .hbm, ⟨17, _⟩ => ⟨S4224x1024, .f32⟩
  | .hbm, ⟨18, _⟩ => ⟨S4224x1024, .f32⟩
  | .hbm, ⟨19, _⟩ => ⟨S4224x1024, .bf16⟩
  | .hbm, ⟨20, _⟩ => ⟨S4096x1024, .f32⟩
  | .hbm, ⟨21, _⟩ => ⟨S4224x4096, .bf16⟩
  | .hbm, ⟨22, _⟩ => ⟨S4x1024x1024, .f32⟩
  | .hbm, ⟨23, _⟩ => ⟨S4224x1024, .f32⟩
  | .hbm, ⟨24, _⟩ => ⟨S1024x4x1024, .f32⟩
  | .hbm, ⟨25, _⟩ => ⟨S1024x4096, .f32⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S528x1024, .bf16⟩
  | .local _ .vmem, ⟨4, _⟩ => ⟨S528x1024, .bf16⟩
  | .local _ .vmem, ⟨5, _⟩ => ⟨S1056x1024, .bf16⟩
  | .local _ .vmem, ⟨6, _⟩ => ⟨S1056x1024, .bf16⟩
  | .local _ .vmem, ⟨7, _⟩ => ⟨S1x1x1024x1024, .bf16⟩
  | .local _ .vmem, ⟨8, _⟩ => ⟨S1x1x1024x1024, .bf16⟩
  | .local _ .vmem, ⟨9, _⟩ => ⟨S1056x1024, .bf16⟩
  | .local _ .vmem, ⟨10, _⟩ => ⟨S1056x1024, .bf16⟩
  | .local _ .vmem, ⟨11, _⟩ => ⟨S1056x1024, .bf16⟩
  | .local _ .vmem, ⟨12, _⟩ => ⟨S1056x1024, .bf16⟩
  | .local _ .vmem, ⟨13, _⟩ => ⟨S528x4096, .bf16⟩
  | .local _ .vmem, ⟨14, _⟩ => ⟨S528x4096, .bf16⟩
  | .local _ .vmem, ⟨15, _⟩ => ⟨S1x1x1024x1024, .bf16⟩
  | .local _ .vmem, ⟨16, _⟩ => ⟨S1x1x1024x1024, .bf16⟩
  | .local _ .vmem, ⟨17, _⟩ => ⟨S1x1x1024x1024, .bf16⟩
  | .local _ .vmem, ⟨18, _⟩ => ⟨S1x1x1024x1024, .bf16⟩
  | .local _ .vmem, ⟨19, _⟩ => ⟨S528x1024, .f32⟩
  | .local _ .vmem, ⟨20, _⟩ => ⟨S528x1024, .f32⟩
  | .local _ .vmem, ⟨21, _⟩ => ⟨S1x1024, .f32⟩
  | .local _ .vmem, ⟨22, _⟩ => ⟨S528x1024, .f32⟩
  | .local _ .vmem, ⟨23, _⟩ => ⟨S528x1024, .f32⟩
  | .local _ .vmem, ⟨24, _⟩ => ⟨S528x1024, .f32⟩
  | .local _ .vmem, ⟨25, _⟩ => ⟨S528x1024, .f32⟩
  | .local _ .vmem, ⟨26, _⟩ => ⟨S4224x1024, .bf16⟩
  | .local _ .vmem, ⟨27, _⟩ => ⟨S4224x1024, .bf16⟩
  | .local _ .vmem, ⟨28, _⟩ => ⟨S4224x1024, .bf16⟩
  | .local _ .vmem, ⟨29, _⟩ => ⟨S1024x1024, .f32⟩
  | .local _ .vmem, ⟨30, _⟩ => ⟨S1024x1024, .f32⟩
  | .local _ .vmem, ⟨31, _⟩ => ⟨S1056x1024, .bf16⟩
  | .local _ .vmem, ⟨32, _⟩ => ⟨S1056x1024, .bf16⟩
  | .local _ .vmem, ⟨33, _⟩ => ⟨S1x1x1024x1024, .bf16⟩
  | .local _ .vmem, ⟨34, _⟩ => ⟨S1x1x1024x1024, .bf16⟩
  | .local _ .vmem, ⟨35, _⟩ => ⟨S1056x1024, .bf16⟩
  | .local _ .vmem, ⟨36, _⟩ => ⟨S1056x1024, .bf16⟩
  | .local _ .vmem, ⟨37, _⟩ => ⟨S1056x1024, .bf16⟩
  | .local _ .vmem, ⟨38, _⟩ => ⟨S1056x1024, .bf16⟩
  | .local _ .vmem, ⟨39, _⟩ => ⟨S4224x1024, .bf16⟩
  | .local _ .vmem, ⟨40, _⟩ => ⟨S4224x1024, .bf16⟩
  | .local _ .vmem, ⟨41, _⟩ => ⟨S4224x1024, .bf16⟩
  | .local _ .vmem, ⟨42, _⟩ => ⟨S1x1024x1024, .f32⟩
  | .local _ .vmem, ⟨43, _⟩ => ⟨S1x1024x1024, .f32⟩
  | .local _ .vmem, ⟨44, _⟩ => ⟨S528x4096, .bf16⟩
  | .local _ .vmem, ⟨45, _⟩ => ⟨S528x4096, .bf16⟩
  | .local _ .vmem, ⟨46, _⟩ => ⟨S1x1x1024x1024, .bf16⟩
  | .local _ .vmem, ⟨47, _⟩ => ⟨S1x1x1024x1024, .bf16⟩
  | .local _ .vmem, ⟨48, _⟩ => ⟨S1x1x1024x1024, .bf16⟩
  | .local _ .vmem, ⟨49, _⟩ => ⟨S1x1x1024x1024, .bf16⟩
  | .local _ .vmem, ⟨50, _⟩ => ⟨S528x1024, .f32⟩
  | .local _ .vmem, ⟨51, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem7_0 : DmaSem sig := 22
abbrev cc2_sem7_1 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem5_1 : DmaSem sig := 51

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c1_i32_19 : BitVec 32 := 1#32
  let c0_i32_20 : BitVec 32 := 0#32
  ![v17.toNat, c1_i32_19.toNat, arg2.toNat, v45.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1056x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1056x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1056x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c1_i32 : BitVec 32 := 1#32
  let c0_i32 : BitVec 32 := 0#32
  let c0_i32_0 : BitVec 32 := 0#32
  ![c2_i32.toNat, c1_i32.toNat, c0_i32.toNat, arg1.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S528x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1x1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, false]

abbrev stage2_2 : Fin 1 → Memref sig .tc .vmem S1x1x1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 1 → Memref sig .tc .vmem S1x1x1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true, false]

abbrev stage2_4 : Fin 1 → Memref sig .tc .vmem S1x1x1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, true, false]

abbrev stage2_5 : Fin 2 → Memref sig .tc .vmem S528x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, true, false]

abbrev stage2_7 : Fin 2 → Memref sig .tc .vmem S528x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev stage2_8 : Fin 2 → Memref sig .tc .vmem S528x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4224x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4224x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c1_i32_19 : BitVec 32 := 1#32
  let c0_i32_20 : BitVec 32 := 0#32
  ![v17.toNat, c1_i32_19.toNat, v45.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1056x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x1x1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1056x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1056x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1024_i32_5 : BitVec 32 := 1024#32
  let v18 : BitVec 32 := Scalar.muli arg1 c1024_i32_5
  let c1024_i32_6 : BitVec 32 := 1024#32
  let c0_i32_7 : BitVec 32 := 0#32
  let v19 : BitVec 1 := Scalar.cmpi .eq c1024_i32_6 c0_i32_7
  let c1_i32_8 : BitVec 32 := 1#32
  let v20 : BitVec 32 := Scalar.select v19 c1_i32_8 c1024_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1024_i32_12 : BitVec 32 := 1024#32
  let v29 : BitVec 32 := Scalar.divsi v28 c1024_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1024_i32_12 c0_i32_15
  let v36 : BitVec 32 := Scalar.extui v35
  let c0_i32_16 : BitVec 32 := 0#32
  let v37 : BitVec 1 := Scalar.cmpi .slt c1024_i32_12 c0_i32_16
  let v38 : BitVec 32 := Scalar.extui v37
  let v39 : BitVec 32 := Scalar.subi v36 v38
  let v40 : BitVec 1 := Scalar.cmpi .ne v34 v39
  let v41 : BitVec 32 := Scalar.remsi v28 c1024_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c0_i32_19 : BitVec 32 := 0#32
  ![v17.toNat, arg0.toNat, v45.toNat]

abbrev stage5_0 : Fin 1 → Memref sig .tc .vmem S4224x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4224x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc6_transform_2 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc6_transform_3 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c1_i32 : BitVec 32 := 1#32
  let c0_i32 : BitVec 32 := 0#32
  let c0_i32_0 : BitVec 32 := 0#32
  ![c2_i32.toNat, c1_i32.toNat, arg1.toNat, c0_i32.toNat]

def cc6_transform_4 (i : grid6.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S528x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1x1x1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, false]

abbrev stage6_2 : Fin 1 → Memref sig .tc .vmem S1x1x1024x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true, false]

abbrev stage6_3 : Fin 1 → Memref sig .tc .vmem S1x1x1024x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, true, false]

abbrev stage6_4 : Fin 1 → Memref sig .tc .vmem S1x1x1024x1024 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, true, false]

abbrev stage6_5 : Fin 2 → Memref sig .tc .vmem S528x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]
-- ==== MlpRefIdeal.lean ====
abbrev S4224x1024 : Shape := ⟨2, ![4224, 1024]⟩
abbrev S1024 : Shape := ⟨1, ![1024]⟩
abbrev S4x1024x4096 : Shape := ⟨3, ![4, 1024, 4096]⟩
abbrev S4x4096x1024 : Shape := ⟨3, ![4, 4096, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4224x4096 : Shape := ⟨2, ![4224, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S4x1024x4096, .f32⟩
  | .hbm, ⟨4, _⟩ => ⟨S4x4096x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S1x1024x4096, .f32⟩
  | .hbm, ⟨23, _⟩ => ⟨S1024x4096, .f32⟩
  | .hbm, ⟨24, _⟩ => ⟨S1x4096x1024, .f32⟩
  | .hbm, ⟨25, _⟩ => ⟨S4096x1024, .f32⟩
  | .hbm, ⟨26, _⟩ => ⟨S4224x4096, .f32⟩
  | .hbm, ⟨27, _⟩ => ⟨S_, .f32⟩
  | .hbm, ⟨28, _⟩ => ⟨S4224x4096, .f32⟩
  | .hbm, ⟨29, _⟩ => ⟨S4224x4096, .f32⟩
  | .hbm, ⟨30, _⟩ => ⟨S_, .f32⟩
  | .hbm, ⟨31, _⟩ => ⟨S4224x4096, .f32⟩
  | .hbm, ⟨32, _⟩ => ⟨S4224x4096, .i1⟩
  | .hbm, ⟨33, _⟩ => ⟨S_, .f32⟩
  | .hbm, ⟨34, _⟩ => ⟨S4224x4096, .f32⟩
  | .hbm, ⟨35, _⟩ => ⟨S4224x4096, .f32⟩
  | .hbm, ⟨36, _⟩ => ⟨S_, .f32⟩
  | .hbm, ⟨37, _⟩ => ⟨S4224x4096, .f32⟩
  | .hbm, ⟨38, _⟩ => ⟨S4224x4096, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224, .f32⟩
  | .hbm, ⟨43, _⟩ => ⟨S4224x1, .f32⟩
  | .hbm, ⟨44, _⟩ => ⟨S_, .f32⟩
  | .hbm, ⟨45, _⟩ => ⟨S4224x1, .f32⟩
  | .hbm, ⟨46, _⟩ => ⟨S4224x1, .f32⟩
  | .hbm, ⟨47, _⟩ => ⟨S_, .f32⟩
  | .hbm, ⟨48, _⟩ => ⟨S4224x1, .f32⟩
  | .hbm, ⟨49, _⟩ => ⟨S4224x1, .f32⟩
  | .hbm, ⟨50, _⟩ => ⟨S4224x1, .f32⟩
  | .hbm, ⟨51, _⟩ => ⟨S4224x1024, .f32⟩
  | .hbm, ⟨52, _⟩ => ⟨S4224x1024, .f32⟩
  | .hbm, ⟨53, _⟩ => ⟨S1x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S1024x4096, .f32⟩
  | .hbm, ⟨58, _⟩ => ⟨S4096x1024, .f32⟩
  | .hbm, ⟨59, _⟩ => ⟨S4224x4096, .f32⟩
  | .hbm, ⟨60, _⟩ => ⟨S4224x4096, .f32⟩
  | .hbm, ⟨61, _⟩ => ⟨S_, .f32⟩
  | .hbm, ⟨62, _⟩ => ⟨S4224x4096, .f32⟩
  | .hbm, ⟨63, _⟩ => ⟨S4224x4096, .f32⟩
  | .hbm, ⟨64, _⟩ => ⟨S4096x1024, .f32⟩
  | .hbm, ⟨65, _⟩ => ⟨S1024x4096, .f32⟩
  | .hbm, ⟨66, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Rg.lean ====
abbrev S4224x1024 : Shape := ⟨2, ![4224, 1024]⟩
abbrev S1024 : Shape := ⟨1, ![1024]⟩
abbrev S2x1024x1280 : Shape := ⟨3, ![2, 1024, 1280]⟩
abbrev S2x1280x1024 : Shape := ⟨3, ![2, 1280, 1024]⟩
abbrev S4224x1280 : Shape := ⟨2, ![4224, 1280]⟩
abbrev S1x1024 : Shape := ⟨2, ![1, 1024]⟩
abbrev S1x1024x1280 : Shape := ⟨3, ![1, 1024, 1280]⟩
abbrev S1024x1280 : Shape := ⟨2, ![1024, 1280]⟩
abbrev S1x1280x1024 : Shape := ⟨3, ![1, 1280, 1024]⟩
abbrev S1280x1024 : Shape := ⟨2, ![1280, 1024]⟩
abbrev S528x1024 : Shape := ⟨2, ![528, 1024]⟩
abbrev S528 : Shape := ⟨1, ![528]⟩
abbrev S528x1 : Shape := ⟨2, ![528, 1]⟩
abbrev S1056x1024 : Shape := ⟨2, ![1056, 1024]⟩
abbrev S1056x1280 : Shape := ⟨2, ![1056, 1280]⟩
abbrev S528x1280 : Shape := ⟨2, ![528, 1280]⟩
abbrev S4224x640 : Shape := ⟨2, ![4224, 640]⟩
abbrev S640x1024 : Shape := ⟨2, ![640, 1024]⟩

abbrev nBuf : Space → Nat
  | .hbm => 36
  | .vmem => 67
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S2x1024x1280, .f32⟩
  | .hbm, ⟨4, _⟩ => ⟨S2x1024x1280, .f32⟩
  | .hbm, ⟨5, _⟩ => ⟨S2x1280x1024, .f32⟩
  | .hbm, ⟨6, _⟩ => ⟨S4224x1280, .f32⟩
  | .hbm, ⟨7, _⟩ => ⟨S4224x1024, .f32⟩
  | .hbm, ⟨8, _⟩ => ⟨S4224x1280, .f32⟩
  | .hbm, ⟨9, _⟩ => ⟨S1x1024, .f32⟩
  | .hbm, ⟨10, _⟩ => ⟨S1x1024, .f32⟩
  | .hbm, ⟨11, _⟩ => ⟨S1x1024x1280, .f32⟩
  | .hbm, ⟨12, _⟩ => ⟨S1024x1280, .f32⟩
  | .hbm, ⟨13, _⟩ => ⟨S1024x1280, .bf16⟩
  | .hbm, ⟨14, _⟩ => ⟨S1x1024x1280, .f32⟩
  | .hbm, ⟨15, _⟩ => ⟨S1024x1280, .f32⟩
  | .hbm, ⟨16, _⟩ => ⟨S1024x1280, .bf16⟩
  | .hbm, ⟨17, _⟩ => ⟨S1x1280x1024, .f32⟩
  | .hbm, ⟨18, _⟩ => ⟨S1280x1024, .f32⟩
  | .hbm, ⟨19, _⟩ => ⟨S1280x1024, .bf16⟩
  | .hbm, ⟨20, _⟩ => ⟨S4224x1024, .bf16⟩
  | .hbm, ⟨21, _⟩ => ⟨S4224x1280, .f32⟩
  | .hbm, ⟨22, _⟩ => ⟨S4224x1280, .f32⟩
  | .hbm, ⟨23, _⟩ => ⟨S4224x1280, .bf16⟩
  | .hbm, ⟨24, _⟩ => ⟨S4224x1024, .f32⟩
  | .hbm, ⟨25, _⟩ => ⟨S4224x1024, .f32⟩
  | .hbm, ⟨26, _⟩ => ⟨S4224x1024, .bf16⟩
  | .hbm, ⟨27, _⟩ => ⟨S4224x1280, .bf16⟩
  | .hbm, ⟨28, _⟩ => ⟨S1280x1024, .f32⟩
  | .hbm, ⟨29, _⟩ => ⟨S4224x1280, .f32⟩
  | .hbm, ⟨30, _⟩ => ⟨S4224x1280, .f32⟩
  | .hbm, ⟨31, _⟩ => ⟨S4224x1280, .bf16⟩
  | .hbm, ⟨32, _⟩ => ⟨S1024x1280, .f32⟩
  | .hbm, ⟨33, _⟩ => ⟨S1024x1280, .f32⟩
  | .hbm, ⟨34, _⟩ => ⟨S4224x1024, .f32⟩
  | .hbm, ⟨35, _⟩ => ⟨S4224x1024, .f32⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S528x1024, .bf16⟩
  | .local _ .vmem, ⟨4, _⟩ => ⟨S528x1024, .bf16⟩
  | .local _ .vmem, ⟨5, _⟩ => ⟨S1056x1024, .bf16⟩
  | .local _ .vmem, ⟨6, _⟩ => ⟨S1056x1024, .bf16⟩
  | .local _ .vmem, ⟨7, _⟩ => ⟨S1024x1280, .bf16⟩
  | .local _ .vmem, ⟨8, _⟩ => ⟨S1056x1280, .f32⟩
  | .local _ .vmem, ⟨9, _⟩ => ⟨S1056x1280, .f32⟩
  | .local _ .vmem, ⟨10, _⟩ => ⟨S1056x1024, .bf16⟩
  | .local _ .vmem, ⟨11, _⟩ => ⟨S1056x1024, .bf16⟩
  | .local _ .vmem, ⟨12, _⟩ => ⟨S1024x1280, .bf16⟩
  | .local _ .vmem, ⟨13, _⟩ => ⟨S1056x1280, .f32⟩
  | .local _ .vmem, ⟨14, _⟩ => ⟨S1056x1280, .f32⟩
  | .local _ .vmem, ⟨15, _⟩ => ⟨S528x1280, .f32⟩
  | .local _ .vmem, ⟨16, _⟩ => ⟨S528x1280, .f32⟩
  | .local _ .vmem, ⟨17, _⟩ => ⟨S528x1280, .f32⟩
  | .local _ .vmem, ⟨18, _⟩ => ⟨S528x1280, .f32⟩
  | .local _ .vmem, ⟨19, _⟩ => ⟨S528x1280, .bf16⟩
  | .local _ .vmem, ⟨20, _⟩ => ⟨S528x1280, .bf16⟩
  | .local _ .vmem, ⟨21, _⟩ => ⟨S528x1280, .bf16⟩
  | .local _ .vmem, ⟨22, _⟩ => ⟨S528x1280, .bf16⟩
  | .local _ .vmem, ⟨23, _⟩ => ⟨S1280x1024, .bf16⟩
  | .local _ .vmem, ⟨24, _⟩ => ⟨S528x1024, .f32⟩
  | .local _ .vmem, ⟨25, _⟩ => ⟨S528x1024, .f32⟩
  | .local _ .vmem, ⟨26, _⟩ => ⟨S1x1024, .f32⟩
  | .local _ .vmem, ⟨27, _⟩ => ⟨S528x1024, .f32⟩
  | .local _ .vmem, ⟨28, _⟩ => ⟨S528x1024, .f32⟩
  | .local _ .vmem, ⟨29, _⟩ => ⟨S528x1024, .f32⟩
  | .local _ .vmem, ⟨30, _⟩ => ⟨S528x1024, .f32⟩
  | .local _ .vmem, ⟨31, _⟩ => ⟨S4224x640, .bf16⟩
  | .local _ .vmem, ⟨32, _⟩ => ⟨S4224x640, .bf16⟩
  | .local _ .vmem, ⟨33, _⟩ => ⟨S4224x1024, .bf16⟩
  | .local _ .vmem, ⟨34, _⟩ => ⟨S640x1024, .f32⟩
  | .local _ .vmem, ⟨35, _⟩ => ⟨S640x1024, .f32⟩
  | .local _ .vmem, ⟨36, _⟩ => ⟨S1056x1024, .bf16⟩
  | .local _ .vmem, ⟨37, _⟩ => ⟨S1056x1024, .bf16⟩
  | .local _ .vmem, ⟨38, _⟩ => ⟨S1280x1024, .bf16⟩
  | .local _ .vmem, ⟨39, _⟩ => ⟨S1056x1280, .f32⟩
  | .local _ .vmem, ⟨40, _⟩ => ⟨S1056x1280, .f32⟩
  | .local _ .vmem, ⟨41, _⟩ => ⟨S528x1280, .f32⟩
  | .local _ .vmem, ⟨42, _⟩ => ⟨S528x1280, .f32⟩
  | .local _ .vmem, ⟨43, _⟩ => ⟨S528x1280, .f32⟩
  | .local _ .vmem, ⟨44, _⟩ => ⟨S528x1280, .f32⟩
  | .local _ .vmem, ⟨45, _⟩ => ⟨S528x1280, .f32⟩
  | .local _ .vmem, ⟨46, _⟩ => ⟨S528x1280, .f32⟩
  | .local _ .vmem, ⟨47, _⟩ => ⟨S528x1280, .f32⟩
  | .local _ .vmem, ⟨48, _⟩ => ⟨S528x1280, .f32⟩
  | .local _ .vmem, ⟨49, _⟩ => ⟨S528x1280, .bf16⟩
  | .local _ .vmem, ⟨50, _⟩ => ⟨S528x1280, .bf16⟩
  | .local _ .vmem, ⟨51, _⟩ => ⟨S4224x1024, .bf16⟩
  | .local _ .vmem, ⟨52, _⟩ => ⟨S4224x1280, .bf16⟩
  | .local _ .vmem, ⟨53, _⟩ => ⟨S1024x1280, .f32⟩
  | .local _ .vmem, ⟨54, _⟩ => ⟨S4224x1024, .bf16⟩
  | .local _ .vmem, ⟨55, _⟩ => ⟨S4224x1280, .bf16⟩
  | .local _ .vmem, ⟨56, _⟩ => ⟨S1024x1280, .f32⟩
  | .local _ .vmem, ⟨57, _⟩ => ⟨S528x1280, .bf16⟩
  | .local _ .vmem, ⟨58, _⟩ => ⟨S528x1280, .bf16⟩
  | .local _ .vmem, ⟨59, _⟩ => ⟨S1024x1280, .bf16⟩
  | .local _ .vmem, ⟨60, _⟩ => ⟨S528x1024, .f32⟩
  | .local _ .vmem, ⟨61, _⟩ => ⟨S528x1024, .f32⟩
  | .local _ .vmem, ⟨62, _⟩ => ⟨S528x1280, .bf16⟩
  | .local _ .vmem, ⟨63, _⟩ => ⟨S528x1280, .bf16⟩
  | .local _ .vmem, ⟨64, _⟩ => ⟨S1024x1280, .bf16⟩
  | .local _ .vmem, ⟨65, _⟩ => ⟨S528x1024, .f32⟩
  | .local _ .vmem, ⟨66, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg4_1 : Ref sig .tc := ⟨.vmem, 28, rfl⟩
abbrev cc4_stg5_0 : Ref sig .tc := ⟨.vmem, 29, rfl⟩
abbrev cc4_stg5_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc7_stg3_0 : Ref sig .tc := ⟨.vmem, 47, rfl⟩
abbrev cc7_stg3_1 : Ref sig .tc := ⟨.vmem, 48, rfl⟩
abbrev cc7_stg4_0 : Ref sig .tc := ⟨.vmem, 49, rfl⟩
abbrev cc7_stg4_1 : Ref sig .tc := ⟨.vmem, 50, rfl⟩
abbrev cc8_stg0_0 : Ref sig .tc := ⟨.vmem, 51, rfl⟩
abbrev cc8_stg1_0 : Ref sig .tc := ⟨.vmem, 52, rfl⟩
abbrev cc8_stg2_0 : Ref sig .tc := ⟨.vmem, 53, rfl⟩
abbrev cc9_stg0_0 : Ref sig .tc := ⟨.vmem, 54, rfl⟩
abbrev cc9_stg1_0 : Ref sig .tc := ⟨.vmem, 55, rfl⟩
abbrev cc9_stg2_0 : Ref sig .tc := ⟨.vmem, 56, rfl⟩
abbrev cc10_stg0_0 : Ref sig .tc := ⟨.vmem, 57, rfl⟩
abbrev cc10_stg0_1 : Ref sig .tc := ⟨.vmem, 58, rfl⟩
abbrev cc10_stg1_0 : Ref sig .tc := ⟨.vmem, 59, rfl⟩
abbrev cc10_stg2_0 : Ref sig .tc := ⟨.vmem, 60, rfl⟩
abbrev cc10_stg2_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg2_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc4_sem3_0 : DmaSem sig := 26
abbrev cc4_sem4_0 : DmaSem sig := 27
abbrev cc4_sem4_1 : DmaSem sig := 28
abbrev cc4_sem5_0 : DmaSem sig := 29
abbrev cc4_sem5_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc7_sem3_0 : DmaSem sig := 47
abbrev cc7_sem3_1 : DmaSem sig := 48
abbrev cc7_sem4_0 : DmaSem sig := 49
abbrev cc7_sem4_1 : DmaSem sig := 50
abbrev cc8_sem0_0 : DmaSem sig := 51
abbrev cc8_sem1_0 : DmaSem sig := 52
abbrev cc8_sem2_0 : DmaSem sig := 53
abbrev cc9_sem0_0 : DmaSem sig := 54
abbrev cc9_sem1_0 : DmaSem sig := 55
abbrev cc9_sem2_0 : DmaSem sig := 56
abbrev cc10_sem0_0 : DmaSem sig := 57
abbrev cc10_sem0_1 : DmaSem sig := 58
abbrev cc10_sem1_0 : DmaSem sig := 59
abbrev cc10_sem2_0 : DmaSem sig := 60
abbrev cc10_sem2_1 : DmaSem sig := 61
abbrev cc11_sem0_0 : DmaSem sig := 62
abbrev cc11_sem0_1 : DmaSem sig := 63
abbrev cc11_sem1_0 : DmaSem sig := 64
abbrev cc11_sem2_0 : DmaSem sig := 65
abbrev cc11_sem2_1 : DmaSem sig := 66

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1056x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1056x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1056x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1280 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1056x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S528x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S528x1280 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S528x1280 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![8, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S528x1280 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1280x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S528x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, true, false]

abbrev stage4_4 : Fin 2 → Memref sig .tc .vmem S528x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S528x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4224x640 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S4224x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S640x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1056x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1280x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1056x1280 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![1, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S528x1280 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S528x1280 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S528x1280 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S528x1280 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S528x1280 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨3, ![1, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S4224x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 1 → Memref sig .tc .vmem S4224x1280 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S1024x1280 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S4224x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S4224x1280 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S1024x1280 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![8, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S528x1280 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S1024x1280 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S528x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![8, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S528x1280 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S1024x1280 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S528x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]
-- ==== RgRefIdeal.lean ====
abbrev S4224x1024 : Shape := ⟨2, ![4224, 1024]⟩
abbrev S1024 : Shape := ⟨1, ![1024]⟩
abbrev S2x1024x1280 : Shape := ⟨3, ![2, 1024, 1280]⟩
abbrev S2x1280x1024 : Shape := ⟨3, ![2, 1280, 1024]⟩
abbrev S4224x1280 : Shape := ⟨2, ![4224, 1280]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1x1024x1280 : Shape := ⟨3, ![1, 1024, 1280]⟩
abbrev S1024x1280 : Shape := ⟨2, ![1024, 1280]⟩
abbrev S1x1280x1024 : Shape := ⟨3, ![1, 1280, 1024]⟩
abbrev S1280x1024 : Shape := ⟨2, ![1280, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S2x1024x1280, .f32⟩
  | .hbm, ⟨4, _⟩ => ⟨S2x1024x1280, .f32⟩
  | .hbm, ⟨5, _⟩ => ⟨S2x1280x1024, .f32⟩
  | .hbm, ⟨6, _⟩ => ⟨S4224x1280, .f32⟩
  | .hbm, ⟨7, _⟩ => ⟨S4224x1024, .f32⟩
  | .hbm, ⟨8, _⟩ => ⟨S4224x1280, .f32⟩
  | .hbm, ⟨9, _⟩ => ⟨S4224x1024, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S1x1024x1280, .f32⟩
  | .hbm, ⟨26, _⟩ => ⟨S1024x1280, .f32⟩
  | .hbm, ⟨27, _⟩ => ⟨S4224x1280, .f32⟩
  | .hbm, ⟨28, _⟩ => ⟨S1x1024x1280, .f32⟩
  | .hbm, ⟨29, _⟩ => ⟨S1024x1280, .f32⟩
  | .hbm, ⟨30, _⟩ => ⟨S1x1280x1024, .f32⟩
  | .hbm, ⟨31, _⟩ => ⟨S1280x1024, .f32⟩
  | .hbm, ⟨32, _⟩ => ⟨S4224x1280, .f32⟩
  | .hbm, ⟨33, _⟩ => ⟨S4224x1280, .f32⟩
  | .hbm, ⟨34, _⟩ => ⟨S4224x1280, .f32⟩
  | .hbm, ⟨35, _⟩ => ⟨S4224x1280, .f32⟩
  | .hbm, ⟨36, _⟩ => ⟨S_, .f32⟩
  | .hbm, ⟨37, _⟩ => ⟨S4224x1280, .f32⟩
  | .hbm, ⟨38, _⟩ => ⟨S4224x1280, .f32⟩
  | .hbm, ⟨39, _⟩ => ⟨S_, .f32⟩
  | .hbm, ⟨40, _⟩ => ⟨S4224x1280, .f32⟩
  | .hbm, ⟨41, _⟩ => ⟨S4224x1280, .f32⟩
  | .hbm, ⟨42, _⟩ => ⟨S4224x1280, .f32⟩
  | .hbm, ⟨43, _⟩ => ⟨S_, .f32⟩
  | .hbm, ⟨44, _⟩ => ⟨S4224x1280, .f32⟩
  | .hbm, ⟨45, _⟩ => ⟨S4224x1280, .f32⟩
  | .hbm, ⟨46, _⟩ => ⟨S4224x1280, .f32⟩
  | .hbm, ⟨47, _⟩ => ⟨S_, .f32⟩
  | .hbm, ⟨48, _⟩ => ⟨S4224x1280, .f32⟩
  | .hbm, ⟨49, _⟩ => ⟨S4224x1280, .f32⟩
  | .hbm, ⟨50, _⟩ => ⟨S_, .f32⟩
  | .hbm, ⟨51, _⟩ => ⟨S4224x1280, .f32⟩
  | .hbm, ⟨52, _⟩ => ⟨S4224x1280, .f32⟩
  | .hbm, ⟨53, _⟩ => ⟨S4224x1280, .f32⟩
  | .hbm, ⟨54, _⟩ => ⟨S_, .f32⟩
  | .hbm, ⟨55, _⟩ => ⟨S4224x1280, .f32⟩
  | .hbm, ⟨56, _⟩ => ⟨S4224x1280, .f32⟩
  | .hbm, ⟨57, _⟩ => ⟨S_, .f32⟩
  | .hbm, ⟨58, _⟩ => ⟨S4224x1280, .f32⟩
  | .hbm, ⟨59, _⟩ => ⟨S4224x1280, .f32⟩
  | .hbm, ⟨60, _⟩ => ⟨S4224x1280, .f32⟩
  | .hbm, ⟨61, _⟩ => ⟨S4224x1280, .f32⟩
  | .hbm, ⟨62, _⟩ => ⟨S4224x1024, .f32⟩
  | .hbm, ⟨63, _⟩ => ⟨S1280x1024, .f32⟩
  | .hbm, ⟨64, _⟩ => ⟨S1024x1280, .f32⟩
  | .hbm, ⟨65, _⟩ => ⟨S4224x1024, .f32⟩
  | .hbm, ⟨66, _⟩ => ⟨S1024x1280, .f32⟩
  | .hbm, ⟨67, _⟩ => ⟨S1280x1024, .f32⟩
  | .hbm, ⟨68, _⟩ => ⟨S4224x1280, .f32⟩
  | .hbm, ⟨69, _⟩ => ⟨S4224x1280, .f32⟩
  | .hbm, ⟨70, _⟩ => ⟨S4224x1280, .f32⟩
  | .hbm, ⟨71, _⟩ => ⟨S4224x1280, .f32⟩
  | .hbm, ⟨72, _⟩ => ⟨S4224x1280, .f32⟩
  | .hbm, ⟨73, _⟩ => ⟨S_, .f32⟩
  | .hbm, ⟨74, _⟩ => ⟨S4224x1280, .f32⟩
  | .hbm, ⟨75, _⟩ => ⟨S4224x1280, .f32⟩
  | .hbm, ⟨76, _⟩ => ⟨S4224x1280, .f32⟩
  | .hbm, ⟨77, _⟩ => ⟨S_, .f32⟩
  | .hbm, ⟨78, _⟩ => ⟨S4224x1280, .f32⟩
  | .hbm, ⟨79, _⟩ => ⟨S4224x1280, .f32⟩
  | .hbm, ⟨80, _⟩ => ⟨S4224x1280, .f32⟩
  | .hbm, ⟨81, _⟩ => ⟨S_, .f32⟩
  | .hbm, ⟨82, _⟩ => ⟨S4224x1280, .f32⟩
  | .hbm, ⟨83, _⟩ => ⟨S4224x1280, .f32⟩
  | .hbm, ⟨84, _⟩ => ⟨S4224x1280, .f32⟩
  | .hbm, ⟨85, _⟩ => ⟨S4224x1280, .f32⟩
  | .hbm, ⟨86, _⟩ => ⟨S1280x1024, .f32⟩
  | .hbm, ⟨87, _⟩ => ⟨S1024x1280, .f32⟩
  | .hbm, ⟨88, _⟩ => ⟨S4224x1024, .f32⟩
  | .hbm, ⟨89, _⟩ => ⟨S4224x1024, .f32⟩
  | .hbm, ⟨90, _⟩ => ⟨S_, .f32⟩
  | .hbm, ⟨91, _⟩ => ⟨S4224, .f32⟩
  | .hbm, ⟨92, _⟩ => ⟨S4224x1, .f32⟩
  | .hbm, ⟨93, _⟩ => ⟨S_, .f32⟩
  | .hbm, ⟨94, _⟩ => ⟨S4224x1, .f32⟩
  | .hbm, ⟨95, _⟩ => ⟨S4224x1, .f32⟩
  | .hbm, ⟨96, _⟩ => ⟨S_, .f32⟩
  | .hbm, ⟨97, _⟩ => ⟨S4224x1, .f32⟩
  | .hbm, ⟨98, _⟩ => ⟨S4224x1, .f32⟩
  | .hbm, ⟨99, _⟩ => ⟨S4224x1, .f32⟩
  | .hbm, ⟨100, _⟩ => ⟨S4224x1024, .f32⟩
  | .hbm, ⟨101, _⟩ => ⟨S4224x1024, .f32⟩
  | .hbm, ⟨102, _⟩ => ⟨S1x1024, .f32⟩
  | .hbm, ⟨103, _⟩ => ⟨S4224x1024, .f32⟩
  | .hbm, ⟨104, _⟩ => ⟨S4224x1024, .f32⟩
  | .hbm, ⟨105, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Sm.lean ====
abbrev S4224x1024 : Shape := ⟨2, ![4224, 1024]⟩
abbrev S1024 : Shape := ⟨1, ![1024]⟩
abbrev S2x1024x3248 : Shape := ⟨3, ![2, 1024, 3248]⟩
abbrev S2x2048x1024 : Shape := ⟨3, ![2, 2048, 1024]⟩
abbrev S4224x3248 : Shape := ⟨2, ![4224, 3248]⟩
abbrev S1x2048x1024 : Shape := ⟨3, ![1, 2048, 1024]⟩
abbrev S2048x1024 : Shape := ⟨2, ![2048, 1024]⟩
abbrev S1024x1024 : Shape := ⟨2, ![1024, 1024]⟩
abbrev S16x64x1024 : Shape := ⟨3, ![16, 64, 1024]⟩
abbrev S1x1024 : Shape := ⟨2, ![1, 1024]⟩
abbrev S1x1024x3248 : Shape := ⟨3, ![1, 1024, 3248]⟩
abbrev S1024x3248 : Shape := ⟨2, ![1024, 3248]⟩
abbrev S1024x2576 : Shape := ⟨2, ![1024, 2576]⟩
abbrev S_ : Shape := ⟨0, ![]⟩
abbrev S1024x112 : Shape := ⟨2, ![1024, 112]⟩
abbrev S1024x640 : Shape := ⟨2, ![1024, 640]⟩
abbrev S1024x64 : Shape := ⟨2, ![1024, 64]⟩
abbrev S1024x32 : Shape := ⟨2, ![1024, 32]⟩
abbrev S1024x3456 : Shape := ⟨2, ![1024, 3456]⟩
abbrev S16x128x1024 : Shape := ⟨3, ![16, 128, 1024]⟩
abbrev S4224x16x64 : Shape := ⟨3, ![4224, 16, 64]⟩
abbrev S4224x16x128 : Shape := ⟨3, ![4224, 16, 128]⟩
abbrev S4224x2048 : Shape := ⟨2, ![4224, 2048]⟩
abbrev S528x1024 : Shape := ⟨2, ![528, 1024]⟩
abbrev S528 : Shape := ⟨1, ![528]⟩
abbrev S528x1 : Shape := ⟨2, ![528, 1]⟩
abbrev S4224x3456 : Shape := ⟨2, ![4224, 3456]⟩
abbrev S1056x1024 : Shape := ⟨2, ![1056, 1024]⟩
abbrev S1024x1152 : Shape := ⟨2, ![1024, 1152]⟩
abbrev S1056x1152 : Shape := ⟨2, ![1056, 1152]⟩
abbrev S528x2048 : Shape := ⟨2, ![528, 2048]⟩
abbrev S4224x2576 : Shape := ⟨2, ![4224, 2576]⟩
abbrev S4224x112 : Shape := ⟨2, ![4224, 112]⟩
abbrev S4224x640 : Shape := ⟨2, ![4224, 640]⟩
abbrev S4224x64 : Shape := ⟨2, ![4224, 64]⟩
abbrev S4224x32 : Shape := ⟨2, ![4224, 32]⟩
abbrev S4224x1152 : Shape := ⟨2, ![4224, 1152]⟩
abbrev S528x3456 : Shape := ⟨2, ![528, 3456]⟩

abbrev nBuf : Space → Nat
  | .hbm => 81
  | .vmem => 57
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S2x1024x3248, .f32⟩
  | .hbm, ⟨4, _⟩ => ⟨S2x2048x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x3248, .f32⟩
  | .hbm, ⟨9, _⟩ => ⟨S1x2048x1024, .f32⟩
  | .hbm, ⟨10, _⟩ => ⟨S2048x1024, .f32⟩
  | .hbm, ⟨11, _⟩ => ⟨S1024x1024, .f32⟩
  | .hbm, ⟨12, _⟩ => ⟨S16x64x1024, .f32⟩
  | .hbm, ⟨13, _⟩ => ⟨S1x1024, .f32⟩
  | .hbm, ⟨14, _⟩ => ⟨S1x1024, .f32⟩
  | .hbm, ⟨15, _⟩ => ⟨S1x1024x3248, .f32⟩
  | .hbm, ⟨16, _⟩ => ⟨S1024x3248, .f32⟩
  | .hbm, ⟨17, _⟩ => ⟨S1024x2576, .f32⟩
  | .hbm, ⟨18, _⟩ => ⟨S_, .f32⟩
  | .hbm, ⟨19, _⟩ => ⟨S1024x112, .f32⟩
  | .hbm, ⟨20, _⟩ => ⟨S1024x640, .f32⟩
  | .hbm, ⟨21, _⟩ => ⟨S_, .f32⟩
  | .hbm, ⟨22, _⟩ => ⟨S1024x64, .f32⟩
  | .hbm, ⟨23, _⟩ => ⟨S1024x32, .f32⟩
  | .hbm, ⟨24, _⟩ => ⟨S_, .f32⟩
  | .hbm, ⟨25, _⟩ => ⟨S1024x32, .f32⟩
  | .hbm, ⟨26, _⟩ => ⟨S1024x3456, .f32⟩
  | .hbm, ⟨27, _⟩ => ⟨S1024x3456, .bf16⟩
  | .hbm, ⟨28, _⟩ => ⟨S1024x1024, .f32⟩
  | .hbm, ⟨29, _⟩ => ⟨S1024x1024, .bf16⟩
  | .hbm, ⟨30, _⟩ => ⟨S_, .i32⟩
  | .hbm, ⟨31, _⟩ => ⟨S_, .f32⟩
  | .hbm, ⟨32, _⟩ => ⟨S16x128x1024, .f32⟩
  | .hbm, ⟨33, _⟩ => ⟨S2048x1024, .f32⟩
  | .hbm, ⟨34, _⟩ => ⟨S2048x1024, .bf16⟩
  | .hbm, ⟨35, _⟩ => ⟨S4224x16x64, .f32⟩
  | .hbm, ⟨36, _⟩ => ⟨S_, .i32⟩
  | .hbm, ⟨37, _⟩ => ⟨S_, .f32⟩
  | .hbm, ⟨38, _⟩ => ⟨S4224x16x128, .f32⟩
  | .hbm, ⟨39, _⟩ => ⟨S4224x2048, .f32⟩
  | .hbm, ⟨40, _⟩ => ⟨S4224x2048, .bf16⟩
  | .hbm, ⟨41, _⟩ => ⟨S4224x1024, .bf16⟩
  | .hbm, ⟨42, _⟩ => ⟨S4224x1024, .bf16⟩
  | .hbm, ⟨43, _⟩ => ⟨S4224x1024, .bf16⟩
  | .hbm, ⟨44, _⟩ => ⟨S4224x3456, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x2576, .f32⟩
  | .hbm, ⟨49, _⟩ => ⟨S_, .f32⟩
  | .hbm, ⟨50, _⟩ => ⟨S4224x112, .f32⟩
  | .hbm, ⟨51, _⟩ => ⟨S4224x640, .f32⟩
  | .hbm, ⟨52, _⟩ => ⟨S_, .f32⟩
  | .hbm, ⟨53, _⟩ => ⟨S4224x64, .f32⟩
  | .hbm, ⟨54, _⟩ => ⟨S4224x32, .f32⟩
  | .hbm, ⟨55, _⟩ => ⟨S_, .f32⟩
  | .hbm, ⟨56, _⟩ => ⟨S4224x32, .f32⟩
  | .hbm, ⟨57, _⟩ => ⟨S4224x3456, .f32⟩
  | .hbm, ⟨58, _⟩ => ⟨S4224x3456, .bf16⟩
  | .hbm, ⟨59, _⟩ => ⟨S1024x1024, .f32⟩
  | .hbm, ⟨60, _⟩ => ⟨S2048x1024, .f32⟩
  | .hbm, ⟨61, _⟩ => ⟨S4224x1024, .f32⟩
  | .hbm, ⟨62, _⟩ => ⟨S4224x2048, .bf16⟩
  | .hbm, ⟨63, _⟩ => ⟨S1024x3456, .f32⟩
  | .hbm, ⟨64, _⟩ => ⟨S4224x1024, .f32⟩
  | .hbm, ⟨65, _⟩ => ⟨S4224x2048, .f32⟩
  | .hbm, ⟨66, _⟩ => ⟨S4224x16x128, .f32⟩
  | .hbm, ⟨67, _⟩ => ⟨S4224x16x64, .f32⟩
  | .hbm, ⟨68, _⟩ => ⟨S4224x1024, .f32⟩
  | .hbm, ⟨69, _⟩ => ⟨S16x128x1024, .f32⟩
  | .hbm, ⟨70, _⟩ => ⟨S16x64x1024, .f32⟩
  | .hbm, ⟨71, _⟩ => ⟨S1024x1024, .f32⟩
  | .hbm, ⟨72, _⟩ => ⟨S2048x1024, .f32⟩
  | .hbm, ⟨73, _⟩ => ⟨S4224x2576, .f32⟩
  | .hbm, ⟨74, _⟩ => ⟨S4224x640, .f32⟩
  | .hbm, ⟨75, _⟩ => ⟨S4224x32, .f32⟩
  | .hbm, ⟨76, _⟩ => ⟨S4224x3248, .f32⟩
  | .hbm, ⟨77, _⟩ => ⟨S1024x2576, .f32⟩
  | .hbm, ⟨78, _⟩ => ⟨S1024x640, .f32⟩
  | .hbm, ⟨79, _⟩ => ⟨S1024x32, .f32⟩
  | .hbm, ⟨80, _⟩ => ⟨S1024x3248, .f32⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S528x1024, .bf16⟩
  | .local _ .vmem, ⟨4, _⟩ => ⟨S528x1024, .bf16⟩
  | .local _ .vmem, ⟨5, _⟩ => ⟨S1056x1024, .bf16⟩
  | .local _ .vmem, ⟨6, _⟩ => ⟨S1056x1024, .bf16⟩
  | .local _ .vmem, ⟨7, _⟩ => ⟨S1024x1152, .bf16⟩
  | .local _ .vmem, ⟨8, _⟩ => ⟨S1024x1152, .bf16⟩
  | .local _ .vmem, ⟨9, _⟩ => ⟨S1056x1152, .f32⟩
  | .local _ .vmem, ⟨10, _⟩ => ⟨S1056x1152, .f32⟩
  | .local _ .vmem, ⟨11, _⟩ => ⟨S1056x1024, .bf16⟩
  | .local _ .vmem, ⟨12, _⟩ => ⟨S1056x1024, .bf16⟩
  | .local _ .vmem, ⟨13, _⟩ => ⟨S1024x1024, .bf16⟩
  | .local _ .vmem, ⟨14, _⟩ => ⟨S1056x1024, .f32⟩
  | .local _ .vmem, ⟨15, _⟩ => ⟨S1056x1024, .f32⟩
  | .local _ .vmem, ⟨16, _⟩ => ⟨S528x2048, .bf16⟩
  | .local _ .vmem, ⟨17, _⟩ => ⟨S528x2048, .bf16⟩
  | .local _ .vmem, ⟨18, _⟩ => ⟨S2048x1024, .bf16⟩
  | .local _ .vmem, ⟨19, _⟩ => ⟨S528x1024, .f32⟩
  | .local _ .vmem, ⟨20, _⟩ => ⟨S528x1024, .f32⟩
  | .local _ .vmem, ⟨21, _⟩ => ⟨S528x1024, .f32⟩
  | .local _ .vmem, ⟨22, _⟩ => ⟨S528x1024, .f32⟩
  | .local _ .vmem, ⟨23, _⟩ => ⟨S1x1024, .f32⟩
  | .local _ .vmem, ⟨24, _⟩ => ⟨S528x1024, .f32⟩
  | .local _ .vmem, ⟨25, _⟩ => ⟨S528x1024, .f32⟩
  | .local _ .vmem, ⟨26, _⟩ => ⟨S528x1024, .f32⟩
  | .local _ .vmem, ⟨27, _⟩ => ⟨S528x1024, .f32⟩
  | .local _ .vmem, ⟨28, _⟩ => ⟨S4224x1024, .bf16⟩
  | .local _ .vmem, ⟨29, _⟩ => ⟨S4224x1024, .bf16⟩
  | .local _ .vmem, ⟨30, _⟩ => ⟨S1024x1024, .f32⟩
  | .local _ .vmem, ⟨31, _⟩ => ⟨S4224x1024, .bf16⟩
  | .local _ .vmem, ⟨32, _⟩ => ⟨S4224x1024, .bf16⟩
  | .local _ .vmem, ⟨33, _⟩ => ⟨S4224x1024, .bf16⟩
  | .local _ .vmem, ⟨34, _⟩ => ⟨S1024x1024, .f32⟩
  | .local _ .vmem, ⟨35, _⟩ => ⟨S1024x1024, .f32⟩
  | .local _ .vmem, ⟨36, _⟩ => ⟨S1056x1024, .bf16⟩
  | .local _ .vmem, ⟨37, _⟩ => ⟨S1056x1024, .bf16⟩
  | .local _ .vmem, ⟨38, _⟩ => ⟨S1024x1024, .bf16⟩
  | .local _ .vmem, ⟨39, _⟩ => ⟨S1056x1024, .f32⟩
  | .local _ .vmem, ⟨40, _⟩ => ⟨S1056x1024, .f32⟩
  | .local _ .vmem, ⟨41, _⟩ => ⟨S1056x1024, .bf16⟩
  | .local _ .vmem, ⟨42, _⟩ => ⟨S1056x1024, .bf16⟩
  | .local _ .vmem, ⟨43, _⟩ => ⟨S1024x1024, .bf16⟩
  | .local _ .vmem, ⟨44, _⟩ => ⟨S1024x1024, .bf16⟩
  | .local _ .vmem, ⟨45, _⟩ => ⟨S1056x1024, .bf16⟩
  | .local _ .vmem, ⟨46, _⟩ => ⟨S1056x1024, .bf16⟩
  | .local _ .vmem, ⟨47, _⟩ => ⟨S4224x1024, .bf16⟩
  | .local _ .vmem, ⟨48, _⟩ => ⟨S4224x1152, .bf16⟩
  | .local _ .vmem, ⟨49, _⟩ => ⟨S4224x1152, .bf16⟩
  | .local _ .vmem, ⟨50, _⟩ => ⟨S1024x1152, .f32⟩
  | .local _ .vmem, ⟨51, _⟩ => ⟨S1024x1152, .f32⟩
  | .local _ .vmem, ⟨52, _⟩ => ⟨S528x3456, .bf16⟩
  | .local _ .vmem, ⟨53, _⟩ => ⟨S528x3456, .bf16⟩
  | .local _ .vmem, ⟨54, _⟩ => ⟨S1024x3456, .bf16⟩
  | .local _ .vmem, ⟨55, _⟩ => ⟨S528x1024, .f32⟩
  | .local _ .vmem, ⟨56, _⟩ => ⟨S528x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg2_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg2_0 : Ref sig .tc := ⟨.vmem, 55, rfl⟩
abbrev cc9_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem1_0 : DmaSem sig := 29
abbrev cc4_sem2_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem2_0 : DmaSem sig := 55
abbrev cc9_sem2_1 : DmaSem sig := 56

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1056x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1152 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1056x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1056x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1056x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S528x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S528x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S528x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, true, false]

abbrev stage3_5 : Fin 2 → Memref sig .tc .vmem S528x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S528x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4224x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4224x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4224x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S4224x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1056x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1056x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1056x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1056x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 3, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S4224x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S4224x1152 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1152 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![8, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S528x3456 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S1024x3456 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S528x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== SmRefIdeal.lean ====
abbrev S4224x1024 : Shape := ⟨2, ![4224, 1024]⟩
abbrev S1024 : Shape := ⟨1, ![1024]⟩
abbrev S2x1024x3248 : Shape := ⟨3, ![2, 1024, 3248]⟩
abbrev S2x2048x1024 : Shape := ⟨3, ![2, 2048, 1024]⟩
abbrev S4224x3248 : Shape := ⟨2, ![4224, 3248]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1x1024x3248 : Shape := ⟨3, ![1, 1024, 3248]⟩
abbrev S1024x3248 : Shape := ⟨2, ![1024, 3248]⟩
abbrev S1x2048x1024 : Shape := ⟨3, ![1, 2048, 1024]⟩
abbrev S2048x1024 : Shape := ⟨2, ![2048, 1024]⟩
abbrev S4224x2048 : Shape := ⟨2, ![4224, 2048]⟩
abbrev S3248x1024 : Shape := ⟨2, ![3248, 1024]⟩
abbrev S1024x2048 : Shape := ⟨2, ![1024, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024, .f32⟩
  | .hbm, ⟨3, _⟩ => ⟨S2x1024x3248, .f32⟩
  | .hbm, ⟨4, _⟩ => ⟨S2x2048x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x3248, .f32⟩
  | .hbm, ⟨9, _⟩ => ⟨S4224x1024, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S1x1024x3248, .f32⟩
  | .hbm, ⟨26, _⟩ => ⟨S1024x3248, .f32⟩
  | .hbm, ⟨27, _⟩ => ⟨S4224x3248, .f32⟩
  | .hbm, ⟨28, _⟩ => ⟨S1x2048x1024, .f32⟩
  | .hbm, ⟨29, _⟩ => ⟨S2048x1024, .f32⟩
  | .hbm, ⟨30, _⟩ => ⟨S4224x2048, .f32⟩
  | .hbm, ⟨31, _⟩ => ⟨S4224x1024, .f32⟩
  | .hbm, ⟨32, _⟩ => ⟨S3248x1024, .f32⟩
  | .hbm, ⟨33, _⟩ => ⟨S1024x3248, .f32⟩
  | .hbm, ⟨34, _⟩ => ⟨S4224x1024, .f32⟩
  | .hbm, ⟨35, _⟩ => ⟨S1024x2048, .f32⟩
  | .hbm, ⟨36, _⟩ => ⟨S2048x1024, .f32⟩
  | .hbm, ⟨37, _⟩ => ⟨S4224x2048, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224, .f32⟩
  | .hbm, ⟨43, _⟩ => ⟨S4224x1, .f32⟩
  | .hbm, ⟨44, _⟩ => ⟨S_, .f32⟩
  | .hbm, ⟨45, _⟩ => ⟨S4224x1, .f32⟩
  | .hbm, ⟨46, _⟩ => ⟨S4224x1, .f32⟩
  | .hbm, ⟨47, _⟩ => ⟨S_, .f32⟩
  | .hbm, ⟨48, _⟩ => ⟨S4224x1, .f32⟩
  | .hbm, ⟨49, _⟩ => ⟨S4224x1, .f32⟩
  | .hbm, ⟨50, _⟩ => ⟨S4224x1, .f32⟩
  | .hbm, ⟨51, _⟩ => ⟨S4224x1024, .f32⟩
  | .hbm, ⟨52, _⟩ => ⟨S4224x1024, .f32⟩
  | .hbm, ⟨53, _⟩ => ⟨S1x1024, .f32⟩
  | .hbm, ⟨54, _⟩ => ⟨S4224x1024, .f32⟩
  | .hbm, ⟨55, _⟩ => ⟨S4224x1024, .f32⟩
  | .hbm, ⟨56, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== AdamL.lean ====
abbrev S4096x1024 : Shape := ⟨2, ![4096, 1024]⟩
abbrev S2048x812 : Shape := ⟨2, ![2048, 812]⟩
abbrev S768x384 : Shape := ⟨2, ![768, 384]⟩
abbrev S512x512 : Shape := ⟨2, ![512, 512]⟩
abbrev S1024x1024 : Shape := ⟨2, ![1024, 1024]⟩
abbrev S2048x320 : Shape := ⟨2, ![2048, 320]⟩
abbrev S2560x128 : Shape := ⟨2, ![2560, 128]⟩
abbrev S640x1024 : Shape := ⟨2, ![640, 1024]⟩
abbrev S512x1024 : Shape := ⟨2, ![512, 1024]⟩
abbrev S512x812 : Shape := ⟨2, ![512, 812]⟩
abbrev S384x384 : Shape := ⟨2, ![384, 384]⟩
abbrev S512x320 : Shape := ⟨2, ![512, 320]⟩
abbrev S512x128 : Shape := ⟨2, ![512, 128]⟩
abbrev S320x1024 : Shape := ⟨2, ![320, 1024]⟩

abbrev nBuf : Space → Nat
  | .hbm => 64
  | .vmem => 120
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048x812, .f32⟩
  | .hbm, ⟨5, _⟩ => ⟨S2048x812, .f32⟩
  | .hbm, ⟨6, _⟩ => ⟨S2048x812, .f32⟩
  | .hbm, ⟨7, _⟩ => ⟨S2048x812, .f32⟩
  | .hbm, ⟨8, _⟩ => ⟨S768x384, .f32⟩
  | .hbm, ⟨9, _⟩ => ⟨S768x384, .f32⟩
  | .hbm, ⟨10, _⟩ => ⟨S768x384, .f32⟩
  | .hbm, ⟨11, _⟩ => ⟨S768x384, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S2048x320, .f32⟩
  | .hbm, ⟨21, _⟩ => ⟨S2048x320, .f32⟩
  | .hbm, ⟨22, _⟩ => ⟨S2048x320, .f32⟩
  | .hbm, ⟨23, _⟩ => ⟨S2048x320, .f32⟩
  | .hbm, ⟨24, _⟩ => ⟨S2560x128, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S640x1024, .f32⟩
  | .hbm, ⟨29, _⟩ => ⟨S640x1024, .f32⟩
  | .hbm, ⟨30, _⟩ => ⟨S640x1024, .f32⟩
  | .hbm, ⟨31, _⟩ => ⟨S640x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S2048x812, .f32⟩
  | .hbm, ⟨37, _⟩ => ⟨S2048x812, .f32⟩
  | .hbm, ⟨38, _⟩ => ⟨S2048x812, .f32⟩
  | .hbm, ⟨39, _⟩ => ⟨S2048x812, .f32⟩
  | .hbm, ⟨40, _⟩ => ⟨S768x384, .f32⟩
  | .hbm, ⟨41, _⟩ => ⟨S768x384, .f32⟩
  | .hbm, ⟨42, _⟩ => ⟨S768x384, .f32⟩
  | .hbm, ⟨43, _⟩ => ⟨S768x384, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S2048x320, .f32⟩
  | .hbm, ⟨53, _⟩ => ⟨S2048x320, .f32⟩
  | .hbm, ⟨54, _⟩ => ⟨S2048x320, .f32⟩
  | .hbm, ⟨55, _⟩ => ⟨S2048x320, .f32⟩
  | .hbm, ⟨56, _⟩ => ⟨S2560x128, .f32⟩
  | .hbm, ⟨57, _⟩ => ⟨S2560x128, .f32⟩
  | .hbm, ⟨58, _⟩ => ⟨S2560x128, .f32⟩
  | .hbm, ⟨59, _⟩ => ⟨S2560x128, .f32⟩
  | .hbm, ⟨60, _⟩ => ⟨S640x1024, .f32⟩
  | .hbm, ⟨61, _⟩ => ⟨S640x1024, .f32⟩
  | .hbm, ⟨62, _⟩ => ⟨S640x1024, .f32⟩
  | .hbm, ⟨63, _⟩ => ⟨S640x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x812, .f32⟩
  | .local _ .vmem, ⟨17, _⟩ => ⟨S512x812, .f32⟩
  | .local _ .vmem, ⟨18, _⟩ => ⟨S512x812, .f32⟩
  | .local _ .vmem, ⟨19, _⟩ => ⟨S512x812, .f32⟩
  | .local _ .vmem, ⟨20, _⟩ => ⟨S512x812, .f32⟩
  | .local _ .vmem, ⟨21, _⟩ => ⟨S512x812, .f32⟩
  | .local _ .vmem, ⟨22, _⟩ => ⟨S512x812, .f32⟩
  | .local _ .vmem, ⟨23, _⟩ => ⟨S512x812, .f32⟩
  | .local _ .vmem, ⟨24, _⟩ => ⟨S512x812, .f32⟩
  | .local _ .vmem, ⟨25, _⟩ => ⟨S512x812, .f32⟩
  | .local _ .vmem, ⟨26, _⟩ => ⟨S512x812, .f32⟩
  | .local _ .vmem, ⟨27, _⟩ => ⟨S512x812, .f32⟩
  | .local _ .vmem, ⟨28, _⟩ => ⟨S512x812, .f32⟩
  | .local _ .vmem, ⟨29, _⟩ => ⟨S512x812, .f32⟩
  | .local _ .vmem, ⟨30, _⟩ => ⟨S512x812, .f32⟩
  | .local _ .vmem, ⟨31, _⟩ => ⟨S512x812, .f32⟩
  | .local _ .vmem, ⟨32, _⟩ => ⟨S384x384, .f32⟩
  | .local _ .vmem, ⟨33, _⟩ => ⟨S384x384, .f32⟩
  | .local _ .vmem, ⟨34, _⟩ => ⟨S384x384, .f32⟩
  | .local _ .vmem, ⟨35, _⟩ => ⟨S384x384, .f32⟩
  | .local _ .vmem, ⟨36, _⟩ => ⟨S384x384, .f32⟩
  | .local _ .vmem, ⟨37, _⟩ => ⟨S384x384, .f32⟩
  | .local _ .vmem, ⟨38, _⟩ => ⟨S384x384, .f32⟩
  | .local _ .vmem, ⟨39, _⟩ => ⟨S384x384, .f32⟩
  | .local _ .vmem, ⟨40, _⟩ => ⟨S384x384, .f32⟩
  | .local _ .vmem, ⟨41, _⟩ => ⟨S384x384, .f32⟩
  | .local _ .vmem, ⟨42, _⟩ => ⟨S384x384, .f32⟩
  | .local _ .vmem, ⟨43, _⟩ => ⟨S384x384, .f32⟩
  | .local _ .vmem, ⟨44, _⟩ => ⟨S384x384, .f32⟩
  | .local _ .vmem, ⟨45, _⟩ => ⟨S384x384, .f32⟩
  | .local _ .vmem, ⟨46, _⟩ => ⟨S384x384, .f32⟩
  | .local _ .vmem, ⟨47, _⟩ => ⟨S384x384, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x320, .f32⟩
  | .local _ .vmem, ⟨73, _⟩ => ⟨S512x320, .f32⟩
  | .local _ .vmem, ⟨74, _⟩ => ⟨S512x320, .f32⟩
  | .local _ .vmem, ⟨75, _⟩ => ⟨S512x320, .f32⟩
  | .local _ .vmem, ⟨76, _⟩ => ⟨S512x320, .f32⟩
  | .local _ .vmem, ⟨77, _⟩ => ⟨S512x320, .f32⟩
  | .local _ .vmem, ⟨78, _⟩ => ⟨S512x320, .f32⟩
  | .local _ .vmem, ⟨79, _⟩ => ⟨S512x320, .f32⟩
  | .local _ .vmem, ⟨80, _⟩ => ⟨S512x320, .f32⟩
  | .local _ .vmem, ⟨81, _⟩ => ⟨S512x320, .f32⟩
  | .local _ .vmem, ⟨82, _⟩ => ⟨S512x320, .f32⟩
  | .local _ .vmem, ⟨83, _⟩ => ⟨S512x320, .f32⟩
  | .local _ .vmem, ⟨84, _⟩ => ⟨S512x320, .f32⟩
  | .local _ .vmem, ⟨85, _⟩ => ⟨S512x320, .f32⟩
  | .local _ .vmem, ⟨86, _⟩ => ⟨S512x320, .f32⟩
  | .local _ .vmem, ⟨87, _⟩ => ⟨S512x320, .f32⟩
  | .local _ .vmem, ⟨88, _⟩ => ⟨S512x128, .f32⟩
  | .local _ .vmem, ⟨89, _⟩ => ⟨S512x128, .f32⟩
  | .local _ .vmem, ⟨90, _⟩ => ⟨S512x128, .f32⟩
  | .local _ .vmem, ⟨91, _⟩ => ⟨S512x128, .f32⟩
  | .local _ .vmem, ⟨92, _⟩ => ⟨S512x128, .f32⟩
  | .local _ .vmem, ⟨93, _⟩ => ⟨S512x128, .f32⟩
  | .local _ .vmem, ⟨94, _⟩ => ⟨S512x128, .f32⟩
  | .local _ .vmem, ⟨95, _⟩ => ⟨S512x128, .f32⟩
  | .local _ .vmem, ⟨96, _⟩ => ⟨S512x128, .f32⟩
  | .local _ .vmem, ⟨97, _⟩ => ⟨S512x128, .f32⟩
  | .local _ .vmem, ⟨98, _⟩ => ⟨S512x128, .f32⟩
  | .local _ .vmem, ⟨99, _⟩ => ⟨S512x128, .f32⟩
  | .local _ .vmem, ⟨100, _⟩ => ⟨S512x128, .f32⟩
  | .local _ .vmem, ⟨101, _⟩ => ⟨S512x128, .f32⟩
  | .local _ .vmem, ⟨102, _⟩ => ⟨S512x128, .f32⟩
  | .local _ .vmem, ⟨103, _⟩ => ⟨S512x128, .f32⟩
  | .local _ .vmem, ⟨104, _⟩ => ⟨S320x1024, .f32⟩
  | .local _ .vmem, ⟨105, _⟩ => ⟨S320x1024, .f32⟩
  | .local _ .vmem, ⟨106, _⟩ => ⟨S320x1024, .f32⟩
  | .local _ .vmem, ⟨107, _⟩ => ⟨S320x1024, .f32⟩
  | .local _ .vmem, ⟨108, _⟩ => ⟨S320x1024, .f32⟩
  | .local _ .vmem, ⟨109, _⟩ => ⟨S320x1024, .f32⟩
  | .local _ .vmem, ⟨110, _⟩ => ⟨S320x1024, .f32⟩
  | .local _ .vmem, ⟨111, _⟩ => ⟨S320x1024, .f32⟩
  | .local _ .vmem, ⟨112, _⟩ => ⟨S320x1024, .f32⟩
  | .local _ .vmem, ⟨113, _⟩ => ⟨S320x1024, .f32⟩
  | .local _ .vmem, ⟨114, _⟩ => ⟨S320x1024, .f32⟩
  | .local _ .vmem, ⟨115, _⟩ => ⟨S320x1024, .f32⟩
  | .local _ .vmem, ⟨116, _⟩ => ⟨S320x1024, .f32⟩
  | .local _ .vmem, ⟨117, _⟩ => ⟨S320x1024, .f32⟩
  | .local _ .vmem, ⟨118, _⟩ => ⟨S320x1024, .f32⟩
  | .local _ .vmem, ⟨119, _⟩ => ⟨S320x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v1_0 : Ref sig .tc := ⟨.hbm, 36, rfl⟩
abbrev main_v1_1 : Ref sig .tc := ⟨.hbm, 37, rfl⟩
abbrev main_v1_2 : Ref sig .tc := ⟨.hbm, 38, rfl⟩
abbrev main_v1_3 : Ref sig .tc := ⟨.hbm, 39, rfl⟩
abbrev main_v2_0 : Ref sig .tc := ⟨.hbm, 40, rfl⟩
abbrev main_v2_1 : Ref sig .tc := ⟨.hbm, 41, rfl⟩
abbrev main_v2_2 : Ref sig .tc := ⟨.hbm, 42, rfl⟩
abbrev main_v2_3 : Ref sig .tc := ⟨.hbm, 43, rfl⟩
abbrev main_v3_0 : Ref sig .tc := ⟨.hbm, 44, rfl⟩
abbrev main_v3_1 : Ref sig .tc := ⟨.hbm, 45, rfl⟩
abbrev main_v3_2 : Ref sig .tc := ⟨.hbm, 46, rfl⟩
abbrev main_v3_3 : Ref sig .tc := ⟨.hbm, 47, rfl⟩
abbrev main_v4_0 : Ref sig .tc := ⟨.hbm, 48, rfl⟩
abbrev main_v4_1 : Ref sig .tc := ⟨.hbm, 49, rfl⟩
abbrev main_v4_2 : Ref sig .tc := ⟨.hbm, 50, rfl⟩
abbrev main_v4_3 : Ref sig .tc := ⟨.hbm, 51, rfl⟩
abbrev main_v5_0 : Ref sig .tc := ⟨.hbm, 52, rfl⟩
abbrev main_v5_1 : Ref sig .tc := ⟨.hbm, 53, rfl⟩
abbrev main_v5_2 : Ref sig .tc := ⟨.hbm, 54, rfl⟩
abbrev main_v5_3 : Ref sig .tc := ⟨.hbm, 55, rfl⟩
abbrev main_v6_0 : Ref sig .tc := ⟨.hbm, 56, rfl⟩
abbrev main_v6_1 : Ref sig .tc := ⟨.hbm, 57, rfl⟩
abbrev main_v6_2 : Ref sig .tc := ⟨.hbm, 58, rfl⟩
abbrev main_v6_3 : Ref sig .tc := ⟨.hbm, 59, rfl⟩
abbrev main_v7_0 : Ref sig .tc := ⟨.hbm, 60, rfl⟩
abbrev main_v7_1 : Ref sig .tc := ⟨.hbm, 61, rfl⟩
abbrev main_v7_2 : Ref sig .tc := ⟨.hbm, 62, rfl⟩
abbrev main_v7_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc4_stg7_0 : Ref sig .tc := ⟨.vmem, 70, rfl⟩
abbrev cc4_stg7_1 : Ref sig .tc := ⟨.vmem, 71, rfl⟩
abbrev cc5_stg0_0 : Ref sig .tc := ⟨.vmem, 72, rfl⟩
abbrev cc5_stg0_1 : Ref sig .tc := ⟨.vmem, 73, rfl⟩
abbrev cc5_stg1_0 : Ref sig .tc := ⟨.vmem, 74, rfl⟩
abbrev cc5_stg1_1 : Ref sig .tc := ⟨.vmem, 75, rfl⟩
abbrev cc5_stg2_0 : Ref sig .tc := ⟨.vmem, 76, rfl⟩
abbrev cc5_stg2_1 : Ref sig .tc := ⟨.vmem, 77, rfl⟩
abbrev cc5_stg3_0 : Ref sig .tc := ⟨.vmem, 78, rfl⟩
abbrev cc5_stg3_1 : Ref sig .tc := ⟨.vmem, 79, rfl⟩
abbrev cc5_stg4_0 : Ref sig .tc := ⟨.vmem, 80, rfl⟩
abbrev cc5_stg4_1 : Ref sig .tc := ⟨.vmem, 81, rfl⟩
abbrev cc5_stg5_0 : Ref sig .tc := ⟨.vmem, 82, rfl⟩
abbrev cc5_stg5_1 : Ref sig .tc := ⟨.vmem, 83, rfl⟩
abbrev cc5_stg6_0 : Ref sig .tc := ⟨.vmem, 84, rfl⟩
abbrev cc5_stg6_1 : Ref sig .tc := ⟨.vmem, 85, rfl⟩
abbrev cc5_stg7_0 : Ref sig .tc := ⟨.vmem, 86, rfl⟩
abbrev cc5_stg7_1 : Ref sig .tc := ⟨.vmem, 87, rfl⟩
abbrev cc6_stg0_0 : Ref sig .tc := ⟨.vmem, 88, rfl⟩
abbrev cc6_stg0_1 : Ref sig .tc := ⟨.vmem, 89, rfl⟩
abbrev cc6_stg1_0 : Ref sig .tc := ⟨.vmem, 90, rfl⟩
abbrev cc6_stg1_1 : Ref sig .tc := ⟨.vmem, 91, rfl⟩
abbrev cc6_stg2_0 : Ref sig .tc := ⟨.vmem, 92, rfl⟩
abbrev cc6_stg2_1 : Ref sig .tc := ⟨.vmem, 93, rfl⟩
abbrev cc6_stg3_0 : Ref sig .tc := ⟨.vmem, 94, rfl⟩
abbrev cc6_stg3_1 : Ref sig .tc := ⟨.vmem, 95, rfl⟩
abbrev cc6_stg4_0 : Ref sig .tc := ⟨.vmem, 96, rfl⟩
abbrev cc6_stg4_1 : Ref sig .tc := ⟨.vmem, 97, rfl⟩
abbrev cc6_stg5_0 : Ref sig .tc := ⟨.vmem, 98, rfl⟩
abbrev cc6_stg5_1 : Ref sig .tc := ⟨.vmem, 99, rfl⟩
abbrev cc6_stg6_0 : Ref sig .tc := ⟨.vmem, 100, rfl⟩
abbrev cc6_stg6_1 : Ref sig .tc := ⟨.vmem, 101, rfl⟩
abbrev cc6_stg7_0 : Ref sig .tc := ⟨.vmem, 102, rfl⟩
abbrev cc6_stg7_1 : Ref sig .tc := ⟨.vmem, 103, rfl⟩
abbrev cc7_stg0_0 : Ref sig .tc := ⟨.vmem, 104, rfl⟩
abbrev cc7_stg0_1 : Ref sig .tc := ⟨.vmem, 105, rfl⟩
abbrev cc7_stg1_0 : Ref sig .tc := ⟨.vmem, 106, rfl⟩
abbrev cc7_stg1_1 : Ref sig .tc := ⟨.vmem, 107, rfl⟩
abbrev cc7_stg2_0 : Ref sig .tc := ⟨.vmem, 108, rfl⟩
abbrev cc7_stg2_1 : Ref sig .tc := ⟨.vmem, 109, rfl⟩
abbrev cc7_stg3_0 : Ref sig .tc := ⟨.vmem, 110, rfl⟩
abbrev cc7_stg3_1 : Ref sig .tc := ⟨.vmem, 111, rfl⟩
abbrev cc7_stg4_0 : Ref sig .tc := ⟨.vmem, 112, rfl⟩
abbrev cc7_stg4_1 : Ref sig .tc := ⟨.vmem, 113, rfl⟩
abbrev cc7_stg5_0 : Ref sig .tc := ⟨.vmem, 114, rfl⟩
abbrev cc7_stg5_1 : Ref sig .tc := ⟨.vmem, 115, rfl⟩
abbrev cc7_stg6_0 : Ref sig .tc := ⟨.vmem, 116, rfl⟩
abbrev cc7_stg6_1 : Ref sig .tc := ⟨.vmem, 117, rfl⟩
abbrev cc7_stg7_0 : Ref sig .tc := ⟨.vmem, 118, rfl⟩
abbrev cc7_stg7_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc4_sem7_0 : DmaSem sig := 70
abbrev cc4_sem7_1 : DmaSem sig := 71
abbrev cc5_sem0_0 : DmaSem sig := 72
abbrev cc5_sem0_1 : DmaSem sig := 73
abbrev cc5_sem1_0 : DmaSem sig := 74
abbrev cc5_sem1_1 : DmaSem sig := 75
abbrev cc5_sem2_0 : DmaSem sig := 76
abbrev cc5_sem2_1 : DmaSem sig := 77
abbrev cc5_sem3_0 : DmaSem sig := 78
abbrev cc5_sem3_1 : DmaSem sig := 79
abbrev cc5_sem4_0 : DmaSem sig := 80
abbrev cc5_sem4_1 : DmaSem sig := 81
abbrev cc5_sem5_0 : DmaSem sig := 82
abbrev cc5_sem5_1 : DmaSem sig := 83
abbrev cc5_sem6_0 : DmaSem sig := 84
abbrev cc5_sem6_1 : DmaSem sig := 85
abbrev cc5_sem7_0 : DmaSem sig := 86
abbrev cc5_sem7_1 : DmaSem sig := 87
abbrev cc6_sem0_0 : DmaSem sig := 88
abbrev cc6_sem0_1 : DmaSem sig := 89
abbrev cc6_sem1_0 : DmaSem sig := 90
abbrev cc6_sem1_1 : DmaSem sig := 91
abbrev cc6_sem2_0 : DmaSem sig := 92
abbrev cc6_sem2_1 : DmaSem sig := 93
abbrev cc6_sem3_0 : DmaSem sig := 94
abbrev cc6_sem3_1 : DmaSem sig := 95
abbrev cc6_sem4_0 : DmaSem sig := 96
abbrev cc6_sem4_1 : DmaSem sig := 97
abbrev cc6_sem5_0 : DmaSem sig := 98
abbrev cc6_sem5_1 : DmaSem sig := 99
abbrev cc6_sem6_0 : DmaSem sig := 100
abbrev cc6_sem6_1 : DmaSem sig := 101
abbrev cc6_sem7_0 : DmaSem sig := 102
abbrev cc6_sem7_1 : DmaSem sig := 103
abbrev cc7_sem0_0 : DmaSem sig := 104
abbrev cc7_sem0_1 : DmaSem sig := 105
abbrev cc7_sem1_0 : DmaSem sig := 106
abbrev cc7_sem1_1 : DmaSem sig := 107
abbrev cc7_sem2_0 : DmaSem sig := 108
abbrev cc7_sem2_1 : DmaSem sig := 109
abbrev cc7_sem3_0 : DmaSem sig := 110
abbrev cc7_sem3_1 : DmaSem sig := 111
abbrev cc7_sem4_0 : DmaSem sig := 112
abbrev cc7_sem4_1 : DmaSem sig := 113
abbrev cc7_sem5_0 : DmaSem sig := 114
abbrev cc7_sem5_1 : DmaSem sig := 115
abbrev cc7_sem6_0 : DmaSem sig := 116
abbrev cc7_sem6_1 : DmaSem sig := 117
abbrev cc7_sem7_0 : DmaSem sig := 118
abbrev cc7_sem7_1 : DmaSem sig := 119

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x812 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x812 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x812 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x812 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x812 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x812 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x812 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x812 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S384x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S384x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S384x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S384x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S384x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S384x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S384x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S384x384 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S512x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S512x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x320 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S512x320 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x320 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x320 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x320 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S512x320 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S512x320 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S512x320 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨2, ![1, 5], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S512x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S512x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S512x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S512x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S512x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S512x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S320x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S320x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S320x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S320x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S320x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S320x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S320x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S320x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]
-- ==== AdamLIdeal.lean ====
abbrev S4096x1024 : Shape := ⟨2, ![4096, 1024]⟩
abbrev S2048x812 : Shape := ⟨2, ![2048, 812]⟩
abbrev S768x384 : Shape := ⟨2, ![768, 384]⟩
abbrev S512x512 : Shape := ⟨2, ![512, 512]⟩
abbrev S1024x1024 : Shape := ⟨2, ![1024, 1024]⟩
abbrev S2048x320 : Shape := ⟨2, ![2048, 320]⟩
abbrev S2560x128 : Shape := ⟨2, ![2560, 128]⟩
abbrev S640x1024 : Shape := ⟨2, ![640, 1024]⟩
abbrev S512x1024 : Shape := ⟨2, ![512, 1024]⟩
abbrev S512x812 : Shape := ⟨2, ![512, 812]⟩
abbrev S384x384 : Shape := ⟨2, ![384, 384]⟩
abbrev S512x320 : Shape := ⟨2, ![512, 320]⟩
abbrev S512x128 : Shape := ⟨2, ![512, 128]⟩
abbrev S320x1024 : Shape := ⟨2, ![320, 1024]⟩

abbrev nBuf : Space → Nat
  | .hbm => 64
  | .vmem => 120
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048x812, .f32⟩
  | .hbm, ⟨5, _⟩ => ⟨S2048x812, .f32⟩
  | .hbm, ⟨6, _⟩ => ⟨S2048x812, .f32⟩
  | .hbm, ⟨7, _⟩ => ⟨S2048x812, .f32⟩
  | .hbm, ⟨8, _⟩ => ⟨S768x384, .f32⟩
  | .hbm, ⟨9, _⟩ => ⟨S768x384, .f32⟩
  | .hbm, ⟨10, _⟩ => ⟨S768x384, .f32⟩
  | .hbm, ⟨11, _⟩ => ⟨S768x384, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S2048x320, .f32⟩
  | .hbm, ⟨21, _⟩ => ⟨S2048x320, .f32⟩
  | .hbm, ⟨22, _⟩ => ⟨S2048x320, .f32⟩
  | .hbm, ⟨23, _⟩ => ⟨S2048x320, .f32⟩
  | .hbm, ⟨24, _⟩ => ⟨S2560x128, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S640x1024, .f32⟩
  | .hbm, ⟨29, _⟩ => ⟨S640x1024, .f32⟩
  | .hbm, ⟨30, _⟩ => ⟨S640x1024, .f32⟩
  | .hbm, ⟨31, _⟩ => ⟨S640x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S2048x812, .f32⟩
  | .hbm, ⟨37, _⟩ => ⟨S2048x812, .f32⟩
  | .hbm, ⟨38, _⟩ => ⟨S2048x812, .f32⟩
  | .hbm, ⟨39, _⟩ => ⟨S2048x812, .f32⟩
  | .hbm, ⟨40, _⟩ => ⟨S768x384, .f32⟩
  | .hbm, ⟨41, _⟩ => ⟨S768x384, .f32⟩
  | .hbm, ⟨42, _⟩ => ⟨S768x384, .f32⟩
  | .hbm, ⟨43, _⟩ => ⟨S768x384, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S2048x320, .f32⟩
  | .hbm, ⟨53, _⟩ => ⟨S2048x320, .f32⟩
  | .hbm, ⟨54, _⟩ => ⟨S2048x320, .f32⟩
  | .hbm, ⟨55, _⟩ => ⟨S2048x320, .f32⟩
  | .hbm, ⟨56, _⟩ => ⟨S2560x128, .f32⟩
  | .hbm, ⟨57, _⟩ => ⟨S2560x128, .f32⟩
  | .hbm, ⟨58, _⟩ => ⟨S2560x128, .f32⟩
  | .hbm, ⟨59, _⟩ => ⟨S2560x128, .f32⟩
  | .hbm, ⟨60, _⟩ => ⟨S640x1024, .f32⟩
  | .hbm, ⟨61, _⟩ => ⟨S640x1024, .f32⟩
  | .hbm, ⟨62, _⟩ => ⟨S640x1024, .f32⟩
  | .hbm, ⟨63, _⟩ => ⟨S640x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x812, .f32⟩
  | .local _ .vmem, ⟨17, _⟩ => ⟨S512x812, .f32⟩
  | .local _ .vmem, ⟨18, _⟩ => ⟨S512x812, .f32⟩
  | .local _ .vmem, ⟨19, _⟩ => ⟨S512x812, .f32⟩
  | .local _ .vmem, ⟨20, _⟩ => ⟨S512x812, .f32⟩
  | .local _ .vmem, ⟨21, _⟩ => ⟨S512x812, .f32⟩
  | .local _ .vmem, ⟨22, _⟩ => ⟨S512x812, .f32⟩
  | .local _ .vmem, ⟨23, _⟩ => ⟨S512x812, .f32⟩
  | .local _ .vmem, ⟨24, _⟩ => ⟨S512x812, .f32⟩
  | .local _ .vmem, ⟨25, _⟩ => ⟨S512x812, .f32⟩
  | .local _ .vmem, ⟨26, _⟩ => ⟨S512x812, .f32⟩
  | .local _ .vmem, ⟨27, _⟩ => ⟨S512x812, .f32⟩
  | .local _ .vmem, ⟨28, _⟩ => ⟨S512x812, .f32⟩
  | .local _ .vmem, ⟨29, _⟩ => ⟨S512x812, .f32⟩
  | .local _ .vmem, ⟨30, _⟩ => ⟨S512x812, .f32⟩
  | .local _ .vmem, ⟨31, _⟩ => ⟨S512x812, .f32⟩
  | .local _ .vmem, ⟨32, _⟩ => ⟨S384x384, .f32⟩
  | .local _ .vmem, ⟨33, _⟩ => ⟨S384x384, .f32⟩
  | .local _ .vmem, ⟨34, _⟩ => ⟨S384x384, .f32⟩
  | .local _ .vmem, ⟨35, _⟩ => ⟨S384x384, .f32⟩
  | .local _ .vmem, ⟨36, _⟩ => ⟨S384x384, .f32⟩
  | .local _ .vmem, ⟨37, _⟩ => ⟨S384x384, .f32⟩
  | .local _ .vmem, ⟨38, _⟩ => ⟨S384x384, .f32⟩
  | .local _ .vmem, ⟨39, _⟩ => ⟨S384x384, .f32⟩
  | .local _ .vmem, ⟨40, _⟩ => ⟨S384x384, .f32⟩
  | .local _ .vmem, ⟨41, _⟩ => ⟨S384x384, .f32⟩
  | .local _ .vmem, ⟨42, _⟩ => ⟨S384x384, .f32⟩
  | .local _ .vmem, ⟨43, _⟩ => ⟨S384x384, .f32⟩
  | .local _ .vmem, ⟨44, _⟩ => ⟨S384x384, .f32⟩
  | .local _ .vmem, ⟨45, _⟩ => ⟨S384x384, .f32⟩
  | .local _ .vmem, ⟨46, _⟩ => ⟨S384x384, .f32⟩
  | .local _ .vmem, ⟨47, _⟩ => ⟨S384x384, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x320, .f32⟩
  | .local _ .vmem, ⟨73, _⟩ => ⟨S512x320, .f32⟩
  | .local _ .vmem, ⟨74, _⟩ => ⟨S512x320, .f32⟩
  | .local _ .vmem, ⟨75, _⟩ => ⟨S512x320, .f32⟩
  | .local _ .vmem, ⟨76, _⟩ => ⟨S512x320, .f32⟩
  | .local _ .vmem, ⟨77, _⟩ => ⟨S512x320, .f32⟩
  | .local _ .vmem, ⟨78, _⟩ => ⟨S512x320, .f32⟩
  | .local _ .vmem, ⟨79, _⟩ => ⟨S512x320, .f32⟩
  | .local _ .vmem, ⟨80, _⟩ => ⟨S512x320, .f32⟩
  | .local _ .vmem, ⟨81, _⟩ => ⟨S512x320, .f32⟩
  | .local _ .vmem, ⟨82, _⟩ => ⟨S512x320, .f32⟩
  | .local _ .vmem, ⟨83, _⟩ => ⟨S512x320, .f32⟩
  | .local _ .vmem, ⟨84, _⟩ => ⟨S512x320, .f32⟩
  | .local _ .vmem, ⟨85, _⟩ => ⟨S512x320, .f32⟩
  | .local _ .vmem, ⟨86, _⟩ => ⟨S512x320, .f32⟩
  | .local _ .vmem, ⟨87, _⟩ => ⟨S512x320, .f32⟩
  | .local _ .vmem, ⟨88, _⟩ => ⟨S512x128, .f32⟩
  | .local _ .vmem, ⟨89, _⟩ => ⟨S512x128, .f32⟩
  | .local _ .vmem, ⟨90, _⟩ => ⟨S512x128, .f32⟩
  | .local _ .vmem, ⟨91, _⟩ => ⟨S512x128, .f32⟩
  | .local _ .vmem, ⟨92, _⟩ => ⟨S512x128, .f32⟩
  | .local _ .vmem, ⟨93, _⟩ => ⟨S512x128, .f32⟩
  | .local _ .vmem, ⟨94, _⟩ => ⟨S512x128, .f32⟩
  | .local _ .vmem, ⟨95, _⟩ => ⟨S512x128, .f32⟩
  | .local _ .vmem, ⟨96, _⟩ => ⟨S512x128, .f32⟩
  | .local _ .vmem, ⟨97, _⟩ => ⟨S512x128, .f32⟩
  | .local _ .vmem, ⟨98, _⟩ => ⟨S512x128, .f32⟩
  | .local _ .vmem, ⟨99, _⟩ => ⟨S512x128, .f32⟩
  | .local _ .vmem, ⟨100, _⟩ => ⟨S512x128, .f32⟩
  | .local _ .vmem, ⟨101, _⟩ => ⟨S512x128, .f32⟩
  | .local _ .vmem, ⟨102, _⟩ => ⟨S512x128, .f32⟩
  | .local _ .vmem, ⟨103, _⟩ => ⟨S512x128, .f32⟩
  | .local _ .vmem, ⟨104, _⟩ => ⟨S320x1024, .f32⟩
  | .local _ .vmem, ⟨105, _⟩ => ⟨S320x1024, .f32⟩
  | .local _ .vmem, ⟨106, _⟩ => ⟨S320x1024, .f32⟩
  | .local _ .vmem, ⟨107, _⟩ => ⟨S320x1024, .f32⟩
  | .local _ .vmem, ⟨108, _⟩ => ⟨S320x1024, .f32⟩
  | .local _ .vmem, ⟨109, _⟩ => ⟨S320x1024, .f32⟩
  | .local _ .vmem, ⟨110, _⟩ => ⟨S320x1024, .f32⟩
  | .local _ .vmem, ⟨111, _⟩ => ⟨S320x1024, .f32⟩
  | .local _ .vmem, ⟨112, _⟩ => ⟨S320x1024, .f32⟩
  | .local _ .vmem, ⟨113, _⟩ => ⟨S320x1024, .f32⟩
  | .local _ .vmem, ⟨114, _⟩ => ⟨S320x1024, .f32⟩
  | .local _ .vmem, ⟨115, _⟩ => ⟨S320x1024, .f32⟩
  | .local _ .vmem, ⟨116, _⟩ => ⟨S320x1024, .f32⟩
  | .local _ .vmem, ⟨117, _⟩ => ⟨S320x1024, .f32⟩
  | .local _ .vmem, ⟨118, _⟩ => ⟨S320x1024, .f32⟩
  | .local _ .vmem, ⟨119, _⟩ => ⟨S320x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v1_0 : Ref sig .tc := ⟨.hbm, 36, rfl⟩
abbrev main_v1_1 : Ref sig .tc := ⟨.hbm, 37, rfl⟩
abbrev main_v1_2 : Ref sig .tc := ⟨.hbm, 38, rfl⟩
abbrev main_v1_3 : Ref sig .tc := ⟨.hbm, 39, rfl⟩
abbrev main_v2_0 : Ref sig .tc := ⟨.hbm, 40, rfl⟩
abbrev main_v2_1 : Ref sig .tc := ⟨.hbm, 41, rfl⟩
abbrev main_v2_2 : Ref sig .tc := ⟨.hbm, 42, rfl⟩
abbrev main_v2_3 : Ref sig .tc := ⟨.hbm, 43, rfl⟩
abbrev main_v3_0 : Ref sig .tc := ⟨.hbm, 44, rfl⟩
abbrev main_v3_1 : Ref sig .tc := ⟨.hbm, 45, rfl⟩
abbrev main_v3_2 : Ref sig .tc := ⟨.hbm, 46, rfl⟩
abbrev main_v3_3 : Ref sig .tc := ⟨.hbm, 47, rfl⟩
abbrev main_v4_0 : Ref sig .tc := ⟨.hbm, 48, rfl⟩
abbrev main_v4_1 : Ref sig .tc := ⟨.hbm, 49, rfl⟩
abbrev main_v4_2 : Ref sig .tc := ⟨.hbm, 50, rfl⟩
abbrev main_v4_3 : Ref sig .tc := ⟨.hbm, 51, rfl⟩
abbrev main_v5_0 : Ref sig .tc := ⟨.hbm, 52, rfl⟩
abbrev main_v5_1 : Ref sig .tc := ⟨.hbm, 53, rfl⟩
abbrev main_v5_2 : Ref sig .tc := ⟨.hbm, 54, rfl⟩
abbrev main_v5_3 : Ref sig .tc := ⟨.hbm, 55, rfl⟩
abbrev main_v6_0 : Ref sig .tc := ⟨.hbm, 56, rfl⟩
abbrev main_v6_1 : Ref sig .tc := ⟨.hbm, 57, rfl⟩
abbrev main_v6_2 : Ref sig .tc := ⟨.hbm, 58, rfl⟩
abbrev main_v6_3 : Ref sig .tc := ⟨.hbm, 59, rfl⟩
abbrev main_v7_0 : Ref sig .tc := ⟨.hbm, 60, rfl⟩
abbrev main_v7_1 : Ref sig .tc := ⟨.hbm, 61, rfl⟩
abbrev main_v7_2 : Ref sig .tc := ⟨.hbm, 62, rfl⟩
abbrev main_v7_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc4_stg7_0 : Ref sig .tc := ⟨.vmem, 70, rfl⟩
abbrev cc4_stg7_1 : Ref sig .tc := ⟨.vmem, 71, rfl⟩
abbrev cc5_stg0_0 : Ref sig .tc := ⟨.vmem, 72, rfl⟩
abbrev cc5_stg0_1 : Ref sig .tc := ⟨.vmem, 73, rfl⟩
abbrev cc5_stg1_0 : Ref sig .tc := ⟨.vmem, 74, rfl⟩
abbrev cc5_stg1_1 : Ref sig .tc := ⟨.vmem, 75, rfl⟩
abbrev cc5_stg2_0 : Ref sig .tc := ⟨.vmem, 76, rfl⟩
abbrev cc5_stg2_1 : Ref sig .tc := ⟨.vmem, 77, rfl⟩
abbrev cc5_stg3_0 : Ref sig .tc := ⟨.vmem, 78, rfl⟩
abbrev cc5_stg3_1 : Ref sig .tc := ⟨.vmem, 79, rfl⟩
abbrev cc5_stg4_0 : Ref sig .tc := ⟨.vmem, 80, rfl⟩
abbrev cc5_stg4_1 : Ref sig .tc := ⟨.vmem, 81, rfl⟩
abbrev cc5_stg5_0 : Ref sig .tc := ⟨.vmem, 82, rfl⟩
abbrev cc5_stg5_1 : Ref sig .tc := ⟨.vmem, 83, rfl⟩
abbrev cc5_stg6_0 : Ref sig .tc := ⟨.vmem, 84, rfl⟩
abbrev cc5_stg6_1 : Ref sig .tc := ⟨.vmem, 85, rfl⟩
abbrev cc5_stg7_0 : Ref sig .tc := ⟨.vmem, 86, rfl⟩
abbrev cc5_stg7_1 : Ref sig .tc := ⟨.vmem, 87, rfl⟩
abbrev cc6_stg0_0 : Ref sig .tc := ⟨.vmem, 88, rfl⟩
abbrev cc6_stg0_1 : Ref sig .tc := ⟨.vmem, 89, rfl⟩
abbrev cc6_stg1_0 : Ref sig .tc := ⟨.vmem, 90, rfl⟩
abbrev cc6_stg1_1 : Ref sig .tc := ⟨.vmem, 91, rfl⟩
abbrev cc6_stg2_0 : Ref sig .tc := ⟨.vmem, 92, rfl⟩
abbrev cc6_stg2_1 : Ref sig .tc := ⟨.vmem, 93, rfl⟩
abbrev cc6_stg3_0 : Ref sig .tc := ⟨.vmem, 94, rfl⟩
abbrev cc6_stg3_1 : Ref sig .tc := ⟨.vmem, 95, rfl⟩
abbrev cc6_stg4_0 : Ref sig .tc := ⟨.vmem, 96, rfl⟩
abbrev cc6_stg4_1 : Ref sig .tc := ⟨.vmem, 97, rfl⟩
abbrev cc6_stg5_0 : Ref sig .tc := ⟨.vmem, 98, rfl⟩
abbrev cc6_stg5_1 : Ref sig .tc := ⟨.vmem, 99, rfl⟩
abbrev cc6_stg6_0 : Ref sig .tc := ⟨.vmem, 100, rfl⟩
abbrev cc6_stg6_1 : Ref sig .tc := ⟨.vmem, 101, rfl⟩
abbrev cc6_stg7_0 : Ref sig .tc := ⟨.vmem, 102, rfl⟩
abbrev cc6_stg7_1 : Ref sig .tc := ⟨.vmem, 103, rfl⟩
abbrev cc7_stg0_0 : Ref sig .tc := ⟨.vmem, 104, rfl⟩
abbrev cc7_stg0_1 : Ref sig .tc := ⟨.vmem, 105, rfl⟩
abbrev cc7_stg1_0 : Ref sig .tc := ⟨.vmem, 106, rfl⟩
abbrev cc7_stg1_1 : Ref sig .tc := ⟨.vmem, 107, rfl⟩
abbrev cc7_stg2_0 : Ref sig .tc := ⟨.vmem, 108, rfl⟩
abbrev cc7_stg2_1 : Ref sig .tc := ⟨.vmem, 109, rfl⟩
abbrev cc7_stg3_0 : Ref sig .tc := ⟨.vmem, 110, rfl⟩
abbrev cc7_stg3_1 : Ref sig .tc := ⟨.vmem, 111, rfl⟩
abbrev cc7_stg4_0 : Ref sig .tc := ⟨.vmem, 112, rfl⟩
abbrev cc7_stg4_1 : Ref sig .tc := ⟨.vmem, 113, rfl⟩
abbrev cc7_stg5_0 : Ref sig .tc := ⟨.vmem, 114, rfl⟩
abbrev cc7_stg5_1 : Ref sig .tc := ⟨.vmem, 115, rfl⟩
abbrev cc7_stg6_0 : Ref sig .tc := ⟨.vmem, 116, rfl⟩
abbrev cc7_stg6_1 : Ref sig .tc := ⟨.vmem, 117, rfl⟩
abbrev cc7_stg7_0 : Ref sig .tc := ⟨.vmem, 118, rfl⟩
abbrev cc7_stg7_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc4_sem7_0 : DmaSem sig := 70
abbrev cc4_sem7_1 : DmaSem sig := 71
abbrev cc5_sem0_0 : DmaSem sig := 72
abbrev cc5_sem0_1 : DmaSem sig := 73
abbrev cc5_sem1_0 : DmaSem sig := 74
abbrev cc5_sem1_1 : DmaSem sig := 75
abbrev cc5_sem2_0 : DmaSem sig := 76
abbrev cc5_sem2_1 : DmaSem sig := 77
abbrev cc5_sem3_0 : DmaSem sig := 78
abbrev cc5_sem3_1 : DmaSem sig := 79
abbrev cc5_sem4_0 : DmaSem sig := 80
abbrev cc5_sem4_1 : DmaSem sig := 81
abbrev cc5_sem5_0 : DmaSem sig := 82
abbrev cc5_sem5_1 : DmaSem sig := 83
abbrev cc5_sem6_0 : DmaSem sig := 84
abbrev cc5_sem6_1 : DmaSem sig := 85
abbrev cc5_sem7_0 : DmaSem sig := 86
abbrev cc5_sem7_1 : DmaSem sig := 87
abbrev cc6_sem0_0 : DmaSem sig := 88
abbrev cc6_sem0_1 : DmaSem sig := 89
abbrev cc6_sem1_0 : DmaSem sig := 90
abbrev cc6_sem1_1 : DmaSem sig := 91
abbrev cc6_sem2_0 : DmaSem sig := 92
abbrev cc6_sem2_1 : DmaSem sig := 93
abbrev cc6_sem3_0 : DmaSem sig := 94
abbrev cc6_sem3_1 : DmaSem sig := 95
abbrev cc6_sem4_0 : DmaSem sig := 96
abbrev cc6_sem4_1 : DmaSem sig := 97
abbrev cc6_sem5_0 : DmaSem sig := 98
abbrev cc6_sem5_1 : DmaSem sig := 99
abbrev cc6_sem6_0 : DmaSem sig := 100
abbrev cc6_sem6_1 : DmaSem sig := 101
abbrev cc6_sem7_0 : DmaSem sig := 102
abbrev cc6_sem7_1 : DmaSem sig := 103
abbrev cc7_sem0_0 : DmaSem sig := 104
abbrev cc7_sem0_1 : DmaSem sig := 105
abbrev cc7_sem1_0 : DmaSem sig := 106
abbrev cc7_sem1_1 : DmaSem sig := 107
abbrev cc7_sem2_0 : DmaSem sig := 108
abbrev cc7_sem2_1 : DmaSem sig := 109
abbrev cc7_sem3_0 : DmaSem sig := 110
abbrev cc7_sem3_1 : DmaSem sig := 111
abbrev cc7_sem4_0 : DmaSem sig := 112
abbrev cc7_sem4_1 : DmaSem sig := 113
abbrev cc7_sem5_0 : DmaSem sig := 114
abbrev cc7_sem5_1 : DmaSem sig := 115
abbrev cc7_sem6_0 : DmaSem sig := 116
abbrev cc7_sem6_1 : DmaSem sig := 117
abbrev cc7_sem7_0 : DmaSem sig := 118
abbrev cc7_sem7_1 : DmaSem sig := 119

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x812 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x812 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x812 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x812 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x812 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x812 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x812 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x812 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S384x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S384x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S384x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S384x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S384x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S384x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S384x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S384x384 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S512x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S512x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x320 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S512x320 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x320 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x320 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x320 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S512x320 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S512x320 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S512x320 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨2, ![1, 5], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S512x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S512x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S512x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S512x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S512x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S512x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S320x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S320x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S320x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S320x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S320x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S320x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S320x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S320x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]
-- ==== AdamLRefIdeal.lean ====
abbrev S4096x1024 : Shape := ⟨2, ![4096, 1024]⟩
abbrev S2048x812 : Shape := ⟨2, ![2048, 812]⟩
abbrev S768x384 : Shape := ⟨2, ![768, 384]⟩
abbrev S512x512 : Shape := ⟨2, ![512, 512]⟩
abbrev S1024x1024 : Shape := ⟨2, ![1024, 1024]⟩
abbrev S2048x320 : Shape := ⟨2, ![2048, 320]⟩
abbrev S2560x128 : Shape := ⟨2, ![2560, 128]⟩
abbrev S640x1024 : Shape := ⟨2, ![640, 1024]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S2048x812, .f32⟩
  | 5 => ⟨S2048x812, .f32⟩
  | 6 => ⟨S2048x812, .f32⟩
  | 7 => ⟨S2048x812, .f32⟩
  | 8 => ⟨S768x384, .f32⟩
  | 9 => ⟨S768x384, .f32⟩
  | 10 => ⟨S768x384, .f32⟩
  | 11 => ⟨S768x384, .f32⟩
  | 12 => ⟨S512x512, .f32⟩
  | 13 => ⟨S512x512, .f32⟩
  | 14 => ⟨S512x512, .f32⟩
  | 15 => ⟨S512x512, .f32⟩
  | 16 => ⟨S1024x1024, .f32⟩
  | 17 => ⟨S1024x1024, .f32⟩
  | 18 => ⟨S1024x1024, .f32⟩
  | 19 => ⟨S1024x1024, .f32⟩
  | 20 => ⟨S2048x320, .f32⟩
  | 21 => ⟨S2048x320, .f32⟩
  | 22 => ⟨S2048x320, .f32⟩
  | 23 => ⟨S2048x320, .f32⟩
  | 24 => ⟨S2560x128, .f32⟩
  | 25 => ⟨S2560x128, .f32⟩
  | 26 => ⟨S2560x128, .f32⟩
  | 27 => ⟨S2560x128, .f32⟩
  | 28 => ⟨S640x1024, .f32⟩
  | 29 => ⟨S640x1024, .f32⟩
  | 30 => ⟨S640x1024, .f32⟩
  | 31 => ⟨S640x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S2048x812, .f32⟩
  | 67 => ⟨S2048x812, .f32⟩
  | 68 => ⟨S_, .f32⟩
  | 69 => ⟨S2048x812, .f32⟩
  | 70 => ⟨S2048x812, .f32⟩
  | 71 => ⟨S2048x812, .f32⟩
  | 72 => ⟨S_, .f32⟩
  | 73 => ⟨S2048x812, .f32⟩
  | 74 => ⟨S2048x812, .f32⟩
  | 75 => ⟨S2048x812, .f32⟩
  | 76 => ⟨S_, .f32⟩
  | 77 => ⟨S2048x812, .f32⟩
  | 78 => ⟨S2048x812, .f32⟩
  | 79 => ⟨S2048x812, .f32⟩
  | 80 => ⟨S_, .f32⟩
  | 81 => ⟨S2048x812, .f32⟩
  | 82 => ⟨S2048x812, .f32⟩
  | 83 => ⟨S_, .f32⟩
  | 84 => ⟨S2048x812, .f32⟩
  | 85 => ⟨S2048x812, .f32⟩
  | 86 => ⟨S2048x812, .f32⟩
  | 87 => ⟨S_, .f32⟩
  | 88 => ⟨S2048x812, .f32⟩
  | 89 => ⟨S2048x812, .f32⟩
  | 90 => ⟨S2048x812, .f32⟩
  | 91 => ⟨S_, .f32⟩
  | 92 => ⟨S2048x812, .f32⟩
  | 93 => ⟨S2048x812, .f32⟩
  | 94 => ⟨S2048x812, .f32⟩
  | 95 => ⟨S_, .f32⟩
  | 96 => ⟨S2048x812, .f32⟩
  | 97 => ⟨S2048x812, .f32⟩
  | 98 => ⟨S_, .f32⟩
  | 99 => ⟨S768x384, .f32⟩
  | 100 => ⟨S768x384, .f32⟩
  | 101 => ⟨S_, .f32⟩
  | 102 => ⟨S768x384, .f32⟩
  | 103 => ⟨S768x384, .f32⟩
  | 104 => ⟨S768x384, .f32⟩
  | 105 => ⟨S_, .f32⟩
  | 106 => ⟨S768x384, .f32⟩
  | 107 => ⟨S768x384, .f32⟩
  | 108 => ⟨S768x384, .f32⟩
  | 109 => ⟨S_, .f32⟩
  | 110 => ⟨S768x384, .f32⟩
  | 111 => ⟨S768x384, .f32⟩
  | 112 => ⟨S768x384, .f32⟩
  | 113 => ⟨S_, .f32⟩
  | 114 => ⟨S768x384, .f32⟩
  | 115 => ⟨S768x384, .f32⟩
  | 116 => ⟨S_, .f32⟩
  | 117 => ⟨S768x384, .f32⟩
  | 118 => ⟨S768x384, .f32⟩
  | 119 => ⟨S768x384, .f32⟩
  | 120 => ⟨S_, .f32⟩
  | 121 => ⟨S768x384, .f32⟩
  | 122 => ⟨S768x384, .f32⟩
  | 123 => ⟨S768x384, .f32⟩
  | 124 => ⟨S_, .f32⟩
  | 125 => ⟨S768x384, .f32⟩
  | 126 => ⟨S768x384, .f32⟩
  | 127 => ⟨S768x384, .f32⟩
  | _ => ⟨S4096x1024, .f32⟩

abbrev hbmTy0_1 (i : Nat) : BufTy := match i % 128 with
  | 0 => ⟨S_, .f32⟩
  | 1 => ⟨S768x384, .f32⟩
  | 2 => ⟨S768x384, .f32⟩
  | 3 => ⟨S_, .f32⟩
  | 4 => ⟨S512x512, .f32⟩
  | 5 => ⟨S512x512, .f32⟩
  | 6 => ⟨S_, .f32⟩
  | 7 => ⟨S512x512, .f32⟩
  | 8 => ⟨S512x512, .f32⟩
  | 9 => ⟨S512x512, .f32⟩
  | 10 => ⟨S_, .f32⟩
  | 11 => ⟨S512x512, .f32⟩
  | 12 => ⟨S512x512, .f32⟩
  | 13 => ⟨S512x512, .f32⟩
  | 14 => ⟨S_, .f32⟩
  | 15 => ⟨S512x512, .f32⟩
  | 16 => ⟨S512x512, .f32⟩
  | 17 => ⟨S512x512, .f32⟩
  | 18 => ⟨S_, .f32⟩
  | 19 => ⟨S512x512, .f32⟩
  | 20 => ⟨S512x512, .f32⟩
  | 21 => ⟨S_, .f32⟩
  | 22 => ⟨S512x512, .f32⟩
  | 23 => ⟨S512x512, .f32⟩
  | 24 => ⟨S512x512, .f32⟩
  | 25 => ⟨S_, .f32⟩
  | 26 => ⟨S512x512, .f32⟩
  | 27 => ⟨S512x512, .f32⟩
  | 28 => ⟨S512x512, .f32⟩
  | 29 => ⟨S_, .f32⟩
  | 30 => ⟨S512x512, .f32⟩
  | 31 => ⟨S512x512, .f32⟩
  | 32 => ⟨S512x512, .f32⟩
  | 33 => ⟨S_, .f32⟩
  | 34 => ⟨S512x512, .f32⟩
  | 35 => ⟨S512x512, .f32⟩
  | 36 => ⟨S_, .f32⟩
  | 37 => ⟨S1024x1024, .f32⟩
  | 38 => ⟨S1024x1024, .f32⟩
  | 39 => ⟨S_, .f32⟩
  | 40 => ⟨S1024x1024, .f32⟩
  | 41 => ⟨S1024x1024, .f32⟩
  | 42 => ⟨S1024x1024, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S_, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S_, .f32⟩
  | 70 => ⟨S2048x320, .f32⟩
  | 71 => ⟨S2048x320, .f32⟩
  | 72 => ⟨S_, .f32⟩
  | 73 => ⟨S2048x320, .f32⟩
  | 74 => ⟨S2048x320, .f32⟩
  | 75 => ⟨S2048x320, .f32⟩
  | 76 => ⟨S_, .f32⟩
  | 77 => ⟨S2048x320, .f32⟩
  | 78 => ⟨S2048x320, .f32⟩
  | 79 => ⟨S2048x320, .f32⟩
  | 80 => ⟨S_, .f32⟩
  | 81 => ⟨S2048x320, .f32⟩
  | 82 => ⟨S2048x320, .f32⟩
  | 83 => ⟨S2048x320, .f32⟩
  | 84 => ⟨S_, .f32⟩
  | 85 => ⟨S2048x320, .f32⟩
  | 86 => ⟨S2048x320, .f32⟩
  | 87 => ⟨S_, .f32⟩
  | 88 => ⟨S2048x320, .f32⟩
  | 89 => ⟨S2048x320, .f32⟩
  | 90 => ⟨S2048x320, .f32⟩
  | 91 => ⟨S_, .f32⟩
  | 92 => ⟨S2048x320, .f32⟩
  | 93 => ⟨S2048x320, .f32⟩
  | 94 => ⟨S2048x320, .f32⟩
  | 95 => ⟨S_, .f32⟩
  | 96 => ⟨S2048x320, .f32⟩
  | 97 => ⟨S2048x320, .f32⟩
  | 98 => ⟨S2048x320, .f32⟩
  | 99 => ⟨S_, .f32⟩
  | 100 => ⟨S2048x320, .f32⟩
  | 101 => ⟨S2048x320, .f32⟩
  | 102 => ⟨S_, .f32⟩
  | 103 => ⟨S2560x128, .f32⟩
  | 104 => ⟨S2560x128, .f32⟩
  | 105 => ⟨S_, .f32⟩
  | 106 => ⟨S2560x128, .f32⟩
  | 107 => ⟨S2560x128, .f32⟩
  | 108 => ⟨S2560x128, .f32⟩
  | 109 => ⟨S_, .f32⟩
  | 110 => ⟨S2560x128, .f32⟩
  | 111 => ⟨S2560x128, .f32⟩
  | 112 => ⟨S2560x128, .f32⟩
  | 113 => ⟨S_, .f32⟩
  | 114 => ⟨S2560x128, .f32⟩
  | 115 => ⟨S2560x128, .f32⟩
  | 116 => ⟨S2560x128, .f32⟩
  | 117 => ⟨S_, .f32⟩
  | 118 => ⟨S2560x128, .f32⟩
  | 119 => ⟨S2560x128, .f32⟩
  | 120 => ⟨S_, .f32⟩
  | 121 => ⟨S2560x128, .f32⟩
  | 122 => ⟨S2560x128, .f32⟩
  | 123 => ⟨S2560x128, .f32⟩
  | 124 => ⟨S_, .f32⟩
  | 125 => ⟨S2560x128, .f32⟩
  | 126 => ⟨S2560x128, .f32⟩
  | 127 => ⟨S2560x128, .f32⟩
  | _ => ⟨S4096x1024, .f32⟩

abbrev hbmTy0_2 (i : Nat) : BufTy := match i % 128 with
  | 0 => ⟨S_, .f32⟩
  | 1 => ⟨S2560x128, .f32⟩
  | 2 => ⟨S2560x128, .f32⟩
  | 3 => ⟨S2560x128, .f32⟩
  | 4 => ⟨S_, .f32⟩
  | 5 => ⟨S2560x128, .f32⟩
  | 6 => ⟨S2560x128, .f32⟩
  | 7 => ⟨S_, .f32⟩
  | 8 => ⟨S640x1024, .f32⟩
  | 9 => ⟨S640x1024, .f32⟩
  | 10 => ⟨S_, .f32⟩
  | 11 => ⟨S640x1024, .f32⟩
  | 12 => ⟨S640x1024, .f32⟩
  | 13 => ⟨S640x1024, .f32⟩
  | 14 => ⟨S_, .f32⟩
  | 15 => ⟨S640x1024, .f32⟩
  | 16 => ⟨S640x1024, .f32⟩
  | 17 => ⟨S640x1024, .f32⟩
  | 18 => ⟨S_, .f32⟩
  | 19 => ⟨S640x1024, .f32⟩
  | 20 => ⟨S640x1024, .f32⟩
  | 21 => ⟨S640x1024, .f32⟩
  | 22 => ⟨S_, .f32⟩
  | 23 => ⟨S640x1024, .f32⟩
  | 24 => ⟨S640x1024, .f32⟩
  | 25 => ⟨S_, .f32⟩
  | 26 => ⟨S640x1024, .f32⟩
  | 27 => ⟨S640x1024, .f32⟩
  | 28 => ⟨S640x1024, .f32⟩
  | 29 => ⟨S_, .f32⟩
  | 30 => ⟨S640x1024, .f32⟩
  | 31 => ⟨S640x1024, .f32⟩
  | 32 => ⟨S640x1024, .f32⟩
  | 33 => ⟨S_, .f32⟩
  | 34 => ⟨S640x1024, .f32⟩
  | 35 => ⟨S640x1024, .f32⟩
  | 36 => ⟨S640x1024, .f32⟩
  | 37 => ⟨S_, .f32⟩
  | 38 => ⟨S640x1024, .f32⟩
  | 39 => ⟨S640x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== AdamS.lean ====
abbrev S16x256 : Shape := ⟨2, ![16, 256]⟩
abbrev S4x1024 : Shape := ⟨2, ![4, 1024]⟩
abbrev S8x384 : Shape := ⟨2, ![8, 384]⟩
abbrev S2x1536 : Shape := ⟨2, ![2, 1536]⟩
abbrev S2x16 : Shape := ⟨2, ![2, 16]⟩
abbrev S2x1024 : Shape := ⟨2, ![2, 1024]⟩
abbrev S2x384 : Shape := ⟨2, ![2, 384]⟩
abbrev S2x256 : Shape := ⟨2, ![2, 256]⟩
abbrev S8x320 : Shape := ⟨2, ![8, 320]⟩
abbrev S2x320 : Shape := ⟨2, ![2, 320]⟩

abbrev nBuf : Space → Nat
  | .hbm => 80
  | .vmem => 80
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S8x384, .f32⟩
  | .hbm, ⟨9, _⟩ => ⟨S8x384, .f32⟩
  | .hbm, ⟨10, _⟩ => ⟨S8x384, .f32⟩
  | .hbm, ⟨11, _⟩ => ⟨S8x384, .f32⟩
  | .hbm, ⟨12, _⟩ => ⟨S2x1536, .f32⟩
  | .hbm, ⟨13, _⟩ => ⟨S2x1536, .f32⟩
  | .hbm, ⟨14, _⟩ => ⟨S2x1536, .f32⟩
  | .hbm, ⟨15, _⟩ => ⟨S2x1536, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S2x16, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S2x384, .f32⟩
  | .hbm, ⟨25, _⟩ => ⟨S2x384, .f32⟩
  | .hbm, ⟨26, _⟩ => ⟨S2x384, .f32⟩
  | .hbm, ⟨27, _⟩ => ⟨S2x384, .f32⟩
  | .hbm, ⟨28, _⟩ => ⟨S2x256, .f32⟩
  | .hbm, ⟨29, _⟩ => ⟨S2x256, .f32⟩
  | .hbm, ⟨30, _⟩ => ⟨S2x256, .f32⟩
  | .hbm, ⟨31, _⟩ => ⟨S2x256, .f32⟩
  | .hbm, ⟨32, _⟩ => ⟨S8x320, .f32⟩
  | .hbm, ⟨33, _⟩ => ⟨S8x320, .f32⟩
  | .hbm, ⟨34, _⟩ => ⟨S8x320, .f32⟩
  | .hbm, ⟨35, _⟩ => ⟨S8x320, .f32⟩
  | .hbm, ⟨36, _⟩ => ⟨S2x320, .f32⟩
  | .hbm, ⟨37, _⟩ => ⟨S2x320, .f32⟩
  | .hbm, ⟨38, _⟩ => ⟨S2x320, .f32⟩
  | .hbm, ⟨39, _⟩ => ⟨S2x320, .f32⟩
  | .hbm, ⟨40, _⟩ => ⟨S16x256, .f32⟩
  | .hbm, ⟨41, _⟩ => ⟨S16x256, .f32⟩
  | .hbm, ⟨42, _⟩ => ⟨S16x256, .f32⟩
  | .hbm, ⟨43, _⟩ => ⟨S16x256, .f32⟩
  | .hbm, ⟨44, _⟩ => ⟨S4x1024, .f32⟩
  | .hbm, ⟨45, _⟩ => ⟨S4x1024, .f32⟩
  | .hbm, ⟨46, _⟩ => ⟨S4x1024, .f32⟩
  | .hbm, ⟨47, _⟩ => ⟨S4x1024, .f32⟩
  | .hbm, ⟨48, _⟩ => ⟨S8x384, .f32⟩
  | .hbm, ⟨49, _⟩ => ⟨S8x384, .f32⟩
  | .hbm, ⟨50, _⟩ => ⟨S8x384, .f32⟩
  | .hbm, ⟨51, _⟩ => ⟨S8x384, .f32⟩
  | .hbm, ⟨52, _⟩ => ⟨S2x1536, .f32⟩
  | .hbm, ⟨53, _⟩ => ⟨S2x1536, .f32⟩
  | .hbm, ⟨54, _⟩ => ⟨S2x1536, .f32⟩
  | .hbm, ⟨55, _⟩ => ⟨S2x1536, .f32⟩
  | .hbm, ⟨56, _⟩ => ⟨S2x16, .f32⟩
  | .hbm, ⟨57, _⟩ => ⟨S2x16, .f32⟩
  | .hbm, ⟨58, _⟩ => ⟨S2x16, .f32⟩
  | .hbm, ⟨59, _⟩ => ⟨S2x16, .f32⟩
  | .hbm, ⟨60, _⟩ => ⟨S2x1024, .f32⟩
  | .hbm, ⟨61, _⟩ => ⟨S2x1024, .f32⟩
  | .hbm, ⟨62, _⟩ => ⟨S2x1024, .f32⟩
  | .hbm, ⟨63, _⟩ => ⟨S2x1024, .f32⟩
  | .hbm, ⟨64, _⟩ => ⟨S2x384, .f32⟩
  | .hbm, ⟨65, _⟩ => ⟨S2x384, .f32⟩
  | .hbm, ⟨66, _⟩ => ⟨S2x384, .f32⟩
  | .hbm, ⟨67, _⟩ => ⟨S2x384, .f32⟩
  | .hbm, ⟨68, _⟩ => ⟨S2x256, .f32⟩
  | .hbm, ⟨69, _⟩ => ⟨S2x256, .f32⟩
  | .hbm, ⟨70, _⟩ => ⟨S2x256, .f32⟩
  | .hbm, ⟨71, _⟩ => ⟨S2x256, .f32⟩
  | .hbm, ⟨72, _⟩ => ⟨S8x320, .f32⟩
  | .hbm, ⟨73, _⟩ => ⟨S8x320, .f32⟩
  | .hbm, ⟨74, _⟩ => ⟨S8x320, .f32⟩
  | .hbm, ⟨75, _⟩ => ⟨S8x320, .f32⟩
  | .hbm, ⟨76, _⟩ => ⟨S2x320, .f32⟩
  | .hbm, ⟨77, _⟩ => ⟨S2x320, .f32⟩
  | .hbm, ⟨78, _⟩ => ⟨S2x320, .f32⟩
  | .hbm, ⟨79, _⟩ => ⟨S2x320, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | .local _ .vmem, ⟨14, _⟩ => ⟨S4x1024, .f32⟩
  | .local _ .vmem, ⟨15, _⟩ => ⟨S4x1024, .f32⟩
  | .local _ .vmem, ⟨16, _⟩ => ⟨S8x384, .f32⟩
  | .local _ .vmem, ⟨17, _⟩ => ⟨S8x384, .f32⟩
  | .local _ .vmem, ⟨18, _⟩ => ⟨S8x384, .f32⟩
  | .local _ .vmem, ⟨19, _⟩ => ⟨S8x384, .f32⟩
  | .local _ .vmem, ⟨20, _⟩ => ⟨S8x384, .f32⟩
  | .local _ .vmem, ⟨21, _⟩ => ⟨S8x384, .f32⟩
  | .local _ .vmem, ⟨22, _⟩ => ⟨S8x384, .f32⟩
  | .local _ .vmem, ⟨23, _⟩ => ⟨S8x384, .f32⟩
  | .local _ .vmem, ⟨24, _⟩ => ⟨S2x1536, .f32⟩
  | .local _ .vmem, ⟨25, _⟩ => ⟨S2x1536, .f32⟩
  | .local _ .vmem, ⟨26, _⟩ => ⟨S2x1536, .f32⟩
  | .local _ .vmem, ⟨27, _⟩ => ⟨S2x1536, .f32⟩
  | .local _ .vmem, ⟨28, _⟩ => ⟨S2x1536, .f32⟩
  | .local _ .vmem, ⟨29, _⟩ => ⟨S2x1536, .f32⟩
  | .local _ .vmem, ⟨30, _⟩ => ⟨S2x1536, .f32⟩
  | .local _ .vmem, ⟨31, _⟩ => ⟨S2x1536, .f32⟩
  | .local _ .vmem, ⟨32, _⟩ => ⟨S2x16, .f32⟩
  | .local _ .vmem, ⟨33, _⟩ => ⟨S2x16, .f32⟩
  | .local _ .vmem, ⟨34, _⟩ => ⟨S2x16, .f32⟩
  | .local _ .vmem, ⟨35, _⟩ => ⟨S2x16, .f32⟩
  | .local _ .vmem, ⟨36, _⟩ => ⟨S2x16, .f32⟩
  | .local _ .vmem, ⟨37, _⟩ => ⟨S2x16, .f32⟩
  | .local _ .vmem, ⟨38, _⟩ => ⟨S2x16, .f32⟩
  | .local _ .vmem, ⟨39, _⟩ => ⟨S2x16, .f32⟩
  | .local _ .vmem, ⟨40, _⟩ => ⟨S2x1024, .f32⟩
  | .local _ .vmem, ⟨41, _⟩ => ⟨S2x1024, .f32⟩
  | .local _ .vmem, ⟨42, _⟩ => ⟨S2x1024, .f32⟩
  | .local _ .vmem, ⟨43, _⟩ => ⟨S2x1024, .f32⟩
  | .local _ .vmem, ⟨44, _⟩ => ⟨S2x1024, .f32⟩
  | .local _ .vmem, ⟨45, _⟩ => ⟨S2x1024, .f32⟩
  | .local _ .vmem, ⟨46, _⟩ => ⟨S2x1024, .f32⟩
  | .local _ .vmem, ⟨47, _⟩ => ⟨S2x1024, .f32⟩
  | .local _ .vmem, ⟨48, _⟩ => ⟨S2x384, .f32⟩
  | .local _ .vmem, ⟨49, _⟩ => ⟨S2x384, .f32⟩
  | .local _ .vmem, ⟨50, _⟩ => ⟨S2x384, .f32⟩
  | .local _ .vmem, ⟨51, _⟩ => ⟨S2x384, .f32⟩
  | .local _ .vmem, ⟨52, _⟩ => ⟨S2x384, .f32⟩
  | .local _ .vmem, ⟨53, _⟩ => ⟨S2x384, .f32⟩
  | .local _ .vmem, ⟨54, _⟩ => ⟨S2x384, .f32⟩
  | .local _ .vmem, ⟨55, _⟩ => ⟨S2x384, .f32⟩
  | .local _ .vmem, ⟨56, _⟩ => ⟨S2x256, .f32⟩
  | .local _ .vmem, ⟨57, _⟩ => ⟨S2x256, .f32⟩
  | .local _ .vmem, ⟨58, _⟩ => ⟨S2x256, .f32⟩
  | .local _ .vmem, ⟨59, _⟩ => ⟨S2x256, .f32⟩
  | .local _ .vmem, ⟨60, _⟩ => ⟨S2x256, .f32⟩
  | .local _ .vmem, ⟨61, _⟩ => ⟨S2x256, .f32⟩
  | .local _ .vmem, ⟨62, _⟩ => ⟨S2x256, .f32⟩
  | .local _ .vmem, ⟨63, _⟩ => ⟨S2x256, .f32⟩
  | .local _ .vmem, ⟨64, _⟩ => ⟨S8x320, .f32⟩
  | .local _ .vmem, ⟨65, _⟩ => ⟨S8x320, .f32⟩
  | .local _ .vmem, ⟨66, _⟩ => ⟨S8x320, .f32⟩
  | .local _ .vmem, ⟨67, _⟩ => ⟨S8x320, .f32⟩
  | .local _ .vmem, ⟨68, _⟩ => ⟨S8x320, .f32⟩
  | .local _ .vmem, ⟨69, _⟩ => ⟨S8x320, .f32⟩
  | .local _ .vmem, ⟨70, _⟩ => ⟨S8x320, .f32⟩
  | .local _ .vmem, ⟨71, _⟩ => ⟨S8x320, .f32⟩
  | .local _ .vmem, ⟨72, _⟩ => ⟨S2x320, .f32⟩
  | .local _ .vmem, ⟨73, _⟩ => ⟨S2x320, .f32⟩
  | .local _ .vmem, ⟨74, _⟩ => ⟨S2x320, .f32⟩
  | .local _ .vmem, ⟨75, _⟩ => ⟨S2x320, .f32⟩
  | .local _ .vmem, ⟨76, _⟩ => ⟨S2x320, .f32⟩
  | .local _ .vmem, ⟨77, _⟩ => ⟨S2x320, .f32⟩
  | .local _ .vmem, ⟨78, _⟩ => ⟨S2x320, .f32⟩
  | .local _ .vmem, ⟨79, _⟩ => ⟨S2x320, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v1_0 : Ref sig .tc := ⟨.hbm, 44, rfl⟩
abbrev main_v1_1 : Ref sig .tc := ⟨.hbm, 45, rfl⟩
abbrev main_v1_2 : Ref sig .tc := ⟨.hbm, 46, rfl⟩
abbrev main_v1_3 : Ref sig .tc := ⟨.hbm, 47, rfl⟩
abbrev main_v2_0 : Ref sig .tc := ⟨.hbm, 48, rfl⟩
abbrev main_v2_1 : Ref sig .tc := ⟨.hbm, 49, rfl⟩
abbrev main_v2_2 : Ref sig .tc := ⟨.hbm, 50, rfl⟩
abbrev main_v2_3 : Ref sig .tc := ⟨.hbm, 51, rfl⟩
abbrev main_v3_0 : Ref sig .tc := ⟨.hbm, 52, rfl⟩
abbrev main_v3_1 : Ref sig .tc := ⟨.hbm, 53, rfl⟩
abbrev main_v3_2 : Ref sig .tc := ⟨.hbm, 54, rfl⟩
abbrev main_v3_3 : Ref sig .tc := ⟨.hbm, 55, rfl⟩
abbrev main_v4_0 : Ref sig .tc := ⟨.hbm, 56, rfl⟩
abbrev main_v4_1 : Ref sig .tc := ⟨.hbm, 57, rfl⟩
abbrev main_v4_2 : Ref sig .tc := ⟨.hbm, 58, rfl⟩
abbrev main_v4_3 : Ref sig .tc := ⟨.hbm, 59, rfl⟩
abbrev main_v5_0 : Ref sig .tc := ⟨.hbm, 60, rfl⟩
abbrev main_v5_1 : Ref sig .tc := ⟨.hbm, 61, rfl⟩
abbrev main_v5_2 : Ref sig .tc := ⟨.hbm, 62, rfl⟩
abbrev main_v5_3 : Ref sig .tc := ⟨.hbm, 63, rfl⟩
abbrev main_v6_0 : Ref sig .tc := ⟨.hbm, 64, rfl⟩
abbrev main_v6_1 : Ref sig .tc := ⟨.hbm, 65, rfl⟩
abbrev main_v6_2 : Ref sig .tc := ⟨.hbm, 66, rfl⟩
abbrev main_v6_3 : Ref sig .tc := ⟨.hbm, 67, rfl⟩
abbrev main_v7_0 : Ref sig .tc := ⟨.hbm, 68, rfl⟩
abbrev main_v7_1 : Ref sig .tc := ⟨.hbm, 69, rfl⟩
abbrev main_v7_2 : Ref sig .tc := ⟨.hbm, 70, rfl⟩
abbrev main_v7_3 : Ref sig .tc := ⟨.hbm, 71, rfl⟩
abbrev main_v8_0 : Ref sig .tc := ⟨.hbm, 72, rfl⟩
abbrev main_v8_1 : Ref sig .tc := ⟨.hbm, 73, rfl⟩
abbrev main_v8_2 : Ref sig .tc := ⟨.hbm, 74, rfl⟩
abbrev main_v8_3 : Ref sig .tc := ⟨.hbm, 75, rfl⟩
abbrev main_v9_0 : Ref sig .tc := ⟨.hbm, 76, rfl⟩
abbrev main_v9_1 : Ref sig .tc := ⟨.hbm, 77, rfl⟩
abbrev main_v9_2 : Ref sig .tc := ⟨.hbm, 78, rfl⟩
abbrev main_v9_3 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg7_0 : Ref sig .tc := ⟨.vmem, 55, rfl⟩
abbrev cc7_stg0_0 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg7_0 : Ref sig .tc := ⟨.vmem, 63, rfl⟩
abbrev cc8_stg0_0 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg5_0 : Ref sig .tc := ⟨.vmem, 69, rfl⟩
abbrev cc8_stg6_0 : Ref sig .tc := ⟨.vmem, 70, rfl⟩
abbrev cc8_stg7_0 : Ref sig .tc := ⟨.vmem, 71, rfl⟩
abbrev cc9_stg0_0 : Ref sig .tc := ⟨.vmem, 72, rfl⟩
abbrev cc9_stg1_0 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg7_0 : Ref sig .tc := ⟨.vmem, 79, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc5_sem0_0 : DmaSem sig := 40
abbrev cc5_sem1_0 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc7_sem0_0 : DmaSem sig := 56
abbrev cc7_sem1_0 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem7_0 : DmaSem sig := 63
abbrev cc8_sem0_0 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem6_0 : DmaSem sig := 70
abbrev cc8_sem7_0 : DmaSem sig := 71
abbrev cc9_sem0_0 : DmaSem sig := 72
abbrev cc9_sem1_0 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem7_0 : DmaSem sig := 79

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 1 → Memref sig .tc .vmem S4x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, true]

abbrev stage1_4 : Fin 1 → Memref sig .tc .vmem S4x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S4x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S4x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S4x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S8x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S8x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S8x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S8x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 1 → Memref sig .tc .vmem S8x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S8x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S8x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev stage2_7 : Fin 1 → Memref sig .tc .vmem S8x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S2x1536 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 1 → Memref sig .tc .vmem S2x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S2x1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 1 → Memref sig .tc .vmem S2x1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true]

abbrev stage3_4 : Fin 1 → Memref sig .tc .vmem S2x1536 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S2x1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S2x1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S2x1536 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 1 → Memref sig .tc .vmem S2x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 1 → Memref sig .tc .vmem S2x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S2x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true]

abbrev stage4_3 : Fin 1 → Memref sig .tc .vmem S2x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, true]

abbrev stage4_4 : Fin 1 → Memref sig .tc .vmem S2x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, true]

abbrev stage4_5 : Fin 1 → Memref sig .tc .vmem S2x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, true]

abbrev stage4_6 : Fin 1 → Memref sig .tc .vmem S2x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true, true]

abbrev stage4_7 : Fin 1 → Memref sig .tc .vmem S2x16 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 1 → Memref sig .tc .vmem S2x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 1 → Memref sig .tc .vmem S2x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S2x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 1 → Memref sig .tc .vmem S2x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, true]

abbrev stage5_4 : Fin 1 → Memref sig .tc .vmem S2x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, true]

abbrev stage5_5 : Fin 1 → Memref sig .tc .vmem S2x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true, true]

abbrev stage5_6 : Fin 1 → Memref sig .tc .vmem S2x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true, true]

abbrev stage5_7 : Fin 1 → Memref sig .tc .vmem S2x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 1 → Memref sig .tc .vmem S2x384 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true]

abbrev stage6_1 : Fin 1 → Memref sig .tc .vmem S2x384 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S2x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, true]

abbrev stage6_3 : Fin 1 → Memref sig .tc .vmem S2x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, true]

abbrev stage6_4 : Fin 1 → Memref sig .tc .vmem S2x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true, true]

abbrev stage6_5 : Fin 1 → Memref sig .tc .vmem S2x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true, true]

abbrev stage6_6 : Fin 1 → Memref sig .tc .vmem S2x384 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true, true]

abbrev stage6_7 : Fin 1 → Memref sig .tc .vmem S2x384 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 1 → Memref sig .tc .vmem S2x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, true]

abbrev stage7_1 : Fin 1 → Memref sig .tc .vmem S2x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S2x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true]

abbrev stage7_3 : Fin 1 → Memref sig .tc .vmem S2x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true]

abbrev stage7_4 : Fin 1 → Memref sig .tc .vmem S2x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true, true]

abbrev stage7_5 : Fin 1 → Memref sig .tc .vmem S2x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true, true]

abbrev stage7_6 : Fin 1 → Memref sig .tc .vmem S2x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true, true]

abbrev stage7_7 : Fin 1 → Memref sig .tc .vmem S2x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_7 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage8_0 : Fin 1 → Memref sig .tc .vmem S8x320 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, true]

abbrev stage8_1 : Fin 1 → Memref sig .tc .vmem S8x320 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S8x320 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true]

abbrev stage8_3 : Fin 1 → Memref sig .tc .vmem S8x320 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, true]

abbrev stage8_4 : Fin 1 → Memref sig .tc .vmem S8x320 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true, true]

abbrev stage8_5 : Fin 1 → Memref sig .tc .vmem S8x320 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true, true]

abbrev stage8_6 : Fin 1 → Memref sig .tc .vmem S8x320 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true, true]

abbrev stage8_7 : Fin 1 → Memref sig .tc .vmem S8x320 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![true, true]

abbrev grid9 : Pipeline.Grid := ⟨2, ![1, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 1 → Memref sig .tc .vmem S2x320 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, true]

abbrev stage9_1 : Fin 1 → Memref sig .tc .vmem S2x320 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S2x320 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, true]

abbrev stage9_3 : Fin 1 → Memref sig .tc .vmem S2x320 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, true]

abbrev stage9_4 : Fin 1 → Memref sig .tc .vmem S2x320 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true, true]

abbrev stage9_5 : Fin 1 → Memref sig .tc .vmem S2x320 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![true, true]

abbrev stage9_6 : Fin 1 → Memref sig .tc .vmem S2x320 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![true, true]

abbrev stage9_7 : Fin 1 → Memref sig .tc .vmem S2x320 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![true, true]
-- ==== AdamSRefIdeal.lean ====
abbrev S16x256 : Shape := ⟨2, ![16, 256]⟩
abbrev S4x1024 : Shape := ⟨2, ![4, 1024]⟩
abbrev S8x384 : Shape := ⟨2, ![8, 384]⟩
abbrev S2x1536 : Shape := ⟨2, ![2, 1536]⟩
abbrev S2x16 : Shape := ⟨2, ![2, 16]⟩
abbrev S2x1024 : Shape := ⟨2, ![2, 1024]⟩
abbrev S2x384 : Shape := ⟨2, ![2, 384]⟩
abbrev S2x256 : Shape := ⟨2, ![2, 256]⟩
abbrev S8x320 : Shape := ⟨2, ![8, 320]⟩
abbrev S2x320 : Shape := ⟨2, ![2, 320]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S16x256, .f32⟩
  | 1 => ⟨S16x256, .f32⟩
  | 2 => ⟨S16x256, .f32⟩
  | 3 => ⟨S16x256, .f32⟩
  | 4 => ⟨S4x1024, .f32⟩
  | 5 => ⟨S4x1024, .f32⟩
  | 6 => ⟨S4x1024, .f32⟩
  | 7 => ⟨S4x1024, .f32⟩
  | 8 => ⟨S8x384, .f32⟩
  | 9 => ⟨S8x384, .f32⟩
  | 10 => ⟨S8x384, .f32⟩
  | 11 => ⟨S8x384, .f32⟩
  | 12 => ⟨S2x1536, .f32⟩
  | 13 => ⟨S2x1536, .f32⟩
  | 14 => ⟨S2x1536, .f32⟩
  | 15 => ⟨S2x1536, .f32⟩
  | 16 => ⟨S2x16, .f32⟩
  | 17 => ⟨S2x16, .f32⟩
  | 18 => ⟨S2x16, .f32⟩
  | 19 => ⟨S2x16, .f32⟩
  | 20 => ⟨S2x1024, .f32⟩
  | 21 => ⟨S2x1024, .f32⟩
  | 22 => ⟨S2x1024, .f32⟩
  | 23 => ⟨S2x1024, .f32⟩
  | 24 => ⟨S2x384, .f32⟩
  | 25 => ⟨S2x384, .f32⟩
  | 26 => ⟨S2x384, .f32⟩
  | 27 => ⟨S2x384, .f32⟩
  | 28 => ⟨S2x256, .f32⟩
  | 29 => ⟨S2x256, .f32⟩
  | 30 => ⟨S2x256, .f32⟩
  | 31 => ⟨S2x256, .f32⟩
  | 32 => ⟨S8x320, .f32⟩
  | 33 => ⟨S8x320, .f32⟩
  | 34 => ⟨S8x320, .f32⟩
  | 35 => ⟨S8x320, .f32⟩
  | 36 => ⟨S2x320, .f32⟩
  | 37 => ⟨S2x320, .f32⟩
  | 38 => ⟨S2x320, .f32⟩
  | 39 => ⟨S2x320, .f32⟩
  | 40 => ⟨S_, .f32⟩
  | 41 => ⟨S16x256, .f32⟩
  | 42 => ⟨S16x256, .f32⟩
  | 43 => ⟨S_, .f32⟩
  | 44 => ⟨S16x256, .f32⟩
  | 45 => ⟨S16x256, .f32⟩
  | 46 => ⟨S16x256, .f32⟩
  | 47 => ⟨S_, .f32⟩
  | 48 => ⟨S16x256, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S_, .f32⟩
  | 59 => ⟨S16x256, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S_, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S_, .f32⟩
  | 107 => ⟨S8x384, .f32⟩
  | 108 => ⟨S8x384, .f32⟩
  | 109 => ⟨S_, .f32⟩
  | 110 => ⟨S8x384, .f32⟩
  | 111 => ⟨S8x384, .f32⟩
  | 112 => ⟨S8x384, .f32⟩
  | 113 => ⟨S_, .f32⟩
  | 114 => ⟨S8x384, .f32⟩
  | 115 => ⟨S8x384, .f32⟩
  | 116 => ⟨S8x384, .f32⟩
  | 117 => ⟨S_, .f32⟩
  | 118 => ⟨S8x384, .f32⟩
  | 119 => ⟨S8x384, .f32⟩
  | 120 => ⟨S8x384, .f32⟩
  | 121 => ⟨S_, .f32⟩
  | 122 => ⟨S8x384, .f32⟩
  | 123 => ⟨S8x384, .f32⟩
  | 124 => ⟨S_, .f32⟩
  | 125 => ⟨S8x384, .f32⟩
  | 126 => ⟨S8x384, .f32⟩
  | 127 => ⟨S8x384, .f32⟩
  | _ => ⟨S16x256, .f32⟩

abbrev hbmTy0_1 (i : Nat) : BufTy := match i % 128 with
  | 0 => ⟨S_, .f32⟩
  | 1 => ⟨S8x384, .f32⟩
  | 2 => ⟨S8x384, .f32⟩
  | 3 => ⟨S8x384, .f32⟩
  | 4 => ⟨S_, .f32⟩
  | 5 => ⟨S8x384, .f32⟩
  | 6 => ⟨S8x384, .f32⟩
  | 7 => ⟨S8x384, .f32⟩
  | 8 => ⟨S_, .f32⟩
  | 9 => ⟨S8x384, .f32⟩
  | 10 => ⟨S8x384, .f32⟩
  | 11 => ⟨S_, .f32⟩
  | 12 => ⟨S2x1536, .f32⟩
  | 13 => ⟨S2x1536, .f32⟩
  | 14 => ⟨S_, .f32⟩
  | 15 => ⟨S2x1536, .f32⟩
  | 16 => ⟨S2x1536, .f32⟩
  | 17 => ⟨S2x1536, .f32⟩
  | 18 => ⟨S_, .f32⟩
  | 19 => ⟨S2x1536, .f32⟩
  | 20 => ⟨S2x1536, .f32⟩
  | 21 => ⟨S2x1536, .f32⟩
  | 22 => ⟨S_, .f32⟩
  | 23 => ⟨S2x1536, .f32⟩
  | 24 => ⟨S2x1536, .f32⟩
  | 25 => ⟨S2x1536, .f32⟩
  | 26 => ⟨S_, .f32⟩
  | 27 => ⟨S2x1536, .f32⟩
  | 28 => ⟨S2x1536, .f32⟩
  | 29 => ⟨S_, .f32⟩
  | 30 => ⟨S2x1536, .f32⟩
  | 31 => ⟨S2x1536, .f32⟩
  | 32 => ⟨S2x1536, .f32⟩
  | 33 => ⟨S_, .f32⟩
  | 34 => ⟨S2x1536, .f32⟩
  | 35 => ⟨S2x1536, .f32⟩
  | 36 => ⟨S2x1536, .f32⟩
  | 37 => ⟨S_, .f32⟩
  | 38 => ⟨S2x1536, .f32⟩
  | 39 => ⟨S2x1536, .f32⟩
  | 40 => ⟨S2x1536, .f32⟩
  | 41 => ⟨S_, .f32⟩
  | 42 => ⟨S2x1536, .f32⟩
  | 43 => ⟨S2x1536, .f32⟩
  | 44 => ⟨S_, .f32⟩
  | 45 => ⟨S2x16, .f32⟩
  | 46 => ⟨S2x16, .f32⟩
  | 47 => ⟨S_, .f32⟩
  | 48 => ⟨S2x16, .f32⟩
  | 49 => ⟨S2x16, .f32⟩
  | 50 => ⟨S2x16, .f32⟩
  | 51 => ⟨S_, .f32⟩
  | 52 => ⟨S2x16, .f32⟩
  | 53 => ⟨S2x16, .f32⟩
  | 54 => ⟨S2x16, .f32⟩
  | 55 => ⟨S_, .f32⟩
  | 56 => ⟨S2x16, .f32⟩
  | 57 => ⟨S2x16, .f32⟩
  | 58 => ⟨S2x16, .f32⟩
  | 59 => ⟨S_, .f32⟩
  | 60 => ⟨S2x16, .f32⟩
  | 61 => ⟨S2x16, .f32⟩
  | 62 => ⟨S_, .f32⟩
  | 63 => ⟨S2x16, .f32⟩
  | 64 => ⟨S2x16, .f32⟩
  | 65 => ⟨S2x16, .f32⟩
  | 66 => ⟨S_, .f32⟩
  | 67 => ⟨S2x16, .f32⟩
  | 68 => ⟨S2x16, .f32⟩
  | 69 => ⟨S2x16, .f32⟩
  | 70 => ⟨S_, .f32⟩
  | 71 => ⟨S2x16, .f32⟩
  | 72 => ⟨S2x16, .f32⟩
  | 73 => ⟨S2x16, .f32⟩
  | 74 => ⟨S_, .f32⟩
  | 75 => ⟨S2x16, .f32⟩
  | 76 => ⟨S2x16, .f32⟩
  | 77 => ⟨S_, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S_, .f32⟩
  | 111 => ⟨S2x384, .f32⟩
  | 112 => ⟨S2x384, .f32⟩
  | 113 => ⟨S_, .f32⟩
  | 114 => ⟨S2x384, .f32⟩
  | 115 => ⟨S2x384, .f32⟩
  | 116 => ⟨S2x384, .f32⟩
  | 117 => ⟨S_, .f32⟩
  | 118 => ⟨S2x384, .f32⟩
  | 119 => ⟨S2x384, .f32⟩
  | 120 => ⟨S2x384, .f32⟩
  | 121 => ⟨S_, .f32⟩
  | 122 => ⟨S2x384, .f32⟩
  | 123 => ⟨S2x384, .f32⟩
  | 124 => ⟨S2x384, .f32⟩
  | 125 => ⟨S_, .f32⟩
  | 126 => ⟨S2x384, .f32⟩
  | 127 => ⟨S2x384, .f32⟩
  | _ => ⟨S16x256, .f32⟩

abbrev hbmTy0_2 (i : Nat) : BufTy := match i % 128 with
  | 0 => ⟨S_, .f32⟩
  | 1 => ⟨S2x384, .f32⟩
  | 2 => ⟨S2x384, .f32⟩
  | 3 => ⟨S2x384, .f32⟩
  | 4 => ⟨S_, .f32⟩
  | 5 => ⟨S2x384, .f32⟩
  | 6 => ⟨S2x384, .f32⟩
  | 7 => ⟨S2x384, .f32⟩
  | 8 => ⟨S_, .f32⟩
  | 9 => ⟨S2x384, .f32⟩
  | 10 => ⟨S2x384, .f32⟩
  | 11 => ⟨S2x384, .f32⟩
  | 12 => ⟨S_, .f32⟩
  | 13 => ⟨S2x384, .f32⟩
  | 14 => ⟨S2x384, .f32⟩
  | 15 => ⟨S_, .f32⟩
  | 16 => ⟨S2x256, .f32⟩
  | 17 => ⟨S2x256, .f32⟩
  | 18 => ⟨S_, .f32⟩
  | 19 => ⟨S2x256, .f32⟩
  | 20 => ⟨S2x256, .f32⟩
  | 21 => ⟨S2x256, .f32⟩
  | 22 => ⟨S_, .f32⟩
  | 23 => ⟨S2x256, .f32⟩
  | 24 => ⟨S2x256, .f32⟩
  | 25 => ⟨S2x256, .f32⟩
  | 26 => ⟨S_, .f32⟩
  | 27 => ⟨S2x256, .f32⟩
  | 28 => ⟨S2x256, .f32⟩
  | 29 => ⟨S2x256, .f32⟩
  | 30 => ⟨S_, .f32⟩
  | 31 => ⟨S2x256, .f32⟩
  | 32 => ⟨S2x256, .f32⟩
  | 33 => ⟨S_, .f32⟩
  | 34 => ⟨S2x256, .f32⟩
  | 35 => ⟨S2x256, .f32⟩
  | 36 => ⟨S2x256, .f32⟩
  | 37 => ⟨S_, .f32⟩
  | 38 => ⟨S2x256, .f32⟩
  | 39 => ⟨S2x256, .f32⟩
  | 40 => ⟨S2x256, .f32⟩
  | 41 => ⟨S_, .f32⟩
  | 42 => ⟨S2x256, .f32⟩
  | 43 => ⟨S2x256, .f32⟩
  | 44 => ⟨S2x256, .f32⟩
  | 45 => ⟨S_, .f32⟩
  | 46 => ⟨S2x256, .f32⟩
  | 47 => ⟨S2x256, .f32⟩
  | 48 => ⟨S_, .f32⟩
  | 49 => ⟨S8x320, .f32⟩
  | 50 => ⟨S8x320, .f32⟩
  | 51 => ⟨S_, .f32⟩
  | 52 => ⟨S8x320, .f32⟩
  | 53 => ⟨S8x320, .f32⟩
  | 54 => ⟨S8x320, .f32⟩
  | 55 => ⟨S_, .f32⟩
  | 56 => ⟨S8x320, .f32⟩
  | 57 => ⟨S8x320, .f32⟩
  | 58 => ⟨S8x320, .f32⟩
  | 59 => ⟨S_, .f32⟩
  | 60 => ⟨S8x320, .f32⟩
  | 61 => ⟨S8x320, .f32⟩
  | 62 => ⟨S8x320, .f32⟩
  | 63 => ⟨S_, .f32⟩
  | 64 => ⟨S8x320, .f32⟩
  | 65 => ⟨S8x320, .f32⟩
  | 66 => ⟨S_, .f32⟩
  | 67 => ⟨S8x320, .f32⟩
  | 68 => ⟨S8x320, .f32⟩
  | 69 => ⟨S8x320, .f32⟩
  | 70 => ⟨S_, .f32⟩
  | 71 => ⟨S8x320, .f32⟩
  | 72 => ⟨S8x320, .f32⟩
  | 73 => ⟨S8x320, .f32⟩
  | 74 => ⟨S_, .f32⟩
  | 75 => ⟨S8x320, .f32⟩
  | 76 => ⟨S8x320, .f32⟩
  | 77 => ⟨S8x320, .f32⟩
  | 78 => ⟨S_, .f32⟩
  | 79 => ⟨S8x320, .f32⟩
  | 80 => ⟨S8x320, .f32⟩
  | 81 => ⟨S_, .f32⟩
  | 82 => ⟨S2x320, .f32⟩
  | 83 => ⟨S2x320, .f32⟩
  | 84 => ⟨S_, .f32⟩
  | 85 => ⟨S2x320, .f32⟩
  | 86 => ⟨S2x320, .f32⟩
  | 87 => ⟨S2x320, .f32⟩
  | 88 => ⟨S_, .f32⟩
  | 89 => ⟨S2x320, .f32⟩
  | 90 => ⟨S2x320, .f32⟩
  | 91 => ⟨S2x320, .f32⟩
  | 92 => ⟨S_, .f32⟩
  | 93 => ⟨S2x320, .f32⟩
  | 94 => ⟨S2x320, .f32⟩
  | 95 => ⟨S2x320, .f32⟩
  | 96 => ⟨S_, .f32⟩
  | 97 => ⟨S2x320, .f32⟩
  | 98 => ⟨S2x320, .f32⟩
  | 99 => ⟨S_, .f32⟩
  | 100 => ⟨S2x320, .f32⟩
  | 101 => ⟨S2x320, .f32⟩
  | 102 => ⟨S2x320, .f32⟩
  | 103 => ⟨S_, .f32⟩
  | 104 => ⟨S2x320, .f32⟩
  | 105 => ⟨S2x320, .f32⟩
  | 106 => ⟨S2x320, .f32⟩
  | 107 => ⟨S_, .f32⟩
  | 108 => ⟨S2x320, .f32⟩
  | 109 => ⟨S2x320, .f32⟩
  | 110 => ⟨S2x320, .f32⟩
  | 111 => ⟨S_, .f32⟩
  | 112 => ⟨S2x320, .f32⟩
  | 113 => ⟨S2x320, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Loss.lean ====
abbrev S4224x1024 : Shape := ⟨2, ![4224, 1024]⟩
abbrev S4096x1024 : Shape := ⟨2, ![4096, 1024]⟩
abbrev S1x128 : Shape := ⟨2, ![1, 128]⟩
abbrev S128x1024 : Shape := ⟨2, ![128, 1024]⟩
abbrev S1x128x1024 : Shape := ⟨3, ![1, 128, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S1x128, .f32⟩
  | .hbm, ⟨3, _⟩ => ⟨S4224x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x128, .f32⟩
  | .local _ .vmem, ⟨5, _⟩ => ⟨S128x1024, .f32⟩
  | .local _ .vmem, ⟨6, _⟩ => ⟨S128x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4224x1024 : Shape := ⟨2, ![4224, 1024]⟩
abbrev S4096x1024 : Shape := ⟨2, ![4096, 1024]⟩
abbrev S_ : Shape := ⟨0, ![]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.AdSpec.lean ====
/- One weight's step of the optimiser over the extended reals, element by element. -/
module

public import Idealize.ShloMosaic.Lib.Pipeline.ValueKit
public import Idealize.ShloMosaic.PureOps.Ideal
public import Idealize.ShloMosaic.Lib.Pointwise.Tactic

@[expose] public section

noncomputable section

namespace Cert.Adam

open Idealize.ShloMosaic

/-- The first moment after the step. -/
def mom {s : Shape} (g m : Vec Ideal s .f32) : Vec Ideal s .f32 :=
  addf (mulf (broadcast s (Scalar.ofBits .f32 0x3F666666#32 : Ideal .f32)) m) (mulf (broadcast s (Scalar.ofBits .f32 0x3DCCCCCD#32 : Ideal .f32)) g)

/-- The second moment after the step. -/
def sec {s : Shape} (g v : Vec Ideal s .f32) : Vec Ideal s .f32 :=
  addf (mulf (broadcast s (Scalar.ofBits .f32 0x3F7FBE77#32 : Ideal .f32)) v) (mulf (broadcast s (Scalar.ofBits .f32 0x3A83126F#32 : Ideal .f32)) (mulf g g))

/-- The change of the weight. -/
def dlt {s : Shape} (g w m v : Vec Ideal s .f32) : Vec Ideal s .f32 :=
  mulf (broadcast s (Scalar.ofBits .f32 0xBA83126F#32 : Ideal .f32))
    (addf (divf (divf (mom g m) (broadcast s (Scalar.ofBits .f32 0x3F26BD02#32 : Ideal .f32)))
        (addf (sqrt (divf (sec g v) (broadcast s (Scalar.ofBits .f32 0x3C231ACC#32 : Ideal .f32)))) (broadcast s (Scalar.ofBits .f32 0x322BCC77#32 : Ideal .f32))))
      (mulf (broadcast s (Scalar.ofBits .f32 0x3C23D70A#32 : Ideal .f32)) w))

/-- The change of a weight at one place needs its four inputs there only. -/
theorem dlt_at {A B : Shape} {g w m v : Vec Ideal B .f32} {G W M V : Vec Ideal A .f32} {y : B.Idx} {i : A.Idx} (hg : g y = G i) (hw : w y = W i) (hm : m y = M i)
    (hv : v y = V i) : dlt g w m v y = dlt G W M V i := by
  simp only [dlt, mom, sec, pointwise, hg, hw, hm, hv]

/-- So does the first moment. -/
theorem mom_at {A B : Shape} {g m : Vec Ideal B .f32} {G M : Vec Ideal A .f32} {y : B.Idx} {i : A.Idx} (hg : g y = G i) (hm : m y = M i) : mom g m y = mom G M i := by
  simp only [mom, pointwise, hg, hm]

/-- So does the second moment. -/
theorem sec_at {A B : Shape} {g v : Vec Ideal B .f32} {G V : Vec Ideal A .f32} {y : B.Idx} {i : A.Idx} (hg : g y = G i) (hv : v y = V i) : sec g v y = sec G V i := by
  simp only [sec, pointwise, hg, hv]

/-- The shape of one number. -/
abbrev S0 : Shape := ⟨0, ![]⟩

/-- The first moment as the host program writes it. -/
theorem host_mom {s : Shape} (h : S0.BroadcastsInDim s (![] : Fin 0 → Fin s.rank)) (g m : FVec Ideal s .f32) :
    addf (mulf (broadcastInDim s ![] h (constant (F := Ideal) S0 .f32 0x3F666666#32)) m) (mulf (broadcastInDim s ![] h (constant (F := Ideal) S0 .f32 0x3DCCCCCD#32)) g) = (mom g m : FVec Ideal s .f32) := rfl

/-- The second moment as the host program writes it. -/
theorem host_sec {s : Shape} (h : S0.BroadcastsInDim s (![] : Fin 0 → Fin s.rank)) (g v : FVec Ideal s .f32) :
    addf (mulf (broadcastInDim s ![] h (constant (F := Ideal) S0 .f32 0x3F7FBE77#32)) v) (mulf (broadcastInDim s ![] h (constant (F := Ideal) S0 .f32 0x3A83126F#32)) (mulf g g)) = (sec g v : FVec Ideal s .f32) := rfl

/-- The change of the weight as the host program writes it. -/
theorem host_dlt {s : Shape} (h : S0.BroadcastsInDim s (![] : Fin 0 → Fin s.rank)) (g w m v : FVec Ideal s .f32) :
    mulf (broadcastInDim s ![] h (constant (F := Ideal) S0 .f32 0xBA83126F#32))
      (addf (Host.divf (Host.divf (addf (mulf (broadcastInDim s ![] h (constant (F := Ideal) S0 .f32 0x3F666666#32)) m) (mulf (broadcastInDim s ![] h (constant (F := Ideal) S0 .f32 0x3DCCCCCD#32)) g))
            (broadcastInDim s ![] h (constant (F := Ideal) S0 .f32 0x3F26BD02#32)))
          (addf (Host.sqrt (Host.divf (addf (mulf (broadcastInDim s ![] h (constant (F := Ideal) S0 .f32 0x3F7FBE77#32)) v)
              (mulf (broadcastInDim s ![] h (constant (F := Ideal) S0 .f32 0x3A83126F#32)) (mulf g g))) (broadcastInDim s ![] h (constant (F := Ideal) S0 .f32 0x3C231ACC#32))))
            (broadcastInDim s ![] h (constant (F := Ideal) S0 .f32 0x322BCC77#32))))
        (mulf (broadcastInDim s ![] h (constant (F := Ideal) S0 .f32 0x3C23D70A#32)) w)) = (dlt g w m v : FVec Ideal s .f32) := by
  rw [host_mom, host_sec]
  rfl

/-- Every window of a call is on the same block of its array at every point. -/
abbrev Same {sig : RefSig} {G : Pipeline.Grid} {n : ℕ} (win : Fin n → Pipeline.Window sig G) : Prop :=
  ∀ (w o : Fin n) (t : Fin G.N) (a : Fin (win w).shape.rank) (b : Fin (win o).shape.rank), (a : ℕ) = (b : ℕ) → (win w).index t a = (win o).index t b

/-- Then what window `w` reads at a place of its block is its array where window `o` puts that place. -/
theorem rd {sig : RefSig} {G : Pipeline.Grid} {n : ℕ} {win : Fin n → Pipeline.Window sig G} (h : Same win) (w o : Fin n) (t : Fin G.N)
    (y : ((win w).xblock (G.coords t)).Idx) (y' : ((win o).xblock (G.coords t)).Idx) {X : Type} (f : (win w).shape.Idx → X) (f' : (win o).shape.Idx → X)
    (hs : (win w).shape = (win o).shape := by rfl) (hx : (win w).xblock (G.coords t) = (win o).xblock (G.coords t) := by rfl) (hf : HEq f f' := by exact HEq.rfl)
    (hy : HEq y y' := by exact HEq.rfl) (hz : HEq (win w).size (win o).size := by exact HEq.rfl)
    (hk : (win w).kind = .blocked ∧ (win o).kind = .blocked := by exact ⟨rfl, rfl⟩) :
    f (((win w).rect t).emb y) = f' (((win o).rect t).emb y') := by
  have key : ∀ {A B : Shape} (_ : A = B) (f : A.Idx → X) (f' : B.Idx → X) (i : A.Idx) (j : B.Idx), HEq f f' →
      (∀ (a : Fin A.rank) (b : Fin B.rank), (a : ℕ) = (b : ℕ) → (i a : ℕ) = j b) → f i = f' j := by
    intro A B e f f' i j hf hij
    subst e
    rw [eq_of_heq hf, show i = j from funext fun a => Fin.ext (hij a a rfl)]
  have kz : ∀ {A B : ℕ} (_ : A = B) (f : Fin A → ℕ) (f' : Fin B → ℕ) (a : Fin A) (b : Fin B), HEq f f' → (a : ℕ) = (b : ℕ) → f a = f' b := by
    intro A B e f f' a b hf hab
    subst e
    rw [eq_of_heq hf, Fin.ext hab]
  have ky : ∀ {A B : Shape} (_ : A = B) (i : A.Idx) (j : B.Idx) (a : Fin A.rank) (b : Fin B.rank), HEq i j → (a : ℕ) = (b : ℕ) → (i a : ℕ) = j b := by
    intro A B e i j a b hij hab
    subst e
    rw [eq_of_heq hij, Fin.ext hab]
  refine key hs f f' _ _ hf fun a b e => ?_
  rw [Pipeline.Window.rect_emb_val (win w) t y a hk.1, Pipeline.Window.rect_emb_val (win o) t y' b hk.2, h w o t a b e,
    kz (congrArg Shape.rank hs) (win w).size (win o).size a b hz e]
  exact congrArg _ (ky hx y y' a b hy e)

end Cert.Adam

end
-- ==== Proof.AdLArr.lean ====
/- What each optimiser call on a large weight leaves in its arrays. -/
module

public import proofs.«01_k».proof.Proof.Gen.AdamLIdeal.Frame
public import proofs.«01_k».proof.Proof.AdSpec

@[expose] public section

set_option maxRecDepth 16384
set_option maxHeartbeats 2000000

noncomputable section

namespace Cert.AdamLIdeal.Value

open Cert.AdamLIdeal Cert.AdamLIdeal.Gen Cert.Adam
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

section arrays

variable (V : (c : Dev nD) → (b : Ref sig .tc) → Buf (Elt Ideal) ((c : Thread nD τ).loc b)) (c : Dev nD)

/-- What call 0 leaves of a weight of 4096 by 1024. -/
theorem final0 : (dat0 V c).arrAt 5 cfg0.N = dlt (V c main_arg0) (V c main_arg1) (V c main_arg2) (V c main_arg3)
    ∧ (dat0 V c).arrAt 6 cfg0.N = mom (V c main_arg0) (V c main_arg2) ∧ (dat0 V c).arrAt 7 cfg0.N = sec (V c main_arg0) (V c main_arg3) := by
  have h : Same win0 := by decide +kernel
  refine ⟨(dat0 V c).arrAt_eq_of_covers 5 _ (by decide +kernel) fun t _ y => ?_, (dat0 V c).arrAt_eq_of_covers 6 _ (by decide +kernel) fun t _ y => ?_,
    (dat0 V c).arrAt_eq_of_covers 7 _ (by decide +kernel) fun t _ y => ?_⟩
  all_goals first | rw [after0_5, out0_5] | rw [after0_6, out0_6] | rw [after0_7, out0_7]
  all_goals rw [View.canon_cons_unit_lit _ _ _ (by decide)]; repeat rw [View.ld_unit_lit _ _ (by decide)]
  · exact dlt_at (A := S4096x1024) (rd h 0 5 t y y (V c main_arg0) _) (rd h 1 5 t y y (V c main_arg1) _) (rd h 2 5 t y y (V c main_arg2) _) (rd h 3 5 t y y (V c main_arg3) _)
  · exact mom_at (A := S4096x1024) (rd h 0 6 t y y (V c main_arg0) _) (rd h 2 6 t y y (V c main_arg2) _)
  · exact sec_at (A := S4096x1024) (rd h 0 7 t y y (V c main_arg0) _) (rd h 3 7 t y y (V c main_arg3) _)

/-- What call 1 leaves of a weight of 2048 by 812. -/
theorem final1 : (dat1 V c).arrAt 5 cfg1.N = dlt (V c main_arg4) (V c main_arg5) (V c main_arg6) (V c main_arg7)
    ∧ (dat1 V c).arrAt 6 cfg1.N = mom (V c main_arg4) (V c main_arg6) ∧ (dat1 V c).arrAt 7 cfg1.N = sec (V c main_arg4) (V c main_arg7) := by
  have h : Same win1 := by decide +kernel
  refine ⟨(dat1 V c).arrAt_eq_of_covers 5 _ (by decide +kernel) fun t _ y => ?_, (dat1 V c).arrAt_eq_of_covers 6 _ (by decide +kernel) fun t _ y => ?_,
    (dat1 V c).arrAt_eq_of_covers 7 _ (by decide +kernel) fun t _ y => ?_⟩
  all_goals first | rw [after1_5, out1_5] | rw [after1_6, out1_6] | rw [after1_7, out1_7]
  all_goals rw [View.canon_cons_unit_lit _ _ _ (by decide)]; repeat rw [View.ld_unit_lit _ _ (by decide)]
  · exact dlt_at (A := S2048x812) (rd h 0 5 t y y (V c main_arg4) _) (rd h 1 5 t y y (V c main_arg5) _) (rd h 2 5 t y y (V c main_arg6) _) (rd h 3 5 t y y (V c main_arg7) _)
  · exact mom_at (A := S2048x812) (rd h 0 6 t y y (V c main_arg4) _) (rd h 2 6 t y y (V c main_arg6) _)
  · exact sec_at (A := S2048x812) (rd h 0 7 t y y (V c main_arg4) _) (rd h 3 7 t y y (V c main_arg7) _)

/-- What call 2 leaves of a weight of 768 by 384. -/
theorem final2 : (dat2 V c).arrAt 5 cfg2.N = dlt (V c main_arg8) (V c main_arg9) (V c main_arg10) (V c main_arg11)
    ∧ (dat2 V c).arrAt 6 cfg2.N = mom (V c main_arg8) (V c main_arg10) ∧ (dat2 V c).arrAt 7 cfg2.N = sec (V c main_arg8) (V c main_arg11) := by
  have h : Same win2 := by decide +kernel
  refine ⟨(dat2 V c).arrAt_eq_of_covers 5 _ (by decide +kernel) fun t _ y => ?_, (dat2 V c).arrAt_eq_of_covers 6 _ (by decide +kernel) fun t _ y => ?_,
    (dat2 V c).arrAt_eq_of_covers 7 _ (by decide +kernel) fun t _ y => ?_⟩
  all_goals first | rw [after2_5, out2_5] | rw [after2_6, out2_6] | rw [after2_7, out2_7]
  all_goals rw [View.canon_cons_unit_lit _ _ _ (by decide)]; repeat rw [View.ld_unit_lit _ _ (by decide)]
  · exact dlt_at (A := S768x384) (rd h 0 5 t y y (V c main_arg8) _) (rd h 1 5 t y y (V c main_arg9) _) (rd h 2 5 t y y (V c main_arg10) _) (rd h 3 5 t y y (V c main_arg11) _)
  · exact mom_at (A := S768x384) (rd h 0 6 t y y (V c main_arg8) _) (rd h 2 6 t y y (V c main_arg10) _)
  · exact sec_at (A := S768x384) (rd h 0 7 t y y (V c main_arg8) _) (rd h 3 7 t y y (V c main_arg11) _)

/-- What call 3 leaves of a weight of 512 by 512. -/
theorem final3 : (dat3 V c).arrAt 5 cfg3.N = dlt (V c main_arg12) (V c main_arg13) (V c main_arg14) (V c main_arg15)
    ∧ (dat3 V c).arrAt 6 cfg3.N = mom (V c main_arg12) (V c main_arg14) ∧ (dat3 V c).arrAt 7 cfg3.N = sec (V c main_arg12) (V c main_arg15) := by
  have h : Same win3 := by decide +kernel
  refine ⟨(dat3 V c).arrAt_eq_of_covers 5 _ (by decide +kernel) fun t _ y => ?_, (dat3 V c).arrAt_eq_of_covers 6 _ (by decide +kernel) fun t _ y => ?_,
    (dat3 V c).arrAt_eq_of_covers 7 _ (by decide +kernel) fun t _ y => ?_⟩
  all_goals first | rw [after3_5, out3_5] | rw [after3_6, out3_6] | rw [after3_7, out3_7]
  all_goals rw [View.canon_cons_unit_lit _ _ _ (by decide)]; repeat rw [View.ld_unit_lit _ _ (by decide)]
  · exact dlt_at (A := S512x512) (rd h 0 5 t y y (V c main_arg12) _) (rd h 1 5 t y y (V c main_arg13) _) (rd h 2 5 t y y (V c main_arg14) _) (rd h 3 5 t y y (V c main_arg15) _)
  · exact mom_at (A := S512x512) (rd h 0 6 t y y (V c main_arg12) _) (rd h 2 6 t y y (V c main_arg14) _)
  · exact sec_at (A := S512x512) (rd h 0 7 t y y (V c main_arg12) _) (rd h 3 7 t y y (V c main_arg15) _)

/-- What call 4 leaves of a weight of 1024 by 1024. -/
theorem final4 : (dat4 V c).arrAt 5 cfg4.N = dlt (V c main_arg16) (V c main_arg17) (V c main_arg18) (V c main_arg19)
    ∧ (dat4 V c).arrAt 6 cfg4.N = mom (V c main_arg16) (V c main_arg18) ∧ (dat4 V c).arrAt 7 cfg4.N = sec (V c main_arg16) (V c main_arg19) := by
  have h : Same win4 := by decide +kernel
  refine ⟨(dat4 V c).arrAt_eq_of_covers 5 _ (by decide +kernel) fun t _ y => ?_, (dat4 V c).arrAt_eq_of_covers 6 _ (by decide +kernel) fun t _ y => ?_,
    (dat4 V c).arrAt_eq_of_covers 7 _ (by decide +kernel) fun t _ y => ?_⟩
  all_goals first | rw [after4_5, out4_5] | rw [after4_6, out4_6] | rw [after4_7, out4_7]
  all_goals rw [View.canon_cons_unit_lit _ _ _ (by decide)]; repeat rw [View.ld_unit_lit _ _ (by decide)]
  · exact dlt_at (A := S1024x1024) (rd h 0 5 t y y (V c main_arg16) _) (rd h 1 5 t y y (V c main_arg17) _) (rd h 2 5 t y y (V c main_arg18) _) (rd h 3 5 t y y (V c main_arg19) _)
  · exact mom_at (A := S1024x1024) (rd h 0 6 t y y (V c main_arg16) _) (rd h 2 6 t y y (V c main_arg18) _)
  · exact sec_at (A := S1024x1024) (rd h 0 7 t y y (V c main_arg16) _) (rd h 3 7 t y y (V c main_arg19) _)

/-- What call 5 leaves of a weight of 2048 by 320. -/
theorem final5 : (dat5 V c).arrAt 5 cfg5.N = dlt (V c main_arg20) (V c main_arg21) (V c main_arg22) (V c main_arg23)
    ∧ (dat5 V c).arrAt 6 cfg5.N = mom (V c main_arg20) (V c main_arg22) ∧ (dat5 V c).arrAt 7 cfg5.N = sec (V c main_arg20) (V c main_arg23) := by
  have h : Same win5 := by decide +kernel
  refine ⟨(dat5 V c).arrAt_eq_of_covers 5 _ (by decide +kernel) fun t _ y => ?_, (dat5 V c).arrAt_eq_of_covers 6 _ (by decide +kernel) fun t _ y => ?_,
    (dat5 V c).arrAt_eq_of_covers 7 _ (by decide +kernel) fun t _ y => ?_⟩
  all_goals first | rw [after5_5, out5_5] | rw [after5_6, out5_6] | rw [after5_7, out5_7]
  all_goals rw [View.canon_cons_unit_lit _ _ _ (by decide)]; repeat rw [View.ld_unit_lit _ _ (by decide)]
  · exact dlt_at (A := S2048x320) (rd h 0 5 t y y (V c main_arg20) _) (rd h 1 5 t y y (V c main_arg21) _) (rd h 2 5 t y y (V c main_arg22) _) (rd h 3 5 t y y (V c main_arg23) _)
  · exact mom_at (A := S2048x320) (rd h 0 6 t y y (V c main_arg20) _) (rd h 2 6 t y y (V c main_arg22) _)
  · exact sec_at (A := S2048x320) (rd h 0 7 t y y (V c main_arg20) _) (rd h 3 7 t y y (V c main_arg23) _)

/-- What call 6 leaves of a weight of 2560 by 128. -/
theorem final6 : (dat6 V c).arrAt 5 cfg6.N = dlt (V c main_arg24) (V c main_arg25) (V c main_arg26) (V c main_arg27)
    ∧ (dat6 V c).arrAt 6 cfg6.N = mom (V c main_arg24) (V c main_arg26) ∧ (dat6 V c).arrAt 7 cfg6.N = sec (V c main_arg24) (V c main_arg27) := by
  have h : Same win6 := by decide +kernel
  refine ⟨(dat6 V c).arrAt_eq_of_covers 5 _ (by decide +kernel) fun t _ y => ?_, (dat6 V c).arrAt_eq_of_covers 6 _ (by decide +kernel) fun t _ y => ?_,
    (dat6 V c).arrAt_eq_of_covers 7 _ (by decide +kernel) fun t _ y => ?_⟩
  all_goals first | rw [after6_5, out6_5] | rw [after6_6, out6_6] | rw [after6_7, out6_7]
  all_goals rw [View.canon_cons_unit_lit _ _ _ (by decide)]; repeat rw [View.ld_unit_lit _ _ (by decide)]
  · exact dlt_at (A := S2560x128) (rd h 0 5 t y y (V c main_arg24) _) (rd h 1 5 t y y (V c main_arg25) _) (rd h 2 5 t y y (V c main_arg26) _) (rd h 3 5 t y y (V c main_arg27) _)
  · exact mom_at (A := S2560x128) (rd h 0 6 t y y (V c main_arg24) _) (rd h 2 6 t y y (V c main_arg26) _)
  · exact sec_at (A := S2560x128) (rd h 0 7 t y y (V c main_arg24) _) (rd h 3 7 t y y (V c main_arg27) _)

/-- What call 7 leaves of a weight of 640 by 1024. -/
theorem final7 : (dat7 V c).arrAt 5 cfg7.N = dlt (V c main_arg28) (V c main_arg29) (V c main_arg30) (V c main_arg31)
    ∧ (dat7 V c).arrAt 6 cfg7.N = mom (V c main_arg28) (V c main_arg30) ∧ (dat7 V c).arrAt 7 cfg7.N = sec (V c main_arg28) (V c main_arg31) := by
  have h : Same win7 := by decide +kernel
  refine ⟨(dat7 V c).arrAt_eq_of_covers 5 _ (by decide +kernel) fun t _ y => ?_, (dat7 V c).arrAt_eq_of_covers 6 _ (by decide +kernel) fun t _ y => ?_,
    (dat7 V c).arrAt_eq_of_covers 7 _ (by decide +kernel) fun t _ y => ?_⟩
  all_goals first | rw [after7_5, out7_5] | rw [after7_6, out7_6] | rw [after7_7, out7_7]
  all_goals rw [View.canon_cons_unit_lit _ _ _ (by decide)]; repeat rw [View.ld_unit_lit _ _ (by decide)]
  · exact dlt_at (A := S640x1024) (rd h 0 5 t y y (V c main_arg28) _) (rd h 1 5 t y y (V c main_arg29) _) (rd h 2 5 t y y (V c main_arg30) _) (rd h 3 5 t y y (V c main_arg31) _)
  · exact mom_at (A := S640x1024) (rd h 0 6 t y y (V c main_arg28) _) (rd h 2 6 t y y (V c main_arg30) _)
  · exact sec_at (A := S640x1024) (rd h 0 7 t y y (V c main_arg28) _) (rd h 3 7 t y y (V c main_arg31) _)

end arrays

end Cert.AdamLIdeal.Value

end
-- ==== Proof.AdLRun.lean ====
/- The run of the optimiser calls on the large weights: what the result arrays hold at the end. -/
module

public import proofs.«01_k».proof.Proof.AdLArr

@[expose] public section

set_option maxRecDepth 16384

noncomputable section

namespace Cert.AdamLIdeal.Value

open Cert.AdamLIdeal Cert.AdamLIdeal.Gen Cert.Adam
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What call 0's arrays hold at the end. -/
theorem res0 (c : Dev nD) : W8 m ρ c main_v0_1 = dlt (m (c.tc.loc main_arg0)) (m (c.tc.loc main_arg1)) (m (c.tc.loc main_arg2)) (m (c.tc.loc main_arg3))
    ∧ W8 m ρ c main_v0_2 = mom (m (c.tc.loc main_arg0)) (m (c.tc.loc main_arg2)) ∧ W8 m ρ c main_v0_3 = sec (m (c.tc.loc main_arg0)) (m (c.tc.loc main_arg3)) := by
  have h := final0 (V0 m ρ) c
  have a : ∀ r ∈ argRefs, V0 m ρ c r = m (c.tc.loc r) := W0_args m ρ c
  simp (discharger := decide) only [a] at h
  simp (discharger := decide) only [W2_of m, W3_of m, W4_of m, W5_of m, W6_of m, W7_of m, W8_of m]
  exact ⟨(W1_arr m ρ c 5).trans h.1, (W1_arr m ρ c 6).trans h.2.1, (W1_arr m ρ c 7).trans h.2.2⟩

/-- What call 1's arrays hold at the end. -/
theorem res1 (c : Dev nD) : W8 m ρ c main_v1_1 = dlt (m (c.tc.loc main_arg4)) (m (c.tc.loc main_arg5)) (m (c.tc.loc main_arg6)) (m (c.tc.loc main_arg7))
    ∧ W8 m ρ c main_v1_2 = mom (m (c.tc.loc main_arg4)) (m (c.tc.loc main_arg6)) ∧ W8 m ρ c main_v1_3 = sec (m (c.tc.loc main_arg4)) (m (c.tc.loc main_arg7)) := by
  have h := final1 (V1 m ρ) c
  have a : ∀ r ∈ argRefs, V1 m ρ c r = m (c.tc.loc r) := W1_args m ρ c
  simp (discharger := decide) only [a] at h
  simp (discharger := decide) only [W3_of m, W4_of m, W5_of m, W6_of m, W7_of m, W8_of m]
  exact ⟨(W2_arr m ρ c 5).trans h.1, (W2_arr m ρ c 6).trans h.2.1, (W2_arr m ρ c 7).trans h.2.2⟩

/-- What call 2's arrays hold at the end. -/
theorem res2 (c : Dev nD) : W8 m ρ c main_v2_1 = dlt (m (c.tc.loc main_arg8)) (m (c.tc.loc main_arg9)) (m (c.tc.loc main_arg10)) (m (c.tc.loc main_arg11))
    ∧ W8 m ρ c main_v2_2 = mom (m (c.tc.loc main_arg8)) (m (c.tc.loc main_arg10)) ∧ W8 m ρ c main_v2_3 = sec (m (c.tc.loc main_arg8)) (m (c.tc.loc main_arg11)) := by
  have h := final2 (V2 m ρ) c
  have a : ∀ r ∈ argRefs, V2 m ρ c r = m (c.tc.loc r) := W2_args m ρ c
  simp (discharger := decide) only [a] at h
  simp (discharger := decide) only [W4_of m, W5_of m, W6_of m, W7_of m, W8_of m]
  exact ⟨(W3_arr m ρ c 5).trans h.1, (W3_arr m ρ c 6).trans h.2.1, (W3_arr m ρ c 7).trans h.2.2⟩

/-- What call 3's arrays hold at the end. -/
theorem res3 (c : Dev nD) : W8 m ρ c main_v3_1 = dlt (m (c.tc.loc main_arg12)) (m (c.tc.loc main_arg13)) (m (c.tc.loc main_arg14)) (m (c.tc.loc main_arg15))
    ∧ W8 m ρ c main_v3_2 = mom (m (c.tc.loc main_arg12)) (m (c.tc.loc main_arg14)) ∧ W8 m ρ c main_v3_3 = sec (m (c.tc.loc main_arg12)) (m (c.tc.loc main_arg15)) := by
  have h := final3 (V3 m ρ) c
  have a : ∀ r ∈ argRefs, V3 m ρ c r = m (c.tc.loc r) := W3_args m ρ c
  simp (discharger := decide) only [a] at h
  simp (discharger := decide) only [W5_of m, W6_of m, W7_of m, W8_of m]
  exact ⟨(W4_arr m ρ c 5).trans h.1, (W4_arr m ρ c 6).trans h.2.1, (W4_arr m ρ c 7).trans h.2.2⟩

/-- What call 4's arrays hold at the end. -/
theorem res4 (c : Dev nD) : W8 m ρ c main_v4_1 = dlt (m (c.tc.loc main_arg16)) (m (c.tc.loc main_arg17)) (m (c.tc.loc main_arg18)) (m (c.tc.loc main_arg19))
    ∧ W8 m ρ c main_v4_2 = mom (m (c.tc.loc main_arg16)) (m (c.tc.loc main_arg18)) ∧ W8 m ρ c main_v4_3 = sec (m (c.tc.loc main_arg16)) (m (c.tc.loc main_arg19)) := by
  have h := final4 (V4 m ρ) c
  have a : ∀ r ∈ argRefs, V4 m ρ c r = m (c.tc.loc r) := W4_args m ρ c
  simp (discharger := decide) only [a] at h
  simp (discharger := decide) only [W6_of m, W7_of m, W8_of m]
  exact ⟨(W5_arr m ρ c 5).trans h.1, (W5_arr m ρ c 6).trans h.2.1, (W5_arr m ρ c 7).trans h.2.2⟩

/-- What call 5's arrays hold at the end. -/
theorem res5 (c : Dev nD) : W8 m ρ c main_v5_1 = dlt (m (c.tc.loc main_arg20)) (m (c.tc.loc main_arg21)) (m (c.tc.loc main_arg22)) (m (c.tc.loc main_arg23))
    ∧ W8 m ρ c main_v5_2 = mom (m (c.tc.loc main_arg20)) (m (c.tc.loc main_arg22)) ∧ W8 m ρ c main_v5_3 = sec (m (c.tc.loc main_arg20)) (m (c.tc.loc main_arg23)) := by
  have h := final5 (V5 m ρ) c
  have a : ∀ r ∈ argRefs, V5 m ρ c r = m (c.tc.loc r) := W5_args m ρ c
  simp (discharger := decide) only [a] at h
  simp (discharger := decide) only [W7_of m, W8_of m]
  exact ⟨(W6_arr m ρ c 5).trans h.1, (W6_arr m ρ c 6).trans h.2.1, (W6_arr m ρ c 7).trans h.2.2⟩

/-- What call 6's arrays hold at the end. -/
theorem res6 (c : Dev nD) : W8 m ρ c main_v6_1 = dlt (m (c.tc.loc main_arg24)) (m (c.tc.loc main_arg25)) (m (c.tc.loc main_arg26)) (m (c.tc.loc main_arg27))
    ∧ W8 m ρ c main_v6_2 = mom (m (c.tc.loc main_arg24)) (m (c.tc.loc main_arg26)) ∧ W8 m ρ c main_v6_3 = sec (m (c.tc.loc main_arg24)) (m (c.tc.loc main_arg27)) := by
  have h := final6 (V6 m ρ) c
  have a : ∀ r ∈ argRefs, V6 m ρ c r = m (c.tc.loc r) := W6_args m ρ c
  simp (discharger := decide) only [a] at h
  simp (discharger := decide) only [W8_of m]
  exact ⟨(W7_arr m ρ c 5).trans h.1, (W7_arr m ρ c 6).trans h.2.1, (W7_arr m ρ c 7).trans h.2.2⟩

/-- What call 7's arrays hold at the end. -/
theorem res7 (c : Dev nD) : W8 m ρ c main_v7_1 = dlt (m (c.tc.loc main_arg28)) (m (c.tc.loc main_arg29)) (m (c.tc.loc main_arg30)) (m (c.tc.loc main_arg31))
    ∧ W8 m ρ c main_v7_2 = mom (m (c.tc.loc main_arg28)) (m (c.tc.loc main_arg30)) ∧ W8 m ρ c main_v7_3 = sec (m (c.tc.loc main_arg28)) (m (c.tc.loc main_arg31)) := by
  have h := final7 (V7 m ρ) c
  have a : ∀ r ∈ argRefs, V7 m ρ c r = m (c.tc.loc r) := W7_args m ρ c
  simp (discharger := decide) only [a] at h
  exact ⟨(W8_arr m ρ c 5).trans h.1, (W8_arr m ρ c 6).trans h.2.1, (W8_arr m ρ c 7).trans h.2.2⟩

set_option backward.isDefEq.respectTransparency.types false in
/-- The run: every buffer of every core ends as the last valuation says, and the arguments as they began. -/
theorem run_all : θ_run defs (onTc (τ := τ) (main (F := Ideal))) ⟨m, fun _ => 0, ρ⟩ (fun r => ∀ c : Dev nD,
    (∀ b : Ref sig .tc, ¬ (Proc.devRef .tc b : DevRef τ sig).isScoped → r.2.mem (c.tc.loc b) = W8 m ρ c b) ∧ ∀ a ∈ argRefs, r.2.mem (c.tc.loc a) = m (c.tc.loc a)) :=
  (θ_run defs _ _).mono (fun r (h : ∀ c : Dev nD, ∀ b ∈ Pipeline.ucRefs τ sig, r.2.mem (c, b) = W8 m ρ c b) c => ⟨fun b hb => h c _ (mem_uc b hb), fun a ha => (h c _ (mem_uc a ((by decide : ∀ a ∈ argRefs, ¬ (Proc.devRef .tc a : DevRef τ sig).isScoped) a ha))).trans (W8_args m ρ c a ha)⟩) <|
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.AdamLIdeal.Value

end
-- ==== Proof.AdLMatch.lean ====
/- The optimiser's step on the large weights against the reference: the frames and the equality of the results. -/
module

public import proofs.«01_k».proof.Defs
public import proofs.«01_k».proof.Proof.Gen.AdamL.Frame
public import proofs.«01_k».proof.Proof.Gen.AdamLRefIdeal.Run
public import proofs.«01_k».proof.Proof.AdLRun
public import Idealize.ShloMosaic.Adequacy
public import Idealize.ShloMosaic.Init

@[expose] public section

set_option maxRecDepth 16384

noncomputable section

namespace Cert.AdLMatch

open Idealize.ShloMosaic Idealize.ShloMosaic.TcCoe Idealize.SL.Sem Cert.Adam
open Cert.AdamLIdeal Cert.AdamLIdeal.Gen Cert.AdamLIdeal.Value

/-- The kernel runs and ends with its arguments unchanged and every counter at zero. -/
theorem frame_k : Cert.quiescent_AdamL := fun m ρ _ => Cert.AdamL.Gen.frame m ρ

/-- So does the same program over the extended reals. -/
theorem frame_ideal : Cert.quiescent_AdamLIdeal := fun m ρ _ => Cert.AdamLIdeal.Gen.frame m ρ

/-- So does the reference. -/
theorem frame_ref : Cert.quiescent_AdamLRefIdeal := fun m ρ _ =>
  (θ_run Cert.AdamLRefIdeal.defs _ _).mono (fun r h => ⟨fun c => (h c).2.2.2.2.2.2.2.2.2.2.2.2.2.2.2.2.2.2.2.2.2.2.2.2, sem_eq_zero_of_no_sems (by decide) r.2⟩)
    (Cert.AdamLRefIdeal.Value.run (F := Ideal) m ρ)

/-- The two programs' results agree. -/
theorem results_agree : Cert.algebraic_AdamLIdeal_AdamLRefIdeal := fun m ρ m' ρ' _ hagree => by
  refine ⟨fun c => W8 m ρ c main_v0_1, fun c => W8 m ρ c main_v0_2, fun c => W8 m ρ c main_v0_3, fun c => W8 m ρ c main_v1_1, fun c => W8 m ρ c main_v1_2, fun c => W8 m ρ c main_v1_3, fun c => W8 m ρ c main_v2_1, fun c => W8 m ρ c main_v2_2, fun c => W8 m ρ c main_v2_3, fun c => W8 m ρ c main_v3_1, fun c => W8 m ρ c main_v3_2, fun c => W8 m ρ c main_v3_3, fun c => W8 m ρ c main_v4_1, fun c => W8 m ρ c main_v4_2, fun c => W8 m ρ c main_v4_3, fun c => W8 m ρ c main_v5_1, fun c => W8 m ρ c main_v5_2, fun c => W8 m ρ c main_v5_3, fun c => W8 m ρ c main_v6_1, fun c => W8 m ρ c main_v6_2, fun c => W8 m ρ c main_v6_3, fun c => W8 m ρ c main_v7_1, fun c => W8 m ρ c main_v7_2, fun c => W8 m ρ c main_v7_3,
    (θ_run Cert.AdamLIdeal.defs _ _).mono (fun r h c => ⟨(h c).1 main_v0_1 (by decide), (h c).1 main_v0_2 (by decide), (h c).1 main_v0_3 (by decide), (h c).1 main_v1_1 (by decide), (h c).1 main_v1_2 (by decide), (h c).1 main_v1_3 (by decide), (h c).1 main_v2_1 (by decide), (h c).1 main_v2_2 (by decide), (h c).1 main_v2_3 (by decide), (h c).1 main_v3_1 (by decide), (h c).1 main_v3_2 (by decide), (h c).1 main_v3_3 (by decide), (h c).1 main_v4_1 (by decide), (h c).1 main_v4_2 (by decide), (h c).1 main_v4_3 (by decide), (h c).1 main_v5_1 (by decide), (h c).1 main_v5_2 (by decide), (h c).1 main_v5_3 (by decide), (h c).1 main_v6_1 (by decide), (h c).1 main_v6_2 (by decide), (h c).1 main_v6_3 (by decide), (h c).1 main_v7_1 (by decide), (h c).1 main_v7_2 (by decide), (h c).1 main_v7_3 (by decide),
      (h c).2 main_arg0 (by decide), (h c).2 main_arg1 (by decide), (h c).2 main_arg2 (by decide), (h c).2 main_arg3 (by decide), (h c).2 main_arg4 (by decide), (h c).2 main_arg5 (by decide), (h c).2 main_arg6 (by decide), (h c).2 main_arg7 (by decide), (h c).2 main_arg8 (by decide), (h c).2 main_arg9 (by decide), (h c).2 main_arg10 (by decide), (h c).2 main_arg11 (by decide), (h c).2 main_arg12 (by decide), (h c).2 main_arg13 (by decide), (h c).2 main_arg14 (by decide), (h c).2 main_arg15 (by decide), (h c).2 main_arg16 (by decide), (h c).2 main_arg17 (by decide), (h c).2 main_arg18 (by decide), (h c).2 main_arg19 (by decide), (h c).2 main_arg20 (by decide), (h c).2 main_arg21 (by decide), (h c).2 main_arg22 (by decide), (h c).2 main_arg23 (by decide), (h c).2 main_arg24 (by decide), (h c).2 main_arg25 (by decide), (h c).2 main_arg26 (by decide), (h c).2 main_arg27 (by decide), (h c).2 main_arg28 (by decide), (h c).2 main_arg29 (by decide), (h c).2 main_arg30 (by decide), (h c).2 main_arg31 (by decide)⟩) (run_all m ρ), ?_⟩
  refine (θ_run Cert.AdamLRefIdeal.defs _ _).mono (fun r h c => ?_) (Cert.AdamLRefIdeal.Value.run (F := Ideal) m' ρ')
  obtain ⟨e0, e1, e2, e3, e4, e5, e6, e7, e8, e9, e10, e11, e12, e13, e14, e15, e16, e17, e18, e19, e20, e21, e22, e23, e24, e25, e26, e27, e28, e29, e30, e31⟩ := hagree c
  obtain ⟨h0, h1, h2, h3, h4, h5, h6, h7, h8, h9, h10, h11, h12, h13, h14, h15, h16, h17, h18, h19, h20, h21, h22, h23, hargs⟩ := h c
  refine ⟨?_, ?_, ?_, ?_, ?_, ?_, ?_, ?_, ?_, ?_, ?_, ?_, ?_, ?_, ?_, ?_, ?_, ?_, ?_, ?_, ?_, ?_, ?_, ?_, hargs⟩
  · beta_reduce; rw [(res0 m ρ c).1, ← e0, ← e1, ← e2, ← e3]; exact h0.trans (host_dlt _ _ _ _ _)
  · beta_reduce; rw [(res0 m ρ c).2.1, ← e0, ← e2]; exact h1.trans (host_mom _ _ _)
  · beta_reduce; rw [(res0 m ρ c).2.2, ← e0, ← e3]; exact h2.trans (host_sec _ _ _)
  · beta_reduce; rw [(res1 m ρ c).1, ← e4, ← e5, ← e6, ← e7]; exact h3.trans (host_dlt _ _ _ _ _)
  · beta_reduce; rw [(res1 m ρ c).2.1, ← e4, ← e6]; exact h4.trans (host_mom _ _ _)
  · beta_reduce; rw [(res1 m ρ c).2.2, ← e4, ← e7]; exact h5.trans (host_sec _ _ _)
  · beta_reduce; rw [(res2 m ρ c).1, ← e8, ← e9, ← e10, ← e11]; exact h6.trans (host_dlt _ _ _ _ _)
  · beta_reduce; rw [(res2 m ρ c).2.1, ← e8, ← e10]; exact h7.trans (host_mom _ _ _)
  · beta_reduce; rw [(res2 m ρ c).2.2, ← e8, ← e11]; exact h8.trans (host_sec _ _ _)
  · beta_reduce; rw [(res3 m ρ c).1, ← e12, ← e13, ← e14, ← e15]; exact h9.trans (host_dlt _ _ _ _ _)
  · beta_reduce; rw [(res3 m ρ c).2.1, ← e12, ← e14]; exact h10.trans (host_mom _ _ _)
  · beta_reduce; rw [(res3 m ρ c).2.2, ← e12, ← e15]; exact h11.trans (host_sec _ _ _)
  · beta_reduce; rw [(res4 m ρ c).1, ← e16, ← e17, ← e18, ← e19]; exact h12.trans (host_dlt _ _ _ _ _)
  · beta_reduce; rw [(res4 m ρ c).2.1, ← e16, ← e18]; exact h13.trans (host_mom _ _ _)
  · beta_reduce; rw [(res4 m ρ c).2.2, ← e16, ← e19]; exact h14.trans (host_sec _ _ _)
  · beta_reduce; rw [(res5 m ρ c).1, ← e20, ← e21, ← e22, ← e23]; exact h15.trans (host_dlt _ _ _ _ _)
  · beta_reduce; rw [(res5 m ρ c).2.1, ← e20, ← e22]; exact h16.trans (host_mom _ _ _)
  · beta_reduce; rw [(res5 m ρ c).2.2, ← e20, ← e23]; exact h17.trans (host_sec _ _ _)
  · beta_reduce; rw [(res6 m ρ c).1, ← e24, ← e25, ← e26, ← e27]; exact h18.trans (host_dlt _ _ _ _ _)
  · beta_reduce; rw [(res6 m ρ c).2.1, ← e24, ← e26]; exact h19.trans (host_mom _ _ _)
  · beta_reduce; rw [(res6 m ρ c).2.2, ← e24, ← e27]; exact h20.trans (host_sec _ _ _)
  · beta_reduce; rw [(res7 m ρ c).1, ← e28, ← e29, ← e30, ← e31]; exact h21.trans (host_dlt _ _ _ _ _)
  · beta_reduce; rw [(res7 m ρ c).2.1, ← e28, ← e30]; exact h22.trans (host_mom _ _ _)
  · beta_reduce; rw [(res7 m ρ c).2.2, ← e28, ← e31]; exact h23.trans (host_sec _ _ _)

end Cert.AdLMatch

end
-- ==== Proof.AdSArr.lean ====
/- What each optimiser call on a small weight leaves in its arrays. -/
module

public import proofs.«01_k».proof.Proof.Gen.AdamSIdeal.Frame
public import proofs.«01_k».proof.Proof.AdSpec

@[expose] public section

set_option maxRecDepth 16384
set_option maxHeartbeats 2000000

noncomputable section

namespace Cert.AdamSIdeal.Value

open Cert.AdamSIdeal Cert.AdamSIdeal.Gen Cert.Adam
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

section arrays

variable (V : (c : Dev nD) → (b : Ref sig .tc) → Buf (Elt Ideal) ((c : Thread nD τ).loc b)) (c : Dev nD)

/-- What call 0 leaves of a weight of 16 by 256. -/
theorem final0 : (dat0 V c).arrAt 5 cfg0.N = dlt (V c main_arg0) (V c main_arg1) (V c main_arg2) (V c main_arg3)
    ∧ (dat0 V c).arrAt 6 cfg0.N = mom (V c main_arg0) (V c main_arg2) ∧ (dat0 V c).arrAt 7 cfg0.N = sec (V c main_arg0) (V c main_arg3) := by
  have h : Same win0 := by decide +kernel
  refine ⟨(dat0 V c).arrAt_eq_of_covers 5 _ (by decide +kernel) fun t _ y => ?_, (dat0 V c).arrAt_eq_of_covers 6 _ (by decide +kernel) fun t _ y => ?_,
    (dat0 V c).arrAt_eq_of_covers 7 _ (by decide +kernel) fun t _ y => ?_⟩
  all_goals first | rw [after0_5, out0_5] | rw [after0_6, out0_6] | rw [after0_7, out0_7]
  all_goals rw [View.canon_cons_unit_lit _ _ _ (by decide)]; repeat rw [View.ld_unit_lit _ _ (by decide)]
  · exact dlt_at (A := S16x256) (rd h 0 5 t y y (V c main_arg0) _) (rd h 1 5 t y y (V c main_arg1) _) (rd h 2 5 t y y (V c main_arg2) _) (rd h 3 5 t y y (V c main_arg3) _)
  · exact mom_at (A := S16x256) (rd h 0 6 t y y (V c main_arg0) _) (rd h 2 6 t y y (V c main_arg2) _)
  · exact sec_at (A := S16x256) (rd h 0 7 t y y (V c main_arg0) _) (rd h 3 7 t y y (V c main_arg3) _)

/-- What call 1 leaves of a weight of 4 by 1024. -/
theorem final1 : (dat1 V c).arrAt 5 cfg1.N = dlt (V c main_arg4) (V c main_arg5) (V c main_arg6) (V c main_arg7)
    ∧ (dat1 V c).arrAt 6 cfg1.N = mom (V c main_arg4) (V c main_arg6) ∧ (dat1 V c).arrAt 7 cfg1.N = sec (V c main_arg4) (V c main_arg7) := by
  have h : Same win1 := by decide +kernel
  refine ⟨(dat1 V c).arrAt_eq_of_covers 5 _ (by decide +kernel) fun t _ y => ?_, (dat1 V c).arrAt_eq_of_covers 6 _ (by decide +kernel) fun t _ y => ?_,
    (dat1 V c).arrAt_eq_of_covers 7 _ (by decide +kernel) fun t _ y => ?_⟩
  all_goals first | rw [after1_5, out1_5] | rw [after1_6, out1_6] | rw [after1_7, out1_7]
  all_goals rw [View.canon_cons_unit_lit _ _ _ (by decide)]; repeat rw [View.ld_unit_lit _ _ (by decide)]
  · exact dlt_at (A := S4x1024) (rd h 0 5 t y y (V c main_arg4) _) (rd h 1 5 t y y (V c main_arg5) _) (rd h 2 5 t y y (V c main_arg6) _) (rd h 3 5 t y y (V c main_arg7) _)
  · exact mom_at (A := S4x1024) (rd h 0 6 t y y (V c main_arg4) _) (rd h 2 6 t y y (V c main_arg6) _)
  · exact sec_at (A := S4x1024) (rd h 0 7 t y y (V c main_arg4) _) (rd h 3 7 t y y (V c main_arg7) _)

/-- What call 2 leaves of a weight of 8 by 384. -/
theorem final2 : (dat2 V c).arrAt 5 cfg2.N = dlt (V c main_arg8) (V c main_arg9) (V c main_arg10) (V c main_arg11)
    ∧ (dat2 V c).arrAt 6 cfg2.N = mom (V c main_arg8) (V c main_arg10) ∧ (dat2 V c).arrAt 7 cfg2.N = sec (V c main_arg8) (V c main_arg11) := by
  have h : Same win2 := by decide +kernel
  refine ⟨(dat2 V c).arrAt_eq_of_covers 5 _ (by decide +kernel) fun t _ y => ?_, (dat2 V c).arrAt_eq_of_covers 6 _ (by decide +kernel) fun t _ y => ?_,
    (dat2 V c).arrAt_eq_of_covers 7 _ (by decide +kernel) fun t _ y => ?_⟩
  all_goals first | rw [after2_5, out2_5] | rw [after2_6, out2_6] | rw [after2_7, out2_7]
  all_goals rw [View.canon_cons_unit_lit _ _ _ (by decide)]; repeat rw [View.ld_unit_lit _ _ (by decide)]
  · exact dlt_at (A := S8x384) (rd h 0 5 t y y (V c main_arg8) _) (rd h 1 5 t y y (V c main_arg9) _) (rd h 2 5 t y y (V c main_arg10) _) (rd h 3 5 t y y (V c main_arg11) _)
  · exact mom_at (A := S8x384) (rd h 0 6 t y y (V c main_arg8) _) (rd h 2 6 t y y (V c main_arg10) _)
  · exact sec_at (A := S8x384) (rd h 0 7 t y y (V c main_arg8) _) (rd h 3 7 t y y (V c main_arg11) _)

/-- What call 3 leaves of a weight of 2 by 1536. -/
theorem final3 : (dat3 V c).arrAt 5 cfg3.N = dlt (V c main_arg12) (V c main_arg13) (V c main_arg14) (V c main_arg15)
    ∧ (dat3 V c).arrAt 6 cfg3.N = mom (V c main_arg12) (V c main_arg14) ∧ (dat3 V c).arrAt 7 cfg3.N = sec (V c main_arg12) (V c main_arg15) := by
  have h : Same win3 := by decide +kernel
  refine ⟨(dat3 V c).arrAt_eq_of_covers 5 _ (by decide +kernel) fun t _ y => ?_, (dat3 V c).arrAt_eq_of_covers 6 _ (by decide +kernel) fun t _ y => ?_,
    (dat3 V c).arrAt_eq_of_covers 7 _ (by decide +kernel) fun t _ y => ?_⟩
  all_goals first | rw [after3_5, out3_5] | rw [after3_6, out3_6] | rw [after3_7, out3_7]
  all_goals rw [View.canon_cons_unit_lit _ _ _ (by decide)]; repeat rw [View.ld_unit_lit _ _ (by decide)]
  · exact dlt_at (A := S2x1536) (rd h 0 5 t y y (V c main_arg12) _) (rd h 1 5 t y y (V c main_arg13) _) (rd h 2 5 t y y (V c main_arg14) _) (rd h 3 5 t y y (V c main_arg15) _)
  · exact mom_at (A := S2x1536) (rd h 0 6 t y y (V c main_arg12) _) (rd h 2 6 t y y (V c main_arg14) _)
  · exact sec_at (A := S2x1536) (rd h 0 7 t y y (V c main_arg12) _) (rd h 3 7 t y y (V c main_arg15) _)

/-- What call 4 leaves of a weight of 2 by 16. -/
theorem final4 : (dat4 V c).arrAt 5 cfg4.N = dlt (V c main_arg16) (V c main_arg17) (V c main_arg18) (V c main_arg19)
    ∧ (dat4 V c).arrAt 6 cfg4.N = mom (V c main_arg16) (V c main_arg18) ∧ (dat4 V c).arrAt 7 cfg4.N = sec (V c main_arg16) (V c main_arg19) := by
  have h : Same win4 := by decide +kernel
  refine ⟨(dat4 V c).arrAt_eq_of_covers 5 _ (by decide +kernel) fun t _ y => ?_, (dat4 V c).arrAt_eq_of_covers 6 _ (by decide +kernel) fun t _ y => ?_,
    (dat4 V c).arrAt_eq_of_covers 7 _ (by decide +kernel) fun t _ y => ?_⟩
  all_goals first | rw [after4_5, out4_5] | rw [after4_6, out4_6] | rw [after4_7, out4_7]
  all_goals rw [View.canon_cons_unit_lit _ _ _ (by decide)]; repeat rw [View.ld_unit_lit _ _ (by decide)]
  · exact dlt_at (A := S2x16) (rd h 0 5 t y y (V c main_arg16) _) (rd h 1 5 t y y (V c main_arg17) _) (rd h 2 5 t y y (V c main_arg18) _) (rd h 3 5 t y y (V c main_arg19) _)
  · exact mom_at (A := S2x16) (rd h 0 6 t y y (V c main_arg16) _) (rd h 2 6 t y y (V c main_arg18) _)
  · exact sec_at (A := S2x16) (rd h 0 7 t y y (V c main_arg16) _) (rd h 3 7 t y y (V c main_arg19) _)

/-- What call 5 leaves of a weight of 2 by 1024. -/
theorem final5 : (dat5 V c).arrAt 5 cfg5.N = dlt (V c main_arg20) (V c main_arg21) (V c main_arg22) (V c main_arg23)
    ∧ (dat5 V c).arrAt 6 cfg5.N = mom (V c main_arg20) (V c main_arg22) ∧ (dat5 V c).arrAt 7 cfg5.N = sec (V c main_arg20) (V c main_arg23) := by
  have h : Same win5 := by decide +kernel
  refine ⟨(dat5 V c).arrAt_eq_of_covers 5 _ (by decide +kernel) fun t _ y => ?_, (dat5 V c).arrAt_eq_of_covers 6 _ (by decide +kernel) fun t _ y => ?_,
    (dat5 V c).arrAt_eq_of_covers 7 _ (by decide +kernel) fun t _ y => ?_⟩
  all_goals first | rw [after5_5, out5_5] | rw [after5_6, out5_6] | rw [after5_7, out5_7]
  all_goals rw [View.canon_cons_unit_lit _ _ _ (by decide)]; repeat rw [View.ld_unit_lit _ _ (by decide)]
  · exact dlt_at (A := S2x1024) (rd h 0 5 t y y (V c main_arg20) _) (rd h 1 5 t y y (V c main_arg21) _) (rd h 2 5 t y y (V c main_arg22) _) (rd h 3 5 t y y (V c main_arg23) _)
  · exact mom_at (A := S2x1024) (rd h 0 6 t y y (V c main_arg20) _) (rd h 2 6 t y y (V c main_arg22) _)
  · exact sec_at (A := S2x1024) (rd h 0 7 t y y (V c main_arg20) _) (rd h 3 7 t y y (V c main_arg23) _)

/-- What call 6 leaves of a weight of 2 by 384. -/
theorem final6 : (dat6 V c).arrAt 5 cfg6.N = dlt (V c main_arg24) (V c main_arg25) (V c main_arg26) (V c main_arg27)
    ∧ (dat6 V c).arrAt 6 cfg6.N = mom (V c main_arg24) (V c main_arg26) ∧ (dat6 V c).arrAt 7 cfg6.N = sec (V c main_arg24) (V c main_arg27) := by
  have h : Same win6 := by decide +kernel
  refine ⟨(dat6 V c).arrAt_eq_of_covers 5 _ (by decide +kernel) fun t _ y => ?_, (dat6 V c).arrAt_eq_of_covers 6 _ (by decide +kernel) fun t _ y => ?_,
    (dat6 V c).arrAt_eq_of_covers 7 _ (by decide +kernel) fun t _ y => ?_⟩
  all_goals first | rw [after6_5, out6_5] | rw [after6_6, out6_6] | rw [after6_7, out6_7]
  all_goals rw [View.canon_cons_unit_lit _ _ _ (by decide)]; repeat rw [View.ld_unit_lit _ _ (by decide)]
  · exact dlt_at (A := S2x384) (rd h 0 5 t y y (V c main_arg24) _) (rd h 1 5 t y y (V c main_arg25) _) (rd h 2 5 t y y (V c main_arg26) _) (rd h 3 5 t y y (V c main_arg27) _)
  · exact mom_at (A := S2x384) (rd h 0 6 t y y (V c main_arg24) _) (rd h 2 6 t y y (V c main_arg26) _)
  · exact sec_at (A := S2x384) (rd h 0 7 t y y (V c main_arg24) _) (rd h 3 7 t y y (V c main_arg27) _)

/-- What call 7 leaves of a weight of 2 by 256. -/
theorem final7 : (dat7 V c).arrAt 5 cfg7.N = dlt (V c main_arg28) (V c main_arg29) (V c main_arg30) (V c main_arg31)
    ∧ (dat7 V c).arrAt 6 cfg7.N = mom (V c main_arg28) (V c main_arg30) ∧ (dat7 V c).arrAt 7 cfg7.N = sec (V c main_arg28) (V c main_arg31) := by
  have h : Same win7 := by decide +kernel
  refine ⟨(dat7 V c).arrAt_eq_of_covers 5 _ (by decide +kernel) fun t _ y => ?_, (dat7 V c).arrAt_eq_of_covers 6 _ (by decide +kernel) fun t _ y => ?_,
    (dat7 V c).arrAt_eq_of_covers 7 _ (by decide +kernel) fun t _ y => ?_⟩
  all_goals first | rw [after7_5, out7_5] | rw [after7_6, out7_6] | rw [after7_7, out7_7]
  all_goals rw [View.canon_cons_unit_lit _ _ _ (by decide)]; repeat rw [View.ld_unit_lit _ _ (by decide)]
  · exact dlt_at (A := S2x256) (rd h 0 5 t y y (V c main_arg28) _) (rd h 1 5 t y y (V c main_arg29) _) (rd h 2 5 t y y (V c main_arg30) _) (rd h 3 5 t y y (V c main_arg31) _)
  · exact mom_at (A := S2x256) (rd h 0 6 t y y (V c main_arg28) _) (rd h 2 6 t y y (V c main_arg30) _)
  · exact sec_at (A := S2x256) (rd h 0 7 t y y (V c main_arg28) _) (rd h 3 7 t y y (V c main_arg31) _)

/-- What call 8 leaves of a weight of 8 by 320. -/
theorem final8 : (dat8 V c).arrAt 5 cfg8.N = dlt (V c main_arg32) (V c main_arg33) (V c main_arg34) (V c main_arg35)
    ∧ (dat8 V c).arrAt 6 cfg8.N = mom (V c main_arg32) (V c main_arg34) ∧ (dat8 V c).arrAt 7 cfg8.N = sec (V c main_arg32) (V c main_arg35) := by
  have h : Same win8 := by decide +kernel
  refine ⟨(dat8 V c).arrAt_eq_of_covers 5 _ (by decide +kernel) fun t _ y => ?_, (dat8 V c).arrAt_eq_of_covers 6 _ (by decide +kernel) fun t _ y => ?_,
    (dat8 V c).arrAt_eq_of_covers 7 _ (by decide +kernel) fun t _ y => ?_⟩
  all_goals first | rw [after8_5, out8_5] | rw [after8_6, out8_6] | rw [after8_7, out8_7]
  all_goals rw [View.canon_cons_unit_lit _ _ _ (by decide)]; repeat rw [View.ld_unit_lit _ _ (by decide)]
  · exact dlt_at (A := S8x320) (rd h 0 5 t y y (V c main_arg32) _) (rd h 1 5 t y y (V c main_arg33) _) (rd h 2 5 t y y (V c main_arg34) _) (rd h 3 5 t y y (V c main_arg35) _)
  · exact mom_at (A := S8x320) (rd h 0 6 t y y (V c main_arg32) _) (rd h 2 6 t y y (V c main_arg34) _)
  · exact sec_at (A := S8x320) (rd h 0 7 t y y (V c main_arg32) _) (rd h 3 7 t y y (V c main_arg35) _)

/-- What call 9 leaves of a weight of 2 by 320. -/
theorem final9 : (dat9 V c).arrAt 5 cfg9.N = dlt (V c main_arg36) (V c main_arg37) (V c main_arg38) (V c main_arg39)
    ∧ (dat9 V c).arrAt 6 cfg9.N = mom (V c main_arg36) (V c main_arg38) ∧ (dat9 V c).arrAt 7 cfg9.N = sec (V c main_arg36) (V c main_arg39) := by
  have h : Same win9 := by decide +kernel
  refine ⟨(dat9 V c).arrAt_eq_of_covers 5 _ (by decide +kernel) fun t _ y => ?_, (dat9 V c).arrAt_eq_of_covers 6 _ (by decide +kernel) fun t _ y => ?_,
    (dat9 V c).arrAt_eq_of_covers 7 _ (by decide +kernel) fun t _ y => ?_⟩
  all_goals first | rw [after9_5, out9_5] | rw [after9_6, out9_6] | rw [after9_7, out9_7]
  all_goals rw [View.canon_cons_unit_lit _ _ _ (by decide)]; repeat rw [View.ld_unit_lit _ _ (by decide)]
  · exact dlt_at (A := S2x320) (rd h 0 5 t y y (V c main_arg36) _) (rd h 1 5 t y y (V c main_arg37) _) (rd h 2 5 t y y (V c main_arg38) _) (rd h 3 5 t y y (V c main_arg39) _)
  · exact mom_at (A := S2x320) (rd h 0 6 t y y (V c main_arg36) _) (rd h 2 6 t y y (V c main_arg38) _)
  · exact sec_at (A := S2x320) (rd h 0 7 t y y (V c main_arg36) _) (rd h 3 7 t y y (V c main_arg39) _)

end arrays

end Cert.AdamSIdeal.Value

end
-- ==== Proof.AdSRun.lean ====
/- The run of the optimiser calls on the small weights: what the result arrays hold at the end. -/
module

public import proofs.«01_k».proof.Proof.AdSArr

@[expose] public section

set_option maxRecDepth 16384

noncomputable section

namespace Cert.AdamSIdeal.Value

open Cert.AdamSIdeal Cert.AdamSIdeal.Gen Cert.Adam
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What call 0's arrays hold at the end. -/
theorem res0 (c : Dev nD) : W10 m ρ c main_v0_1 = dlt (m (c.tc.loc main_arg0)) (m (c.tc.loc main_arg1)) (m (c.tc.loc main_arg2)) (m (c.tc.loc main_arg3))
    ∧ W10 m ρ c main_v0_2 = mom (m (c.tc.loc main_arg0)) (m (c.tc.loc main_arg2)) ∧ W10 m ρ c main_v0_3 = sec (m (c.tc.loc main_arg0)) (m (c.tc.loc main_arg3)) := by
  have h := final0 (V0 m ρ) c
  have a : ∀ r ∈ argRefs, V0 m ρ c r = m (c.tc.loc r) := W0_args m ρ c
  simp (discharger := decide) only [a] at h
  simp (discharger := decide) only [W2_of m, W3_of m, W4_of m, W5_of m, W6_of m, W7_of m, W8_of m, W9_of m, W10_of m]
  exact ⟨(W1_arr m ρ c 5).trans h.1, (W1_arr m ρ c 6).trans h.2.1, (W1_arr m ρ c 7).trans h.2.2⟩

/-- What call 1's arrays hold at the end. -/
theorem res1 (c : Dev nD) : W10 m ρ c main_v1_1 = dlt (m (c.tc.loc main_arg4)) (m (c.tc.loc main_arg5)) (m (c.tc.loc main_arg6)) (m (c.tc.loc main_arg7))
    ∧ W10 m ρ c main_v1_2 = mom (m (c.tc.loc main_arg4)) (m (c.tc.loc main_arg6)) ∧ W10 m ρ c main_v1_3 = sec (m (c.tc.loc main_arg4)) (m (c.tc.loc main_arg7)) := by
  have h := final1 (V1 m ρ) c
  have a : ∀ r ∈ argRefs, V1 m ρ c r = m (c.tc.loc r) := W1_args m ρ c
  simp (discharger := decide) only [a] at h
  simp (discharger := decide) only [W3_of m, W4_of m, W5_of m, W6_of m, W7_of m, W8_of m, W9_of m, W10_of m]
  exact ⟨(W2_arr m ρ c 5).trans h.1, (W2_arr m ρ c 6).trans h.2.1, (W2_arr m ρ c 7).trans h.2.2⟩

/-- What call 2's arrays hold at the end. -/
theorem res2 (c : Dev nD) : W10 m ρ c main_v2_1 = dlt (m (c.tc.loc main_arg8)) (m (c.tc.loc main_arg9)) (m (c.tc.loc main_arg10)) (m (c.tc.loc main_arg11))
    ∧ W10 m ρ c main_v2_2 = mom (m (c.tc.loc main_arg8)) (m (c.tc.loc main_arg10)) ∧ W10 m ρ c main_v2_3 = sec (m (c.tc.loc main_arg8)) (m (c.tc.loc main_arg11)) := by
  have h := final2 (V2 m ρ) c
  have a : ∀ r ∈ argRefs, V2 m ρ c r = m (c.tc.loc r) := W2_args m ρ c
  simp (discharger := decide) only [a] at h
  simp (discharger := decide) only [W4_of m, W5_of m, W6_of m, W7_of m, W8_of m, W9_of m, W10_of m]
  exact ⟨(W3_arr m ρ c 5).trans h.1, (W3_arr m ρ c 6).trans h.2.1, (W3_arr m ρ c 7).trans h.2.2⟩

/-- What call 3's arrays hold at the end. -/
theorem res3 (c : Dev nD) : W10 m ρ c main_v3_1 = dlt (m (c.tc.loc main_arg12)) (m (c.tc.loc main_arg13)) (m (c.tc.loc main_arg14)) (m (c.tc.loc main_arg15))
    ∧ W10 m ρ c main_v3_2 = mom (m (c.tc.loc main_arg12)) (m (c.tc.loc main_arg14)) ∧ W10 m ρ c main_v3_3 = sec (m (c.tc.loc main_arg12)) (m (c.tc.loc main_arg15)) := by
  have h := final3 (V3 m ρ) c
  have a : ∀ r ∈ argRefs, V3 m ρ c r = m (c.tc.loc r) := W3_args m ρ c
  simp (discharger := decide) only [a] at h
  simp (discharger := decide) only [W5_of m, W6_of m, W7_of m, W8_of m, W9_of m, W10_of m]
  exact ⟨(W4_arr m ρ c 5).trans h.1, (W4_arr m ρ c 6).trans h.2.1, (W4_arr m ρ c 7).trans h.2.2⟩

/-- What call 4's arrays hold at the end. -/
theorem res4 (c : Dev nD) : W10 m ρ c main_v4_1 = dlt (m (c.tc.loc main_arg16)) (m (c.tc.loc main_arg17)) (m (c.tc.loc main_arg18)) (m (c.tc.loc main_arg19))
    ∧ W10 m ρ c main_v4_2 = mom (m (c.tc.loc main_arg16)) (m (c.tc.loc main_arg18)) ∧ W10 m ρ c main_v4_3 = sec (m (c.tc.loc main_arg16)) (m (c.tc.loc main_arg19)) := by
  have h := final4 (V4 m ρ) c
  have a : ∀ r ∈ argRefs, V4 m ρ c r = m (c.tc.loc r) := W4_args m ρ c
  simp (discharger := decide) only [a] at h
  simp (discharger := decide) only [W6_of m, W7_of m, W8_of m, W9_of m, W10_of m]
  exact ⟨(W5_arr m ρ c 5).trans h.1, (W5_arr m ρ c 6).trans h.2.1, (W5_arr m ρ c 7).trans h.2.2⟩

/-- What call 5's arrays hold at the end. -/
theorem res5 (c : Dev nD) : W10 m ρ c main_v5_1 = dlt (m (c.tc.loc main_arg20)) (m (c.tc.loc main_arg21)) (m (c.tc.loc main_arg22)) (m (c.tc.loc main_arg23))
    ∧ W10 m ρ c main_v5_2 = mom (m (c.tc.loc main_arg20)) (m (c.tc.loc main_arg22)) ∧ W10 m ρ c main_v5_3 = sec (m (c.tc.loc main_arg20)) (m (c.tc.loc main_arg23)) := by
  have h := final5 (V5 m ρ) c
  have a : ∀ r ∈ argRefs, V5 m ρ c r = m (c.tc.loc r) := W5_args m ρ c
  simp (discharger := decide) only [a] at h
  simp (discharger := decide) only [W7_of m, W8_of m, W9_of m, W10_of m]
  exact ⟨(W6_arr m ρ c 5).trans h.1, (W6_arr m ρ c 6).trans h.2.1, (W6_arr m ρ c 7).trans h.2.2⟩

/-- What call 6's arrays hold at the end. -/
theorem res6 (c : Dev nD) : W10 m ρ c main_v6_1 = dlt (m (c.tc.loc main_arg24)) (m (c.tc.loc main_arg25)) (m (c.tc.loc main_arg26)) (m (c.tc.loc main_arg27))
    ∧ W10 m ρ c main_v6_2 = mom (m (c.tc.loc main_arg24)) (m (c.tc.loc main_arg26)) ∧ W10 m ρ c main_v6_3 = sec (m (c.tc.loc main_arg24)) (m (c.tc.loc main_arg27)) := by
  have h := final6 (V6 m ρ) c
  have a : ∀ r ∈ argRefs, V6 m ρ c r = m (c.tc.loc r) := W6_args m ρ c
  simp (discharger := decide) only [a] at h
  simp (discharger := decide) only [W8_of m, W9_of m, W10_of m]
  exact ⟨(W7_arr m ρ c 5).trans h.1, (W7_arr m ρ c 6).trans h.2.1, (W7_arr m ρ c 7).trans h.2.2⟩

/-- What call 7's arrays hold at the end. -/
theorem res7 (c : Dev nD) : W10 m ρ c main_v7_1 = dlt (m (c.tc.loc main_arg28)) (m (c.tc.loc main_arg29)) (m (c.tc.loc main_arg30)) (m (c.tc.loc main_arg31))
    ∧ W10 m ρ c main_v7_2 = mom (m (c.tc.loc main_arg28)) (m (c.tc.loc main_arg30)) ∧ W10 m ρ c main_v7_3 = sec (m (c.tc.loc main_arg28)) (m (c.tc.loc main_arg31)) := by
  have h := final7 (V7 m ρ) c
  have a : ∀ r ∈ argRefs, V7 m ρ c r = m (c.tc.loc r) := W7_args m ρ c
  simp (discharger := decide) only [a] at h
  simp (discharger := decide) only [W9_of m, W10_of m]
  exact ⟨(W8_arr m ρ c 5).trans h.1, (W8_arr m ρ c 6).trans h.2.1, (W8_arr m ρ c 7).trans h.2.2⟩

/-- What call 8's arrays hold at the end. -/
theorem res8 (c : Dev nD) : W10 m ρ c main_v8_1 = dlt (m (c.tc.loc main_arg32)) (m (c.tc.loc main_arg33)) (m (c.tc.loc main_arg34)) (m (c.tc.loc main_arg35))
    ∧ W10 m ρ c main_v8_2 = mom (m (c.tc.loc main_arg32)) (m (c.tc.loc main_arg34)) ∧ W10 m ρ c main_v8_3 = sec (m (c.tc.loc main_arg32)) (m (c.tc.loc main_arg35)) := by
  have h := final8 (V8 m ρ) c
  have a : ∀ r ∈ argRefs, V8 m ρ c r = m (c.tc.loc r) := W8_args m ρ c
  simp (discharger := decide) only [a] at h
  simp (discharger := decide) only [W10_of m]
  exact ⟨(W9_arr m ρ c 5).trans h.1, (W9_arr m ρ c 6).trans h.2.1, (W9_arr m ρ c 7).trans h.2.2⟩

/-- What call 9's arrays hold at the end. -/
theorem res9 (c : Dev nD) : W10 m ρ c main_v9_1 = dlt (m (c.tc.loc main_arg36)) (m (c.tc.loc main_arg37)) (m (c.tc.loc main_arg38)) (m (c.tc.loc main_arg39))
    ∧ W10 m ρ c main_v9_2 = mom (m (c.tc.loc main_arg36)) (m (c.tc.loc main_arg38)) ∧ W10 m ρ c main_v9_3 = sec (m (c.tc.loc main_arg36)) (m (c.tc.loc main_arg39)) := by
  have h := final9 (V9 m ρ) c
  have a : ∀ r ∈ argRefs, V9 m ρ c r = m (c.tc.loc r) := W9_args m ρ c
  simp (discharger := decide) only [a] at h
  exact ⟨(W10_arr m ρ c 5).trans h.1, (W10_arr m ρ c 6).trans h.2.1, (W10_arr m ρ c 7).trans h.2.2⟩

set_option backward.isDefEq.respectTransparency.types false in
/-- The run: every buffer of every core ends as the last valuation says, and the arguments as they began. -/
theorem run_all : θ_run defs (onTc (τ := τ) (main (F := Ideal))) ⟨m, fun _ => 0, ρ⟩ (fun r => ∀ c : Dev nD,
    (∀ b : Ref sig .tc, ¬ (Proc.devRef .tc b : DevRef τ sig).isScoped → r.2.mem (c.tc.loc b) = W10 m ρ c b) ∧ ∀ a ∈ argRefs, r.2.mem (c.tc.loc a) = m (c.tc.loc a)) :=
  (θ_run defs _ _).mono (fun r (h : ∀ c : Dev nD, ∀ b ∈ Pipeline.ucRefs τ sig, r.2.mem (c, b) = W10 m ρ c b) c => ⟨fun b hb => h c _ (mem_uc b hb), fun a ha => (h c _ (mem_uc a ((by decide : ∀ a ∈ argRefs, ¬ (Proc.devRef .tc a : DevRef τ sig).isScoped) a ha))).trans (W10_args m ρ c a ha)⟩) <|
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

end Cert.AdamSIdeal.Value

end
-- ==== Proof.AdSMatch.lean ====
/- The optimiser's step on the small weights against the reference: the frames and the equality of the results. -/
module

public import proofs.«01_k».proof.Defs
public import proofs.«01_k».proof.Proof.Gen.AdamS.Frame
public import proofs.«01_k».proof.Proof.Gen.AdamSRefIdeal.Run
public import proofs.«01_k».proof.Proof.AdSRun
public import Idealize.ShloMosaic.Adequacy
public import Idealize.ShloMosaic.Init

@[expose] public section

set_option maxHeartbeats 2000000
set_option maxRecDepth 16384

noncomputable section

namespace Cert.AdSMatch

open Idealize.ShloMosaic Idealize.ShloMosaic.TcCoe Idealize.SL.Sem Cert.Adam
open Cert.AdamSIdeal Cert.AdamSIdeal.Gen Cert.AdamSIdeal.Value

/-- The kernel runs and ends with its arguments unchanged and every counter at zero. -/
theorem frame_k : Cert.quiescent_AdamS := fun m ρ _ => Cert.AdamS.Gen.frame m ρ

/-- So does the same program over the extended reals. -/
theorem frame_ideal : Cert.quiescent_AdamSIdeal := fun m ρ _ => Cert.AdamSIdeal.Gen.frame m ρ

/-- So does the reference. -/
theorem frame_ref : Cert.quiescent_AdamSRefIdeal := fun m ρ _ =>
  (θ_run Cert.AdamSRefIdeal.defs _ _).mono (fun r h => ⟨fun c => (h c).2.2.2.2.2.2.2.2.2.2.2.2.2.2.2.2.2.2.2.2.2.2.2.2.2.2.2.2.2.2, sem_eq_zero_of_no_sems (by decide) r.2⟩)
    (Cert.AdamSRefIdeal.Value.run (F := Ideal) m ρ)

/-- The two programs' results agree. -/
theorem results_agree : Cert.algebraic_AdamSIdeal_AdamSRefIdeal := fun m ρ m' ρ' _ hagree => by
  refine ⟨fun c => W10 m ρ c main_v0_1, fun c => W10 m ρ c main_v0_2, fun c => W10 m ρ c main_v0_3, fun c => W10 m ρ c main_v1_1, fun c => W10 m ρ c main_v1_2, fun c => W10 m ρ c main_v1_3, fun c => W10 m ρ c main_v2_1, fun c => W10 m ρ c main_v2_2, fun c => W10 m ρ c main_v2_3, fun c => W10 m ρ c main_v3_1, fun c => W10 m ρ c main_v3_2, fun c => W10 m ρ c main_v3_3, fun c => W10 m ρ c main_v4_1, fun c => W10 m ρ c main_v4_2, fun c => W10 m ρ c main_v4_3, fun c => W10 m ρ c main_v5_1, fun c => W10 m ρ c main_v5_2, fun c => W10 m ρ c main_v5_3, fun c => W10 m ρ c main_v6_1, fun c => W10 m ρ c main_v6_2, fun c => W10 m ρ c main_v6_3, fun c => W10 m ρ c main_v7_1, fun c => W10 m ρ c main_v7_2, fun c => W10 m ρ c main_v7_3, fun c => W10 m ρ c main_v8_1, fun c => W10 m ρ c main_v8_2, fun c => W10 m ρ c main_v8_3, fun c => W10 m ρ c main_v9_1, fun c => W10 m ρ c main_v9_2, fun c => W10 m ρ c main_v9_3,
    (θ_run Cert.AdamSIdeal.defs _ _).mono (fun r h c => ⟨(h c).1 main_v0_1 (by decide), (h c).1 main_v0_2 (by decide), (h c).1 main_v0_3 (by decide), (h c).1 main_v1_1 (by decide), (h c).1 main_v1_2 (by decide), (h c).1 main_v1_3 (by decide), (h c).1 main_v2_1 (by decide), (h c).1 main_v2_2 (by decide), (h c).1 main_v2_3 (by decide), (h c).1 main_v3_1 (by decide), (h c).1 main_v3_2 (by decide), (h c).1 main_v3_3 (by decide), (h c).1 main_v4_1 (by decide), (h c).1 main_v4_2 (by decide), (h c).1 main_v4_3 (by decide), (h c).1 main_v5_1 (by decide), (h c).1 main_v5_2 (by decide), (h c).1 main_v5_3 (by decide), (h c).1 main_v6_1 (by decide), (h c).1 main_v6_2 (by decide), (h c).1 main_v6_3 (by decide), (h c).1 main_v7_1 (by decide), (h c).1 main_v7_2 (by decide), (h c).1 main_v7_3 (by decide), (h c).1 main_v8_1 (by decide), (h c).1 main_v8_2 (by decide), (h c).1 main_v8_3 (by decide), (h c).1 main_v9_1 (by decide), (h c).1 main_v9_2 (by decide), (h c).1 main_v9_3 (by decide),
      (h c).2 main_arg0 (by decide), (h c).2 main_arg1 (by decide), (h c).2 main_arg2 (by decide), (h c).2 main_arg3 (by decide), (h c).2 main_arg4 (by decide), (h c).2 main_arg5 (by decide), (h c).2 main_arg6 (by decide), (h c).2 main_arg7 (by decide), (h c).2 main_arg8 (by decide), (h c).2 main_arg9 (by decide), (h c).2 main_arg10 (by decide), (h c).2 main_arg11 (by decide), (h c).2 main_arg12 (by decide), (h c).2 main_arg13 (by decide), (h c).2 main_arg14 (by decide), (h c).2 main_arg15 (by decide), (h c).2 main_arg16 (by decide), (h c).2 main_arg17 (by decide), (h c).2 main_arg18 (by decide), (h c).2 main_arg19 (by decide), (h c).2 main_arg20 (by decide), (h c).2 main_arg21 (by decide), (h c).2 main_arg22 (by decide), (h c).2 main_arg23 (by decide), (h c).2 main_arg24 (by decide), (h c).2 main_arg25 (by decide), (h c).2 main_arg26 (by decide), (h c).2 main_arg27 (by decide), (h c).2 main_arg28 (by decide), (h c).2 main_arg29 (by decide), (h c).2 main_arg30 (by decide), (h c).2 main_arg31 (by decide), (h c).2 main_arg32 (by decide), (h c).2 main_arg33 (by decide), (h c).2 main_arg34 (by decide), (h c).2 main_arg35 (by decide), (h c).2 main_arg36 (by decide), (h c).2 main_arg37 (by decide), (h c).2 main_arg38 (by decide), (h c).2 main_arg39 (by decide)⟩) (run_all m ρ), ?_⟩
  refine (θ_run Cert.AdamSRefIdeal.defs _ _).mono (fun r h c => ?_) (Cert.AdamSRefIdeal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39⟩ := hagree c
  obtain ⟨h0, h1, h2, h3, h4, h5, h6, h7, h8, h9, h10, h11, h12, h13, h14, h15, h16, h17, h18, h19, h20, h21, h22, h23, h24, h25, h26, h27, h28, h29, hargs⟩ := h c
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, hargs⟩
  · beta_reduce; rw [(res0 m ρ c).1, ← e0, ← e1, ← e2, ← e3]; exact h0.trans (host_dlt _ _ _ _ _)
  · beta_reduce; rw [(res0 m ρ c).2.1, ← e0, ← e2]; exact h1.trans (host_mom _ _ _)
  · beta_reduce; rw [(res0 m ρ c).2.2, ← e0, ← e3]; exact h2.trans (host_sec _ _ _)
  · beta_reduce; rw [(res1 m ρ c).1, ← e4, ← e5, ← e6, ← e7]; exact h3.trans (host_dlt _ _ _ _ _)
  · beta_reduce; rw [(res1 m ρ c).2.1, ← e4, ← e6]; exact h4.trans (host_mom _ _ _)
  · beta_reduce; rw [(res1 m ρ c).2.2, ← e4, ← e7]; exact h5.trans (host_sec _ _ _)
  · beta_reduce; rw [(res2 m ρ c).1, ← e8, ← e9, ← e10, ← e11]; exact h6.trans (host_dlt _ _ _ _ _)
  · beta_reduce; rw [(res2 m ρ c).2.1, ← e8, ← e10]; exact h7.trans (host_mom _ _ _)
  · beta_reduce; rw [(res2 m ρ c).2.2, ← e8, ← e11]; exact h8.trans (host_sec _ _ _)
  · beta_reduce; rw [(res3 m ρ c).1, ← e12, ← e13, ← e14, ← e15]; exact h9.trans (host_dlt _ _ _ _ _)
  · beta_reduce; rw [(res3 m ρ c).2.1, ← e12, ← e14]; exact h10.trans (host_mom _ _ _)
  · beta_reduce; rw [(res3 m ρ c).2.2, ← e12, ← e15]; exact h11.trans (host_sec _ _ _)
  · beta_reduce; rw [(res4 m ρ c).1, ← e16, ← e17, ← e18, ← e19]; exact h12.trans (host_dlt _ _ _ _ _)
  · beta_reduce; rw [(res4 m ρ c).2.1, ← e16, ← e18]; exact h13.trans (host_mom _ _ _)
  · beta_reduce; rw [(res4 m ρ c).2.2, ← e16, ← e19]; exact h14.trans (host_sec _ _ _)
  · beta_reduce; rw [(res5 m ρ c).1, ← e20, ← e21, ← e22, ← e23]; exact h15.trans (host_dlt _ _ _ _ _)
  · beta_reduce; rw [(res5 m ρ c).2.1, ← e20, ← e22]; exact h16.trans (host_mom _ _ _)
  · beta_reduce; rw [(res5 m ρ c).2.2, ← e20, ← e23]; exact h17.trans (host_sec _ _ _)
  · beta_reduce; rw [(res6 m ρ c).1, ← e24, ← e25, ← e26, ← e27]; exact h18.trans (host_dlt _ _ _ _ _)
  · beta_reduce; rw [(res6 m ρ c).2.1, ← e24, ← e26]; exact h19.trans (host_mom _ _ _)
  · beta_reduce; rw [(res6 m ρ c).2.2, ← e24, ← e27]; exact h20.trans (host_sec _ _ _)
  · beta_reduce; rw [(res7 m ρ c).1, ← e28, ← e29, ← e30, ← e31]; exact h21.trans (host_dlt _ _ _ _ _)
  · beta_reduce; rw [(res7 m ρ c).2.1, ← e28, ← e30]; exact h22.trans (host_mom _ _ _)
  · beta_reduce; rw [(res7 m ρ c).2.2, ← e28, ← e31]; exact h23.trans (host_sec _ _ _)
  · beta_reduce; rw [(res8 m ρ c).1, ← e32, ← e33, ← e34, ← e35]; exact h24.trans (host_dlt _ _ _ _ _)
  · beta_reduce; rw [(res8 m ρ c).2.1, ← e32, ← e34]; exact h25.trans (host_mom _ _ _)
  · beta_reduce; rw [(res8 m ρ c).2.2, ← e32, ← e35]; exact h26.trans (host_sec _ _ _)
  · beta_reduce; rw [(res9 m ρ c).1, ← e36, ← e37, ← e38, ← e39]; exact h27.trans (host_dlt _ _ _ _ _)
  · beta_reduce; rw [(res9 m ρ c).2.1, ← e36, ← e38]; exact h28.trans (host_mom _ _ _)
  · beta_reduce; rw [(res9 m ρ c).2.2, ← e36, ← e39]; exact h29.trans (host_sec _ _ _)

end Cert.AdSMatch

end
-- ==== Proof.MlpArr.lean ====
/- Arrays of the feed-forward block read at natural-number coordinates, and sums cut into equal runs. -/
module

public import proofs.«01_k».proof.Proof.Gen.MlpIdeal.Frame
public import Idealize.ShloMosaic.Lib.Pipeline.Value
public import Idealize.ShloMosaic.Lib.Pipeline.ValueKit.Basic
public import Idealize.ShloMosaic.Lib.Pointwise
public import Idealize.ShloMosaic.Lib.IdealHost

@[expose] public section

set_option maxRecDepth 16384

noncomputable section

namespace Cert.Coord

open Idealize.ShloMosaic

/-- An array of rank two at two numbers, zero outside. -/
def at2 {a b : ℕ} (x : (⟨2, ![a, b]⟩ : Shape).Idx → EReal) (i j : ℕ) : EReal :=
  if h : i < a ∧ j < b then x (ix2 ⟨i, h.1⟩ ⟨j, h.2⟩) else 0

/-- An array of rank three at three numbers, zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- An array of rank four at four numbers, zero outside. -/
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

/-- Within the array the reading is the entry. -/
theorem at2_ix {a b : ℕ} (x : (⟨2, ![a, b]⟩ : Shape).Idx → EReal) (i : Fin a) (j : Fin b) : at2 x i.val j.val = x (ix2 i j) := by
  unfold at2
  rw [dif_pos ⟨i.isLt, j.isLt⟩]

/-- Within the array the reading is the entry. -/
theorem at3_ix {a b c : ℕ} (x : (⟨3, ![a, b, c]⟩ : Shape).Idx → EReal) (i : Fin a) (j : Fin b) (k : Fin c) :
    at3 x i.val j.val k.val = x (ix3 i j k) := by
  unfold at3
  rw [dif_pos ⟨i.isLt, j.isLt, k.isLt⟩]

/-- Within the array the reading is the entry. -/
theorem at4_ix {a b c d : ℕ} (x : (⟨4, ![a, b, c, d]⟩ : Shape).Idx → EReal) (i : Fin a) (j : Fin b) (k : Fin c) (l : Fin d) :
    at4 x i.val j.val k.val l.val = x (ix4 i j k l) := by
  unfold at4
  rw [dif_pos ⟨i.isLt, j.isLt, k.isLt, l.isLt⟩]

/-- Any index read through its coordinates. -/
theorem eq_at2 {a b : ℕ} (x : (⟨2, ![a, b]⟩ : Shape).Idx → EReal) (y : (⟨2, ![a, b]⟩ : Shape).Idx) : x y = at2 x (y 0).val (y 1).val := by
  conv_lhs => rw [eq_ix2 y]
  exact (at2_ix x (y 0) (y 1)).symm

/-- Any index read through its coordinates. -/
theorem eq_at3 {a b c : ℕ} (x : (⟨3, ![a, b, c]⟩ : Shape).Idx → EReal) (y : (⟨3, ![a, b, c]⟩ : Shape).Idx) :
    x y = at3 x (y 0).val (y 1).val (y 2).val := by
  conv_lhs => rw [eq_ix3 y]
  exact (at3_ix x (y 0) (y 1) (y 2)).symm

/-- Any index read through its coordinates. -/
theorem eq_at4 {a b c d : ℕ} (x : (⟨4, ![a, b, c, d]⟩ : Shape).Idx → EReal) (y : (⟨4, ![a, b, c, d]⟩ : Shape).Idx) :
    x y = at4 x (y 0).val (y 1).val (y 2).val (y 3).val := by
  conv_lhs => rw [eq_ix4 y]
  exact (at4_ix x (y 0) (y 1) (y 2) (y 3)).symm

/-- A sum of `a * b` terms is `a` sums of `b` terms. -/
theorem sum_runs (a b : ℕ) (f : ℕ → EReal) :
    ∑ k ∈ Finset.range (a * b), f k = ∑ s ∈ Finset.range a, ∑ k ∈ Finset.range b, f (b * s + k) := by
  induction a with
  | zero => simp
  | succ n ih =>
    rw [Nat.succ_mul, Finset.sum_range_add, ih, Finset.sum_range_succ]
    congr 1
    refine Finset.sum_congr rfl fun k _ => ?_
    rw [Nat.mul_comm]

end Cert.Coord

end
-- ==== Proof.Blk.lean ====
/- Where a window's block of a rank-two array lies, and that the blocks fill the array. -/
module

public import proofs.«01_k».proof.Proof.MlpArr

@[expose] public section

noncomputable section

namespace Cert.Coord

open Idealize.ShloMosaic

/-- A place of a window's block, in the array: the block's number times its size, plus the place. -/
theorem emb_of {sig : RefSig} {G : Pipeline.Grid} (w : Pipeline.Window sig G) (t : Fin G.N) (y : (w.xblock (G.coords t)).Idx) (a b : Fin w.shape.rank) {p q : ℕ}
    (h : w.index t a = p ∧ w.index t b = q) (hk : w.kind = .blocked := by rfl) :
    ((w.rect t).emb y a : ℕ) = p * w.size a + y a ∧ ((w.rect t).emb y b : ℕ) = q * w.size b + y b :=
  ⟨(Pipeline.Window.rect_emb_val w t y a hk).trans (by rw [h.1]), (Pipeline.Window.rect_emb_val w t y b hk).trans (by rw [h.2])⟩

/-- A block read at two numbers is its array read at the numbers the block lies at. -/
theorem rd_of {A B a b p q i j : ℕ} (f : (⟨2, ![A, B]⟩ : Shape).Idx → EReal) (e : (⟨2, ![a, b]⟩ : Shape).Idx → (⟨2, ![A, B]⟩ : Shape).Idx) (hi : i < a) (hj : j < b)
    (h : ∀ y, (e y 0).val = p * a + (y 0).val ∧ (e y 1).val = q * b + (y 1).val) : at2 (fun y => f (e y)) i j = at2 f (p * a + i) (q * b + j) := by
  refine (dif_pos ⟨hi, hj⟩).trans ((eq_at2 f (e (ix2 ⟨i, hi⟩ ⟨j, hj⟩))).trans ?_)
  rw [(h _).1, (h _).2]
  rfl

/-- A place of the array lies in the block its coordinates select. -/
theorem cov_of {A B a b p q : ℕ} (e : (⟨2, ![a, b]⟩ : Shape).Idx → (⟨2, ![A, B]⟩ : Shape).Idx) (i : (⟨2, ![A, B]⟩ : Shape).Idx)
    (h : ∀ y, (e y 0).val = p * a + (y 0).val ∧ (e y 1).val = q * b + (y 1).val) (ha : 0 < a) (hb : 0 < b) (hp : p = (i 0).val / a) (hq : q = (i 1).val / b) :
    ∃ y, e y = i := by
  obtain ⟨e0, e1⟩ := h (ix2 ⟨(i 0).val % a, Nat.mod_lt _ ha⟩ ⟨(i 1).val % b, Nat.mod_lt _ hb⟩)
  refine ⟨ix2 ⟨(i 0).val % a, Nat.mod_lt _ ha⟩ ⟨(i 1).val % b, Nat.mod_lt _ hb⟩, ?_⟩
  funext c
  match c with
  | ⟨0, _⟩ => exact Fin.ext (e0.trans (by rw [hp]; exact Nat.div_add_mod' _ _))
  | ⟨1, _⟩ => exact Fin.ext (e1.trans (by rw [hq]; exact Nat.div_add_mod' _ _))

/-- So it lies in the set of the block's places. -/
theorem cov_in {A B a b p q : ℕ} (e : (⟨2, ![a, b]⟩ : Shape).Idx ↪ (⟨2, ![A, B]⟩ : Shape).Idx) (i : (⟨2, ![A, B]⟩ : Shape).Idx)
    (h : ∀ y, (e y 0).val = p * a + (y 0).val ∧ (e y 1).val = q * b + (y 1).val) (hp : p = (i 0).val / a) (hq : q = (i 1).val / b)
    (ha : 0 < a := by decide) (hb : 0 < b := by decide) : i ∈ Finset.univ.map e :=
  Finset.mem_map.mpr ((cov_of e i h ha hb hp hq).imp fun y k => ⟨Finset.mem_univ y, k⟩)

/-- A place of a window's block, in an array of rank four. -/
theorem emb4_of {sig : RefSig} {G : Pipeline.Grid} (w : Pipeline.Window sig G) (t : Fin G.N) (y : (w.xblock (G.coords t)).Idx) (a b c d : Fin w.shape.rank) {p q r s : ℕ}
    (h : w.index t a = p ∧ w.index t b = q ∧ w.index t c = r ∧ w.index t d = s) (hk : w.kind = .blocked := by rfl) :
    ((w.rect t).emb y a : ℕ) = p * w.size a + y a ∧ ((w.rect t).emb y b : ℕ) = q * w.size b + y b ∧ ((w.rect t).emb y c : ℕ) = r * w.size c + y c
      ∧ ((w.rect t).emb y d : ℕ) = s * w.size d + y d :=
  ⟨(emb_of w t y a b ⟨h.1, h.2.1⟩ hk).1, (emb_of w t y a b ⟨h.1, h.2.1⟩ hk).2, (emb_of w t y c d h.2.2 hk).1, (emb_of w t y c d h.2.2 hk).2⟩

/-- A block of rank four read at four numbers is its array read at the numbers the block lies at. -/
theorem rd4_of {A B C D a b c d p q r s i j k l : ℕ} (f : (⟨4, ![A, B, C, D]⟩ : Shape).Idx → EReal) (e : (⟨4, ![a, b, c, d]⟩ : Shape).Idx → (⟨4, ![A, B, C, D]⟩ : Shape).Idx)
    (hi : i < a) (hj : j < b) (hk : k < c) (hl : l < d)
    (h : ∀ y, (e y 0).val = p * a + (y 0).val ∧ (e y 1).val = q * b + (y 1).val ∧ (e y 2).val = r * c + (y 2).val ∧ (e y 3).val = s * d + (y 3).val) :
    at4 (fun y => f (e y)) i j k l = at4 f (p * a + i) (q * b + j) (r * c + k) (s * d + l) := by
  refine (dif_pos ⟨hi, hj, hk, hl⟩).trans ((eq_at4 f (e (ix4 ⟨i, hi⟩ ⟨j, hj⟩ ⟨k, hk⟩ ⟨l, hl⟩))).trans ?_)
  rw [(h _).1, (h _).2.1, (h _).2.2.1, (h _).2.2.2]
  rfl

end Cert.Coord

end
-- ==== Proof.LoVal.lean ====
/- What the loss call leaves in its arrays. -/
module

public import proofs.«01_k».proof.Proof.Gen.LossIdeal.Frame
public import proofs.«01_k».proof.Proof.Blk
public import Idealize.ShloMosaic.Lib.Pipeline.ValueKit
public import Idealize.ShloMosaic.Lib.Pointwise.Tactic

@[expose] public section

set_option maxRecDepth 16384

noncomputable section

namespace Cert.LossIdeal.Value

open Cert.LossIdeal Cert.LossIdeal.Gen Cert.Coord
open Idealize.ShloMosaic Idealize.ShloMosaic.TcCoe Idealize.ShloMosaic.Tactic
open Idealize.SL Idealize.SL.RA Idealize.SL.BI Idealize.SL.Sem

/-- The difference of two arrays of rows at two numbers, the first array's first 128 rows passed over. -/
def err (h : Vec Ideal S4224x1024 .f32) (t : Vec Ideal S4096x1024 .f32) (i j : ℕ) : EReal :=
  at2 (a := 4224) (b := 1024) h (128 + i) j - at2 (a := 4096) (b := 1024) t i j

/-- The sum of a row's squares. -/
def row (h : Vec Ideal S4224x1024 .f32) (t : Vec Ideal S4096x1024 .f32) (i : ℕ) : EReal :=
  ∑ j ∈ Finset.range 1024, err h t i j * err h t i j

/-- What a block adds to the sum. -/
theorem pay4_at (x t : Vec Ideal S128x1024 .f32) (s : Vec Ideal S1x128 .f32) (y : S1x128.Idx) :
    k0_pay4 (F := Ideal) x t s y = s y + ∑ a : Fin 128, ∑ b : Fin 1024, (x (ix2 a b) - t (ix2 a b)) * (x (ix2 a b) - t (ix2 a b)) := by
  unfold k0_pay4 k0_pay3
  pointwise

/-- What a block leaves of the second result. -/
theorem pay5_at (x t : Vec Ideal S128x1024 .f32) (y : S128x1024.Idx) :
    k0_pay5 (F := Ideal) x t y = (x y - t y) * Ideal.ofBits .f32 0x3A800000#32 := by
  unfold k0_pay5 k0_pay3
  pointwise

section arrays

variable (m : (ℓ : Loc nD τ sig) → Buf (Elt Ideal) ℓ) (c : Dev nD)

/-- The first argument. -/
abbrev aH : Vec Ideal S4224x1024 .f32 := m ((c.tc : Thread nD τ).loc main_arg0)
/-- The second argument. -/
abbrev aT : Vec Ideal S4096x1024 .f32 := m ((c.tc : Thread nD τ).loc main_arg1)

/-- A point's block of the first argument. -/
abbrev bH (t : Fin cfg0.N) : Vec Ideal S128x1024 .f32 := iblk m c 0 t
/-- A point's block of the second argument. -/
abbrev bT (t : Fin cfg0.N) : Vec Ideal S128x1024 .f32 := iblk m c 1 t

/-- Which blocks the four windows are on. -/
theorem idx : ∀ t : Fin cfg0.N, (win0_0.index t 0 = t.val ∧ win0_0.index t 1 = 0) ∧ (win0_1.index t 0 = t.val - 1 ∧ win0_1.index t 1 = 0)
    ∧ (win0_3.index t 0 = t.val ∧ win0_3.index t 1 = 0) := by decide +kernel

/-- A later point's two results. -/
theorem stepB (t : Fin cfg0.N) (h0 : ¬t.val % 33 = 0) (h1 : 1 ≤ t.val) :
    outsAt0 m c t.val t.isLt = (k0_pay4 (F := Ideal) (bH m c t) (bT m c t) (outsAt0 m c (t.val - 1) (by have := t.isLt; omega)).1, k0_pay5 (F := Ideal) (bH m c t) (bT m c t)) := by
  rw [outsAt0_B m c t h0 h1]
  refine Prod.ext ?_ ?_
  · frame_out
  · frame_out

/-- The first point's two results are zero. -/
theorem stepA (t : Fin cfg0.N) (h0 : t.val % 33 = 0) (h1 : ¬1 ≤ t.val) :
    outsAt0 m c t.val t.isLt = (k0_pay1 (F := Ideal), k0_pay2 (F := Ideal)) := by
  rw [outsAt0_A m c t h0 h1]
  refine Prod.ext ?_ ?_
  · frame_out
  · frame_out

/-- What the first window reads at two numbers. -/
theorem rdH (t : Fin cfg0.N) (a : Fin 128) (b : Fin 1024) : bH m c t (ix2 a b) = at2 (a := 4224) (b := 1024) (aH m c) (t.val * 128 + a.val) b.val := by
  refine (at2_ix (a := 128) (b := 1024) (bH m c t) a b).symm.trans ((rd_of (A := 4224) (B := 1024) (a := 128) (b := 1024) (aH m c) (win0_0.rect t).emb a.isLt b.isLt
    (emb_of win0_0 t · 0 1 (idx t).1)).trans ?_)
  rw [Nat.zero_mul, Nat.zero_add]

/-- What the second window reads at two numbers. -/
theorem rdT (t : Fin cfg0.N) (a : Fin 128) (b : Fin 1024) : bT m c t (ix2 a b) = at2 (a := 4096) (b := 1024) (aT m c) ((t.val - 1) * 128 + a.val) b.val := by
  refine (at2_ix (a := 128) (b := 1024) (bT m c t) a b).symm.trans ((rd_of (A := 4096) (B := 1024) (a := 128) (b := 1024) (aT m c) (win0_1.rect t).emb a.isLt b.isLt
    (emb_of win0_1 t · 0 1 (idx t).2.1)).trans ?_)
  rw [Nat.zero_mul, Nat.zero_add]

/-- The difference a block takes. -/
theorem diff_at (t : Fin cfg0.N) (h1 : 1 ≤ t.val) (a : Fin 128) (b : Fin 1024) :
    bH m c t (ix2 a b) - bT m c t (ix2 a b) = err (aH m c) (aT m c) ((t.val - 1) * 128 + a.val) b.val := by
  rw [rdH, rdT, err, show 128 + ((t.val - 1) * 128 + a.val) = t.val * 128 + a.val by omega]

/-- After point `n` the first result holds the sum over the rows of the blocks 1 to `n`. -/
theorem sums : ∀ (n : ℕ) (hn : n < cfg0.N) (y : S1x128.Idx), (outsAt0 m c n hn).1 y = ∑ i ∈ Finset.range (n * 128), row (aH m c) (aT m c) i
  | 0, hn, y => by
    rw [show outsAt0 m c 0 hn = _ from stepA m c ⟨0, hn⟩ rfl (by dsimp only; omega), Nat.zero_mul, Finset.sum_range_zero]
    exact Ideal.ofBits_zero_f32
  | n + 1, hn, y => by
    have hN : cfg0.N = 33 := N_0
    rw [show outsAt0 m c (n + 1) hn = _ from stepB m c ⟨n + 1, hn⟩ (by dsimp only; omega) (by dsimp only; omega)]
    dsimp only
    rw [pay4_at, show (outsAt0 m c (n + 1 - 1) _).1 y = _ from sums n (by omega) y, Nat.succ_mul, Finset.sum_range_add, Finset.sum_range (fun a => row _ _ (n * 128 + a))]
    refine congrArg _ (Finset.sum_congr rfl fun a _ => ?_)
    rw [row, Finset.sum_range]
    refine Finset.sum_congr rfl fun b _ => ?_
    rw [diff_at m c ⟨n + 1, hn⟩ (by dsimp only; omega) a b]
    rfl

/-- The first result's array at the end: the sum over all rows, at every place. -/
theorem final2 : (dats m 0 c).arrAt 2 cfg0.N = fun _ => ∑ i ∈ Finset.range 4096, row (aH m c) (aT m c) i := by
  refine (dats m 0 c).arrAt_eq_of_covers 2 _ (by decide +kernel) fun t hf y => ?_
  have hN : cfg0.N = 33 := N_0
  have h := (flush0_2 t).mp hf
  have e : t.val = 32 := by have := t.isLt; omega
  rw [after0_2]
  refine (sums m c t.val t.isLt y).trans ?_
  rw [e]

/-- The second result: zero in the first 128 rows, the differences divided by 1024 below. -/
def grad (h : Vec Ideal S4224x1024 .f32) (t : Vec Ideal S4096x1024 .f32) : Vec Ideal S4224x1024 .f32 := fun i =>
  if (i 0).val < 128 then 0 else err h t ((i 0).val - 128) (i 1).val * Ideal.ofBits .f32 0x3A800000#32

/-- The second result at a place whose two numbers are known. -/
theorem grad_at (h : Vec Ideal S4224x1024 .f32) (t : Vec Ideal S4096x1024 .f32) {i : S4224x1024.Idx} {p q : ℕ} (e0 : (i 0).val = p) (e1 : (i 1).val = q) :
    grad h t i = if p < 128 then 0 else err h t (p - 128) q * Ideal.ofBits .f32 0x3A800000#32 := by
  rw [grad, e0, e1]

/-- What a point leaves of the second result. -/
theorem leaves (t : Fin cfg0.N) (y : S128x1024.Idx) : (outsAt0 m c t.val t.isLt).2 y
    = if t.val * 128 + (y 0).val < 128 then 0 else err (aH m c) (aT m c) (t.val * 128 + (y 0).val - 128) (y 1).val * Ideal.ofBits .f32 0x3A800000#32 := by
  have hl : t.val < 33 := Nat.lt_of_lt_of_eq t.isLt N_0
  have y0 : (y 0).val < 128 := (y 0).isLt
  by_cases h1 : 1 ≤ t.val
  · rw [stepB m c t (by omega) h1, if_neg (by omega)]
    refine (pay5_at _ _ y).trans (congrArg (· * _) ?_)
    have d := diff_at m c t h1 (y 0) (y 1)
    rw [← eq_ix2 y] at d
    rw [show t.val * 128 + (y 0).val - 128 = (t.val - 1) * 128 + (y 0).val by omega]
    exact d
  · rw [stepA m c t (by omega) h1, if_pos (by omega)]
    exact Ideal.ofBits_zero_f32

/-- The second result's array at the end. -/
theorem final3 : (dats m 0 c).arrAt 3 cfg0.N = grad (aH m c) (aT m c) := by
  refine (dats m 0 c).arrAt_eq_of_covers 3 _ (by decide +kernel) fun t _ y => ?_
  obtain ⟨e0, e1⟩ := emb_of win0_3 t y 0 1 (idx t).2.2
  rw [after0_3]
  exact (leaves m c t y).trans (grad_at (aH m c) (aT m c) e0 (e1.trans (by rw [Nat.zero_mul, Nat.zero_add]))).symm

end arrays

end Cert.LossIdeal.Value

end
-- ==== Proof.LoMatch.lean ====
/- The loss and the seed gradient against the reference: the frames and the equality of the results. -/
module

public import proofs.«01_k».proof.Defs
public import proofs.«01_k».proof.Proof.Gen.Loss.Frame
public import proofs.«01_k».proof.Proof.Gen.LossRefIdeal.Run
public import proofs.«01_k».proof.Proof.LoVal
public import Idealize.ShloMosaic.Lib.IdealHost
public import Idealize.ShloMosaic.Adequacy
public import Idealize.ShloMosaic.Init

@[expose] public section

set_option maxRecDepth 16384

noncomputable section

namespace Cert.LoMatch

open Idealize.ShloMosaic Idealize.ShloMosaic.TcCoe Idealize.SL.Sem Cert.Coord
open Cert.LossIdeal Cert.LossIdeal.Gen Cert.LossIdeal.Value

/-- The kernel runs and ends with its arguments unchanged and every counter at zero. -/
theorem frame_k : Cert.quiescent_Loss := fun m ρ _ => Cert.Loss.Gen.frame m ρ

/-- So does the same program over the extended reals. -/
theorem frame_ideal : Cert.quiescent_LossIdeal := fun m ρ _ => Cert.LossIdeal.Gen.frame m ρ

/-- So does the reference. -/
theorem frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- One half, as a real number. -/
theorem c_half : Ideal.ofBits .f32 0x3F000000#32 = ((1 / 2 : ℝ) : EReal) := by
  simp [Ideal.ofBits, Ideal.ieee]; rw [← EReal.coe_mul]; norm_num

/-- Two. -/
theorem c_two : Ideal.ofBits .f32 0x40000000#32 = ((2 : ℝ) : EReal) := by
  simp [Ideal.ofBits, Ideal.ieee]; rw [← EReal.coe_mul]; norm_num

/-- The width of a row. -/
theorem c_width : Ideal.ofBits .f32 0x44800000#32 = ((1024 : ℝ) : EReal) := by
  simp [Ideal.ofBits, Ideal.ieee]; rw [← EReal.coe_mul]; norm_num

/-- Its inverse. -/
theorem c_inv : Ideal.ofBits .f32 0x3A800000#32 = ((1 / 1024 : ℝ) : EReal) := by
  simp [Ideal.ofBits, Ideal.ieee]; rw [← EReal.coe_mul]; norm_num

/-- A real factor moves out of a sum. -/
theorem sum_mul_real (n : ℕ) (f : ℕ → EReal) (r : ℝ) (hf : ∀ i, 0 ≤ f i) : ∑ i ∈ Finset.range n, f i * (r : EReal) = (∑ i ∈ Finset.range n, f i) * (r : EReal) := by
  induction n with
  | zero => simp
  | succ n ih => rw [Finset.sum_range_succ, Finset.sum_range_succ, ih, EReal.right_distrib_of_nonneg (Finset.sum_nonneg fun i _ => hf i) (hf n)]

/-- A row's sum of squares is not negative. -/
theorem row_nonneg (h : Vec Ideal S4224x1024 .f32) (t : Vec Ideal S4096x1024 .f32) (i : ℕ) : 0 ≤ row h t i :=
  Finset.sum_nonneg fun j _ => by
    rcases le_total 0 (err h t i j) with k | k
    · exact mul_nonneg k k
    · rw [← neg_mul_neg]
      exact mul_nonneg (EReal.neg_nonneg.mpr k) (EReal.neg_nonneg.mpr k)

/-- The reference's difference of the rows. -/
abbrev rerr (h : Vec Ideal S4224x1024 .f32) (t : Vec Ideal S4096x1024 .f32) : FVec Ideal S4096x1024 .f32 :=
  subf (extractStridedSlice S4096x1024 ![128, 0] h Cert.LossRefIdeal.Facts₀.slices_S4224x1024_S4096x1024_128_0) t

/-- It is the difference at two numbers. -/
theorem rerr_at (h : Vec Ideal S4224x1024 .f32) (t : Vec Ideal S4096x1024 .f32) (i : Fin 4096) (j : Fin 1024) : rerr h t (ix2 i j) = err h t i.val j.val := by
  rw [err, at2_ix (a := 4096) (b := 1024) t i j]
  rw [show at2 (a := 4224) (b := 1024) h (128 + i.val) j.val = h (ix2 ⟨128 + i.val, by omega⟩ j) from at2_ix (a := 4224) (b := 1024) h ⟨128 + i.val, by omega⟩ j]
  unfold rerr
  pointwise

/-- The reference's loss. -/
theorem ref_loss (h : Vec Ideal S4224x1024 .f32) (t : Vec Ideal S4096x1024 .f32) :
    (mulf (constant Cert.LossRefIdeal.S_ .f32 0x3F000000#32) (Host.reduceAdd (Host.divf (Host.reduceAdd (mulf (rerr h t) (rerr h t)) (constant Cert.LossRefIdeal.S_ .f32 0x00000000#32) Cert.LossRefIdeal.Facts₀.reducesTo_S4096x1024_S4096_d1 Cert.LossRefIdeal.Facts₀.h_S_) (broadcastInDim Cert.LossRefIdeal.S4096 ![] Cert.LossRefIdeal.Facts₀.bcast_S_S4096 (constant Cert.LossRefIdeal.S_ .f32 0x44800000#32))) (constant Cert.LossRefIdeal.S_ .f32 0x00000000#32) Cert.LossRefIdeal.Facts₀.reducesTo_S4096_S_d0 Cert.LossRefIdeal.Facts₀.h_S_) : FVec Ideal Cert.LossRefIdeal.S_ .f32)
      = fun _ => Ideal.div (Ideal.ofBits .f32 0x3F000000#32 * ∑ i ∈ Finset.range 4096, row h t i) (Ideal.ofBits .f32 0x44800000#32) := by
  funext y
  rw [c_half, c_width, Ideal.div_coe (by norm_num), mul_assoc, ← sum_mul_real _ _ _ (row_nonneg h t), Finset.sum_range, ← c_half]
  simp only [row, Finset.sum_range, ← rerr_at h t]
  generalize rerr h t = R
  pointwise
  exact congrArg _ (Finset.sum_congr rfl fun i _ => by rw [c_width, Ideal.div_coe (by norm_num)])

/-- The reference's second result. -/
theorem ref_grad (h : Vec Ideal S4224x1024 .f32) (t : Vec Ideal S4096x1024 .f32) :
    (pad S4224x1024 ![128, 0] ![0, 0] ![0, 0] (mulf (broadcastInDim S4096x1024 ![0] Cert.LossRefIdeal.Facts₀.bcast_S4096_S4096x1024_0 (Host.divf (broadcastInDim Cert.LossRefIdeal.S4096 ![] Cert.LossRefIdeal.Facts₀.bcast_S_S4096 (mulf (constant Cert.LossRefIdeal.S_ .f32 0x3F000000#32) (constant Cert.LossRefIdeal.S_ .f32 0x3F800000#32))) (broadcastInDim Cert.LossRefIdeal.S4096 ![] Cert.LossRefIdeal.Facts₀.bcast_S_S4096 (constant Cert.LossRefIdeal.S_ .f32 0x44800000#32)))) (mulf (broadcastInDim S4096x1024 ![] Cert.LossRefIdeal.Facts₀.bcast_S_S4096x1024 (constant Cert.LossRefIdeal.S_ .f32 0x40000000#32)) (rerr h t))) (constant Cert.LossRefIdeal.S_ .f32 0x00000000#32) Cert.LossRefIdeal.Facts₀.pads_S4096x1024_S4224x1024_12800_000 Cert.LossRefIdeal.Facts₀.h_S_ : FVec Ideal S4224x1024 .f32)
      = grad h t := by
  funext i
  have hr := rerr_at h t
  generalize rerr h t = R at hr ⊢
  unfold grad
  pointwise
  have i0 : (i 0).val < 4224 := (i 0).isLt
  by_cases k : (i 0).val < 128
  · rw [dif_neg (by omega), if_pos k]
  · rw [dif_pos (by omega), if_neg k]
    refine (congrArg (fun u : EReal => _ * (_ * u)) (hr ⟨(i 0).val - 128, by omega⟩ (i 1))).trans ?_
    rw [c_half, c_width, c_two, c_inv, Ideal.div_coe (by norm_num), ← mul_assoc, ← EReal.coe_mul, ← EReal.coe_mul, mul_comm]
    exact congrArg₂ (· * ·) rfl (congrArg _ (by norm_num))

/-- What the kernel ends with. -/
theorem run_k (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun _ => Ideal.div (Ideal.ofBits .f32 0x3F000000#32 * ∑ i ∈ Finset.range 4096, row (aH m c) (aT m c) i) (Ideal.ofBits .f32 0x44800000#32))
      ∧ r.2.mem ((c.tc : Thread nD τ).loc main_v0_1) = grad (aH m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ((h c).1 3).trans (final3 m c), ((h c).1 0).trans ((dats m 0 c).arrAt_in 0 rfl _), ((h c).1 1).trans ((dats m 0 c).arrAt_in 1 rfl _)⟩) (run_main m ρ)
  refine ((h c).2 main_v4 (by decide)).trans ?_
  unfold Pipeline.afterTail₀
  have k := Pipeline.withArrays_arr (cfgs 0).spec (by decide) c (V0 m c) (fun w => (dats m 0 c).arrAt w (cfgs 0).N) 2
  generalize Pipeline.withArrays _ _ _ _ = W at k ⊢
  have k' : W (Proc.devRef .tc main_v0_0) = fun _ => ∑ i ∈ Finset.range 4096, row (aH m c) (aT m c) i := k.trans (final2 m c)
  simp only [List.flatten_cons, List.flatten_nil, List.append_nil]
  after_results
  rw [k']
  generalize (∑ i ∈ Finset.range 4096, row (aH m c) (aT m c) i) = S
  rfl

/-- The two programs' results agree. -/
theorem results_agree : Cert.algebraic_LossIdeal_LossRefIdeal := fun m ρ m' ρ' _ hagree => by
  refine ⟨_, _, run_k m ρ, (θ_run Cert.LossRefIdeal.defs _ _).mono (fun r h c => ?_) (Cert.LossRefIdeal.Value.run (F := Ideal) m' ρ')⟩
  obtain ⟨h0, h1, hargs⟩ := h c
  obtain ⟨e0, e1⟩ := hagree c
  refine ⟨h0.trans ?_, h1.trans ?_, hargs⟩
  · rw [e0, e1]; exact ref_loss _ _
  · rw [e0, e1]; exact ref_grad _ _

end Cert.LoMatch

end
-- ==== Proof.MlpTiles.lean ====
/- What each region of the feed-forward block leaves in a block, as sums and products of the entries it reads. -/
module

public import proofs.«01_k».proof.Proof.MlpArr

@[expose] public section

set_option maxRecDepth 16384

noncomputable section

namespace Cert.MlpIdeal.Value

open Cert.MlpIdeal Cert.MlpIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-- The number of columns, as the programs' constant. -/
abbrev cN : EReal := Ideal.ofBits FTy.f32 1149239296#32
/-- The small number under the root, as the programs' constant. -/
abbrev cEps : EReal := Ideal.ofBits FTy.f32 897988541#32
/-- The two of the square's derivative, as the programs' constant. -/
abbrev cTwo : EReal := Ideal.ofBits FTy.f32 1073741824#32

/-- One entry `x` of a row `f` divided by the row's root mean square and multiplied by its gain `g`. -/
def rms (f : ℕ → EReal) (x g : EReal) : EReal :=
  x * Ideal.rsqrt (Ideal.div (∑ k ∈ Finset.range 1024, f k * f k) cN + cEps) * g

/-- A row's entries matter only inside the row. -/
theorem rms_congr (f f' : ℕ → EReal) (h : ∀ k, k < 1024 → f k = f' k) (x g : EReal) : rms f x g = rms f' x g := by
  unfold rms
  rw [Finset.sum_congr rfl fun k hk => by rw [h k (Finset.mem_range.mp hk)]]

/-- Equal coordinates read the same entry. -/
theorem at2_congr {a b : ℕ} (x : (⟨2, ![a, b]⟩ : Shape).Idx → EReal) {i i' j j' : ℕ} (hi : i = i') (hj : j = j') :
    at2 x i j = at2 x i' j' := by
  subst hi hj
  rfl

/-- Equal coordinates read the same entry. -/
theorem at4_congr {a b c d : ℕ} (x : (⟨4, ![a, b, c, d]⟩ : Shape).Idx → EReal) {i i' j j' k k' l l' : ℕ}
    (hi : i = i') (hj : j = j') (hk : k = k') (hl : l = l') : at4 x i j k l = at4 x i' j' k' l' := by
  subst hi hj hk hl
  rfl

/-! ## What each region computes from the arrays it reads -/

/-- The rows normalised. -/
def G0 (h : Vec Ideal S4224x1024 .f32) (g : Vec Ideal S1x1024 .f32) : Vec Ideal S4224x1024 .bf16 := fun i =>
  rms (fun k => at2 (a := 4224) (b := 1024) h (i 0).val k) (at2 (a := 4224) (b := 1024) h (i 0).val (i 1).val) (at2 (a := 1) (b := 1024) g 0 (i 1).val)

/-- One entry of the first product. -/
def up (x : Vec Ideal S4224x1024 .bf16) (w : Vec Ideal S4x4x1024x1024 .bf16) (i j : ℕ) : EReal :=
  ∑ k ∈ Finset.range 1024, at2 (a := 4224) (b := 1024) x i k * at4 (a := 4) (b := 4) (c := 1024) (d := 1024) w (j / 1024) 1 k (j % 1024)

/-- The first product. -/
def G1a (x : Vec Ideal S4224x1024 .bf16) (w : Vec Ideal S4x4x1024x1024 .bf16) : Vec Ideal S4224x4096 .bf16 := fun i =>
  up x w (i 0).val (i 1).val

/-- Its positive part squared. -/
def G1b (x : Vec Ideal S4224x1024 .bf16) (w : Vec Ideal S4x4x1024x1024 .bf16) : Vec Ideal S4224x4096 .bf16 := fun i =>
  max (up x w (i 0).val (i 1).val) 0 * max (up x w (i 0).val (i 1).val) 0

/-- One entry of the second product, its terms in four runs. -/
def down (u : Vec Ideal S4224x4096 .bf16) (w : Vec Ideal S4x4x1024x1024 .bf16) (i j : ℕ) : EReal :=
  ∑ s ∈ Finset.range 4, ∑ k ∈ Finset.range 1024,
    at2 (a := 4224) (b := 4096) u i (1024 * s + k) * at4 (a := 4) (b := 4) (c := 1024) (d := 1024) w s 1 k j

/-- The second product. -/
def G2a (u : Vec Ideal S4224x4096 .bf16) (w : Vec Ideal S4x4x1024x1024 .bf16) : Vec Ideal S4224x1024 .f32 := fun i =>
  down u w (i 0).val (i 1).val

/-- The second product normalised and added to what came in. -/
def G2b (u : Vec Ideal S4224x4096 .bf16) (w : Vec Ideal S4x4x1024x1024 .bf16) (h : Vec Ideal S4224x1024 .f32) (g : Vec Ideal S1x1024 .f32) :
    Vec Ideal S4224x1024 .f32 := fun i =>
  at2 (a := 4224) (b := 1024) h (i 0).val (i 1).val
    + rms (fun k => down u w (i 0).val k) (down u w (i 0).val (i 1).val) (at2 (a := 1) (b := 1024) g 0 (i 1).val)

/-- The second weight's gradient. -/
def G3 (u : Vec Ideal S4224x4096 .bf16) (d : Vec Ideal S4224x1024 .bf16) : Vec Ideal S4096x1024 .f32 := fun i =>
  ∑ r ∈ Finset.range 4224, at2 (a := 4224) (b := 4096) u r (i 0).val * at2 (a := 4224) (b := 1024) d r (i 1).val

/-- The gradient before the square. -/
def G4 (d : Vec Ideal S4224x1024 .bf16) (w : Vec Ideal S4x4x1024x1024 .bf16) (x : Vec Ideal S4224x4096 .bf16) : Vec Ideal S4224x4096 .bf16 := fun i =>
  cTwo * max (at2 (a := 4224) (b := 4096) x (i 0).val (i 1).val) 0
    * ∑ k ∈ Finset.range 1024, at2 (a := 4224) (b := 1024) d (i 0).val k
        * at4 (a := 4) (b := 4) (c := 1024) (d := 1024) w ((i 1).val / 1024) 1 ((i 1).val % 1024) k

/-- The first weight's gradient, chip by chip. -/
def G5 (x : Vec Ideal S4224x1024 .bf16) (d : Vec Ideal S4224x4096 .bf16) : Vec Ideal S4x1024x1024 .f32 := fun i =>
  ∑ r ∈ Finset.range 4224, at2 (a := 4224) (b := 1024) x r (i 1).val * at2 (a := 4224) (b := 4096) d r (1024 * (i 0).val + (i 2).val)

/-- The gradient of the rows, its terms in four runs. -/
def G6 (d : Vec Ideal S4224x4096 .bf16) (w : Vec Ideal S4x4x1024x1024 .bf16) : Vec Ideal S4224x1024 .f32 := fun i =>
  ∑ s ∈ Finset.range 4, ∑ k ∈ Finset.range 1024,
    at2 (a := 4224) (b := 4096) d (i 0).val (1024 * s + k) * at4 (a := 4) (b := 4) (c := 1024) (d := 1024) w s 1 (i 1).val k

/-! ## What a point's body leaves, from the blocks it reads -/

/-- The rows of a block normalised. -/
theorem out0_2_at (X : Vec Ideal S528x1024 .f32) (G : Vec Ideal S1x1024 .f32) (y : S528x1024.Idx) :
    out0_2 (F := Ideal) X G y = rms (fun k => at2 (a := 528) (b := 1024) X (y 0).val k) (at2 (a := 528) (b := 1024) X (y 0).val (y 1).val)
      (at2 (a := 1) (b := 1024) G 0 (y 1).val) := by
  unfold rms
  rw [Finset.sum_range, at2_ix X (y 0) (y 1), show at2 (a := 1) (b := 1024) G 0 (y 1).val = G (ix2 (0 : Fin 1) (y 1)) from at2_ix G (0 : Fin 1) (y 1)]
  simp only [fun k : Fin 1024 => at2_ix X (y 0) k]
  unfold out0_2 k0_pay1
  rw [View.canon_cons_unit_lit _ _ _ (by decide), View.ld_unit_lit _ _ (by decide), View.ld_unit_lit _ _ (by decide)]
  pointwise

/-- One product of a block's row and a weight block's column. -/
def mm (X : Vec Ideal S1056x1024 .bf16) (W : Vec Ideal S1x1x1024x1024 .bf16) (p q : ℕ) : EReal :=
  ∑ k ∈ Finset.range 1024, at2 (a := 1056) (b := 1024) X p k * at4 (a := 1) (b := 1) (c := 1024) (d := 1024) W 0 0 k q

/-- The same product over the contracted coordinate's own range. -/
theorem mm_fin (X : Vec Ideal S1056x1024 .bf16) (W : Vec Ideal S1x1x1024x1024 .bf16) (p : Fin 1056) (q : Fin 1024) :
    mm X W p.val q.val = ∑ k : Fin 1024, X (ix2 p k) * W (ix4 (0 : Fin 1) (0 : Fin 1) k q) := by
  unfold mm
  rw [Finset.sum_range]
  exact Finset.sum_congr rfl fun k _ => congrArg₂ (· * ·) (at2_ix X p k) (at4_ix W (0 : Fin 1) (0 : Fin 1) k q)

/-- A block of the first product. -/
theorem out1_2_at (X : Vec Ideal S1056x1024 .bf16) (W : Vec Ideal S1x1x1024x1024 .bf16) (y : S1056x1024.Idx) :
    out1_2 (F := Ideal) X W y = mm X W (y 0).val (y 1).val := by
  rw [mm_fin X W (y 0) (y 1)]
  unfold out1_2 k1_pay2 k1_pay1
  rw [View.canon_cons_unit_lit _ _ _ (by decide), View.ld_unit_lit _ _ (by decide), View.ld_unit_lit _ _ (by decide)]
  pointwise

/-- A block of its positive part squared. -/
theorem out1_3_at (X : Vec Ideal S1056x1024 .bf16) (W : Vec Ideal S1x1x1024x1024 .bf16) (y : S1056x1024.Idx) :
    out1_3 (F := Ideal) X W y = max (mm X W (y 0).val (y 1).val) 0 * max (mm X W (y 0).val (y 1).val) 0 := by
  rw [mm_fin X W (y 0) (y 1)]
  unfold out1_3 k1_pay3 k1_pay1
  rw [View.canon_cons_unit_lit _ _ _ (by decide), View.ld_unit_lit _ _ (by decide), View.ld_unit_lit _ _ (by decide)]
  pointwise

/-- One of the four runs of a block's product. -/
def run4 (X : Vec Ideal S528x4096 .bf16) (f : ℕ → EReal) (s p : ℕ) : EReal :=
  ∑ k ∈ Finset.range 1024, at2 (a := 528) (b := 4096) X p (1024 * s + k) * f k

/-- The same run over the contracted coordinate's own range. -/
theorem run4_fin (X : Vec Ideal S528x4096 .bf16) (f : ℕ → EReal) (g : Fin 1024 → EReal) (hf : ∀ k : Fin 1024, f k.val = g k) (s : ℕ) (hs : s < 4) (p : Fin 528) :
    run4 X f s p.val = ∑ k : Fin 1024, X (ix2 p (⟨1024 * s + k.val, by have := k.isLt; omega⟩ : Fin 4096)) * g k := by
  unfold run4
  rw [Finset.sum_range]
  exact Finset.sum_congr rfl fun k _ => congrArg₂ (· * ·) (at2_ix X p (⟨1024 * s + k.val, by have := k.isLt; omega⟩ : Fin 4096)) (hf k)

/-- A block of the second product. -/
theorem out2_7_at (X : Vec Ideal S528x4096 .bf16) (W0 W1 W2 W3 : Vec Ideal S1x1x1024x1024 .bf16) (H : Vec Ideal S528x1024 .f32) (G : Vec Ideal S1x1024 .f32) (y : S528x1024.Idx) :
    k2_pay3 (F := Ideal) X W0 W1 W2 W3 H G y
      = run4 X (fun k => at4 (a := 1) (b := 1) (c := 1024) (d := 1024) W0 0 0 k (y 1).val) 0 (y 0).val
        + run4 X (fun k => at4 (a := 1) (b := 1) (c := 1024) (d := 1024) W1 0 0 k (y 1).val) 1 (y 0).val
        + run4 X (fun k => at4 (a := 1) (b := 1) (c := 1024) (d := 1024) W2 0 0 k (y 1).val) 2 (y 0).val
        + run4 X (fun k => at4 (a := 1) (b := 1) (c := 1024) (d := 1024) W3 0 0 k (y 1).val) 3 (y 0).val := by
  rw [run4_fin X _ _ (fun k => at4_ix W0 (0 : Fin 1) (0 : Fin 1) k (y 1)) 0 (by decide) (y 0),
    run4_fin X _ _ (fun k => at4_ix W1 (0 : Fin 1) (0 : Fin 1) k (y 1)) 1 (by decide) (y 0),
    run4_fin X _ _ (fun k => at4_ix W2 (0 : Fin 1) (0 : Fin 1) k (y 1)) 2 (by decide) (y 0),
    run4_fin X _ _ (fun k => at4_ix W3 (0 : Fin 1) (0 : Fin 1) k (y 1)) 3 (by decide) (y 0)]
  unfold k2_pay3 k2_pay2
  simp only [View.ld_unit_lit _ W0 (show ∀ a, (![0,0,0,0] : Fin 4 → ℕ) a = 0 by decide), View.ld_unit_lit _ W1 (show ∀ a, (![0,0,0,0] : Fin 4 → ℕ) a = 0 by decide), View.ld_unit_lit _ W2 (show ∀ a, (![0,0,0,0] : Fin 4 → ℕ) a = 0 by decide), View.ld_unit_lit _ W3 (show ∀ a, (![0,0,0,0] : Fin 4 → ℕ) a = 0 by decide)]
  pointwise

/-- A block of the rows' gradient. -/
theorem out6_5_at (X : Vec Ideal S528x4096 .bf16) (W0 W1 W2 W3 : Vec Ideal S1x1x1024x1024 .bf16) (y : S528x1024.Idx) :
    out6_5 (F := Ideal) X W0 W1 W2 W3 y
      = run4 X (fun k => at4 (a := 1) (b := 1) (c := 1024) (d := 1024) W0 0 0 (y 1).val k) 0 (y 0).val
        + run4 X (fun k => at4 (a := 1) (b := 1) (c := 1024) (d := 1024) W1 0 0 (y 1).val k) 1 (y 0).val
        + run4 X (fun k => at4 (a := 1) (b := 1) (c := 1024) (d := 1024) W2 0 0 (y 1).val k) 2 (y 0).val
        + run4 X (fun k => at4 (a := 1) (b := 1) (c := 1024) (d := 1024) W3 0 0 (y 1).val k) 3 (y 0).val := by
  rw [run4_fin X (fun k => at4 (a := 1) (b := 1) (c := 1024) (d := 1024) W0 0 0 (y 1).val k) _ (fun k => at4_ix W0 (0 : Fin 1) (0 : Fin 1) (y 1) k) 0 (by decide) (y 0),
    run4_fin X (fun k => at4 (a := 1) (b := 1) (c := 1024) (d := 1024) W1 0 0 (y 1).val k) _ (fun k => at4_ix W1 (0 : Fin 1) (0 : Fin 1) (y 1) k) 1 (by decide) (y 0),
    run4_fin X (fun k => at4 (a := 1) (b := 1) (c := 1024) (d := 1024) W2 0 0 (y 1).val k) _ (fun k => at4_ix W2 (0 : Fin 1) (0 : Fin 1) (y 1) k) 2 (by decide) (y 0),
    run4_fin X (fun k => at4 (a := 1) (b := 1) (c := 1024) (d := 1024) W3 0 0 (y 1).val k) _ (fun k => at4_ix W3 (0 : Fin 1) (0 : Fin 1) (y 1) k) 3 (by decide) (y 0)]
  unfold out6_5 k6_pay1
  rw [View.canon_cons_unit_lit _ _ _ (by decide)]
  simp only [View.ld_unit_lit _ W0 (show ∀ a, (![0,0,0,0] : Fin 4 → ℕ) a = 0 by decide), View.ld_unit_lit _ W1 (show ∀ a, (![0,0,0,0] : Fin 4 → ℕ) a = 0 by decide), View.ld_unit_lit _ W2 (show ∀ a, (![0,0,0,0] : Fin 4 → ℕ) a = 0 by decide), View.ld_unit_lit _ W3 (show ∀ a, (![0,0,0,0] : Fin 4 → ℕ) a = 0 by decide)]
  pointwise

/-- A block of the second product normalised and added to what came in. -/
theorem out2_8_at (P H : Vec Ideal S528x1024 .f32) (G : Vec Ideal S1x1024 .f32) (y : S528x1024.Idx) :
    k2_pay1 (F := Ideal) P H G y = at2 (a := 528) (b := 1024) H (y 0).val (y 1).val
      + rms (fun k => at2 (a := 528) (b := 1024) P (y 0).val k) (P y) (at2 (a := 1) (b := 1024) G 0 (y 1).val) := by
  unfold rms
  rw [Finset.sum_range, ← eq_at2 H y, show at2 (a := 1) (b := 1024) G 0 (y 1).val = G (ix2 (0 : Fin 1) (y 1)) from at2_ix G (0 : Fin 1) (y 1)]
  simp only [fun k : Fin 1024 => at2_ix P (y 0) k]
  unfold k2_pay1
  pointwise

/-- A block of the second weight's gradient. -/
theorem out3_2_at (X W : Vec Ideal S4224x1024 .bf16) (y : S1024x1024.Idx) :
    out3_2 (F := Ideal) X W y = ∑ k ∈ Finset.range 4224, at2 (a := 4224) (b := 1024) X k (y 0).val * at2 (a := 4224) (b := 1024) W k (y 1).val := by
  rw [Finset.sum_range]
  simp only [fun k : Fin 4224 => at2_ix X k (y 0), fun k : Fin 4224 => at2_ix W k (y 1)]
  unfold out3_2 k3_pay1
  rw [View.canon_cons_unit_lit _ _ _ (by decide), View.ld_unit_lit _ _ (by decide), View.ld_unit_lit _ _ (by decide)]
  pointwise

/-- A block of the gradient before the square. -/
theorem out4_3_at (X : Vec Ideal S1056x1024 .bf16) (W : Vec Ideal S1x1x1024x1024 .bf16) (A : Vec Ideal S1056x1024 .bf16) (y : S1056x1024.Idx) :
    out4_3 (F := Ideal) X W A y = cTwo * max (at2 (a := 1056) (b := 1024) A (y 0).val (y 1).val) 0
      * ∑ k ∈ Finset.range 1024, at2 (a := 1056) (b := 1024) X (y 0).val k * at4 (a := 1) (b := 1) (c := 1024) (d := 1024) W 0 0 (y 1).val k := by
  rw [Finset.sum_range, ← eq_at2 A y, show (fun k : Fin 1024 => at2 (a := 1056) (b := 1024) X (y 0).val k.val * at4 (a := 1) (b := 1) (c := 1024) (d := 1024) W 0 0 (y 1).val k.val)
    = fun k => X (ix2 (y 0) k) * W (ix4 (0 : Fin 1) (0 : Fin 1) (y 1) k) from funext fun k => congrArg₂ (· * ·) (at2_ix X (y 0) k) (at4_ix W (0 : Fin 1) (0 : Fin 1) (y 1) k)]
  unfold out4_3 k4_pay1
  rw [View.canon_cons_unit_lit _ _ _ (by decide), View.ld_unit_lit _ _ (by decide), View.ld_unit_lit _ _ (by decide), View.ld_unit_lit _ _ (by decide)]
  pointwise

/-- A block of the first weight's gradient. -/
theorem out5_2_at (X W : Vec Ideal S4224x1024 .bf16) (y : S1x1024x1024.Idx) :
    out5_2 (F := Ideal) X W y = ∑ k ∈ Finset.range 4224, at2 (a := 4224) (b := 1024) X k (y 1).val * at2 (a := 4224) (b := 1024) W k (y 2).val := by
  rw [Finset.sum_range]
  simp only [fun k : Fin 4224 => at2_ix X k (y 1), fun k : Fin 4224 => at2_ix W k (y 2)]
  unfold out5_2 k5_pay1
  rw [View.canon_cons_unit_lit _ _ _ (by decide), View.ld_unit_lit _ _ (by decide), View.ld_unit_lit _ _ (by decide)]
  pointwise

end Cert.MlpIdeal.Value

end
-- ==== Proof.MlpSpec.lean ====
/- The feed-forward block and its backward pass as sums and products of numbers, an array being a function of its coordinates. -/
module

public import proofs.«01_k».proof.Proof.MlpTiles

@[expose] public section

noncomputable section

namespace Cert.Coord

open Idealize.ShloMosaic

/-- A vector at a number, zero outside. -/
def at1 {a : ℕ} (x : (⟨1, ![a]⟩ : Shape).Idx → EReal) (i : ℕ) : EReal := if h : i < a then x (ix1 ⟨i, h⟩) else 0

/-- Within the vector the reading is the entry. -/
theorem at1_ix {a : ℕ} (x : (⟨1, ![a]⟩ : Shape).Idx → EReal) (i : Fin a) : at1 x i.val = x (ix1 i) := by
  unfold at1
  rw [dif_pos i.isLt]

/-- A sum over the coordinates of an axis as a sum over the numbers below its size. -/
theorem sum_fin {n : ℕ} (f : Fin n → EReal) (g : ℕ → EReal) (h : ∀ k : Fin n, f k = g k.val) : ∑ k, f k = ∑ k ∈ Finset.range n, g k := by
  rw [Finset.sum_range]
  exact Finset.sum_congr rfl fun k _ => h k

end Cert.Coord

namespace Cert.Ffn

open Idealize.ShloMosaic Cert.MlpIdeal.Value

open Cert.Coord

variable (h : ℕ → ℕ → EReal) (g1 g2 : ℕ → EReal) (w1 w2 : ℕ → ℕ → EReal) (dd : ℕ → ℕ → EReal)

/-- The rows normalised. -/
def hn (i k : ℕ) : EReal := rms (h i) (h i k) (g1 k)

/-- The first product. -/
def U (i j : ℕ) : EReal := ∑ k ∈ Finset.range 1024, hn h g1 i k * w1 k j

/-- Its positive part squared. -/
def R (i j : ℕ) : EReal := max (U h g1 w1 i j) 0 * max (U h g1 w1 i j) 0

/-- The second product. -/
def D (i j : ℕ) : EReal := ∑ k ∈ Finset.range 4096, R h g1 w1 i k * w2 k j

/-- What comes out: the second product normalised, added to what came in. -/
def H (i j : ℕ) : EReal := h i j + rms (D h g1 w1 w2 i) (D h g1 w1 w2 i j) (g2 j)

/-- The gradient before the square. -/
def DA (i j : ℕ) : EReal := cTwo * max (U h g1 w1 i j) 0 * ∑ k ∈ Finset.range 1024, dd i k * w2 j k

/-- The second weight's gradient. -/
def DW2 (i j : ℕ) : EReal := ∑ r ∈ Finset.range 4224, R h g1 w1 r i * dd r j

/-- The first weight's gradient. -/
def DW1 (i j : ℕ) : EReal := ∑ r ∈ Finset.range 4224, hn h g1 r i * DA h g1 w1 w2 dd r j

/-- The gradient of the normalised rows. -/
def DX (i j : ℕ) : EReal := ∑ k ∈ Finset.range 4096, DA h g1 w1 w2 dd i k * w1 j k

end Cert.Ffn

end
-- ==== Proof.Prod.lean ====
/- The products of a step as sums over numbers, an array being a function of its coordinates. -/
module

public import proofs.«01_k».proof.Proof.MlpSpec

@[expose] public section

noncomputable section

namespace Cert.Prod

open Idealize.ShloMosaic Cert.Coord Cert.MlpIdeal.Value

/-- Rows times columns. -/
def nn (K : ℕ) (x w : ℕ → ℕ → EReal) (i j : ℕ) : EReal := ∑ k ∈ Finset.range K, x i k * w k j

/-- Rows times rows. -/
def nt (K : ℕ) (x w : ℕ → ℕ → EReal) (i j : ℕ) : EReal := ∑ k ∈ Finset.range K, x i k * w j k

/-- Columns times columns. -/
def tn (K : ℕ) (x w : ℕ → ℕ → EReal) (i j : ℕ) : EReal := ∑ k ∈ Finset.range K, x k i * w k j

/-- A product depends on the entries it reads. -/
theorem nn_congr (K : ℕ) (x x' w w' : ℕ → ℕ → EReal) (i j : ℕ) (hx : ∀ k, k < K → x i k = x' i k) (hw : ∀ k, k < K → w k j = w' k j) :
    nn K x w i j = nn K x' w' i j := by
  unfold nn
  exact Finset.sum_congr rfl fun k hk => by rw [hx k (Finset.mem_range.mp hk), hw k (Finset.mem_range.mp hk)]

/-- A product depends on the entries it reads. -/
theorem nt_congr (K : ℕ) (x x' w w' : ℕ → ℕ → EReal) (i j : ℕ) (hx : ∀ k, k < K → x i k = x' i k) (hw : ∀ k, k < K → w j k = w' j k) :
    nt K x w i j = nt K x' w' i j := by
  unfold nt
  exact Finset.sum_congr rfl fun k hk => by rw [hx k (Finset.mem_range.mp hk), hw k (Finset.mem_range.mp hk)]

/-- A product depends on the entries it reads. -/
theorem tn_congr (K : ℕ) (x x' w w' : ℕ → ℕ → EReal) (i j : ℕ) (hx : ∀ k, k < K → x k i = x' k i) (hw : ∀ k, k < K → w k j = w' k j) :
    tn K x w i j = tn K x' w' i j := by
  unfold tn
  exact Finset.sum_congr rfl fun k hk => by rw [hx k (Finset.mem_range.mp hk), hw k (Finset.mem_range.mp hk)]

/-- A sum over an axis as a product of rows and columns. -/
theorem nn_fin (K : ℕ) (f g : Fin K → EReal) (x w : ℕ → ℕ → EReal) (i j : ℕ) (hf : ∀ k : Fin K, f k = x i k.val) (hg : ∀ k : Fin K, g k = w k.val j) :
    ∑ k, f k * g k = nn K x w i j :=
  sum_fin _ _ fun k => congrArg₂ (· * ·) (hf k) (hg k)

/-- A sum over an axis as a product of rows and rows. -/
theorem nt_fin (K : ℕ) (f g : Fin K → EReal) (x w : ℕ → ℕ → EReal) (i j : ℕ) (hf : ∀ k : Fin K, f k = x i k.val) (hg : ∀ k : Fin K, g k = w j k.val) :
    ∑ k, f k * g k = nt K x w i j :=
  sum_fin _ _ fun k => congrArg₂ (· * ·) (hf k) (hg k)

/-- A sum over an axis as a product of columns and columns, the factors exchanged. -/
theorem tn_fin (K : ℕ) (f g : Fin K → EReal) (x w : ℕ → ℕ → EReal) (i j : ℕ) (hf : ∀ k : Fin K, f k = w k.val j) (hg : ∀ k : Fin K, g k = x k.val i) :
    ∑ k, f k * g k = tn K x w i j :=
  sum_fin _ _ fun k => (mul_comm _ _).trans (congrArg₂ (· * ·) (hg k) (hf k))

/-- Within an array built from numbers the reading is the number. -/
theorem at2_mk {a b : ℕ} (x : (⟨2, ![a, b]⟩ : Shape).Idx → EReal) (f : ℕ → ℕ → EReal) (h : ∀ i, x i = f (i 0).val (i 1).val) {i j : ℕ} (hi : i < a) (hj : j < b) :
    at2 x i j = f i j :=
  (dif_pos ⟨hi, hj⟩).trans (h _)

end Cert.Prod

end
-- ==== Proof.SmTiles.lean ====
/- What each call of the even layers' products computes, and what a block of it holds. -/
module

public import proofs.«01_k».proof.Proof.Gen.SmIdeal.Frame
public import proofs.«01_k».proof.Proof.Prod

@[expose] public section

set_option maxRecDepth 16384

noncomputable section

namespace Cert.SmIdeal.Value

open Cert.SmIdeal Cert.SmIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

open Cert.Prod
open Cert.MlpIdeal.Value (rms rms_congr at2_congr)

/-! ## What each region computes from the arrays it reads -/

/-- The rows normalised. -/
def G0 (h : Vec Ideal S4224x1024 .f32) (g : Vec Ideal S1x1024 .f32) : Vec Ideal S4224x1024 .bf16 := fun i =>
  rms (fun k => at2 (a := 4224) (b := 1024) h (i 0).val k) (at2 (a := 4224) (b := 1024) h (i 0).val (i 1).val) (at2 (a := 1) (b := 1024) g 0 (i 1).val)

/-- The attention rows' product, with the other product added. -/
def sum3 (x : Vec Ideal S4224x2048 .bf16) (w : Vec Ideal S2048x1024 .bf16) (a : Vec Ideal S4224x1024 .f32) (i j : ℕ) : EReal :=
  nn 2048 (at2 (a := 4224) (b := 2048) x) (at2 (a := 2048) (b := 1024) w) i j + at2 (a := 4224) (b := 1024) a i j

/-- The sum of the two products. -/
def G3a (x : Vec Ideal S4224x2048 .bf16) (w : Vec Ideal S2048x1024 .bf16) (a : Vec Ideal S4224x1024 .f32) : Vec Ideal S4224x1024 .f32 := fun i =>
  sum3 x w a (i 0).val (i 1).val

/-- The sum normalised and added to what came in. -/
def G3b (x : Vec Ideal S4224x2048 .bf16) (w : Vec Ideal S2048x1024 .bf16) (a h : Vec Ideal S4224x1024 .f32) (g : Vec Ideal S1x1024 .f32) : Vec Ideal S4224x1024 .f32 := fun i =>
  at2 (a := 4224) (b := 1024) h (i 0).val (i 1).val
    + rms (sum3 x w a (i 0).val) (sum3 x w a (i 0).val (i 1).val) (at2 (a := 1) (b := 1024) g 0 (i 1).val)

/-- The projections of the normalised rows. -/
def G1 (x : Vec Ideal S4224x1024 .bf16) (w : Vec Ideal S1024x3456 .bf16) : Vec Ideal S4224x3456 .f32 := fun i =>
  nn 1024 (at2 (a := 4224) (b := 1024) x) (at2 (a := 1024) (b := 3456) w) (i 0).val (i 1).val

/-- The product of the recurrence's rows. -/
def G2 (x : Vec Ideal S4224x1024 .bf16) (w : Vec Ideal S1024x1024 .bf16) : Vec Ideal S4224x1024 .f32 := fun i =>
  nn 1024 (at2 (a := 4224) (b := 1024) x) (at2 (a := 1024) (b := 1024) w) (i 0).val (i 1).val

/-- The gradient of the first half of the output weight. -/
def G4 (x : Vec Ideal S4224x1024 .bf16) (w : Vec Ideal S4224x1024 .bf16) : Vec Ideal S1024x1024 .f32 := fun i =>
  tn 4224 (at2 (a := 4224) (b := 1024) x) (at2 (a := 4224) (b := 1024) w) (i 0).val (i 1).val

/-- The gradient of the second half of the output weight, laid out. -/
def G5 (x : Vec Ideal S4224x2048 .bf16) (w : Vec Ideal S4224x1024 .bf16) : Vec Ideal S2048x1024 .f32 := fun i =>
  tn 4224 (at2 (a := 4224) (b := 2048) x) (at2 (a := 4224) (b := 1024) w) (i 0).val (i 1).val

/-- The gradient of the recurrence's rows. -/
def G6 (x : Vec Ideal S4224x1024 .bf16) (w : Vec Ideal S1024x1024 .bf16) : Vec Ideal S4224x1024 .f32 := fun i =>
  nt 1024 (at2 (a := 4224) (b := 1024) x) (at2 (a := 1024) (b := 1024) w) (i 0).val (i 1).val

/-- The gradient of the attention's rows, laid out. -/
def G7 (x : Vec Ideal S4224x1024 .bf16) (w : Vec Ideal S2048x1024 .bf16) : Vec Ideal S4224x2048 .bf16 := fun i =>
  nt 1024 (at2 (a := 4224) (b := 1024) x) (at2 (a := 2048) (b := 1024) w) (i 0).val (i 1).val

/-- The gradient of the projections' weight. -/
def G8 (x : Vec Ideal S4224x1024 .bf16) (w : Vec Ideal S4224x3456 .bf16) : Vec Ideal S1024x3456 .f32 := fun i =>
  tn 4224 (at2 (a := 4224) (b := 1024) x) (at2 (a := 4224) (b := 3456) w) (i 0).val (i 1).val

/-- The gradient of the normalised rows. -/
def G9 (x : Vec Ideal S4224x3456 .bf16) (w : Vec Ideal S1024x3456 .bf16) : Vec Ideal S4224x1024 .f32 := fun i =>
  nt 3456 (at2 (a := 4224) (b := 3456) x) (at2 (a := 1024) (b := 3456) w) (i 0).val (i 1).val

/-! ## What a point's body leaves, from the blocks it reads -/

/-- The rows of a block normalised. -/
theorem out0_2_at (X : Vec Ideal S528x1024 .f32) (G : Vec Ideal S1x1024 .f32) (y : S528x1024.Idx) :
    out0_2 (F := Ideal) X G y = rms (fun k => at2 (a := 528) (b := 1024) X (y 0).val k) (at2 (a := 528) (b := 1024) X (y 0).val (y 1).val)
      (at2 (a := 1) (b := 1024) G 0 (y 1).val) := by
  unfold rms
  rw [Finset.sum_range, at2_ix X (y 0) (y 1), show at2 (a := 1) (b := 1024) G 0 (y 1).val = G (ix2 (0 : Fin 1) (y 1)) from at2_ix G (0 : Fin 1) (y 1)]
  simp only [fun k : Fin 1024 => at2_ix X (y 0) k]
  unfold out0_2 k0_pay1
  rw [View.canon_cons_unit_lit _ _ _ (by decide), View.ld_unit_lit _ _ (by decide), View.ld_unit_lit _ _ (by decide)]
  pointwise

/-- A block of the sum of the two products. -/
theorem pay3_at (X : Vec Ideal S528x2048 .bf16) (W : Vec Ideal S2048x1024 .bf16) (A : Vec Ideal S528x1024 .f32) (y : S528x1024.Idx) :
    k3_pay1 (F := Ideal) X W A y = nn 2048 (at2 (a := 528) (b := 2048) X) (at2 (a := 2048) (b := 1024) W) (y 0).val (y 1).val
      + at2 (a := 528) (b := 1024) A (y 0).val (y 1).val := by
  unfold nn
  rw [Finset.sum_range, ← eq_at2 A y]
  simp only [fun k : Fin 2048 => at2_ix X (y 0) k, fun k : Fin 2048 => at2_ix W k (y 1)]
  unfold k3_pay1
  pointwise

/-- A block normalised and added to what came in. -/
theorem pay3b_at (X : Vec Ideal S528x2048 .bf16) (W : Vec Ideal S2048x1024 .bf16) (A H : Vec Ideal S528x1024 .f32) (G : Vec Ideal S1x1024 .f32) (y : S528x1024.Idx) :
    k3_pay2 (F := Ideal) X W A H G y = at2 (a := 528) (b := 1024) H (y 0).val (y 1).val
      + rms (fun k => at2 (a := 528) (b := 1024) (k3_pay1 (F := Ideal) X W A) (y 0).val k) (k3_pay1 (F := Ideal) X W A y) (at2 (a := 1) (b := 1024) G 0 (y 1).val) := by
  unfold rms
  rw [Finset.sum_range, ← eq_at2 H y, show at2 (a := 1) (b := 1024) G 0 (y 1).val = G (ix2 (0 : Fin 1) (y 1)) from at2_ix G (0 : Fin 1) (y 1)]
  simp only [fun k : Fin 1024 => at2_ix (k3_pay1 (F := Ideal) X W A) (y 0) k]
  unfold k3_pay2
  generalize k3_pay1 (F := Ideal) X W A = Q
  pointwise

/-- A block of it. -/
theorem out1_2_at (X : Vec Ideal S1056x1024 .bf16) (W : Vec Ideal S1024x1152 .bf16) (y : S1056x1152.Idx) :
    out1_2 (F := Ideal) X W y = nn 1024 (at2 (a := 1056) (b := 1024) X) (at2 (a := 1024) (b := 1152) W) (y 0).val (y 1).val := by
  unfold nn
  rw [Finset.sum_range]
  simp only [fun k : Fin 1024 => at2_ix X (y 0) k, fun k : Fin 1024 => at2_ix W k (y 1)]
  unfold out1_2 k1_pay1
  rw [View.canon_cons_unit_lit _ _ _ (by decide), View.ld_unit_lit _ _ (by decide), View.ld_unit_lit _ _ (by decide)]
  pointwise

/-- A block of it. -/
theorem out2_2_at (X : Vec Ideal S1056x1024 .bf16) (W : Vec Ideal S1024x1024 .bf16) (y : S1056x1024.Idx) :
    out2_2 (F := Ideal) X W y = nn 1024 (at2 (a := 1056) (b := 1024) X) (at2 (a := 1024) (b := 1024) W) (y 0).val (y 1).val := by
  unfold nn
  rw [Finset.sum_range]
  simp only [fun k : Fin 1024 => at2_ix X (y 0) k, fun k : Fin 1024 => at2_ix W k (y 1)]
  unfold out2_2 k2_pay1
  rw [View.canon_cons_unit_lit _ _ _ (by decide), View.ld_unit_lit _ _ (by decide), View.ld_unit_lit _ _ (by decide)]
  pointwise

/-- A block of it. -/
theorem out4_2_at (X : Vec Ideal S4224x1024 .bf16) (W : Vec Ideal S4224x1024 .bf16) (y : S1024x1024.Idx) :
    out4_2 (F := Ideal) X W y = tn 4224 (at2 (a := 4224) (b := 1024) X) (at2 (a := 4224) (b := 1024) W) (y 0).val (y 1).val := by
  unfold tn
  rw [Finset.sum_range]
  simp only [fun k : Fin 4224 => at2_ix X k (y 0), fun k : Fin 4224 => at2_ix W k (y 1)]
  unfold out4_2 k4_pay1
  rw [View.canon_cons_unit_lit _ _ _ (by decide), View.ld_unit_lit _ _ (by decide), View.ld_unit_lit _ _ (by decide)]
  pointwise

/-- A block of it. -/
theorem out5_2_at (X : Vec Ideal S4224x1024 .bf16) (W : Vec Ideal S4224x1024 .bf16) (y : S1024x1024.Idx) :
    out5_2 (F := Ideal) X W y = tn 4224 (at2 (a := 4224) (b := 1024) X) (at2 (a := 4224) (b := 1024) W) (y 0).val (y 1).val := by
  unfold tn
  rw [Finset.sum_range]
  simp only [fun k : Fin 4224 => at2_ix X k (y 0), fun k : Fin 4224 => at2_ix W k (y 1)]
  unfold out5_2 k5_pay1
  rw [View.canon_cons_unit_lit _ _ _ (by decide), View.ld_unit_lit _ _ (by decide), View.ld_unit_lit _ _ (by decide)]
  pointwise

/-- A block of it. -/
theorem out6_2_at (X : Vec Ideal S1056x1024 .bf16) (W : Vec Ideal S1024x1024 .bf16) (y : S1056x1024.Idx) :
    out6_2 (F := Ideal) X W y = nt 1024 (at2 (a := 1056) (b := 1024) X) (at2 (a := 1024) (b := 1024) W) (y 0).val (y 1).val := by
  unfold nt
  rw [Finset.sum_range]
  simp only [fun k : Fin 1024 => at2_ix X (y 0) k, fun k : Fin 1024 => at2_ix W (y 1) k]
  unfold out6_2 k6_pay1
  rw [View.canon_cons_unit_lit _ _ _ (by decide), View.ld_unit_lit _ _ (by decide), View.ld_unit_lit _ _ (by decide)]
  pointwise

/-- A block of it. -/
theorem out7_2_at (X : Vec Ideal S1056x1024 .bf16) (W : Vec Ideal S1024x1024 .bf16) (y : S1056x1024.Idx) :
    out7_2 (F := Ideal) X W y = nt 1024 (at2 (a := 1056) (b := 1024) X) (at2 (a := 1024) (b := 1024) W) (y 0).val (y 1).val := by
  unfold nt
  rw [Finset.sum_range]
  simp only [fun k : Fin 1024 => at2_ix X (y 0) k, fun k : Fin 1024 => at2_ix W (y 1) k]
  unfold out7_2 k7_pay1
  rw [View.canon_cons_unit_lit _ _ _ (by decide), View.ld_unit_lit _ _ (by decide), View.ld_unit_lit _ _ (by decide)]
  pointwise

/-- A block of it. -/
theorem out8_2_at (X : Vec Ideal S4224x1024 .bf16) (W : Vec Ideal S4224x1152 .bf16) (y : S1024x1152.Idx) :
    out8_2 (F := Ideal) X W y = tn 4224 (at2 (a := 4224) (b := 1024) X) (at2 (a := 4224) (b := 1152) W) (y 0).val (y 1).val := by
  unfold tn
  rw [Finset.sum_range]
  simp only [fun k : Fin 4224 => at2_ix X k (y 0), fun k : Fin 4224 => at2_ix W k (y 1)]
  unfold out8_2 k8_pay1
  rw [View.canon_cons_unit_lit _ _ _ (by decide), View.ld_unit_lit _ _ (by decide), View.ld_unit_lit _ _ (by decide)]
  pointwise

/-- A block of it. -/
theorem out9_2_at (X : Vec Ideal S528x3456 .bf16) (W : Vec Ideal S1024x3456 .bf16) (y : S528x1024.Idx) :
    out9_2 (F := Ideal) X W y = nt 3456 (at2 (a := 528) (b := 3456) X) (at2 (a := 1024) (b := 3456) W) (y 0).val (y 1).val := by
  unfold nt
  rw [Finset.sum_range]
  simp only [fun k : Fin 3456 => at2_ix X (y 0) k, fun k : Fin 3456 => at2_ix W (y 1) k]
  unfold out9_2 k9_pay1
  rw [View.canon_cons_unit_lit _ _ _ (by decide), View.ld_unit_lit _ _ (by decide), View.ld_unit_lit _ _ (by decide)]
  pointwise

end Cert.SmIdeal.Value

end
-- ==== Proof.SmBlocks.lean ====
/- Where the blocks of the even layers' products lie in their arrays. -/
module

public import proofs.«01_k».proof.Proof.Gen.SmIdeal.Frame
public import proofs.«01_k».proof.Proof.Blk
public import proofs.«01_k».proof.Proof.Prod

@[expose] public section

set_option maxRecDepth 16384

noncomputable section

namespace Cert.SmIdeal.Value

open Cert.SmIdeal Cert.SmIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable (V : (c : Dev nD) → (b : Ref sig .tc) → Buf (Elt Ideal) ((c : Thread nD τ).loc b)) (c : Dev nD)

/-! ## Region 0: where its blocks lie -/
/-- The block each window of region 0 is on at point `t`. -/
theorem idx0 : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by decide +kernel
/-- Window 0's block of region 0, read off its array. -/
theorem rd0_0 (t : Fin cfg0.N) (i0 i1 : ℕ) (b0 : i0 < 528) (b1 : i1 < 1024) :
    at2 (a := 528) (b := 1024) (iblk0 (F := Ideal) V c 0 t) i0 i1 = at2 (a := 4224) (b := 1024) (V c main_arg0) (t.val * 528 + i0) (0 * 1024 + i1) :=
  rd_of (V c main_arg0) _ b0 b1 fun y => emb_of win0_0 t y 0 1 (idx0 t).1

/-- Window 1's block of region 0, read off its array. -/
theorem rd0_1 (t : Fin cfg0.N) (i0 i1 : ℕ) (b0 : i0 < 1) (b1 : i1 < 1024) :
    at2 (a := 1) (b := 1024) (iblk0 (F := Ideal) V c 1 t) i0 i1 = at2 (a := 1) (b := 1024) (V c main_v4) (0 * 1 + i0) (0 * 1024 + i1) :=
  rd_of (V c main_v4) _ b0 b1 fun y => emb_of win0_1 t y 0 1 (idx0 t).2.1

/-- An index of window 2's block at point `t` as an index of its array. -/
theorem emb0_2 (t : Fin cfg0.N) (y : S528x1024.Idx) : ((win0_2.rect t).emb y 0).val = t.val * 528 + (y 0).val ∧ ((win0_2.rect t).emb y 1).val = 0 * 1024 + (y 1).val :=
  emb_of win0_2 t y 0 1 (idx0 t).2.2

/-- Every index of window 2's array lies in the block of the point its coordinates select. -/
theorem cov0_2 (i : S4224x1024.Idx) (t : Fin cfg0.N) (ht : t.val = (i 0).val / 528) : i ∈ ((cfg0.win 2).blk t).view.set := by
  have b0 : (i 0).val < 4224 := (i 0).isLt
  have b1 : (i 1).val < 1024 := (i 1).isLt
  exact cov_in (win0_2.rect t).emb i (emb0_2 t) (by omega) (by omega)

/-! ## Region 1: where its blocks lie -/
/-- The block each window of region 1 is on at point `t`. -/
theorem idx1 : ∀ t : Fin grid1.N, (win1_0.index t 0 = (t.val / 3) ∧ win1_0.index t 1 = 0) ∧ (win1_1.index t 0 = 0 ∧ win1_1.index t 1 = (t.val % 3)) ∧ (win1_2.index t 0 = (t.val / 3) ∧ win1_2.index t 1 = (t.val % 3)) := by decide +kernel
/-- Window 0's block of region 1, read off its array. -/
theorem rd1_0 (t : Fin cfg1.N) (i0 i1 : ℕ) (b0 : i0 < 1056) (b1 : i1 < 1024) :
    at2 (a := 1056) (b := 1024) (iblk1 (F := Ideal) V c 0 t) i0 i1 = at2 (a := 4224) (b := 1024) (V c main_v27) ((t.val / 3) * 1056 + i0) (0 * 1024 + i1) :=
  rd_of (V c main_v27) _ b0 b1 fun y => emb_of win1_0 t y 0 1 (idx1 t).1

/-- Window 1's block of region 1, read off its array. -/
theorem rd1_1 (t : Fin cfg1.N) (i0 i1 : ℕ) (b0 : i0 < 1024) (b1 : i1 < 1152) :
    at2 (a := 1024) (b := 1152) (iblk1 (F := Ideal) V c 1 t) i0 i1 = at2 (a := 1024) (b := 3456) (V c main_v15) (0 * 1024 + i0) ((t.val % 3) * 1152 + i1) :=
  rd_of (V c main_v15) _ b0 b1 fun y => emb_of win1_1 t y 0 1 (idx1 t).2.1

/-- An index of window 2's block at point `t` as an index of its array. -/
theorem emb1_2 (t : Fin cfg1.N) (y : S1056x1152.Idx) : ((win1_2.rect t).emb y 0).val = (t.val / 3) * 1056 + (y 0).val ∧ ((win1_2.rect t).emb y 1).val = (t.val % 3) * 1152 + (y 1).val :=
  emb_of win1_2 t y 0 1 (idx1 t).2.2

/-- Every index of window 2's array lies in the block of the point its coordinates select. -/
theorem cov1_2 (i : S4224x3456.Idx) (t : Fin cfg1.N) (ht : t.val = (i 0).val / 1056 * 3 + (i 1).val / 1152) : i ∈ ((cfg1.win 2).blk t).view.set := by
  have b0 : (i 0).val < 4224 := (i 0).isLt
  have b1 : (i 1).val < 3456 := (i 1).isLt
  exact cov_in (win1_2.rect t).emb i (emb1_2 t) (by omega) (by omega)

/-! ## Region 2: where its blocks lie -/
/-- The block each window of region 2 is on at point `t`. -/
theorem idx2 : ∀ t : Fin grid2.N, (win2_0.index t 0 = t.val ∧ win2_0.index t 1 = 0) ∧ (win2_1.index t 0 = 0 ∧ win2_1.index t 1 = 0) ∧ (win2_2.index t 0 = t.val ∧ win2_2.index t 1 = 0) := by decide +kernel
/-- Window 0's block of region 2, read off its array. -/
theorem rd2_0 (t : Fin cfg2.N) (i0 i1 : ℕ) (b0 : i0 < 1056) (b1 : i1 < 1024) :
    at2 (a := 1056) (b := 1024) (iblk2 (F := Ideal) V c 0 t) i0 i1 = at2 (a := 4224) (b := 1024) (V c main_v25) (t.val * 1056 + i0) (0 * 1024 + i1) :=
  rd_of (V c main_v25) _ b0 b1 fun y => emb_of win2_0 t y 0 1 (idx2 t).1

/-- Window 1's block of region 2, read off its array. -/
theorem rd2_1 (t : Fin cfg2.N) (i0 i1 : ℕ) (b0 : i0 < 1024) (b1 : i1 < 1024) :
    at2 (a := 1024) (b := 1024) (iblk2 (F := Ideal) V c 1 t) i0 i1 = at2 (a := 1024) (b := 1024) (V c main_v17) (0 * 1024 + i0) (0 * 1024 + i1) :=
  rd_of (V c main_v17) _ b0 b1 fun y => emb_of win2_1 t y 0 1 (idx2 t).2.1

/-- An index of window 2's block at point `t` as an index of its array. -/
theorem emb2_2 (t : Fin cfg2.N) (y : S1056x1024.Idx) : ((win2_2.rect t).emb y 0).val = t.val * 1056 + (y 0).val ∧ ((win2_2.rect t).emb y 1).val = 0 * 1024 + (y 1).val :=
  emb_of win2_2 t y 0 1 (idx2 t).2.2

/-- Every index of window 2's array lies in the block of the point its coordinates select. -/
theorem cov2_2 (i : S4224x1024.Idx) (t : Fin cfg2.N) (ht : t.val = (i 0).val / 1056) : i ∈ ((cfg2.win 2).blk t).view.set := by
  have b0 : (i 0).val < 4224 := (i 0).isLt
  have b1 : (i 1).val < 1024 := (i 1).isLt
  exact cov_in (win2_2.rect t).emb i (emb2_2 t) (by omega) (by omega)

/-! ## Region 3: where its blocks lie -/
/-- The block each window of region 3 is on at point `t`. -/
theorem idx3 : ∀ t : Fin grid3.N, (win3_0.index t 0 = t.val ∧ win3_0.index t 1 = 0) ∧ (win3_1.index t 0 = 0 ∧ win3_1.index t 1 = 0) ∧ (win3_2.index t 0 = t.val ∧ win3_2.index t 1 = 0) ∧ (win3_3.index t 0 = t.val ∧ win3_3.index t 1 = 0) ∧ (win3_4.index t 0 = 0 ∧ win3_4.index t 1 = 0) ∧ (win3_5.index t 0 = t.val ∧ win3_5.index t 1 = 0) ∧ (win3_6.index t 0 = t.val ∧ win3_6.index t 1 = 0) := by decide +kernel
/-- Window 0's block of region 3, read off its array. -/
theorem rd3_0 (t : Fin cfg3.N) (i0 i1 : ℕ) (b0 : i0 < 528) (b1 : i1 < 2048) :
    at2 (a := 528) (b := 2048) (iblk3 (F := Ideal) V c 0 t) i0 i1 = at2 (a := 4224) (b := 2048) (V c main_v24) (t.val * 528 + i0) (0 * 2048 + i1) :=
  rd_of (V c main_v24) _ b0 b1 fun y => emb_of win3_0 t y 0 1 (idx3 t).1

/-- Window 1's block of region 3, read off its array. -/
theorem rd3_1 (t : Fin cfg3.N) (i0 i1 : ℕ) (b0 : i0 < 2048) (b1 : i1 < 1024) :
    at2 (a := 2048) (b := 1024) (iblk3 (F := Ideal) V c 1 t) i0 i1 = at2 (a := 2048) (b := 1024) (V c main_v20) (0 * 2048 + i0) (0 * 1024 + i1) :=
  rd_of (V c main_v20) _ b0 b1 fun y => emb_of win3_1 t y 0 1 (idx3 t).2.1

/-- Window 2's block of region 3, read off its array. -/
theorem rd3_2 (t : Fin cfg3.N) (i0 i1 : ℕ) (b0 : i0 < 528) (b1 : i1 < 1024) :
    at2 (a := 528) (b := 1024) (iblk3 (F := Ideal) V c 2 t) i0 i1 = at2 (a := 4224) (b := 1024) (V c main_v29) (t.val * 528 + i0) (0 * 1024 + i1) :=
  rd_of (V c main_v29) _ b0 b1 fun y => emb_of win3_2 t y 0 1 (idx3 t).2.2.1

/-- Window 3's block of region 3, read off its array. -/
theorem rd3_3 (t : Fin cfg3.N) (i0 i1 : ℕ) (b0 : i0 < 528) (b1 : i1 < 1024) :
    at2 (a := 528) (b := 1024) (iblk3 (F := Ideal) V c 3 t) i0 i1 = at2 (a := 4224) (b := 1024) (V c main_arg0) (t.val * 528 + i0) (0 * 1024 + i1) :=
  rd_of (V c main_arg0) _ b0 b1 fun y => emb_of win3_3 t y 0 1 (idx3 t).2.2.2.1

/-- Window 4's block of region 3, read off its array. -/
theorem rd3_4 (t : Fin cfg3.N) (i0 i1 : ℕ) (b0 : i0 < 1) (b1 : i1 < 1024) :
    at2 (a := 1) (b := 1024) (iblk3 (F := Ideal) V c 4 t) i0 i1 = at2 (a := 1) (b := 1024) (V c main_v5) (0 * 1 + i0) (0 * 1024 + i1) :=
  rd_of (V c main_v5) _ b0 b1 fun y => emb_of win3_4 t y 0 1 (idx3 t).2.2.2.2.1

/-- An index of window 5's block at point `t` as an index of its array. -/
theorem emb3_5 (t : Fin cfg3.N) (y : S528x1024.Idx) : ((win3_5.rect t).emb y 0).val = t.val * 528 + (y 0).val ∧ ((win3_5.rect t).emb y 1).val = 0 * 1024 + (y 1).val :=
  emb_of win3_5 t y 0 1 (idx3 t).2.2.2.2.2.1

/-- Every index of window 5's array lies in the block of the point its coordinates select. -/
theorem cov3_5 (i : S4224x1024.Idx) (t : Fin cfg3.N) (ht : t.val = (i 0).val / 528) : i ∈ ((cfg3.win 5).blk t).view.set := by
  have b0 : (i 0).val < 4224 := (i 0).isLt
  have b1 : (i 1).val < 1024 := (i 1).isLt
  exact cov_in (win3_5.rect t).emb i (emb3_5 t) (by omega) (by omega)

/-- An index of window 6's block at point `t` as an index of its array. -/
theorem emb3_6 (t : Fin cfg3.N) (y : S528x1024.Idx) : ((win3_6.rect t).emb y 0).val = t.val * 528 + (y 0).val ∧ ((win3_6.rect t).emb y 1).val = 0 * 1024 + (y 1).val :=
  emb_of win3_6 t y 0 1 (idx3 t).2.2.2.2.2.2

/-- Every index of window 6's array lies in the block of the point its coordinates select. -/
theorem cov3_6 (i : S4224x1024.Idx) (t : Fin cfg3.N) (ht : t.val = (i 0).val / 528) : i ∈ ((cfg3.win 6).blk t).view.set := by
  have b0 : (i 0).val < 4224 := (i 0).isLt
  have b1 : (i 1).val < 1024 := (i 1).isLt
  exact cov_in (win3_6.rect t).emb i (emb3_6 t) (by omega) (by omega)

/-! ## Region 4: where its blocks lie -/
/-- The block each window of region 4 is on at point `t`. -/
theorem idx4 : ∀ t : Fin grid4.N, (win4_0.index t 0 = 0 ∧ win4_0.index t 1 = 0) ∧ (win4_1.index t 0 = 0 ∧ win4_1.index t 1 = 0) ∧ (win4_2.index t 0 = 0 ∧ win4_2.index t 1 = 0) := by decide +kernel
/-- Window 0's block of region 4, read off its array. -/
theorem rd4_0 (t : Fin cfg4.N) (i0 i1 : ℕ) (b0 : i0 < 4224) (b1 : i1 < 1024) :
    at2 (a := 4224) (b := 1024) (iblk4 (F := Ideal) V c 0 t) i0 i1 = at2 (a := 4224) (b := 1024) (V c main_v25) (0 * 4224 + i0) (0 * 1024 + i1) :=
  rd_of (V c main_v25) _ b0 b1 fun y => emb_of win4_0 t y 0 1 (idx4 t).1

/-- Window 1's block of region 4, read off its array. -/
theorem rd4_1 (t : Fin cfg4.N) (i0 i1 : ℕ) (b0 : i0 < 4224) (b1 : i1 < 1024) :
    at2 (a := 4224) (b := 1024) (iblk4 (F := Ideal) V c 1 t) i0 i1 = at2 (a := 4224) (b := 1024) (V c main_v26) (0 * 4224 + i0) (0 * 1024 + i1) :=
  rd_of (V c main_v26) _ b0 b1 fun y => emb_of win4_1 t y 0 1 (idx4 t).2.1

/-- An index of window 2's block at point `t` as an index of its array. -/
theorem emb4_2 (t : Fin cfg4.N) (y : S1024x1024.Idx) : ((win4_2.rect t).emb y 0).val = 0 * 1024 + (y 0).val ∧ ((win4_2.rect t).emb y 1).val = 0 * 1024 + (y 1).val :=
  emb_of win4_2 t y 0 1 (idx4 t).2.2

/-- Every index of window 2's array lies in the block of the point its coordinates select. -/
theorem cov4_2 (i : S1024x1024.Idx) (t : Fin cfg4.N) (ht : t.val = (i 0).val / 1024) : i ∈ ((cfg4.win 2).blk t).view.set := by
  have b0 : (i 0).val < 1024 := (i 0).isLt
  have b1 : (i 1).val < 1024 := (i 1).isLt
  exact cov_in (win4_2.rect t).emb i (emb4_2 t) (by omega) (by omega)

/-! ## Region 5: where its blocks lie -/
/-- The block each window of region 5 is on at point `t`. -/
theorem idx5 : ∀ t : Fin grid5.N, (win5_0.index t 0 = 0 ∧ win5_0.index t 1 = t.val) ∧ (win5_1.index t 0 = 0 ∧ win5_1.index t 1 = 0) ∧ (win5_2.index t 0 = t.val ∧ win5_2.index t 1 = 0) := by decide +kernel
/-- Window 0's block of region 5, read off its array. -/
theorem rd5_0 (t : Fin cfg5.N) (i0 i1 : ℕ) (b0 : i0 < 4224) (b1 : i1 < 1024) :
    at2 (a := 4224) (b := 1024) (iblk5 (F := Ideal) V c 0 t) i0 i1 = at2 (a := 4224) (b := 2048) (V c main_v24) (0 * 4224 + i0) (t.val * 1024 + i1) :=
  rd_of (V c main_v24) _ b0 b1 fun y => emb_of win5_0 t y 0 1 (idx5 t).1

/-- Window 1's block of region 5, read off its array. -/
theorem rd5_1 (t : Fin cfg5.N) (i0 i1 : ℕ) (b0 : i0 < 4224) (b1 : i1 < 1024) :
    at2 (a := 4224) (b := 1024) (iblk5 (F := Ideal) V c 1 t) i0 i1 = at2 (a := 4224) (b := 1024) (V c main_v26) (0 * 4224 + i0) (0 * 1024 + i1) :=
  rd_of (V c main_v26) _ b0 b1 fun y => emb_of win5_1 t y 0 1 (idx5 t).2.1

/-- An index of window 2's block at point `t` as an index of its array. -/
theorem emb5_2 (t : Fin cfg5.N) (y : S1024x1024.Idx) : ((win5_2.rect t).emb y 0).val = t.val * 1024 + (y 0).val ∧ ((win5_2.rect t).emb y 1).val = 0 * 1024 + (y 1).val :=
  emb_of win5_2 t y 0 1 (idx5 t).2.2

/-- Every index of window 2's array lies in the block of the point its coordinates select. -/
theorem cov5_2 (i : S2048x1024.Idx) (t : Fin cfg5.N) (ht : t.val = (i 0).val / 1024) : i ∈ ((cfg5.win 2).blk t).view.set := by
  have b0 : (i 0).val < 2048 := (i 0).isLt
  have b1 : (i 1).val < 1024 := (i 1).isLt
  exact cov_in (win5_2.rect t).emb i (emb5_2 t) (by omega) (by omega)

/-! ## Region 6: where its blocks lie -/
/-- The block each window of region 6 is on at point `t`. -/
theorem idx6 : ∀ t : Fin grid6.N, (win6_0.index t 0 = t.val ∧ win6_0.index t 1 = 0) ∧ (win6_1.index t 0 = 0 ∧ win6_1.index t 1 = 0) ∧ (win6_2.index t 0 = t.val ∧ win6_2.index t 1 = 0) := by decide +kernel
/-- Window 0's block of region 6, read off its array. -/
theorem rd6_0 (t : Fin cfg6.N) (i0 i1 : ℕ) (b0 : i0 < 1056) (b1 : i1 < 1024) :
    at2 (a := 1056) (b := 1024) (iblk6 (F := Ideal) V c 0 t) i0 i1 = at2 (a := 4224) (b := 1024) (V c main_v26) (t.val * 1056 + i0) (0 * 1024 + i1) :=
  rd_of (V c main_v26) _ b0 b1 fun y => emb_of win6_0 t y 0 1 (idx6 t).1

/-- Window 1's block of region 6, read off its array. -/
theorem rd6_1 (t : Fin cfg6.N) (i0 i1 : ℕ) (b0 : i0 < 1024) (b1 : i1 < 1024) :
    at2 (a := 1024) (b := 1024) (iblk6 (F := Ideal) V c 1 t) i0 i1 = at2 (a := 1024) (b := 1024) (V c main_v17) (0 * 1024 + i0) (0 * 1024 + i1) :=
  rd_of (V c main_v17) _ b0 b1 fun y => emb_of win6_1 t y 0 1 (idx6 t).2.1

/-- An index of window 2's block at point `t` as an index of its array. -/
theorem emb6_2 (t : Fin cfg6.N) (y : S1056x1024.Idx) : ((win6_2.rect t).emb y 0).val = t.val * 1056 + (y 0).val ∧ ((win6_2.rect t).emb y 1).val = 0 * 1024 + (y 1).val :=
  emb_of win6_2 t y 0 1 (idx6 t).2.2

/-- Every index of window 2's array lies in the block of the point its coordinates select. -/
theorem cov6_2 (i : S4224x1024.Idx) (t : Fin cfg6.N) (ht : t.val = (i 0).val / 1056) : i ∈ ((cfg6.win 2).blk t).view.set := by
  have b0 : (i 0).val < 4224 := (i 0).isLt
  have b1 : (i 1).val < 1024 := (i 1).isLt
  exact cov_in (win6_2.rect t).emb i (emb6_2 t) (by omega) (by omega)

/-! ## Region 7: where its blocks lie -/
/-- The block each window of region 7 is on at point `t`. -/
theorem idx7 : ∀ t : Fin grid7.N, (win7_0.index t 0 = (t.val / 2) ∧ win7_0.index t 1 = 0) ∧ (win7_1.index t 0 = (t.val % 2) ∧ win7_1.index t 1 = 0) ∧ (win7_2.index t 0 = (t.val / 2) ∧ win7_2.index t 1 = (t.val % 2)) := by decide +kernel
/-- Window 0's block of region 7, read off its array. -/
theorem rd7_0 (t : Fin cfg7.N) (i0 i1 : ℕ) (b0 : i0 < 1056) (b1 : i1 < 1024) :
    at2 (a := 1056) (b := 1024) (iblk7 (F := Ideal) V c 0 t) i0 i1 = at2 (a := 4224) (b := 1024) (V c main_v26) ((t.val / 2) * 1056 + i0) (0 * 1024 + i1) :=
  rd_of (V c main_v26) _ b0 b1 fun y => emb_of win7_0 t y 0 1 (idx7 t).1

/-- Window 1's block of region 7, read off its array. -/
theorem rd7_1 (t : Fin cfg7.N) (i0 i1 : ℕ) (b0 : i0 < 1024) (b1 : i1 < 1024) :
    at2 (a := 1024) (b := 1024) (iblk7 (F := Ideal) V c 1 t) i0 i1 = at2 (a := 2048) (b := 1024) (V c main_v20) ((t.val % 2) * 1024 + i0) (0 * 1024 + i1) :=
  rd_of (V c main_v20) _ b0 b1 fun y => emb_of win7_1 t y 0 1 (idx7 t).2.1

/-- An index of window 2's block at point `t` as an index of its array. -/
theorem emb7_2 (t : Fin cfg7.N) (y : S1056x1024.Idx) : ((win7_2.rect t).emb y 0).val = (t.val / 2) * 1056 + (y 0).val ∧ ((win7_2.rect t).emb y 1).val = (t.val % 2) * 1024 + (y 1).val :=
  emb_of win7_2 t y 0 1 (idx7 t).2.2

/-- Every index of window 2's array lies in the block of the point its coordinates select. -/
theorem cov7_2 (i : S4224x2048.Idx) (t : Fin cfg7.N) (ht : t.val = (i 0).val / 1056 * 2 + (i 1).val / 1024) : i ∈ ((cfg7.win 2).blk t).view.set := by
  have b0 : (i 0).val < 4224 := (i 0).isLt
  have b1 : (i 1).val < 2048 := (i 1).isLt
  exact cov_in (win7_2.rect t).emb i (emb7_2 t) (by omega) (by omega)

/-! ## Region 8: where its blocks lie -/
/-- The block each window of region 8 is on at point `t`. -/
theorem idx8 : ∀ t : Fin grid8.N, (win8_0.index t 0 = 0 ∧ win8_0.index t 1 = 0) ∧ (win8_1.index t 0 = 0 ∧ win8_1.index t 1 = t.val) ∧ (win8_2.index t 0 = 0 ∧ win8_2.index t 1 = t.val) := by decide +kernel
/-- Window 0's block of region 8, read off its array. -/
theorem rd8_0 (t : Fin cfg8.N) (i0 i1 : ℕ) (b0 : i0 < 4224) (b1 : i1 < 1024) :
    at2 (a := 4224) (b := 1024) (iblk8 (F := Ideal) V c 0 t) i0 i1 = at2 (a := 4224) (b := 1024) (V c main_v27) (0 * 4224 + i0) (0 * 1024 + i1) :=
  rd_of (V c main_v27) _ b0 b1 fun y => emb_of win8_0 t y 0 1 (idx8 t).1

/-- Window 1's block of region 8, read off its array. -/
theorem rd8_1 (t : Fin cfg8.N) (i0 i1 : ℕ) (b0 : i0 < 4224) (b1 : i1 < 1152) :
    at2 (a := 4224) (b := 1152) (iblk8 (F := Ideal) V c 1 t) i0 i1 = at2 (a := 4224) (b := 3456) (V c main_v38) (0 * 4224 + i0) (t.val * 1152 + i1) :=
  rd_of (V c main_v38) _ b0 b1 fun y => emb_of win8_1 t y 0 1 (idx8 t).2.1

/-- An index of window 2's block at point `t` as an index of its array. -/
theorem emb8_2 (t : Fin cfg8.N) (y : S1024x1152.Idx) : ((win8_2.rect t).emb y 0).val = 0 * 1024 + (y 0).val ∧ ((win8_2.rect t).emb y 1).val = t.val * 1152 + (y 1).val :=
  emb_of win8_2 t y 0 1 (idx8 t).2.2

/-- Every index of window 2's array lies in the block of the point its coordinates select. -/
theorem cov8_2 (i : S1024x3456.Idx) (t : Fin cfg8.N) (ht : t.val = (i 1).val / 1152) : i ∈ ((cfg8.win 2).blk t).view.set := by
  have b0 : (i 0).val < 1024 := (i 0).isLt
  have b1 : (i 1).val < 3456 := (i 1).isLt
  exact cov_in (win8_2.rect t).emb i (emb8_2 t) (by omega) (by omega)

/-! ## Region 9: where its blocks lie -/
/-- The block each window of region 9 is on at point `t`. -/
theorem idx9 : ∀ t : Fin grid9.N, (win9_0.index t 0 = t.val ∧ win9_0.index t 1 = 0) ∧ (win9_1.index t 0 = 0 ∧ win9_1.index t 1 = 0) ∧ (win9_2.index t 0 = t.val ∧ win9_2.index t 1 = 0) := by decide +kernel
/-- Window 0's block of region 9, read off its array. -/
theorem rd9_0 (t : Fin cfg9.N) (i0 i1 : ℕ) (b0 : i0 < 528) (b1 : i1 < 3456) :
    at2 (a := 528) (b := 3456) (iblk9 (F := Ideal) V c 0 t) i0 i1 = at2 (a := 4224) (b := 3456) (V c main_v38) (t.val * 528 + i0) (0 * 3456 + i1) :=
  rd_of (V c main_v38) _ b0 b1 fun y => emb_of win9_0 t y 0 1 (idx9 t).1

/-- Window 1's block of region 9, read off its array. -/
theorem rd9_1 (t : Fin cfg9.N) (i0 i1 : ℕ) (b0 : i0 < 1024) (b1 : i1 < 3456) :
    at2 (a := 1024) (b := 3456) (iblk9 (F := Ideal) V c 1 t) i0 i1 = at2 (a := 1024) (b := 3456) (V c main_v15) (0 * 1024 + i0) (0 * 3456 + i1) :=
  rd_of (V c main_v15) _ b0 b1 fun y => emb_of win9_1 t y 0 1 (idx9 t).2.1

/-- An index of window 2's block at point `t` as an index of its array. -/
theorem emb9_2 (t : Fin cfg9.N) (y : S528x1024.Idx) : ((win9_2.rect t).emb y 0).val = t.val * 528 + (y 0).val ∧ ((win9_2.rect t).emb y 1).val = 0 * 1024 + (y 1).val :=
  emb_of win9_2 t y 0 1 (idx9 t).2.2

/-- Every index of window 2's array lies in the block of the point its coordinates select. -/
theorem cov9_2 (i : S4224x1024.Idx) (t : Fin cfg9.N) (ht : t.val = (i 0).val / 528) : i ∈ ((cfg9.win 2).blk t).view.set := by
  have b0 : (i 0).val < 4224 := (i 0).isLt
  have b1 : (i 1).val < 1024 := (i 1).isLt
  exact cov_in (win9_2.rect t).emb i (emb9_2 t) (by omega) (by omega)

end Cert.SmIdeal.Value

end
-- ==== Proof.SmFinal.lean ====
/- What each call of the even layers' products leaves in its arrays. -/
module

public import proofs.«01_k».proof.Proof.SmTiles
public import proofs.«01_k».proof.Proof.SmBlocks

@[expose] public section

set_option maxRecDepth 16384

noncomputable section

namespace Cert.SmIdeal.Value

open Cert.SmIdeal Cert.SmIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

open Cert.Prod
open Cert.MlpIdeal.Value (rms rms_congr at2_congr)

/-! ## The arrays the regions leave -/

variable (V : (c : Dev nD) → (b : Ref sig .tc) → Buf (Elt Ideal) ((c : Thread nD τ).loc b)) (c : Dev nD)

/-- The rows normalised. -/
theorem final0_2 : (dat0 (F := Ideal) V c).arrAt 2 cfg0.N = G0 (V c main_arg0) (V c main_v4) := by
  refine (dat0 (F := Ideal) V c).arrAt_eq_of_cover 2 _ (fun t _ => ?_)
    (fun i => ⟨⟨(i 0).val / 528, by have hN := N_0; have b0 : (i 0).val < 4224 := (i 0).isLt; have b1 : (i 1).val < 1024 := (i 1).isLt; show _ < grid0.N; omega⟩, flush0_2 _, cov0_2 i _ rfl⟩)
  refine (after0_2 (F := Ideal) V c t).trans (funext fun y => ?_)
  obtain ⟨e0, e1⟩ := emb0_2 t y
  have ht : t.val < 8 := lt_of_lt_of_eq t.isLt N_0
  have y0 : (y 0).val < 528 := (y 0).isLt
  have y1 : (y 1).val < 1024 := (y 1).isLt
  show _ = G0 (V c main_arg0) (V c main_v4) ((win0_2.rect t).emb y)
  unfold G0
  rw [out0_2_at, e0, e1, rd0_0 V c t _ _ y0 y1, rd0_1 V c t 0 _ (by omega) y1]
  have z : (0 : ℕ) * 1024 + (y 1).val = (y 1).val := by omega
  rw [z]
  exact rms_congr _ _ (fun k hk => by beta_reduce; rw [rd0_0 V c t _ k y0 hk, show (0 : ℕ) * 1024 + k = k by omega]) _ _

/-- The projections of the normalised rows. -/
theorem final1_2 : (dat1 (F := Ideal) V c).arrAt 2 cfg1.N = G1 (V c main_v27) (V c main_v15) := by
  refine (dat1 (F := Ideal) V c).arrAt_eq_of_cover 2 _ (fun t _ => ?_)
    (fun i => ⟨⟨(i 0).val / 1056 * 3 + (i 1).val / 1152, by have hN := N_1; have b0 : (i 0).val < 4224 := (i 0).isLt; have b1 : (i 1).val < 3456 := (i 1).isLt; show _ < grid1.N; omega⟩, flush1_2 _, cov1_2 i _ rfl⟩)
  refine (after1_2 (F := Ideal) V c t).trans (funext fun y => ?_)
  obtain ⟨e0, e1⟩ := emb1_2 t y
  have ht : t.val < 12 := lt_of_lt_of_eq t.isLt N_1
  have y0 : (y 0).val < 1056 := (y 0).isLt
  have y1 : (y 1).val < 1152 := (y 1).isLt
  show _ = G1 (V c main_v27) (V c main_v15) ((win1_2.rect t).emb y)
  unfold G1
  rw [out1_2_at, e0, e1]
  unfold nn
  refine Finset.sum_congr rfl fun k hk => ?_
  have hk := Finset.mem_range.mp hk
  rw [rd1_0 V c t _ k y0 hk, rd1_1 V c t k _ hk y1]
  exact congrArg₂ (· * ·) (at2_congr _ (by omega) (by omega)) (at2_congr _ (by omega) (by omega))

/-- The product of the recurrence's rows. -/
theorem final2_2 : (dat2 (F := Ideal) V c).arrAt 2 cfg2.N = G2 (V c main_v25) (V c main_v17) := by
  refine (dat2 (F := Ideal) V c).arrAt_eq_of_cover 2 _ (fun t _ => ?_)
    (fun i => ⟨⟨(i 0).val / 1056, by have hN := N_2; have b0 : (i 0).val < 4224 := (i 0).isLt; have b1 : (i 1).val < 1024 := (i 1).isLt; show _ < grid2.N; omega⟩, flush2_2 _, cov2_2 i _ rfl⟩)
  refine (after2_2 (F := Ideal) V c t).trans (funext fun y => ?_)
  obtain ⟨e0, e1⟩ := emb2_2 t y
  have ht : t.val < 4 := lt_of_lt_of_eq t.isLt N_2
  have y0 : (y 0).val < 1056 := (y 0).isLt
  have y1 : (y 1).val < 1024 := (y 1).isLt
  show _ = G2 (V c main_v25) (V c main_v17) ((win2_2.rect t).emb y)
  unfold G2
  rw [out2_2_at, e0, e1]
  unfold nn
  refine Finset.sum_congr rfl fun k hk => ?_
  have hk := Finset.mem_range.mp hk
  rw [rd2_0 V c t _ k y0 hk, rd2_1 V c t k _ hk y1]
  exact congrArg₂ (· * ·) (at2_congr _ (by omega) (by omega)) (at2_congr _ (by omega) (by omega))

/-- The gradient of the first half of the output weight. -/
theorem final4_2 : (dat4 (F := Ideal) V c).arrAt 2 cfg4.N = G4 (V c main_v25) (V c main_v26) := by
  refine (dat4 (F := Ideal) V c).arrAt_eq_of_cover 2 _ (fun t _ => ?_)
    (fun i => ⟨⟨(i 0).val / 1024, by have hN := N_4; have b0 : (i 0).val < 1024 := (i 0).isLt; have b1 : (i 1).val < 1024 := (i 1).isLt; show _ < grid4.N; omega⟩, flush4_2 _, cov4_2 i _ rfl⟩)
  refine (after4_2 (F := Ideal) V c t).trans (funext fun y => ?_)
  obtain ⟨e0, e1⟩ := emb4_2 t y
  have ht : t.val < 1 := lt_of_lt_of_eq t.isLt N_4
  have y0 : (y 0).val < 1024 := (y 0).isLt
  have y1 : (y 1).val < 1024 := (y 1).isLt
  show _ = G4 (V c main_v25) (V c main_v26) ((win4_2.rect t).emb y)
  unfold G4
  rw [out4_2_at, e0, e1]
  unfold tn
  refine Finset.sum_congr rfl fun k hk => ?_
  have hk := Finset.mem_range.mp hk
  rw [rd4_0 V c t k _ hk y0, rd4_1 V c t k _ hk y1]
  exact congrArg₂ (· * ·) (at2_congr _ (by omega) (by omega)) (at2_congr _ (by omega) (by omega))

/-- The gradient of the second half of the output weight, laid out. -/
theorem final5_2 : (dat5 (F := Ideal) V c).arrAt 2 cfg5.N = G5 (V c main_v24) (V c main_v26) := by
  refine (dat5 (F := Ideal) V c).arrAt_eq_of_cover 2 _ (fun t _ => ?_)
    (fun i => ⟨⟨(i 0).val / 1024, by have hN := N_5; have b0 : (i 0).val < 2048 := (i 0).isLt; have b1 : (i 1).val < 1024 := (i 1).isLt; show _ < grid5.N; omega⟩, flush5_2 _, cov5_2 i _ rfl⟩)
  refine (after5_2 (F := Ideal) V c t).trans (funext fun y => ?_)
  obtain ⟨e0, e1⟩ := emb5_2 t y
  have ht : t.val < 2 := lt_of_lt_of_eq t.isLt N_5
  have y0 : (y 0).val < 1024 := (y 0).isLt
  have y1 : (y 1).val < 1024 := (y 1).isLt
  show _ = G5 (V c main_v24) (V c main_v26) ((win5_2.rect t).emb y)
  unfold G5
  rw [out5_2_at, e0, e1]
  unfold tn
  refine Finset.sum_congr rfl fun k hk => ?_
  have hk := Finset.mem_range.mp hk
  rw [rd5_0 V c t k _ hk y0, rd5_1 V c t k _ hk y1]
  exact congrArg₂ (· * ·) (at2_congr _ (by omega) (by omega)) (at2_congr _ (by omega) (by omega))

/-- The gradient of the recurrence's rows. -/
theorem final6_2 : (dat6 (F := Ideal) V c).arrAt 2 cfg6.N = G6 (V c main_v26) (V c main_v17) := by
  refine (dat6 (F := Ideal) V c).arrAt_eq_of_cover 2 _ (fun t _ => ?_)
    (fun i => ⟨⟨(i 0).val / 1056, by have hN := N_6; have b0 : (i 0).val < 4224 := (i 0).isLt; have b1 : (i 1).val < 1024 := (i 1).isLt; show _ < grid6.N; omega⟩, flush6_2 _, cov6_2 i _ rfl⟩)
  refine (after6_2 (F := Ideal) V c t).trans (funext fun y => ?_)
  obtain ⟨e0, e1⟩ := emb6_2 t y
  have ht : t.val < 4 := lt_of_lt_of_eq t.isLt N_6
  have y0 : (y 0).val < 1056 := (y 0).isLt
  have y1 : (y 1).val < 1024 := (y 1).isLt
  show _ = G6 (V c main_v26) (V c main_v17) ((win6_2.rect t).emb y)
  unfold G6
  rw [out6_2_at, e0, e1]
  unfold nt
  refine Finset.sum_congr rfl fun k hk => ?_
  have hk := Finset.mem_range.mp hk
  rw [rd6_0 V c t _ k y0 hk, rd6_1 V c t _ k y1 hk]
  exact congrArg₂ (· * ·) (at2_congr _ (by omega) (by omega)) (at2_congr _ (by omega) (by omega))

/-- The gradient of the attention's rows, laid out. -/
theorem final7_2 : (dat7 (F := Ideal) V c).arrAt 2 cfg7.N = G7 (V c main_v26) (V c main_v20) := by
  refine (dat7 (F := Ideal) V c).arrAt_eq_of_cover 2 _ (fun t _ => ?_)
    (fun i => ⟨⟨(i 0).val / 1056 * 2 + (i 1).val / 1024, by have hN := N_7; have b0 : (i 0).val < 4224 := (i 0).isLt; have b1 : (i 1).val < 2048 := (i 1).isLt; show _ < grid7.N; omega⟩, flush7_2 _, cov7_2 i _ rfl⟩)
  refine (after7_2 (F := Ideal) V c t).trans (funext fun y => ?_)
  obtain ⟨e0, e1⟩ := emb7_2 t y
  have ht : t.val < 8 := lt_of_lt_of_eq t.isLt N_7
  have y0 : (y 0).val < 1056 := (y 0).isLt
  have y1 : (y 1).val < 1024 := (y 1).isLt
  show _ = G7 (V c main_v26) (V c main_v20) ((win7_2.rect t).emb y)
  unfold G7
  rw [out7_2_at, e0, e1]
  unfold nt
  refine Finset.sum_congr rfl fun k hk => ?_
  have hk := Finset.mem_range.mp hk
  rw [rd7_0 V c t _ k y0 hk, rd7_1 V c t _ k y1 hk]
  exact congrArg₂ (· * ·) (at2_congr _ (by omega) (by omega)) (at2_congr _ (by omega) (by omega))

/-- The gradient of the projections' weight. -/
theorem final8_2 : (dat8 (F := Ideal) V c).arrAt 2 cfg8.N = G8 (V c main_v27) (V c main_v38) := by
  refine (dat8 (F := Ideal) V c).arrAt_eq_of_cover 2 _ (fun t _ => ?_)
    (fun i => ⟨⟨(i 1).val / 1152, by have hN := N_8; have b0 : (i 0).val < 1024 := (i 0).isLt; have b1 : (i 1).val < 3456 := (i 1).isLt; show _ < grid8.N; omega⟩, flush8_2 _, cov8_2 i _ rfl⟩)
  refine (after8_2 (F := Ideal) V c t).trans (funext fun y => ?_)
  obtain ⟨e0, e1⟩ := emb8_2 t y
  have ht : t.val < 3 := lt_of_lt_of_eq t.isLt N_8
  have y0 : (y 0).val < 1024 := (y 0).isLt
  have y1 : (y 1).val < 1152 := (y 1).isLt
  show _ = G8 (V c main_v27) (V c main_v38) ((win8_2.rect t).emb y)
  unfold G8
  rw [out8_2_at, e0, e1]
  unfold tn
  refine Finset.sum_congr rfl fun k hk => ?_
  have hk := Finset.mem_range.mp hk
  rw [rd8_0 V c t k _ hk y0, rd8_1 V c t k _ hk y1]
  exact congrArg₂ (· * ·) (at2_congr _ (by omega) (by omega)) (at2_congr _ (by omega) (by omega))

/-- The gradient of the normalised rows. -/
theorem final9_2 : (dat9 (F := Ideal) V c).arrAt 2 cfg9.N = G9 (V c main_v38) (V c main_v15) := by
  refine (dat9 (F := Ideal) V c).arrAt_eq_of_cover 2 _ (fun t _ => ?_)
    (fun i => ⟨⟨(i 0).val / 528, by have hN := N_9; have b0 : (i 0).val < 4224 := (i 0).isLt; have b1 : (i 1).val < 1024 := (i 1).isLt; show _ < grid9.N; omega⟩, flush9_2 _, cov9_2 i _ rfl⟩)
  refine (after9_2 (F := Ideal) V c t).trans (funext fun y => ?_)
  obtain ⟨e0, e1⟩ := emb9_2 t y
  have ht : t.val < 8 := lt_of_lt_of_eq t.isLt N_9
  have y0 : (y 0).val < 528 := (y 0).isLt
  have y1 : (y 1).val < 1024 := (y 1).isLt
  show _ = G9 (V c main_v38) (V c main_v15) ((win9_2.rect t).emb y)
  unfold G9
  rw [out9_2_at, e0, e1]
  unfold nt
  refine Finset.sum_congr rfl fun k hk => ?_
  have hk := Finset.mem_range.mp hk
  rw [rd9_0 V c t _ k y0 hk, rd9_1 V c t _ k y1 hk]
  exact congrArg₂ (· * ·) (at2_congr _ (by omega) (by omega)) (at2_congr _ (by omega) (by omega))

/-- A block's sum of products is the array's. -/
theorem nn3 (t : Fin cfg3.N) (y : S528x1024.Idx) :
    k3_pay1 (F := Ideal) (iblk3 (F := Ideal) V c 0 t) (iblk3 (F := Ideal) V c 1 t) (iblk3 (F := Ideal) V c 2 t) y = sum3 (V c main_v24) (V c main_v20) (V c main_v29) (t.val * 528 + (y 0).val) (y 1).val := by
  have y0 : (y 0).val < 528 := (y 0).isLt
  have y1 : (y 1).val < 1024 := (y 1).isLt
  rw [pay3_at, rd3_2 V c t _ _ y0 y1]
  unfold sum3 nn
  refine congrArg₂ (· + ·) (Finset.sum_congr rfl fun k hk => ?_) (at2_congr _ (by omega) (by omega))
  have hk := Finset.mem_range.mp hk
  rw [rd3_0 V c t _ k y0 hk, rd3_1 V c t k _ hk y1]
  exact congrArg₂ (· * ·) (at2_congr _ (by omega) (by omega)) (at2_congr _ (by omega) (by omega))

/-- The sum of the two products. -/
theorem final3_5 : (dat3 (F := Ideal) V c).arrAt 5 cfg3.N = G3a (V c main_v24) (V c main_v20) (V c main_v29) := by
  refine (dat3 (F := Ideal) V c).arrAt_eq_of_cover 5 _ (fun t _ => ?_)
    (fun i => ⟨⟨(i 0).val / 528, by have hN := N_3; have b0 : (i 0).val < 4224 := (i 0).isLt; have b1 : (i 1).val < 1024 := (i 1).isLt; show _ < grid3.N; omega⟩, flush3_5 _, cov3_5 i _ rfl⟩)
  refine (after3_5 (F := Ideal) V c t).trans (funext fun y => ?_)
  obtain ⟨e0, e1⟩ := emb3_5 t y
  have ht : t.val < 8 := lt_of_lt_of_eq t.isLt N_3
  have y0 : (y 0).val < 528 := (y 0).isLt
  have y1 : (y 1).val < 1024 := (y 1).isLt
  show _ = G3a (V c main_v24) (V c main_v20) (V c main_v29) ((win3_5.rect t).emb y)
  unfold G3a out3_5
  rw [View.canon_cons_unit_lit _ _ _ (by decide), View.ld_unit_lit _ _ (by decide), View.ld_unit_lit _ _ (by decide), View.ld_unit_lit _ _ (by decide), nn3 V c t y, e0, e1]
  rw [show (0 : ℕ) * 1024 + (y 1).val = (y 1).val by omega]

/-- The sum normalised and added to what came in. -/
theorem final3_6 : (dat3 (F := Ideal) V c).arrAt 6 cfg3.N = G3b (V c main_v24) (V c main_v20) (V c main_v29) (V c main_arg0) (V c main_v5) := by
  refine (dat3 (F := Ideal) V c).arrAt_eq_of_cover 6 _ (fun t _ => ?_)
    (fun i => ⟨⟨(i 0).val / 528, by have hN := N_3; have b0 : (i 0).val < 4224 := (i 0).isLt; have b1 : (i 1).val < 1024 := (i 1).isLt; show _ < grid3.N; omega⟩, flush3_6 _, cov3_6 i _ rfl⟩)
  refine (after3_6 (F := Ideal) V c t).trans (funext fun y => ?_)
  obtain ⟨e0, e1⟩ := emb3_6 t y
  have ht : t.val < 8 := lt_of_lt_of_eq t.isLt N_3
  have y0 : (y 0).val < 528 := (y 0).isLt
  have y1 : (y 1).val < 1024 := (y 1).isLt
  show _ = G3b (V c main_v24) (V c main_v20) (V c main_v29) (V c main_arg0) (V c main_v5) ((win3_6.rect t).emb y)
  have z : (0 : ℕ) * 1024 + (y 1).val = (y 1).val := by omega
  have hP : ∀ k, k < 1024 → at2 (a := 528) (b := 1024) (k3_pay1 (F := Ideal) (iblk3 (F := Ideal) V c 0 t) (iblk3 (F := Ideal) V c 1 t) (iblk3 (F := Ideal) V c 2 t)) (y 0).val k
      = sum3 (V c main_v24) (V c main_v20) (V c main_v29) (t.val * 528 + (y 0).val) k := fun k hk =>
    (dif_pos ⟨y0, hk⟩).trans (nn3 V c t (ix2 (⟨(y 0).val, y0⟩ : Fin 528) (⟨k, hk⟩ : Fin 1024)))
  unfold G3b out3_6
  rw [View.canon_cons_unit_lit _ _ _ (by decide), View.ld_unit_lit _ _ (by decide), View.ld_unit_lit _ _ (by decide), View.ld_unit_lit _ _ (by decide), View.ld_unit_lit _ _ (by decide), View.ld_unit_lit _ _ (by decide),
    pay3b_at, e0, e1, rd3_3 V c t _ _ y0 y1, rd3_4 V c t 0 _ (by decide) y1, nn3 V c t y, z, rms_congr _ _ hP]

end Cert.SmIdeal.Value

end
-- ==== Proof.SmSpec.lean ====
/- The products of an even layer and their gradients as sums and products of numbers, and the layouts its calls read. -/
module

public import proofs.«01_k».proof.Proof.Prod

@[expose] public section

noncomputable section

namespace Cert.Sml

open Idealize.ShloMosaic Cert.Coord Cert.Prod Cert.MlpIdeal.Value

/-! ## Layouts -/

/-- A row of projections laid out: zeros after the first 2576, after the next 640 and after the last 32. -/
def layC (f : ℕ → EReal) (n : ℕ) : EReal :=
  if n < 2576 then f n else if n < 2688 then 0 else if n < 3328 then f (n - 112) else if n < 3392 then 0 else if n < 3424 then f (n - 176) else 0

/-- Where a projection lies in the laid out row. -/
def posC (j : ℕ) : ℕ := if j < 2576 then j else if j < 3216 then j + 112 else j + 176

/-- Heads of 64 laid out in 128 lanes each, zeros in the first 64. -/
def layH (f : ℕ → EReal) (n : ℕ) : EReal := if n % 128 < 64 then 0 else f (n / 128 * 64 + n % 128 - 64)

/-- Where a head's entry lies in the laid out row. -/
def posH (j : ℕ) : ℕ := j / 64 * 128 + (64 + j % 64)

/-- A projection found where it lies. -/
theorem layC_posC (f : ℕ → EReal) {j : ℕ} (hj : j < 3248) : layC f (posC j) = f j := by
  unfold layC posC
  split_ifs <;> first | omega | rfl | exact congrArg f (by omega)

/-- A head's entry found where it lies. -/
theorem layH_posH (f : ℕ → EReal) (j : ℕ) : layH f (posH j) = f j := by
  unfold layH posH
  rw [if_neg (by omega)]
  exact congrArg f (by omega)

/-- A sum over a laid out row is the sum over the row. -/
theorem sum_layC (f g : ℕ → EReal) : ∑ k ∈ Finset.range 3456, layC f k * layC g k = ∑ k ∈ Finset.range 3248, f k * g k := by
  have z : ∀ k, ¬ k < 2576 → (k < 2688 ∨ 3328 ≤ k ∧ k < 3392 ∨ 3424 ≤ k) → layC f k * layC g k = 0 := fun k h0 h => by
    have e : layC f k = 0 := by
      unfold layC
      split_ifs <;> first | rfl | omega
    rw [e, zero_mul]
  have s : ∀ k, ¬ k < 2576 → ∀ j, (2688 ≤ k ∧ k < 3328 ∧ j = k - 112 ∨ 3392 ≤ k ∧ k < 3424 ∧ j = k - 176) → layC f k * layC g k = f j * g j := fun k h0 j h => by
    have e : ∀ u : ℕ → EReal, layC u k = u j := fun u => by
      unfold layC
      split_ifs <;> first | omega | exact congrArg u (by omega)
    rw [e f, e g]
  rw [show (3456 : ℕ) = 2576 + 112 + 640 + 64 + 32 + 32 from rfl, show (3248 : ℕ) = 2576 + 640 + 32 from rfl]
  simp only [Finset.sum_range_add]
  rw [Finset.sum_eq_zero (s := Finset.range 112) (fun k hk => z _ (by omega) (by have := Finset.mem_range.mp hk; omega)),
    Finset.sum_eq_zero (s := Finset.range 64) (fun k hk => z _ (by omega) (by have := Finset.mem_range.mp hk; omega)),
    Finset.sum_eq_zero (s := Finset.range 32) (f := fun k => layC f (2576 + 112 + 640 + 64 + 32 + k) * layC g (2576 + 112 + 640 + 64 + 32 + k)) (fun k hk => z _ (by omega) (by have := Finset.mem_range.mp hk; omega)),
    add_zero, add_zero, add_zero]
  refine congrArg₂ (· + ·) (congrArg₂ (· + ·) (Finset.sum_congr rfl fun k hk => ?_) (Finset.sum_congr rfl fun k hk => ?_)) (Finset.sum_congr rfl fun k hk => ?_)
  · have := Finset.mem_range.mp hk
    unfold layC
    rw [if_pos this, if_pos this]
  · have := Finset.mem_range.mp hk
    exact s _ (by omega) _ (by omega)
  · have := Finset.mem_range.mp hk
    exact s _ (by omega) _ (by omega)

/-- A sum over laid out heads is the sum over the heads. -/
theorem sum_layH (f g : ℕ → EReal) : ∑ k ∈ Finset.range 2048, layH f k * layH g k = ∑ k ∈ Finset.range 1024, f k * g k := by
  rw [show (2048 : ℕ) = 16 * (64 + 64) from rfl, show (1024 : ℕ) = 16 * 64 from rfl, sum_runs, sum_runs]
  refine Finset.sum_congr rfl fun p hp => ?_
  rw [Finset.sum_range_add, Finset.sum_eq_zero, zero_add]
  · refine Finset.sum_congr rfl fun k hk => ?_
    have := Finset.mem_range.mp hk
    have e : ∀ u : ℕ → EReal, layH u ((64 + 64) * p + (64 + k)) = u (64 * p + k) := fun u => by
      unfold layH
      rw [if_neg (by omega)]
      exact congrArg u (by omega)
    rw [e f, e g]
  · intro k hk
    have := Finset.mem_range.mp hk
    unfold layH
    rw [if_pos (by omega), zero_mul]

/-- A product with laid out columns, read where a column lies. -/
theorem nn_posC (K : ℕ) (x w : ℕ → ℕ → EReal) (i : ℕ) {j : ℕ} (hj : j < 3248) : nn K x (fun k => layC (w k)) i (posC j) = nn K x w i j :=
  Finset.sum_congr rfl fun k _ => congrArg (x i k * ·) (layC_posC (w k) hj)

/-- A product with laid out columns, read where a column lies. -/
theorem tn_posC (K : ℕ) (x w : ℕ → ℕ → EReal) (i : ℕ) {j : ℕ} (hj : j < 3248) : tn K x (fun k => layC (w k)) i (posC j) = tn K x w i j :=
  Finset.sum_congr rfl fun k _ => congrArg (x k i * ·) (layC_posC (w k) hj)

/-- A product with laid out rows, read where a row lies. -/
theorem nt_posH (K : ℕ) (x w : ℕ → ℕ → EReal) (i j : ℕ) : nt K x (fun n k => layH (fun p => w p k) n) i (posH j) = nt K x w i j :=
  Finset.sum_congr rfl fun k _ => congrArg (x i k * ·) (layH_posH (fun p => w p k) j)

/-- A product of laid out columns, read where a column lies. -/
theorem tn_posH (K : ℕ) (x w : ℕ → ℕ → EReal) (i j : ℕ) : tn K (fun k => layH (x k)) w (posH i) j = tn K x w i j :=
  Finset.sum_congr rfl fun k _ => congrArg (· * w k j) (layH_posH (x k) i)

/-! ## The results -/

variable (h : ℕ → ℕ → EReal) (g1 g2 : ℕ → EReal) (win w ys ya d dp : ℕ → ℕ → EReal)

/-- The rows normalised. -/
def hn (i k : ℕ) : EReal := rms (h i) (h i k) (g1 k)

/-- The projections. -/
def PR (i j : ℕ) : EReal := nn 1024 (hn h g1) win i j

/-- The output product, the attention's half first. -/
def M (i j : ℕ) : EReal := nn 1024 ya (fun k => w (1024 + k)) i j + nn 1024 ys w i j

/-- What comes out: the output product normalised, added to what came in. -/
def H (i j : ℕ) : EReal := h i j + rms (M w ys ya i) (M w ys ya i j) (g2 j)

/-- The gradient of the recurrence's rows. -/
def DYS (i j : ℕ) : EReal := nt 1024 d w i j

/-- The gradient of the attention's rows. -/
def DYA (i j : ℕ) : EReal := nt 1024 d w i (1024 + j)

/-- The output weight's gradient. -/
def DWO (i j : ℕ) : EReal := if i < 1024 then tn 4224 ys d i j else tn 4224 ya d (i - 1024) j

/-- The projections' weight's gradient. -/
def DWI (i j : ℕ) : EReal := tn 4224 (hn h g1) dp i j

/-- The gradient of the normalised rows. -/
def DHN (i j : ℕ) : EReal := nt 3248 dp win i j

/-- The two halves are the whole: the rows one after the other, times the whole weight. -/
theorem M_whole (y : ℕ → ℕ → EReal) (i j : ℕ) (h0 : ∀ k, k < 1024 → y i k = ys i k) (h1 : ∀ k, k < 1024 → y i (1024 + k) = ya i k) :
    nn 2048 y w i j = M w ys ya i j := by
  unfold nn M nn
  rw [show (2048 : ℕ) = 1024 + 1024 from rfl, Finset.sum_range_add, add_comm]
  refine congrArg₂ (· + ·) (Finset.sum_congr rfl fun k hk => ?_) (Finset.sum_congr rfl fun k hk => ?_)
  · rw [h1 k (Finset.mem_range.mp hk)]
  · rw [h0 k (Finset.mem_range.mp hk)]

end Cert.Sml

end
-- ==== Proof.SmHost.lean ====
/- What the host code of an even layer's products lays out before its calls, and puts back after them. -/
module

public import proofs.«01_k».proof.Proof.Gen.SmIdeal.Frame
public import proofs.«01_k».proof.Proof.SmSpec
public import Idealize.ShloMosaic.Lib.StableHlo.Run

@[expose] public section

set_option maxRecDepth 16384

noncomputable section

namespace Cert.SmIdeal.Value

open Cert.SmIdeal Cert.SmIdeal.Gen
open Idealize.ShloMosaic Idealize.ShloMosaic.TcCoe Idealize.ShloMosaic.Tactic
open Idealize.SL.Sem Idealize.ShloMosaic.StableHlo Cert.Coord Cert.Prod

/-! ## The layouts as the programs' cases -/

/-- A laid out row of projections, case by case. -/
theorem lay_ladder (F : Fin 3248 → EReal) (f : ℕ → EReal) (hF : ∀ j, F j = f j.val) (n : Fin 3456) :
    (if h : n.val < 2576 then F ⟨n.val, by omega⟩
    else if h : n.val - 2576 < 112 then 0
    else if h : n.val - 2576 - 112 < 640 then F ⟨2576 + (n.val - 2576 - 112), by omega⟩
    else if h : n.val - 2576 - 112 - 640 < 64 then 0
    else if h : n.val - 2576 - 112 - 640 - 64 < 32 then F ⟨3216 + (n.val - 2576 - 112 - 640 - 64), by omega⟩
    else 0) = Sml.layC f n.val := by
  unfold Sml.layC
  split_ifs <;> first | omega | rfl | exact (hF _).trans (congrArg f (by first | rfl | (simp only; omega)))

/-- Laid out heads, case by case. -/
theorem head_ladder (F : Fin 1024 → EReal) (f : ℕ → EReal) (hF : ∀ j, F j = f j.val) (k : Fin 2048) :
    (if h : k.val / 128 < 16 ∧ 64 ≤ k.val % 128 ∧ k.val % 128 - 64 < 64 then F ⟨k.val / 128 * 64 + (k.val % 128 - 64), by omega⟩
    else FloatOps.sitofp (F := Ideal) FTy.f32 0#32) = Sml.layH f k.val := by
  unfold Sml.layH
  split_ifs with h1 h2
  · omega
  · exact (hF _).trans (congrArg f (by simp only; omega))
  · show ((((0#32).toInt : ℤ) : ℝ) : EReal) = 0
    simp
  · omega

/-- Projections put back, case by case. -/
theorem back_ladder (F : Fin 3456 → EReal) (f : ℕ → EReal) (hF : ∀ j, F j = f j.val) (j : Fin 3248) :
    (if h : j.val < 2576 then F ⟨j.val, by omega⟩
    else if h : j.val - 2576 < 640 then F ⟨2688 + (j.val - 2576), by omega⟩
    else F ⟨3392 + (j.val - 2576 - 640), by omega⟩) = f (Sml.posC j.val) := by
  unfold Sml.posC
  split_ifs <;> first | omega | exact (hF _).trans (congrArg f (by first | rfl | (simp only; omega)))

variable (m : (ℓ : Loc nD τ sig) → Buf (Elt Ideal) ℓ) (ρ : Dev nD → PrngReg) (c : Dev nD)

/-! ## The arguments as functions of their coordinates -/

/-- The rows. -/
abbrev aH : ℕ → ℕ → EReal := at2 (a := 4224) (b := 1024) (m (c, main_arg0) : Vec Ideal S4224x1024 .f32)
/-- The first gain. -/
abbrev aG1 : ℕ → EReal := at1 (a := 1024) (m (c, main_arg1) : Vec Ideal S1024 .f32)
/-- The second gain. -/
abbrev aG2 : ℕ → EReal := at1 (a := 1024) (m (c, main_arg2) : Vec Ideal S1024 .f32)
/-- The projections' weight. -/
abbrev aWI : ℕ → ℕ → EReal := at3 (a := 2) (b := 1024) (c := 3248) (m (c, main_arg3) : Vec Ideal S2x1024x3248 .f32) 1
/-- The output weight. -/
abbrev aWO : ℕ → ℕ → EReal := at3 (a := 2) (b := 2048) (c := 1024) (m (c, main_arg4) : Vec Ideal S2x2048x1024 .f32) 1
/-- The recurrence's rows. -/
abbrev aYS : ℕ → ℕ → EReal := at2 (a := 4224) (b := 1024) (m (c, main_arg5) : Vec Ideal S4224x1024 .f32)
/-- The attention's rows. -/
abbrev aYA : ℕ → ℕ → EReal := at2 (a := 4224) (b := 1024) (m (c, main_arg6) : Vec Ideal S4224x1024 .f32)
/-- The gradient of the output product. -/
abbrev aD : ℕ → ℕ → EReal := at2 (a := 4224) (b := 1024) (m (c, main_arg7) : Vec Ideal S4224x1024 .f32)
/-- The gradient of the projections. -/
abbrev aDP : ℕ → ℕ → EReal := at2 (a := 4224) (b := 3248) (m (c, main_arg8) : Vec Ideal S4224x3248 .f32)

/-! ## Before the calls -/

/-- A gain, as a row. -/
theorem n_v4 {k : ℕ} (hk : k < 1024) : at2 (a := 1) (b := 1024) (W1 m ρ c main_v4) 0 k = aG1 m c k := by
  refine (at2_ix (a := 1) (b := 1024) (W1 m ρ c main_v4) (0 : Fin 1) ⟨k, hk⟩).trans (Eq.trans ?_ (at1_ix (a := 1024) (m (c, main_arg1)) ⟨k, hk⟩).symm)
  unfold W1
  simp only [hostOps0]
  after_results_simp
  pointwise

/-- A gain, as a row. -/
theorem n_v5 {k : ℕ} (hk : k < 1024) : at2 (a := 1) (b := 1024) (W1 m ρ c main_v5) 0 k = aG2 m c k := by
  refine (at2_ix (a := 1) (b := 1024) (W1 m ρ c main_v5) (0 : Fin 1) ⟨k, hk⟩).trans (Eq.trans ?_ (at1_ix (a := 1024) (m (c, main_arg2)) ⟨k, hk⟩).symm)
  unfold W1
  simp only [hostOps0]
  after_results_simp
  pointwise

/-- The projections' weight, laid out. -/
theorem n_v15 {k n : ℕ} (hk : k < 1024) (hn : n < 3456) : at2 (a := 1024) (b := 3456) (W1 m ρ c main_v15) k n = Sml.layC (aWI m c k) n := by
  refine (at2_ix (a := 1024) (b := 3456) (W1 m ρ c main_v15) ⟨k, hk⟩ ⟨n, hn⟩).trans ?_
  unfold W1
  simp only [hostOps0]
  after_results_simp
  pointwise
  after_results_simp
  pointwise
  exact lay_ladder (fun j => (m (c, main_arg3) : Vec Ideal S2x1024x3248 .f32) (ix3 1 ⟨k, hk⟩ j)) _ (fun j => (at3_ix (a := 2) (b := 1024) (c := 3248) (m (c, main_arg3)) 1 ⟨k, hk⟩ j).symm) ⟨n, hn⟩

/-- The output weight's first half. -/
theorem n_v17 {k j : ℕ} (hk : k < 1024) (hj : j < 1024) : at2 (a := 1024) (b := 1024) (W1 m ρ c main_v17) k j = aWO m c k j := by
  refine (at2_ix (a := 1024) (b := 1024) (W1 m ρ c main_v17) ⟨k, hk⟩ ⟨j, hj⟩).trans (Eq.trans ?_ (at3_ix (a := 2) (b := 2048) (c := 1024) (m (c, main_arg4)) 1 ⟨k, by omega⟩ ⟨j, hj⟩).symm)
  unfold W1
  simp only [hostOps0]
  after_results_simp
  pointwise

/-- The output weight's second half, its heads laid out. -/
theorem n_v20 {k j : ℕ} (hk : k < 2048) (hj : j < 1024) :
    at2 (a := 2048) (b := 1024) (W3 m ρ c main_v20) k j = Sml.layH (fun p => aWO m c (1024 + p) j) k := by
  refine (at2_ix (a := 2048) (b := 1024) (W3 m ρ c main_v20) ⟨k, hk⟩ ⟨j, hj⟩).trans ?_
  unfold W3 W2 W1
  simp only [hostOps0, hostOps0_1, hostOps0_2]
  after_results_simp
  simp only [TRef.toBuf, TRef.ofBuf, cast_eq]
  pointwise
  exact head_ladder (fun p => (m (c, main_arg4) : Vec Ideal S2x2048x1024 .f32) (ix3 1 ⟨1024 + p.val, by omega⟩ ⟨j, hj⟩)) (fun p => aWO m c (1024 + p) j)
    (fun p => (at3_ix (a := 2) (b := 2048) (c := 1024) (m (c, main_arg4)) 1 ⟨1024 + p.val, by omega⟩ ⟨j, hj⟩).symm) ⟨k, hk⟩

/-- The attention's rows, their heads laid out. -/
theorem n_v24 {i k : ℕ} (hi : i < 4224) (hk : k < 2048) : at2 (a := 4224) (b := 2048) (W5 m ρ c main_v24) i k = Sml.layH (aYA m c i) k := by
  refine (at2_ix (a := 4224) (b := 2048) (W5 m ρ c main_v24) ⟨i, hi⟩ ⟨k, hk⟩).trans ?_
  unfold W5 W4 W3 W2 W1
  simp only [hostOps0, hostOps0_1, hostOps0_2, hostOps0_3, hostOps0_4]
  after_results_simp
  simp only [TRef.toBuf, TRef.ofBuf, cast_eq]
  pointwise
  exact head_ladder (fun p => (m (c, main_arg6) : Vec Ideal S4224x1024 .f32) (ix2 ⟨i, hi⟩ p)) (aYA m c i) (fun p => (at2_ix (a := 4224) (b := 1024) (m (c, main_arg6)) ⟨i, hi⟩ p).symm) ⟨k, hk⟩

/-- The recurrence's rows. -/
theorem v25_eq : W5 m ρ c main_v25 = (m (c, main_arg5) : Vec Ideal S4224x1024 .f32) := by
  unfold W5 W4 W3 W2 W1
  simp only [hostOps0, hostOps0_1, hostOps0_2, hostOps0_3, hostOps0_4]
  after_results_simp
  rfl

/-- The gradient of the output product. -/
theorem v26_eq : W5 m ρ c main_v26 = (m (c, main_arg7) : Vec Ideal S4224x1024 .f32) := by
  unfold W5 W4 W3 W2 W1
  simp only [hostOps0, hostOps0_1, hostOps0_2, hostOps0_3, hostOps0_4]
  after_results_simp
  rfl

/-- The gradient of the projections, laid out. -/
theorem n_v38 {i n : ℕ} (hi : i < 4224) (hn : n < 3456) : at2 (a := 4224) (b := 3456) (W10 m ρ c main_v38) i n = Sml.layC (aDP m c i) n := by
  have e : W9 m ρ c main_arg8 = m (c, main_arg8) := (W9_of m ρ c main_arg8 (by decide)).trans ((W8_of m ρ c main_arg8 (by decide)).trans ((W7_of m ρ c main_arg8 (by decide)).trans ((W6_of m ρ c main_arg8 (by decide)).trans ((W5_of m ρ c main_arg8 (by decide)).trans ((W4_of m ρ c main_arg8 (by decide)).trans ((W3_of m ρ c main_arg8 (by decide)).trans ((W2_of m ρ c main_arg8 (by decide)).trans ((W1_of m ρ c main_arg8 (by decide))))))))))
  refine (at2_ix (a := 4224) (b := 3456) (W10 m ρ c main_v38) ⟨i, hi⟩ ⟨n, hn⟩).trans ?_
  unfold W10
  simp only [hostOps4]
  after_results_simp
  pointwise
  after_results_simp
  pointwise
  rw [e]
  exact lay_ladder (fun j => (m (c, main_arg8) : Vec Ideal S4224x3248 .f32) (ix2 ⟨i, hi⟩ j)) _ (fun j => (at2_ix (a := 4224) (b := 3248) (m (c, main_arg8)) ⟨i, hi⟩ j).symm) ⟨n, hn⟩

/-! ## After the calls -/

/-- Projections put back. -/
theorem v56_at (i : Fin 4224) (j : Fin 3248) : (W17 m ρ c main_v56 : Vec Ideal S4224x3248 .f32) (ix2 i j)
    = at2 (a := 4224) (b := 3456) (W16 m ρ c main_v28) i.val (Sml.posC j.val) := by
  unfold W17
  simp only [hostOps10]
  after_results_simp
  pointwise
  after_results_simp
  pointwise
  exact back_ladder (fun k => (W16 m ρ c main_v28 : Vec Ideal S4224x3456 .f32) (ix2 i k)) _ (fun k => (at2_ix (a := 4224) (b := 3456) (W16 m ρ c main_v28) i k).symm) j

/-- Projections put back. -/
theorem v60_at (i : Fin 1024) (j : Fin 3248) : (W17 m ρ c main_v60 : Vec Ideal S1024x3248 .f32) (ix2 i j)
    = at2 (a := 1024) (b := 3456) (W16 m ρ c main_v43) i.val (Sml.posC j.val) := by
  unfold W17
  simp only [hostOps10]
  after_results_simp
  pointwise
  after_results_simp
  pointwise
  exact back_ladder (fun k => (W16 m ρ c main_v43 : Vec Ideal S1024x3456 .f32) (ix2 i k)) _ (fun k => (at2_ix (a := 1024) (b := 3456) (W16 m ρ c main_v43) i k).symm) j

/-- The gradient of the attention's rows, its heads put back. -/
theorem v48_at (i : Fin 4224) (j : Fin 1024) : (W17 m ρ c main_v48 : Vec Ideal S4224x1024 .f32) (ix2 i j)
    = at2 (a := 4224) (b := 2048) (W16 m ρ c main_v42) i.val (Sml.posH j.val) := by
  refine Eq.trans ?_ (at2_ix (a := 4224) (b := 2048) (W16 m ρ c main_v42) i ⟨Sml.posH j.val, by unfold Sml.posH; omega⟩).symm
  unfold W17
  simp only [hostOps10]
  after_results_simp
  pointwise
  rfl

/-- The two halves of the output weight's gradient. -/
theorem v52_at (i : Fin 2048) (j : Fin 1024) : (W17 m ρ c main_v52 : Vec Ideal S2048x1024 .f32) (ix2 i j)
    = if i.val < 1024 then at2 (a := 1024) (b := 1024) (W16 m ρ c main_v39) i.val j.val
      else at2 (a := 2048) (b := 1024) (W16 m ρ c main_v40) (Sml.posH (i.val - 1024)) j.val := by
  unfold W17
  simp only [hostOps10]
  after_results_simp
  pointwise
  split <;> rename_i h
  · exact (at2_ix (a := 1024) (b := 1024) (W16 m ρ c main_v39) ⟨i.val, h⟩ j).symm
  · exact (at2_ix (a := 2048) (b := 1024) (W16 m ρ c main_v40) ⟨Sml.posH (i.val - 1024), by unfold Sml.posH; omega⟩ j).symm

end Cert.SmIdeal.Value

end
-- ==== Proof.SmRun.lean ====
/- The run of an even layer's products and their gradients: what the result arrays hold at the end. -/
module

public import proofs.«01_k».proof.Proof.SmFinal
public import proofs.«01_k».proof.Proof.SmHost

@[expose] public section

set_option maxRecDepth 16384

noncomputable section

namespace Cert.SmIdeal.Value

open Cert.SmIdeal Cert.SmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo Cert.Coord Cert.Prod
open Cert.MlpIdeal.Value (rms rms_congr at2_congr)

local notation "𝕄" => MT nD τ sig Unit (Elt Ideal) ℕ (UR sig nD τ) ℕ

variable (m : (ℓ : Loc nD τ sig) → Buf (Elt Ideal) ℓ) (ρ : Dev nD → PrngReg)

section values

variable (c : Dev nD)

/-- What region 0 leaves. -/
theorem x_v27 : W6 m ρ c main_v27 = G0 (W0 m ρ c main_arg0) (W1 m ρ c main_v4) := by
  refine ((W6_arr m ρ c 2).trans (final0_2 (V5 m ρ) c)).trans ?_
  show G0 (W5 m ρ c main_arg0) (W5 m ρ c main_v4) = _
  simp (discharger := decide) only [W1_of m, W2_of m, W3_of m, W4_of m, W5_of m]

/-- What region 1 leaves. -/
theorem x_v28 : W7 m ρ c main_v28 = G1 (W6 m ρ c main_v27) (W1 m ρ c main_v15) := by
  refine ((W7_arr m ρ c 2).trans (final1_2 (V6 m ρ) c)).trans ?_
  show G1 (W6 m ρ c main_v27) (W6 m ρ c main_v15) = _
  simp (discharger := decide) only [W2_of m, W3_of m, W4_of m, W5_of m, W6_of m]

/-- What region 2 leaves. -/
theorem x_v29 : W8 m ρ c main_v29 = G2 (W5 m ρ c main_v25) (W1 m ρ c main_v17) := by
  refine ((W8_arr m ρ c 2).trans (final2_2 (V7 m ρ) c)).trans ?_
  show G2 (W7 m ρ c main_v25) (W7 m ρ c main_v17) = _
  simp (discharger := decide) only [W2_of m, W3_of m, W4_of m, W5_of m, W6_of m, W7_of m]

/-- What region 3 leaves. -/
theorem x_v30_0 : W9 m ρ c main_v30_0 = G3a (W5 m ρ c main_v24) (W3 m ρ c main_v20) (W8 m ρ c main_v29) := by
  refine ((W9_arr m ρ c 5).trans (final3_5 (V8 m ρ) c)).trans ?_
  show G3a (W8 m ρ c main_v24) (W8 m ρ c main_v20) (W8 m ρ c main_v29) = _
  simp (discharger := decide) only [W4_of m, W5_of m, W6_of m, W7_of m, W8_of m]

/-- What region 3 leaves. -/
theorem x_v30_1 : W9 m ρ c main_v30_1 = G3b (W5 m ρ c main_v24) (W3 m ρ c main_v20) (W8 m ρ c main_v29) (W0 m ρ c main_arg0) (W1 m ρ c main_v5) := by
  refine ((W9_arr m ρ c 6).trans (final3_6 (V8 m ρ) c)).trans ?_
  show G3b (W8 m ρ c main_v24) (W8 m ρ c main_v20) (W8 m ρ c main_v29) (W8 m ρ c main_arg0) (W8 m ρ c main_v5) = _
  simp (discharger := decide) only [W1_of m, W2_of m, W3_of m, W4_of m, W5_of m, W6_of m, W7_of m, W8_of m]

/-- What region 4 leaves. -/
theorem x_v39 : W11 m ρ c main_v39 = G4 (W5 m ρ c main_v25) (W5 m ρ c main_v26) := by
  refine ((W11_arr m ρ c 2).trans (final4_2 (V10 m ρ) c)).trans ?_
  show G4 (W10 m ρ c main_v25) (W10 m ρ c main_v26) = _
  simp (discharger := decide) only [W6_of m, W7_of m, W8_of m, W9_of m, W10_of m]

/-- What region 5 leaves. -/
theorem x_v40 : W12 m ρ c main_v40 = G5 (W5 m ρ c main_v24) (W5 m ρ c main_v26) := by
  refine ((W12_arr m ρ c 2).trans (final5_2 (V11 m ρ) c)).trans ?_
  show G5 (W11 m ρ c main_v24) (W11 m ρ c main_v26) = _
  simp (discharger := decide) only [W6_of m, W7_of m, W8_of m, W9_of m, W10_of m, W11_of m]

/-- What region 6 leaves. -/
theorem x_v41 : W13 m ρ c main_v41 = G6 (W5 m ρ c main_v26) (W1 m ρ c main_v17) := by
  refine ((W13_arr m ρ c 2).trans (final6_2 (V12 m ρ) c)).trans ?_
  show G6 (W12 m ρ c main_v26) (W12 m ρ c main_v17) = _
  simp (discharger := decide) only [W2_of m, W3_of m, W4_of m, W5_of m, W6_of m, W7_of m, W8_of m, W9_of m, W10_of m, W11_of m, W12_of m]

/-- What region 7 leaves. -/
theorem x_v42 : W14 m ρ c main_v42 = G7 (W5 m ρ c main_v26) (W3 m ρ c main_v20) := by
  refine ((W14_arr m ρ c 2).trans (final7_2 (V13 m ρ) c)).trans ?_
  show G7 (W13 m ρ c main_v26) (W13 m ρ c main_v20) = _
  simp (discharger := decide) only [W4_of m, W5_of m, W6_of m, W7_of m, W8_of m, W9_of m, W10_of m, W11_of m, W12_of m, W13_of m]

/-- What region 8 leaves. -/
theorem x_v43 : W15 m ρ c main_v43 = G8 (W6 m ρ c main_v27) (W10 m ρ c main_v38) := by
  refine ((W15_arr m ρ c 2).trans (final8_2 (V14 m ρ) c)).trans ?_
  show G8 (W14 m ρ c main_v27) (W14 m ρ c main_v38) = _
  simp (discharger := decide) only [W7_of m, W8_of m, W9_of m, W10_of m, W11_of m, W12_of m, W13_of m, W14_of m]

/-- What region 9 leaves. -/
theorem x_v44 : W16 m ρ c main_v44 = G9 (W10 m ρ c main_v38) (W1 m ρ c main_v15) := by
  refine ((W16_arr m ρ c 2).trans (final9_2 (V15 m ρ) c)).trans ?_
  show G9 (W15 m ρ c main_v38) (W15 m ρ c main_v15) = _
  simp (discharger := decide) only [W2_of m, W3_of m, W4_of m, W5_of m, W6_of m, W7_of m, W8_of m, W9_of m, W10_of m, W11_of m, W12_of m, W13_of m, W14_of m, W15_of m]

/-- The normalised rows. -/
theorem n_v27 {i j : ℕ} (hi : i < 4224) (hj : j < 1024) : at2 (a := 4224) (b := 1024) (W6 m ρ c main_v27) i j = (Sml.hn (aH m c) (aG1 m c)) i j := by
  rw [x_v27]
  exact (dif_pos ⟨hi, hj⟩).trans (congrArg (rms _ _) (n_v4 m ρ c hj))

/-- The projections, laid out. -/
theorem n_v28 {i j : ℕ} (hi : i < 4224) (hj : j < 3456) : at2 (a := 4224) (b := 3456) (W7 m ρ c main_v28) i j = nn 1024 (Sml.hn (aH m c) (aG1 m c)) (fun k => Sml.layC (aWI m c k)) i j := by
  rw [x_v28]
  refine (at2_mk _ _ (fun _ => rfl) hi hj).trans ?_
  exact nn_congr _ _ _ _ _ _ _ (fun k hk => n_v27 m ρ c hi hk) (fun k hk => n_v15 m ρ c hk hj)

/-- The product of the recurrence's rows. -/
theorem n_v29 {i j : ℕ} (hi : i < 4224) (hj : j < 1024) : at2 (a := 4224) (b := 1024) (W8 m ρ c main_v29) i j = nn 1024 (aYS m c) (aWO m c) i j := by
  rw [x_v29, v25_eq]
  refine (at2_mk _ _ (fun _ => rfl) hi hj).trans ?_
  exact nn_congr _ _ _ _ _ _ _ (fun k hk => rfl) (fun k hk => n_v17 m ρ c hk hj)

/-- An entry of the output product. -/
theorem m_eq {i j : ℕ} (hi : i < 4224) (hj : j < 1024) : sum3 (W5 m ρ c main_v24) (W3 m ρ c main_v20) (W8 m ρ c main_v29) i j = Sml.M (aWO m c) (aYS m c) (aYA m c) i j := by
  unfold sum3
  rw [n_v29 m ρ c hi hj]
  refine congrArg (· + _) ((nn_congr _ _ (fun i => Sml.layH (aYA m c i)) _ (fun k j => Sml.layH (fun p => aWO m c (1024 + p) j) k) _ _
    (fun k hk => n_v24 m ρ c hi hk) (fun k hk => n_v20 m ρ c hk hj)).trans ?_)
  exact Sml.sum_layH (aYA m c i) (fun p => aWO m c (1024 + p) j)

/-- The output product. -/
theorem n_v30_0 {i j : ℕ} (hi : i < 4224) (hj : j < 1024) : at2 (a := 4224) (b := 1024) (W9 m ρ c main_v30_0) i j = Sml.M (aWO m c) (aYS m c) (aYA m c) i j := by
  rw [x_v30_0]
  exact (at2_mk _ _ (fun _ => rfl) hi hj).trans (m_eq m ρ c hi hj)

/-- What comes out. -/
theorem n_v30_1 {i j : ℕ} (hi : i < 4224) (hj : j < 1024) : at2 (a := 4224) (b := 1024) (W9 m ρ c main_v30_1) i j = Sml.H (aH m c) (aG2 m c) (aWO m c) (aYS m c) (aYA m c) i j := by
  rw [x_v30_1]
  refine (dif_pos ⟨hi, hj⟩).trans ?_
  unfold G3b Sml.H
  refine congrArg (aH m c i j + ·) ?_
  refine Eq.trans (rms_congr _ (Sml.M (aWO m c) (aYS m c) (aYA m c) i) (fun k hk => m_eq m ρ c hi hk) _ _) ?_
  exact congrArg₂ (rms (Sml.M (aWO m c) (aYS m c) (aYA m c) i)) (m_eq m ρ c hi hj) (n_v5 m ρ c hj)

/-- The gradient of the output weight's first half. -/
theorem n_v39 {i j : ℕ} (hi : i < 1024) (hj : j < 1024) : at2 (a := 1024) (b := 1024) (W11 m ρ c main_v39) i j = tn 4224 (aYS m c) (aD m c) i j := by
  rw [x_v39, v25_eq, v26_eq]
  refine (at2_mk _ _ (fun _ => rfl) hi hj).trans ?_
  exact tn_congr _ _ _ _ _ _ _ (fun k hk => rfl) (fun k hk => rfl)

/-- The gradient of the output weight's second half, laid out. -/
theorem n_v40 {i j : ℕ} (hi : i < 2048) (hj : j < 1024) : at2 (a := 2048) (b := 1024) (W12 m ρ c main_v40) i j = tn 4224 (fun k => Sml.layH (aYA m c k)) (aD m c) i j := by
  rw [x_v40, v26_eq]
  refine (at2_mk _ _ (fun _ => rfl) hi hj).trans ?_
  exact tn_congr _ _ _ _ _ _ _ (fun k hk => n_v24 m ρ c hk hi) (fun k hk => rfl)

/-- The gradient of the recurrence's rows. -/
theorem n_v41 {i j : ℕ} (hi : i < 4224) (hj : j < 1024) : at2 (a := 4224) (b := 1024) (W13 m ρ c main_v41) i j = Sml.DYS (aWO m c) (aD m c) i j := by
  rw [x_v41, v26_eq]
  refine (at2_mk _ _ (fun _ => rfl) hi hj).trans ?_
  exact nt_congr _ _ _ _ _ _ _ (fun k hk => rfl) (fun k hk => n_v17 m ρ c hj hk)

/-- The gradient of the attention's rows, laid out. -/
theorem n_v42 {i j : ℕ} (hi : i < 4224) (hj : j < 2048) : at2 (a := 4224) (b := 2048) (W14 m ρ c main_v42) i j = nt 1024 (aD m c) (fun n k => Sml.layH (fun p => aWO m c (1024 + p) k) n) i j := by
  rw [x_v42, v26_eq]
  refine (at2_mk _ _ (fun _ => rfl) hi hj).trans ?_
  exact nt_congr _ _ _ _ _ _ _ (fun k hk => rfl) (fun k hk => n_v20 m ρ c hj hk)

/-- The gradient of the projections' weight, laid out. -/
theorem n_v43 {i j : ℕ} (hi : i < 1024) (hj : j < 3456) : at2 (a := 1024) (b := 3456) (W15 m ρ c main_v43) i j = tn 4224 (Sml.hn (aH m c) (aG1 m c)) (fun k => Sml.layC (aDP m c k)) i j := by
  rw [x_v43]
  refine (at2_mk _ _ (fun _ => rfl) hi hj).trans ?_
  exact tn_congr _ _ _ _ _ _ _ (fun k hk => n_v27 m ρ c hk hi) (fun k hk => n_v38 m ρ c hk hj)

/-- The gradient of the normalised rows. -/
theorem n_v44 {i j : ℕ} (hi : i < 4224) (hj : j < 1024) : at2 (a := 4224) (b := 1024) (W16 m ρ c main_v44) i j = Sml.DHN (aWI m c) (aDP m c) i j := by
  rw [x_v44]
  refine (at2_mk _ _ (fun _ => rfl) hi hj).trans ?_
  refine (nt_congr _ _ (fun i => Sml.layC (aDP m c i)) _ (fun j => Sml.layC (aWI m c j)) _ _ (fun k hk => n_v38 m ρ c hi hk) (fun k hk => n_v15 m ρ c hj hk)).trans ?_
  exact Sml.sum_layC (aDP m c i) (aWI m c j)

/-- A result at the end of the run. -/
theorem r_v30_1 (y : S4224x1024.Idx) : (W17 m ρ c main_v30_1 : Vec Ideal S4224x1024 .f32) y = Sml.H (aH m c) (aG2 m c) (aWO m c) (aYS m c) (aYA m c) (y 0).val (y 1).val := by
  simp (discharger := decide) only [W10_of m, W11_of m, W12_of m, W13_of m, W14_of m, W15_of m, W16_of m, W17_of m]; exact (eq_at2 (a := 4224) (b := 1024) (W9 m ρ c main_v30_1) y).trans (n_v30_1 m ρ c (y 0).isLt (y 1).isLt)

/-- A result at the end of the run. -/
theorem r_v30_0 (y : S4224x1024.Idx) : (W17 m ρ c main_v30_0 : Vec Ideal S4224x1024 .f32) y = Sml.M (aWO m c) (aYS m c) (aYA m c) (y 0).val (y 1).val := by
  simp (discharger := decide) only [W10_of m, W11_of m, W12_of m, W13_of m, W14_of m, W15_of m, W16_of m, W17_of m]; exact (eq_at2 (a := 4224) (b := 1024) (W9 m ρ c main_v30_0) y).trans (n_v30_0 m ρ c (y 0).isLt (y 1).isLt)

/-- A result at the end of the run. -/
theorem r_v44 (y : S4224x1024.Idx) : (W17 m ρ c main_v44 : Vec Ideal S4224x1024 .f32) y = Sml.DHN (aWI m c) (aDP m c) (y 0).val (y 1).val := by
  simp (discharger := decide) only [W17_of m]; exact (eq_at2 (a := 4224) (b := 1024) (W16 m ρ c main_v44) y).trans (n_v44 m ρ c (y 0).isLt (y 1).isLt)

/-- A result at the end of the run. -/
theorem r_v41 (y : S4224x1024.Idx) : (W17 m ρ c main_v41 : Vec Ideal S4224x1024 .f32) y = Sml.DYS (aWO m c) (aD m c) (y 0).val (y 1).val := by
  simp (discharger := decide) only [W14_of m, W15_of m, W16_of m, W17_of m]; exact (eq_at2 (a := 4224) (b := 1024) (W13 m ρ c main_v41) y).trans (n_v41 m ρ c (y 0).isLt (y 1).isLt)

/-- A result at the end of the run. -/
theorem r_v56 (y : S4224x3248.Idx) : (W17 m ρ c main_v56 : Vec Ideal S4224x3248 .f32) y = Sml.PR (aH m c) (aG1 m c) (aWI m c) (y 0).val (y 1).val := by
  have y0 : (y 0).val < 4224 := (y 0).isLt
  have y1 : (y 1).val < 3248 := (y 1).isLt
  refine (congrArg (W17 m ρ c main_v56 : Vec Ideal S4224x3248 .f32) (eq_ix2 y)).trans ((v56_at m ρ c (y 0) (y 1)).trans ?_)
  simp (discharger := decide) only [W8_of m, W9_of m, W10_of m, W11_of m, W12_of m, W13_of m, W14_of m, W15_of m, W16_of m]; rw [n_v28 m ρ c y0 (show Sml.posC (y 1).val < 3456 by unfold Sml.posC; split_ifs <;> omega)]
  exact Sml.nn_posC _ _ _ _ y1

/-- A result at the end of the run. -/
theorem r_v48 (y : S4224x1024.Idx) : (W17 m ρ c main_v48 : Vec Ideal S4224x1024 .f32) y = Sml.DYA (aWO m c) (aD m c) (y 0).val (y 1).val := by
  have y0 : (y 0).val < 4224 := (y 0).isLt
  have y1 : (y 1).val < 1024 := (y 1).isLt
  refine (congrArg (W17 m ρ c main_v48 : Vec Ideal S4224x1024 .f32) (eq_ix2 y)).trans ((v48_at m ρ c (y 0) (y 1)).trans ?_)
  simp (discharger := decide) only [W15_of m, W16_of m]; rw [n_v42 m ρ c y0 (show Sml.posH (y 1).val < 2048 by unfold Sml.posH; omega)]
  exact Sml.nt_posH 1024 (aD m c) (fun p => aWO m c (1024 + p)) _ _

/-- A result at the end of the run. -/
theorem r_v60 (y : S1024x3248.Idx) : (W17 m ρ c main_v60 : Vec Ideal S1024x3248 .f32) y = Sml.DWI (aH m c) (aG1 m c) (aDP m c) (y 0).val (y 1).val := by
  have y0 : (y 0).val < 1024 := (y 0).isLt
  have y1 : (y 1).val < 3248 := (y 1).isLt
  refine (congrArg (W17 m ρ c main_v60 : Vec Ideal S1024x3248 .f32) (eq_ix2 y)).trans ((v60_at m ρ c (y 0) (y 1)).trans ?_)
  simp (discharger := decide) only [W16_of m]; rw [n_v43 m ρ c y0 (show Sml.posC (y 1).val < 3456 by unfold Sml.posC; split_ifs <;> omega)]
  exact Sml.tn_posC _ _ _ _ y1

/-- A result at the end of the run. -/
theorem r_v52 (y : S2048x1024.Idx) : (W17 m ρ c main_v52 : Vec Ideal S2048x1024 .f32) y = Sml.DWO (aYS m c) (aYA m c) (aD m c) (y 0).val (y 1).val := by
  have y0 : (y 0).val < 2048 := (y 0).isLt
  have y1 : (y 1).val < 1024 := (y 1).isLt
  refine (congrArg (W17 m ρ c main_v52 : Vec Ideal S2048x1024 .f32) (eq_ix2 y)).trans ((v52_at m ρ c (y 0) (y 1)).trans ?_)
  unfold Sml.DWO
  split <;> rename_i h
  · simp (discharger := decide) only [W12_of m, W13_of m, W14_of m, W15_of m, W16_of m]; rw [n_v39 m ρ c h y1]
  · simp (discharger := decide) only [W13_of m, W14_of m, W15_of m, W16_of m]; rw [n_v40 m ρ c (show Sml.posH ((y 0).val - 1024) < 2048 by unfold Sml.posH; omega) y1]
    exact Sml.tn_posH _ _ _ _ _

end values

set_option backward.isDefEq.respectTransparency.types false in
/-- The run: every buffer of every core ends as the last valuation says, and every counter at zero. -/
theorem run_all : θ_run defs (onTc (τ := τ) (main (F := Ideal))) ⟨m, fun _ => 0, ρ⟩ (fun r => (∀ c : Dev nD, ∀ b ∈ Pipeline.ucRefs τ sig,
      r.2.mem (((c : Thread nD τ)).1, b) = W17 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨h, funext fun g => hz g (.inr (no_unscoped g.2))⟩)

end Cert.SmIdeal.Value

end
-- ==== Proof.SmRefVal.lean ====
/- The reference's results for an even layer's products, each entry a sum of products of the arguments' entries. -/
module

public import proofs.«01_k».proof.Proof.Gen.SmRefIdeal.Run
public import proofs.«01_k».proof.Proof.SmSpec

@[expose] public section

set_option maxRecDepth 16384

noncomputable section

namespace Cert.SmRefIdeal.Value

open Cert.SmRefIdeal Cert.SmRefIdeal.Gen Idealize.ShloMosaic Idealize.ShloMosaic.TcCoe Idealize.SL.Sem Idealize.ShloMosaic.StableHlo
open Cert.Coord Cert.Prod Cert.MlpIdeal.Value

/-! ## The reference's steps -/

/-- Rows divided by their root mean square and multiplied by a gain. -/
def rRms (x : FVec Ideal S4224x1024 .f32) (g : FVec Ideal S1024 .f32) : FVec Ideal S4224x1024 .f32 :=
  mulf (mulf x (broadcastInDim S4224x1024 ![0, 1] bcast_S4224x1_S4224x1024_0_1 (Host.rsqrt (addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 g))

/-- One of the layer's weights, the second of two. -/
def rWI (w : FVec Ideal S2x1024x3248 .f32) : FVec Ideal S1024x3248 .f32 :=
  shapeCast _ (extractStridedSlice S1x1024x3248 ![1, 0, 0] w slices_S2x1024x3248_S1x1024x3248_1_0_0) shapeCasts_S1x1024x3248_S1024x3248

/-- One of the layer's weights, the second of two. -/
def rWO (w : FVec Ideal S2x2048x1024 .f32) : FVec Ideal S2048x1024 .f32 :=
  shapeCast _ (extractStridedSlice S1x2048x1024 ![1, 0, 0] w slices_S2x2048x1024_S1x2048x1024_1_0_0) shapeCasts_S1x2048x1024_S2048x1024

/-- The projections. -/
def rIn (x : FVec Ideal S4224x1024 .f32) (w : FVec Ideal S1024x3248 .f32) : FVec Ideal S4224x3248 .f32 :=
  Host.dotGeneral (F := Ideal) (φ₁ := .f32) (φ₂ := .f32) dot_S4224x1024_S1024x3248_S4224x3248_1_0_0_1_n_n none x w

/-- The output product. -/
def rOut (x : FVec Ideal S4224x2048 .f32) (w : FVec Ideal S2048x1024 .f32) : FVec Ideal S4224x1024 .f32 :=
  Host.dotGeneral (F := Ideal) (φ₁ := .f32) (φ₂ := .f32) dot_S4224x2048_S2048x1024_S4224x1024_1_0_0_1_n_n none x w

/-- The gradient of the two halves. -/
def rBO (x : FVec Ideal S4224x1024 .f32) (w : FVec Ideal S2048x1024 .f32) : FVec Ideal S4224x2048 .f32 :=
  Host.dotGeneral (F := Ideal) (φ₁ := .f32) (φ₂ := .f32) dot_S4224x1024_S2048x1024_S4224x2048_1_1_0_0_n_n none x w

/-- The gradient of the rows. -/
def rBI (x : FVec Ideal S4224x3248 .f32) (w : FVec Ideal S1024x3248 .f32) : FVec Ideal S4224x1024 .f32 :=
  Host.dotGeneral (F := Ideal) (φ₁ := .f32) (φ₂ := .f32) dot_S4224x3248_S1024x3248_S4224x1024_1_1_0_0_n_n none x w

/-- The projections' weight's gradient. -/
def rDWI (d : FVec Ideal S4224x3248 .f32) (x : FVec Ideal S4224x1024 .f32) : FVec Ideal S1024x3248 .f32 :=
  transpose S1024x3248 [1, 0] (Host.dotGeneral (F := Ideal) (φ₁ := .f32) (φ₂ := .f32) dot_S4224x3248_S4224x1024_S3248x1024_0_0_1_1_n_n none d x) transposes_S3248x1024_S1024x3248_1_0

/-- The output weight's gradient. -/
def rDWO (d : FVec Ideal S4224x1024 .f32) (x : FVec Ideal S4224x2048 .f32) : FVec Ideal S2048x1024 .f32 :=
  transpose S2048x1024 [1, 0] (Host.dotGeneral (F := Ideal) (φ₁ := .f32) (φ₂ := .f32) dot_S4224x1024_S4224x2048_S1024x2048_0_0_1_1_n_n none d x) transposes_S1024x2048_S2048x1024_1_0

/-- The two halves side by side. -/
def rCat (x y : FVec Ideal S4224x1024 .f32) : FVec Ideal S4224x2048 .f32 :=
  concatenate S4224x2048 1 [⟨S4224x1024, x⟩, ⟨S4224x1024, y⟩] concatenates_S4224x1024_S4224x1024_S4224x2048_d1

/-- The first half. -/
def rS0 (x : FVec Ideal S4224x2048 .f32) : FVec Ideal S4224x1024 .f32 := extractStridedSlice S4224x1024 ![0, 0] x slices_S4224x2048_S4224x1024_0_0

/-- The second half. -/
def rS1 (x : FVec Ideal S4224x2048 .f32) : FVec Ideal S4224x1024 .f32 := extractStridedSlice S4224x1024 ![0, 1024] x slices_S4224x2048_S4224x1024_0_1024

/-- A normalised row's entry. -/
theorem rRms_at (x : FVec Ideal S4224x1024 .f32) (g : FVec Ideal S1024 .f32) (i : Fin 4224) (k : Fin 1024) :
    rRms x g (ix2 i k) = rms (at2 (a := 4224) (b := 1024) x i.val) (x (ix2 i k)) (at1 (a := 1024) g k.val) := by
  unfold rms
  rw [Finset.sum_range, at1_ix g k]
  simp only [fun k : Fin 1024 => at2_ix x i k]
  unfold rRms
  pointwise

/-- The layer is the second of two. -/
theorem rWI_at (w : FVec Ideal S2x1024x3248 .f32) (k : Fin 1024) (j : Fin 3248) : rWI w (ix2 k j) = w (ix3 (1 : Fin 2) k j) := by
  unfold rWI
  pointwise

/-- The layer is the second of two. -/
theorem rWO_at (w : FVec Ideal S2x2048x1024 .f32) (k : Fin 2048) (j : Fin 1024) : rWO w (ix2 k j) = w (ix3 (1 : Fin 2) k j) := by
  unfold rWO
  pointwise

/-- An entry of it. -/
theorem rIn_at (x : FVec Ideal S4224x1024 .f32) (w : FVec Ideal S1024x3248 .f32) (i : Fin 4224) (j : Fin 3248) :
    rIn x w (ix2 i j) = ∑ k : Fin 1024, x (ix2 i k) * w (ix2 k j) := by
  unfold rIn
  pointwise

/-- An entry of it. -/
theorem rOut_at (x : FVec Ideal S4224x2048 .f32) (w : FVec Ideal S2048x1024 .f32) (i : Fin 4224) (j : Fin 1024) :
    rOut x w (ix2 i j) = ∑ k : Fin 2048, x (ix2 i k) * w (ix2 k j) := by
  unfold rOut
  pointwise

/-- An entry of it. -/
theorem rBO_at (x : FVec Ideal S4224x1024 .f32) (w : FVec Ideal S2048x1024 .f32) (i : Fin 4224) (j : Fin 2048) :
    rBO x w (ix2 i j) = ∑ k : Fin 1024, x (ix2 i k) * w (ix2 j k) := by
  unfold rBO
  pointwise

/-- An entry of it. -/
theorem rBI_at (x : FVec Ideal S4224x3248 .f32) (w : FVec Ideal S1024x3248 .f32) (i : Fin 4224) (j : Fin 1024) :
    rBI x w (ix2 i j) = ∑ k : Fin 3248, x (ix2 i k) * w (ix2 j k) := by
  unfold rBI
  pointwise

/-- An entry of it. -/
theorem rDWI_at (x : FVec Ideal S4224x3248 .f32) (w : FVec Ideal S4224x1024 .f32) (i : Fin 1024) (j : Fin 3248) :
    rDWI x w (ix2 i j) = ∑ k : Fin 4224, x (ix2 k j) * w (ix2 k i) := by
  unfold rDWI
  pointwise

/-- An entry of it. -/
theorem rDWO_at (x : FVec Ideal S4224x1024 .f32) (w : FVec Ideal S4224x2048 .f32) (i : Fin 2048) (j : Fin 1024) :
    rDWO x w (ix2 i j) = ∑ k : Fin 4224, x (ix2 k j) * w (ix2 k i) := by
  unfold rDWO
  pointwise

/-- An entry of the two halves. -/
theorem rCat_at (x y : FVec Ideal S4224x1024 .f32) (i : Fin 4224) (k : Fin 2048) :
    rCat x y (ix2 i k) = if h : k.val < 1024 then x (ix2 i (⟨k.val, h⟩ : Fin 1024)) else y (ix2 i (⟨k.val - 1024, by omega⟩ : Fin 1024)) := by
  unfold rCat
  pointwise

/-- The first half read. -/
theorem rCat_lo (x y : FVec Ideal S4224x1024 .f32) (i : Fin 4224) {k : ℕ} (hk : k < 1024) :
    at2 (a := 4224) (b := 2048) (rCat x y) i.val k = at2 (a := 4224) (b := 1024) x i.val k :=
  (at2_ix (rCat x y) i (⟨k, by omega⟩ : Fin 2048)).trans ((rCat_at x y i ⟨k, by omega⟩).trans ((dif_pos hk).trans (at2_ix x i (⟨k, hk⟩ : Fin 1024)).symm))

/-- The second half read. -/
theorem rCat_hi (x y : FVec Ideal S4224x1024 .f32) (i : Fin 4224) {k : ℕ} (hk : k < 2048) (h : ¬ k < 1024) :
    at2 (a := 4224) (b := 2048) (rCat x y) i.val k = at2 (a := 4224) (b := 1024) y i.val (k - 1024) :=
  (at2_ix (rCat x y) i (⟨k, hk⟩ : Fin 2048)).trans ((rCat_at x y i ⟨k, hk⟩).trans ((dif_neg h).trans (at2_ix y i (⟨k - 1024, by omega⟩ : Fin 1024)).symm))

/-- An entry of the first half. -/
theorem rS0_at (x : FVec Ideal S4224x2048 .f32) (i : Fin 4224) (j : Fin 1024) : rS0 x (ix2 i j) = x (ix2 i (⟨j.val, by omega⟩ : Fin 2048)) := by
  unfold rS0
  pointwise

/-- An entry of the second half. -/
theorem rS1_at (x : FVec Ideal S4224x2048 .f32) (i : Fin 4224) (j : Fin 1024) : rS1 x (ix2 i j) = x (ix2 i (⟨1024 + j.val, by omega⟩ : Fin 2048)) := by
  unfold rS1
  pointwise

/-! ## The results -/

variable (a0 : FVec Ideal S4224x1024 .f32) (a1 a2 : FVec Ideal S1024 .f32) (a3 : FVec Ideal S2x1024x3248 .f32) (a4 : FVec Ideal S2x2048x1024 .f32)
  (a5 a6 a7 : FVec Ideal S4224x1024 .f32) (a8 : FVec Ideal S4224x3248 .f32)

/-- The normalised rows. -/
def oHn := rRms a0 a1
/-- The projections. -/
def oPR := rIn (oHn a0 a1) (rWI a3)
/-- The output product. -/
def oM := rOut (rCat a5 a6) (rWO a4)
/-- What comes out. -/
def oH := addf a0 (rRms (oM a4 a5 a6) a2)

/-- The normalised rows, entry by entry. -/
theorem oHn_at (i : Fin 4224) (j : Fin 1024) : oHn a0 a1 (ix2 i j)
    = Sml.hn (at2 (a := 4224) (b := 1024) a0) (at1 (a := 1024) a1) i.val j.val := by
  unfold oHn Sml.hn
  rw [rRms_at, at2_ix a0 i j]

/-- The projections, entry by entry. -/
theorem oPR_at (i : Fin 4224) (j : Fin 3248) : oPR a0 a1 a3 (ix2 i j)
    = Sml.PR (at2 (a := 4224) (b := 1024) a0) (at1 (a := 1024) a1) (at3 (a := 2) (b := 1024) (c := 3248) a3 1) i.val j.val := by
  unfold oPR Sml.PR
  rw [rIn_at]
  exact nn_fin _ _ _ _ _ i.val j.val (fun k => oHn_at a0 a1 i k) (fun k => ((rWI_at a3 k j).trans (at3_ix a3 (1 : Fin 2) k j).symm))

/-- The output product, entry by entry. -/
theorem oM_at (i : Fin 4224) (j : Fin 1024) : oM a4 a5 a6 (ix2 i j)
    = Sml.M (at3 (a := 2) (b := 2048) (c := 1024) a4 1) (at2 (a := 4224) (b := 1024) a5) (at2 (a := 4224) (b := 1024) a6) i.val j.val := by
  unfold oM
  rw [rOut_at]
  refine (nn_fin _ _ _ (at2 (a := 4224) (b := 2048) (rCat a5 a6)) (at3 (a := 2) (b := 2048) (c := 1024) a4 1) i.val j.val (fun k => (at2_ix (rCat a5 a6) i k).symm) (fun k => ((rWO_at a4 k j).trans (at3_ix a4 (1 : Fin 2) k j).symm))).trans ?_
  exact Sml.M_whole _ _ _ _ _ _ (fun k hk => rCat_lo a5 a6 i hk)
    (fun k hk => (rCat_hi a5 a6 i (by omega) (by omega)).trans (by rw [Nat.add_sub_cancel_left]))

/-- What comes out, entry by entry. -/
theorem oH_at (i : Fin 4224) (j : Fin 1024) : oH a0 a2 a4 a5 a6 (ix2 i j)
    = Sml.H (at2 (a := 4224) (b := 1024) a0) (at1 (a := 1024) a2) (at3 (a := 2) (b := 2048) (c := 1024) a4 1) (at2 (a := 4224) (b := 1024) a5) (at2 (a := 4224) (b := 1024) a6) i.val j.val := by
  refine Eq.trans (b := a0 (ix2 i j) + rRms (oM a4 a5 a6) a2 (ix2 i j)) rfl ?_
  unfold Sml.H
  rw [rRms_at, oM_at, at2_ix a0 i j]
  refine congrArg (_ + ·) (rms_congr _ _ (fun k hk => ?_) _ _)
  exact (at2_ix (oM a4 a5 a6) i (⟨k, hk⟩ : Fin 1024)).trans (oM_at a4 a5 a6 i ⟨k, hk⟩)

/-- The gradient of the normalised rows, entry by entry. -/
theorem oDHN_at (i : Fin 4224) (j : Fin 1024) : rBI a8 (rWI a3) (ix2 i j)
    = Sml.DHN (at3 (a := 2) (b := 1024) (c := 3248) a3 1) (at2 (a := 4224) (b := 3248) a8) i.val j.val := by
  unfold Sml.DHN
  rw [rBI_at]
  exact nt_fin _ _ _ _ _ i.val j.val (fun k => (at2_ix a8 i k).symm) (fun k => ((rWI_at a3 j k).trans (at3_ix a3 (1 : Fin 2) j k).symm))

/-- The gradient of the recurrence's rows, entry by entry. -/
theorem oDYS_at (i : Fin 4224) (j : Fin 1024) : rS0 (rBO a7 (rWO a4)) (ix2 i j)
    = Sml.DYS (at3 (a := 2) (b := 2048) (c := 1024) a4 1) (at2 (a := 4224) (b := 1024) a7) i.val j.val := by
  unfold Sml.DYS
  rw [rS0_at, rBO_at]
  exact nt_fin _ _ _ _ _ i.val j.val (fun k => (at2_ix a7 i k).symm) (fun k => ((rWO_at a4 ⟨j.val, by omega⟩ k).trans (at3_ix a4 (1 : Fin 2) ⟨j.val, by omega⟩ k).symm))

/-- The gradient of the attention's rows, entry by entry. -/
theorem oDYA_at (i : Fin 4224) (j : Fin 1024) : rS1 (rBO a7 (rWO a4)) (ix2 i j)
    = Sml.DYA (at3 (a := 2) (b := 2048) (c := 1024) a4 1) (at2 (a := 4224) (b := 1024) a7) i.val j.val := by
  unfold Sml.DYA
  rw [rS1_at, rBO_at]
  exact nt_fin _ _ _ _ _ i.val (1024 + j.val) (fun k => (at2_ix a7 i k).symm) (fun k => ((rWO_at a4 ⟨1024 + j.val, by omega⟩ k).trans (at3_ix a4 (1 : Fin 2) ⟨1024 + j.val, by omega⟩ k).symm))

/-- The projections' weight's gradient, entry by entry. -/
theorem oDWI_at (i : Fin 1024) (j : Fin 3248) : rDWI a8 (oHn a0 a1) (ix2 i j)
    = Sml.DWI (at2 (a := 4224) (b := 1024) a0) (at1 (a := 1024) a1) (at2 (a := 4224) (b := 3248) a8) i.val j.val := by
  unfold Sml.DWI
  rw [rDWI_at]
  exact tn_fin _ _ _ _ _ i.val j.val (fun k => (at2_ix a8 k j).symm) (fun k => oHn_at a0 a1 k i)

/-- The output weight's gradient, entry by entry. -/
theorem oDWO_at (i : Fin 2048) (j : Fin 1024) : rDWO a7 (rCat a5 a6) (ix2 i j)
    = Sml.DWO (at2 (a := 4224) (b := 1024) a5) (at2 (a := 4224) (b := 1024) a6) (at2 (a := 4224) (b := 1024) a7) i.val j.val := by
  rw [rDWO_at]
  refine (tn_fin _ _ _ (at2 (a := 4224) (b := 2048) (rCat a5 a6)) (at2 (a := 4224) (b := 1024) a7) i.val j.val (fun k => (at2_ix a7 k j).symm) (fun k => (at2_ix (rCat a5 a6) k i).symm)).trans ?_
  unfold Sml.DWO tn
  split <;> rename_i h <;> refine Finset.sum_congr rfl fun k hk => congrArg (· * _) ?_
  · exact rCat_lo a5 a6 ⟨k, Finset.mem_range.mp hk⟩ h
  · exact rCat_hi a5 a6 ⟨k, Finset.mem_range.mp hk⟩ i.isLt h

/-- The run: each result buffer holds the steps above composed, the arguments unchanged. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = oH (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v15) = oPR (m ((c.tc : Thread nD τ).loc main_arg0)) (m ((c.tc : Thread nD τ).loc main_arg1)) (m ((c.tc : Thread nD τ).loc main_arg3))
      ∧ r.2.mem ((c.tc : Thread nD τ).loc main_v19) = oM (m ((c.tc : Thread nD τ).loc main_arg4)) (m ((c.tc : Thread nD τ).loc main_arg5)) (m ((c.tc : Thread nD τ).loc main_arg6))
      ∧ r.2.mem ((c.tc : Thread nD τ).loc main_v22) = rBI (m ((c.tc : Thread nD τ).loc main_arg8)) (rWI (m ((c.tc : Thread nD τ).loc main_arg3)))
      ∧ r.2.mem ((c.tc : Thread nD τ).loc main_v26) = rS0 (rBO (m ((c.tc : Thread nD τ).loc main_arg7)) (rWO (m ((c.tc : Thread nD τ).loc main_arg4))))
      ∧ r.2.mem ((c.tc : Thread nD τ).loc main_v27) = rS1 (rBO (m ((c.tc : Thread nD τ).loc main_arg7)) (rWO (m ((c.tc : Thread nD τ).loc main_arg4))))
      ∧ r.2.mem ((c.tc : Thread nD τ).loc main_v21) = rDWI (m ((c.tc : Thread nD τ).loc main_arg8)) (oHn (m ((c.tc : Thread nD τ).loc main_arg0)) (m ((c.tc : Thread nD τ).loc main_arg1)))
      ∧ r.2.mem ((c.tc : Thread nD τ).loc main_v24) = rDWO (m ((c.tc : Thread nD τ).loc main_arg7)) (rCat (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => h c) (run (F := Ideal) m ρ)

end Cert.SmRefIdeal.Value

end
-- ==== Proof.SmMatch.lean ====
/- An even layer's products and their gradients against the reference: the frames and the equality of the results. -/
module

public import proofs.«01_k».proof.Defs
public import proofs.«01_k».proof.Proof.Gen.Sm.Frame
public import proofs.«01_k».proof.Proof.SmRun
public import proofs.«01_k».proof.Proof.SmRefVal
public import Idealize.ShloMosaic.Adequacy
public import Idealize.ShloMosaic.Init

@[expose] public section

noncomputable section

namespace Cert.SmMatch

open Idealize.ShloMosaic Idealize.ShloMosaic.TcCoe Idealize.SL.Sem Cert.Coord

/-- The kernel runs and ends with its arguments unchanged and every counter at zero. -/
theorem frame_sm : Cert.quiescent_Sm := fun m ρ _ => Cert.Sm.Gen.frame m ρ

/-- So does the same program over the extended reals. -/
theorem frame_smIdeal : Cert.quiescent_SmIdeal := fun m ρ _ => Cert.SmIdeal.Gen.frame m ρ

/-- So does the reference. -/
theorem frame_smRef : Cert.quiescent_SmRefIdeal := fun m ρ _ =>
  (θ_run Cert.SmRefIdeal.defs _ _).mono (fun r h => ⟨fun c => (h c).2.2.2.2.2.2.2.2, sem_eq_zero_of_no_sems (by decide) r.2⟩)
    (Cert.SmRefIdeal.Value.run (F := Ideal) m ρ)

/-- The kernel's results, named, with its arguments unchanged. -/
theorem run_kernel (m : (ℓ : Loc Cert.SmIdeal.nD Cert.SmIdeal.τ Cert.SmIdeal.sig) → Buf (Elt Ideal) ℓ) (ρ : Dev Cert.SmIdeal.nD → PrngReg) :
    θ_run (Cert.SmIdeal.defs (F := Ideal)) (onTc (τ := Cert.SmIdeal.τ) (Cert.SmIdeal.main (F := Ideal))) ⟨m, fun _ => 0, ρ⟩ (fun r => ∀ c : Dev Cert.SmIdeal.nD,
      r.2.mem ((c.tc : Thread Cert.SmIdeal.nD Cert.SmIdeal.τ).loc Cert.SmIdeal.main_v30_1) = Cert.SmIdeal.Gen.W17 m ρ c Cert.SmIdeal.main_v30_1
      ∧ r.2.mem ((c.tc : Thread Cert.SmIdeal.nD Cert.SmIdeal.τ).loc Cert.SmIdeal.main_v56) = Cert.SmIdeal.Gen.W17 m ρ c Cert.SmIdeal.main_v56
      ∧ r.2.mem ((c.tc : Thread Cert.SmIdeal.nD Cert.SmIdeal.τ).loc Cert.SmIdeal.main_v30_0) = Cert.SmIdeal.Gen.W17 m ρ c Cert.SmIdeal.main_v30_0
      ∧ r.2.mem ((c.tc : Thread Cert.SmIdeal.nD Cert.SmIdeal.τ).loc Cert.SmIdeal.main_v44) = Cert.SmIdeal.Gen.W17 m ρ c Cert.SmIdeal.main_v44
      ∧ r.2.mem ((c.tc : Thread Cert.SmIdeal.nD Cert.SmIdeal.τ).loc Cert.SmIdeal.main_v41) = Cert.SmIdeal.Gen.W17 m ρ c Cert.SmIdeal.main_v41
      ∧ r.2.mem ((c.tc : Thread Cert.SmIdeal.nD Cert.SmIdeal.τ).loc Cert.SmIdeal.main_v48) = Cert.SmIdeal.Gen.W17 m ρ c Cert.SmIdeal.main_v48
      ∧ r.2.mem ((c.tc : Thread Cert.SmIdeal.nD Cert.SmIdeal.τ).loc Cert.SmIdeal.main_v60) = Cert.SmIdeal.Gen.W17 m ρ c Cert.SmIdeal.main_v60
      ∧ r.2.mem ((c.tc : Thread Cert.SmIdeal.nD Cert.SmIdeal.τ).loc Cert.SmIdeal.main_v52) = Cert.SmIdeal.Gen.W17 m ρ c Cert.SmIdeal.main_v52
      ∧ r.2.mem ((c.tc : Thread Cert.SmIdeal.nD Cert.SmIdeal.τ).loc Cert.SmIdeal.main_arg0) = m ((c.tc : Thread Cert.SmIdeal.nD Cert.SmIdeal.τ).loc Cert.SmIdeal.main_arg0)
      ∧ r.2.mem ((c.tc : Thread Cert.SmIdeal.nD Cert.SmIdeal.τ).loc Cert.SmIdeal.main_arg1) = m ((c.tc : Thread Cert.SmIdeal.nD Cert.SmIdeal.τ).loc Cert.SmIdeal.main_arg1)
      ∧ r.2.mem ((c.tc : Thread Cert.SmIdeal.nD Cert.SmIdeal.τ).loc Cert.SmIdeal.main_arg2) = m ((c.tc : Thread Cert.SmIdeal.nD Cert.SmIdeal.τ).loc Cert.SmIdeal.main_arg2)
      ∧ r.2.mem ((c.tc : Thread Cert.SmIdeal.nD Cert.SmIdeal.τ).loc Cert.SmIdeal.main_arg3) = m ((c.tc : Thread Cert.SmIdeal.nD Cert.SmIdeal.τ).loc Cert.SmIdeal.main_arg3)
      ∧ r.2.mem ((c.tc : Thread Cert.SmIdeal.nD Cert.SmIdeal.τ).loc Cert.SmIdeal.main_arg4) = m ((c.tc : Thread Cert.SmIdeal.nD Cert.SmIdeal.τ).loc Cert.SmIdeal.main_arg4)
      ∧ r.2.mem ((c.tc : Thread Cert.SmIdeal.nD Cert.SmIdeal.τ).loc Cert.SmIdeal.main_arg5) = m ((c.tc : Thread Cert.SmIdeal.nD Cert.SmIdeal.τ).loc Cert.SmIdeal.main_arg5)
      ∧ r.2.mem ((c.tc : Thread Cert.SmIdeal.nD Cert.SmIdeal.τ).loc Cert.SmIdeal.main_arg6) = m ((c.tc : Thread Cert.SmIdeal.nD Cert.SmIdeal.τ).loc Cert.SmIdeal.main_arg6)
      ∧ r.2.mem ((c.tc : Thread Cert.SmIdeal.nD Cert.SmIdeal.τ).loc Cert.SmIdeal.main_arg7) = m ((c.tc : Thread Cert.SmIdeal.nD Cert.SmIdeal.τ).loc Cert.SmIdeal.main_arg7)
      ∧ r.2.mem ((c.tc : Thread Cert.SmIdeal.nD Cert.SmIdeal.τ).loc Cert.SmIdeal.main_arg8) = m ((c.tc : Thread Cert.SmIdeal.nD Cert.SmIdeal.τ).loc Cert.SmIdeal.main_arg8)) :=
  (θ_run Cert.SmIdeal.defs _ _).mono (fun r h c => ⟨h.1 c _ (Cert.SmIdeal.Gen.mem_uc Cert.SmIdeal.main_v30_1 (by decide)),
    h.1 c _ (Cert.SmIdeal.Gen.mem_uc Cert.SmIdeal.main_v56 (by decide)),
    h.1 c _ (Cert.SmIdeal.Gen.mem_uc Cert.SmIdeal.main_v30_0 (by decide)),
    h.1 c _ (Cert.SmIdeal.Gen.mem_uc Cert.SmIdeal.main_v44 (by decide)),
    h.1 c _ (Cert.SmIdeal.Gen.mem_uc Cert.SmIdeal.main_v41 (by decide)),
    h.1 c _ (Cert.SmIdeal.Gen.mem_uc Cert.SmIdeal.main_v48 (by decide)),
    h.1 c _ (Cert.SmIdeal.Gen.mem_uc Cert.SmIdeal.main_v60 (by decide)),
    h.1 c _ (Cert.SmIdeal.Gen.mem_uc Cert.SmIdeal.main_v52 (by decide)),
    (h.1 c _ (Cert.SmIdeal.Gen.mem_uc Cert.SmIdeal.main_arg0 (by decide))).trans (Cert.SmIdeal.Gen.W17_main_arg0 m ρ c),
    (h.1 c _ (Cert.SmIdeal.Gen.mem_uc Cert.SmIdeal.main_arg1 (by decide))).trans (Cert.SmIdeal.Gen.W17_main_arg1 m ρ c),
    (h.1 c _ (Cert.SmIdeal.Gen.mem_uc Cert.SmIdeal.main_arg2 (by decide))).trans (Cert.SmIdeal.Gen.W17_main_arg2 m ρ c),
    (h.1 c _ (Cert.SmIdeal.Gen.mem_uc Cert.SmIdeal.main_arg3 (by decide))).trans (Cert.SmIdeal.Gen.W17_main_arg3 m ρ c),
    (h.1 c _ (Cert.SmIdeal.Gen.mem_uc Cert.SmIdeal.main_arg4 (by decide))).trans (Cert.SmIdeal.Gen.W17_main_arg4 m ρ c),
    (h.1 c _ (Cert.SmIdeal.Gen.mem_uc Cert.SmIdeal.main_arg5 (by decide))).trans (Cert.SmIdeal.Gen.W17_main_arg5 m ρ c),
    (h.1 c _ (Cert.SmIdeal.Gen.mem_uc Cert.SmIdeal.main_arg6 (by decide))).trans (Cert.SmIdeal.Gen.W17_main_arg6 m ρ c),
    (h.1 c _ (Cert.SmIdeal.Gen.mem_uc Cert.SmIdeal.main_arg7 (by decide))).trans (Cert.SmIdeal.Gen.W17_main_arg7 m ρ c),
    (h.1 c _ (Cert.SmIdeal.Gen.mem_uc Cert.SmIdeal.main_arg8 (by decide))).trans (Cert.SmIdeal.Gen.W17_main_arg8 m ρ c)⟩)
    (Cert.SmIdeal.Value.run_all m ρ)

/-- The two programs' results agree. -/
theorem results_agree : Cert.algebraic_SmIdeal_SmRefIdeal := fun m ρ m' ρ' _ hagree => by
  refine ⟨fun c => Cert.SmIdeal.Gen.W17 m ρ c Cert.SmIdeal.main_v30_1,
    fun c => Cert.SmIdeal.Gen.W17 m ρ c Cert.SmIdeal.main_v56,
    fun c => Cert.SmIdeal.Gen.W17 m ρ c Cert.SmIdeal.main_v30_0,
    fun c => Cert.SmIdeal.Gen.W17 m ρ c Cert.SmIdeal.main_v44,
    fun c => Cert.SmIdeal.Gen.W17 m ρ c Cert.SmIdeal.main_v41,
    fun c => Cert.SmIdeal.Gen.W17 m ρ c Cert.SmIdeal.main_v48,
    fun c => Cert.SmIdeal.Gen.W17 m ρ c Cert.SmIdeal.main_v60,
    fun c => Cert.SmIdeal.Gen.W17 m ρ c Cert.SmIdeal.main_v52, run_kernel m ρ, ?_⟩
  refine (θ_run Cert.SmRefIdeal.defs _ _).mono (fun r h c => ?_) (Cert.SmRefIdeal.Value.run_steps m' ρ')
  obtain ⟨e0, e1, e2, e3, e4, e5, e6, e7, e8⟩ := hagree c
  obtain ⟨h0, h1, h2, h3, h4, h5, h6, h7, hargs⟩ := h c
  refine ⟨h0.trans (funext fun y => ?_), h1.trans (funext fun y => ?_), h2.trans (funext fun y => ?_), h3.trans (funext fun y => ?_), h4.trans (funext fun y => ?_), h5.trans (funext fun y => ?_), h6.trans (funext fun y => ?_), h7.trans (funext fun y => ?_), hargs⟩
  · rw [e0, e2, e4, e5, e6, eq_ix2 y]
    exact (Cert.SmRefIdeal.Value.oH_at _ _ _ _ _ (y 0) (y 1)).trans (Cert.SmIdeal.Value.r_v30_1 m ρ c (ix2 (y 0) (y 1))).symm
  · rw [e0, e1, e3, eq_ix2 y]
    exact (Cert.SmRefIdeal.Value.oPR_at _ _ _ (y 0) (y 1)).trans (Cert.SmIdeal.Value.r_v56 m ρ c (ix2 (y 0) (y 1))).symm
  · rw [e4, e5, e6, eq_ix2 y]
    exact (Cert.SmRefIdeal.Value.oM_at _ _ _ (y 0) (y 1)).trans (Cert.SmIdeal.Value.r_v30_0 m ρ c (ix2 (y 0) (y 1))).symm
  · rw [e3, e8, eq_ix2 y]
    exact (Cert.SmRefIdeal.Value.oDHN_at _ _ (y 0) (y 1)).trans (Cert.SmIdeal.Value.r_v44 m ρ c (ix2 (y 0) (y 1))).symm
  · rw [e4, e7, eq_ix2 y]
    exact (Cert.SmRefIdeal.Value.oDYS_at _ _ (y 0) (y 1)).trans (Cert.SmIdeal.Value.r_v41 m ρ c (ix2 (y 0) (y 1))).symm
  · rw [e4, e7, eq_ix2 y]
    exact (Cert.SmRefIdeal.Value.oDYA_at _ _ (y 0) (y 1)).trans (Cert.SmIdeal.Value.r_v48 m ρ c (ix2 (y 0) (y 1))).symm
  · rw [e0, e1, e8, eq_ix2 y]
    exact (Cert.SmRefIdeal.Value.oDWI_at _ _ _ (y 0) (y 1)).trans (Cert.SmIdeal.Value.r_v60 m ρ c (ix2 (y 0) (y 1))).symm
  · rw [e5, e6, e7, eq_ix2 y]
    exact (Cert.SmRefIdeal.Value.oDWO_at _ _ _ (y 0) (y 1)).trans (Cert.SmIdeal.Value.r_v52 m ρ c (ix2 (y 0) (y 1))).symm

end Cert.SmMatch

end
-- ==== Proof.RgTiles.lean ====
/- What each call of the recurrent layer's products computes, and what a block of it holds. -/
module

public import proofs.«01_k».proof.Proof.Gen.RgIdeal.Frame
public import proofs.«01_k».proof.Proof.Prod

@[expose] public section

set_option maxRecDepth 16384

noncomputable section

namespace Cert.RgIdeal.Value

open Cert.RgIdeal Cert.RgIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

open Cert.Prod
open Cert.MlpIdeal.Value (rms rms_congr at2_congr)

/-! ## The gate -/

/-- The constant of the gate's cubic term. -/
abbrev cCub : EReal := Ideal.ofBits FTy.f32 0x3D372713#32
/-- The constant in front of the gate's argument. -/
abbrev cArg : EReal := Ideal.ofBits FTy.f32 0x3F4C422A#32
/-- One, as the programs' constant. -/
abbrev cOne : EReal := Ideal.ofBits FTy.f32 0x3F800000#32
/-- A half, as the programs' constant. -/
abbrev cHalf : EReal := Ideal.ofBits FTy.f32 0x3F000000#32
/-- Three, as the programs' constant. -/
abbrev cThree : EReal := Ideal.ofBits FTy.f32 0x40400000#32

/-- The hyperbolic tangent inside the gate. -/
def gth (y : EReal) : EReal := Ideal.tanh (cArg * (y + cCub * (y * (y * y))))

/-- The gate. -/
def gate (y : EReal) : EReal := y * (cHalf * (cOne + gth y))

/-- The gradient of the gate's argument: the gated value is `s` times the gate of `y`, and `d` its gradient. -/
def dgate (s y d : EReal) : EReal :=
  s * d * (cHalf * (cOne + gth y)) + cArg * (cHalf * (y * (s * d)) * ((cOne + gth y) * (cOne - gth y)))
    + cCub * (cArg * (cHalf * (y * (s * d)) * ((cOne + gth y) * (cOne - gth y)))) * (cThree * (y * y))

/-! ## What each region computes from the arrays it reads -/

/-- The rows normalised. -/
def G0 (h : Vec Ideal S4224x1024 .f32) (g : Vec Ideal S1x1024 .f32) : Vec Ideal S4224x1024 .bf16 := fun i =>
  rms (fun k => at2 (a := 4224) (b := 1024) h (i 0).val k) (at2 (a := 4224) (b := 1024) h (i 0).val (i 1).val) (at2 (a := 1) (b := 1024) g 0 (i 1).val)

/-- The gated rows. -/
def G3 (s y : Vec Ideal S4224x1280 .f32) : Vec Ideal S4224x1280 .bf16 := fun i =>
  at2 (a := 4224) (b := 1280) s (i 0).val (i 1).val * gate (at2 (a := 4224) (b := 1280) y (i 0).val (i 1).val)

/-- The layer's last product. -/
def G4a (x : Vec Ideal S4224x1280 .bf16) (w : Vec Ideal S1280x1024 .bf16) : Vec Ideal S4224x1024 .f32 := fun i =>
  nn 1280 (at2 (a := 4224) (b := 1280) x) (at2 (a := 1280) (b := 1024) w) (i 0).val (i 1).val

/-- The last product normalised and added to what came in. -/
def G4b (x : Vec Ideal S4224x1280 .bf16) (w : Vec Ideal S1280x1024 .bf16) (h : Vec Ideal S4224x1024 .f32) (g : Vec Ideal S1x1024 .f32) : Vec Ideal S4224x1024 .f32 := fun i =>
  at2 (a := 4224) (b := 1024) h (i 0).val (i 1).val
    + rms (nn 1280 (at2 (a := 4224) (b := 1280) x) (at2 (a := 1280) (b := 1024) w) (i 0).val)
      (nn 1280 (at2 (a := 4224) (b := 1280) x) (at2 (a := 1280) (b := 1024) w) (i 0).val (i 1).val) (at2 (a := 1) (b := 1024) g 0 (i 1).val)

/-- The gradient of what the gate multiplies. -/
def G7a (s y d : Vec Ideal S4224x1280 .f32) : Vec Ideal S4224x1280 .f32 := fun i =>
  at2 (a := 4224) (b := 1280) d (i 0).val (i 1).val * gate (at2 (a := 4224) (b := 1280) y (i 0).val (i 1).val)

/-- The gradient of the gate's argument. -/
def G7b (s y d : Vec Ideal S4224x1280 .f32) : Vec Ideal S4224x1280 .bf16 := fun i =>
  dgate (at2 (a := 4224) (b := 1280) s (i 0).val (i 1).val) (at2 (a := 4224) (b := 1280) y (i 0).val (i 1).val) (at2 (a := 4224) (b := 1280) d (i 0).val (i 1).val)

/-- The first product of the normalised rows. -/
def G1 (x : Vec Ideal S4224x1024 .bf16) (w : Vec Ideal S1024x1280 .bf16) : Vec Ideal S4224x1280 .f32 := fun i =>
  nn 1024 (at2 (a := 4224) (b := 1024) x) (at2 (a := 1024) (b := 1280) w) (i 0).val (i 1).val

/-- The second product of the normalised rows. -/
def G2 (x : Vec Ideal S4224x1024 .bf16) (w : Vec Ideal S1024x1280 .bf16) : Vec Ideal S4224x1280 .f32 := fun i =>
  nn 1024 (at2 (a := 4224) (b := 1024) x) (at2 (a := 1024) (b := 1280) w) (i 0).val (i 1).val

/-- The last weight's gradient. -/
def G5 (x : Vec Ideal S4224x1280 .bf16) (w : Vec Ideal S4224x1024 .bf16) : Vec Ideal S1280x1024 .f32 := fun i =>
  tn 4224 (at2 (a := 4224) (b := 1280) x) (at2 (a := 4224) (b := 1024) w) (i 0).val (i 1).val

/-- The gradient of the gated rows. -/
def G6 (x : Vec Ideal S4224x1024 .bf16) (w : Vec Ideal S1280x1024 .bf16) : Vec Ideal S4224x1280 .f32 := fun i =>
  nt 1024 (at2 (a := 4224) (b := 1024) x) (at2 (a := 1280) (b := 1024) w) (i 0).val (i 1).val

/-- The first weight's gradient. -/
def G8 (x : Vec Ideal S4224x1024 .bf16) (w : Vec Ideal S4224x1280 .bf16) : Vec Ideal S1024x1280 .f32 := fun i =>
  tn 4224 (at2 (a := 4224) (b := 1024) x) (at2 (a := 4224) (b := 1280) w) (i 0).val (i 1).val

/-- The second weight's gradient. -/
def G9 (x : Vec Ideal S4224x1024 .bf16) (w : Vec Ideal S4224x1280 .bf16) : Vec Ideal S1024x1280 .f32 := fun i =>
  tn 4224 (at2 (a := 4224) (b := 1024) x) (at2 (a := 4224) (b := 1280) w) (i 0).val (i 1).val

/-- The gradient of the normalised rows through the first product. -/
def G10 (x : Vec Ideal S4224x1280 .bf16) (w : Vec Ideal S1024x1280 .bf16) : Vec Ideal S4224x1024 .f32 := fun i =>
  nt 1280 (at2 (a := 4224) (b := 1280) x) (at2 (a := 1024) (b := 1280) w) (i 0).val (i 1).val

/-- The gradient of the normalised rows through the second product. -/
def G11 (x : Vec Ideal S4224x1280 .bf16) (w : Vec Ideal S1024x1280 .bf16) : Vec Ideal S4224x1024 .f32 := fun i =>
  nt 1280 (at2 (a := 4224) (b := 1280) x) (at2 (a := 1024) (b := 1280) w) (i 0).val (i 1).val

/-! ## What a point's body leaves, from the blocks it reads -/

/-- The rows of a block normalised. -/
theorem out0_2_at (X : Vec Ideal S528x1024 .f32) (G : Vec Ideal S1x1024 .f32) (y : S528x1024.Idx) :
    out0_2 (F := Ideal) X G y = rms (fun k => at2 (a := 528) (b := 1024) X (y 0).val k) (at2 (a := 528) (b := 1024) X (y 0).val (y 1).val)
      (at2 (a := 1) (b := 1024) G 0 (y 1).val) := by
  unfold rms
  rw [Finset.sum_range, at2_ix X (y 0) (y 1), show at2 (a := 1) (b := 1024) G 0 (y 1).val = G (ix2 (0 : Fin 1) (y 1)) from at2_ix G (0 : Fin 1) (y 1)]
  simp only [fun k : Fin 1024 => at2_ix X (y 0) k]
  unfold out0_2 k0_pay1
  rw [View.canon_cons_unit_lit _ _ _ (by decide), View.ld_unit_lit _ _ (by decide), View.ld_unit_lit _ _ (by decide)]
  pointwise

/-- The rows of a block gated. -/
theorem out3_2_at (A Y : Vec Ideal S528x1280 .f32) (y : S528x1280.Idx) :
    out3_2 (F := Ideal) A Y y = A y * gate (Y y) := by
  unfold out3_2 k3_pay1 gate gth
  rw [View.canon_cons_unit_lit _ _ _ (by decide)]
  simp only [View.ld_unit_lit _ A (show ∀ a, (![0, 0] : Fin 2 → ℕ) a = 0 by decide), View.ld_unit_lit _ Y (show ∀ a, (![0, 0] : Fin 2 → ℕ) a = 0 by decide)]
  pointwise

/-- A block of the last product. -/
theorem pay4_at (X : Vec Ideal S528x1280 .bf16) (W : Vec Ideal S1280x1024 .bf16) (y : S528x1024.Idx) :
    k4_pay1 (F := Ideal) X W y = nn 1280 (at2 (a := 528) (b := 1280) X) (at2 (a := 1280) (b := 1024) W) (y 0).val (y 1).val := by
  unfold nn
  rw [Finset.sum_range]
  simp only [fun k : Fin 1280 => at2_ix X (y 0) k, fun k : Fin 1280 => at2_ix W k (y 1)]
  unfold k4_pay1
  pointwise

/-- A block normalised and added to what came in. -/
theorem pay4b_at (X : Vec Ideal S528x1280 .bf16) (W : Vec Ideal S1280x1024 .bf16) (H : Vec Ideal S528x1024 .f32) (G : Vec Ideal S1x1024 .f32) (y : S528x1024.Idx) :
    k4_pay2 (F := Ideal) X W H G y = at2 (a := 528) (b := 1024) H (y 0).val (y 1).val
      + rms (fun k => at2 (a := 528) (b := 1024) (k4_pay1 (F := Ideal) X W) (y 0).val k) (k4_pay1 (F := Ideal) X W y) (at2 (a := 1) (b := 1024) G 0 (y 1).val) := by
  unfold rms
  rw [Finset.sum_range, ← eq_at2 H y, show at2 (a := 1) (b := 1024) G 0 (y 1).val = G (ix2 (0 : Fin 1) (y 1)) from at2_ix G (0 : Fin 1) (y 1)]
  simp only [fun k : Fin 1024 => at2_ix (k4_pay1 (F := Ideal) X W) (y 0) k]
  unfold k4_pay2
  generalize k4_pay1 (F := Ideal) X W = Q
  pointwise

/-- A block of the gradient of what the gate multiplies. -/
theorem out7_3_at (A Y D : Vec Ideal S528x1280 .f32) (y : S528x1280.Idx) :
    out7_3 (F := Ideal) A Y D y = D y * gate (Y y) := by
  unfold out7_3 k7_pay6 k7_pay5 k7_pay4 k7_pay3 k7_pay2 gate gth
  rw [View.canon_cons_unit_lit _ _ _ (by decide)]
  simp only [View.ld_unit_lit _ Y (show ∀ a, (![0, 0] : Fin 2 → ℕ) a = 0 by decide), View.ld_unit_lit _ D (show ∀ a, (![0, 0] : Fin 2 → ℕ) a = 0 by decide)]
  pointwise

/-- A block of the gradient of the gate's argument. -/
theorem out7_4_at (A Y D : Vec Ideal S528x1280 .f32) (y : S528x1280.Idx) :
    out7_4 (F := Ideal) A Y D y = dgate (A y) (Y y) (D y) := by
  unfold out7_4 k7_pay1 k7_pay7 k7_pay5 k7_pay4 k7_pay3 k7_pay2 dgate gth
  rw [View.canon_cons_unit_lit _ _ _ (by decide)]
  simp only [View.ld_unit_lit _ A (show ∀ a, (![0, 0] : Fin 2 → ℕ) a = 0 by decide), View.ld_unit_lit _ Y (show ∀ a, (![0, 0] : Fin 2 → ℕ) a = 0 by decide), View.ld_unit_lit _ D (show ∀ a, (![0, 0] : Fin 2 → ℕ) a = 0 by decide)]
  pointwise

/-- A block of it. -/
theorem out1_2_at (X : Vec Ideal S1056x1024 .bf16) (W : Vec Ideal S1024x1280 .bf16) (y : S1056x1280.Idx) :
    out1_2 (F := Ideal) X W y = nn 1024 (at2 (a := 1056) (b := 1024) X) (at2 (a := 1024) (b := 1280) W) (y 0).val (y 1).val := by
  unfold nn
  rw [Finset.sum_range]
  simp only [fun k : Fin 1024 => at2_ix X (y 0) k, fun k : Fin 1024 => at2_ix W k (y 1)]
  unfold out1_2 k1_pay1
  rw [View.canon_cons_unit_lit _ _ _ (by decide), View.ld_unit_lit _ _ (by decide), View.ld_unit_lit _ _ (by decide)]
  pointwise

/-- A block of it. -/
theorem out2_2_at (X : Vec Ideal S1056x1024 .bf16) (W : Vec Ideal S1024x1280 .bf16) (y : S1056x1280.Idx) :
    out2_2 (F := Ideal) X W y = nn 1024 (at2 (a := 1056) (b := 1024) X) (at2 (a := 1024) (b := 1280) W) (y 0).val (y 1).val := by
  unfold nn
  rw [Finset.sum_range]
  simp only [fun k : Fin 1024 => at2_ix X (y 0) k, fun k : Fin 1024 => at2_ix W k (y 1)]
  unfold out2_2 k2_pay1
  rw [View.canon_cons_unit_lit _ _ _ (by decide), View.ld_unit_lit _ _ (by decide), View.ld_unit_lit _ _ (by decide)]
  pointwise

/-- A block of it. -/
theorem out5_2_at (X : Vec Ideal S4224x640 .bf16) (W : Vec Ideal S4224x1024 .bf16) (y : S640x1024.Idx) :
    out5_2 (F := Ideal) X W y = tn 4224 (at2 (a := 4224) (b := 640) X) (at2 (a := 4224) (b := 1024) W) (y 0).val (y 1).val := by
  unfold tn
  rw [Finset.sum_range]
  simp only [fun k : Fin 4224 => at2_ix X k (y 0), fun k : Fin 4224 => at2_ix W k (y 1)]
  unfold out5_2 k5_pay1
  rw [View.canon_cons_unit_lit _ _ _ (by decide), View.ld_unit_lit _ _ (by decide), View.ld_unit_lit _ _ (by decide)]
  pointwise

/-- A block of it. -/
theorem out6_2_at (X : Vec Ideal S1056x1024 .bf16) (W : Vec Ideal S1280x1024 .bf16) (y : S1056x1280.Idx) :
    out6_2 (F := Ideal) X W y = nt 1024 (at2 (a := 1056) (b := 1024) X) (at2 (a := 1280) (b := 1024) W) (y 0).val (y 1).val := by
  unfold nt
  rw [Finset.sum_range]
  simp only [fun k : Fin 1024 => at2_ix X (y 0) k, fun k : Fin 1024 => at2_ix W (y 1) k]
  unfold out6_2 k6_pay1
  rw [View.canon_cons_unit_lit _ _ _ (by decide), View.ld_unit_lit _ _ (by decide), View.ld_unit_lit _ _ (by decide)]
  pointwise

/-- A block of it. -/
theorem out8_2_at (X : Vec Ideal S4224x1024 .bf16) (W : Vec Ideal S4224x1280 .bf16) (y : S1024x1280.Idx) :
    out8_2 (F := Ideal) X W y = tn 4224 (at2 (a := 4224) (b := 1024) X) (at2 (a := 4224) (b := 1280) W) (y 0).val (y 1).val := by
  unfold tn
  rw [Finset.sum_range]
  simp only [fun k : Fin 4224 => at2_ix X k (y 0), fun k : Fin 4224 => at2_ix W k (y 1)]
  unfold out8_2 k8_pay1
  rw [View.canon_cons_unit_lit _ _ _ (by decide), View.ld_unit_lit _ _ (by decide), View.ld_unit_lit _ _ (by decide)]
  pointwise

/-- A block of it. -/
theorem out9_2_at (X : Vec Ideal S4224x1024 .bf16) (W : Vec Ideal S4224x1280 .bf16) (y : S1024x1280.Idx) :
    out9_2 (F := Ideal) X W y = tn 4224 (at2 (a := 4224) (b := 1024) X) (at2 (a := 4224) (b := 1280) W) (y 0).val (y 1).val := by
  unfold tn
  rw [Finset.sum_range]
  simp only [fun k : Fin 4224 => at2_ix X k (y 0), fun k : Fin 4224 => at2_ix W k (y 1)]
  unfold out9_2 k9_pay1
  rw [View.canon_cons_unit_lit _ _ _ (by decide), View.ld_unit_lit _ _ (by decide), View.ld_unit_lit _ _ (by decide)]
  pointwise

/-- A block of it. -/
theorem out10_2_at (X : Vec Ideal S528x1280 .bf16) (W : Vec Ideal S1024x1280 .bf16) (y : S528x1024.Idx) :
    out10_2 (F := Ideal) X W y = nt 1280 (at2 (a := 528) (b := 1280) X) (at2 (a := 1024) (b := 1280) W) (y 0).val (y 1).val := by
  unfold nt
  rw [Finset.sum_range]
  simp only [fun k : Fin 1280 => at2_ix X (y 0) k, fun k : Fin 1280 => at2_ix W (y 1) k]
  unfold out10_2 k10_pay1
  rw [View.canon_cons_unit_lit _ _ _ (by decide), View.ld_unit_lit _ _ (by decide), View.ld_unit_lit _ _ (by decide)]
  pointwise

/-- A block of it. -/
theorem out11_2_at (X : Vec Ideal S528x1280 .bf16) (W : Vec Ideal S1024x1280 .bf16) (y : S528x1024.Idx) :
    out11_2 (F := Ideal) X W y = nt 1280 (at2 (a := 528) (b := 1280) X) (at2 (a := 1024) (b := 1280) W) (y 0).val (y 1).val := by
  unfold nt
  rw [Finset.sum_range]
  simp only [fun k : Fin 1280 => at2_ix X (y 0) k, fun k : Fin 1280 => at2_ix W (y 1) k]
  unfold out11_2 k11_pay1
  rw [View.canon_cons_unit_lit _ _ _ (by decide), View.ld_unit_lit _ _ (by decide), View.ld_unit_lit _ _ (by decide)]
  pointwise

end Cert.RgIdeal.Value

end
-- ==== Proof.RgBlocks.lean ====
/- Where the blocks of the recurrent layer's products lie in their arrays. -/
module

public import proofs.«01_k».proof.Proof.Gen.RgIdeal.Frame
public import proofs.«01_k».proof.Proof.Blk
public import proofs.«01_k».proof.Proof.Prod

@[expose] public section

set_option maxRecDepth 16384

noncomputable section

namespace Cert.RgIdeal.Value

open Cert.RgIdeal Cert.RgIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable (V : (c : Dev nD) → (b : Ref sig .tc) → Buf (Elt Ideal) ((c : Thread nD τ).loc b)) (c : Dev nD)

/-! ## Region 0: where its blocks lie -/
/-- The block each window of region 0 is on at point `t`. -/
theorem idx0 : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by decide +kernel
/-- Window 0's block of region 0 at point `t`, read off its array. -/
theorem rd0_0 (t : Fin cfg0.N) (i0 i1 : ℕ) (b0 : i0 < 528) (b1 : i1 < 1024) :
    at2 (a := 528) (b := 1024) (iblk0 (F := Ideal) V c 0 t) i0 i1 = at2 (a := 4224) (b := 1024) (V c main_arg0) (t.val * 528 + i0) (0 * 1024 + i1) :=
  rd_of (V c main_arg0) _ b0 b1 fun y => emb_of win0_0 t y 0 1 (idx0 t).1

/-- Window 1's block of region 0 at point `t`, read off its array. -/
theorem rd0_1 (t : Fin cfg0.N) (i0 i1 : ℕ) (b0 : i0 < 1) (b1 : i1 < 1024) :
    at2 (a := 1) (b := 1024) (iblk0 (F := Ideal) V c 1 t) i0 i1 = at2 (a := 1) (b := 1024) (V c main_v0) (0 * 1 + i0) (0 * 1024 + i1) :=
  rd_of (V c main_v0) _ b0 b1 fun y => emb_of win0_1 t y 0 1 (idx0 t).2.1

/-- An index of window 2's block at point `t` as an index of its array. -/
theorem emb0_2 (t : Fin cfg0.N) (y : S528x1024.Idx) : ((win0_2.rect t).emb y 0).val = t.val * 528 + (y 0).val ∧ ((win0_2.rect t).emb y 1).val = 0 * 1024 + (y 1).val :=
  emb_of win0_2 t y 0 1 (idx0 t).2.2

/-- Every index of window 2's array lies in the block of the point its coordinates select. -/
theorem cov0_2 (i : S4224x1024.Idx) (t : Fin cfg0.N) (ht : t.val = (i 0).val / 528) : i ∈ ((cfg0.win 2).blk t).view.set := by
  have b0 : (i 0).val < 4224 := (i 0).isLt
  have b1 : (i 1).val < 1024 := (i 1).isLt
  exact cov_in (win0_2.rect t).emb i (emb0_2 t) (by omega) (by omega)

/-! ## Region 1: where its blocks lie -/
/-- The block each window of region 1 is on at point `t`. -/
theorem idx1 : ∀ t : Fin grid1.N, (win1_0.index t 0 = t.val ∧ win1_0.index t 1 = 0) ∧ (win1_1.index t 0 = 0 ∧ win1_1.index t 1 = 0) ∧ (win1_2.index t 0 = t.val ∧ win1_2.index t 1 = 0) := by decide +kernel
/-- Window 0's block of region 1 at point `t`, read off its array. -/
theorem rd1_0 (t : Fin cfg1.N) (i0 i1 : ℕ) (b0 : i0 < 1056) (b1 : i1 < 1024) :
    at2 (a := 1056) (b := 1024) (iblk1 (F := Ideal) V c 0 t) i0 i1 = at2 (a := 4224) (b := 1024) (V c main_v11) (t.val * 1056 + i0) (0 * 1024 + i1) :=
  rd_of (V c main_v11) _ b0 b1 fun y => emb_of win1_0 t y 0 1 (idx1 t).1

/-- Window 1's block of region 1 at point `t`, read off its array. -/
theorem rd1_1 (t : Fin cfg1.N) (i0 i1 : ℕ) (b0 : i0 < 1024) (b1 : i1 < 1280) :
    at2 (a := 1024) (b := 1280) (iblk1 (F := Ideal) V c 1 t) i0 i1 = at2 (a := 1024) (b := 1280) (V c main_v4) (0 * 1024 + i0) (0 * 1280 + i1) :=
  rd_of (V c main_v4) _ b0 b1 fun y => emb_of win1_1 t y 0 1 (idx1 t).2.1

/-- An index of window 2's block at point `t` as an index of its array. -/
theorem emb1_2 (t : Fin cfg1.N) (y : S1056x1280.Idx) : ((win1_2.rect t).emb y 0).val = t.val * 1056 + (y 0).val ∧ ((win1_2.rect t).emb y 1).val = 0 * 1280 + (y 1).val :=
  emb_of win1_2 t y 0 1 (idx1 t).2.2

/-- Every index of window 2's array lies in the block of the point its coordinates select. -/
theorem cov1_2 (i : S4224x1280.Idx) (t : Fin cfg1.N) (ht : t.val = (i 0).val / 1056) : i ∈ ((cfg1.win 2).blk t).view.set := by
  have b0 : (i 0).val < 4224 := (i 0).isLt
  have b1 : (i 1).val < 1280 := (i 1).isLt
  exact cov_in (win1_2.rect t).emb i (emb1_2 t) (by omega) (by omega)

/-! ## Region 2: where its blocks lie -/
/-- The block each window of region 2 is on at point `t`. -/
theorem idx2 : ∀ t : Fin grid2.N, (win2_0.index t 0 = t.val ∧ win2_0.index t 1 = 0) ∧ (win2_1.index t 0 = 0 ∧ win2_1.index t 1 = 0) ∧ (win2_2.index t 0 = t.val ∧ win2_2.index t 1 = 0) := by decide +kernel
/-- Window 0's block of region 2 at point `t`, read off its array. -/
theorem rd2_0 (t : Fin cfg2.N) (i0 i1 : ℕ) (b0 : i0 < 1056) (b1 : i1 < 1024) :
    at2 (a := 1056) (b := 1024) (iblk2 (F := Ideal) V c 0 t) i0 i1 = at2 (a := 4224) (b := 1024) (V c main_v11) (t.val * 1056 + i0) (0 * 1024 + i1) :=
  rd_of (V c main_v11) _ b0 b1 fun y => emb_of win2_0 t y 0 1 (idx2 t).1

/-- Window 1's block of region 2 at point `t`, read off its array. -/
theorem rd2_1 (t : Fin cfg2.N) (i0 i1 : ℕ) (b0 : i0 < 1024) (b1 : i1 < 1280) :
    at2 (a := 1024) (b := 1280) (iblk2 (F := Ideal) V c 1 t) i0 i1 = at2 (a := 1024) (b := 1280) (V c main_v7) (0 * 1024 + i0) (0 * 1280 + i1) :=
  rd_of (V c main_v7) _ b0 b1 fun y => emb_of win2_1 t y 0 1 (idx2 t).2.1

/-- An index of window 2's block at point `t` as an index of its array. -/
theorem emb2_2 (t : Fin cfg2.N) (y : S1056x1280.Idx) : ((win2_2.rect t).emb y 0).val = t.val * 1056 + (y 0).val ∧ ((win2_2.rect t).emb y 1).val = 0 * 1280 + (y 1).val :=
  emb_of win2_2 t y 0 1 (idx2 t).2.2

/-- Every index of window 2's array lies in the block of the point its coordinates select. -/
theorem cov2_2 (i : S4224x1280.Idx) (t : Fin cfg2.N) (ht : t.val = (i 0).val / 1056) : i ∈ ((cfg2.win 2).blk t).view.set := by
  have b0 : (i 0).val < 4224 := (i 0).isLt
  have b1 : (i 1).val < 1280 := (i 1).isLt
  exact cov_in (win2_2.rect t).emb i (emb2_2 t) (by omega) (by omega)

/-! ## Region 3: where its blocks lie -/
/-- The block each window of region 3 is on at point `t`. -/
theorem idx3 : ∀ t : Fin grid3.N, (win3_0.index t 0 = t.val ∧ win3_0.index t 1 = 0) ∧ (win3_1.index t 0 = t.val ∧ win3_1.index t 1 = 0) ∧ (win3_2.index t 0 = t.val ∧ win3_2.index t 1 = 0) := by decide +kernel
/-- Window 0's block of region 3 at point `t`, read off its array. -/
theorem rd3_0 (t : Fin cfg3.N) (i0 i1 : ℕ) (b0 : i0 < 528) (b1 : i1 < 1280) :
    at2 (a := 528) (b := 1280) (iblk3 (F := Ideal) V c 0 t) i0 i1 = at2 (a := 4224) (b := 1280) (V c main_arg6) (t.val * 528 + i0) (0 * 1280 + i1) :=
  rd_of (V c main_arg6) _ b0 b1 fun y => emb_of win3_0 t y 0 1 (idx3 t).1

/-- Window 1's block of region 3 at point `t`, read off its array. -/
theorem rd3_1 (t : Fin cfg3.N) (i0 i1 : ℕ) (b0 : i0 < 528) (b1 : i1 < 1280) :
    at2 (a := 528) (b := 1280) (iblk3 (F := Ideal) V c 1 t) i0 i1 = at2 (a := 4224) (b := 1280) (V c main_v13) (t.val * 528 + i0) (0 * 1280 + i1) :=
  rd_of (V c main_v13) _ b0 b1 fun y => emb_of win3_1 t y 0 1 (idx3 t).2.1

/-- An index of window 2's block at point `t` as an index of its array. -/
theorem emb3_2 (t : Fin cfg3.N) (y : S528x1280.Idx) : ((win3_2.rect t).emb y 0).val = t.val * 528 + (y 0).val ∧ ((win3_2.rect t).emb y 1).val = 0 * 1280 + (y 1).val :=
  emb_of win3_2 t y 0 1 (idx3 t).2.2

/-- Every index of window 2's array lies in the block of the point its coordinates select. -/
theorem cov3_2 (i : S4224x1280.Idx) (t : Fin cfg3.N) (ht : t.val = (i 0).val / 528) : i ∈ ((cfg3.win 2).blk t).view.set := by
  have b0 : (i 0).val < 4224 := (i 0).isLt
  have b1 : (i 1).val < 1280 := (i 1).isLt
  exact cov_in (win3_2.rect t).emb i (emb3_2 t) (by omega) (by omega)

/-! ## Region 4: where its blocks lie -/
/-- The block each window of region 4 is on at point `t`. -/
theorem idx4 : ∀ t : Fin grid4.N, (win4_0.index t 0 = t.val ∧ win4_0.index t 1 = 0) ∧ (win4_1.index t 0 = 0 ∧ win4_1.index t 1 = 0) ∧ (win4_2.index t 0 = t.val ∧ win4_2.index t 1 = 0) ∧ (win4_3.index t 0 = 0 ∧ win4_3.index t 1 = 0) ∧ (win4_4.index t 0 = t.val ∧ win4_4.index t 1 = 0) ∧ (win4_5.index t 0 = t.val ∧ win4_5.index t 1 = 0) := by decide +kernel
/-- Window 0's block of region 4 at point `t`, read off its array. -/
theorem rd4_0 (t : Fin cfg4.N) (i0 i1 : ℕ) (b0 : i0 < 528) (b1 : i1 < 1280) :
    at2 (a := 528) (b := 1280) (iblk4 (F := Ideal) V c 0 t) i0 i1 = at2 (a := 4224) (b := 1280) (V c main_v14) (t.val * 528 + i0) (0 * 1280 + i1) :=
  rd_of (V c main_v14) _ b0 b1 fun y => emb_of win4_0 t y 0 1 (idx4 t).1

/-- Window 1's block of region 4 at point `t`, read off its array. -/
theorem rd4_1 (t : Fin cfg4.N) (i0 i1 : ℕ) (b0 : i0 < 1280) (b1 : i1 < 1024) :
    at2 (a := 1280) (b := 1024) (iblk4 (F := Ideal) V c 1 t) i0 i1 = at2 (a := 1280) (b := 1024) (V c main_v10) (0 * 1280 + i0) (0 * 1024 + i1) :=
  rd_of (V c main_v10) _ b0 b1 fun y => emb_of win4_1 t y 0 1 (idx4 t).2.1

/-- Window 2's block of region 4 at point `t`, read off its array. -/
theorem rd4_2 (t : Fin cfg4.N) (i0 i1 : ℕ) (b0 : i0 < 528) (b1 : i1 < 1024) :
    at2 (a := 528) (b := 1024) (iblk4 (F := Ideal) V c 2 t) i0 i1 = at2 (a := 4224) (b := 1024) (V c main_arg0) (t.val * 528 + i0) (0 * 1024 + i1) :=
  rd_of (V c main_arg0) _ b0 b1 fun y => emb_of win4_2 t y 0 1 (idx4 t).2.2.1

/-- Window 3's block of region 4 at point `t`, read off its array. -/
theorem rd4_3 (t : Fin cfg4.N) (i0 i1 : ℕ) (b0 : i0 < 1) (b1 : i1 < 1024) :
    at2 (a := 1) (b := 1024) (iblk4 (F := Ideal) V c 3 t) i0 i1 = at2 (a := 1) (b := 1024) (V c main_v1) (0 * 1 + i0) (0 * 1024 + i1) :=
  rd_of (V c main_v1) _ b0 b1 fun y => emb_of win4_3 t y 0 1 (idx4 t).2.2.2.1

/-- An index of window 4's block at point `t` as an index of its array. -/
theorem emb4_4 (t : Fin cfg4.N) (y : S528x1024.Idx) : ((win4_4.rect t).emb y 0).val = t.val * 528 + (y 0).val ∧ ((win4_4.rect t).emb y 1).val = 0 * 1024 + (y 1).val :=
  emb_of win4_4 t y 0 1 (idx4 t).2.2.2.2.1

/-- Every index of window 4's array lies in the block of the point its coordinates select. -/
theorem cov4_4 (i : S4224x1024.Idx) (t : Fin cfg4.N) (ht : t.val = (i 0).val / 528) : i ∈ ((cfg4.win 4).blk t).view.set := by
  have b0 : (i 0).val < 4224 := (i 0).isLt
  have b1 : (i 1).val < 1024 := (i 1).isLt
  exact cov_in (win4_4.rect t).emb i (emb4_4 t) (by omega) (by omega)

/-- An index of window 5's block at point `t` as an index of its array. -/
theorem emb4_5 (t : Fin cfg4.N) (y : S528x1024.Idx) : ((win4_5.rect t).emb y 0).val = t.val * 528 + (y 0).val ∧ ((win4_5.rect t).emb y 1).val = 0 * 1024 + (y 1).val :=
  emb_of win4_5 t y 0 1 (idx4 t).2.2.2.2.2

/-- Every index of window 5's array lies in the block of the point its coordinates select. -/
theorem cov4_5 (i : S4224x1024.Idx) (t : Fin cfg4.N) (ht : t.val = (i 0).val / 528) : i ∈ ((cfg4.win 5).blk t).view.set := by
  have b0 : (i 0).val < 4224 := (i 0).isLt
  have b1 : (i 1).val < 1024 := (i 1).isLt
  exact cov_in (win4_5.rect t).emb i (emb4_5 t) (by omega) (by omega)

/-! ## Region 5: where its blocks lie -/
/-- The block each window of region 5 is on at point `t`. -/
theorem idx5 : ∀ t : Fin grid5.N, (win5_0.index t 0 = 0 ∧ win5_0.index t 1 = t.val) ∧ (win5_1.index t 0 = 0 ∧ win5_1.index t 1 = 0) ∧ (win5_2.index t 0 = t.val ∧ win5_2.index t 1 = 0) := by decide +kernel
/-- Window 0's block of region 5 at point `t`, read off its array. -/
theorem rd5_0 (t : Fin cfg5.N) (i0 i1 : ℕ) (b0 : i0 < 4224) (b1 : i1 < 640) :
    at2 (a := 4224) (b := 640) (iblk5 (F := Ideal) V c 0 t) i0 i1 = at2 (a := 4224) (b := 1280) (V c main_v14) (0 * 4224 + i0) (t.val * 640 + i1) :=
  rd_of (V c main_v14) _ b0 b1 fun y => emb_of win5_0 t y 0 1 (idx5 t).1

/-- Window 1's block of region 5 at point `t`, read off its array. -/
theorem rd5_1 (t : Fin cfg5.N) (i0 i1 : ℕ) (b0 : i0 < 4224) (b1 : i1 < 1024) :
    at2 (a := 4224) (b := 1024) (iblk5 (F := Ideal) V c 1 t) i0 i1 = at2 (a := 4224) (b := 1024) (V c main_v16) (0 * 4224 + i0) (0 * 1024 + i1) :=
  rd_of (V c main_v16) _ b0 b1 fun y => emb_of win5_1 t y 0 1 (idx5 t).2.1

/-- An index of window 2's block at point `t` as an index of its array. -/
theorem emb5_2 (t : Fin cfg5.N) (y : S640x1024.Idx) : ((win5_2.rect t).emb y 0).val = t.val * 640 + (y 0).val ∧ ((win5_2.rect t).emb y 1).val = 0 * 1024 + (y 1).val :=
  emb_of win5_2 t y 0 1 (idx5 t).2.2

/-- Every index of window 2's array lies in the block of the point its coordinates select. -/
theorem cov5_2 (i : S1280x1024.Idx) (t : Fin cfg5.N) (ht : t.val = (i 0).val / 640) : i ∈ ((cfg5.win 2).blk t).view.set := by
  have b0 : (i 0).val < 1280 := (i 0).isLt
  have b1 : (i 1).val < 1024 := (i 1).isLt
  exact cov_in (win5_2.rect t).emb i (emb5_2 t) (by omega) (by omega)

/-! ## Region 6: where its blocks lie -/
/-- The block each window of region 6 is on at point `t`. -/
theorem idx6 : ∀ t : Fin grid6.N, (win6_0.index t 0 = t.val ∧ win6_0.index t 1 = 0) ∧ (win6_1.index t 0 = 0 ∧ win6_1.index t 1 = 0) ∧ (win6_2.index t 0 = t.val ∧ win6_2.index t 1 = 0) := by decide +kernel
/-- Window 0's block of region 6 at point `t`, read off its array. -/
theorem rd6_0 (t : Fin cfg6.N) (i0 i1 : ℕ) (b0 : i0 < 1056) (b1 : i1 < 1024) :
    at2 (a := 1056) (b := 1024) (iblk6 (F := Ideal) V c 0 t) i0 i1 = at2 (a := 4224) (b := 1024) (V c main_v16) (t.val * 1056 + i0) (0 * 1024 + i1) :=
  rd_of (V c main_v16) _ b0 b1 fun y => emb_of win6_0 t y 0 1 (idx6 t).1

/-- Window 1's block of region 6 at point `t`, read off its array. -/
theorem rd6_1 (t : Fin cfg6.N) (i0 i1 : ℕ) (b0 : i0 < 1280) (b1 : i1 < 1024) :
    at2 (a := 1280) (b := 1024) (iblk6 (F := Ideal) V c 1 t) i0 i1 = at2 (a := 1280) (b := 1024) (V c main_v10) (0 * 1280 + i0) (0 * 1024 + i1) :=
  rd_of (V c main_v10) _ b0 b1 fun y => emb_of win6_1 t y 0 1 (idx6 t).2.1

/-- An index of window 2's block at point `t` as an index of its array. -/
theorem emb6_2 (t : Fin cfg6.N) (y : S1056x1280.Idx) : ((win6_2.rect t).emb y 0).val = t.val * 1056 + (y 0).val ∧ ((win6_2.rect t).emb y 1).val = 0 * 1280 + (y 1).val :=
  emb_of win6_2 t y 0 1 (idx6 t).2.2

/-- Every index of window 2's array lies in the block of the point its coordinates select. -/
theorem cov6_2 (i : S4224x1280.Idx) (t : Fin cfg6.N) (ht : t.val = (i 0).val / 1056) : i ∈ ((cfg6.win 2).blk t).view.set := by
  have b0 : (i 0).val < 4224 := (i 0).isLt
  have b1 : (i 1).val < 1280 := (i 1).isLt
  exact cov_in (win6_2.rect t).emb i (emb6_2 t) (by omega) (by omega)

/-! ## Region 7: where its blocks lie -/
/-- The block each window of region 7 is on at point `t`. -/
theorem idx7 : ∀ t : Fin grid7.N, (win7_0.index t 0 = t.val ∧ win7_0.index t 1 = 0) ∧ (win7_1.index t 0 = t.val ∧ win7_1.index t 1 = 0) ∧ (win7_2.index t 0 = t.val ∧ win7_2.index t 1 = 0) ∧ (win7_3.index t 0 = t.val ∧ win7_3.index t 1 = 0) ∧ (win7_4.index t 0 = t.val ∧ win7_4.index t 1 = 0) := by decide +kernel
/-- Window 0's block of region 7 at point `t`, read off its array. -/
theorem rd7_0 (t : Fin cfg7.N) (i0 i1 : ℕ) (b0 : i0 < 528) (b1 : i1 < 1280) :
    at2 (a := 528) (b := 1280) (iblk7 (F := Ideal) V c 0 t) i0 i1 = at2 (a := 4224) (b := 1280) (V c main_arg6) (t.val * 528 + i0) (0 * 1280 + i1) :=
  rd_of (V c main_arg6) _ b0 b1 fun y => emb_of win7_0 t y 0 1 (idx7 t).1

/-- Window 1's block of region 7 at point `t`, read off its array. -/
theorem rd7_1 (t : Fin cfg7.N) (i0 i1 : ℕ) (b0 : i0 < 528) (b1 : i1 < 1280) :
    at2 (a := 528) (b := 1280) (iblk7 (F := Ideal) V c 1 t) i0 i1 = at2 (a := 4224) (b := 1280) (V c main_v13) (t.val * 528 + i0) (0 * 1280 + i1) :=
  rd_of (V c main_v13) _ b0 b1 fun y => emb_of win7_1 t y 0 1 (idx7 t).2.1

/-- Window 2's block of region 7 at point `t`, read off its array. -/
theorem rd7_2 (t : Fin cfg7.N) (i0 i1 : ℕ) (b0 : i0 < 528) (b1 : i1 < 1280) :
    at2 (a := 528) (b := 1280) (iblk7 (F := Ideal) V c 2 t) i0 i1 = at2 (a := 4224) (b := 1280) (V c main_v19) (t.val * 528 + i0) (0 * 1280 + i1) :=
  rd_of (V c main_v19) _ b0 b1 fun y => emb_of win7_2 t y 0 1 (idx7 t).2.2.1

/-- An index of window 3's block at point `t` as an index of its array. -/
theorem emb7_3 (t : Fin cfg7.N) (y : S528x1280.Idx) : ((win7_3.rect t).emb y 0).val = t.val * 528 + (y 0).val ∧ ((win7_3.rect t).emb y 1).val = 0 * 1280 + (y 1).val :=
  emb_of win7_3 t y 0 1 (idx7 t).2.2.2.1

/-- Every index of window 3's array lies in the block of the point its coordinates select. -/
theorem cov7_3 (i : S4224x1280.Idx) (t : Fin cfg7.N) (ht : t.val = (i 0).val / 528) : i ∈ ((cfg7.win 3).blk t).view.set := by
  have b0 : (i 0).val < 4224 := (i 0).isLt
  have b1 : (i 1).val < 1280 := (i 1).isLt
  exact cov_in (win7_3.rect t).emb i (emb7_3 t) (by omega) (by omega)

/-- An index of window 4's block at point `t` as an index of its array. -/
theorem emb7_4 (t : Fin cfg7.N) (y : S528x1280.Idx) : ((win7_4.rect t).emb y 0).val = t.val * 528 + (y 0).val ∧ ((win7_4.rect t).emb y 1).val = 0 * 1280 + (y 1).val :=
  emb_of win7_4 t y 0 1 (idx7 t).2.2.2.2

/-- Every index of window 4's array lies in the block of the point its coordinates select. -/
theorem cov7_4 (i : S4224x1280.Idx) (t : Fin cfg7.N) (ht : t.val = (i 0).val / 528) : i ∈ ((cfg7.win 4).blk t).view.set := by
  have b0 : (i 0).val < 4224 := (i 0).isLt
  have b1 : (i 1).val < 1280 := (i 1).isLt
  exact cov_in (win7_4.rect t).emb i (emb7_4 t) (by omega) (by omega)

/-! ## Region 8: where its blocks lie -/
/-- The block each window of region 8 is on at point `t`. -/
theorem idx8 : ∀ t : Fin grid8.N, (win8_0.index t 0 = 0 ∧ win8_0.index t 1 = 0) ∧ (win8_1.index t 0 = 0 ∧ win8_1.index t 1 = 0) ∧ (win8_2.index t 0 = 0 ∧ win8_2.index t 1 = 0) := by decide +kernel
/-- Window 0's block of region 8 at point `t`, read off its array. -/
theorem rd8_0 (t : Fin cfg8.N) (i0 i1 : ℕ) (b0 : i0 < 4224) (b1 : i1 < 1024) :
    at2 (a := 4224) (b := 1024) (iblk8 (F := Ideal) V c 0 t) i0 i1 = at2 (a := 4224) (b := 1024) (V c main_v11) (0 * 4224 + i0) (0 * 1024 + i1) :=
  rd_of (V c main_v11) _ b0 b1 fun y => emb_of win8_0 t y 0 1 (idx8 t).1

/-- Window 1's block of region 8 at point `t`, read off its array. -/
theorem rd8_1 (t : Fin cfg8.N) (i0 i1 : ℕ) (b0 : i0 < 4224) (b1 : i1 < 1280) :
    at2 (a := 4224) (b := 1280) (iblk8 (F := Ideal) V c 1 t) i0 i1 = at2 (a := 4224) (b := 1280) (V c main_v17) (0 * 4224 + i0) (0 * 1280 + i1) :=
  rd_of (V c main_v17) _ b0 b1 fun y => emb_of win8_1 t y 0 1 (idx8 t).2.1

/-- An index of window 2's block at point `t` as an index of its array. -/
theorem emb8_2 (t : Fin cfg8.N) (y : S1024x1280.Idx) : ((win8_2.rect t).emb y 0).val = 0 * 1024 + (y 0).val ∧ ((win8_2.rect t).emb y 1).val = 0 * 1280 + (y 1).val :=
  emb_of win8_2 t y 0 1 (idx8 t).2.2

/-- Every index of window 2's array lies in the block of the point its coordinates select. -/
theorem cov8_2 (i : S1024x1280.Idx) (t : Fin cfg8.N) (ht : t.val = (i 0).val / 1024) : i ∈ ((cfg8.win 2).blk t).view.set := by
  have b0 : (i 0).val < 1024 := (i 0).isLt
  have b1 : (i 1).val < 1280 := (i 1).isLt
  exact cov_in (win8_2.rect t).emb i (emb8_2 t) (by omega) (by omega)

/-! ## Region 9: where its blocks lie -/
/-- The block each window of region 9 is on at point `t`. -/
theorem idx9 : ∀ t : Fin grid9.N, (win9_0.index t 0 = 0 ∧ win9_0.index t 1 = 0) ∧ (win9_1.index t 0 = 0 ∧ win9_1.index t 1 = 0) ∧ (win9_2.index t 0 = 0 ∧ win9_2.index t 1 = 0) := by decide +kernel
/-- Window 0's block of region 9 at point `t`, read off its array. -/
theorem rd9_0 (t : Fin cfg9.N) (i0 i1 : ℕ) (b0 : i0 < 4224) (b1 : i1 < 1024) :
    at2 (a := 4224) (b := 1024) (iblk9 (F := Ideal) V c 0 t) i0 i1 = at2 (a := 4224) (b := 1024) (V c main_v11) (0 * 4224 + i0) (0 * 1024 + i1) :=
  rd_of (V c main_v11) _ b0 b1 fun y => emb_of win9_0 t y 0 1 (idx9 t).1

/-- Window 1's block of region 9 at point `t`, read off its array. -/
theorem rd9_1 (t : Fin cfg9.N) (i0 i1 : ℕ) (b0 : i0 < 4224) (b1 : i1 < 1280) :
    at2 (a := 4224) (b := 1280) (iblk9 (F := Ideal) V c 1 t) i0 i1 = at2 (a := 4224) (b := 1280) (V c main_v20_1) (0 * 4224 + i0) (0 * 1280 + i1) :=
  rd_of (V c main_v20_1) _ b0 b1 fun y => emb_of win9_1 t y 0 1 (idx9 t).2.1

/-- An index of window 2's block at point `t` as an index of its array. -/
theorem emb9_2 (t : Fin cfg9.N) (y : S1024x1280.Idx) : ((win9_2.rect t).emb y 0).val = 0 * 1024 + (y 0).val ∧ ((win9_2.rect t).emb y 1).val = 0 * 1280 + (y 1).val :=
  emb_of win9_2 t y 0 1 (idx9 t).2.2

/-- Every index of window 2's array lies in the block of the point its coordinates select. -/
theorem cov9_2 (i : S1024x1280.Idx) (t : Fin cfg9.N) (ht : t.val = (i 0).val / 1024) : i ∈ ((cfg9.win 2).blk t).view.set := by
  have b0 : (i 0).val < 1024 := (i 0).isLt
  have b1 : (i 1).val < 1280 := (i 1).isLt
  exact cov_in (win9_2.rect t).emb i (emb9_2 t) (by omega) (by omega)

/-! ## Region 10: where its blocks lie -/
/-- The block each window of region 10 is on at point `t`. -/
theorem idx10 : ∀ t : Fin grid10.N, (win10_0.index t 0 = t.val ∧ win10_0.index t 1 = 0) ∧ (win10_1.index t 0 = 0 ∧ win10_1.index t 1 = 0) ∧ (win10_2.index t 0 = t.val ∧ win10_2.index t 1 = 0) := by decide +kernel
/-- Window 0's block of region 10 at point `t`, read off its array. -/
theorem rd10_0 (t : Fin cfg10.N) (i0 i1 : ℕ) (b0 : i0 < 528) (b1 : i1 < 1280) :
    at2 (a := 528) (b := 1280) (iblk10 (F := Ideal) V c 0 t) i0 i1 = at2 (a := 4224) (b := 1280) (V c main_v17) (t.val * 528 + i0) (0 * 1280 + i1) :=
  rd_of (V c main_v17) _ b0 b1 fun y => emb_of win10_0 t y 0 1 (idx10 t).1

/-- Window 1's block of region 10 at point `t`, read off its array. -/
theorem rd10_1 (t : Fin cfg10.N) (i0 i1 : ℕ) (b0 : i0 < 1024) (b1 : i1 < 1280) :
    at2 (a := 1024) (b := 1280) (iblk10 (F := Ideal) V c 1 t) i0 i1 = at2 (a := 1024) (b := 1280) (V c main_v4) (0 * 1024 + i0) (0 * 1280 + i1) :=
  rd_of (V c main_v4) _ b0 b1 fun y => emb_of win10_1 t y 0 1 (idx10 t).2.1

/-- An index of window 2's block at point `t` as an index of its array. -/
theorem emb10_2 (t : Fin cfg10.N) (y : S528x1024.Idx) : ((win10_2.rect t).emb y 0).val = t.val * 528 + (y 0).val ∧ ((win10_2.rect t).emb y 1).val = 0 * 1024 + (y 1).val :=
  emb_of win10_2 t y 0 1 (idx10 t).2.2

/-- Every index of window 2's array lies in the block of the point its coordinates select. -/
theorem cov10_2 (i : S4224x1024.Idx) (t : Fin cfg10.N) (ht : t.val = (i 0).val / 528) : i ∈ ((cfg10.win 2).blk t).view.set := by
  have b0 : (i 0).val < 4224 := (i 0).isLt
  have b1 : (i 1).val < 1024 := (i 1).isLt
  exact cov_in (win10_2.rect t).emb i (emb10_2 t) (by omega) (by omega)

/-! ## Region 11: where its blocks lie -/
/-- The block each window of region 11 is on at point `t`. -/
theorem idx11 : ∀ t : Fin grid11.N, (win11_0.index t 0 = t.val ∧ win11_0.index t 1 = 0) ∧ (win11_1.index t 0 = 0 ∧ win11_1.index t 1 = 0) ∧ (win11_2.index t 0 = t.val ∧ win11_2.index t 1 = 0) := by decide +kernel
/-- Window 0's block of region 11 at point `t`, read off its array. -/
theorem rd11_0 (t : Fin cfg11.N) (i0 i1 : ℕ) (b0 : i0 < 528) (b1 : i1 < 1280) :
    at2 (a := 528) (b := 1280) (iblk11 (F := Ideal) V c 0 t) i0 i1 = at2 (a := 4224) (b := 1280) (V c main_v20_1) (t.val * 528 + i0) (0 * 1280 + i1) :=
  rd_of (V c main_v20_1) _ b0 b1 fun y => emb_of win11_0 t y 0 1 (idx11 t).1

/-- Window 1's block of region 11 at point `t`, read off its array. -/
theorem rd11_1 (t : Fin cfg11.N) (i0 i1 : ℕ) (b0 : i0 < 1024) (b1 : i1 < 1280) :
    at2 (a := 1024) (b := 1280) (iblk11 (F := Ideal) V c 1 t) i0 i1 = at2 (a := 1024) (b := 1280) (V c main_v7) (0 * 1024 + i0) (0 * 1280 + i1) :=
  rd_of (V c main_v7) _ b0 b1 fun y => emb_of win11_1 t y 0 1 (idx11 t).2.1

/-- An index of window 2's block at point `t` as an index of its array. -/
theorem emb11_2 (t : Fin cfg11.N) (y : S528x1024.Idx) : ((win11_2.rect t).emb y 0).val = t.val * 528 + (y 0).val ∧ ((win11_2.rect t).emb y 1).val = 0 * 1024 + (y 1).val :=
  emb_of win11_2 t y 0 1 (idx11 t).2.2

/-- Every index of window 2's array lies in the block of the point its coordinates select. -/
theorem cov11_2 (i : S4224x1024.Idx) (t : Fin cfg11.N) (ht : t.val = (i 0).val / 528) : i ∈ ((cfg11.win 2).blk t).view.set := by
  have b0 : (i 0).val < 4224 := (i 0).isLt
  have b1 : (i 1).val < 1024 := (i 1).isLt
  exact cov_in (win11_2.rect t).emb i (emb11_2 t) (by omega) (by omega)

end Cert.RgIdeal.Value

end
-- ==== Proof.RgFinal.lean ====
/- What each call of the recurrent layer's products leaves in its arrays. -/
module

public import proofs.«01_k».proof.Proof.RgTiles
public import proofs.«01_k».proof.Proof.RgBlocks

@[expose] public section

set_option maxRecDepth 16384

noncomputable section

namespace Cert.RgIdeal.Value

open Cert.RgIdeal Cert.RgIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

open Cert.Prod
open Cert.MlpIdeal.Value (rms rms_congr at2_congr)

/-! ## The arrays the regions leave -/

variable (V : (c : Dev nD) → (b : Ref sig .tc) → Buf (Elt Ideal) ((c : Thread nD τ).loc b)) (c : Dev nD)

/-- The rows normalised. -/
theorem final0_2 : (dat0 (F := Ideal) V c).arrAt 2 cfg0.N = G0 (V c main_arg0) (V c main_v0) := by
  refine (dat0 (F := Ideal) V c).arrAt_eq_of_cover 2 _ (fun t _ => ?_)
    (fun i => ⟨⟨(i 0).val / 528, by have hN := N_0; have b0 : (i 0).val < 4224 := (i 0).isLt; have b1 : (i 1).val < 1024 := (i 1).isLt; show _ < grid0.N; omega⟩, flush0_2 _, cov0_2 i _ rfl⟩)
  refine (after0_2 (F := Ideal) V c t).trans (funext fun y => ?_)
  obtain ⟨e0, e1⟩ := emb0_2 t y
  have ht : t.val < 8 := lt_of_lt_of_eq t.isLt N_0
  have y0 : (y 0).val < 528 := (y 0).isLt
  have y1 : (y 1).val < 1024 := (y 1).isLt
  show _ = G0 (V c main_arg0) (V c main_v0) ((win0_2.rect t).emb y)
  unfold G0
  rw [out0_2_at, e0, e1, rd0_0 V c t _ _ y0 y1, rd0_1 V c t 0 _ (by omega) y1]
  have z : (0 : ℕ) * 1024 + (y 1).val = (y 1).val := by omega
  rw [z]
  exact rms_congr _ _ (fun k hk => by beta_reduce; rw [rd0_0 V c t _ k y0 hk, show (0 : ℕ) * 1024 + k = k by omega]) _ _

/-- The first product of the normalised rows. -/
theorem final1_2 : (dat1 (F := Ideal) V c).arrAt 2 cfg1.N = G1 (V c main_v11) (V c main_v4) := by
  refine (dat1 (F := Ideal) V c).arrAt_eq_of_cover 2 _ (fun t _ => ?_)
    (fun i => ⟨⟨(i 0).val / 1056, by have hN := N_1; have b0 : (i 0).val < 4224 := (i 0).isLt; have b1 : (i 1).val < 1280 := (i 1).isLt; show _ < grid1.N; omega⟩, flush1_2 _, cov1_2 i _ rfl⟩)
  refine (after1_2 (F := Ideal) V c t).trans (funext fun y => ?_)
  obtain ⟨e0, e1⟩ := emb1_2 t y
  have ht : t.val < 4 := lt_of_lt_of_eq t.isLt N_1
  have y0 : (y 0).val < 1056 := (y 0).isLt
  have y1 : (y 1).val < 1280 := (y 1).isLt
  show _ = G1 (V c main_v11) (V c main_v4) ((win1_2.rect t).emb y)
  unfold G1
  rw [out1_2_at, e0, e1]
  unfold nn
  refine Finset.sum_congr rfl fun k hk => ?_
  have hk := Finset.mem_range.mp hk
  rw [rd1_0 V c t _ k y0 hk, rd1_1 V c t k _ hk y1]
  exact congrArg₂ (· * ·) (at2_congr _ (by omega) (by omega)) (at2_congr _ (by omega) (by omega))

/-- The second product of the normalised rows. -/
theorem final2_2 : (dat2 (F := Ideal) V c).arrAt 2 cfg2.N = G2 (V c main_v11) (V c main_v7) := by
  refine (dat2 (F := Ideal) V c).arrAt_eq_of_cover 2 _ (fun t _ => ?_)
    (fun i => ⟨⟨(i 0).val / 1056, by have hN := N_2; have b0 : (i 0).val < 4224 := (i 0).isLt; have b1 : (i 1).val < 1280 := (i 1).isLt; show _ < grid2.N; omega⟩, flush2_2 _, cov2_2 i _ rfl⟩)
  refine (after2_2 (F := Ideal) V c t).trans (funext fun y => ?_)
  obtain ⟨e0, e1⟩ := emb2_2 t y
  have ht : t.val < 4 := lt_of_lt_of_eq t.isLt N_2
  have y0 : (y 0).val < 1056 := (y 0).isLt
  have y1 : (y 1).val < 1280 := (y 1).isLt
  show _ = G2 (V c main_v11) (V c main_v7) ((win2_2.rect t).emb y)
  unfold G2
  rw [out2_2_at, e0, e1]
  unfold nn
  refine Finset.sum_congr rfl fun k hk => ?_
  have hk := Finset.mem_range.mp hk
  rw [rd2_0 V c t _ k y0 hk, rd2_1 V c t k _ hk y1]
  exact congrArg₂ (· * ·) (at2_congr _ (by omega) (by omega)) (at2_congr _ (by omega) (by omega))

/-- The last weight's gradient. -/
theorem final5_2 : (dat5 (F := Ideal) V c).arrAt 2 cfg5.N = G5 (V c main_v14) (V c main_v16) := by
  refine (dat5 (F := Ideal) V c).arrAt_eq_of_cover 2 _ (fun t _ => ?_)
    (fun i => ⟨⟨(i 0).val / 640, by have hN := N_5; have b0 : (i 0).val < 1280 := (i 0).isLt; have b1 : (i 1).val < 1024 := (i 1).isLt; show _ < grid5.N; omega⟩, flush5_2 _, cov5_2 i _ rfl⟩)
  refine (after5_2 (F := Ideal) V c t).trans (funext fun y => ?_)
  obtain ⟨e0, e1⟩ := emb5_2 t y
  have ht : t.val < 2 := lt_of_lt_of_eq t.isLt N_5
  have y0 : (y 0).val < 640 := (y 0).isLt
  have y1 : (y 1).val < 1024 := (y 1).isLt
  show _ = G5 (V c main_v14) (V c main_v16) ((win5_2.rect t).emb y)
  unfold G5
  rw [out5_2_at, e0, e1]
  unfold tn
  refine Finset.sum_congr rfl fun k hk => ?_
  have hk := Finset.mem_range.mp hk
  rw [rd5_0 V c t k _ hk y0, rd5_1 V c t k _ hk y1]
  exact congrArg₂ (· * ·) (at2_congr _ (by omega) (by omega)) (at2_congr _ (by omega) (by omega))

/-- The gradient of the gated rows. -/
theorem final6_2 : (dat6 (F := Ideal) V c).arrAt 2 cfg6.N = G6 (V c main_v16) (V c main_v10) := by
  refine (dat6 (F := Ideal) V c).arrAt_eq_of_cover 2 _ (fun t _ => ?_)
    (fun i => ⟨⟨(i 0).val / 1056, by have hN := N_6; have b0 : (i 0).val < 4224 := (i 0).isLt; have b1 : (i 1).val < 1280 := (i 1).isLt; show _ < grid6.N; omega⟩, flush6_2 _, cov6_2 i _ rfl⟩)
  refine (after6_2 (F := Ideal) V c t).trans (funext fun y => ?_)
  obtain ⟨e0, e1⟩ := emb6_2 t y
  have ht : t.val < 4 := lt_of_lt_of_eq t.isLt N_6
  have y0 : (y 0).val < 1056 := (y 0).isLt
  have y1 : (y 1).val < 1280 := (y 1).isLt
  show _ = G6 (V c main_v16) (V c main_v10) ((win6_2.rect t).emb y)
  unfold G6
  rw [out6_2_at, e0, e1]
  unfold nt
  refine Finset.sum_congr rfl fun k hk => ?_
  have hk := Finset.mem_range.mp hk
  rw [rd6_0 V c t _ k y0 hk, rd6_1 V c t _ k y1 hk]
  exact congrArg₂ (· * ·) (at2_congr _ (by omega) (by omega)) (at2_congr _ (by omega) (by omega))

/-- The first weight's gradient. -/
theorem final8_2 : (dat8 (F := Ideal) V c).arrAt 2 cfg8.N = G8 (V c main_v11) (V c main_v17) := by
  refine (dat8 (F := Ideal) V c).arrAt_eq_of_cover 2 _ (fun t _ => ?_)
    (fun i => ⟨⟨(i 0).val / 1024, by have hN := N_8; have b0 : (i 0).val < 1024 := (i 0).isLt; have b1 : (i 1).val < 1280 := (i 1).isLt; show _ < grid8.N; omega⟩, flush8_2 _, cov8_2 i _ rfl⟩)
  refine (after8_2 (F := Ideal) V c t).trans (funext fun y => ?_)
  obtain ⟨e0, e1⟩ := emb8_2 t y
  have ht : t.val < 1 := lt_of_lt_of_eq t.isLt N_8
  have y0 : (y 0).val < 1024 := (y 0).isLt
  have y1 : (y 1).val < 1280 := (y 1).isLt
  show _ = G8 (V c main_v11) (V c main_v17) ((win8_2.rect t).emb y)
  unfold G8
  rw [out8_2_at, e0, e1]
  unfold tn
  refine Finset.sum_congr rfl fun k hk => ?_
  have hk := Finset.mem_range.mp hk
  rw [rd8_0 V c t k _ hk y0, rd8_1 V c t k _ hk y1]
  exact congrArg₂ (· * ·) (at2_congr _ (by omega) (by omega)) (at2_congr _ (by omega) (by omega))

/-- The second weight's gradient. -/
theorem final9_2 : (dat9 (F := Ideal) V c).arrAt 2 cfg9.N = G9 (V c main_v11) (V c main_v20_1) := by
  refine (dat9 (F := Ideal) V c).arrAt_eq_of_cover 2 _ (fun t _ => ?_)
    (fun i => ⟨⟨(i 0).val / 1024, by have hN := N_9; have b0 : (i 0).val < 1024 := (i 0).isLt; have b1 : (i 1).val < 1280 := (i 1).isLt; show _ < grid9.N; omega⟩, flush9_2 _, cov9_2 i _ rfl⟩)
  refine (after9_2 (F := Ideal) V c t).trans (funext fun y => ?_)
  obtain ⟨e0, e1⟩ := emb9_2 t y
  have ht : t.val < 1 := lt_of_lt_of_eq t.isLt N_9
  have y0 : (y 0).val < 1024 := (y 0).isLt
  have y1 : (y 1).val < 1280 := (y 1).isLt
  show _ = G9 (V c main_v11) (V c main_v20_1) ((win9_2.rect t).emb y)
  unfold G9
  rw [out9_2_at, e0, e1]
  unfold tn
  refine Finset.sum_congr rfl fun k hk => ?_
  have hk := Finset.mem_range.mp hk
  rw [rd9_0 V c t k _ hk y0, rd9_1 V c t k _ hk y1]
  exact congrArg₂ (· * ·) (at2_congr _ (by omega) (by omega)) (at2_congr _ (by omega) (by omega))

/-- The gradient of the normalised rows through the first product. -/
theorem final10_2 : (dat10 (F := Ideal) V c).arrAt 2 cfg10.N = G10 (V c main_v17) (V c main_v4) := by
  refine (dat10 (F := Ideal) V c).arrAt_eq_of_cover 2 _ (fun t _ => ?_)
    (fun i => ⟨⟨(i 0).val / 528, by have hN := N_10; have b0 : (i 0).val < 4224 := (i 0).isLt; have b1 : (i 1).val < 1024 := (i 1).isLt; show _ < grid10.N; omega⟩, flush10_2 _, cov10_2 i _ rfl⟩)
  refine (after10_2 (F := Ideal) V c t).trans (funext fun y => ?_)
  obtain ⟨e0, e1⟩ := emb10_2 t y
  have ht : t.val < 8 := lt_of_lt_of_eq t.isLt N_10
  have y0 : (y 0).val < 528 := (y 0).isLt
  have y1 : (y 1).val < 1024 := (y 1).isLt
  show _ = G10 (V c main_v17) (V c main_v4) ((win10_2.rect t).emb y)
  unfold G10
  rw [out10_2_at, e0, e1]
  unfold nt
  refine Finset.sum_congr rfl fun k hk => ?_
  have hk := Finset.mem_range.mp hk
  rw [rd10_0 V c t _ k y0 hk, rd10_1 V c t _ k y1 hk]
  exact congrArg₂ (· * ·) (at2_congr _ (by omega) (by omega)) (at2_congr _ (by omega) (by omega))

/-- The gradient of the normalised rows through the second product. -/
theorem final11_2 : (dat11 (F := Ideal) V c).arrAt 2 cfg11.N = G11 (V c main_v20_1) (V c main_v7) := by
  refine (dat11 (F := Ideal) V c).arrAt_eq_of_cover 2 _ (fun t _ => ?_)
    (fun i => ⟨⟨(i 0).val / 528, by have hN := N_11; have b0 : (i 0).val < 4224 := (i 0).isLt; have b1 : (i 1).val < 1024 := (i 1).isLt; show _ < grid11.N; omega⟩, flush11_2 _, cov11_2 i _ rfl⟩)
  refine (after11_2 (F := Ideal) V c t).trans (funext fun y => ?_)
  obtain ⟨e0, e1⟩ := emb11_2 t y
  have ht : t.val < 8 := lt_of_lt_of_eq t.isLt N_11
  have y0 : (y 0).val < 528 := (y 0).isLt
  have y1 : (y 1).val < 1024 := (y 1).isLt
  show _ = G11 (V c main_v20_1) (V c main_v7) ((win11_2.rect t).emb y)
  unfold G11
  rw [out11_2_at, e0, e1]
  unfold nt
  refine Finset.sum_congr rfl fun k hk => ?_
  have hk := Finset.mem_range.mp hk
  rw [rd11_0 V c t _ k y0 hk, rd11_1 V c t _ k y1 hk]
  exact congrArg₂ (· * ·) (at2_congr _ (by omega) (by omega)) (at2_congr _ (by omega) (by omega))

/-- The gated rows. -/
theorem final3_2 : (dat3 (F := Ideal) V c).arrAt 2 cfg3.N = G3 (V c main_arg6) (V c main_v13) := by
  refine (dat3 (F := Ideal) V c).arrAt_eq_of_cover 2 _ (fun t _ => ?_)
    (fun i => ⟨⟨(i 0).val / 528, by have hN := N_3; have b0 : (i 0).val < 4224 := (i 0).isLt; have b1 : (i 1).val < 1280 := (i 1).isLt; show _ < grid3.N; omega⟩, flush3_2 _, cov3_2 i _ rfl⟩)
  refine (after3_2 (F := Ideal) V c t).trans (funext fun y => ?_)
  obtain ⟨e0, e1⟩ := emb3_2 t y
  have ht : t.val < 8 := lt_of_lt_of_eq t.isLt N_3
  have y0 : (y 0).val < 528 := (y 0).isLt
  have y1 : (y 1).val < 1280 := (y 1).isLt
  show _ = G3 (V c main_arg6) (V c main_v13) ((win3_2.rect t).emb y)
  unfold G3
  rw [out3_2_at, e0, e1]
  exact congrArg₂ (fun a b : EReal => a * gate b) ((eq_at2 (a := 528) (b := 1280) (iblk3 (F := Ideal) V c 0 t) y).trans (rd3_0 V c t _ _ y0 y1))
    ((eq_at2 (a := 528) (b := 1280) (iblk3 (F := Ideal) V c 1 t) y).trans (rd3_1 V c t _ _ y0 y1))

/-- A block's last product is the array's. -/
theorem nn4 (t : Fin cfg4.N) (p q : ℕ) (hp : p < 528) (hq : q < 1024) :
    nn 1280 (at2 (a := 528) (b := 1280) (iblk4 (F := Ideal) V c 0 t)) (at2 (a := 1280) (b := 1024) (iblk4 (F := Ideal) V c 1 t)) p q
      = nn 1280 (at2 (a := 4224) (b := 1280) (V c main_v14)) (at2 (a := 1280) (b := 1024) (V c main_v10)) (t.val * 528 + p) q := by
  unfold nn
  refine Finset.sum_congr rfl fun k hk => ?_
  have hk := Finset.mem_range.mp hk
  rw [rd4_0 V c t p k hp hk, rd4_1 V c t k q hk hq]
  exact congrArg₂ (· * ·) (at2_congr _ (by omega) (by omega)) (at2_congr _ (by omega) (by omega))

/-- The last product. -/
theorem final4_4 : (dat4 (F := Ideal) V c).arrAt 4 cfg4.N = G4a (V c main_v14) (V c main_v10) := by
  refine (dat4 (F := Ideal) V c).arrAt_eq_of_cover 4 _ (fun t _ => ?_)
    (fun i => ⟨⟨(i 0).val / 528, by have hN := N_4; have b0 : (i 0).val < 4224 := (i 0).isLt; have b1 : (i 1).val < 1024 := (i 1).isLt; show _ < grid4.N; omega⟩, flush4_4 _, cov4_4 i _ rfl⟩)
  refine (after4_4 (F := Ideal) V c t).trans (funext fun y => ?_)
  obtain ⟨e0, e1⟩ := emb4_4 t y
  have ht : t.val < 8 := lt_of_lt_of_eq t.isLt N_4
  have y0 : (y 0).val < 528 := (y 0).isLt
  have y1 : (y 1).val < 1024 := (y 1).isLt
  show _ = G4a (V c main_v14) (V c main_v10) ((win4_4.rect t).emb y)
  unfold G4a out4_4
  rw [View.canon_cons_unit_lit _ _ _ (by decide), View.ld_unit_lit _ _ (by decide), View.ld_unit_lit _ _ (by decide), pay4_at, e0, e1, nn4 V c t _ _ y0 y1]
  rw [show (0 : ℕ) * 1024 + (y 1).val = (y 1).val by omega]

/-- The last product normalised and added to what came in. -/
theorem final4_5 : (dat4 (F := Ideal) V c).arrAt 5 cfg4.N = G4b (V c main_v14) (V c main_v10) (V c main_arg0) (V c main_v1) := by
  refine (dat4 (F := Ideal) V c).arrAt_eq_of_cover 5 _ (fun t _ => ?_)
    (fun i => ⟨⟨(i 0).val / 528, by have hN := N_4; have b0 : (i 0).val < 4224 := (i 0).isLt; have b1 : (i 1).val < 1024 := (i 1).isLt; show _ < grid4.N; omega⟩, flush4_5 _, cov4_5 i _ rfl⟩)
  refine (after4_5 (F := Ideal) V c t).trans (funext fun y => ?_)
  obtain ⟨e0, e1⟩ := emb4_5 t y
  have ht : t.val < 8 := lt_of_lt_of_eq t.isLt N_4
  have y0 : (y 0).val < 528 := (y 0).isLt
  have y1 : (y 1).val < 1024 := (y 1).isLt
  show _ = G4b (V c main_v14) (V c main_v10) (V c main_arg0) (V c main_v1) ((win4_5.rect t).emb y)
  have z : (0 : ℕ) * 1024 + (y 1).val = (y 1).val := by omega
  have hP : ∀ k, k < 1024 → at2 (a := 528) (b := 1024) (k4_pay1 (F := Ideal) (iblk4 V c 0 t) (iblk4 V c 1 t)) (y 0).val k
      = nn 1280 (at2 (a := 4224) (b := 1280) (V c main_v14)) (at2 (a := 1280) (b := 1024) (V c main_v10)) (t.val * 528 + (y 0).val) k := fun k hk =>
    (dif_pos ⟨y0, hk⟩).trans ((pay4_at _ _ _).trans (nn4 V c t (y 0).val k y0 hk))
  unfold G4b out4_5
  rw [View.canon_cons_unit_lit _ _ _ (by decide), View.ld_unit_lit _ _ (by decide), View.ld_unit_lit _ _ (by decide), View.ld_unit_lit _ _ (by decide), View.ld_unit_lit _ _ (by decide),
    pay4b_at, e0, e1, rd4_2 V c t _ _ y0 y1, rd4_3 V c t 0 _ (by decide) y1, eq_at2 (k4_pay1 (F := Ideal) _ _) y, hP _ y1, z, rms_congr _ _ hP]

/-- The gradient of what the gate multiplies. -/
theorem final7_3 : (dat7 (F := Ideal) V c).arrAt 3 cfg7.N = G7a (V c main_arg6) (V c main_v13) (V c main_v19) := by
  refine (dat7 (F := Ideal) V c).arrAt_eq_of_cover 3 _ (fun t _ => ?_)
    (fun i => ⟨⟨(i 0).val / 528, by have hN := N_7; have b0 : (i 0).val < 4224 := (i 0).isLt; have b1 : (i 1).val < 1280 := (i 1).isLt; show _ < grid7.N; omega⟩, flush7_3 _, cov7_3 i _ rfl⟩)
  refine (after7_3 (F := Ideal) V c t).trans (funext fun y => ?_)
  obtain ⟨e0, e1⟩ := emb7_3 t y
  have ht : t.val < 8 := lt_of_lt_of_eq t.isLt N_7
  have y0 : (y 0).val < 528 := (y 0).isLt
  have y1 : (y 1).val < 1280 := (y 1).isLt
  show _ = G7a (V c main_arg6) (V c main_v13) (V c main_v19) ((win7_3.rect t).emb y)
  unfold G7a
  rw [out7_3_at, e0, e1]
  exact congrArg₂ (fun b d : EReal => d * gate b) ((eq_at2 (a := 528) (b := 1280) (iblk7 (F := Ideal) V c 1 t) y).trans (rd7_1 V c t _ _ y0 y1))
    ((eq_at2 (a := 528) (b := 1280) (iblk7 (F := Ideal) V c 2 t) y).trans (rd7_2 V c t _ _ y0 y1))

/-- The gradient of the gate's argument. -/
theorem final7_4 : (dat7 (F := Ideal) V c).arrAt 4 cfg7.N = G7b (V c main_arg6) (V c main_v13) (V c main_v19) := by
  refine (dat7 (F := Ideal) V c).arrAt_eq_of_cover 4 _ (fun t _ => ?_)
    (fun i => ⟨⟨(i 0).val / 528, by have hN := N_7; have b0 : (i 0).val < 4224 := (i 0).isLt; have b1 : (i 1).val < 1280 := (i 1).isLt; show _ < grid7.N; omega⟩, flush7_4 _, cov7_4 i _ rfl⟩)
  refine (after7_4 (F := Ideal) V c t).trans (funext fun y => ?_)
  obtain ⟨e0, e1⟩ := emb7_4 t y
  have ht : t.val < 8 := lt_of_lt_of_eq t.isLt N_7
  have y0 : (y 0).val < 528 := (y 0).isLt
  have y1 : (y 1).val < 1280 := (y 1).isLt
  show _ = G7b (V c main_arg6) (V c main_v13) (V c main_v19) ((win7_4.rect t).emb y)
  unfold G7b
  rw [out7_4_at, e0, e1]
  exact congr (congrArg₂ (dgate) ((eq_at2 (a := 528) (b := 1280) (iblk7 (F := Ideal) V c 0 t) y).trans (rd7_0 V c t _ _ y0 y1))
    ((eq_at2 (a := 528) (b := 1280) (iblk7 (F := Ideal) V c 1 t) y).trans (rd7_1 V c t _ _ y0 y1)))
    ((eq_at2 (a := 528) (b := 1280) (iblk7 (F := Ideal) V c 2 t) y).trans (rd7_2 V c t _ _ y0 y1))

end Cert.RgIdeal.Value

end
-- ==== Proof.RgSpec.lean ====
/- The products of the recurrent layer and their gradients as sums and products of numbers. -/
module

public import proofs.«01_k».proof.Proof.RgTiles

@[expose] public section

noncomputable section

namespace Cert.Rgl

open Idealize.ShloMosaic Cert.Coord Cert.Prod Cert.MlpIdeal.Value Cert.RgIdeal.Value

variable (h : ℕ → ℕ → EReal) (g1 g2 : ℕ → EReal) (wx wy wo s d dx : ℕ → ℕ → EReal)

/-- The rows normalised. -/
def hn (i k : ℕ) : EReal := rms (h i) (h i k) (g1 k)

/-- The argument of the gate. -/
def Y (i j : ℕ) : EReal := nn 1024 (hn h g1) wy i j

/-- The product that goes on to the convolution. -/
def X (i j : ℕ) : EReal := nn 1024 (hn h g1) wx i j

/-- The gated rows. -/
def HG (i j : ℕ) : EReal := s i j * gate (Y h g1 wy i j)

/-- The layer's last product. -/
def M (i j : ℕ) : EReal := nn 1280 (HG h g1 wy s) wo i j

/-- What comes out: the last product normalised, added to what came in. -/
def H (i j : ℕ) : EReal := h i j + rms (M h g1 wy wo s i) (M h g1 wy wo s i j) (g2 j)

/-- The gradient of the gated rows. -/
def DHG (i j : ℕ) : EReal := nt 1024 d wo i j

/-- The gradient of what the gate multiplies. -/
def DS (i j : ℕ) : EReal := DHG wo d i j * gate (Y h g1 wy i j)

/-- The gradient of the gate's argument. -/
def DY (i j : ℕ) : EReal := dgate (s i j) (Y h g1 wy i j) (DHG wo d i j)

/-- The last weight's gradient. -/
def DWO (i j : ℕ) : EReal := tn 4224 (HG h g1 wy s) d i j

/-- The first weight's gradient. -/
def DWX (i j : ℕ) : EReal := tn 4224 (hn h g1) dx i j

/-- The second weight's gradient. -/
def DWY (i j : ℕ) : EReal := tn 4224 (hn h g1) (DY h g1 wy wo s d) i j

/-- The gradient of the normalised rows through the first product. -/
def DHX (i j : ℕ) : EReal := nt 1280 dx wx i j

/-- The gradient of the normalised rows through the second product. -/
def DHY (i j : ℕ) : EReal := nt 1280 (DY h g1 wy wo s d) wy i j

end Cert.Rgl

end
-- ==== Proof.RgRun.lean ====
/- The run of the recurrent layer's products and their gradients: what the result arrays hold at the end. -/
module

public import proofs.«01_k».proof.Proof.RgFinal
public import proofs.«01_k».proof.Proof.RgSpec
public import Idealize.ShloMosaic.Lib.StableHlo.Run

@[expose] public section

set_option maxRecDepth 16384

noncomputable section

namespace Cert.RgIdeal.Value

open Cert.RgIdeal Cert.RgIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo Cert.Coord Cert.Prod
open Cert.MlpIdeal.Value (rms rms_congr at2_congr)

local notation "𝕄" => MT nD τ sig Unit (Elt Ideal) ℕ (UR sig nD τ) ℕ

variable (m : (ℓ : Loc nD τ sig) → Buf (Elt Ideal) ℓ) (ρ : Dev nD → PrngReg)

section values

variable (c : Dev nD)

/-- What region 0 leaves. -/
theorem x_v11 : W2 m ρ c main_v11 = G0 (W0 m ρ c main_arg0) (W1 m ρ c main_v0) := by
  refine ((W2_arr m ρ c 2).trans (final0_2 (V1 m ρ) c)).trans ?_
  show G0 (W1 m ρ c main_arg0) (W1 m ρ c main_v0) = _
  simp (discharger := decide) only [W1_of m]

/-- What region 1 leaves. -/
theorem x_v12 : W3 m ρ c main_v12 = G1 (W2 m ρ c main_v11) (W1 m ρ c main_v4) := by
  refine ((W3_arr m ρ c 2).trans (final1_2 (V2 m ρ) c)).trans ?_
  show G1 (W2 m ρ c main_v11) (W2 m ρ c main_v4) = _
  simp (discharger := decide) only [W2_of m]

/-- What region 2 leaves. -/
theorem x_v13 : W4 m ρ c main_v13 = G2 (W2 m ρ c main_v11) (W1 m ρ c main_v7) := by
  refine ((W4_arr m ρ c 2).trans (final2_2 (V3 m ρ) c)).trans ?_
  show G2 (W3 m ρ c main_v11) (W3 m ρ c main_v7) = _
  simp (discharger := decide) only [W2_of m, W3_of m]

/-- What region 3 leaves. -/
theorem x_v14 : W5 m ρ c main_v14 = G3 (W0 m ρ c main_arg6) (W4 m ρ c main_v13) := by
  refine ((W5_arr m ρ c 2).trans (final3_2 (V4 m ρ) c)).trans ?_
  show G3 (W4 m ρ c main_arg6) (W4 m ρ c main_v13) = _
  simp (discharger := decide) only [W1_of m, W2_of m, W3_of m, W4_of m]

/-- What region 4 leaves. -/
theorem x_v15_0 : W6 m ρ c main_v15_0 = G4a (W5 m ρ c main_v14) (W1 m ρ c main_v10) := by
  refine ((W6_arr m ρ c 4).trans (final4_4 (V5 m ρ) c)).trans ?_
  show G4a (W5 m ρ c main_v14) (W5 m ρ c main_v10) = _
  simp (discharger := decide) only [W2_of m, W3_of m, W4_of m, W5_of m]

/-- What region 4 leaves. -/
theorem x_v15_1 : W6 m ρ c main_v15_1 = G4b (W5 m ρ c main_v14) (W1 m ρ c main_v10) (W0 m ρ c main_arg0) (W1 m ρ c main_v1) := by
  refine ((W6_arr m ρ c 5).trans (final4_5 (V5 m ρ) c)).trans ?_
  show G4b (W5 m ρ c main_v14) (W5 m ρ c main_v10) (W5 m ρ c main_arg0) (W5 m ρ c main_v1) = _
  simp (discharger := decide) only [W1_of m, W2_of m, W3_of m, W4_of m, W5_of m]

/-- What region 5 leaves. -/
theorem x_v18 : W8 m ρ c main_v18 = G5 (W5 m ρ c main_v14) (W7 m ρ c main_v16) := by
  refine ((W8_arr m ρ c 2).trans (final5_2 (V7 m ρ) c)).trans ?_
  show G5 (W7 m ρ c main_v14) (W7 m ρ c main_v16) = _
  simp (discharger := decide) only [W6_of m, W7_of m]

/-- What region 6 leaves. -/
theorem x_v19 : W9 m ρ c main_v19 = G6 (W7 m ρ c main_v16) (W1 m ρ c main_v10) := by
  refine ((W9_arr m ρ c 2).trans (final6_2 (V8 m ρ) c)).trans ?_
  show G6 (W8 m ρ c main_v16) (W8 m ρ c main_v10) = _
  simp (discharger := decide) only [W2_of m, W3_of m, W4_of m, W5_of m, W6_of m, W7_of m, W8_of m]

/-- What region 7 leaves. -/
theorem x_v20_0 : W10 m ρ c main_v20_0 = G7a (W0 m ρ c main_arg6) (W4 m ρ c main_v13) (W9 m ρ c main_v19) := by
  refine ((W10_arr m ρ c 3).trans (final7_3 (V9 m ρ) c)).trans ?_
  show G7a (W9 m ρ c main_arg6) (W9 m ρ c main_v13) (W9 m ρ c main_v19) = _
  simp (discharger := decide) only [W1_of m, W2_of m, W3_of m, W4_of m, W5_of m, W6_of m, W7_of m, W8_of m, W9_of m]

/-- What region 7 leaves. -/
theorem x_v20_1 : W10 m ρ c main_v20_1 = G7b (W0 m ρ c main_arg6) (W4 m ρ c main_v13) (W9 m ρ c main_v19) := by
  refine ((W10_arr m ρ c 4).trans (final7_4 (V9 m ρ) c)).trans ?_
  show G7b (W9 m ρ c main_arg6) (W9 m ρ c main_v13) (W9 m ρ c main_v19) = _
  simp (discharger := decide) only [W1_of m, W2_of m, W3_of m, W4_of m, W5_of m, W6_of m, W7_of m, W8_of m, W9_of m]

/-- What region 8 leaves. -/
theorem x_v21 : W11 m ρ c main_v21 = G8 (W2 m ρ c main_v11) (W7 m ρ c main_v17) := by
  refine ((W11_arr m ρ c 2).trans (final8_2 (V10 m ρ) c)).trans ?_
  show G8 (W10 m ρ c main_v11) (W10 m ρ c main_v17) = _
  simp (discharger := decide) only [W3_of m, W4_of m, W5_of m, W6_of m, W7_of m, W8_of m, W9_of m, W10_of m]

/-- What region 9 leaves. -/
theorem x_v22 : W12 m ρ c main_v22 = G9 (W2 m ρ c main_v11) (W10 m ρ c main_v20_1) := by
  refine ((W12_arr m ρ c 2).trans (final9_2 (V11 m ρ) c)).trans ?_
  show G9 (W11 m ρ c main_v11) (W11 m ρ c main_v20_1) = _
  simp (discharger := decide) only [W3_of m, W4_of m, W5_of m, W6_of m, W7_of m, W8_of m, W9_of m, W10_of m, W11_of m]

/-- What region 10 leaves. -/
theorem x_v23 : W13 m ρ c main_v23 = G10 (W7 m ρ c main_v17) (W1 m ρ c main_v4) := by
  refine ((W13_arr m ρ c 2).trans (final10_2 (V12 m ρ) c)).trans ?_
  show G10 (W12 m ρ c main_v17) (W12 m ρ c main_v4) = _
  simp (discharger := decide) only [W2_of m, W3_of m, W4_of m, W5_of m, W6_of m, W7_of m, W8_of m, W9_of m, W10_of m, W11_of m, W12_of m]

/-- What region 11 leaves. -/
theorem x_v24 : W14 m ρ c main_v24 = G11 (W10 m ρ c main_v20_1) (W1 m ρ c main_v7) := by
  refine ((W14_arr m ρ c 2).trans (final11_2 (V13 m ρ) c)).trans ?_
  show G11 (W13 m ρ c main_v20_1) (W13 m ρ c main_v7) = _
  simp (discharger := decide) only [W2_of m, W3_of m, W4_of m, W5_of m, W6_of m, W7_of m, W8_of m, W9_of m, W10_of m, W11_of m, W12_of m, W13_of m]

/-- A gain, as a row. -/
theorem v0_at (k : Fin 1024) : (W1 m ρ c main_v0 : Vec Ideal S1x1024 .f32) (ix2 (0 : Fin 1) k) = (m (c, main_arg1) : Vec Ideal S1024 .f32) (ix1 k) := by
  unfold W1
  simp only [hostOps0]
  after_results_simp
  pointwise

/-- A gain, as a row. -/
theorem v1_at (k : Fin 1024) : (W1 m ρ c main_v1 : Vec Ideal S1x1024 .f32) (ix2 (0 : Fin 1) k) = (m (c, main_arg2) : Vec Ideal S1024 .f32) (ix1 k) := by
  unfold W1
  simp only [hostOps0]
  after_results_simp
  pointwise

/-- A weight of the layer, the second of two. -/
theorem v4_at (k : Fin 1024) (n : Fin 1280) : (W1 m ρ c main_v4 : Vec Ideal S1024x1280 .bf16) (ix2 k n) = (m (c, main_arg3) : Vec Ideal S2x1024x1280 .f32) (ix3 (1 : Fin 2) k n) := by
  unfold W1
  simp only [hostOps0]
  after_results_simp
  pointwise

/-- A weight of the layer, the second of two. -/
theorem v7_at (k : Fin 1024) (n : Fin 1280) : (W1 m ρ c main_v7 : Vec Ideal S1024x1280 .bf16) (ix2 k n) = (m (c, main_arg4) : Vec Ideal S2x1024x1280 .f32) (ix3 (1 : Fin 2) k n) := by
  unfold W1
  simp only [hostOps0]
  after_results_simp
  pointwise

/-- A weight of the layer, the second of two. -/
theorem v10_at (k : Fin 1280) (n : Fin 1024) : (W1 m ρ c main_v10 : Vec Ideal S1280x1024 .bf16) (ix2 k n) = (m (c, main_arg5) : Vec Ideal S2x1280x1024 .f32) (ix3 (1 : Fin 2) k n) := by
  unfold W1
  simp only [hostOps0]
  after_results_simp
  pointwise

/-- A gradient passed down. -/
theorem v16_eq : W7 m ρ c main_v16 = (m (c, main_arg7) : Vec Ideal S4224x1024 .f32) := by
  refine Eq.trans ?_ (W6_args m ρ c main_arg7 (by decide))
  unfold W7
  simp only [hostOps5]
  after_results_simp
  rfl

/-- A gradient passed down. -/
theorem v17_eq : W7 m ρ c main_v17 = (m (c, main_arg8) : Vec Ideal S4224x1280 .f32) := by
  refine Eq.trans ?_ (W6_args m ρ c main_arg8 (by decide))
  unfold W7
  simp only [hostOps5]
  after_results_simp
  rfl

/-! ## The arguments as functions of their coordinates -/

/-- The rows. -/
abbrev aH : ℕ → ℕ → EReal := at2 (a := 4224) (b := 1024) (m (c, main_arg0) : Vec Ideal S4224x1024 .f32)
/-- The first gain. -/
abbrev aG1 : ℕ → EReal := at1 (a := 1024) (m (c, main_arg1) : Vec Ideal S1024 .f32)
/-- The second gain. -/
abbrev aG2 : ℕ → EReal := at1 (a := 1024) (m (c, main_arg2) : Vec Ideal S1024 .f32)
/-- The layer's first weight. -/
abbrev aWX : ℕ → ℕ → EReal := at3 (a := 2) (b := 1024) (c := 1280) (m (c, main_arg3) : Vec Ideal S2x1024x1280 .f32) 1
/-- The layer's second weight. -/
abbrev aWY : ℕ → ℕ → EReal := at3 (a := 2) (b := 1024) (c := 1280) (m (c, main_arg4) : Vec Ideal S2x1024x1280 .f32) 1
/-- The layer's last weight. -/
abbrev aWO : ℕ → ℕ → EReal := at3 (a := 2) (b := 1280) (c := 1024) (m (c, main_arg5) : Vec Ideal S2x1280x1024 .f32) 1
/-- What the gate multiplies. -/
abbrev aS : ℕ → ℕ → EReal := at2 (a := 4224) (b := 1280) (m (c, main_arg6) : Vec Ideal S4224x1280 .f32)
/-- The gradient of the last product. -/
abbrev aD : ℕ → ℕ → EReal := at2 (a := 4224) (b := 1024) (m (c, main_arg7) : Vec Ideal S4224x1024 .f32)
/-- The gradient of the first product. -/
abbrev aDX : ℕ → ℕ → EReal := at2 (a := 4224) (b := 1280) (m (c, main_arg8) : Vec Ideal S4224x1280 .f32)

/-- The first gain's row. -/
theorem n_v0 {k : ℕ} (hk : k < 1024) : at2 (a := 1) (b := 1024) (W1 m ρ c main_v0) 0 k = aG1 m c k :=
  (at2_ix (a := 1) (b := 1024) (W1 m ρ c main_v0) (0 : Fin 1) ⟨k, hk⟩).trans ((v0_at m ρ c ⟨k, hk⟩).trans (at1_ix (a := 1024) (m (c, main_arg1)) ⟨k, hk⟩).symm)

/-- The second gain's row. -/
theorem n_v1 {k : ℕ} (hk : k < 1024) : at2 (a := 1) (b := 1024) (W1 m ρ c main_v1) 0 k = aG2 m c k :=
  (at2_ix (a := 1) (b := 1024) (W1 m ρ c main_v1) (0 : Fin 1) ⟨k, hk⟩).trans ((v1_at m ρ c ⟨k, hk⟩).trans (at1_ix (a := 1024) (m (c, main_arg2)) ⟨k, hk⟩).symm)

/-- A weight's entries. -/
theorem n_v4 {k n : ℕ} (hk : k < 1024) (hn : n < 1280) : at2 (a := 1024) (b := 1280) (W1 m ρ c main_v4) k n = aWX m c k n :=
  (at2_ix (a := 1024) (b := 1280) (W1 m ρ c main_v4) ⟨k, hk⟩ ⟨n, hn⟩).trans ((v4_at m ρ c ⟨k, hk⟩ ⟨n, hn⟩).trans
    (at3_ix (a := 2) (b := 1024) (c := 1280) (m (c, main_arg3)) (1 : Fin 2) ⟨k, hk⟩ ⟨n, hn⟩).symm)

/-- A weight's entries. -/
theorem n_v7 {k n : ℕ} (hk : k < 1024) (hn : n < 1280) : at2 (a := 1024) (b := 1280) (W1 m ρ c main_v7) k n = aWY m c k n :=
  (at2_ix (a := 1024) (b := 1280) (W1 m ρ c main_v7) ⟨k, hk⟩ ⟨n, hn⟩).trans ((v7_at m ρ c ⟨k, hk⟩ ⟨n, hn⟩).trans
    (at3_ix (a := 2) (b := 1024) (c := 1280) (m (c, main_arg4)) (1 : Fin 2) ⟨k, hk⟩ ⟨n, hn⟩).symm)

/-- A weight's entries. -/
theorem n_v10 {k n : ℕ} (hk : k < 1280) (hn : n < 1024) : at2 (a := 1280) (b := 1024) (W1 m ρ c main_v10) k n = aWO m c k n :=
  (at2_ix (a := 1280) (b := 1024) (W1 m ρ c main_v10) ⟨k, hk⟩ ⟨n, hn⟩).trans ((v10_at m ρ c ⟨k, hk⟩ ⟨n, hn⟩).trans
    (at3_ix (a := 2) (b := 1280) (c := 1024) (m (c, main_arg5)) (1 : Fin 2) ⟨k, hk⟩ ⟨n, hn⟩).symm)

/-- The normalised rows. -/
theorem n_v11 {i j : ℕ} (hi : i < 4224) (hj : j < 1024) : at2 (a := 4224) (b := 1024) (W2 m ρ c main_v11) i j = Rgl.hn (aH m c) (aG1 m c) i j := by
  rw [x_v11]
  exact (dif_pos ⟨hi, hj⟩).trans (congrArg (rms _ _) (n_v0 m ρ c hj))

/-- The first product. -/
theorem n_v12 {i j : ℕ} (hi : i < 4224) (hj : j < 1280) : at2 (a := 4224) (b := 1280) (W3 m ρ c main_v12) i j = Rgl.X (aH m c) (aG1 m c) (aWX m c) i j := by
  rw [x_v12]
  refine (at2_mk _ _ (fun _ => rfl) hi hj).trans ?_
  exact nn_congr _ _ _ _ _ _ _ (fun k hk => n_v11 m ρ c hi hk) (fun k hk => n_v4 m ρ c hk hj)

/-- The gate's argument. -/
theorem n_v13 {i j : ℕ} (hi : i < 4224) (hj : j < 1280) : at2 (a := 4224) (b := 1280) (W4 m ρ c main_v13) i j = Rgl.Y (aH m c) (aG1 m c) (aWY m c) i j := by
  rw [x_v13]
  refine (at2_mk _ _ (fun _ => rfl) hi hj).trans ?_
  exact nn_congr _ _ _ _ _ _ _ (fun k hk => n_v11 m ρ c hi hk) (fun k hk => n_v7 m ρ c hk hj)

/-- The gated rows. -/
theorem n_v14 {i j : ℕ} (hi : i < 4224) (hj : j < 1280) : at2 (a := 4224) (b := 1280) (W5 m ρ c main_v14) i j = Rgl.HG (aH m c) (aG1 m c) (aWY m c) (aS m c) i j := by
  rw [x_v14]
  refine (dif_pos ⟨hi, hj⟩).trans ?_
  exact congrArg (fun y : EReal => aS m c i j * gate y) (n_v13 m ρ c hi hj)

/-- An entry of the last product. -/
theorem m_eq {i j : ℕ} (hi : i < 4224) (hj : j < 1024) :
    nn 1280 (at2 (a := 4224) (b := 1280) (W5 m ρ c main_v14)) (at2 (a := 1280) (b := 1024) (W1 m ρ c main_v10)) i j = Rgl.M (aH m c) (aG1 m c) (aWY m c) (aWO m c) (aS m c) i j :=
  nn_congr _ _ _ _ _ _ _ (fun k hk => n_v14 m ρ c hi hk) (fun k hk => n_v10 m ρ c hk hj)

/-- The last product. -/
theorem n_v15_0 {i j : ℕ} (hi : i < 4224) (hj : j < 1024) : at2 (a := 4224) (b := 1024) (W6 m ρ c main_v15_0) i j = Rgl.M (aH m c) (aG1 m c) (aWY m c) (aWO m c) (aS m c) i j := by
  rw [x_v15_0]
  exact (at2_mk _ _ (fun _ => rfl) hi hj).trans (m_eq m ρ c hi hj)

/-- What comes out. -/
theorem n_v15_1 {i j : ℕ} (hi : i < 4224) (hj : j < 1024) : at2 (a := 4224) (b := 1024) (W6 m ρ c main_v15_1) i j = Rgl.H (aH m c) (aG1 m c) (aG2 m c) (aWY m c) (aWO m c) (aS m c) i j := by
  rw [x_v15_1]
  refine (dif_pos ⟨hi, hj⟩).trans ?_
  unfold G4b Rgl.H
  refine congrArg (aH m c i j + ·) ?_
  refine Eq.trans (rms_congr _ (Rgl.M (aH m c) (aG1 m c) (aWY m c) (aWO m c) (aS m c) i) (fun k hk => m_eq m ρ c hi hk) _ _) ?_
  exact congrArg₂ (rms (Rgl.M (aH m c) (aG1 m c) (aWY m c) (aWO m c) (aS m c) i)) (m_eq m ρ c hi hj) (n_v1 m ρ c hj)

/-- The last weight's gradient. -/
theorem n_v18 {i j : ℕ} (hi : i < 1280) (hj : j < 1024) : at2 (a := 1280) (b := 1024) (W8 m ρ c main_v18) i j = Rgl.DWO (aH m c) (aG1 m c) (aWY m c) (aS m c) (aD m c) i j := by
  rw [x_v18]
  rw [v16_eq]
  refine (at2_mk _ _ (fun _ => rfl) hi hj).trans ?_
  exact tn_congr _ _ _ _ _ _ _ (fun k hk => n_v14 m ρ c hk hi) (fun k hk => rfl)

/-- The gradient of the gated rows. -/
theorem n_v19 {i j : ℕ} (hi : i < 4224) (hj : j < 1280) : at2 (a := 4224) (b := 1280) (W9 m ρ c main_v19) i j = Rgl.DHG (aWO m c) (aD m c) i j := by
  rw [x_v19]
  rw [v16_eq]
  refine (at2_mk _ _ (fun _ => rfl) hi hj).trans ?_
  exact nt_congr _ _ _ _ _ _ _ (fun k hk => rfl) (fun k hk => n_v10 m ρ c hj hk)

/-- The gradient of what the gate multiplies. -/
theorem n_v20_0 {i j : ℕ} (hi : i < 4224) (hj : j < 1280) : at2 (a := 4224) (b := 1280) (W10 m ρ c main_v20_0) i j = Rgl.DS (aH m c) (aG1 m c) (aWY m c) (aWO m c) (aD m c) i j := by
  rw [x_v20_0]
  refine (dif_pos ⟨hi, hj⟩).trans ?_
  exact congrArg₂ (fun y d : EReal => d * gate y) (n_v13 m ρ c hi hj) (n_v19 m ρ c hi hj)

/-- The gradient of the gate's argument. -/
theorem n_v20_1 {i j : ℕ} (hi : i < 4224) (hj : j < 1280) : at2 (a := 4224) (b := 1280) (W10 m ρ c main_v20_1) i j = Rgl.DY (aH m c) (aG1 m c) (aWY m c) (aWO m c) (aS m c) (aD m c) i j := by
  rw [x_v20_1]
  refine (dif_pos ⟨hi, hj⟩).trans ?_
  exact congrArg₂ (dgate (aS m c i j)) (n_v13 m ρ c hi hj) (n_v19 m ρ c hi hj)

/-- The first weight's gradient. -/
theorem n_v21 {i j : ℕ} (hi : i < 1024) (hj : j < 1280) : at2 (a := 1024) (b := 1280) (W11 m ρ c main_v21) i j = Rgl.DWX (aH m c) (aG1 m c) (aDX m c) i j := by
  rw [x_v21]
  rw [v17_eq]
  refine (at2_mk _ _ (fun _ => rfl) hi hj).trans ?_
  exact tn_congr _ _ _ _ _ _ _ (fun k hk => n_v11 m ρ c hk hi) (fun k hk => rfl)

/-- The second weight's gradient. -/
theorem n_v22 {i j : ℕ} (hi : i < 1024) (hj : j < 1280) : at2 (a := 1024) (b := 1280) (W12 m ρ c main_v22) i j = Rgl.DWY (aH m c) (aG1 m c) (aWY m c) (aWO m c) (aS m c) (aD m c) i j := by
  rw [x_v22]
  refine (at2_mk _ _ (fun _ => rfl) hi hj).trans ?_
  exact tn_congr _ _ _ _ _ _ _ (fun k hk => n_v11 m ρ c hk hi) (fun k hk => n_v20_1 m ρ c hk hj)

/-- The gradient of the normalised rows through the first product. -/
theorem n_v23 {i j : ℕ} (hi : i < 4224) (hj : j < 1024) : at2 (a := 4224) (b := 1024) (W13 m ρ c main_v23) i j = Rgl.DHX (aWX m c) (aDX m c) i j := by
  rw [x_v23]
  rw [v17_eq]
  refine (at2_mk _ _ (fun _ => rfl) hi hj).trans ?_
  exact nt_congr _ _ _ _ _ _ _ (fun k hk => rfl) (fun k hk => n_v4 m ρ c hj hk)

/-- The gradient of the normalised rows through the second product. -/
theorem n_v24 {i j : ℕ} (hi : i < 4224) (hj : j < 1024) : at2 (a := 4224) (b := 1024) (W14 m ρ c main_v24) i j = Rgl.DHY (aH m c) (aG1 m c) (aWY m c) (aWO m c) (aS m c) (aD m c) i j := by
  rw [x_v24]
  refine (at2_mk _ _ (fun _ => rfl) hi hj).trans ?_
  exact nt_congr _ _ _ _ _ _ _ (fun k hk => n_v20_1 m ρ c hi hk) (fun k hk => n_v7 m ρ c hj hk)

/-- A result at the end of the run. -/
theorem r_v15_1 (y : S4224x1024.Idx) : (W14 m ρ c main_v15_1 : Vec Ideal S4224x1024 .f32) y = Rgl.H (aH m c) (aG1 m c) (aG2 m c) (aWY m c) (aWO m c) (aS m c) (y 0).val (y 1).val := by
  simp (discharger := decide) only [W7_of m, W8_of m, W9_of m, W10_of m, W11_of m, W12_of m, W13_of m, W14_of m]; exact (eq_at2 (a := 4224) (b := 1024) (W6 m ρ c main_v15_1) y).trans (n_v15_1 m ρ c (y 0).isLt (y 1).isLt)

/-- A result at the end of the run. -/
theorem r_v12 (y : S4224x1280.Idx) : (W14 m ρ c main_v12 : Vec Ideal S4224x1280 .f32) y = Rgl.X (aH m c) (aG1 m c) (aWX m c) (y 0).val (y 1).val := by
  simp (discharger := decide) only [W4_of m, W5_of m, W6_of m, W7_of m, W8_of m, W9_of m, W10_of m, W11_of m, W12_of m, W13_of m, W14_of m]; exact (eq_at2 (a := 4224) (b := 1280) (W3 m ρ c main_v12) y).trans (n_v12 m ρ c (y 0).isLt (y 1).isLt)

/-- A result at the end of the run. -/
theorem r_v15_0 (y : S4224x1024.Idx) : (W14 m ρ c main_v15_0 : Vec Ideal S4224x1024 .f32) y = Rgl.M (aH m c) (aG1 m c) (aWY m c) (aWO m c) (aS m c) (y 0).val (y 1).val := by
  simp (discharger := decide) only [W7_of m, W8_of m, W9_of m, W10_of m, W11_of m, W12_of m, W13_of m, W14_of m]; exact (eq_at2 (a := 4224) (b := 1024) (W6 m ρ c main_v15_0) y).trans (n_v15_0 m ρ c (y 0).isLt (y 1).isLt)

/-- A result at the end of the run. -/
theorem r_v20_0 (y : S4224x1280.Idx) : (W14 m ρ c main_v20_0 : Vec Ideal S4224x1280 .f32) y = Rgl.DS (aH m c) (aG1 m c) (aWY m c) (aWO m c) (aD m c) (y 0).val (y 1).val := by
  simp (discharger := decide) only [W11_of m, W12_of m, W13_of m, W14_of m]; exact (eq_at2 (a := 4224) (b := 1280) (W10 m ρ c main_v20_0) y).trans (n_v20_0 m ρ c (y 0).isLt (y 1).isLt)

/-- A result at the end of the run. -/
theorem r_v23 (y : S4224x1024.Idx) : (W14 m ρ c main_v23 : Vec Ideal S4224x1024 .f32) y = Rgl.DHX (aWX m c) (aDX m c) (y 0).val (y 1).val := by
  simp (discharger := decide) only [W14_of m]; exact (eq_at2 (a := 4224) (b := 1024) (W13 m ρ c main_v23) y).trans (n_v23 m ρ c (y 0).isLt (y 1).isLt)

/-- A result at the end of the run. -/
theorem r_v24 (y : S4224x1024.Idx) : (W14 m ρ c main_v24 : Vec Ideal S4224x1024 .f32) y = Rgl.DHY (aH m c) (aG1 m c) (aWY m c) (aWO m c) (aS m c) (aD m c) (y 0).val (y 1).val := by
  exact (eq_at2 (a := 4224) (b := 1024) (W14 m ρ c main_v24) y).trans (n_v24 m ρ c (y 0).isLt (y 1).isLt)

/-- A result at the end of the run. -/
theorem r_v21 (y : S1024x1280.Idx) : (W14 m ρ c main_v21 : Vec Ideal S1024x1280 .f32) y = Rgl.DWX (aH m c) (aG1 m c) (aDX m c) (y 0).val (y 1).val := by
  simp (discharger := decide) only [W12_of m, W13_of m, W14_of m]; exact (eq_at2 (a := 1024) (b := 1280) (W11 m ρ c main_v21) y).trans (n_v21 m ρ c (y 0).isLt (y 1).isLt)

/-- A result at the end of the run. -/
theorem r_v22 (y : S1024x1280.Idx) : (W14 m ρ c main_v22 : Vec Ideal S1024x1280 .f32) y = Rgl.DWY (aH m c) (aG1 m c) (aWY m c) (aWO m c) (aS m c) (aD m c) (y 0).val (y 1).val := by
  simp (discharger := decide) only [W13_of m, W14_of m]; exact (eq_at2 (a := 1024) (b := 1280) (W12 m ρ c main_v22) y).trans (n_v22 m ρ c (y 0).isLt (y 1).isLt)

/-- A result at the end of the run. -/
theorem r_v18 (y : S1280x1024.Idx) : (W14 m ρ c main_v18 : Vec Ideal S1280x1024 .f32) y = Rgl.DWO (aH m c) (aG1 m c) (aWY m c) (aS m c) (aD m c) (y 0).val (y 1).val := by
  simp (discharger := decide) only [W9_of m, W10_of m, W11_of m, W12_of m, W13_of m, W14_of m]; exact (eq_at2 (a := 1280) (b := 1024) (W8 m ρ c main_v18) y).trans (n_v18 m ρ c (y 0).isLt (y 1).isLt)

end values

set_option backward.isDefEq.respectTransparency.types false in
/-- The run: every buffer of every core ends as the last valuation says, and every counter at zero. -/
theorem run_all : θ_run defs (onTc (τ := τ) (main (F := Ideal))) ⟨m, fun _ => 0, ρ⟩ (fun r => (∀ c : Dev nD, ∀ b ∈ Pipeline.ucRefs τ sig,
      r.2.mem (((c : Thread nD τ)).1, b) = W14 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

end Cert.RgIdeal.Value

end
-- ==== Proof.RgRefVal.lean ====
/- The reference's results for the recurrent layer's products, each entry a sum of products of the arguments' entries. -/
module

public import proofs.«01_k».proof.Proof.Gen.RgRefIdeal.Run
public import proofs.«01_k».proof.Proof.RgSpec

@[expose] public section

set_option maxRecDepth 16384

noncomputable section

namespace Cert.RgRefIdeal.Value

open Cert.RgRefIdeal Cert.RgRefIdeal.Gen Idealize.ShloMosaic Idealize.ShloMosaic.TcCoe Idealize.SL.Sem Idealize.ShloMosaic.StableHlo
open Cert.Coord Cert.Prod Cert.MlpIdeal.Value
open Cert.RgIdeal.Value (gate gth dgate cCub cArg cOne cHalf cThree)

/-! ## The reference's steps -/

/-- Rows divided by their root mean square and multiplied by a gain. -/
def rRms (x : FVec Ideal S4224x1024 .f32) (g : FVec Ideal S1024 .f32) : FVec Ideal S4224x1024 .f32 :=
  mulf (mulf x (broadcastInDim S4224x1024 ![0, 1] bcast_S4224x1_S4224x1024_0_1 (Host.rsqrt (addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 g))

/-- One of the layer's weights, the second of two. -/
def rWI (w : FVec Ideal S2x1024x1280 .f32) : FVec Ideal S1024x1280 .f32 :=
  shapeCast _ (extractStridedSlice S1x1024x1280 ![1, 0, 0] w slices_S2x1024x1280_S1x1024x1280_1_0_0) shapeCasts_S1x1024x1280_S1024x1280

/-- One of the layer's weights, the second of two. -/
def rWO (w : FVec Ideal S2x1280x1024 .f32) : FVec Ideal S1280x1024 .f32 :=
  shapeCast _ (extractStridedSlice S1x1280x1024 ![1, 0, 0] w slices_S2x1280x1024_S1x1280x1024_1_0_0) shapeCasts_S1x1280x1024_S1280x1024

/-- A product of the rows. -/
def rIn (x : FVec Ideal S4224x1024 .f32) (w : FVec Ideal S1024x1280 .f32) : FVec Ideal S4224x1280 .f32 :=
  Host.dotGeneral (F := Ideal) (φ₁ := .f32) (φ₂ := .f32) dot_S4224x1024_S1024x1280_S4224x1280_1_0_0_1_n_n none x w

/-- A product of the gated rows. -/
def rOut (x : FVec Ideal S4224x1280 .f32) (w : FVec Ideal S1280x1024 .f32) : FVec Ideal S4224x1024 .f32 :=
  Host.dotGeneral (F := Ideal) (φ₁ := .f32) (φ₂ := .f32) dot_S4224x1280_S1280x1024_S4224x1024_1_0_0_1_n_n none x w

/-- The gradient of the gated rows. -/
def rBO (x : FVec Ideal S4224x1024 .f32) (w : FVec Ideal S1280x1024 .f32) : FVec Ideal S4224x1280 .f32 :=
  Host.dotGeneral (F := Ideal) (φ₁ := .f32) (φ₂ := .f32) dot_S4224x1024_S1280x1024_S4224x1280_1_1_0_0_n_n none x w

/-- The gradient of the rows. -/
def rBI (x : FVec Ideal S4224x1280 .f32) (w : FVec Ideal S1024x1280 .f32) : FVec Ideal S4224x1024 .f32 :=
  Host.dotGeneral (F := Ideal) (φ₁ := .f32) (φ₂ := .f32) dot_S4224x1280_S1024x1280_S4224x1024_1_1_0_0_n_n none x w

/-- A weight's gradient. -/
def rDWI (d : FVec Ideal S4224x1280 .f32) (x : FVec Ideal S4224x1024 .f32) : FVec Ideal S1024x1280 .f32 :=
  transpose S1024x1280 [1, 0] (Host.dotGeneral (F := Ideal) (φ₁ := .f32) (φ₂ := .f32) dot_S4224x1280_S4224x1024_S1280x1024_0_0_1_1_n_n none d x) transposes_S1280x1024_S1024x1280_1_0

/-- The last weight's gradient. -/
def rDWO (d : FVec Ideal S4224x1024 .f32) (x : FVec Ideal S4224x1280 .f32) : FVec Ideal S1280x1024 .f32 :=
  transpose S1280x1024 [1, 0] (Host.dotGeneral (F := Ideal) (φ₁ := .f32) (φ₂ := .f32) dot_S4224x1024_S4224x1280_S1024x1280_0_0_1_1_n_n none d x) transposes_S1024x1280_S1280x1024_1_0

/-- A constant everywhere. -/
abbrev rC (b : BitVec 32) : FVec Ideal S4224x1280 .f32 := broadcastInDim S4224x1280 ![] bcast_S_S4224x1280 (constant S_ .f32 b)

/-- The hyperbolic tangent inside the gate. -/
def rT (y : FVec Ideal S4224x1280 .f32) : FVec Ideal S4224x1280 .f32 :=
  Host.tanh (mulf (rC 0x3F4C422A#32) (addf y (mulf (rC 0x3D372713#32) (mulf (mulf y y) y))))

/-- Half of one more than it. -/
def rK (y : FVec Ideal S4224x1280 .f32) : FVec Ideal S4224x1280 .f32 := mulf (rC 0x3F000000#32) (addf (rC 0x3F800000#32) (rT y))

/-- The gate. -/
def rG (y : FVec Ideal S4224x1280 .f32) : FVec Ideal S4224x1280 .f32 := mulf y (rK y)

/-- The gradient inside the hyperbolic tangent. -/
def rI (s y d : FVec Ideal S4224x1280 .f32) : FVec Ideal S4224x1280 .f32 :=
  mulf (rC 0x3F4C422A#32) (mulf (mulf (rC 0x3F000000#32) (mulf y (mulf s d))) (mulf (addf (rC 0x3F800000#32) (rT y)) (subf (rC 0x3F800000#32) (rT y))))

/-- The gradient of the gate's argument. -/
def rDG (s y d : FVec Ideal S4224x1280 .f32) : FVec Ideal S4224x1280 .f32 :=
  addf (addf (mulf (mulf s d) (rK y)) (rI s y d)) (mulf (mulf (rC 0x3D372713#32) (rI s y d)) (mulf (rC 0x40400000#32) (mulf y y)))

/-- A normalised row's entry. -/
theorem rRms_at (x : FVec Ideal S4224x1024 .f32) (g : FVec Ideal S1024 .f32) (i : Fin 4224) (k : Fin 1024) :
    rRms x g (ix2 i k) = rms (at2 (a := 4224) (b := 1024) x i.val) (x (ix2 i k)) (at1 (a := 1024) g k.val) := by
  unfold rms
  rw [Finset.sum_range, at1_ix g k]
  simp only [fun k : Fin 1024 => at2_ix x i k]
  unfold rRms
  pointwise

/-- The layer is the second of two. -/
theorem rWI_at (w : FVec Ideal S2x1024x1280 .f32) (k : Fin 1024) (j : Fin 1280) : rWI w (ix2 k j) = w (ix3 (1 : Fin 2) k j) := by
  unfold rWI
  pointwise

/-- The layer is the second of two. -/
theorem rWO_at (w : FVec Ideal S2x1280x1024 .f32) (k : Fin 1280) (j : Fin 1024) : rWO w (ix2 k j) = w (ix3 (1 : Fin 2) k j) := by
  unfold rWO
  pointwise

/-- An entry of it. -/
theorem rIn_at (x : FVec Ideal S4224x1024 .f32) (w : FVec Ideal S1024x1280 .f32) (i : Fin 4224) (j : Fin 1280) :
    rIn x w (ix2 i j) = ∑ k : Fin 1024, x (ix2 i k) * w (ix2 k j) := by
  unfold rIn
  pointwise

/-- An entry of it. -/
theorem rOut_at (x : FVec Ideal S4224x1280 .f32) (w : FVec Ideal S1280x1024 .f32) (i : Fin 4224) (j : Fin 1024) :
    rOut x w (ix2 i j) = ∑ k : Fin 1280, x (ix2 i k) * w (ix2 k j) := by
  unfold rOut
  pointwise

/-- An entry of it. -/
theorem rBO_at (x : FVec Ideal S4224x1024 .f32) (w : FVec Ideal S1280x1024 .f32) (i : Fin 4224) (j : Fin 1280) :
    rBO x w (ix2 i j) = ∑ k : Fin 1024, x (ix2 i k) * w (ix2 j k) := by
  unfold rBO
  pointwise

/-- An entry of it. -/
theorem rBI_at (x : FVec Ideal S4224x1280 .f32) (w : FVec Ideal S1024x1280 .f32) (i : Fin 4224) (j : Fin 1024) :
    rBI x w (ix2 i j) = ∑ k : Fin 1280, x (ix2 i k) * w (ix2 j k) := by
  unfold rBI
  pointwise

/-- An entry of it. -/
theorem rDWI_at (x : FVec Ideal S4224x1280 .f32) (w : FVec Ideal S4224x1024 .f32) (i : Fin 1024) (j : Fin 1280) :
    rDWI x w (ix2 i j) = ∑ k : Fin 4224, x (ix2 k j) * w (ix2 k i) := by
  unfold rDWI
  pointwise

/-- An entry of it. -/
theorem rDWO_at (x : FVec Ideal S4224x1024 .f32) (w : FVec Ideal S4224x1280 .f32) (i : Fin 1280) (j : Fin 1024) :
    rDWO x w (ix2 i j) = ∑ k : Fin 4224, x (ix2 k j) * w (ix2 k i) := by
  unfold rDWO
  pointwise

/-- An entry of the gate. -/
theorem rG_at (y : FVec Ideal S4224x1280 .f32) (i : S4224x1280.Idx) : rG y i = gate (y i) := by
  refine Eq.trans (b := y i * (cHalf * (cOne + Ideal.tanh (cArg * (y i + cCub * (y i * y i * y i)))))) ?_ ?_
  · unfold rG rK rT
    pointwise
  · unfold gate gth
    rw [mul_comm (y i * y i) (y i)]

/-- An entry of the gradient of the gate's argument. -/
theorem rDG_at (s y d : FVec Ideal S4224x1280 .f32) (i : S4224x1280.Idx) : rDG s y d i = dgate (s i) (y i) (d i) := by
  have hT : rT y i = gth (y i) := by
    refine Eq.trans (b := Ideal.tanh (cArg * (y i + cCub * (y i * y i * y i)))) ?_ ?_
    · unfold rT
      pointwise
    · unfold gth
      rw [mul_comm (y i * y i) (y i)]
  unfold dgate
  rw [← hT]
  unfold rDG rI rK
  generalize rT y = T
  pointwise

/-! ## The results -/

variable (a0 : FVec Ideal S4224x1024 .f32) (a1 a2 : FVec Ideal S1024 .f32) (a3 a4 : FVec Ideal S2x1024x1280 .f32) (a5 : FVec Ideal S2x1280x1024 .f32)
  (a6 : FVec Ideal S4224x1280 .f32) (a7 : FVec Ideal S4224x1024 .f32) (a8 : FVec Ideal S4224x1280 .f32)

/-- The normalised rows. -/
def oHn := rRms a0 a1
/-- The first product. -/
def oX := rIn (oHn a0 a1) (rWI a3)
/-- The gate's argument. -/
def oY := rIn (oHn a0 a1) (rWI a4)
/-- The gated rows. -/
def oHG := mulf a6 (rG (oY a0 a1 a4))
/-- The last product. -/
def oM := rOut (oHG a0 a1 a4 a6) (rWO a5)
/-- What comes out. -/
def oH := addf a0 (rRms (oM a0 a1 a4 a5 a6) a2)
/-- The gradient of the gated rows. -/
def oDHG := rBO a7 (rWO a5)
/-- The gradient of what the gate multiplies. -/
def oDS := mulf (oDHG a5 a7) (rG (oY a0 a1 a4))
/-- The gradient of the gate's argument. -/
def oDY := rDG a6 (oY a0 a1 a4) (oDHG a5 a7)

/-- The normalised rows, entry by entry. -/
theorem oHn_at (i : Fin 4224) (j : Fin 1024) : oHn a0 a1 (ix2 i j)
    = Rgl.hn (at2 (a := 4224) (b := 1024) a0) (at1 (a := 1024) a1) i.val j.val := by
  unfold oHn Rgl.hn
  rw [rRms_at, at2_ix a0 i j]

/-- The first product, entry by entry. -/
theorem oX_at (i : Fin 4224) (j : Fin 1280) : oX a0 a1 a3 (ix2 i j)
    = Rgl.X (at2 (a := 4224) (b := 1024) a0) (at1 (a := 1024) a1) (at3 (a := 2) (b := 1024) (c := 1280) a3 1) i.val j.val := by
  unfold oX Rgl.X
  rw [rIn_at]
  exact nn_fin _ _ _ _ _ i.val j.val (fun k => oHn_at a0 a1 i k) (fun k => ((rWI_at a3 k j).trans (at3_ix a3 (1 : Fin 2) k j).symm))

/-- The gate's argument, entry by entry. -/
theorem oY_at (i : Fin 4224) (j : Fin 1280) : oY a0 a1 a4 (ix2 i j)
    = Rgl.Y (at2 (a := 4224) (b := 1024) a0) (at1 (a := 1024) a1) (at3 (a := 2) (b := 1024) (c := 1280) a4 1) i.val j.val := by
  unfold oY Rgl.Y
  rw [rIn_at]
  exact nn_fin _ _ _ _ _ i.val j.val (fun k => oHn_at a0 a1 i k) (fun k => ((rWI_at a4 k j).trans (at3_ix a4 (1 : Fin 2) k j).symm))

/-- The gated rows, entry by entry. -/
theorem oHG_at (i : Fin 4224) (j : Fin 1280) : oHG a0 a1 a4 a6 (ix2 i j)
    = Rgl.HG (at2 (a := 4224) (b := 1024) a0) (at1 (a := 1024) a1) (at3 (a := 2) (b := 1024) (c := 1280) a4 1) (at2 (a := 4224) (b := 1280) a6) i.val j.val := by
  refine Eq.trans (b := a6 (ix2 i j) * rG (oY a0 a1 a4) (ix2 i j)) rfl ?_
  unfold Rgl.HG
  rw [rG_at, oY_at, at2_ix a6 i j]

/-- The last product, entry by entry. -/
theorem oM_at (i : Fin 4224) (j : Fin 1024) : oM a0 a1 a4 a5 a6 (ix2 i j)
    = Rgl.M (at2 (a := 4224) (b := 1024) a0) (at1 (a := 1024) a1) (at3 (a := 2) (b := 1024) (c := 1280) a4 1) (at3 (a := 2) (b := 1280) (c := 1024) a5 1) (at2 (a := 4224) (b := 1280) a6) i.val j.val := by
  unfold oM Rgl.M
  rw [rOut_at]
  exact nn_fin _ _ _ _ _ i.val j.val (fun k => oHG_at a0 a1 a4 a6 i k) (fun k => ((rWO_at a5 k j).trans (at3_ix a5 (1 : Fin 2) k j).symm))

/-- What comes out, entry by entry. -/
theorem oH_at (i : Fin 4224) (j : Fin 1024) : oH a0 a1 a2 a4 a5 a6 (ix2 i j)
    = Rgl.H (at2 (a := 4224) (b := 1024) a0) (at1 (a := 1024) a1) (at1 (a := 1024) a2) (at3 (a := 2) (b := 1024) (c := 1280) a4 1) (at3 (a := 2) (b := 1280) (c := 1024) a5 1) (at2 (a := 4224) (b := 1280) a6) i.val j.val := by
  refine Eq.trans (b := a0 (ix2 i j) + rRms (oM a0 a1 a4 a5 a6) a2 (ix2 i j)) rfl ?_
  unfold Rgl.H
  rw [rRms_at, oM_at, at2_ix a0 i j]
  refine congrArg (_ + ·) (rms_congr _ _ (fun k hk => ?_) _ _)
  exact (at2_ix (oM a0 a1 a4 a5 a6) i (⟨k, hk⟩ : Fin 1024)).trans (oM_at a0 a1 a4 a5 a6 i ⟨k, hk⟩)

/-- The gradient of the gated rows, entry by entry. -/
theorem oDHG_at (i : Fin 4224) (j : Fin 1280) : oDHG a5 a7 (ix2 i j)
    = Rgl.DHG (at3 (a := 2) (b := 1280) (c := 1024) a5 1) (at2 (a := 4224) (b := 1024) a7) i.val j.val := by
  unfold oDHG Rgl.DHG
  rw [rBO_at]
  exact nt_fin _ _ _ _ _ i.val j.val (fun k => (at2_ix a7 i k).symm) (fun k => ((rWO_at a5 j k).trans (at3_ix a5 (1 : Fin 2) j k).symm))

/-- The gradient of what the gate multiplies, entry by entry. -/
theorem oDS_at (i : Fin 4224) (j : Fin 1280) : oDS a0 a1 a4 a5 a7 (ix2 i j)
    = Rgl.DS (at2 (a := 4224) (b := 1024) a0) (at1 (a := 1024) a1) (at3 (a := 2) (b := 1024) (c := 1280) a4 1) (at3 (a := 2) (b := 1280) (c := 1024) a5 1) (at2 (a := 4224) (b := 1024) a7) i.val j.val := by
  refine Eq.trans (b := oDHG a5 a7 (ix2 i j) * rG (oY a0 a1 a4) (ix2 i j)) rfl ?_
  unfold Rgl.DS
  rw [rG_at, oY_at, oDHG_at]

/-- The gradient of the gate's argument, entry by entry. -/
theorem oDY_at (i : Fin 4224) (j : Fin 1280) : oDY a0 a1 a4 a5 a6 a7 (ix2 i j)
    = Rgl.DY (at2 (a := 4224) (b := 1024) a0) (at1 (a := 1024) a1) (at3 (a := 2) (b := 1024) (c := 1280) a4 1) (at3 (a := 2) (b := 1280) (c := 1024) a5 1) (at2 (a := 4224) (b := 1280) a6) (at2 (a := 4224) (b := 1024) a7) i.val j.val := by
  unfold oDY Rgl.DY
  rw [rDG_at, oY_at, oDHG_at, at2_ix a6 i j]

/-- The gradient of the rows through the first product, entry by entry. -/
theorem oDHX_at (i : Fin 4224) (j : Fin 1024) : rBI a8 (rWI a3) (ix2 i j)
    = Rgl.DHX (at3 (a := 2) (b := 1024) (c := 1280) a3 1) (at2 (a := 4224) (b := 1280) a8) i.val j.val := by
  unfold Rgl.DHX
  rw [rBI_at]
  exact nt_fin _ _ _ _ _ i.val j.val (fun k => (at2_ix a8 i k).symm) (fun k => ((rWI_at a3 j k).trans (at3_ix a3 (1 : Fin 2) j k).symm))

/-- The gradient of the rows through the second product, entry by entry. -/
theorem oDHY_at (i : Fin 4224) (j : Fin 1024) : rBI (oDY a0 a1 a4 a5 a6 a7) (rWI a4) (ix2 i j)
    = Rgl.DHY (at2 (a := 4224) (b := 1024) a0) (at1 (a := 1024) a1) (at3 (a := 2) (b := 1024) (c := 1280) a4 1) (at3 (a := 2) (b := 1280) (c := 1024) a5 1) (at2 (a := 4224) (b := 1280) a6) (at2 (a := 4224) (b := 1024) a7) i.val j.val := by
  unfold Rgl.DHY
  rw [rBI_at]
  exact nt_fin _ _ _ _ _ i.val j.val (fun k => oDY_at a0 a1 a4 a5 a6 a7 i k) (fun k => ((rWI_at a4 j k).trans (at3_ix a4 (1 : Fin 2) j k).symm))

/-- The first weight's gradient, entry by entry. -/
theorem oDWX_at (i : Fin 1024) (j : Fin 1280) : rDWI a8 (oHn a0 a1) (ix2 i j)
    = Rgl.DWX (at2 (a := 4224) (b := 1024) a0) (at1 (a := 1024) a1) (at2 (a := 4224) (b := 1280) a8) i.val j.val := by
  unfold Rgl.DWX
  rw [rDWI_at]
  exact tn_fin _ _ _ _ _ i.val j.val (fun k => (at2_ix a8 k j).symm) (fun k => oHn_at a0 a1 k i)

/-- The second weight's gradient, entry by entry. -/
theorem oDWY_at (i : Fin 1024) (j : Fin 1280) : rDWI (oDY a0 a1 a4 a5 a6 a7) (oHn a0 a1) (ix2 i j)
    = Rgl.DWY (at2 (a := 4224) (b := 1024) a0) (at1 (a := 1024) a1) (at3 (a := 2) (b := 1024) (c := 1280) a4 1) (at3 (a := 2) (b := 1280) (c := 1024) a5 1) (at2 (a := 4224) (b := 1280) a6) (at2 (a := 4224) (b := 1024) a7) i.val j.val := by
  unfold Rgl.DWY
  rw [rDWI_at]
  exact tn_fin _ _ _ _ _ i.val j.val (fun k => oDY_at a0 a1 a4 a5 a6 a7 k j) (fun k => oHn_at a0 a1 k i)

/-- The last weight's gradient, entry by entry. -/
theorem oDWO_at (i : Fin 1280) (j : Fin 1024) : rDWO a7 (oHG a0 a1 a4 a6) (ix2 i j)
    = Rgl.DWO (at2 (a := 4224) (b := 1024) a0) (at1 (a := 1024) a1) (at3 (a := 2) (b := 1024) (c := 1280) a4 1) (at2 (a := 4224) (b := 1280) a6) (at2 (a := 4224) (b := 1024) a7) i.val j.val := by
  unfold Rgl.DWO
  rw [rDWO_at]
  exact tn_fin _ _ _ _ _ i.val j.val (fun k => (at2_ix a7 k j).symm) (fun k => oHG_at a0 a1 a4 a6 k i)

/-- The run: each result buffer holds the steps above composed, the arguments unchanged. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = oH (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v15) = oX (m ((c.tc : Thread nD τ).loc main_arg0)) (m ((c.tc : Thread nD τ).loc main_arg1)) (m ((c.tc : Thread nD τ).loc main_arg3))
      ∧ r.2.mem ((c.tc : Thread nD τ).loc main_v43) = oM (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_v51) = oDS (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7))
      ∧ r.2.mem ((c.tc : Thread nD τ).loc main_v46) = rBI (m ((c.tc : Thread nD τ).loc main_arg8)) (rWI (m ((c.tc : Thread nD τ).loc main_arg3)))
      ∧ r.2.mem ((c.tc : Thread nD τ).loc main_v66) = rBI (oDY (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (rWI (m ((c.tc : Thread nD τ).loc main_arg4)))
      ∧ r.2.mem ((c.tc : Thread nD τ).loc main_v45) = rDWI (m ((c.tc : Thread nD τ).loc main_arg8)) (oHn (m ((c.tc : Thread nD τ).loc main_arg0)) (m ((c.tc : Thread nD τ).loc main_arg1)))
      ∧ r.2.mem ((c.tc : Thread nD τ).loc main_v65) = rDWI (oDY (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (oHn (m ((c.tc : Thread nD τ).loc main_arg0)) (m ((c.tc : Thread nD τ).loc main_arg1)))
      ∧ r.2.mem ((c.tc : Thread nD τ).loc main_v48) = rDWO (m ((c.tc : Thread nD τ).loc main_arg7)) (oHG (m ((c.tc : Thread nD τ).loc main_arg0)) (m ((c.tc : Thread nD τ).loc main_arg1)) (m ((c.tc : Thread nD τ).loc main_arg4)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => h c) (run (F := Ideal) m ρ)

end Cert.RgRefIdeal.Value

end
-- ==== Proof.RgMatch.lean ====
/- The recurrent layer's products and their gradients against the reference: the frames and the equality of the results. -/
module

public import proofs.«01_k».proof.Defs
public import proofs.«01_k».proof.Proof.Gen.Rg.Frame
public import proofs.«01_k».proof.Proof.RgRun
public import proofs.«01_k».proof.Proof.RgRefVal
public import Idealize.ShloMosaic.Adequacy
public import Idealize.ShloMosaic.Init

@[expose] public section

noncomputable section

namespace Cert.RgMatch

open Idealize.ShloMosaic Idealize.ShloMosaic.TcCoe Idealize.SL.Sem Cert.Coord

/-- The kernel runs and ends with its arguments unchanged and every counter at zero. -/
theorem frame_rg : Cert.quiescent_Rg := fun m ρ _ => Cert.Rg.Gen.frame m ρ

/-- So does the same program over the extended reals. -/
theorem frame_rgIdeal : Cert.quiescent_RgIdeal := fun m ρ _ => Cert.RgIdeal.Gen.frame m ρ

/-- So does the reference. -/
theorem frame_rgRef : Cert.quiescent_RgRefIdeal := fun m ρ _ =>
  (θ_run Cert.RgRefIdeal.defs _ _).mono (fun r h => ⟨fun c => (h c).2.2.2.2.2.2.2.2.2, sem_eq_zero_of_no_sems (by decide) r.2⟩)
    (Cert.RgRefIdeal.Value.run (F := Ideal) m ρ)

/-- The kernel's results, named, with its arguments unchanged. -/
theorem run_kernel (m : (ℓ : Loc Cert.RgIdeal.nD Cert.RgIdeal.τ Cert.RgIdeal.sig) → Buf (Elt Ideal) ℓ) (ρ : Dev Cert.RgIdeal.nD → PrngReg) :
    θ_run (Cert.RgIdeal.defs (F := Ideal)) (onTc (τ := Cert.RgIdeal.τ) (Cert.RgIdeal.main (F := Ideal))) ⟨m, fun _ => 0, ρ⟩ (fun r => ∀ c : Dev Cert.RgIdeal.nD,
      r.2.mem ((c.tc : Thread Cert.RgIdeal.nD Cert.RgIdeal.τ).loc Cert.RgIdeal.main_v15_1) = Cert.RgIdeal.Gen.W14 m ρ c Cert.RgIdeal.main_v15_1
      ∧ r.2.mem ((c.tc : Thread Cert.RgIdeal.nD Cert.RgIdeal.τ).loc Cert.RgIdeal.main_v12) = Cert.RgIdeal.Gen.W14 m ρ c Cert.RgIdeal.main_v12
      ∧ r.2.mem ((c.tc : Thread Cert.RgIdeal.nD Cert.RgIdeal.τ).loc Cert.RgIdeal.main_v15_0) = Cert.RgIdeal.Gen.W14 m ρ c Cert.RgIdeal.main_v15_0
      ∧ r.2.mem ((c.tc : Thread Cert.RgIdeal.nD Cert.RgIdeal.τ).loc Cert.RgIdeal.main_v20_0) = Cert.RgIdeal.Gen.W14 m ρ c Cert.RgIdeal.main_v20_0
      ∧ r.2.mem ((c.tc : Thread Cert.RgIdeal.nD Cert.RgIdeal.τ).loc Cert.RgIdeal.main_v23) = Cert.RgIdeal.Gen.W14 m ρ c Cert.RgIdeal.main_v23
      ∧ r.2.mem ((c.tc : Thread Cert.RgIdeal.nD Cert.RgIdeal.τ).loc Cert.RgIdeal.main_v24) = Cert.RgIdeal.Gen.W14 m ρ c Cert.RgIdeal.main_v24
      ∧ r.2.mem ((c.tc : Thread Cert.RgIdeal.nD Cert.RgIdeal.τ).loc Cert.RgIdeal.main_v21) = Cert.RgIdeal.Gen.W14 m ρ c Cert.RgIdeal.main_v21
      ∧ r.2.mem ((c.tc : Thread Cert.RgIdeal.nD Cert.RgIdeal.τ).loc Cert.RgIdeal.main_v22) = Cert.RgIdeal.Gen.W14 m ρ c Cert.RgIdeal.main_v22
      ∧ r.2.mem ((c.tc : Thread Cert.RgIdeal.nD Cert.RgIdeal.τ).loc Cert.RgIdeal.main_v18) = Cert.RgIdeal.Gen.W14 m ρ c Cert.RgIdeal.main_v18
      ∧ r.2.mem ((c.tc : Thread Cert.RgIdeal.nD Cert.RgIdeal.τ).loc Cert.RgIdeal.main_arg0) = m ((c.tc : Thread Cert.RgIdeal.nD Cert.RgIdeal.τ).loc Cert.RgIdeal.main_arg0)
      ∧ r.2.mem ((c.tc : Thread Cert.RgIdeal.nD Cert.RgIdeal.τ).loc Cert.RgIdeal.main_arg1) = m ((c.tc : Thread Cert.RgIdeal.nD Cert.RgIdeal.τ).loc Cert.RgIdeal.main_arg1)
      ∧ r.2.mem ((c.tc : Thread Cert.RgIdeal.nD Cert.RgIdeal.τ).loc Cert.RgIdeal.main_arg2) = m ((c.tc : Thread Cert.RgIdeal.nD Cert.RgIdeal.τ).loc Cert.RgIdeal.main_arg2)
      ∧ r.2.mem ((c.tc : Thread Cert.RgIdeal.nD Cert.RgIdeal.τ).loc Cert.RgIdeal.main_arg3) = m ((c.tc : Thread Cert.RgIdeal.nD Cert.RgIdeal.τ).loc Cert.RgIdeal.main_arg3)
      ∧ r.2.mem ((c.tc : Thread Cert.RgIdeal.nD Cert.RgIdeal.τ).loc Cert.RgIdeal.main_arg4) = m ((c.tc : Thread Cert.RgIdeal.nD Cert.RgIdeal.τ).loc Cert.RgIdeal.main_arg4)
      ∧ r.2.mem ((c.tc : Thread Cert.RgIdeal.nD Cert.RgIdeal.τ).loc Cert.RgIdeal.main_arg5) = m ((c.tc : Thread Cert.RgIdeal.nD Cert.RgIdeal.τ).loc Cert.RgIdeal.main_arg5)
      ∧ r.2.mem ((c.tc : Thread Cert.RgIdeal.nD Cert.RgIdeal.τ).loc Cert.RgIdeal.main_arg6) = m ((c.tc : Thread Cert.RgIdeal.nD Cert.RgIdeal.τ).loc Cert.RgIdeal.main_arg6)
      ∧ r.2.mem ((c.tc : Thread Cert.RgIdeal.nD Cert.RgIdeal.τ).loc Cert.RgIdeal.main_arg7) = m ((c.tc : Thread Cert.RgIdeal.nD Cert.RgIdeal.τ).loc Cert.RgIdeal.main_arg7)
      ∧ r.2.mem ((c.tc : Thread Cert.RgIdeal.nD Cert.RgIdeal.τ).loc Cert.RgIdeal.main_arg8) = m ((c.tc : Thread Cert.RgIdeal.nD Cert.RgIdeal.τ).loc Cert.RgIdeal.main_arg8)) :=
  (θ_run Cert.RgIdeal.defs _ _).mono (fun r h c => ⟨h.1 c _ (Cert.RgIdeal.Gen.mem_uc Cert.RgIdeal.main_v15_1 (by decide)),
    h.1 c _ (Cert.RgIdeal.Gen.mem_uc Cert.RgIdeal.main_v12 (by decide)),
    h.1 c _ (Cert.RgIdeal.Gen.mem_uc Cert.RgIdeal.main_v15_0 (by decide)),
    h.1 c _ (Cert.RgIdeal.Gen.mem_uc Cert.RgIdeal.main_v20_0 (by decide)),
    h.1 c _ (Cert.RgIdeal.Gen.mem_uc Cert.RgIdeal.main_v23 (by decide)),
    h.1 c _ (Cert.RgIdeal.Gen.mem_uc Cert.RgIdeal.main_v24 (by decide)),
    h.1 c _ (Cert.RgIdeal.Gen.mem_uc Cert.RgIdeal.main_v21 (by decide)),
    h.1 c _ (Cert.RgIdeal.Gen.mem_uc Cert.RgIdeal.main_v22 (by decide)),
    h.1 c _ (Cert.RgIdeal.Gen.mem_uc Cert.RgIdeal.main_v18 (by decide)),
    (h.1 c _ (Cert.RgIdeal.Gen.mem_uc Cert.RgIdeal.main_arg0 (by decide))).trans (Cert.RgIdeal.Gen.W14_main_arg0 m ρ c),
    (h.1 c _ (Cert.RgIdeal.Gen.mem_uc Cert.RgIdeal.main_arg1 (by decide))).trans (Cert.RgIdeal.Gen.W14_main_arg1 m ρ c),
    (h.1 c _ (Cert.RgIdeal.Gen.mem_uc Cert.RgIdeal.main_arg2 (by decide))).trans (Cert.RgIdeal.Gen.W14_main_arg2 m ρ c),
    (h.1 c _ (Cert.RgIdeal.Gen.mem_uc Cert.RgIdeal.main_arg3 (by decide))).trans (Cert.RgIdeal.Gen.W14_main_arg3 m ρ c),
    (h.1 c _ (Cert.RgIdeal.Gen.mem_uc Cert.RgIdeal.main_arg4 (by decide))).trans (Cert.RgIdeal.Gen.W14_main_arg4 m ρ c),
    (h.1 c _ (Cert.RgIdeal.Gen.mem_uc Cert.RgIdeal.main_arg5 (by decide))).trans (Cert.RgIdeal.Gen.W14_main_arg5 m ρ c),
    (h.1 c _ (Cert.RgIdeal.Gen.mem_uc Cert.RgIdeal.main_arg6 (by decide))).trans (Cert.RgIdeal.Gen.W14_main_arg6 m ρ c),
    (h.1 c _ (Cert.RgIdeal.Gen.mem_uc Cert.RgIdeal.main_arg7 (by decide))).trans (Cert.RgIdeal.Gen.W14_main_arg7 m ρ c),
    (h.1 c _ (Cert.RgIdeal.Gen.mem_uc Cert.RgIdeal.main_arg8 (by decide))).trans (Cert.RgIdeal.Gen.W14_main_arg8 m ρ c)⟩)
    (Cert.RgIdeal.Value.run_all m ρ)

/-- The two programs' results agree. -/
theorem results_agree : Cert.algebraic_RgIdeal_RgRefIdeal := fun m ρ m' ρ' _ hagree => by
  refine ⟨fun c => Cert.RgIdeal.Gen.W14 m ρ c Cert.RgIdeal.main_v15_1,
    fun c => Cert.RgIdeal.Gen.W14 m ρ c Cert.RgIdeal.main_v12,
    fun c => Cert.RgIdeal.Gen.W14 m ρ c Cert.RgIdeal.main_v15_0,
    fun c => Cert.RgIdeal.Gen.W14 m ρ c Cert.RgIdeal.main_v20_0,
    fun c => Cert.RgIdeal.Gen.W14 m ρ c Cert.RgIdeal.main_v23,
    fun c => Cert.RgIdeal.Gen.W14 m ρ c Cert.RgIdeal.main_v24,
    fun c => Cert.RgIdeal.Gen.W14 m ρ c Cert.RgIdeal.main_v21,
    fun c => Cert.RgIdeal.Gen.W14 m ρ c Cert.RgIdeal.main_v22,
    fun c => Cert.RgIdeal.Gen.W14 m ρ c Cert.RgIdeal.main_v18, run_kernel m ρ, ?_⟩
  refine (θ_run Cert.RgRefIdeal.defs _ _).mono (fun r h c => ?_) (Cert.RgRefIdeal.Value.run_steps m' ρ')
  obtain ⟨e0, e1, e2, e3, e4, e5, e6, e7, e8⟩ := hagree c
  obtain ⟨h0, h1, h2, h3, h4, h5, h6, h7, h8, hargs⟩ := h c
  refine ⟨h0.trans (funext fun y => ?_), h1.trans (funext fun y => ?_), h2.trans (funext fun y => ?_), h3.trans (funext fun y => ?_), h4.trans (funext fun y => ?_), h5.trans (funext fun y => ?_), h6.trans (funext fun y => ?_), h7.trans (funext fun y => ?_), h8.trans (funext fun y => ?_), hargs⟩
  · rw [e0, e1, e2, e4, e5, e6, eq_ix2 y]
    exact (Cert.RgRefIdeal.Value.oH_at _ _ _ _ _ _ (y 0) (y 1)).trans (Cert.RgIdeal.Value.r_v15_1 m ρ c (ix2 (y 0) (y 1))).symm
  · rw [e0, e1, e3, eq_ix2 y]
    exact (Cert.RgRefIdeal.Value.oX_at _ _ _ (y 0) (y 1)).trans (Cert.RgIdeal.Value.r_v12 m ρ c (ix2 (y 0) (y 1))).symm
  · rw [e0, e1, e4, e5, e6, eq_ix2 y]
    exact (Cert.RgRefIdeal.Value.oM_at _ _ _ _ _ (y 0) (y 1)).trans (Cert.RgIdeal.Value.r_v15_0 m ρ c (ix2 (y 0) (y 1))).symm
  · rw [e0, e1, e4, e5, e7, eq_ix2 y]
    exact (Cert.RgRefIdeal.Value.oDS_at _ _ _ _ _ (y 0) (y 1)).trans (Cert.RgIdeal.Value.r_v20_0 m ρ c (ix2 (y 0) (y 1))).symm
  · rw [e3, e8, eq_ix2 y]
    exact (Cert.RgRefIdeal.Value.oDHX_at _ _ (y 0) (y 1)).trans (Cert.RgIdeal.Value.r_v23 m ρ c (ix2 (y 0) (y 1))).symm
  · rw [e0, e1, e4, e5, e6, e7, eq_ix2 y]
    exact (Cert.RgRefIdeal.Value.oDHY_at _ _ _ _ _ _ (y 0) (y 1)).trans (Cert.RgIdeal.Value.r_v24 m ρ c (ix2 (y 0) (y 1))).symm
  · rw [e0, e1, e8, eq_ix2 y]
    exact (Cert.RgRefIdeal.Value.oDWX_at _ _ _ (y 0) (y 1)).trans (Cert.RgIdeal.Value.r_v21 m ρ c (ix2 (y 0) (y 1))).symm
  · rw [e0, e1, e4, e5, e6, e7, eq_ix2 y]
    exact (Cert.RgRefIdeal.Value.oDWY_at _ _ _ _ _ _ (y 0) (y 1)).trans (Cert.RgIdeal.Value.r_v22 m ρ c (ix2 (y 0) (y 1))).symm
  · rw [e0, e1, e4, e6, e7, eq_ix2 y]
    exact (Cert.RgRefIdeal.Value.oDWO_at _ _ _ _ _ (y 0) (y 1)).trans (Cert.RgIdeal.Value.r_v18 m ρ c (ix2 (y 0) (y 1))).symm

end Cert.RgMatch

end
-- ==== Proof.MlpBlocks.lean ====
/- Where the blocks of the seven regions of the feed-forward block lie in their arrays. -/
module

public import proofs.«01_k».proof.Proof.Blk

@[expose] public section

set_option maxRecDepth 16384

noncomputable section

namespace Cert.MlpIdeal.Value

open Cert.MlpIdeal Cert.MlpIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable (V : (c : Dev nD) → (b : Ref sig .tc) → Buf (Elt Ideal) ((c : Thread nD τ).loc b)) (c : Dev nD)

/-! ## Region 0: where its blocks lie -/
/-- The block each window of region 0 is on at point `t`. -/
theorem idx0 : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by decide +kernel
/-- Window 0's block of region 0 at point `t`, read off its array. -/
theorem rd0_0 (t : Fin cfg0.N) (i0 i1 : ℕ) (b0 : i0 < 528) (b1 : i1 < 1024) :
    at2 (a := 528) (b := 1024) (iblk0 (F := Ideal) V c 0 t) i0 i1 = at2 (a := 4224) (b := 1024) (V c main_arg0) (t.val * 528 + i0) (0 * 1024 + i1) :=
  rd_of (V c main_arg0) _ b0 b1 fun y => emb_of win0_0 t y 0 1 (idx0 t).1

/-- Window 1's block of region 0 at point `t`, read off its array. -/
theorem rd0_1 (t : Fin cfg0.N) (i0 i1 : ℕ) (b0 : i0 < 1) (b1 : i1 < 1024) :
    at2 (a := 1) (b := 1024) (iblk0 (F := Ideal) V c 1 t) i0 i1 = at2 (a := 1) (b := 1024) (V c main_v0) (0 * 1 + i0) (0 * 1024 + i1) :=
  rd_of (V c main_v0) _ b0 b1 fun y => emb_of win0_1 t y 0 1 (idx0 t).2.1

/-- An index of window 2's block at point `t` as an index of its array. -/
theorem emb0_2 (t : Fin cfg0.N) (y : S528x1024.Idx) : ((win0_2.rect t).emb y 0).val = t.val * 528 + (y 0).val ∧ ((win0_2.rect t).emb y 1).val = 0 * 1024 + (y 1).val :=
  emb_of win0_2 t y 0 1 (idx0 t).2.2

/-- Every index of window 2's array lies in the block of the point its coordinates select. -/
theorem cov0_2 (i : S4224x1024.Idx) (t : Fin cfg0.N) (ht : t.val = (i 0).val / 528) : i ∈ ((cfg0.win 2).blk t).view.set := by
  have b0 : (i 0).val < 4224 := (i 0).isLt
  have b1 : (i 1).val < 1024 := (i 1).isLt
  exact cov_in (win0_2.rect t).emb i (emb0_2 t) (by omega) (by omega)

/-! ## Region 1: where its blocks lie -/
/-- The block each window of region 1 is on at point `t`. -/
theorem idx1 : ∀ t : Fin grid1.N, (win1_0.index t 0 = t.val / 4 ∧ win1_0.index t 1 = 0) ∧ (win1_1.index t 0 = t.val % 4 ∧ win1_1.index t 1 = 1 ∧ win1_1.index t 2 = 0 ∧ win1_1.index t 3 = 0) ∧ (win1_2.index t 0 = t.val / 4 ∧ win1_2.index t 1 = t.val % 4) ∧ (win1_3.index t 0 = t.val / 4 ∧ win1_3.index t 1 = t.val % 4) := by decide +kernel
/-- Window 0's block of region 1 at point `t`, read off its array. -/
theorem rd1_0 (t : Fin cfg1.N) (i0 i1 : ℕ) (b0 : i0 < 1056) (b1 : i1 < 1024) :
    at2 (a := 1056) (b := 1024) (iblk1 (F := Ideal) V c 0 t) i0 i1 = at2 (a := 4224) (b := 1024) (V c main_v8) (t.val / 4 * 1056 + i0) (0 * 1024 + i1) :=
  rd_of (V c main_v8) _ b0 b1 fun y => emb_of win1_0 t y 0 1 (idx1 t).1

/-- Window 1's block of region 1 at point `t`, read off its array. -/
theorem rd1_1 (t : Fin cfg1.N) (i0 i1 i2 i3 : ℕ) (b0 : i0 < 1) (b1 : i1 < 1) (b2 : i2 < 1024) (b3 : i3 < 1024) :
    at4 (a := 1) (b := 1) (c := 1024) (d := 1024) (iblk1 (F := Ideal) V c 1 t) i0 i1 i2 i3 = at4 (a := 4) (b := 4) (c := 1024) (d := 1024) (V c main_v4) (t.val % 4 * 1 + i0) (1 * 1 + i1) (0 * 1024 + i2) (0 * 1024 + i3) :=
  rd4_of (V c main_v4) _ b0 b1 b2 b3 fun y => emb4_of win1_1 t y 0 1 2 3 (idx1 t).2.1

/-- An index of window 2's block at point `t` as an index of its array. -/
theorem emb1_2 (t : Fin cfg1.N) (y : S1056x1024.Idx) : ((win1_2.rect t).emb y 0).val = t.val / 4 * 1056 + (y 0).val ∧ ((win1_2.rect t).emb y 1).val = t.val % 4 * 1024 + (y 1).val :=
  emb_of win1_2 t y 0 1 (idx1 t).2.2.1

/-- Every index of window 2's array lies in the block of the point its coordinates select. -/
theorem cov1_2 (i : S4224x4096.Idx) (t : Fin cfg1.N) (ht : t.val = (i 0).val / 1056 * 4 + (i 1).val / 1024) : i ∈ ((cfg1.win 2).blk t).view.set := by
  have b0 : (i 0).val < 4224 := (i 0).isLt
  have b1 : (i 1).val < 4096 := (i 1).isLt
  exact cov_in (win1_2.rect t).emb i (emb1_2 t) (by omega) (by omega)

/-- An index of window 3's block at point `t` as an index of its array. -/
theorem emb1_3 (t : Fin cfg1.N) (y : S1056x1024.Idx) : ((win1_3.rect t).emb y 0).val = t.val / 4 * 1056 + (y 0).val ∧ ((win1_3.rect t).emb y 1).val = t.val % 4 * 1024 + (y 1).val :=
  emb_of win1_3 t y 0 1 (idx1 t).2.2.2

/-- Every index of window 3's array lies in the block of the point its coordinates select. -/
theorem cov1_3 (i : S4224x4096.Idx) (t : Fin cfg1.N) (ht : t.val = (i 0).val / 1056 * 4 + (i 1).val / 1024) : i ∈ ((cfg1.win 3).blk t).view.set := by
  have b0 : (i 0).val < 4224 := (i 0).isLt
  have b1 : (i 1).val < 4096 := (i 1).isLt
  exact cov_in (win1_3.rect t).emb i (emb1_3 t) (by omega) (by omega)

/-! ## Region 2: where its blocks lie -/
/-- The block each window of region 2 is on at point `t`. -/
theorem idx2 : ∀ t : Fin grid2.N, (win2_0.index t 0 = t.val ∧ win2_0.index t 1 = 0) ∧ (win2_1.index t 0 = 0 ∧ win2_1.index t 1 = 1 ∧ win2_1.index t 2 = 0 ∧ win2_1.index t 3 = 0) ∧ (win2_2.index t 0 = 1 ∧ win2_2.index t 1 = 1 ∧ win2_2.index t 2 = 0 ∧ win2_2.index t 3 = 0) ∧ (win2_3.index t 0 = 2 ∧ win2_3.index t 1 = 1 ∧ win2_3.index t 2 = 0 ∧ win2_3.index t 3 = 0) ∧ (win2_4.index t 0 = 3 ∧ win2_4.index t 1 = 1 ∧ win2_4.index t 2 = 0 ∧ win2_4.index t 3 = 0) ∧ (win2_5.index t 0 = t.val ∧ win2_5.index t 1 = 0) ∧ (win2_6.index t 0 = 0 ∧ win2_6.index t 1 = 0) ∧ (win2_7.index t 0 = t.val ∧ win2_7.index t 1 = 0) ∧ (win2_8.index t 0 = t.val ∧ win2_8.index t 1 = 0) := by decide +kernel
/-- Window 0's block of region 2 at point `t`, read off its array. -/
theorem rd2_0 (t : Fin cfg2.N) (i0 i1 : ℕ) (b0 : i0 < 528) (b1 : i1 < 4096) :
    at2 (a := 528) (b := 4096) (iblk2 (F := Ideal) V c 0 t) i0 i1 = at2 (a := 4224) (b := 4096) (V c main_v9_1) (t.val * 528 + i0) (0 * 4096 + i1) :=
  rd_of (V c main_v9_1) _ b0 b1 fun y => emb_of win2_0 t y 0 1 (idx2 t).1

/-- Window 1's block of region 2 at point `t`, read off its array. -/
theorem rd2_1 (t : Fin cfg2.N) (i0 i1 i2 i3 : ℕ) (b0 : i0 < 1) (b1 : i1 < 1) (b2 : i2 < 1024) (b3 : i3 < 1024) :
    at4 (a := 1) (b := 1) (c := 1024) (d := 1024) (iblk2 (F := Ideal) V c 1 t) i0 i1 i2 i3 = at4 (a := 4) (b := 4) (c := 1024) (d := 1024) (V c main_v7) (0 * 1 + i0) (1 * 1 + i1) (0 * 1024 + i2) (0 * 1024 + i3) :=
  rd4_of (V c main_v7) _ b0 b1 b2 b3 fun y => emb4_of win2_1 t y 0 1 2 3 (idx2 t).2.1

/-- Window 2's block of region 2 at point `t`, read off its array. -/
theorem rd2_2 (t : Fin cfg2.N) (i0 i1 i2 i3 : ℕ) (b0 : i0 < 1) (b1 : i1 < 1) (b2 : i2 < 1024) (b3 : i3 < 1024) :
    at4 (a := 1) (b := 1) (c := 1024) (d := 1024) (iblk2 (F := Ideal) V c 2 t) i0 i1 i2 i3 = at4 (a := 4) (b := 4) (c := 1024) (d := 1024) (V c main_v7) (1 * 1 + i0) (1 * 1 + i1) (0 * 1024 + i2) (0 * 1024 + i3) :=
  rd4_of (V c main_v7) _ b0 b1 b2 b3 fun y => emb4_of win2_2 t y 0 1 2 3 (idx2 t).2.2.1

/-- Window 3's block of region 2 at point `t`, read off its array. -/
theorem rd2_3 (t : Fin cfg2.N) (i0 i1 i2 i3 : ℕ) (b0 : i0 < 1) (b1 : i1 < 1) (b2 : i2 < 1024) (b3 : i3 < 1024) :
    at4 (a := 1) (b := 1) (c := 1024) (d := 1024) (iblk2 (F := Ideal) V c 3 t) i0 i1 i2 i3 = at4 (a := 4) (b := 4) (c := 1024) (d := 1024) (V c main_v7) (2 * 1 + i0) (1 * 1 + i1) (0 * 1024 + i2) (0 * 1024 + i3) :=
  rd4_of (V c main_v7) _ b0 b1 b2 b3 fun y => emb4_of win2_3 t y 0 1 2 3 (idx2 t).2.2.2.1

/-- Window 4's block of region 2 at point `t`, read off its array. -/
theorem rd2_4 (t : Fin cfg2.N) (i0 i1 i2 i3 : ℕ) (b0 : i0 < 1) (b1 : i1 < 1) (b2 : i2 < 1024) (b3 : i3 < 1024) :
    at4 (a := 1) (b := 1) (c := 1024) (d := 1024) (iblk2 (F := Ideal) V c 4 t) i0 i1 i2 i3 = at4 (a := 4) (b := 4) (c := 1024) (d := 1024) (V c main_v7) (3 * 1 + i0) (1 * 1 + i1) (0 * 1024 + i2) (0 * 1024 + i3) :=
  rd4_of (V c main_v7) _ b0 b1 b2 b3 fun y => emb4_of win2_4 t y 0 1 2 3 (idx2 t).2.2.2.2.1

/-- Window 5's block of region 2 at point `t`, read off its array. -/
theorem rd2_5 (t : Fin cfg2.N) (i0 i1 : ℕ) (b0 : i0 < 528) (b1 : i1 < 1024) :
    at2 (a := 528) (b := 1024) (iblk2 (F := Ideal) V c 5 t) i0 i1 = at2 (a := 4224) (b := 1024) (V c main_arg0) (t.val * 528 + i0) (0 * 1024 + i1) :=
  rd_of (V c main_arg0) _ b0 b1 fun y => emb_of win2_5 t y 0 1 (idx2 t).2.2.2.2.2.1

/-- Window 6's block of region 2 at point `t`, read off its array. -/
theorem rd2_6 (t : Fin cfg2.N) (i0 i1 : ℕ) (b0 : i0 < 1) (b1 : i1 < 1024) :
    at2 (a := 1) (b := 1024) (iblk2 (F := Ideal) V c 6 t) i0 i1 = at2 (a := 1) (b := 1024) (V c main_v1) (0 * 1 + i0) (0 * 1024 + i1) :=
  rd_of (V c main_v1) _ b0 b1 fun y => emb_of win2_6 t y 0 1 (idx2 t).2.2.2.2.2.2.1

/-- An index of window 7's block at point `t` as an index of its array. -/
theorem emb2_7 (t : Fin cfg2.N) (y : S528x1024.Idx) : ((win2_7.rect t).emb y 0).val = t.val * 528 + (y 0).val ∧ ((win2_7.rect t).emb y 1).val = 0 * 1024 + (y 1).val :=
  emb_of win2_7 t y 0 1 (idx2 t).2.2.2.2.2.2.2.1

/-- Every index of window 7's array lies in the block of the point its coordinates select. -/
theorem cov2_7 (i : S4224x1024.Idx) (t : Fin cfg2.N) (ht : t.val = (i 0).val / 528) : i ∈ ((cfg2.win 7).blk t).view.set := by
  have b0 : (i 0).val < 4224 := (i 0).isLt
  have b1 : (i 1).val < 1024 := (i 1).isLt
  exact cov_in (win2_7.rect t).emb i (emb2_7 t) (by omega) (by omega)

/-- An index of window 8's block at point `t` as an index of its array. -/
theorem emb2_8 (t : Fin cfg2.N) (y : S528x1024.Idx) : ((win2_8.rect t).emb y 0).val = t.val * 528 + (y 0).val ∧ ((win2_8.rect t).emb y 1).val = 0 * 1024 + (y 1).val :=
  emb_of win2_8 t y 0 1 (idx2 t).2.2.2.2.2.2.2.2

/-- Every index of window 8's array lies in the block of the point its coordinates select. -/
theorem cov2_8 (i : S4224x1024.Idx) (t : Fin cfg2.N) (ht : t.val = (i 0).val / 528) : i ∈ ((cfg2.win 8).blk t).view.set := by
  have b0 : (i 0).val < 4224 := (i 0).isLt
  have b1 : (i 1).val < 1024 := (i 1).isLt
  exact cov_in (win2_8.rect t).emb i (emb2_8 t) (by omega) (by omega)

/-! ## Region 3: where its blocks lie -/
/-- The block each window of region 3 is on at point `t`. -/
theorem idx3 : ∀ t : Fin grid3.N, (win3_0.index t 0 = 0 ∧ win3_0.index t 1 = t.val) ∧ (win3_1.index t 0 = 0 ∧ win3_1.index t 1 = 0) ∧ (win3_2.index t 0 = t.val ∧ win3_2.index t 1 = 0) := by decide +kernel
/-- Window 0's block of region 3 at point `t`, read off its array. -/
theorem rd3_0 (t : Fin cfg3.N) (i0 i1 : ℕ) (b0 : i0 < 4224) (b1 : i1 < 1024) :
    at2 (a := 4224) (b := 1024) (iblk3 (F := Ideal) V c 0 t) i0 i1 = at2 (a := 4224) (b := 4096) (V c main_v9_1) (0 * 4224 + i0) (t.val * 1024 + i1) :=
  rd_of (V c main_v9_1) _ b0 b1 fun y => emb_of win3_0 t y 0 1 (idx3 t).1

/-- Window 1's block of region 3 at point `t`, read off its array. -/
theorem rd3_1 (t : Fin cfg3.N) (i0 i1 : ℕ) (b0 : i0 < 4224) (b1 : i1 < 1024) :
    at2 (a := 4224) (b := 1024) (iblk3 (F := Ideal) V c 1 t) i0 i1 = at2 (a := 4224) (b := 1024) (V c main_v11) (0 * 4224 + i0) (0 * 1024 + i1) :=
  rd_of (V c main_v11) _ b0 b1 fun y => emb_of win3_1 t y 0 1 (idx3 t).2.1

/-- An index of window 2's block at point `t` as an index of its array. -/
theorem emb3_2 (t : Fin cfg3.N) (y : S1024x1024.Idx) : ((win3_2.rect t).emb y 0).val = t.val * 1024 + (y 0).val ∧ ((win3_2.rect t).emb y 1).val = 0 * 1024 + (y 1).val :=
  emb_of win3_2 t y 0 1 (idx3 t).2.2

/-- Every index of window 2's array lies in the block of the point its coordinates select. -/
theorem cov3_2 (i : S4096x1024.Idx) (t : Fin cfg3.N) (ht : t.val = (i 0).val / 1024) : i ∈ ((cfg3.win 2).blk t).view.set := by
  have b0 : (i 0).val < 4096 := (i 0).isLt
  have b1 : (i 1).val < 1024 := (i 1).isLt
  exact cov_in (win3_2.rect t).emb i (emb3_2 t) (by omega) (by omega)

/-! ## Region 4: where its blocks lie -/
/-- The block each window of region 4 is on at point `t`. -/
theorem idx4 : ∀ t : Fin grid4.N, (win4_0.index t 0 = t.val / 4 ∧ win4_0.index t 1 = 0) ∧ (win4_1.index t 0 = t.val % 4 ∧ win4_1.index t 1 = 1 ∧ win4_1.index t 2 = 0 ∧ win4_1.index t 3 = 0) ∧ (win4_2.index t 0 = t.val / 4 ∧ win4_2.index t 1 = t.val % 4) ∧ (win4_3.index t 0 = t.val / 4 ∧ win4_3.index t 1 = t.val % 4) := by decide +kernel
/-- Window 0's block of region 4 at point `t`, read off its array. -/
theorem rd4_0 (t : Fin cfg4.N) (i0 i1 : ℕ) (b0 : i0 < 1056) (b1 : i1 < 1024) :
    at2 (a := 1056) (b := 1024) (iblk4 (F := Ideal) V c 0 t) i0 i1 = at2 (a := 4224) (b := 1024) (V c main_v11) (t.val / 4 * 1056 + i0) (0 * 1024 + i1) :=
  rd_of (V c main_v11) _ b0 b1 fun y => emb_of win4_0 t y 0 1 (idx4 t).1

/-- Window 1's block of region 4 at point `t`, read off its array. -/
theorem rd4_1 (t : Fin cfg4.N) (i0 i1 i2 i3 : ℕ) (b0 : i0 < 1) (b1 : i1 < 1) (b2 : i2 < 1024) (b3 : i3 < 1024) :
    at4 (a := 1) (b := 1) (c := 1024) (d := 1024) (iblk4 (F := Ideal) V c 1 t) i0 i1 i2 i3 = at4 (a := 4) (b := 4) (c := 1024) (d := 1024) (V c main_v7) (t.val % 4 * 1 + i0) (1 * 1 + i1) (0 * 1024 + i2) (0 * 1024 + i3) :=
  rd4_of (V c main_v7) _ b0 b1 b2 b3 fun y => emb4_of win4_1 t y 0 1 2 3 (idx4 t).2.1

/-- Window 2's block of region 4 at point `t`, read off its array. -/
theorem rd4_2 (t : Fin cfg4.N) (i0 i1 : ℕ) (b0 : i0 < 1056) (b1 : i1 < 1024) :
    at2 (a := 1056) (b := 1024) (iblk4 (F := Ideal) V c 2 t) i0 i1 = at2 (a := 4224) (b := 4096) (V c main_v9_0) (t.val / 4 * 1056 + i0) (t.val % 4 * 1024 + i1) :=
  rd_of (V c main_v9_0) _ b0 b1 fun y => emb_of win4_2 t y 0 1 (idx4 t).2.2.1

/-- An index of window 3's block at point `t` as an index of its array. -/
theorem emb4_3 (t : Fin cfg4.N) (y : S1056x1024.Idx) : ((win4_3.rect t).emb y 0).val = t.val / 4 * 1056 + (y 0).val ∧ ((win4_3.rect t).emb y 1).val = t.val % 4 * 1024 + (y 1).val :=
  emb_of win4_3 t y 0 1 (idx4 t).2.2.2

/-- Every index of window 3's array lies in the block of the point its coordinates select. -/
theorem cov4_3 (i : S4224x4096.Idx) (t : Fin cfg4.N) (ht : t.val = (i 0).val / 1056 * 4 + (i 1).val / 1024) : i ∈ ((cfg4.win 3).blk t).view.set := by
  have b0 : (i 0).val < 4224 := (i 0).isLt
  have b1 : (i 1).val < 4096 := (i 1).isLt
  exact cov_in (win4_3.rect t).emb i (emb4_3 t) (by omega) (by omega)

/-! ## Region 5: where its blocks lie -/
/-- The block each window of region 5 is on at point `t`. -/
theorem idx5 : ∀ t : Fin grid5.N, (win5_0.index t 0 = 0 ∧ win5_0.index t 1 = 0) ∧ (win5_1.index t 0 = 0 ∧ win5_1.index t 1 = t.val) ∧ (win5_2.index t 0 = t.val ∧ win5_2.index t 1 = 0 ∧ win5_2.index t 2 = 0) := by decide +kernel
/-- Window 0's block of region 5 at point `t`, read off its array. -/
theorem rd5_0 (t : Fin cfg5.N) (i0 i1 : ℕ) (b0 : i0 < 4224) (b1 : i1 < 1024) :
    at2 (a := 4224) (b := 1024) (iblk5 (F := Ideal) V c 0 t) i0 i1 = at2 (a := 4224) (b := 1024) (V c main_v8) (0 * 4224 + i0) (0 * 1024 + i1) :=
  rd_of (V c main_v8) _ b0 b1 fun y => emb_of win5_0 t y 0 1 (idx5 t).1

/-- Window 1's block of region 5 at point `t`, read off its array. -/
theorem rd5_1 (t : Fin cfg5.N) (i0 i1 : ℕ) (b0 : i0 < 4224) (b1 : i1 < 1024) :
    at2 (a := 4224) (b := 1024) (iblk5 (F := Ideal) V c 1 t) i0 i1 = at2 (a := 4224) (b := 4096) (V c main_v13) (0 * 4224 + i0) (t.val * 1024 + i1) :=
  rd_of (V c main_v13) _ b0 b1 fun y => emb_of win5_1 t y 0 1 (idx5 t).2.1

/-- An index of window 2's block at point `t` as an index of its array. -/
theorem emb5_2 (t : Fin cfg5.N) (y : S1x1024x1024.Idx) : ((win5_2.rect t).emb y 0).val = t.val * 1 + (y 0).val ∧ ((win5_2.rect t).emb y 1).val = 0 * 1024 + (y 1).val ∧ ((win5_2.rect t).emb y 2).val = 0 * 1024 + (y 2).val := by
  obtain ⟨-, -, ⟨h0, h1, h2⟩⟩ := idx5 t
  exact ⟨(Window.rect_emb_val win5_2 t y 0).trans (by rw [h0]; rfl), (Window.rect_emb_val win5_2 t y 1).trans (by rw [h1]; rfl), (Window.rect_emb_val win5_2 t y 2).trans (by rw [h2]; rfl)⟩

/-- Every index of window 2's array lies in the block of the point its coordinates select. -/
theorem cov5_2 (i : S4x1024x1024.Idx) (t : Fin cfg5.N) (ht : t.val = (i 0).val) : i ∈ ((cfg5.win 2).blk t).view.set := by
  have b0 : (i 0).val < 4 := (i 0).isLt
  have b1 : (i 1).val < 1024 := (i 1).isLt
  have b2 : (i 2).val < 1024 := (i 2).isLt
  have e : (win5_2.rect t).emb (ix3 (⟨(i 0).val % 1, Nat.mod_lt _ (by decide)⟩ : Fin 1) (⟨(i 1).val % 1024, Nat.mod_lt _ (by decide)⟩ : Fin 1024) (⟨(i 2).val % 1024, Nat.mod_lt _ (by decide)⟩ : Fin 1024)) = i := by
    obtain ⟨e0, e1, e2⟩ := emb5_2 t (ix3 (⟨(i 0).val % 1, Nat.mod_lt _ (by decide)⟩ : Fin 1) (⟨(i 1).val % 1024, Nat.mod_lt _ (by decide)⟩ : Fin 1024) (⟨(i 2).val % 1024, Nat.mod_lt _ (by decide)⟩ : Fin 1024))
    funext q
    match q with
    | ⟨0, _⟩ => exact Fin.ext (e0.trans (show t.val * 1 + (i 0).val % 1 = (i 0).val by omega))
    | ⟨1, _⟩ => exact Fin.ext (e1.trans (show 0 * 1024 + (i 1).val % 1024 = (i 1).val by omega))
    | ⟨2, _⟩ => exact Fin.ext (e2.trans (show 0 * 1024 + (i 2).val % 1024 = (i 2).val by omega))
  exact Finset.mem_map.mpr ⟨_, Finset.mem_univ _, e⟩

/-! ## Region 6: where its blocks lie -/
/-- The block each window of region 6 is on at point `t`. -/
theorem idx6 : ∀ t : Fin grid6.N, (win6_0.index t 0 = t.val ∧ win6_0.index t 1 = 0) ∧ (win6_1.index t 0 = 0 ∧ win6_1.index t 1 = 1 ∧ win6_1.index t 2 = 0 ∧ win6_1.index t 3 = 0) ∧ (win6_2.index t 0 = 1 ∧ win6_2.index t 1 = 1 ∧ win6_2.index t 2 = 0 ∧ win6_2.index t 3 = 0) ∧ (win6_3.index t 0 = 2 ∧ win6_3.index t 1 = 1 ∧ win6_3.index t 2 = 0 ∧ win6_3.index t 3 = 0) ∧ (win6_4.index t 0 = 3 ∧ win6_4.index t 1 = 1 ∧ win6_4.index t 2 = 0 ∧ win6_4.index t 3 = 0) ∧ (win6_5.index t 0 = t.val ∧ win6_5.index t 1 = 0) := by decide +kernel
/-- Window 0's block of region 6 at point `t`, read off its array. -/
theorem rd6_0 (t : Fin cfg6.N) (i0 i1 : ℕ) (b0 : i0 < 528) (b1 : i1 < 4096) :
    at2 (a := 528) (b := 4096) (iblk6 (F := Ideal) V c 0 t) i0 i1 = at2 (a := 4224) (b := 4096) (V c main_v13) (t.val * 528 + i0) (0 * 4096 + i1) :=
  rd_of (V c main_v13) _ b0 b1 fun y => emb_of win6_0 t y 0 1 (idx6 t).1

/-- Window 1's block of region 6 at point `t`, read off its array. -/
theorem rd6_1 (t : Fin cfg6.N) (i0 i1 i2 i3 : ℕ) (b0 : i0 < 1) (b1 : i1 < 1) (b2 : i2 < 1024) (b3 : i3 < 1024) :
    at4 (a := 1) (b := 1) (c := 1024) (d := 1024) (iblk6 (F := Ideal) V c 1 t) i0 i1 i2 i3 = at4 (a := 4) (b := 4) (c := 1024) (d := 1024) (V c main_v4) (0 * 1 + i0) (1 * 1 + i1) (0 * 1024 + i2) (0 * 1024 + i3) :=
  rd4_of (V c main_v4) _ b0 b1 b2 b3 fun y => emb4_of win6_1 t y 0 1 2 3 (idx6 t).2.1

/-- Window 2's block of region 6 at point `t`, read off its array. -/
theorem rd6_2 (t : Fin cfg6.N) (i0 i1 i2 i3 : ℕ) (b0 : i0 < 1) (b1 : i1 < 1) (b2 : i2 < 1024) (b3 : i3 < 1024) :
    at4 (a := 1) (b := 1) (c := 1024) (d := 1024) (iblk6 (F := Ideal) V c 2 t) i0 i1 i2 i3 = at4 (a := 4) (b := 4) (c := 1024) (d := 1024) (V c main_v4) (1 * 1 + i0) (1 * 1 + i1) (0 * 1024 + i2) (0 * 1024 + i3) :=
  rd4_of (V c main_v4) _ b0 b1 b2 b3 fun y => emb4_of win6_2 t y 0 1 2 3 (idx6 t).2.2.1

/-- Window 3's block of region 6 at point `t`, read off its array. -/
theorem rd6_3 (t : Fin cfg6.N) (i0 i1 i2 i3 : ℕ) (b0 : i0 < 1) (b1 : i1 < 1) (b2 : i2 < 1024) (b3 : i3 < 1024) :
    at4 (a := 1) (b := 1) (c := 1024) (d := 1024) (iblk6 (F := Ideal) V c 3 t) i0 i1 i2 i3 = at4 (a := 4) (b := 4) (c := 1024) (d := 1024) (V c main_v4) (2 * 1 + i0) (1 * 1 + i1) (0 * 1024 + i2) (0 * 1024 + i3) :=
  rd4_of (V c main_v4) _ b0 b1 b2 b3 fun y => emb4_of win6_3 t y 0 1 2 3 (idx6 t).2.2.2.1

/-- Window 4's block of region 6 at point `t`, read off its array. -/
theorem rd6_4 (t : Fin cfg6.N) (i0 i1 i2 i3 : ℕ) (b0 : i0 < 1) (b1 : i1 < 1) (b2 : i2 < 1024) (b3 : i3 < 1024) :
    at4 (a := 1) (b := 1) (c := 1024) (d := 1024) (iblk6 (F := Ideal) V c 4 t) i0 i1 i2 i3 = at4 (a := 4) (b := 4) (c := 1024) (d := 1024) (V c main_v4) (3 * 1 + i0) (1 * 1 + i1) (0 * 1024 + i2) (0 * 1024 + i3) :=
  rd4_of (V c main_v4) _ b0 b1 b2 b3 fun y => emb4_of win6_4 t y 0 1 2 3 (idx6 t).2.2.2.2.1

/-- An index of window 5's block at point `t` as an index of its array. -/
theorem emb6_5 (t : Fin cfg6.N) (y : S528x1024.Idx) : ((win6_5.rect t).emb y 0).val = t.val * 528 + (y 0).val ∧ ((win6_5.rect t).emb y 1).val = 0 * 1024 + (y 1).val :=
  emb_of win6_5 t y 0 1 (idx6 t).2.2.2.2.2

/-- Every index of window 5's array lies in the block of the point its coordinates select. -/
theorem cov6_5 (i : S4224x1024.Idx) (t : Fin cfg6.N) (ht : t.val = (i 0).val / 528) : i ∈ ((cfg6.win 5).blk t).view.set := by
  have b0 : (i 0).val < 4224 := (i 0).isLt
  have b1 : (i 1).val < 1024 := (i 1).isLt
  exact cov_in (win6_5.rect t).emb i (emb6_5 t) (by omega) (by omega)

end Cert.MlpIdeal.Value

end
-- ==== Proof.MlpFinal.lean ====
/- What each region of the feed-forward block leaves in its arrays, as sums and products of the entries it reads. -/
module

public import proofs.«01_k».proof.Proof.MlpTiles
public import proofs.«01_k».proof.Proof.MlpBlocks

@[expose] public section

set_option maxRecDepth 16384

noncomputable section

namespace Cert.MlpIdeal.Value

open Cert.MlpIdeal Cert.MlpIdeal.Gen Cert.Coord
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

/-! ## The arrays the regions leave -/

variable (V : (c : Dev nD) → (b : Ref sig .tc) → Buf (Elt Ideal) ((c : Thread nD τ).loc b)) (c : Dev nD)

/-- The rows normalised. -/
theorem final0_2 : (dat0 (F := Ideal) V c).arrAt 2 cfg0.N = G0 (V c main_arg0) (V c main_v0) := by
  refine (dat0 (F := Ideal) V c).arrAt_eq_of_cover 2 _ (fun t _ => ?_)
    (fun i => ⟨⟨(i 0).val / 528, by have hN := N_0; have b0 : (i 0).val < 4224 := (i 0).isLt; have b1 : (i 1).val < 1024 := (i 1).isLt; show _ < grid0.N; omega⟩, flush0_2 _, cov0_2 i _ rfl⟩)
  refine (after0_2 (F := Ideal) V c t).trans (funext fun y => ?_)
  obtain ⟨e0, e1⟩ := emb0_2 t y
  have ht : t.val < 8 := lt_of_lt_of_eq t.isLt N_0
  have y0 : (y 0).val < 528 := (y 0).isLt
  have y1 : (y 1).val < 1024 := (y 1).isLt
  show _ = G0 (V c main_arg0) (V c main_v0) ((win0_2.rect t).emb y)
  unfold G0
  rw [out0_2_at, e0, e1, rd0_0 V c t _ _ y0 y1, rd0_1 V c t 0 _ (by omega) y1]
  have z : (0 : ℕ) * 1024 + (y 1).val = (y 1).val := by omega
  rw [z]
  exact rms_congr _ _ (fun k hk => by beta_reduce; rw [rd0_0 V c t _ k y0 hk, show (0 : ℕ) * 1024 + k = k by omega]) _ _

/-- A block's product is the array's. -/
theorem mm_up (t : Fin cfg1.N) (p q : ℕ) (hp : p < 1056) (hq : q < 1024) :
    mm (iblk1 (F := Ideal) V c 0 t) (iblk1 (F := Ideal) V c 1 t) p q = up (V c main_v8) (V c main_v4) (t.val / 4 * 1056 + p) (t.val % 4 * 1024 + q) := by
  unfold mm up
  refine Finset.sum_congr rfl fun k hk => ?_
  have hk := Finset.mem_range.mp hk
  rw [rd1_0 V c t p k hp hk, rd1_1 V c t 0 0 k q (by decide) (by decide) hk hq]
  refine congrArg₂ (· * ·) ?_ ?_
  · exact at2_congr _ (by omega) (by omega)
  · exact at4_congr _ (by omega) (by omega) (by omega) (by omega)

/-- The first product. -/
theorem final1_2 : (dat1 (F := Ideal) V c).arrAt 2 cfg1.N = G1a (V c main_v8) (V c main_v4) := by
  refine (dat1 (F := Ideal) V c).arrAt_eq_of_cover 2 _ (fun t _ => ?_)
    (fun i => ⟨⟨(i 0).val / 1056 * 4 + (i 1).val / 1024, by have hN := N_1; have b0 : (i 0).val < 4224 := (i 0).isLt; have b1 : (i 1).val < 4096 := (i 1).isLt; show _ < grid1.N; omega⟩, flush1_2 _, cov1_2 i _ rfl⟩)
  refine (after1_2 (F := Ideal) V c t).trans (funext fun y => ?_)
  obtain ⟨e0, e1⟩ := emb1_2 t y
  have ht : t.val < 16 := lt_of_lt_of_eq t.isLt N_1
  have y0 : (y 0).val < 1056 := (y 0).isLt
  have y1 : (y 1).val < 1024 := (y 1).isLt
  show _ = G1a (V c main_v8) (V c main_v4) ((win1_2.rect t).emb y)
  unfold G1a
  rw [out1_2_at, e0, e1, mm_up V c t _ _ y0 y1]

/-- Its positive part squared. -/
theorem final1_3 : (dat1 (F := Ideal) V c).arrAt 3 cfg1.N = G1b (V c main_v8) (V c main_v4) := by
  refine (dat1 (F := Ideal) V c).arrAt_eq_of_cover 3 _ (fun t _ => ?_)
    (fun i => ⟨⟨(i 0).val / 1056 * 4 + (i 1).val / 1024, by have hN := N_1; have b0 : (i 0).val < 4224 := (i 0).isLt; have b1 : (i 1).val < 4096 := (i 1).isLt; show _ < grid1.N; omega⟩, flush1_3 _, cov1_3 i _ rfl⟩)
  refine (after1_3 (F := Ideal) V c t).trans (funext fun y => ?_)
  obtain ⟨e0, e1⟩ := emb1_3 t y
  have ht : t.val < 16 := lt_of_lt_of_eq t.isLt N_1
  have y0 : (y 0).val < 1056 := (y 0).isLt
  have y1 : (y 1).val < 1024 := (y 1).isLt
  show _ = G1b (V c main_v8) (V c main_v4) ((win1_3.rect t).emb y)
  unfold G1b
  rw [out1_3_at, e0, e1, mm_up V c t _ _ y0 y1]

/-- The four runs of a block are those of the array. -/
theorem run_down (t : Fin cfg2.N) (p q : ℕ) (hp : p < 528) (hq : q < 1024) :
    run4 (iblk2 (F := Ideal) V c 0 t) (fun k => at4 (a := 1) (b := 1) (c := 1024) (d := 1024) (iblk2 (F := Ideal) V c 1 t) 0 0 k q) 0 p
      + run4 (iblk2 (F := Ideal) V c 0 t) (fun k => at4 (a := 1) (b := 1) (c := 1024) (d := 1024) (iblk2 (F := Ideal) V c 2 t) 0 0 k q) 1 p
      + run4 (iblk2 (F := Ideal) V c 0 t) (fun k => at4 (a := 1) (b := 1) (c := 1024) (d := 1024) (iblk2 (F := Ideal) V c 3 t) 0 0 k q) 2 p
      + run4 (iblk2 (F := Ideal) V c 0 t) (fun k => at4 (a := 1) (b := 1) (c := 1024) (d := 1024) (iblk2 (F := Ideal) V c 4 t) 0 0 k q) 3 p
    = ∑ s ∈ Finset.range 4, ∑ k ∈ Finset.range 1024,
        at2 (a := 4224) (b := 4096) (V c main_v9_1) (t.val * 528 + p) (1024 * s + k) * at4 (a := 4) (b := 4) (c := 1024) (d := 1024) (V c main_v7) s 1 k q := by
  rw [Finset.sum_range_succ, Finset.sum_range_succ, Finset.sum_range_succ, Finset.sum_range_succ, Finset.sum_range_zero, zero_add]
  refine congrArg₂ (· + ·) (congrArg₂ (· + ·) (congrArg₂ (· + ·) ?_ ?_) ?_) ?_ <;> unfold run4 <;>
    refine Finset.sum_congr rfl fun k hk => ?_
  · have hk := Finset.mem_range.mp hk
    beta_reduce
    rw [rd2_0 V c t p (1024 * 0 + k) hp (by omega), rd2_1 V c t 0 0 k q (by decide) (by decide) hk hq]
    exact congrArg₂ (· * ·) (at2_congr _ (by omega) (by omega)) (at4_congr _ (by omega) (by omega) (by omega) (by omega))
  · have hk := Finset.mem_range.mp hk
    beta_reduce
    rw [rd2_0 V c t p (1024 * 1 + k) hp (by omega), rd2_2 V c t 0 0 k q (by decide) (by decide) hk hq]
    exact congrArg₂ (· * ·) (at2_congr _ (by omega) (by omega)) (at4_congr _ (by omega) (by omega) (by omega) (by omega))
  · have hk := Finset.mem_range.mp hk
    beta_reduce
    rw [rd2_0 V c t p (1024 * 2 + k) hp (by omega), rd2_3 V c t 0 0 k q (by decide) (by decide) hk hq]
    exact congrArg₂ (· * ·) (at2_congr _ (by omega) (by omega)) (at4_congr _ (by omega) (by omega) (by omega) (by omega))
  · have hk := Finset.mem_range.mp hk
    beta_reduce
    rw [rd2_0 V c t p (1024 * 3 + k) hp (by omega), rd2_4 V c t 0 0 k q (by decide) (by decide) hk hq]
    exact congrArg₂ (· * ·) (at2_congr _ (by omega) (by omega)) (at4_congr _ (by omega) (by omega) (by omega) (by omega))

/-- The second product. -/
theorem final2_7 : (dat2 (F := Ideal) V c).arrAt 7 cfg2.N = G2a (V c main_v9_1) (V c main_v7) := by
  refine (dat2 (F := Ideal) V c).arrAt_eq_of_cover 7 _ (fun t _ => ?_)
    (fun i => ⟨⟨(i 0).val / 528, by have hN := N_2; have b0 : (i 0).val < 4224 := (i 0).isLt; have b1 : (i 1).val < 1024 := (i 1).isLt; show _ < grid2.N; omega⟩, flush2_7 _, cov2_7 i _ rfl⟩)
  refine (after2_7 (F := Ideal) V c t).trans (funext fun y => ?_)
  obtain ⟨e0, e1⟩ := emb2_7 t y
  have ht : t.val < 8 := lt_of_lt_of_eq t.isLt N_2
  have y0 : (y 0).val < 528 := (y 0).isLt
  have y1 : (y 1).val < 1024 := (y 1).isLt
  show _ = G2a (V c main_v9_1) (V c main_v7) ((win2_7.rect t).emb y)
  unfold G2a down out2_7
  rw [View.canon_cons_unit_lit _ _ _ (by decide), out2_7_at, e0, e1, run_down V c t _ _ y0 y1]
  refine Finset.sum_congr rfl fun s _ => Finset.sum_congr rfl fun k _ => congrArg₂ (· * ·) rfl ?_
  exact at4_congr _ (by omega) (by omega) (by omega) (by omega)

/-- The second product normalised and added to what came in. -/
theorem final2_8 : (dat2 (F := Ideal) V c).arrAt 8 cfg2.N = G2b (V c main_v9_1) (V c main_v7) (V c main_arg0) (V c main_v1) := by
  refine (dat2 (F := Ideal) V c).arrAt_eq_of_cover 8 _ (fun t _ => ?_)
    (fun i => ⟨⟨(i 0).val / 528, by have hN := N_2; have b0 : (i 0).val < 4224 := (i 0).isLt; have b1 : (i 1).val < 1024 := (i 1).isLt; show _ < grid2.N; omega⟩, flush2_8 _, cov2_8 i _ rfl⟩)
  refine (after2_8 (F := Ideal) V c t).trans (funext fun y => ?_)
  obtain ⟨e0, e1⟩ := emb2_8 t y
  have ht : t.val < 8 := lt_of_lt_of_eq t.isLt N_2
  have y0 : (y 0).val < 528 := (y 0).isLt
  have y1 : (y 1).val < 1024 := (y 1).isLt
  show _ = G2b (V c main_v9_1) (V c main_v7) (V c main_arg0) (V c main_v1) ((win2_8.rect t).emb y)
  have hP : ∀ k, k < 1024 → at2 (a := 528) (b := 1024) (k2_pay3 (F := Ideal) (iblk2 V c 0 t) (iblk2 V c 1 t) (iblk2 V c 2 t) (iblk2 V c 3 t) (iblk2 V c 4 t) (iblk2 V c 5 t) (iblk2 V c 6 t)) (y 0).val k
      = down (V c main_v9_1) (V c main_v7) (t.val * 528 + (y 0).val) k := fun k hk =>
    (dif_pos ⟨y0, hk⟩).trans ((out2_7_at _ _ _ _ _ _ _ _).trans (run_down V c t (y 0).val k y0 hk))
  unfold G2b out2_8
  rw [View.canon_cons_unit_lit _ _ _ (by decide), View.ld_unit_lit _ _ (by decide), View.ld_unit_lit _ _ (by decide), out2_8_at, e0, e1,
    rd2_5 V c t _ _ y0 y1, rd2_6 V c t 0 _ (by decide) y1, eq_at2 (k2_pay3 (F := Ideal) _ _ _ _ _ _ _) y, hP _ y1]
  have z : (0 : ℕ) * 1024 + (y 1).val = (y 1).val := by omega
  rw [z]
  rw [rms_congr _ _ hP]

/-- The second weight's gradient. -/
theorem final3_2 : (dat3 (F := Ideal) V c).arrAt 2 cfg3.N = G3 (V c main_v9_1) (V c main_v11) := by
  refine (dat3 (F := Ideal) V c).arrAt_eq_of_cover 2 _ (fun t _ => ?_)
    (fun i => ⟨⟨(i 0).val / 1024, by have hN := N_3; have b0 : (i 0).val < 4096 := (i 0).isLt; have b1 : (i 1).val < 1024 := (i 1).isLt; show _ < grid3.N; omega⟩, flush3_2 _, cov3_2 i _ rfl⟩)
  refine (after3_2 (F := Ideal) V c t).trans (funext fun y => ?_)
  obtain ⟨e0, e1⟩ := emb3_2 t y
  have ht : t.val < 4 := lt_of_lt_of_eq t.isLt N_3
  have y0 : (y 0).val < 1024 := (y 0).isLt
  have y1 : (y 1).val < 1024 := (y 1).isLt
  show _ = G3 (V c main_v9_1) (V c main_v11) ((win3_2.rect t).emb y)
  unfold G3
  rw [out3_2_at, e0, e1]
  refine Finset.sum_congr rfl fun k hk => ?_
  have hk := Finset.mem_range.mp hk
  rw [rd3_0 V c t k _ hk y0, rd3_1 V c t k _ hk y1]
  exact congrArg₂ (· * ·) (at2_congr _ (by omega) (by omega)) (at2_congr _ (by omega) (by omega))

/-- The gradient before the square. -/
theorem final4_3 : (dat4 (F := Ideal) V c).arrAt 3 cfg4.N = G4 (V c main_v11) (V c main_v7) (V c main_v9_0) := by
  refine (dat4 (F := Ideal) V c).arrAt_eq_of_cover 3 _ (fun t _ => ?_)
    (fun i => ⟨⟨(i 0).val / 1056 * 4 + (i 1).val / 1024, by have hN := N_4; have b0 : (i 0).val < 4224 := (i 0).isLt; have b1 : (i 1).val < 4096 := (i 1).isLt; show _ < grid4.N; omega⟩, flush4_3 _, cov4_3 i _ rfl⟩)
  refine (after4_3 (F := Ideal) V c t).trans (funext fun y => ?_)
  obtain ⟨e0, e1⟩ := emb4_3 t y
  have ht : t.val < 16 := lt_of_lt_of_eq t.isLt N_4
  have y0 : (y 0).val < 1056 := (y 0).isLt
  have y1 : (y 1).val < 1024 := (y 1).isLt
  show _ = G4 (V c main_v11) (V c main_v7) (V c main_v9_0) ((win4_3.rect t).emb y)
  unfold G4
  rw [out4_3_at, e0, e1, rd4_2 V c t _ _ y0 y1]
  refine congrArg₂ (· * ·) rfl (Finset.sum_congr rfl fun k hk => ?_)
  have hk := Finset.mem_range.mp hk
  rw [rd4_0 V c t _ k y0 hk, rd4_1 V c t 0 0 _ k (by decide) (by decide) y1 hk]
  exact congrArg₂ (· * ·) (at2_congr _ (by omega) (by omega)) (at4_congr _ (by omega) (by omega) (by omega) (by omega))

/-- The first weight's gradient. -/
theorem final5_2 : (dat5 (F := Ideal) V c).arrAt 2 cfg5.N = G5 (V c main_v8) (V c main_v13) := by
  refine (dat5 (F := Ideal) V c).arrAt_eq_of_cover 2 _ (fun t _ => ?_)
    (fun i => ⟨⟨(i 0).val, by have hN := N_5; have b0 : (i 0).val < 4 := (i 0).isLt; have b1 : (i 1).val < 1024 := (i 1).isLt; have b2 : (i 2).val < 1024 := (i 2).isLt; show _ < grid5.N; omega⟩, flush5_2 _, cov5_2 i _ rfl⟩)
  refine (after5_2 (F := Ideal) V c t).trans (funext fun y => ?_)
  obtain ⟨e0, e1, e2⟩ := emb5_2 t y
  have ht : t.val < 4 := lt_of_lt_of_eq t.isLt N_5
  have y0 : (y 0).val < 1 := (y 0).isLt
  have y1 : (y 1).val < 1024 := (y 1).isLt
  have y2 : (y 2).val < 1024 := (y 2).isLt
  show _ = G5 (V c main_v8) (V c main_v13) ((win5_2.rect t).emb y)
  unfold G5
  rw [out5_2_at, e0, e1, e2]
  refine Finset.sum_congr rfl fun k hk => ?_
  have hk := Finset.mem_range.mp hk
  rw [rd5_0 V c t k _ hk y1, rd5_1 V c t k _ hk y2]
  exact congrArg₂ (· * ·) (at2_congr _ (by omega) (by omega)) (at2_congr _ (by omega) (by omega))

/-- The four runs of a block are those of the array. -/
theorem run_dx (t : Fin cfg6.N) (p q : ℕ) (hp : p < 528) (hq : q < 1024) :
    run4 (iblk6 (F := Ideal) V c 0 t) (fun k => at4 (a := 1) (b := 1) (c := 1024) (d := 1024) (iblk6 (F := Ideal) V c 1 t) 0 0 q k) 0 p
      + run4 (iblk6 (F := Ideal) V c 0 t) (fun k => at4 (a := 1) (b := 1) (c := 1024) (d := 1024) (iblk6 (F := Ideal) V c 2 t) 0 0 q k) 1 p
      + run4 (iblk6 (F := Ideal) V c 0 t) (fun k => at4 (a := 1) (b := 1) (c := 1024) (d := 1024) (iblk6 (F := Ideal) V c 3 t) 0 0 q k) 2 p
      + run4 (iblk6 (F := Ideal) V c 0 t) (fun k => at4 (a := 1) (b := 1) (c := 1024) (d := 1024) (iblk6 (F := Ideal) V c 4 t) 0 0 q k) 3 p
    = ∑ s ∈ Finset.range 4, ∑ k ∈ Finset.range 1024,
        at2 (a := 4224) (b := 4096) (V c main_v13) (t.val * 528 + p) (1024 * s + k) * at4 (a := 4) (b := 4) (c := 1024) (d := 1024) (V c main_v4) s 1 q k := by
  rw [Finset.sum_range_succ, Finset.sum_range_succ, Finset.sum_range_succ, Finset.sum_range_succ, Finset.sum_range_zero, zero_add]
  refine congrArg₂ (· + ·) (congrArg₂ (· + ·) (congrArg₂ (· + ·) ?_ ?_) ?_) ?_ <;> unfold run4 <;>
    refine Finset.sum_congr rfl fun k hk => ?_
  · have hk := Finset.mem_range.mp hk
    beta_reduce
    rw [rd6_0 V c t p (1024 * 0 + k) hp (by omega), rd6_1 V c t 0 0 q k (by decide) (by decide) hq hk]
    exact congrArg₂ (· * ·) (at2_congr _ (by omega) (by omega)) (at4_congr _ (by omega) (by omega) (by omega) (by omega))
  · have hk := Finset.mem_range.mp hk
    beta_reduce
    rw [rd6_0 V c t p (1024 * 1 + k) hp (by omega), rd6_2 V c t 0 0 q k (by decide) (by decide) hq hk]
    exact congrArg₂ (· * ·) (at2_congr _ (by omega) (by omega)) (at4_congr _ (by omega) (by omega) (by omega) (by omega))
  · have hk := Finset.mem_range.mp hk
    beta_reduce
    rw [rd6_0 V c t p (1024 * 2 + k) hp (by omega), rd6_3 V c t 0 0 q k (by decide) (by decide) hq hk]
    exact congrArg₂ (· * ·) (at2_congr _ (by omega) (by omega)) (at4_congr _ (by omega) (by omega) (by omega) (by omega))
  · have hk := Finset.mem_range.mp hk
    beta_reduce
    rw [rd6_0 V c t p (1024 * 3 + k) hp (by omega), rd6_4 V c t 0 0 q k (by decide) (by decide) hq hk]
    exact congrArg₂ (· * ·) (at2_congr _ (by omega) (by omega)) (at4_congr _ (by omega) (by omega) (by omega) (by omega))

/-- The gradient of the rows. -/
theorem final6_5 : (dat6 (F := Ideal) V c).arrAt 5 cfg6.N = G6 (V c main_v13) (V c main_v4) := by
  refine (dat6 (F := Ideal) V c).arrAt_eq_of_cover 5 _ (fun t _ => ?_)
    (fun i => ⟨⟨(i 0).val / 528, by have hN := N_6; have b0 : (i 0).val < 4224 := (i 0).isLt; have b1 : (i 1).val < 1024 := (i 1).isLt; show _ < grid6.N; omega⟩, flush6_5 _, cov6_5 i _ rfl⟩)
  refine (after6_5 (F := Ideal) V c t).trans (funext fun y => ?_)
  obtain ⟨e0, e1⟩ := emb6_5 t y
  have ht : t.val < 8 := lt_of_lt_of_eq t.isLt N_6
  have y0 : (y 0).val < 528 := (y 0).isLt
  have y1 : (y 1).val < 1024 := (y 1).isLt
  show _ = G6 (V c main_v13) (V c main_v4) ((win6_5.rect t).emb y)
  unfold G6
  rw [out6_5_at, e0, e1, run_dx V c t _ _ y0 y1]
  refine Finset.sum_congr rfl fun s _ => Finset.sum_congr rfl fun k _ => congrArg₂ (· * ·) rfl ?_
  exact at4_congr _ (by omega) (by omega) (by omega) (by omega)

end Cert.MlpIdeal.Value

end
-- ==== Proof.MlpRun.lean ====
/- The run of the feed-forward block and its backward pass: what the five result arrays hold at the end. -/
module

public import proofs.«01_k».proof.Proof.MlpFinal
public import proofs.«01_k».proof.Proof.MlpSpec
public import Idealize.ShloMosaic.Lib.StableHlo.Run

@[expose] public section

set_option maxRecDepth 16384

noncomputable section

namespace Cert.MlpIdeal.Value

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo Cert.Coord

local notation "𝕄" => MT nD τ sig Unit (Elt Ideal) ℕ (UR sig nD τ) ℕ

variable (m : (ℓ : Loc nD τ sig) → Buf (Elt Ideal) ℓ) (ρ : Dev nD → PrngReg)

section values

variable (c : Dev nD)

/-- What region 0 leaves. -/
theorem x8 : W2 m ρ c main_v8 = G0 (W1 m ρ c main_arg0) (W1 m ρ c main_v0) :=
  (W2_arr m ρ c 2).trans (final0_2 (V1 m ρ) c)

/-- What region 1 leaves. -/
theorem x90 : W3 m ρ c main_v9_0 = G1a (W2 m ρ c main_v8) (W2 m ρ c main_v4) :=
  (W3_arr m ρ c 2).trans (final1_2 (V2 m ρ) c)

/-- What region 1 leaves. -/
theorem x91 : W3 m ρ c main_v9_1 = G1b (W2 m ρ c main_v8) (W2 m ρ c main_v4) :=
  (W3_arr m ρ c 3).trans (final1_3 (V2 m ρ) c)

/-- What region 2 leaves. -/
theorem x100 : W4 m ρ c main_v10_0 = G2a (W3 m ρ c main_v9_1) (W3 m ρ c main_v7) :=
  (W4_arr m ρ c 7).trans (final2_7 (V3 m ρ) c)

/-- What region 2 leaves. -/
theorem x101 : W4 m ρ c main_v10_1 = G2b (W3 m ρ c main_v9_1) (W3 m ρ c main_v7) (W3 m ρ c main_arg0) (W3 m ρ c main_v1) :=
  (W4_arr m ρ c 8).trans (final2_8 (V3 m ρ) c)

/-- What region 3 leaves. -/
theorem x12 : W6 m ρ c main_v12 = G3 (W5 m ρ c main_v9_1) (W5 m ρ c main_v11) :=
  (W6_arr m ρ c 2).trans (final3_2 (V5 m ρ) c)

/-- What region 4 leaves. -/
theorem x13 : W7 m ρ c main_v13 = G4 (W6 m ρ c main_v11) (W6 m ρ c main_v7) (W6 m ρ c main_v9_0) :=
  (W7_arr m ρ c 3).trans (final4_3 (V6 m ρ) c)

/-- What region 5 leaves. -/
theorem x14 : W8 m ρ c main_v14 = G5 (W7 m ρ c main_v8) (W7 m ρ c main_v13) :=
  (W8_arr m ρ c 2).trans (final5_2 (V7 m ρ) c)

/-- What region 6 leaves. -/
theorem x15 : W9 m ρ c main_v15 = G6 (W8 m ρ c main_v13) (W8 m ρ c main_v4) :=
  (W9_arr m ρ c 5).trans (final6_5 (V8 m ρ) c)

/-- The first gain, as a row. -/
theorem v0_at (k : Fin 1024) : (W1 m ρ c main_v0 : Vec Ideal S1x1024 .f32) (ix2 (0 : Fin 1) k) = (m (c, main_arg1) : Vec Ideal S1024 .f32) (ix1 k) := by
  unfold W1
  simp only [hostOps0]
  after_results_simp
  pointwise

/-- The second gain, as a row. -/
theorem v1_at (k : Fin 1024) : (W1 m ρ c main_v1 : Vec Ideal S1x1024 .f32) (ix2 (0 : Fin 1) k) = (m (c, main_arg2) : Vec Ideal S1024 .f32) (ix1 k) := by
  unfold W1
  simp only [hostOps0]
  after_results_simp
  pointwise

/-- The first weight, cut by columns for the four chips. -/
theorem v4_at (s : Fin 4) (l : Fin 4) (k : Fin 1024) (n : Fin 1024) :
    (W1 m ρ c main_v4 : Vec Ideal S4x4x1024x1024 .bf16) (ix4 s l k n)
      = (m (c, main_arg3) : Vec Ideal S4x1024x4096 .f32) (ix3 l k (⟨s.val * 1024 + n.val, by omega⟩ : Fin 4096)) := by
  unfold W1
  simp only [hostOps0]
  after_results_simp
  pointwise

/-- The second weight, cut by rows for the four chips. -/
theorem v7_at (s : Fin 4) (l : Fin 4) (k : Fin 1024) (n : Fin 1024) :
    (W1 m ρ c main_v7 : Vec Ideal S4x4x1024x1024 .bf16) (ix4 s l k n)
      = (m (c, main_arg4) : Vec Ideal S4x4096x1024 .f32) (ix3 l (⟨s.val * 1024 + k.val, by omega⟩ : Fin 4096) n) := by
  unfold W1
  simp only [hostOps0]
  after_results_simp
  pointwise

/-- The gradient passed down. -/
theorem v11_eq : W5 m ρ c main_v11 = (m (c, main_arg5) : Vec Ideal S4224x1024 .f32) := by
  refine Eq.trans ?_ (W4_args m ρ c main_arg5 (by decide))
  unfold W5
  simp only [hostOps3]
  after_results_simp
  rfl

/-- The first weight's gradient, its columns put back together. -/
theorem v17_at (i : Fin 1024) (j : Fin 4096) :
    (W10 m ρ c main_v17 : Vec Ideal S1024x4096 .f32) (ix2 i j)
      = (W9 m ρ c main_v14 : Vec Ideal S4x1024x1024 .f32) (ix3 (⟨j.val / 1024, by omega⟩ : Fin 4) i (⟨j.val % 1024, by omega⟩ : Fin 1024)) := by
  unfold W10
  simp only [hostOps7]
  after_results_simp
  pointwise

/-! ## The arguments as functions of their coordinates -/

/-- The rows. -/
abbrev aH : ℕ → ℕ → EReal := at2 (a := 4224) (b := 1024) (m (c, main_arg0) : Vec Ideal S4224x1024 .f32)
/-- The first gain. -/
abbrev aG1 : ℕ → EReal := at1 (a := 1024) (m (c, main_arg1) : Vec Ideal S1024 .f32)
/-- The second gain. -/
abbrev aG2 : ℕ → EReal := at1 (a := 1024) (m (c, main_arg2) : Vec Ideal S1024 .f32)
/-- The layer's first weight. -/
abbrev aW1 : ℕ → ℕ → EReal := at3 (a := 4) (b := 1024) (c := 4096) (m (c, main_arg3) : Vec Ideal S4x1024x4096 .f32) 1
/-- The layer's second weight. -/
abbrev aW2 : ℕ → ℕ → EReal := at3 (a := 4) (b := 4096) (c := 1024) (m (c, main_arg4) : Vec Ideal S4x4096x1024 .f32) 1
/-- The gradient passed down. -/
abbrev aD : ℕ → ℕ → EReal := at2 (a := 4224) (b := 1024) (m (c, main_arg5) : Vec Ideal S4224x1024 .f32)

/-- The first gain's row. -/
theorem n_v0 {k : ℕ} (hk : k < 1024) : at2 (a := 1) (b := 1024) (W1 m ρ c main_v0) 0 k = aG1 m c k :=
  (at2_ix (a := 1) (b := 1024) (W1 m ρ c main_v0) (0 : Fin 1) ⟨k, hk⟩).trans ((v0_at m ρ c ⟨k, hk⟩).trans (at1_ix (a := 1024) (m (c, main_arg1)) ⟨k, hk⟩).symm)

/-- The second gain's row. -/
theorem n_v1 {k : ℕ} (hk : k < 1024) : at2 (a := 1) (b := 1024) (W1 m ρ c main_v1) 0 k = aG2 m c k :=
  (at2_ix (a := 1) (b := 1024) (W1 m ρ c main_v1) (0 : Fin 1) ⟨k, hk⟩).trans ((v1_at m ρ c ⟨k, hk⟩).trans (at1_ix (a := 1024) (m (c, main_arg2)) ⟨k, hk⟩).symm)

/-- The first weight's blocks. -/
theorem n_v4 {s k n : ℕ} (hs : s < 4) (hk : k < 1024) (hn : n < 1024) :
    at4 (a := 4) (b := 4) (c := 1024) (d := 1024) (W1 m ρ c main_v4) s 1 k n = aW1 m c k (1024 * s + n) := by
  rw [Nat.mul_comm]
  exact (at4_ix (a := 4) (b := 4) (c := 1024) (d := 1024) (W1 m ρ c main_v4) ⟨s, hs⟩ (1 : Fin 4) ⟨k, hk⟩ ⟨n, hn⟩).trans
    ((v4_at m ρ c ⟨s, hs⟩ 1 ⟨k, hk⟩ ⟨n, hn⟩).trans
      (at3_ix (a := 4) (b := 1024) (c := 4096) (m (c, main_arg3)) (1 : Fin 4) ⟨k, hk⟩ ⟨s * 1024 + n, by omega⟩).symm)

/-- The second weight's blocks. -/
theorem n_v7 {s k n : ℕ} (hs : s < 4) (hk : k < 1024) (hn : n < 1024) :
    at4 (a := 4) (b := 4) (c := 1024) (d := 1024) (W1 m ρ c main_v7) s 1 k n = aW2 m c (1024 * s + k) n := by
  rw [Nat.mul_comm]
  exact (at4_ix (a := 4) (b := 4) (c := 1024) (d := 1024) (W1 m ρ c main_v7) ⟨s, hs⟩ (1 : Fin 4) ⟨k, hk⟩ ⟨n, hn⟩).trans
    ((v7_at m ρ c ⟨s, hs⟩ 1 ⟨k, hk⟩ ⟨n, hn⟩).trans
      (at3_ix (a := 4) (b := 4096) (c := 1024) (m (c, main_arg4)) (1 : Fin 4) ⟨s * 1024 + k, by omega⟩ ⟨n, hn⟩).symm)

/-! ## What the regions leave, from the arguments -/

/-- The normalised rows. -/
theorem n_x8 {i k : ℕ} (hi : i < 4224) (hk : k < 1024) :
    at2 (a := 4224) (b := 1024) (W2 m ρ c main_v8) i k = Ffn.hn (aH m c) (aG1 m c) i k := by
  simp (discharger := decide) only [W1_of m, x8 m ρ c]
  exact (dif_pos ⟨hi, hk⟩).trans (congrArg (rms _ _) (n_v0 m ρ c hk))

/-- An entry of the first product. -/
theorem up_eq {i j : ℕ} (hi : i < 4224) (hj : j < 4096) : up (W2 m ρ c main_v8) (W2 m ρ c main_v4) i j = Ffn.U (aH m c) (aG1 m c) (aW1 m c) i j := by
  unfold up Ffn.U
  simp (discharger := decide) only [W2_of m]
  refine Finset.sum_congr rfl fun k hk => ?_
  have hk := Finset.mem_range.mp hk
  rw [n_x8 m ρ c hi hk, n_v4 m ρ c (by omega) hk (by omega), Nat.div_add_mod]

/-- The first product. -/
theorem n_x90 {i j : ℕ} (hi : i < 4224) (hj : j < 4096) :
    at2 (a := 4224) (b := 4096) (W3 m ρ c main_v9_0) i j = Ffn.U (aH m c) (aG1 m c) (aW1 m c) i j := by
  rw [x90]
  exact (dif_pos ⟨hi, hj⟩).trans (up_eq m ρ c hi hj)

/-- Its positive part squared. -/
theorem n_x91 {i j : ℕ} (hi : i < 4224) (hj : j < 4096) :
    at2 (a := 4224) (b := 4096) (W3 m ρ c main_v9_1) i j = Ffn.R (aH m c) (aG1 m c) (aW1 m c) i j := by
  rw [x91]
  exact (dif_pos ⟨hi, hj⟩).trans (congrArg (fun u : EReal => max u 0 * max u 0) (up_eq m ρ c hi hj))

/-- An entry of the second product. -/
theorem down_eq {i j : ℕ} (hi : i < 4224) (hj : j < 1024) :
    down (W3 m ρ c main_v9_1) (W3 m ρ c main_v7) i j = Ffn.D (aH m c) (aG1 m c) (aW1 m c) (aW2 m c) i j := by
  unfold down Ffn.D
  simp (discharger := decide) only [W2_of m, W3_of m]
  refine Eq.trans ?_ (sum_runs 4 1024 _).symm
  refine Finset.sum_congr rfl fun s hs => Finset.sum_congr rfl fun k hk => ?_
  have hs := Finset.mem_range.mp hs
  have hk := Finset.mem_range.mp hk
  rw [n_x91 m ρ c hi (by omega), n_v7 m ρ c hs hk hj]

/-- The second product. -/
theorem n_x100 (y : S4224x1024.Idx) :
    (W10 m ρ c main_v10_0 : Vec Ideal S4224x1024 .f32) y = Ffn.D (aH m c) (aG1 m c) (aW1 m c) (aW2 m c) (y 0).val (y 1).val := by
  simp (discharger := decide) only [W5_of m, W6_of m, W7_of m, W8_of m, W9_of m, W10_of m, x100 m ρ c]
  exact down_eq m ρ c (y 0).isLt (y 1).isLt

/-- What comes out. -/
theorem n_x101 (y : S4224x1024.Idx) :
    (W10 m ρ c main_v10_1 : Vec Ideal S4224x1024 .f32) y = Ffn.H (aH m c) (aG1 m c) (aG2 m c) (aW1 m c) (aW2 m c) (y 0).val (y 1).val := by
  simp (discharger := decide) only [W1_of m, W2_of m, W3_of m, W5_of m, W6_of m, W7_of m, W8_of m, W9_of m, W10_of m, x101 m ρ c]
  have e : ∀ k, k < 1024 → down (W3 m ρ c main_v9_1) (W3 m ρ c main_v7) (y 0).val k = Ffn.D (aH m c) (aG1 m c) (aW1 m c) (aW2 m c) (y 0).val k :=
    fun k hk => down_eq m ρ c (y 0).isLt hk
  simp (discharger := decide) only [W2_of m, W3_of m] at e
  unfold G2b Ffn.H
  rw [rms_congr _ _ e, e _ (y 1).isLt, n_v1 m ρ c (y 1).isLt]

/-- The second weight's gradient. -/
theorem n_x12 (y : S4096x1024.Idx) :
    (W10 m ρ c main_v12 : Vec Ideal S4096x1024 .f32) y = Ffn.DW2 (aH m c) (aG1 m c) (aW1 m c) (aD m c) (y 0).val (y 1).val := by
  simp (discharger := decide) only [W4_of m, W5_of m, W7_of m, W8_of m, W9_of m, W10_of m, x12 m ρ c, v11_eq m ρ c]
  change (∑ r ∈ Finset.range 4224, _ : EReal) = ∑ r ∈ Finset.range 4224, _
  refine Finset.sum_congr rfl fun r hr => ?_
  rw [n_x91 m ρ c (Finset.mem_range.mp hr) (y 0).isLt]

/-- The gradient before the square. -/
theorem n_x13 {i j : ℕ} (hi : i < 4224) (hj : j < 4096) :
    at2 (a := 4224) (b := 4096) (W7 m ρ c main_v13) i j = Ffn.DA (aH m c) (aG1 m c) (aW1 m c) (aW2 m c) (aD m c) i j := by
  simp (discharger := decide) only [W2_of m, W3_of m, W4_of m, W5_of m, W6_of m, x13 m ρ c, v11_eq m ρ c]
  refine (dif_pos ⟨hi, hj⟩).trans ?_
  unfold G4 Ffn.DA
  refine congrArg₂ (· * ·) (congrArg (fun u : EReal => cTwo * max u 0) (n_x90 m ρ c hi hj)) (Finset.sum_congr rfl fun k hk => congrArg _ ?_)
  refine (n_v7 m ρ c (show j / 1024 < 4 by omega) (show j % 1024 < 1024 by omega) (Finset.mem_range.mp hk)).trans ?_
  rw [Nat.div_add_mod]

/-- The first weight's gradient. -/
theorem n_x17 (y : S1024x4096.Idx) :
    (W10 m ρ c main_v17 : Vec Ideal S1024x4096 .f32) y = Ffn.DW1 (aH m c) (aG1 m c) (aW1 m c) (aW2 m c) (aD m c) (y 0).val (y 1).val := by
  have hy : (y 1).val < 4096 := (y 1).isLt
  rw [eq_ix2 y]
  refine (v17_at m ρ c (y 0) (y 1)).trans ?_
  simp (discharger := decide) only [W3_of m, W4_of m, W5_of m, W6_of m, W7_of m, W9_of m, x14 m ρ c]
  change (∑ r ∈ Finset.range 4224, _ : EReal) = ∑ r ∈ Finset.range 4224, _
  refine Finset.sum_congr rfl fun r hr => ?_
  have hr := Finset.mem_range.mp hr
  have e : 1024 * ((y 1).val / 1024) + (y 1).val % 1024 = (y 1).val := Nat.div_add_mod _ _
  refine congrArg₂ (· * ·) (n_x8 m ρ c hr (y 0).isLt) ?_
  show at2 (a := 4224) (b := 4096) (W7 m ρ c main_v13) r (1024 * ((y 1).val / 1024) + (y 1).val % 1024) = _
  rw [e]
  exact n_x13 m ρ c hr hy

/-- The rows' gradient. -/
theorem n_x15 (y : S4224x1024.Idx) :
    (W10 m ρ c main_v15 : Vec Ideal S4224x1024 .f32) y = Ffn.DX (aH m c) (aG1 m c) (aW1 m c) (aW2 m c) (aD m c) (y 0).val (y 1).val := by
  simp (discharger := decide) only [W2_of m, W3_of m, W4_of m, W5_of m, W6_of m, W7_of m, W8_of m, W10_of m, x15 m ρ c]
  unfold Ffn.DX
  change (∑ s ∈ Finset.range 4, _ : EReal) = _
  refine Eq.trans ?_ (sum_runs 4 1024 _).symm
  refine Finset.sum_congr rfl fun s hs => Finset.sum_congr rfl fun k hk => ?_
  have hs := Finset.mem_range.mp hs
  have hk := Finset.mem_range.mp hk
  rw [n_x13 m ρ c (y 0).isLt (by omega), n_v4 m ρ c hs (y 1).isLt hk]

end values

set_option backward.isDefEq.respectTransparency.types false in
/-- The run: every buffer of every core ends as the last valuation says, and every counter at zero. -/
theorem run_all : θ_run defs (onTc (τ := τ) (main (F := Ideal))) ⟨m, fun _ => 0, ρ⟩ (fun r => (∀ c : Dev nD, ∀ b ∈ Pipeline.ucRefs τ sig,
      r.2.mem (((c : Thread nD τ)).1, b) = W10 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

end Cert.MlpIdeal.Value

end
-- ==== Proof.MlpRefVal.lean ====
/- The reference's results, each entry a sum of products of the arguments' entries. -/
module

public import proofs.«01_k».proof.Proof.Gen.MlpRefIdeal.Run
public import proofs.«01_k».proof.Proof.MlpSpec

@[expose] public section

set_option maxRecDepth 16384

noncomputable section

namespace Cert.MlpRefIdeal.Value

open Cert.MlpRefIdeal Cert.MlpRefIdeal.Gen Idealize.ShloMosaic Idealize.ShloMosaic.TcCoe Idealize.SL.Sem Idealize.ShloMosaic.StableHlo
open Cert.Coord Cert.MlpIdeal.Value

/-! ## The reference's steps -/

/-- Rows divided by their root mean square and multiplied by a gain. -/
def rRms (x : FVec Ideal S4224x1024 .f32) (g : FVec Ideal S1024 .f32) : FVec Ideal S4224x1024 .f32 :=
  mulf (mulf x (broadcastInDim S4224x1024 ![0, 1] bcast_S4224x1_S4224x1024_0_1 (Host.rsqrt (addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (broadcastInDim S1x1024 ![1] bcast_S1024_S1x1024_1 g))

/-- The layer's first weight. -/
def rW1 (w : FVec Ideal S4x1024x4096 .f32) : FVec Ideal S1024x4096 .f32 :=
  shapeCast _ (extractStridedSlice S1x1024x4096 ![1, 0, 0] w slices_S4x1024x4096_S1x1024x4096_1_0_0) shapeCasts_S1x1024x4096_S1024x4096

/-- The layer's second weight. -/
def rW2 (w : FVec Ideal S4x4096x1024 .f32) : FVec Ideal S4096x1024 .f32 :=
  shapeCast _ (extractStridedSlice S1x4096x1024 ![1, 0, 0] w slices_S4x4096x1024_S1x4096x1024_1_0_0) shapeCasts_S1x4096x1024_S4096x1024

/-- The positive part. -/
def rPos (u : FVec Ideal S4224x4096 .f32) : FVec Ideal S4224x4096 .f32 :=
  maximumf u (broadcastInDim S4224x4096 ![] bcast_S_S4224x4096 (constant S_ .f32 0x00000000#32))

/-- The first product. -/
def rU (x : FVec Ideal S4224x1024 .f32) (w : FVec Ideal S1024x4096 .f32) : FVec Ideal S4224x4096 .f32 :=
  Host.dotGeneral (F := Ideal) (φ₁ := .f32) (φ₂ := .f32) dot_S4224x1024_S1024x4096_S4224x4096_1_0_0_1_n_n none x w

/-- The second product. -/
def rD (u : FVec Ideal S4224x4096 .f32) (w : FVec Ideal S4096x1024 .f32) : FVec Ideal S4224x1024 .f32 :=
  Host.dotGeneral (F := Ideal) (φ₁ := .f32) (φ₂ := .f32) dot_S4224x4096_S4096x1024_S4224x1024_1_0_0_1_n_n none u w

/-- The gradient before the square. -/
def rDA (u : FVec Ideal S4224x4096 .f32) (d : FVec Ideal S4224x1024 .f32) (w : FVec Ideal S4096x1024 .f32) : FVec Ideal S4224x4096 .f32 :=
  select (cmpf .ogt u (broadcastInDim S4224x4096 ![] bcast_S_S4224x4096 (constant S_ .f32 0x00000000#32)))
    (mulf (Host.dotGeneral (F := Ideal) (φ₁ := .f32) (φ₂ := .f32) dot_S4224x1024_S4096x1024_S4224x4096_1_1_0_0_n_n none d w)
      (mulf (broadcastInDim S4224x4096 ![] bcast_S_S4224x4096 (constant S_ .f32 0x40000000#32)) (rPos u)))
    (broadcastInDim S4224x4096 ![] bcast_S_S4224x4096 (constant S_ .f32 0x00000000#32))

/-- The rows' gradient. -/
def rDX (da : FVec Ideal S4224x4096 .f32) (w : FVec Ideal S1024x4096 .f32) : FVec Ideal S4224x1024 .f32 :=
  Host.dotGeneral (F := Ideal) (φ₁ := .f32) (φ₂ := .f32) dot_S4224x4096_S1024x4096_S4224x1024_1_1_0_0_n_n none da w

/-- The first weight's gradient. -/
def rDW1 (da : FVec Ideal S4224x4096 .f32) (x : FVec Ideal S4224x1024 .f32) : FVec Ideal S1024x4096 .f32 :=
  transpose S1024x4096 [1, 0] (Host.dotGeneral (F := Ideal) (φ₁ := .f32) (φ₂ := .f32) dot_S4224x4096_S4224x1024_S4096x1024_0_0_1_1_n_n none da x) transposes_S4096x1024_S1024x4096_1_0

/-- The second weight's gradient. -/
def rDW2 (d : FVec Ideal S4224x1024 .f32) (u : FVec Ideal S4224x4096 .f32) : FVec Ideal S4096x1024 .f32 :=
  transpose S4096x1024 [1, 0] (Host.dotGeneral (F := Ideal) (φ₁ := .f32) (φ₂ := .f32) dot_S4224x1024_S4224x4096_S1024x4096_0_0_1_1_n_n none d u) transposes_S1024x4096_S4096x1024_1_0

/-- A normalised row's entry. -/
theorem rRms_at (x : FVec Ideal S4224x1024 .f32) (g : FVec Ideal S1024 .f32) (i : Fin 4224) (k : Fin 1024) :
    rRms x g (ix2 i k) = rms (at2 (a := 4224) (b := 1024) x i.val) (x (ix2 i k)) (at1 (a := 1024) g k.val) := by
  unfold rms
  rw [Finset.sum_range, at1_ix g k]
  simp only [fun k : Fin 1024 => at2_ix x i k]
  unfold rRms
  pointwise

/-- The layer is the second of four. -/
theorem rW1_at (w : FVec Ideal S4x1024x4096 .f32) (k : Fin 1024) (j : Fin 4096) : rW1 w (ix2 k j) = w (ix3 (1 : Fin 4) k j) := by
  unfold rW1
  pointwise

/-- The layer is the second of four. -/
theorem rW2_at (w : FVec Ideal S4x4096x1024 .f32) (k : Fin 4096) (j : Fin 1024) : rW2 w (ix2 k j) = w (ix3 (1 : Fin 4) k j) := by
  unfold rW2
  pointwise

/-- An entry of the first product. -/
theorem rU_at (x : FVec Ideal S4224x1024 .f32) (w : FVec Ideal S1024x4096 .f32) (i : Fin 4224) (j : Fin 4096) :
    rU x w (ix2 i j) = ∑ k : Fin 1024, x (ix2 i k) * w (ix2 k j) := by
  unfold rU
  pointwise

/-- An entry of the second product. -/
theorem rD_at (x : FVec Ideal S4224x4096 .f32) (w : FVec Ideal S4096x1024 .f32) (i : Fin 4224) (j : Fin 1024) :
    rD x w (ix2 i j) = ∑ k : Fin 4096, x (ix2 i k) * w (ix2 k j) := by
  unfold rD
  pointwise

/-- The derivative of the square of the positive part: zero where the argument is not positive, twice the argument elsewhere. -/
theorem rDA_at (u : FVec Ideal S4224x4096 .f32) (d : FVec Ideal S4224x1024 .f32) (w : FVec Ideal S4096x1024 .f32) (i : Fin 4224) (j : Fin 4096) :
    rDA u d w (ix2 i j) = cTwo * max (u (ix2 i j)) 0 * ∑ k : Fin 1024, d (ix2 i k) * w (ix2 j k) := by
  refine Eq.trans (b := if 0 < u (ix2 i j) then (∑ k : Fin 1024, d (ix2 i k) * w (ix2 j k)) * (cTwo * max (u (ix2 i j)) 0) else 0) ?_ ?_
  · unfold rDA rPos
    pointwise
  · split
    · exact mul_comm _ _
    · rename_i h
      rw [max_eq_right (not_lt.mp h), mul_zero, zero_mul]

/-- An entry of the rows' gradient. -/
theorem rDX_at (x : FVec Ideal S4224x4096 .f32) (w : FVec Ideal S1024x4096 .f32) (i : Fin 4224) (j : Fin 1024) :
    rDX x w (ix2 i j) = ∑ k : Fin 4096, x (ix2 i k) * w (ix2 j k) := by
  unfold rDX
  pointwise

/-- An entry of the first weight's gradient. -/
theorem rDW1_at (da : FVec Ideal S4224x4096 .f32) (x : FVec Ideal S4224x1024 .f32) (i : Fin 1024) (j : Fin 4096) :
    rDW1 da x (ix2 i j) = ∑ k : Fin 4224, da (ix2 k j) * x (ix2 k i) := by
  unfold rDW1
  pointwise

/-- An entry of the second weight's gradient. -/
theorem rDW2_at (d : FVec Ideal S4224x1024 .f32) (u : FVec Ideal S4224x4096 .f32) (i : Fin 4096) (j : Fin 1024) :
    rDW2 d u (ix2 i j) = ∑ k : Fin 4224, d (ix2 k j) * u (ix2 k i) := by
  unfold rDW2
  pointwise

/-! ## The results -/

variable (a0 : FVec Ideal S4224x1024 .f32) (a1 a2 : FVec Ideal S1024 .f32) (a3 : FVec Ideal S4x1024x4096 .f32) (a4 : FVec Ideal S4x4096x1024 .f32)
  (a5 : FVec Ideal S4224x1024 .f32)

/-- The normalised rows. -/
def oHn := rRms a0 a1
/-- The first product. -/
def oU := rU (oHn a0 a1) (rW1 a3)
/-- Its positive part squared. -/
def oR := mulf (rPos (oU a0 a1 a3)) (rPos (oU a0 a1 a3))
/-- The second product. -/
def oD := rD (oR a0 a1 a3) (rW2 a4)
/-- What comes out. -/
def oH := addf a0 (rRms (oD a0 a1 a3 a4) a2)
/-- The gradient before the square. -/
def oDA := rDA (oU a0 a1 a3) a5 (rW2 a4)

/-- The normalised rows, entry by entry. -/
theorem oHn_at (i : Fin 4224) (k : Fin 1024) : oHn a0 a1 (ix2 i k) = Ffn.hn (at2 (a := 4224) (b := 1024) a0) (at1 (a := 1024) a1) i.val k.val := by
  unfold oHn Ffn.hn
  rw [rRms_at, at2_ix a0 i k]

/-- The first product, entry by entry. -/
theorem oU_at (i : Fin 4224) (j : Fin 4096) : oU a0 a1 a3 (ix2 i j)
    = Ffn.U (at2 (a := 4224) (b := 1024) a0) (at1 (a := 1024) a1) (at3 (a := 4) (b := 1024) (c := 4096) a3 1) i.val j.val := by
  unfold oU Ffn.U
  rw [rU_at]
  exact sum_fin _ _ fun k => congrArg₂ (· * ·) (oHn_at a0 a1 i k) ((rW1_at a3 k j).trans (at3_ix a3 (1 : Fin 4) k j).symm)

/-- Its positive part squared, entry by entry. -/
theorem oR_at (i : Fin 4224) (j : Fin 4096) : oR a0 a1 a3 (ix2 i j)
    = Ffn.R (at2 (a := 4224) (b := 1024) a0) (at1 (a := 1024) a1) (at3 (a := 4) (b := 1024) (c := 4096) a3 1) i.val j.val := by
  refine Eq.trans (b := max (oU a0 a1 a3 (ix2 i j)) 0 * max (oU a0 a1 a3 (ix2 i j)) 0) ?_ ?_
  · unfold oR rPos
    pointwise
  · unfold Ffn.R
    rw [oU_at]

/-- The second product, entry by entry. -/
theorem oD_at (i : Fin 4224) (j : Fin 1024) : oD a0 a1 a3 a4 (ix2 i j)
    = Ffn.D (at2 (a := 4224) (b := 1024) a0) (at1 (a := 1024) a1) (at3 (a := 4) (b := 1024) (c := 4096) a3 1) (at3 (a := 4) (b := 4096) (c := 1024) a4 1) i.val j.val := by
  unfold oD Ffn.D
  rw [rD_at]
  exact sum_fin _ _ fun k => congrArg₂ (· * ·) (oR_at a0 a1 a3 i k) ((rW2_at a4 k j).trans (at3_ix a4 (1 : Fin 4) k j).symm)

/-- What comes out, entry by entry. -/
theorem oH_at (i : Fin 4224) (j : Fin 1024) : oH a0 a1 a2 a3 a4 (ix2 i j)
    = Ffn.H (at2 (a := 4224) (b := 1024) a0) (at1 (a := 1024) a1) (at1 (a := 1024) a2) (at3 (a := 4) (b := 1024) (c := 4096) a3 1) (at3 (a := 4) (b := 4096) (c := 1024) a4 1) i.val j.val := by
  refine Eq.trans (b := a0 (ix2 i j) + rRms (oD a0 a1 a3 a4) a2 (ix2 i j)) rfl ?_
  unfold Ffn.H
  rw [rRms_at, oD_at, at2_ix a0 i j]
  refine congrArg (_ + ·) (rms_congr _ _ (fun k hk => ?_) _ _)
  exact (at2_ix (oD a0 a1 a3 a4) i (⟨k, hk⟩ : Fin 1024)).trans (oD_at a0 a1 a3 a4 i ⟨k, hk⟩)

/-- The gradient before the square, entry by entry. -/
theorem oDA_at (i : Fin 4224) (j : Fin 4096) : oDA a0 a1 a3 a4 a5 (ix2 i j)
    = Ffn.DA (at2 (a := 4224) (b := 1024) a0) (at1 (a := 1024) a1) (at3 (a := 4) (b := 1024) (c := 4096) a3 1) (at3 (a := 4) (b := 4096) (c := 1024) a4 1)
      (at2 (a := 4224) (b := 1024) a5) i.val j.val := by
  unfold oDA Ffn.DA
  rw [rDA_at, oU_at]
  refine congrArg (_ * ·) (sum_fin _ _ fun k => congrArg₂ (· * ·) (at2_ix a5 i k).symm ((rW2_at a4 j k).trans (at3_ix a4 (1 : Fin 4) j k).symm))

/-- The rows' gradient, entry by entry. -/
theorem oDX_at (i : Fin 4224) (j : Fin 1024) : rDX (oDA a0 a1 a3 a4 a5) (rW1 a3) (ix2 i j)
    = Ffn.DX (at2 (a := 4224) (b := 1024) a0) (at1 (a := 1024) a1) (at3 (a := 4) (b := 1024) (c := 4096) a3 1) (at3 (a := 4) (b := 4096) (c := 1024) a4 1)
      (at2 (a := 4224) (b := 1024) a5) i.val j.val := by
  unfold Ffn.DX
  rw [rDX_at]
  exact sum_fin _ _ fun k => congrArg₂ (· * ·) (oDA_at a0 a1 a3 a4 a5 i k) ((rW1_at a3 j k).trans (at3_ix a3 (1 : Fin 4) j k).symm)

/-- The first weight's gradient, entry by entry. -/
theorem oDW1_at (i : Fin 1024) (j : Fin 4096) : rDW1 (oDA a0 a1 a3 a4 a5) (oHn a0 a1) (ix2 i j)
    = Ffn.DW1 (at2 (a := 4224) (b := 1024) a0) (at1 (a := 1024) a1) (at3 (a := 4) (b := 1024) (c := 4096) a3 1) (at3 (a := 4) (b := 4096) (c := 1024) a4 1)
      (at2 (a := 4224) (b := 1024) a5) i.val j.val := by
  unfold Ffn.DW1
  rw [rDW1_at]
  exact sum_fin _ _ fun k => (mul_comm _ _).trans (congrArg₂ (· * ·) (oHn_at a0 a1 k i) (oDA_at a0 a1 a3 a4 a5 k j))

/-- The second weight's gradient, entry by entry. -/
theorem oDW2_at (i : Fin 4096) (j : Fin 1024) : rDW2 a5 (oR a0 a1 a3) (ix2 i j)
    = Ffn.DW2 (at2 (a := 4224) (b := 1024) a0) (at1 (a := 1024) a1) (at3 (a := 4) (b := 1024) (c := 4096) a3 1) (at2 (a := 4224) (b := 1024) a5) i.val j.val := by
  unfold Ffn.DW2
  rw [rDW2_at]
  exact sum_fin _ _ fun k => (mul_comm _ _).trans (congrArg₂ (· * ·) (oR_at a0 a1 a3 k i) (at2_ix a5 k j).symm)

/-- The run: each result buffer holds the steps above composed, the arguments unchanged. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = oH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v25) = oD (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v48) = rDX (oDA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (rW1 (m ((c.tc : Thread nD τ).loc main_arg3)))
      ∧ r.2.mem ((c.tc : Thread nD τ).loc main_v47) = rDW1 (oDA (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (oHn (m ((c.tc : Thread nD τ).loc main_arg0)) (m ((c.tc : Thread nD τ).loc main_arg1)))
      ∧ r.2.mem ((c.tc : Thread nD τ).loc main_v41) = rDW2 (m ((c.tc : Thread nD τ).loc main_arg5)) (oR (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => h c) (run (F := Ideal) m ρ)

end Cert.MlpRefIdeal.Value

end
-- ==== Proof.MlpMatch.lean ====
/- The feed-forward block and its backward pass against the reference: the frames and the equality of the results. -/
module

public import proofs.«01_k».proof.Defs
public import proofs.«01_k».proof.Proof.Gen.Mlp.Frame
public import proofs.«01_k».proof.Proof.MlpRun
public import proofs.«01_k».proof.Proof.MlpRefVal
public import Idealize.ShloMosaic.Adequacy
public import Idealize.ShloMosaic.Init

@[expose] public section

noncomputable section

namespace Cert.MlpMatch

open Idealize.ShloMosaic Idealize.ShloMosaic.TcCoe Idealize.SL.Sem Cert.Coord

/-- The kernel runs and ends with its arguments unchanged and every counter at zero. -/
theorem frame_mlp : Cert.quiescent_Mlp := fun m ρ _ => Cert.Mlp.Gen.frame m ρ

/-- So does the same program over the extended reals. -/
theorem frame_mlpIdeal : Cert.quiescent_MlpIdeal := fun m ρ _ => Cert.MlpIdeal.Gen.frame m ρ

/-- So does the reference. -/
theorem frame_mlpRef : Cert.quiescent_MlpRefIdeal := fun m ρ _ =>
  (θ_run Cert.MlpRefIdeal.defs _ _).mono (fun r h => ⟨fun c => (h c).2.2.2.2.2, sem_eq_zero_of_no_sems (by decide) r.2⟩)
    (Cert.MlpRefIdeal.Value.run (F := Ideal) m ρ)

/-- The kernel's five results, named, with its arguments unchanged. -/
theorem run_kernel (m : (ℓ : Loc Cert.MlpIdeal.nD Cert.MlpIdeal.τ Cert.MlpIdeal.sig) → Buf (Elt Ideal) ℓ) (ρ : Dev Cert.MlpIdeal.nD → PrngReg) :
    θ_run (Cert.MlpIdeal.defs (F := Ideal)) (onTc (τ := Cert.MlpIdeal.τ) (Cert.MlpIdeal.main (F := Ideal))) ⟨m, fun _ => 0, ρ⟩ (fun r => ∀ c : Dev Cert.MlpIdeal.nD,
      r.2.mem ((c.tc : Thread Cert.MlpIdeal.nD Cert.MlpIdeal.τ).loc Cert.MlpIdeal.main_v10_1) = Cert.MlpIdeal.Gen.W10 m ρ c Cert.MlpIdeal.main_v10_1
      ∧ r.2.mem ((c.tc : Thread Cert.MlpIdeal.nD Cert.MlpIdeal.τ).loc Cert.MlpIdeal.main_v10_0) = Cert.MlpIdeal.Gen.W10 m ρ c Cert.MlpIdeal.main_v10_0
      ∧ r.2.mem ((c.tc : Thread Cert.MlpIdeal.nD Cert.MlpIdeal.τ).loc Cert.MlpIdeal.main_v15) = Cert.MlpIdeal.Gen.W10 m ρ c Cert.MlpIdeal.main_v15
      ∧ r.2.mem ((c.tc : Thread Cert.MlpIdeal.nD Cert.MlpIdeal.τ).loc Cert.MlpIdeal.main_v17) = Cert.MlpIdeal.Gen.W10 m ρ c Cert.MlpIdeal.main_v17
      ∧ r.2.mem ((c.tc : Thread Cert.MlpIdeal.nD Cert.MlpIdeal.τ).loc Cert.MlpIdeal.main_v12) = Cert.MlpIdeal.Gen.W10 m ρ c Cert.MlpIdeal.main_v12
      ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)) :=
  (θ_run Cert.MlpIdeal.defs _ _).mono (fun r h c => ⟨h.1 c _ (Cert.MlpIdeal.Gen.mem_uc Cert.MlpIdeal.main_v10_1 (by decide)),
    h.1 c _ (Cert.MlpIdeal.Gen.mem_uc Cert.MlpIdeal.main_v10_0 (by decide)),
    h.1 c _ (Cert.MlpIdeal.Gen.mem_uc Cert.MlpIdeal.main_v15 (by decide)),
    h.1 c _ (Cert.MlpIdeal.Gen.mem_uc Cert.MlpIdeal.main_v17 (by decide)),
    h.1 c _ (Cert.MlpIdeal.Gen.mem_uc Cert.MlpIdeal.main_v12 (by decide)),
    (h.1 c _ (Cert.MlpIdeal.Gen.mem_uc Cert.MlpIdeal.main_arg0 (by decide))).trans (Cert.MlpIdeal.Gen.W10_main_arg0 m ρ c),
    (h.1 c _ (Cert.MlpIdeal.Gen.mem_uc Cert.MlpIdeal.main_arg1 (by decide))).trans (Cert.MlpIdeal.Gen.W10_main_arg1 m ρ c),
    (h.1 c _ (Cert.MlpIdeal.Gen.mem_uc Cert.MlpIdeal.main_arg2 (by decide))).trans (Cert.MlpIdeal.Gen.W10_main_arg2 m ρ c),
    (h.1 c _ (Cert.MlpIdeal.Gen.mem_uc Cert.MlpIdeal.main_arg3 (by decide))).trans (Cert.MlpIdeal.Gen.W10_main_arg3 m ρ c),
    (h.1 c _ (Cert.MlpIdeal.Gen.mem_uc Cert.MlpIdeal.main_arg4 (by decide))).trans (Cert.MlpIdeal.Gen.W10_main_arg4 m ρ c),
    (h.1 c _ (Cert.MlpIdeal.Gen.mem_uc Cert.MlpIdeal.main_arg5 (by decide))).trans (Cert.MlpIdeal.Gen.W10_main_arg5 m ρ c)⟩)
    (Cert.MlpIdeal.Value.run_all m ρ)

/-- The two programs' results agree. -/
theorem results_agree : Cert.algebraic_MlpIdeal_MlpRefIdeal := fun m ρ m' ρ' _ hagree => by
  refine ⟨fun c => Cert.MlpIdeal.Gen.W10 m ρ c Cert.MlpIdeal.main_v10_1,
    fun c => Cert.MlpIdeal.Gen.W10 m ρ c Cert.MlpIdeal.main_v10_0,
    fun c => Cert.MlpIdeal.Gen.W10 m ρ c Cert.MlpIdeal.main_v15,
    fun c => Cert.MlpIdeal.Gen.W10 m ρ c Cert.MlpIdeal.main_v17,
    fun c => Cert.MlpIdeal.Gen.W10 m ρ c Cert.MlpIdeal.main_v12, run_kernel m ρ, ?_⟩
  refine (θ_run Cert.MlpRefIdeal.defs _ _).mono (fun r h c => ?_) (Cert.MlpRefIdeal.Value.run_steps m' ρ')
  obtain ⟨e0, e1, e2, e3, e4, e5⟩ := hagree c
  obtain ⟨h0, h1, h2, h3, h4, hargs⟩ := h c
  refine ⟨h0.trans (funext fun y => ?_), h1.trans (funext fun y => ?_), h2.trans (funext fun y => ?_), h3.trans (funext fun y => ?_), h4.trans (funext fun y => ?_), hargs⟩
  · rw [e0, e1, e2, e3, e4, eq_ix2 y]
    exact (Cert.MlpRefIdeal.Value.oH_at _ _ _ _ _ (y 0) (y 1)).trans (Cert.MlpIdeal.Value.n_x101 m ρ c (ix2 (y 0) (y 1))).symm
  · rw [e0, e1, e3, e4, eq_ix2 y]
    exact (Cert.MlpRefIdeal.Value.oD_at _ _ _ _ (y 0) (y 1)).trans (Cert.MlpIdeal.Value.n_x100 m ρ c (ix2 (y 0) (y 1))).symm
  · rw [e0, e1, e3, e4, e5, eq_ix2 y]
    exact (Cert.MlpRefIdeal.Value.oDX_at _ _ _ _ _ (y 0) (y 1)).trans (Cert.MlpIdeal.Value.n_x15 m ρ c (ix2 (y 0) (y 1))).symm
  · rw [e0, e1, e3, e4, e5, eq_ix2 y]
    exact (Cert.MlpRefIdeal.Value.oDW1_at _ _ _ _ _ (y 0) (y 1)).trans (Cert.MlpIdeal.Value.n_x17 m ρ c (ix2 (y 0) (y 1))).symm
  · rw [e0, e1, e3, e5, eq_ix2 y]
    exact (Cert.MlpRefIdeal.Value.oDW2_at _ _ _ _ (y 0) (y 1)).trans (Cert.MlpIdeal.Value.n_x12 m ρ c (ix2 (y 0) (y 1))).symm

end Cert.MlpMatch

end
-- ==== Proof.ScanFwd.lean ====
/- One block of the forward scan: what the loop over the eight-row tiles leaves in the output block and in the
   carried scratch, and the body's triple with both named. -/
module

public import proofs.«01_k».proof.Proof.Gen.ScanIdeal.Loops
public import proofs.«01_k».proof.Proof.Gen.ScanIdeal.Points
public import proofs.«01_k».proof.Proof.Gen.ScanIdeal.Regions
public import Idealize.ShloMosaic.Lib.Pointwise
public import Idealize.ShloMosaic.Lib.WritesUnit
public import Idealize.ShloMosaic.Lib.VecWindow
public import Idealize.ShloMosaic.Lib.WholeRead
public import Idealize.ShloMosaic.Lib.Tactic

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight rows of a block from row `8k` on (`k` below 66). -/
def tile (x : Vec F S528x1280 .f32) (k : ℕ) : Vec F S8x1280 .f32 := fun y =>
  x (ix2 (n0 := 528) (n1 := 1280) ⟨(8 * k + (y 0).val) % 528, Nat.mod_lt _ (by decide)⟩ (y 1))

/-- The row numbers of a tile, as the kernel makes them. -/
def rows8 : IVec S8x1 32 := iota .tc S8x1 32 [0] iota_S8x1_d0_w32

/-- The eight results of one tile, from its decays, its inputs and the carried row. -/
def tileOut (a u g : Vec F S8x1280 .f32) : Vec F S8x1280 .f32 :=
  k0_pay2 g (k0_pay8 rows8 a u) (k0_pay9 rows8 a) (k0_pay10 rows8) (k0_pay11 rows8 a u)

/-- The last row of one tile's results, on all eight rows: what the tile hands on. -/
def tileCarry (a u g : Vec F S8x1280 .f32) : Vec F S8x1280 .f32 :=
  k0_pay3 g (k0_pay8 rows8 a u) (k0_pay9 rows8 a) (k0_pay10 rows8) (k0_pay11 rows8 a u)

/-- What is carried into tile `k` of a block. -/
def carryK (x0 x1 : Vec F S528x1280 .f32) (init : Vec F S8x1280 .f32) : ℕ → Vec F S8x1280 .f32
  | 0 => init
  | k + 1 => tileCarry (tile x0 k) (tile x1 k) (carryK x0 x1 init k)

/-- The block of results: row `r` is row `r mod 8` of tile `r / 8`. -/
def out0 (x0 x1 : Vec F S528x1280 .f32) (init : Vec F S8x1280 .f32) : Vec F S528x1280 .f32 := fun y =>
  tileOut (tile x0 ((y 0).val / 8)) (tile x1 ((y 0).val / 8)) (carryK x0 x1 init ((y 0).val / 8))
    (ix2 (n0 := 8) (n1 := 1280) ⟨(y 0).val % 8, Nat.mod_lt _ (by decide)⟩ (y 1))

/-- The scratch a block leaves for the next. -/
def sout0 (x0 x1 : Vec F S528x1280 .f32) (init : Vec F S8x1280 .f32) : Vec F S8x1280 .f32 :=
  k0_pay4 (carryK x0 x1 init 66)

/-- The loop has 66 trips. -/
theorem trips0 : k0_t1_loop.trips = 66 := by decide +kernel

/-- A load of trip `k`'s rectangle from a whole block is that tile. -/
theorem ld_tile {arg : Memref sig .tc .vmem S528x1280 .f32} (harg : arg.IsWhole) (x : Vec F S528x1280 .f32)
    (k : Fin k0_t1_loop.trips) :
    arg.view.readAt (Elt F) (Rect.unit (s := S528x1280) (k0_off1 k) S8x1280.size (k0_off1_inb k)).toLoadRect (harg.unread x)
      = tile x k.val := by
  have hk : k.val < 66 := lt_of_lt_of_eq k.isLt trips0
  funext y
  rw [harg.readAt_unread]
  unfold tile
  refine congrArg x (funext fun a => Fin.ext ?_)
  have ho := k0_off1_eq k
  match a with
  | ⟨0, _⟩ =>
    show (k0_off1 k) 0 + 1 * (y 0).val = (8 * k.val + (y 0).val) % 528
    have hy : (y 0).val < 8 := (y 0).isLt
    have h0 : k0_off1 k 0 = 8 * k.val := congrFun ho 0
    rw [Nat.mod_eq_of_lt (by omega)]; omega
  | ⟨1, _⟩ =>
    show (k0_off1 k) 1 + 1 * (y 1).val = (y 1).val
    have h1 : k0_off1 k 1 = 0 := congrFun ho 1
    omega

section Trip

variable (𝒱 : Variants) (c : Dev nD) (bd : Option 𝒱.V) (i : grid0.Coords)
  (arg1 : Memref sig .tc .vmem S528x1280 .f32) (harg1 : arg1.IsWhole) (arg2 : Memref sig .tc .vmem S528x1280 .f32) (harg2 : arg2.IsWhole)
  (arg3 : Memref sig .tc .vmem S528x1280 .f32) (harg3 : arg3.IsWhole) (arg4 : Memref sig .tc .vmem S8x1280 .f32) (harg4 : arg4.IsWhole)
  (x0 x1 : Vec F S528x1280 .f32) (init : Vec F S8x1280 .f32)

/-- One trip yields the tile's carry. -/
theorem tripR0 (k : Fin k0_t1_loop.trips) (acc : Vec F S8x1280 .f32) :
    tripR_k0_t1 𝒱 c bd i arg1 harg1 arg2 harg2 arg3 harg3 arg4 harg4 rows8 (harg1.unread x0) (harg2.unread x1) k acc
      = tileCarry (tile x0 k.val) (tile x1 k.val) acc := by
  rw [← ld_tile harg1 x0 k, ← ld_tile harg2 x1 k]
  unfold tripR_k0_t1 trip_k0_t1
  rfl

/-- One trip writes the tile's results at its rows. -/
theorem tripL0 (k : Fin k0_t1_loop.trips) (acc : Vec F S8x1280 .f32) :
    tripL_k0_t1 𝒱 c bd i arg1 harg1 arg2 harg2 arg3 harg3 arg4 harg4 rows8 (harg1.unread x0) (harg2.unread x1) k acc
      = [⟨Rect.unit (s := S528x1280) (k0_off1 k) S8x1280.size (k0_off1_inb k), tileOut (tile x0 k.val) (tile x1 k.val) acc⟩] := by
  rw [← ld_tile harg1 x0 k, ← ld_tile harg2 x1 k]
  unfold tripL_k0_t1 trip_k0_t1
  rfl

/-- The loop's state before trip `k`. -/
abbrev st0 (k : ℕ) : (Vec F S8x1280 .f32) × List (View.Piece (Elt F) S528x1280 .f32) :=
  st_k0_t1 𝒱 c bd i arg1 harg1 arg2 harg2 arg3 harg3 arg4 harg4 rows8 (harg1.unread x0) (harg2.unread x1) init k

/-- Before trip `k` the carried value is `carryK`'s. -/
theorem st0_fst : ∀ k : ℕ, k ≤ 66 →
    (st0 𝒱 c bd i arg1 harg1 arg2 harg2 arg3 harg3 arg4 harg4 x0 x1 init k).1 = carryK x0 x1 init k
  | 0, _ => rfl
  | k + 1, hk => by
    have h := st_k0_t1_succ 𝒱 c bd i arg1 harg1 arg2 harg2 arg3 harg3 arg4 harg4 rows8 (harg1.unread x0) (harg2.unread x1) init
      ⟨k, lt_of_lt_of_eq (by omega : k < 66) trips0.symm⟩
    show (st_k0_t1 𝒱 c bd i arg1 harg1 arg2 harg2 arg3 harg3 arg4 harg4 rows8 (harg1.unread x0) (harg2.unread x1) init (k + 1)).1 = _
    rw [h]
    show tripR_k0_t1 𝒱 c bd i arg1 harg1 arg2 harg2 arg3 harg3 arg4 harg4 rows8 (harg1.unread x0) (harg2.unread x1) _ _ = _
    rw [tripR0, st0_fst k (by omega)]
    rfl

/-- Before trip `k` the output's rows below `8k` hold the results. -/
theorem st0_read (G : arg3.view.ty.Contents (Elt F)) : ∀ k : ℕ, k ≤ 66 → ∀ y : S528x1280.Idx, (y 0).val < 8 * k →
    arg3.view.read (Elt F) (arg3.view.writes (Elt F) G
        (st0 𝒱 c bd i arg1 harg1 arg2 harg2 arg3 harg3 arg4 harg4 x0 x1 init k).2) y
      = out0 x0 x1 init y
  | 0, _, y, hy => by omega
  | k + 1, hk, y, hy => by
    have h := st_k0_t1_succ 𝒱 c bd i arg1 harg1 arg2 harg2 arg3 harg3 arg4 harg4 rows8 (harg1.unread x0) (harg2.unread x1) init
      ⟨k, lt_of_lt_of_eq (by omega : k < 66) trips0.symm⟩
    show arg3.view.read (Elt F) (arg3.view.writes (Elt F) G
      (st_k0_t1 𝒱 c bd i arg1 harg1 arg2 harg2 arg3 harg3 arg4 harg4 rows8 (harg1.unread x0) (harg2.unread x1) init (k + 1)).2) y = _
    rw [h]
    dsimp only
    rw [tripL0, st0_fst _ _ _ _ _ _ _ _ _ _ _ _ _ _ _ k (by omega)]
    by_cases hlt : (y 0).val < 8 * k
    · rw [List.singleton_append, View.read_writes_cons_rows_of_not_mem (o := 8 * k) (W := 8) _ _ _ _ _ _ (k0_off1_eq _) rfl (Or.inl hlt)]
      exact st0_read G k (by omega) y hlt
    · have hd : (y 0).val / 8 = k := by omega
      rw [List.singleton_append]
      refine (View.read_writes_cons_rows_of_mem (size := S8x1280.size) (o := 8 * k) arg3.view G (k0_off1_inb _) _ _ y
        (ix2 (n0 := 8) (n1 := 1280) ⟨(y 0).val % 8, Nat.mod_lt _ (by decide)⟩ (y 1)) (k0_off1_eq _)
        (by show (y 0).val = 8 * k + (y 0).val % 8; omega) rfl).trans ?_
      unfold out0
      rw [hd]

/-- After the loop the whole output block holds the results. -/
theorem st0_out (G : arg3.view.ty.Contents (Elt F)) :
    arg3.view.read (Elt F) (arg3.view.writes (Elt F) G
        (st0 𝒱 c bd i arg1 harg1 arg2 harg2 arg3 harg3 arg4 harg4 x0 x1 init k0_t1_loop.trips).2)
      = out0 x0 x1 init := by
  rw [trips0]
  funext y
  exact st0_read _ _ _ _ _ _ _ _ _ _ _ _ _ _ _ G 66 (le_refl _) y (by have : (y 0).val < 528 := (y 0).isLt; omega)

end Trip

/-- The condition of the body's `scf.if`: the point is the grid's first. -/
abbrev cond0 (i : grid0.Coords) : Prop := (Scalar.cmpi .ne (Scalar.extui (Scalar.cmpi .eq (BitVec.ofNat 32 (i 0).val) 0#32)) 0#32) = 1#1

/-- Storing into a whole memref its full rectangle leaves the stored value. -/
theorem read_full8 {arg4 : Memref sig .tc .vmem S8x1280 .f32} (f : arg4.view.ty.Contents (Elt F)) (w : Vec F S8x1280 .f32)
    (L : List (View.Piece (Elt F) S8x1280 .f32)) :
    arg4.view.read (Elt F) (arg4.view.writes (Elt F) f
      (⟨Rect.unit (s := S8x1280) ![0, 0] S8x1280.size inb_S8x1280_S8x1280_0_0, w⟩ :: L)) = w :=
  View.read_writes_full (s := S8x1280) arg4.view f inb_S8x1280_S8x1280_0_0 w L

/-- Loading a whole memref's full rectangle reads what it holds. -/
theorem ld_full8 {arg4 : Memref sig .tc .vmem S8x1280 .f32} (f : arg4.view.ty.Contents (Elt F)) :
    View.readAt (Elt F) arg4.view (Rect.unit (s := S8x1280) ![0, 0] S8x1280.size inb_S8x1280_S8x1280_0_0).toLoadRect f
      = arg4.view.read (Elt F) f :=
  View.readAt_full (s := S8x1280) arg4.view f inb_S8x1280_S8x1280_0_0

set_option maxHeartbeats 2000000 in
/-- The body at a point that is not the first: from the carried row to the block's results and the next carried row. -/
theorem body0_B (c : Dev nD) (i : grid0.Coords) (arg1 : Memref sig .tc .vmem S528x1280 .f32) (harg1 : arg1.IsWhole) (arg2 : Memref sig .tc .vmem S528x1280 .f32) (harg2 : arg2.IsWhole) (arg3 : Memref sig .tc .vmem S528x1280 .f32) (harg3 : arg3.IsWhole) (arg4 : Memref sig .tc .vmem S8x1280 .f32) (harg4 : arg4.IsWhole) (hc0 : ¬cond0 i)
    (x0 : Vec F S528x1280 .f32) (x1 : Vec F S528x1280 .f32) (xs : Vec F S8x1280 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (out0 x0 x1 xs) ∗ owns (c : Thread nD τ) arg4 fullShare (sout0 x0 x1 xs)) -∗ K ⟨⟩))
      ⊢ wp frame (wpE (defs₀ (F := F)) Variants.none c none) E (cc0_rg_scan i arg1 harg1 arg2 harg2 arg3 harg3 arg4 harg4) K := by
  simp only [cc0_rg_scan_eq_skeleton]; unfold cc0_rg_scan_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [show body0_B.sl.v3 = rows8 from rfl, ld_full8, harg4.read_unread]
    exact st0_out _ _ _ _ _ _ _ _ _ _ _ _ _ _ _ _
  iexists _; isplitr; swap; · iexact HS0
  ipureintro
  rw [read_full8, show body0_B.sl.v3 = rows8 from rfl, ld_full8, harg4.read_unread]
  show k0_pay4 (st0 Variants.none c none i arg1 harg1 arg2 harg2 arg3 harg3 arg4 harg4 x0 x1 xs k0_t1_loop.trips).1 = _
  rw [trips0, st0_fst _ _ _ _ _ _ _ _ _ _ _ _ _ _ _ 66 (le_refl _)]
  rfl

set_option maxHeartbeats 2000000 in
/-- The body at the first point: it writes zeros into the carried row first. -/
theorem body0_A (c : Dev nD) (i : grid0.Coords) (arg1 : Memref sig .tc .vmem S528x1280 .f32) (harg1 : arg1.IsWhole) (arg2 : Memref sig .tc .vmem S528x1280 .f32) (harg2 : arg2.IsWhole) (arg3 : Memref sig .tc .vmem S528x1280 .f32) (harg3 : arg3.IsWhole) (arg4 : Memref sig .tc .vmem S8x1280 .f32) (harg4 : arg4.IsWhole) (hc0 : cond0 i)
    (x0 : Vec F S528x1280 .f32) (x1 : Vec F S528x1280 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0 x0 x1 (k0_pay1 (F := F))) ∗ owns (c : Thread nD τ) arg4 fullShare (sout0 x0 x1 (k0_pay1 (F := F)))) -∗ K ⟨⟩))
      ⊢ wp frame (wpE (defs₀ (F := F)) Variants.none c none) E (cc0_rg_scan i arg1 harg1 arg2 harg2 arg3 harg3 arg4 harg4) K := by
  simp only [cc0_rg_scan_eq_skeleton]; unfold cc0_rg_scan_skel
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [show body0_A.sl.v3 = rows8 from rfl, show body0_A.sl.v4 (F := F) c arg4 = k0_pay1 from View.readCov_full (s := S8x1280) arg4.view inb_S8x1280_S8x1280_0_0 inb_S8x1280_S8x1280_0_0 _ _]
    exact st0_out _ _ _ _ _ _ _ _ _ _ _ _ _ _ _ _
  iexists _; isplitr; swap; · iexact HS0
  ipureintro
  rw [read_full8, show body0_A.sl.v3 = rows8 from rfl, show body0_A.sl.v4 (F := F) c arg4 = k0_pay1 from View.readCov_full (s := S8x1280) arg4.view inb_S8x1280_S8x1280_0_0 inb_S8x1280_S8x1280_0_0 _ _]
  show k0_pay4 (st0 Variants.none c none i arg1 harg1 arg2 harg2 arg3 harg3 arg4 harg4 x0 x1 (k0_pay1 (F := F)) k0_t1_loop.trips).1 = _
  rw [trips0, st0_fst _ _ _ _ _ _ _ _ _ _ _ _ _ _ _ 66 (le_refl _)]
  rfl

end Cert.ScanIdeal.Value

end
-- ==== Proof.ScanBwd.lean ====
/- One block of the backward scan: what the loop over the eight-row tiles, last tile first, leaves in the two output
   blocks and in the two carried scratches, and the body's triple with all four named. -/
module

public import proofs.«01_k».proof.Proof.ScanFwd
public import Idealize.ShloMosaic.Lib.Pointwise
public import Idealize.ShloMosaic.Lib.WritesUnit
public import Idealize.ShloMosaic.Lib.VecWindow
public import Idealize.ShloMosaic.Lib.WholeRead
public import Idealize.ShloMosaic.Lib.Tactic

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The eight gradients of one tile, from its decays, its incoming gradients, the gradient carried in and the decay of the row after. -/
def tileG (a d g af : Vec F S8x1280 .f32) : Vec F S8x1280 .f32 :=
  k1_pay15 rows8 g (k1_pay12 rows8 af a d) (k1_pay13 rows8 af a) k1_pay14

/-- The eight gradients of the decays of one tile: the gradients times the states one row earlier. -/
def tileD (a h hp d g af : Vec F S8x1280 .f32) : Vec F S8x1280 .f32 :=
  k1_pay16 rows8 g (k1_pay8 h) hp (k1_pay12 rows8 af a d) (k1_pay13 rows8 af a) k1_pay14

/-- The states of the tile before the one of trip `j`: from the same block, and at the block's first tile from the halo. -/
def hpAt (x1 : Vec F S528x1280 .f32) (v8 : Vec F S8x1280 .f32) (j : ℕ) : Vec F S8x1280 .f32 :=
  if j < 65 then tile x1 (64 - j) else v8

/-- What is carried into trip `j` (tile `65 - j`): the gradient and the decay of the row after the tile. -/
def carry1K (x0 x3 : Vec F S528x1280 .f32) (init : Vec F S8x1280 .f32 × Vec F S8x1280 .f32) : ℕ → Vec F S8x1280 .f32 × Vec F S8x1280 .f32
  | 0 => init
  | j + 1 => (k1_pay4 (tileG (tile x0 (65 - j)) (tile x3 (65 - j)) (carry1K x0 x3 init j).1 (carry1K x0 x3 init j).2), k1_pay5 (tile x0 (65 - j)))

/-- The block of gradients of the inputs. -/
def outG (x0 x3 : Vec F S528x1280 .f32) (init : Vec F S8x1280 .f32 × Vec F S8x1280 .f32) : Vec F S528x1280 .f32 := fun y =>
  tileG (tile x0 ((y 0).val / 8)) (tile x3 ((y 0).val / 8)) (carry1K x0 x3 init (65 - (y 0).val / 8)).1 (carry1K x0 x3 init (65 - (y 0).val / 8)).2
    (ix2 (n0 := 8) (n1 := 1280) ⟨(y 0).val % 8, Nat.mod_lt _ (by decide)⟩ (y 1))

/-- The block of gradients of the decays. -/
def outD (x0 x1 x3 : Vec F S528x1280 .f32) (v8 : Vec F S8x1280 .f32) (init : Vec F S8x1280 .f32 × Vec F S8x1280 .f32) : Vec F S528x1280 .f32 := fun y =>
  tileD (tile x0 ((y 0).val / 8)) (tile x1 ((y 0).val / 8)) (hpAt x1 v8 (65 - (y 0).val / 8)) (tile x3 ((y 0).val / 8))
    (carry1K x0 x3 init (65 - (y 0).val / 8)).1 (carry1K x0 x3 init (65 - (y 0).val / 8)).2
    (ix2 (n0 := 8) (n1 := 1280) ⟨(y 0).val % 8, Nat.mod_lt _ (by decide)⟩ (y 1))

/-- The gradient scratch a block leaves. -/
def soutG (x0 x3 : Vec F S528x1280 .f32) (init : Vec F S8x1280 .f32 × Vec F S8x1280 .f32) : Vec F S8x1280 .f32 := k1_pay6 (carry1K x0 x3 init 66).1

/-- The decay scratch a block leaves. -/
def soutA (x0 x3 : Vec F S528x1280 .f32) (init : Vec F S8x1280 .f32 × Vec F S8x1280 .f32) : Vec F S8x1280 .f32 := k1_pay7 (carry1K x0 x3 init 66).2

/-- The loop has 66 trips. -/
theorem trips1 : k1_t1_loop.trips = 66 := by decide +kernel

/-- The offset of the tile before, for every trip but the last. -/
theorem k1_off2_eq : ∀ k : Fin k1_t1_loop.trips, k.val < 65 → k1_off2 k = ![512 - 8 * k.val, 0] := by decide +kernel

/-- The kernel's test for a tile before in the same block. -/
theorem cond_hp : ∀ k : Fin k1_t1_loop.trips,
    Scalar.cmpi .sgt (Scalar.subi 65#32 (Scf.iv 0#32 1#32 k)) 0#32 = if k.val < 65 then 1#1 else 0#1 := by decide +kernel

/-- A load of eight rows at a known row offset from a whole block is that tile. -/
theorem ld_tile_of {arg : Memref sig .tc .vmem S528x1280 .f32} (harg : arg.IsWhole) (x : Vec F S528x1280 .f32)
    (off : Fin 2 → ℕ) (inb : ∀ a, off a + S8x1280.size a ≤ S528x1280.size a) (j : ℕ) (hj : j < 66) (ho : off = ![8 * j, 0]) :
    arg.view.readAt (Elt F) (Rect.unit (s := S528x1280) off S8x1280.size inb).toLoadRect (harg.unread x) = tile x j := by
  subst ho
  funext y
  rw [harg.readAt_unread]
  unfold tile
  refine congrArg x (funext fun a => Fin.ext ?_)
  match a with
  | ⟨0, _⟩ =>
    show 8 * j + 1 * (y 0).val = (8 * j + (y 0).val) % 528
    have hy : (y 0).val < 8 := (y 0).isLt
    rw [Nat.mod_eq_of_lt (by omega)]; omega
  | ⟨1, _⟩ =>
    show 0 + 1 * (y 1).val = (y 1).val
    omega

/-- The tile loaded at trip `k`. -/
theorem ld_tile1 {arg : Memref sig .tc .vmem S528x1280 .f32} (harg : arg.IsWhole) (x : Vec F S528x1280 .f32) (k : Fin k1_t1_loop.trips) :
    arg.view.readAt (Elt F) (Rect.unit (s := S528x1280) (k1_off1 k) S8x1280.size (k1_off1_inb k)).toLoadRect (harg.unread x) = tile x (65 - k.val) := by
  have hk : k.val < 66 := lt_of_lt_of_eq k.isLt trips1
  exact ld_tile_of harg x _ _ _ (by omega) (by rw [k1_off1_eq]; congr 1; omega)

/-- The states before the tile of trip `k`, as the kernel selects them. -/
theorem ld_hp {arg : Memref sig .tc .vmem S528x1280 .f32} (harg : arg.IsWhole) (x : Vec F S528x1280 .f32) (v8 : Vec F S8x1280 .f32) (k : Fin k1_t1_loop.trips) :
    k1_pay9 v8 0#32 1#32 k (arg.view.readAt (Elt F) (Rect.unit (s := S528x1280) (k1_off2 k) S8x1280.size (k1_off2_inb k)).toLoadRect (harg.unread x))
      = hpAt x v8 k.val := by
  unfold k1_pay9 hpAt
  dsimp only
  rw [cond_hp]
  by_cases h : k.val < 65
  · rw [if_pos h, if_pos h, ld_tile_of harg x _ _ (64 - k.val) (by omega) (by rw [k1_off2_eq k h]; congr 1; omega)]
    exact (if_pos rfl).trans (shapeCast_id _ _)
  · rw [if_neg h, if_neg h]
    exact if_neg (by decide)

section Trip

variable (𝒱 : Variants) (c : Dev nD) (bd : Option 𝒱.V) (i : grid1.Coords)
  (arg1 : Memref sig .tc .vmem S528x1280 .f32) (harg1 : arg1.IsWhole) (arg2 : Memref sig .tc .vmem S528x1280 .f32) (harg2 : arg2.IsWhole) (arg3 : Memref sig .tc .vmem S8x1280 .f32) (harg3 : arg3.IsWhole) (arg4 : Memref sig .tc .vmem S528x1280 .f32) (harg4 : arg4.IsWhole) (arg5 : Memref sig .tc .vmem S528x1280 .f32) (harg5 : arg5.IsWhole) (arg6 : Memref sig .tc .vmem S528x1280 .f32) (harg6 : arg6.IsWhole) (arg7 : Memref sig .tc .vmem S8x1280 .f32) (harg7 : arg7.IsWhole) (arg8 : Memref sig .tc .vmem S8x1280 .f32) (harg8 : arg8.IsWhole)
  (x0 x1 x3 : Vec F S528x1280 .f32) (hh : Vec F S8x1280 .f32) (init : Vec F S8x1280 .f32 × Vec F S8x1280 .f32)

/-- One trip yields the first row of its gradients and of its decays. -/
theorem tripR1 (k : Fin k1_t1_loop.trips) (acc : Vec F S8x1280 .f32 × Vec F S8x1280 .f32) :
    tripR_k1_t1 𝒱 c bd i arg1 harg1 arg2 harg2 arg3 harg3 arg4 harg4 arg5 harg5 arg6 harg6 arg7 harg7 arg8 harg8 rows8 hh (harg1.unread x0) (harg2.unread x1) (harg4.unread x3) k acc
      = (k1_pay4 (tileG (tile x0 (65 - k.val)) (tile x3 (65 - k.val)) acc.1 acc.2), k1_pay5 (tile x0 (65 - k.val))) := by
  rw [← ld_tile1 harg1 x0 k, ← ld_tile1 harg4 x3 k]
  unfold tripR_k1_t1 trip_k1_t1
  rfl

/-- One trip writes its gradients at its rows. -/
theorem tripL1 (k : Fin k1_t1_loop.trips) (acc : Vec F S8x1280 .f32 × Vec F S8x1280 .f32) :
    tripL_k1_t1 𝒱 c bd i arg1 harg1 arg2 harg2 arg3 harg3 arg4 harg4 arg5 harg5 arg6 harg6 arg7 harg7 arg8 harg8 rows8 hh (harg1.unread x0) (harg2.unread x1) (harg4.unread x3) k acc
      = ([⟨Rect.unit (s := S528x1280) (k1_off1 k) S8x1280.size (k1_off1_inb k), tileG (tile x0 (65 - k.val)) (tile x3 (65 - k.val)) acc.1 acc.2⟩],
         [⟨Rect.unit (s := S528x1280) (k1_off1 k) S8x1280.size (k1_off1_inb k),
            tileD (tile x0 (65 - k.val)) (tile x1 (65 - k.val)) (hpAt x1 (k1_pay3 i hh) k.val) (tile x3 (65 - k.val)) acc.1 acc.2⟩]) := by
  rw [← ld_tile1 harg1 x0 k, ← ld_tile1 harg4 x3 k, ← ld_tile1 harg2 x1 k, ← ld_hp harg2 x1 (k1_pay3 i hh) k]
  unfold tripL_k1_t1 trip_k1_t1
  rfl

/-- The loop's state before trip `k`. -/
abbrev st1 (k : ℕ) : (Vec F S8x1280 .f32 × Vec F S8x1280 .f32) × List (View.Piece (Elt F) S528x1280 .f32) × List (View.Piece (Elt F) S528x1280 .f32) :=
  st_k1_t1 𝒱 c bd i arg1 harg1 arg2 harg2 arg3 harg3 arg4 harg4 arg5 harg5 arg6 harg6 arg7 harg7 arg8 harg8 rows8 hh (harg1.unread x0) (harg2.unread x1) (harg4.unread x3) init k

/-- One trip's step of the state, with what it writes named. -/
theorem st1_succ (k : ℕ) (hk : k < 66) :
    st1 𝒱 c bd i arg1 harg1 arg2 harg2 arg3 harg3 arg4 harg4 arg5 harg5 arg6 harg6 arg7 harg7 arg8 harg8 x0 x1 x3 hh init (k + 1)
      = ((k1_pay4 (tileG (tile x0 (65 - k)) (tile x3 (65 - k)) (st1 𝒱 c bd i arg1 harg1 arg2 harg2 arg3 harg3 arg4 harg4 arg5 harg5 arg6 harg6 arg7 harg7 arg8 harg8 x0 x1 x3 hh init k).1.1 (st1 𝒱 c bd i arg1 harg1 arg2 harg2 arg3 harg3 arg4 harg4 arg5 harg5 arg6 harg6 arg7 harg7 arg8 harg8 x0 x1 x3 hh init k).1.2), k1_pay5 (tile x0 (65 - k))),
         (⟨Rect.unit (s := S528x1280) (k1_off1 ⟨k, lt_of_lt_of_eq hk trips1.symm⟩) S8x1280.size (k1_off1_inb _),
            tileG (tile x0 (65 - k)) (tile x3 (65 - k)) (st1 𝒱 c bd i arg1 harg1 arg2 harg2 arg3 harg3 arg4 harg4 arg5 harg5 arg6 harg6 arg7 harg7 arg8 harg8 x0 x1 x3 hh init k).1.1 (st1 𝒱 c bd i arg1 harg1 arg2 harg2 arg3 harg3 arg4 harg4 arg5 harg5 arg6 harg6 arg7 harg7 arg8 harg8 x0 x1 x3 hh init k).1.2⟩ :: (st1 𝒱 c bd i arg1 harg1 arg2 harg2 arg3 harg3 arg4 harg4 arg5 harg5 arg6 harg6 arg7 harg7 arg8 harg8 x0 x1 x3 hh init k).2.1),
         (⟨Rect.unit (s := S528x1280) (k1_off1 ⟨k, lt_of_lt_of_eq hk trips1.symm⟩) S8x1280.size (k1_off1_inb _),
            tileD (tile x0 (65 - k)) (tile x1 (65 - k)) (hpAt x1 (k1_pay3 i hh) k) (tile x3 (65 - k)) (st1 𝒱 c bd i arg1 harg1 arg2 harg2 arg3 harg3 arg4 harg4 arg5 harg5 arg6 harg6 arg7 harg7 arg8 harg8 x0 x1 x3 hh init k).1.1 (st1 𝒱 c bd i arg1 harg1 arg2 harg2 arg3 harg3 arg4 harg4 arg5 harg5 arg6 harg6 arg7 harg7 arg8 harg8 x0 x1 x3 hh init k).1.2⟩ :: (st1 𝒱 c bd i arg1 harg1 arg2 harg2 arg3 harg3 arg4 harg4 arg5 harg5 arg6 harg6 arg7 harg7 arg8 harg8 x0 x1 x3 hh init k).2.2)) := by
  refine (st_k1_t1_succ 𝒱 c bd i arg1 harg1 arg2 harg2 arg3 harg3 arg4 harg4 arg5 harg5 arg6 harg6 arg7 harg7 arg8 harg8 rows8 hh (harg1.unread x0) (harg2.unread x1) (harg4.unread x3) init ⟨k, lt_of_lt_of_eq hk trips1.symm⟩).trans ?_
  rw [tripR1, tripL1]
  rfl

/-- Before trip `k` the carried pair is `carry1K`'s. -/
theorem st1_fst : ∀ k : ℕ, k ≤ 66 → (st1 𝒱 c bd i arg1 harg1 arg2 harg2 arg3 harg3 arg4 harg4 arg5 harg5 arg6 harg6 arg7 harg7 arg8 harg8 x0 x1 x3 hh init k).1 = carry1K x0 x3 init k
  | 0, _ => rfl
  | k + 1, hk => by
    rw [st1_succ _ _ _ _ _ _ _ _ _ _ _ _ _ _ _ _ _ _ _ _ _ _ _ _ _ k (by omega)]
    dsimp only
    rw [st1_fst k (by omega)]
    rfl

/-- Before trip `k` the first output's rows from `528 - 8k` on hold the gradients. -/
theorem st1_readG (G : arg5.view.ty.Contents (Elt F)) : ∀ k : ℕ, k ≤ 66 → ∀ y : S528x1280.Idx, 528 ≤ (y 0).val + 8 * k →
    arg5.view.read (Elt F) (arg5.view.writes (Elt F) G (st1 𝒱 c bd i arg1 harg1 arg2 harg2 arg3 harg3 arg4 harg4 arg5 harg5 arg6 harg6 arg7 harg7 arg8 harg8 x0 x1 x3 hh init k).2.1) y = outG x0 x3 init y
  | 0, _, y, hy => by have : (y 0).val < 528 := (y 0).isLt; omega
  | k + 1, hk, y, hy => by
    rw [st1_succ _ _ _ _ _ _ _ _ _ _ _ _ _ _ _ _ _ _ _ _ _ _ _ _ _ k (by omega), st1_fst _ _ _ _ _ _ _ _ _ _ _ _ _ _ _ _ _ _ _ _ _ _ _ _ _ k (by omega)]
    dsimp only
    have hyl : (y 0).val < 528 := (y 0).isLt
    by_cases hlt : 528 ≤ (y 0).val + 8 * k
    · refine (View.read_writes_cons_rows_of_not_mem (size := S8x1280.size) (o := 520 - 8 * k) (W := 8) arg5.view G (k1_off1_inb _) _ _ y (k1_off1_eq _) rfl (Or.inr (by omega))).trans ?_
      exact st1_readG G k (by omega) y hlt
    · have hd : (y 0).val / 8 = 65 - k := by omega
      refine (View.read_writes_cons_rows_of_mem (size := S8x1280.size) (o := 520 - 8 * k) arg5.view G (k1_off1_inb _) _ _ y
        (ix2 (n0 := 8) (n1 := 1280) ⟨(y 0).val % 8, Nat.mod_lt _ (by decide)⟩ (y 1)) (k1_off1_eq _)
        (by show (y 0).val = 520 - 8 * k + (y 0).val % 8; omega) rfl).trans ?_
      unfold outG
      rw [hd, show 65 - (65 - k) = k by omega]

/-- Before trip `k` the second output's rows from `528 - 8k` on hold the decays' gradients. -/
theorem st1_readD (G : arg6.view.ty.Contents (Elt F)) : ∀ k : ℕ, k ≤ 66 → ∀ y : S528x1280.Idx, 528 ≤ (y 0).val + 8 * k →
    arg6.view.read (Elt F) (arg6.view.writes (Elt F) G (st1 𝒱 c bd i arg1 harg1 arg2 harg2 arg3 harg3 arg4 harg4 arg5 harg5 arg6 harg6 arg7 harg7 arg8 harg8 x0 x1 x3 hh init k).2.2) y = outD x0 x1 x3 (k1_pay3 i hh) init y
  | 0, _, y, hy => by have : (y 0).val < 528 := (y 0).isLt; omega
  | k + 1, hk, y, hy => by
    rw [st1_succ _ _ _ _ _ _ _ _ _ _ _ _ _ _ _ _ _ _ _ _ _ _ _ _ _ k (by omega), st1_fst _ _ _ _ _ _ _ _ _ _ _ _ _ _ _ _ _ _ _ _ _ _ _ _ _ k (by omega)]
    dsimp only
    have hyl : (y 0).val < 528 := (y 0).isLt
    by_cases hlt : 528 ≤ (y 0).val + 8 * k
    · refine (View.read_writes_cons_rows_of_not_mem (size := S8x1280.size) (o := 520 - 8 * k) (W := 8) arg6.view G (k1_off1_inb _) _ _ y (k1_off1_eq _) rfl (Or.inr (by omega))).trans ?_
      exact st1_readD G k (by omega) y hlt
    · have hd : (y 0).val / 8 = 65 - k := by omega
      refine (View.read_writes_cons_rows_of_mem (size := S8x1280.size) (o := 520 - 8 * k) arg6.view G (k1_off1_inb _) _ _ y
        (ix2 (n0 := 8) (n1 := 1280) ⟨(y 0).val % 8, Nat.mod_lt _ (by decide)⟩ (y 1)) (k1_off1_eq _)
        (by show (y 0).val = 520 - 8 * k + (y 0).val % 8; omega) rfl).trans ?_
      unfold outD
      rw [hd, show 65 - (65 - k) = k by omega]

end Trip

/-- The condition of the body's `scf.if`: the point is the grid's first. -/
abbrev cond1 (i : grid1.Coords) : Prop := (Scalar.cmpi .ne (Scalar.extui (Scalar.cmpi .eq (BitVec.ofNat 32 (i 0).val) 0#32)) 0#32) = 1#1

set_option maxHeartbeats 4000000 in
/-- The body at a point that is not the first: from the two carried rows to the block's gradients and the next carried rows. -/
theorem body1_B (c : Dev nD) (i : grid1.Coords) (arg1 : Memref sig .tc .vmem S528x1280 .f32) (harg1 : arg1.IsWhole) (arg2 : Memref sig .tc .vmem S528x1280 .f32) (harg2 : arg2.IsWhole) (arg3 : Memref sig .tc .vmem S8x1280 .f32) (harg3 : arg3.IsWhole) (arg4 : Memref sig .tc .vmem S528x1280 .f32) (harg4 : arg4.IsWhole) (arg5 : Memref sig .tc .vmem S528x1280 .f32) (harg5 : arg5.IsWhole) (arg6 : Memref sig .tc .vmem S528x1280 .f32) (harg6 : arg6.IsWhole) (arg7 : Memref sig .tc .vmem S8x1280 .f32) (harg7 : arg7.IsWhole) (arg8 : Memref sig .tc .vmem S8x1280 .f32) (harg8 : arg8.IsWhole) (hc0 : ¬cond1 i)
    (x0 x1 : Vec F S528x1280 .f32) (x2 : Vec F S8x1280 .f32) (x3 : Vec F S528x1280 .f32) (xs0 xs1 : Vec F S8x1280 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outG x0 x3 (xs0, xs1)) ∗ owns (c : Thread nD τ) arg6 fullShare (outD x0 x1 x3 (k1_pay3 i x2) (xs0, xs1)) ∗ owns (c : Thread nD τ) arg7 fullShare (soutG x0 x3 (xs0, xs1)) ∗ owns (c : Thread nD τ) arg8 fullShare (soutA x0 x3 (xs0, xs1))) -∗ K ⟨⟩))
      ⊢ wp frame (wpE (defs₀ (F := F)) Variants.none c none) E (cc1_rg_scan_bwd i arg1 harg1 arg2 harg2 arg3 harg3 arg4 harg4 arg5 harg5 arg6 harg6 arg7 harg7 arg8 harg8) K := by
  simp only [cc1_rg_scan_bwd_eq_skeleton]; unfold cc1_rg_scan_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg7.eq_unread hfs0; obtain rfl := harg8.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [show body1_B.sl.v3 = rows8 from rfl, ld_full8, ld_full8, ld_full8, harg3.read_unread, harg7.read_unread, harg8.read_unread]
    show View.read (Elt F) arg5.view (arg5.view.writes (Elt F) f4 (st1 Variants.none c none i arg1 harg1 arg2 harg2 arg3 harg3 arg4 harg4 arg5 harg5 arg6 harg6 arg7 harg7 arg8 harg8 x0 x1 x3 x2 (xs0, xs1) k1_t1_loop.trips).2.1) = _
    rw [trips1]
    funext y
    exact st1_readG _ _ _ _ _ _ _ _ _ _ _ _ _ _ _ _ _ _ _ _ _ _ _ _ _ _ 66 (le_refl _) y (by omega)
  isplitl [H5]
  · iexists _; isplitr; swap; · iexact H5
    ipureintro
    rw [show body1_B.sl.v3 = rows8 from rfl, ld_full8, ld_full8, ld_full8, harg3.read_unread, harg7.read_unread, harg8.read_unread]
    show View.read (Elt F) arg6.view (arg6.view.writes (Elt F) f5 (st1 Variants.none c none i arg1 harg1 arg2 harg2 arg3 harg3 arg4 harg4 arg5 harg5 arg6 harg6 arg7 harg7 arg8 harg8 x0 x1 x3 x2 (xs0, xs1) k1_t1_loop.trips).2.2) = _
    rw [trips1]
    funext y
    exact st1_readD _ _ _ _ _ _ _ _ _ _ _ _ _ _ _ _ _ _ _ _ _ _ _ _ _ _ 66 (le_refl _) y (by omega)
  isplitl [HS0]
  · iexists _; isplitr; swap; · iexact HS0
    ipureintro
    rw [read_full8]
    rw [show body1_B.sl.v3 = rows8 from rfl, ld_full8, ld_full8, ld_full8, harg3.read_unread, harg7.read_unread, harg8.read_unread]
    show k1_pay6 (st1 Variants.none c none i arg1 harg1 arg2 harg2 arg3 harg3 arg4 harg4 arg5 harg5 arg6 harg6 arg7 harg7 arg8 harg8 x0 x1 x3 x2 (xs0, xs1) k1_t1_loop.trips).1.1 = _
    rw [trips1, st1_fst _ _ _ _ _ _ _ _ _ _ _ _ _ _ _ _ _ _ _ _ _ _ _ _ _ 66 (le_refl _)]
    rfl
  iexists _; isplitr; swap; · iexact HS1
  ipureintro
  rw [read_full8]
  rw [show body1_B.sl.v3 = rows8 from rfl, ld_full8, ld_full8, ld_full8, harg3.read_unread, harg7.read_unread, harg8.read_unread]
  show k1_pay7 (st1 Variants.none c none i arg1 harg1 arg2 harg2 arg3 harg3 arg4 harg4 arg5 harg5 arg6 harg6 arg7 harg7 arg8 harg8 x0 x1 x3 x2 (xs0, xs1) k1_t1_loop.trips).1.2 = _
  rw [trips1, st1_fst _ _ _ _ _ _ _ _ _ _ _ _ _ _ _ _ _ _ _ _ _ _ _ _ _ 66 (le_refl _)]
  rfl

set_option maxHeartbeats 4000000 in
/-- The body at the first point: it writes zeros into both carried rows first. -/
theorem body1_A (c : Dev nD) (i : grid1.Coords) (arg1 : Memref sig .tc .vmem S528x1280 .f32) (harg1 : arg1.IsWhole) (arg2 : Memref sig .tc .vmem S528x1280 .f32) (harg2 : arg2.IsWhole) (arg3 : Memref sig .tc .vmem S8x1280 .f32) (harg3 : arg3.IsWhole) (arg4 : Memref sig .tc .vmem S528x1280 .f32) (harg4 : arg4.IsWhole) (arg5 : Memref sig .tc .vmem S528x1280 .f32) (harg5 : arg5.IsWhole) (arg6 : Memref sig .tc .vmem S528x1280 .f32) (harg6 : arg6.IsWhole) (arg7 : Memref sig .tc .vmem S8x1280 .f32) (harg7 : arg7.IsWhole) (arg8 : Memref sig .tc .vmem S8x1280 .f32) (harg8 : arg8.IsWhole) (hc0 : cond1 i)
    (x0 x1 : Vec F S528x1280 .f32) (x2 : Vec F S8x1280 .f32) (x3 : Vec F S528x1280 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outG x0 x3 (k1_pay1 (F := F), k1_pay2 (F := F))) ∗ owns (c : Thread nD τ) arg6 fullShare (outD x0 x1 x3 (k1_pay3 i x2) (k1_pay1 (F := F), k1_pay2 (F := F))) ∗ owns (c : Thread nD τ) arg7 fullShare (soutG x0 x3 (k1_pay1 (F := F), k1_pay2 (F := F))) ∗ owns (c : Thread nD τ) arg8 fullShare (soutA x0 x3 (k1_pay1 (F := F), k1_pay2 (F := F)))) -∗ K ⟨⟩))
      ⊢ wp frame (wpE (defs₀ (F := F)) Variants.none c none) E (cc1_rg_scan_bwd i arg1 harg1 arg2 harg2 arg3 harg3 arg4 harg4 arg5 harg5 arg6 harg6 arg7 harg7 arg8 harg8) K := by
  simp only [cc1_rg_scan_bwd_eq_skeleton]; unfold cc1_rg_scan_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    rw [show body1_A.sl.v3 = rows8 from rfl, ld_full8, harg3.read_unread, show body1_A.sl.v9 (F := F) c arg7 = k1_pay1 from View.readCov_full (s := S8x1280) arg7.view inb_S8x1280_S8x1280_0_0 inb_S8x1280_S8x1280_0_0 _ _, show body1_A.sl.v10 (F := F) c arg8 = k1_pay2 from View.readCov_full (s := S8x1280) arg8.view inb_S8x1280_S8x1280_0_0 inb_S8x1280_S8x1280_0_0 _ _]
    show View.read (Elt F) arg5.view (arg5.view.writes (Elt F) f4 (st1 Variants.none c none i arg1 harg1 arg2 harg2 arg3 harg3 arg4 harg4 arg5 harg5 arg6 harg6 arg7 harg7 arg8 harg8 x0 x1 x3 x2 (k1_pay1 (F := F), k1_pay2 (F := F)) k1_t1_loop.trips).2.1) = _
    rw [trips1]
    funext y
    exact st1_readG _ _ _ _ _ _ _ _ _ _ _ _ _ _ _ _ _ _ _ _ _ _ _ _ _ _ 66 (le_refl _) y (by omega)
  isplitl [H5]
  · iexists _; isplitr; swap; · iexact H5
    ipureintro
    rw [show body1_A.sl.v3 = rows8 from rfl, ld_full8, harg3.read_unread, show body1_A.sl.v9 (F := F) c arg7 = k1_pay1 from View.readCov_full (s := S8x1280) arg7.view inb_S8x1280_S8x1280_0_0 inb_S8x1280_S8x1280_0_0 _ _, show body1_A.sl.v10 (F := F) c arg8 = k1_pay2 from View.readCov_full (s := S8x1280) arg8.view inb_S8x1280_S8x1280_0_0 inb_S8x1280_S8x1280_0_0 _ _]
    show View.read (Elt F) arg6.view (arg6.view.writes (Elt F) f5 (st1 Variants.none c none i arg1 harg1 arg2 harg2 arg3 harg3 arg4 harg4 arg5 harg5 arg6 harg6 arg7 harg7 arg8 harg8 x0 x1 x3 x2 (k1_pay1 (F := F), k1_pay2 (F := F)) k1_t1_loop.trips).2.2) = _
    rw [trips1]
    funext y
    exact st1_readD _ _ _ _ _ _ _ _ _ _ _ _ _ _ _ _ _ _ _ _ _ _ _ _ _ _ 66 (le_refl _) y (by omega)
  isplitl [HS0]
  · iexists _; isplitr; swap; · iexact HS0
    ipureintro
    rw [read_full8]
    rw [show body1_A.sl.v3 = rows8 from rfl, ld_full8, harg3.read_unread, show body1_A.sl.v9 (F := F) c arg7 = k1_pay1 from View.readCov_full (s := S8x1280) arg7.view inb_S8x1280_S8x1280_0_0 inb_S8x1280_S8x1280_0_0 _ _, show body1_A.sl.v10 (F := F) c arg8 = k1_pay2 from View.readCov_full (s := S8x1280) arg8.view inb_S8x1280_S8x1280_0_0 inb_S8x1280_S8x1280_0_0 _ _]
    show k1_pay6 (st1 Variants.none c none i arg1 harg1 arg2 harg2 arg3 harg3 arg4 harg4 arg5 harg5 arg6 harg6 arg7 harg7 arg8 harg8 x0 x1 x3 x2 (k1_pay1 (F := F), k1_pay2 (F := F)) k1_t1_loop.trips).1.1 = _
    rw [trips1, st1_fst _ _ _ _ _ _ _ _ _ _ _ _ _ _ _ _ _ _ _ _ _ _ _ _ _ 66 (le_refl _)]
    rfl
  iexists _; isplitr; swap; · iexact HS1
  ipureintro
  rw [read_full8]
  rw [show body1_A.sl.v3 = rows8 from rfl, ld_full8, harg3.read_unread, show body1_A.sl.v9 (F := F) c arg7 = k1_pay1 from View.readCov_full (s := S8x1280) arg7.view inb_S8x1280_S8x1280_0_0 inb_S8x1280_S8x1280_0_0 _ _, show body1_A.sl.v10 (F := F) c arg8 = k1_pay2 from View.readCov_full (s := S8x1280) arg8.view inb_S8x1280_S8x1280_0_0 inb_S8x1280_S8x1280_0_0 _ _]
  show k1_pay7 (st1 Variants.none c none i arg1 harg1 arg2 harg2 arg3 harg3 arg4 harg4 arg5 harg5 arg6 harg6 arg7 harg7 arg8 harg8 x0 x1 x3 x2 (k1_pay1 (F := F), k1_pay2 (F := F)) k1_t1_loop.trips).1.2 = _
  rw [trips1, st1_fst _ _ _ _ _ _ _ _ _ _ _ _ _ _ _ _ _ _ _ _ _ _ _ _ _ 66 (le_refl _)]
  rfl

end Cert.ScanIdeal.Value

end
-- ==== Proof.ScanArr.lean ====
/- The scan's arrays tile by tile: what the 528 tiles of eight rows leave in the three results when the carried rows run
   through the blocks in the order the grid takes them. -/
module

public import proofs.«01_k».proof.Proof.ScanBwd

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Tile `q` of a whole array: its eight rows from `8 q`. -/
def gtile (x : Vec F S4224x1280 .f32) (q : ℕ) : Vec F S8x1280 .f32 := fun y =>
  x (ix2 (⟨(8 * q + (y 0 : ℕ)) % 4224, Nat.mod_lt _ (by decide)⟩ : Fin 4224) (y 1 : Fin 1280))

/-- Block `n` of a whole array: its 528 rows from `528 n`. -/
def gblk (x : Vec F S4224x1280 .f32) (n : ℕ) : Vec F S528x1280 .f32 := fun y =>
  x (ix2 (⟨(528 * n + (y 0 : ℕ)) % 4224, Nat.mod_lt _ (by decide)⟩ : Fin 4224) (y 1 : Fin 1280))

/-- Tile `k` of block `n` is tile `66 n + k` of the array. -/
theorem tile_gblk (x : Vec F S4224x1280 .f32) {n k : ℕ} (hn : n < 8) (hk : k < 66) :
    tile (gblk x n) k = gtile x (66 * n + k) := by
  funext y
  have h0 : (y 0 : ℕ) < 8 := (y 0).isLt
  unfold tile gblk gtile
  simp only [ix2_0, ix2_1]
  congr 2
  apply Fin.ext
  show (528 * n + (8 * k + (y 0 : ℕ)) % 528) % 4224 = (8 * (66 * n + k) + (y 0 : ℕ)) % 4224
  rw [Nat.mod_eq_of_lt (show 8 * k + (y 0 : ℕ) < 528 by omega)]
  congr 1; omega

/-- The state carried into tile `q`. -/
def gcarry (a u : Vec F S4224x1280 .f32) : ℕ → Vec F S8x1280 .f32
  | 0 => k0_pay1
  | q + 1 => tileCarry (gtile a q) (gtile u q) (gcarry a u q)

/-- The states as the kernel leaves them. -/
def hsRow (a u : Vec F S4224x1280 .f32) (r : ℕ) (c : Fin 1280) : Elt F .f32 :=
  tileOut (gtile a (r / 8)) (gtile u (r / 8)) (gcarry a u (r / 8))
    (ix2 (⟨r % 8, Nat.mod_lt _ (by decide)⟩ : Fin 8) c)

/-- Them as one array. -/
def hsOut (a u : Vec F S4224x1280 .f32) : Vec F S4224x1280 .f32 := fun y => hsRow a u (y 0 : ℕ) (y 1 : Fin 1280)

theorem carryK_gblk (a u : Vec F S4224x1280 .f32) {n : ℕ} (hn : n < 8) : ∀ k, k ≤ 66 →
    carryK (gblk a n) (gblk u n) (gcarry a u (66 * n)) k = gcarry a u (66 * n + k)
  | 0, _ => rfl
  | k + 1, h => by
    show tileCarry (tile (gblk a n) k) (tile (gblk u n) k) (carryK (gblk a n) (gblk u n) (gcarry a u (66 * n)) k) = _
    rw [carryK_gblk a u hn k (by omega), tile_gblk a hn (by omega), tile_gblk u hn (by omega)]
    rfl

/-- What a point of the forward region leaves in its block. -/
theorem out0_gblk (a u : Vec F S4224x1280 .f32) {n : ℕ} (hn : n < 8) :
    out0 (gblk a n) (gblk u n) (gcarry a u (66 * n)) = gblk (hsOut a u) n := by
  funext y
  have h0 : (y 0 : ℕ) < 528 := (y 0).isLt
  show _ = hsRow a u ((528 * n + (y 0 : ℕ)) % 4224) (y 1)
  unfold out0 hsRow
  have e1 : (528 * n + (y 0 : ℕ)) % 4224 / 8 = 66 * n + (y 0 : ℕ) / 8 := by omega
  have e2 : (528 * n + (y 0 : ℕ)) % 4224 % 8 = (y 0 : ℕ) % 8 := by omega
  have c1 := carryK_gblk a u hn ((y 0 : ℕ) / 8) (by omega)
  have t1 := tile_gblk a hn (show (y 0 : ℕ) / 8 < 66 by omega)
  have t2 := tile_gblk u hn (show (y 0 : ℕ) / 8 < 66 by omega)
  rw [c1, t1, t2]
  simp only [e1, e2]

/-- What it leaves in its scratch. -/
theorem sout0_gblk (a u : Vec F S4224x1280 .f32) {n : ℕ} (hn : n < 8) :
    sout0 (gblk a n) (gblk u n) (gcarry a u (66 * n)) = gcarry a u (66 * (n + 1)) := by
  unfold sout0
  rw [carryK_gblk a u hn 66 (le_refl _)]
  exact shapeCast_id _ _

/-- The gradient and the decay carried into trip `j` of the backward scan, which takes tile `527 - j`. -/
def gcarry1 (a dy : Vec F S4224x1280 .f32) : ℕ → Vec F S8x1280 .f32 × Vec F S8x1280 .f32
  | 0 => (k1_pay1, k1_pay2)
  | j + 1 => (k1_pay4 (tileG (gtile a (527 - j)) (gtile dy (527 - j)) (gcarry1 a dy j).1 (gcarry1 a dy j).2), k1_pay5 (gtile a (527 - j)))

/-- The gradients of the inputs as the kernel leaves them. -/
def duRow (a dy : Vec F S4224x1280 .f32) (r : ℕ) (c : Fin 1280) : Elt F .f32 :=
  tileG (gtile a (r / 8)) (gtile dy (r / 8)) (gcarry1 a dy (527 - r / 8)).1 (gcarry1 a dy (527 - r / 8)).2
    (ix2 (⟨r % 8, Nat.mod_lt _ (by decide)⟩ : Fin 8) c)

/-- Them as one array. -/
def duOut (a dy : Vec F S4224x1280 .f32) : Vec F S4224x1280 .f32 := fun y => duRow a dy (y 0 : ℕ) (y 1 : Fin 1280)

/-- The states of the tile before tile `q`: of zeros before the first. -/
def hpG (h : Vec F S4224x1280 .f32) (q : ℕ) : Vec F S8x1280 .f32 :=
  if q = 0 then k1_pay1 else gtile h (q - 1)

/-- The gradients of the decays as the kernel leaves them. -/
def daRow (a h dy : Vec F S4224x1280 .f32) (r : ℕ) (c : Fin 1280) : Elt F .f32 :=
  tileD (gtile a (r / 8)) (gtile h (r / 8)) (hpG h (r / 8)) (gtile dy (r / 8))
    (gcarry1 a dy (527 - r / 8)).1 (gcarry1 a dy (527 - r / 8)).2
    (ix2 (⟨r % 8, Nat.mod_lt _ (by decide)⟩ : Fin 8) c)

/-- Them as one array. -/
def daOut (a h dy : Vec F S4224x1280 .f32) : Vec F S4224x1280 .f32 := fun y => daRow a h dy (y 0 : ℕ) (y 1 : Fin 1280)

theorem carry1K_gblk (a dy : Vec F S4224x1280 .f32) {t : ℕ} (ht : t < 8) : ∀ j, j ≤ 66 →
    carry1K (gblk a (7 - t)) (gblk dy (7 - t)) (gcarry1 a dy (66 * t)) j = gcarry1 a dy (66 * t + j)
  | 0, _ => rfl
  | j + 1, h => by
    have e : 66 * (7 - t) + (65 - j) = 527 - (66 * t + j) := by omega
    show (k1_pay4 (tileG (tile (gblk a (7 - t)) (65 - j)) (tile (gblk dy (7 - t)) (65 - j)) (carry1K (gblk a (7 - t)) (gblk dy (7 - t)) (gcarry1 a dy (66 * t)) j).1
      (carry1K (gblk a (7 - t)) (gblk dy (7 - t)) (gcarry1 a dy (66 * t)) j).2), k1_pay5 (tile (gblk a (7 - t)) (65 - j))) = _
    rw [carry1K_gblk a dy ht j (by omega), tile_gblk a (by omega) (by omega), tile_gblk dy (by omega) (by omega), e]
    rfl

theorem outG_gblk (a dy : Vec F S4224x1280 .f32) {t : ℕ} (ht : t < 8) :
    outG (gblk a (7 - t)) (gblk dy (7 - t)) (gcarry1 a dy (66 * t)) = gblk (duOut a dy) (7 - t) := by
  funext y
  have h0 : (y 0 : ℕ) < 528 := (y 0).isLt
  have c1 := carry1K_gblk a dy ht (65 - (y 0 : ℕ) / 8) (by omega)
  have t1 := tile_gblk a (show 7 - t < 8 by omega) (show (y 0 : ℕ) / 8 < 66 by omega)
  have t2 := tile_gblk dy (show 7 - t < 8 by omega) (show (y 0 : ℕ) / 8 < 66 by omega)
  have e1 : (528 * (7 - t) + (y 0 : ℕ)) % 4224 / 8 = 66 * (7 - t) + (y 0 : ℕ) / 8 := by omega
  have e2 : (528 * (7 - t) + (y 0 : ℕ)) % 4224 % 8 = (y 0 : ℕ) % 8 := by omega
  have e3 : 527 - (66 * (7 - t) + (y 0 : ℕ) / 8) = 66 * t + (65 - (y 0 : ℕ) / 8) := by omega
  unfold outG
  rw [c1, t1, t2]
  show _ = duRow a dy ((528 * (7 - t) + (y 0 : ℕ)) % 4224) (y 1)
  unfold duRow
  simp only [e1, e2, e3]

theorem outD_gblk (a h dy : Vec F S4224x1280 .f32) {t : ℕ} (ht : t < 8) (v8 : Vec F S8x1280 .f32) (hv : v8 = hpG h (66 * (7 - t))) :
    outD (gblk a (7 - t)) (gblk h (7 - t)) (gblk dy (7 - t)) v8 (gcarry1 a dy (66 * t)) = gblk (daOut a h dy) (7 - t) := by
  funext y
  have h0 : (y 0 : ℕ) < 528 := (y 0).isLt
  have c1 := carry1K_gblk a dy ht (65 - (y 0 : ℕ) / 8) (by omega)
  have t1 := tile_gblk a (show 7 - t < 8 by omega) (show (y 0 : ℕ) / 8 < 66 by omega)
  have t2 := tile_gblk dy (show 7 - t < 8 by omega) (show (y 0 : ℕ) / 8 < 66 by omega)
  have t3 := tile_gblk h (show 7 - t < 8 by omega) (show (y 0 : ℕ) / 8 < 66 by omega)
  have t4 : hpAt (gblk h (7 - t)) v8 (65 - (y 0 : ℕ) / 8) = hpG h (66 * (7 - t) + (y 0 : ℕ) / 8) := by
    unfold hpAt
    by_cases hz : (y 0 : ℕ) / 8 = 0
    · rw [hz, if_neg (by omega), hv, Nat.add_zero]
    · rw [if_pos (by omega), tile_gblk h (by omega) (by omega)]
      unfold hpG
      rw [if_neg (by omega)]
      congr 1; omega
  have e1 : (528 * (7 - t) + (y 0 : ℕ)) % 4224 / 8 = 66 * (7 - t) + (y 0 : ℕ) / 8 := by omega
  have e2 : (528 * (7 - t) + (y 0 : ℕ)) % 4224 % 8 = (y 0 : ℕ) % 8 := by omega
  have e3 : 527 - (66 * (7 - t) + (y 0 : ℕ) / 8) = 66 * t + (65 - (y 0 : ℕ) / 8) := by omega
  unfold outD
  rw [c1, t1, t2, t3, t4]
  show _ = daRow a h dy ((528 * (7 - t) + (y 0 : ℕ)) % 4224) (y 1)
  unfold daRow
  simp only [e1, e2, e3]

theorem soutG_gblk (a dy : Vec F S4224x1280 .f32) {t : ℕ} (ht : t < 8) :
    soutG (gblk a (7 - t)) (gblk dy (7 - t)) (gcarry1 a dy (66 * t)) = (gcarry1 a dy (66 * (t + 1))).1 := by
  unfold soutG
  rw [carry1K_gblk a dy ht 66 (le_refl _)]
  exact shapeCast_id _ _

theorem soutA_gblk (a dy : Vec F S4224x1280 .f32) {t : ℕ} (ht : t < 8) :
    soutA (gblk a (7 - t)) (gblk dy (7 - t)) (gcarry1 a dy (66 * t)) = (gcarry1 a dy (66 * (t + 1))).2 := by
  unfold soutA
  rw [carry1K_gblk a dy ht 66 (le_refl _)]
  exact shapeCast_id _ _

end Cert.ScanIdeal.Value

end
-- ==== Proof.ScanRegions.lean ====
/- The two regions of the scan and its backward pass as segments of one run: what the staging buffers hold at each grid
   point, the carried scratches between points, and the run with every result array named. -/
module

public import proofs.«01_k».proof.Proof.ScanArr
public import proofs.«01_k».proof.Proof.Gen.ScanIdeal.Regions
public import proofs.«01_k».proof.Proof.Gen.ScanIdeal.Points
public import Idealize.ShloMosaic.Lib.Pipeline.Value
public import Idealize.ShloMosaic.Lib.Pipeline.FrameBody
public import Idealize.ShloMosaic.Lib.Pipeline.FrameSuffix
public import Idealize.ShloMosaic.Lib.Pipeline.RegionsLoop

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks -/

theorem idx0 : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) := by decide +kernel

theorem idx1 : ∀ t : Fin grid1.N, (win1_0.index t 0 = 7 - t.val ∧ win1_0.index t 1 = 0) ∧ (win1_1.index t 0 = 7 - t.val ∧ win1_1.index t 1 = 0)
    ∧ (win1_2.index t 0 = (7 - t.val) * 66 - 1 ∧ win1_2.index t 1 = 0) ∧ (win1_3.index t 0 = 7 - t.val ∧ win1_3.index t 1 = 0)
    ∧ (win1_4.index t 0 = 7 - t.val ∧ win1_4.index t 1 = 0) ∧ (win1_5.index t 0 = 7 - t.val ∧ win1_5.index t 1 = 0) := by decide +kernel

/-- Window 0 of the forward region is on block `t` at point `t`. -/
theorem rd0_0 (x : Vec F S4224x1280 .f32) (t : Fin cfg0.N) : ((cfg0.win 0).blk t).view.read (Elt F) x = gblk x (t.val) := by
  have ht : t.val < 8 := lt_of_lt_of_eq t.isLt N_0
  funext y
  have h0 : (y 0 : ℕ) < 528 := (y 0).isLt
  show x ((win0_0.rect t).emb y) = _
  unfold gblk
  congr 1
  funext q
  refine Fin.ext ((Window.rect_emb_val win0_0 t y q).trans ?_)
  match q with
  | ⟨0, _⟩ =>
    show win0_0.index t 0 * 528 + (y 0 : ℕ) = (528 * (t.val) + (y 0 : ℕ)) % 4224
    rw [(idx0 t).1.1]; omega
  | ⟨1, _⟩ =>
    show win0_0.index t 1 * 1280 + (y 1 : ℕ) = (y 1 : ℕ)
    rw [(idx0 t).1.2]; omega

/-- Window 1 of the forward region is on block `t` at point `t`. -/
theorem rd0_1 (x : Vec F S4224x1280 .f32) (t : Fin cfg0.N) : ((cfg0.win 1).blk t).view.read (Elt F) x = gblk x (t.val) := by
  have ht : t.val < 8 := lt_of_lt_of_eq t.isLt N_0
  funext y
  have h0 : (y 0 : ℕ) < 528 := (y 0).isLt
  show x ((win0_1.rect t).emb y) = _
  unfold gblk
  congr 1
  funext q
  refine Fin.ext ((Window.rect_emb_val win0_1 t y q).trans ?_)
  match q with
  | ⟨0, _⟩ =>
    show win0_1.index t 0 * 528 + (y 0 : ℕ) = (528 * (t.val) + (y 0 : ℕ)) % 4224
    rw [(idx0 t).2.1.1]; omega
  | ⟨1, _⟩ =>
    show win0_1.index t 1 * 1280 + (y 1 : ℕ) = (y 1 : ℕ)
    rw [(idx0 t).2.1.2]; omega

/-- Window 2 of the forward region is on block `t` at point `t`. -/
theorem rd0_2 (x : Vec F S4224x1280 .f32) (t : Fin cfg0.N) : ((cfg0.win 2).blk t).view.read (Elt F) x = gblk x (t.val) := by
  have ht : t.val < 8 := lt_of_lt_of_eq t.isLt N_0
  funext y
  have h0 : (y 0 : ℕ) < 528 := (y 0).isLt
  show x ((win0_2.rect t).emb y) = _
  unfold gblk
  congr 1
  funext q
  refine Fin.ext ((Window.rect_emb_val win0_2 t y q).trans ?_)
  match q with
  | ⟨0, _⟩ =>
    show win0_2.index t 0 * 528 + (y 0 : ℕ) = (528 * (t.val) + (y 0 : ℕ)) % 4224
    rw [(idx0 t).2.2.1]; omega
  | ⟨1, _⟩ =>
    show win0_2.index t 1 * 1280 + (y 1 : ℕ) = (y 1 : ℕ)
    rw [(idx0 t).2.2.2]; omega

/-- Window 0 of the backward region is on block `7 - t` at point `t`. -/
theorem rd1_0 (x : Vec F S4224x1280 .f32) (t : Fin cfg1.N) : ((cfg1.win 0).blk t).view.read (Elt F) x = gblk x (7 - t.val) := by
  have ht : t.val < 8 := lt_of_lt_of_eq t.isLt N_1
  funext y
  have h0 : (y 0 : ℕ) < 528 := (y 0).isLt
  show x ((win1_0.rect t).emb y) = _
  unfold gblk
  congr 1
  funext q
  refine Fin.ext ((Window.rect_emb_val win1_0 t y q).trans ?_)
  match q with
  | ⟨0, _⟩ =>
    show win1_0.index t 0 * 528 + (y 0 : ℕ) = (528 * (7 - t.val) + (y 0 : ℕ)) % 4224
    rw [(idx1 t).1.1]; omega
  | ⟨1, _⟩ =>
    show win1_0.index t 1 * 1280 + (y 1 : ℕ) = (y 1 : ℕ)
    rw [(idx1 t).1.2]; omega

/-- Window 1 of the backward region is on block `7 - t` at point `t`. -/
theorem rd1_1 (x : Vec F S4224x1280 .f32) (t : Fin cfg1.N) : ((cfg1.win 1).blk t).view.read (Elt F) x = gblk x (7 - t.val) := by
  have ht : t.val < 8 := lt_of_lt_of_eq t.isLt N_1
  funext y
  have h0 : (y 0 : ℕ) < 528 := (y 0).isLt
  show x ((win1_1.rect t).emb y) = _
  unfold gblk
  congr 1
  funext q
  refine Fin.ext ((Window.rect_emb_val win1_1 t y q).trans ?_)
  match q with
  | ⟨0, _⟩ =>
    show win1_1.index t 0 * 528 + (y 0 : ℕ) = (528 * (7 - t.val) + (y 0 : ℕ)) % 4224
    rw [(idx1 t).2.1.1]; omega
  | ⟨1, _⟩ =>
    show win1_1.index t 1 * 1280 + (y 1 : ℕ) = (y 1 : ℕ)
    rw [(idx1 t).2.1.2]; omega

/-- The halo of the backward region is the tile before its block. -/
theorem rd1_2 (x : Vec F S4224x1280 .f32) (t : Fin cfg1.N) : ((cfg1.win 2).blk t).view.read (Elt F) x = gtile x ((7 - t.val) * 66 - 1) := by
  have ht : t.val < 8 := lt_of_lt_of_eq t.isLt N_1
  funext y
  have h0 : (y 0 : ℕ) < 8 := (y 0).isLt
  show x ((win1_2.rect t).emb y) = _
  unfold gtile
  congr 1
  funext q
  refine Fin.ext ((Window.rect_emb_val win1_2 t y q).trans ?_)
  match q with
  | ⟨0, _⟩ =>
    show win1_2.index t 0 * 8 + (y 0 : ℕ) = (8 * ((7 - t.val) * 66 - 1) + (y 0 : ℕ)) % 4224
    rw [(idx1 t).2.2.1.1]; omega
  | ⟨1, _⟩ =>
    show win1_2.index t 1 * 1280 + (y 1 : ℕ) = (y 1 : ℕ)
    rw [(idx1 t).2.2.1.2]; omega

/-- Window 3 of the backward region is on block `7 - t` at point `t`. -/
theorem rd1_3 (x : Vec F S4224x1280 .f32) (t : Fin cfg1.N) : ((cfg1.win 3).blk t).view.read (Elt F) x = gblk x (7 - t.val) := by
  have ht : t.val < 8 := lt_of_lt_of_eq t.isLt N_1
  funext y
  have h0 : (y 0 : ℕ) < 528 := (y 0).isLt
  show x ((win1_3.rect t).emb y) = _
  unfold gblk
  congr 1
  funext q
  refine Fin.ext ((Window.rect_emb_val win1_3 t y q).trans ?_)
  match q with
  | ⟨0, _⟩ =>
    show win1_3.index t 0 * 528 + (y 0 : ℕ) = (528 * (7 - t.val) + (y 0 : ℕ)) % 4224
    rw [(idx1 t).2.2.2.1.1]; omega
  | ⟨1, _⟩ =>
    show win1_3.index t 1 * 1280 + (y 1 : ℕ) = (y 1 : ℕ)
    rw [(idx1 t).2.2.2.1.2]; omega

/-- Window 4 of the backward region is on block `7 - t` at point `t`. -/
theorem rd1_4 (x : Vec F S4224x1280 .f32) (t : Fin cfg1.N) : ((cfg1.win 4).blk t).view.read (Elt F) x = gblk x (7 - t.val) := by
  have ht : t.val < 8 := lt_of_lt_of_eq t.isLt N_1
  funext y
  have h0 : (y 0 : ℕ) < 528 := (y 0).isLt
  show x ((win1_4.rect t).emb y) = _
  unfold gblk
  congr 1
  funext q
  refine Fin.ext ((Window.rect_emb_val win1_4 t y q).trans ?_)
  match q with
  | ⟨0, _⟩ =>
    show win1_4.index t 0 * 528 + (y 0 : ℕ) = (528 * (7 - t.val) + (y 0 : ℕ)) % 4224
    rw [(idx1 t).2.2.2.2.1.1]; omega
  | ⟨1, _⟩ =>
    show win1_4.index t 1 * 1280 + (y 1 : ℕ) = (y 1 : ℕ)
    rw [(idx1 t).2.2.2.2.1.2]; omega

/-- Window 5 of the backward region is on block `7 - t` at point `t`. -/
theorem rd1_5 (x : Vec F S4224x1280 .f32) (t : Fin cfg1.N) : ((cfg1.win 5).blk t).view.read (Elt F) x = gblk x (7 - t.val) := by
  have ht : t.val < 8 := lt_of_lt_of_eq t.isLt N_1
  funext y
  have h0 : (y 0 : ℕ) < 528 := (y 0).isLt
  show x ((win1_5.rect t).emb y) = _
  unfold gblk
  congr 1
  funext q
  refine Fin.ext ((Window.rect_emb_val win1_5 t y q).trans ?_)
  match q with
  | ⟨0, _⟩ =>
    show win1_5.index t 0 * 528 + (y 0 : ℕ) = (528 * (7 - t.val) + (y 0 : ℕ)) % 4224
    rw [(idx1 t).2.2.2.2.2.1]; omega
  | ⟨1, _⟩ =>
    show win1_5.index t 1 * 1280 + (y 1 : ℕ) = (y 1 : ℕ)
    rw [(idx1 t).2.2.2.2.2.2]; omega

end Cert.ScanIdeal.Value

end
-- ==== Proof.ScanDats.lean ====
/- What each region's staging buffers and carried scratches hold at every grid point, and that the bodies leave them so. -/
module

public import proofs.«01_k».proof.Proof.ScanRegions
public import Idealize.ShloMosaic.Lib.WordCmp

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer of a core at some contents. -/
abbrev anyBuf (c : Dev nD) (r : Ref sig .tc) : sProp 𝕄 :=
  iprop(∃ f : Buf (Elt F) ((c : Thread nD τ).loc r), ((c : Thread nD τ).loc r) ↦{fullShare} f)

/-- The scratch of the forward region. -/
abbrev sc0 : Memref sig .tc .vmem S8x1280 .f32 := Memref.whole cc0_scratch0
/-- The gradient scratch of the backward region. -/
abbrev sc1 : Memref sig .tc .vmem S8x1280 .f32 := Memref.whole cc1_scratch0
/-- The decay scratch of the backward region. -/
abbrev sc2 : Memref sig .tc .vmem S8x1280 .f32 := Memref.whole cc1_scratch1

/-- The scoped buffers the forward region does not touch. -/
def rest0 (c : Dev nD) : sProp 𝕄 := iprop(anyBuf c cc1_stg0_0 ∗ anyBuf c cc1_stg0_1 ∗ anyBuf c cc1_stg1_0 ∗ anyBuf c cc1_stg1_1 ∗ anyBuf c cc1_stg2_0 ∗ anyBuf c cc1_stg2_1 ∗ anyBuf c cc1_stg3_0 ∗ anyBuf c cc1_stg3_1 ∗ anyBuf c cc1_stg4_0 ∗ anyBuf c cc1_stg4_1 ∗ anyBuf c cc1_stg5_0 ∗ anyBuf c cc1_stg5_1 ∗ anyBuf c cc1_scratch0 ∗ anyBuf c cc1_scratch1)

/-- The scoped buffers the backward region does not touch. -/
def rest1 (c : Dev nD) : sProp 𝕄 := iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_scratch0)

theorem PhiA0_eq (c : Dev nD) :
    (Pipeline.ΦA spec0 c : sProp 𝕄) = iprop(((∃ d, owns (c : Thread nD τ) sc0 fullShare d) ∗ rest0 c) ∗ (∃ r, prngReg c r)) := by
  unfold Pipeline.ΦA rest0; rw [scopedRest0_eq]; simp only [sc0, owns_whole]; try rfl

theorem PhiA1_eq (c : Dev nD) :
    (Pipeline.ΦA spec1 c : sProp 𝕄) = iprop((anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_scratch0
      ∗ (∃ d, owns (c : Thread nD τ) sc1 fullShare d) ∗ (∃ d, owns (c : Thread nD τ) sc2 fullShare d)) ∗ (∃ r, prngReg c r)) := by
  unfold Pipeline.ΦA; rw [scopedRest1_eq]; simp only [sc1, sc2, owns_whole]; try rfl

theorem PhiA1_open (c : Dev nD) : (Pipeline.ΦA spec1 c : sProp 𝕄)
    ⊢ iprop((∃ d, owns (c : Thread nD τ) sc1 fullShare d) ∗ (∃ d, owns (c : Thread nD τ) sc2 fullShare d) ∗ rest1 c ∗ (∃ r, prngReg c r)) := by
  rw [PhiA1_eq]; unfold rest1
  iintro ⟨⟨H1, H2, H3, H4, H5, H6, H7, H8, H9⟩, Hp⟩
  isplitl [H8]; · iexact H8
  isplitl [H9]; · iexact H9
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hp

theorem PhiA1_close (c : Dev nD) : iprop((∃ d, owns (c : Thread nD τ) sc1 fullShare d) ∗ (∃ d, owns (c : Thread nD τ) sc2 fullShare d) ∗ rest1 c ∗ (∃ r, prngReg c r))
    ⊢ (Pipeline.ΦA spec1 c : sProp 𝕄) := by
  rw [PhiA1_eq]; unfold rest1
  iintro ⟨H8, H9, ⟨H1, H2, H3, H4, H5, H6, H7⟩, Hp⟩
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hp

/-! ## The forward region -/

/-- The forward region's first-point test. -/
theorem hcond0 : ∀ t : Fin cfg0.N, cond0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [cond0, e0]
    word_cmp
   : ∀ t : Fin grid0.N, cond0 (grid0.coords t) ↔ t.val = 0)

/-- The backward region's first-point test. -/
theorem hcond1 : ∀ t : Fin cfg1.N, cond1 (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    simp only [cond1, e0]
    word_cmp
   : ∀ t : Fin grid1.N, cond1 (grid1.coords t) ↔ t.val = 0)

variable (V : Dev nD → Valuation τ sig (Elt F))

/-- The decays a region finds. -/
abbrev arA (c : Dev nD) : Vec F S4224x1280 .f32 := V c main_arg0
/-- The inputs a region finds. -/
abbrev arU (c : Dev nD) : Vec F S4224x1280 .f32 := V c main_arg1
/-- The output gradients a region finds. -/
abbrev arD (c : Dev nD) : Vec F S4224x1280 .f32 := V c main_arg2
/-- The states a region finds. -/
abbrev arH (c : Dev nD) : Vec F S4224x1280 .f32 := V c main_v0

/-- The forward region between points: its scratch holds the state carried into the next block. -/
def PhiS0 (c : Dev nD) : ℕ → sProp 𝕄
  | 0 => Pipeline.ΦA spec0 c
  | n + 1 => iprop((owns (c : Thread nD τ) sc0 fullShare (gcarry (arA V c) (arU V c) (66 * (n + 1))) ∗ rest0 c) ∗ (∃ r, prngReg c r))

/-- The forward region's proof data: every input buffer at its block, the output buffer at its block of the states. -/
def dat0 (c : Dev nD) : Dat τ (Elt F) Unit ℕ (UR sig nD τ) ℕ cfg0 c where
  A w := V c (Proc.devRef .tc (Pipeline.arrRef spec0 w))
  after w t := match w with
    | ⟨0, _⟩ => gblk (arA V c) t.val
    | ⟨1, _⟩ => gblk (arU V c) t.val
    | ⟨2, _⟩ => gblk (hsOut (arA V c) (arU V c)) t.val
  Φ t := PhiS0 V c t.val
  q w := Pipeline.shareOf spec0 w
  owed _ := 0

theorem A0_eq (c : Dev nD) (w : Fin cfg0.W) : (dat0 V c).A w = V c (Proc.devRef .tc (Pipeline.arrRef spec0 w)) := by dsimp only [dat0]
theorem after0_0 (c : Dev nD) (t : Fin cfg0.N) : (dat0 V c).after 0 t = gblk (arA V c) t.val := by dsimp only [dat0]
theorem after0_1 (c : Dev nD) (t : Fin cfg0.N) : (dat0 V c).after 1 t = gblk (arU V c) t.val := by dsimp only [dat0]
theorem after0_2 (c : Dev nD) (t : Fin cfg0.N) : (dat0 V c).after 2 t = gblk (hsOut (arA V c) (arU V c)) t.val := by dsimp only [dat0]

theorem before0_0 (c : Dev nD) (t : Fin cfg0.N) (d) : (dat0 V c).before 0 t d = gblk (arA V c) t.val :=
  ((dat0 V c).before_in_eq_fetched 0 rfl (fun _ => rfl) (fun _ _ _ => rfl)
    (fun t => by rw [after0_0]; unfold Dat.blockOf; rw [A0_eq]; exact (rd0_0 (F := F) (arA V c) t).symm) t d).trans
    (by unfold Dat.fetched Dat.blockOf; rw [A0_eq]; exact rd0_0 (F := F) (arA V c) t)
theorem before0_1 (c : Dev nD) (t : Fin cfg0.N) (d) : (dat0 V c).before 1 t d = gblk (arU V c) t.val :=
  ((dat0 V c).before_in_eq_fetched 1 rfl (fun _ => rfl) (fun _ _ _ => rfl)
    (fun t => by rw [after0_1]; unfold Dat.blockOf; rw [A0_eq]; exact (rd0_1 (F := F) (arU V c) t).symm) t d).trans
    (by unfold Dat.fetched Dat.blockOf; rw [A0_eq]; exact rd0_1 (F := F) (arU V c) t)

/-- What the forward body is called with. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- And what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound0 (c : Dev nD) (t : Fin cfg0.N) :
    bodyPre0 V c t ⊢ wp frame (wpE (defs₀ (F := F)) Variants.none c none) Set.univ (bodyAt0 t) (fun _ => bodyPost0 V c t) := by
  have ht : t.val < 8 := lt_of_lt_of_eq t.isLt N_0
  unfold bodyPre0 bodyPost0 bodyAt0
  simp only [before0_0, before0_1]
  rw [show (dat0 V c).owesAt () t.succ = (dat0 V c).owesAt () t.castSucc from rfl, after0_0, after0_1, after0_2,
    show (dat0 V c).Φ t.succ = PhiS0 V c (t.val + 1) from rfl,
    show (dat0 V c).Φ t.castSucc = PhiS0 V c t.val from rfl,
    show PhiS0 V c (t.val + 1) = iprop((owns (c : Thread nD τ) sc0 fullShare (gcarry (arA V c) (arU V c) (66 * (t.val + 1))) ∗ rest0 c) ∗ (∃ r, prngReg c r)) from rfl,
    ← out0_gblk _ _ ht, ← sout0_gblk _ _ ht]
  by_cases hz : t.val = 0
  · rw [show PhiS0 V c t.val = Pipeline.ΦA spec0 c by rw [hz]; rfl, PhiA0_eq,
      show gcarry (arA V c) (arU V c) (66 * t.val) = k0_pay1 by rw [hz]; rfl]
    iintro ⟨⟨⟨HS, Hr⟩, Hg⟩, Ho, ⟨%d0, H0⟩, ⟨%d1, H1⟩, ⟨%d2, H2⟩⟩
    iapply (body0_A c (grid0.coords t) _ _ _ _ _ _ _ _ ((hcond0 t).mpr hz) (gblk (arA V c) t.val) (gblk (arU V c) t.val) Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2
  · obtain ⟨n, hn⟩ : ∃ n, t.val = n + 1 := ⟨t.val - 1, by omega⟩
    rw [show PhiS0 V c t.val = iprop((owns (c : Thread nD τ) sc0 fullShare (gcarry (arA V c) (arU V c) (66 * t.val)) ∗ rest0 c) ∗ (∃ r, prngReg c r)) by rw [hn]; rfl]
    iintro ⟨⟨⟨HS, Hr⟩, Hg⟩, Ho, ⟨%d0, H0⟩, ⟨%d1, H1⟩, ⟨%d2, H2⟩⟩
    iapply (body0_B c (grid0.coords t) _ _ _ _ _ _ _ _ (fun h => hz ((hcond0 t).mp h)) (gblk (arA V c) t.val) (gblk (arU V c) t.val) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2

theorem row0 (t : Fin cfg0.N) : defs₀ (F := F) .tc cfg0.body (cfg0.bodyArgs t (cfg0.slots t)) = bodyAt0 t := by
  unfold defs₀; rw [Defs.onTc_tc]

/-- The forward region's body obligation. -/
theorem oblig0 (c : Dev nD) : BodyObligation (dat0 V c) (defs₀ (F := F)) Variants.none () Set.univ := fun t => by
  rw [bigSep_W0, bigSep_W0, row0]
  exact triple_restated (sound0 V c t) rfl .rfl fun _ => .rfl

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = iprop((owns (c : Thread nD τ) sc0 fullShare (gcarry (arA V c) (arU V c) (66 * (7 + 1))) ∗ rest0 c) ∗ (∃ r, prngReg c r)) from rfl, PhiA0_eq]
  iintro ⟨⟨HS, Hr⟩, Hg⟩
  isplitl [HS Hr]
  · isplitl [HS]; · iexists _; iexact HS
    iexact Hr
  iexact Hg

/-- Every index lies in the block of the point its row selects. -/
theorem cov0_2 (i : S4224x1280.Idx) (t : Fin cfg0.N) (ht : t.val = (i 0 : ℕ) / 528) : i ∈ ((cfg0.win 2).blk t).view.set := by
  have hi : (i 0 : ℕ) < 4224 := (i 0).isLt
  have e : (win0_2.rect t).emb (ix2 (⟨(i 0 : ℕ) % 528, Nat.mod_lt _ (by decide)⟩ : Fin 528) (i 1 : Fin 1280)) = i := by
    funext q
    refine Fin.ext ((Window.rect_emb_val win0_2 t _ q).trans ?_)
    match q with
    | ⟨0, _⟩ =>
      show win0_2.index t 0 * 528 + (i 0 : ℕ) % 528 = (i 0 : ℕ)
      rw [(idx0 t).2.2.1]; omega
    | ⟨1, _⟩ =>
      show win0_2.index t 1 * 1280 + (i 1 : ℕ) = (i 1 : ℕ)
      rw [(idx0 t).2.2.2]; omega
  exact Finset.mem_map.mpr ⟨_, Finset.mem_univ _, e⟩

/-- The states the forward region leaves. -/
theorem final0 (c : Dev nD) : (dat0 V c).arrAt 2 cfg0.N = hsOut (arA V c) (arU V c) := by
  refine (dat0 V c).arrAt_eq_of_cover 2 (hsOut (arA V c) (arU V c)) (fun t _ => ?_) (fun i => ?_)
  · exact (after0_2 V c t).trans (rd0_2 (F := F) (hsOut (arA V c) (arU V c)) t).symm
  · have hi : (i 0 : ℕ) < 4224 := (i 0).isLt
    exact ⟨⟨(i 0 : ℕ) / 528, by have := N_0; show _ < grid0.N; omega⟩, flush0_2 _, cov0_2 i _ rfl⟩

/-! ## The backward region -/

/-- The halo's last tile is used except at the last point, where zeros stand for the state before the first row. -/
theorem pay3_eq (h : Vec F S4224x1280 .f32) (t : Fin cfg1.N) :
    k1_pay3 (grid1.coords t) (gtile h ((7 - t.val) * 66 - 1)) = hpG h (66 * (7 - t.val)) := by
  have ht : t.val < 8 := lt_of_lt_of_eq t.isLt N_1
  have e0 : (grid1.coords t 0).val = t.val / 1 % 8 := Pipeline.Grid.coords_val t 0 (by decide) rfl
  have hc : Scalar.cmpi .slt (BitVec.ofNat 32 (grid1.coords t 0).val) 7#32 = 1#1 ↔ t.val < 7 := by
    rw [e0]; word_cmp
  unfold hpG
  by_cases h7 : t.val < 7
  · rw [if_neg (by omega), show 66 * (7 - t.val) - 1 = (7 - t.val) * 66 - 1 by omega]
    show Scalar.select (Scalar.cmpi .slt (BitVec.ofNat 32 (grid1.coords t 0).val) 7#32) _ _ = _
    rw [hc.mpr h7]
    exact (if_pos rfl).trans (shapeCast_id _ _)
  · rw [if_pos (by omega)]
    show Scalar.select (Scalar.cmpi .slt (BitVec.ofNat 32 (grid1.coords t 0).val) 7#32) _ _ = _
    exact (if_neg (fun e => h7 (hc.mp e))).trans (shapeCast_id _ _).symm

/-- The backward region between points: its scratches hold the gradient and the decay carried into the next block. -/
def PhiS1 (c : Dev nD) : ℕ → sProp 𝕄
  | 0 => Pipeline.ΦA spec1 c
  | n + 1 => iprop(owns (c : Thread nD τ) sc1 fullShare (gcarry1 (arA V c) (arD V c) (66 * (n + 1))).1
      ∗ owns (c : Thread nD τ) sc2 fullShare (gcarry1 (arA V c) (arD V c) (66 * (n + 1))).2 ∗ rest1 c ∗ (∃ r, prngReg c r))

/-- The backward region's proof data: every input buffer at its block, the output buffers at their blocks of the gradients. -/
def dat1 (c : Dev nD) : Dat τ (Elt F) Unit ℕ (UR sig nD τ) ℕ cfg1 c where
  A w := V c (Proc.devRef .tc (Pipeline.arrRef spec1 w))
  after w t := match w with
    | ⟨0, _⟩ => gblk (arA V c) (7 - t.val)
    | ⟨1, _⟩ => gblk (arH V c) (7 - t.val)
    | ⟨2, _⟩ => gtile (arH V c) ((7 - t.val) * 66 - 1)
    | ⟨3, _⟩ => gblk (arD V c) (7 - t.val)
    | ⟨4, _⟩ => gblk (duOut (arA V c) (arD V c)) (7 - t.val)
    | ⟨5, _⟩ => gblk (daOut (arA V c) (arH V c) (arD V c)) (7 - t.val)
  Φ t := PhiS1 V c t.val
  q w := Pipeline.shareOf spec1 w
  owed _ := 0

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = gblk (arA V c) (7 - t.val) := by dsimp only [dat1]
theorem after1_1 (c : Dev nD) (t : Fin cfg1.N) : (dat1 V c).after 1 t = gblk (arH V c) (7 - t.val) := by dsimp only [dat1]
theorem after1_2 (c : Dev nD) (t : Fin cfg1.N) : (dat1 V c).after 2 t = gtile (arH V c) ((7 - t.val) * 66 - 1) := by dsimp only [dat1]
theorem after1_3 (c : Dev nD) (t : Fin cfg1.N) : (dat1 V c).after 3 t = gblk (arD V c) (7 - t.val) := by dsimp only [dat1]
theorem after1_4 (c : Dev nD) (t : Fin cfg1.N) : (dat1 V c).after 4 t = gblk (duOut (arA V c) (arD V c)) (7 - t.val) := by dsimp only [dat1]
theorem after1_5 (c : Dev nD) (t : Fin cfg1.N) : (dat1 V c).after 5 t = gblk (daOut (arA V c) (arH V c) (arD V c)) (7 - t.val) := by dsimp only [dat1]
theorem before1_0 (c : Dev nD) (t : Fin cfg1.N) (d) : (dat1 V c).before 0 t d = gblk (arA V c) (7 - t.val) :=
  ((dat1 V c).before_in_eq_fetched 0 rfl (fun _ => rfl) (fun _ _ _ => rfl)
    (fun t => by rw [after1_0]; unfold Dat.blockOf; rw [A1_eq]; exact (rd1_0 (F := F) (arA V c) t).symm) t d).trans
    (by unfold Dat.fetched Dat.blockOf; rw [A1_eq]; exact rd1_0 (F := F) (arA V c) t)
theorem before1_1 (c : Dev nD) (t : Fin cfg1.N) (d) : (dat1 V c).before 1 t d = gblk (arH V c) (7 - t.val) :=
  ((dat1 V c).before_in_eq_fetched 1 rfl (fun _ => rfl) (fun _ _ _ => rfl)
    (fun t => by rw [after1_1]; unfold Dat.blockOf; rw [A1_eq]; exact (rd1_1 (F := F) (arH V c) t).symm) t d).trans
    (by unfold Dat.fetched Dat.blockOf; rw [A1_eq]; exact rd1_1 (F := F) (arH V c) t)
theorem before1_2 (c : Dev nD) (t : Fin cfg1.N) (d) : (dat1 V c).before 2 t d = gtile (arH V c) ((7 - t.val) * 66 - 1) :=
  ((dat1 V c).before_in_eq_fetched 2 rfl (fun _ => rfl) (fun _ _ _ => rfl)
    (fun t => by rw [after1_2]; unfold Dat.blockOf; rw [A1_eq]; exact (rd1_2 (F := F) (arH V c) t).symm) t d).trans
    (by unfold Dat.fetched Dat.blockOf; rw [A1_eq]; exact rd1_2 (F := F) (arH V c) t)
theorem before1_3 (c : Dev nD) (t : Fin cfg1.N) (d) : (dat1 V c).before 3 t d = gblk (arD V c) (7 - t.val) :=
  ((dat1 V c).before_in_eq_fetched 3 rfl (fun _ => rfl) (fun _ _ _ => rfl)
    (fun t => by rw [after1_3]; unfold Dat.blockOf; rw [A1_eq]; exact (rd1_3 (F := F) (arD V c) t).symm) t d).trans
    (by unfold Dat.fetched Dat.blockOf; rw [A1_eq]; exact rd1_3 (F := F) (arD V c) t)

/-- What the backward body is called with. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound1 (c : Dev nD) (t : Fin cfg1.N) :
    bodyPre1 V c t ⊢ wp frame (wpE (defs₀ (F := F)) Variants.none c none) Set.univ (bodyAt1 t) (fun _ => bodyPost1 V c t) := by
  have ht : t.val < 8 := lt_of_lt_of_eq t.isLt N_1
  unfold bodyPre1 bodyPost1 bodyAt1
  simp only [before1_0, before1_1, before1_2, before1_3]
  rw [show (dat1 V c).owesAt () t.succ = (dat1 V c).owesAt () t.castSucc from rfl, after1_0, after1_1, after1_2, after1_3, after1_4, after1_5,
    show (dat1 V c).Φ t.succ = PhiS1 V c (t.val + 1) from rfl,
    show (dat1 V c).Φ t.castSucc = PhiS1 V c t.val from rfl,
    show PhiS1 V c (t.val + 1) = iprop(owns (c : Thread nD τ) sc1 fullShare (gcarry1 (arA V c) (arD V c) (66 * (t.val + 1))).1
      ∗ owns (c : Thread nD τ) sc2 fullShare (gcarry1 (arA V c) (arD V c) (66 * (t.val + 1))).2 ∗ rest1 c ∗ (∃ r, prngReg c r)) from rfl,
    ← outG_gblk _ _ ht, ← outD_gblk _ _ _ ht _ (pay3_eq (arH V c) t), ← soutG_gblk _ _ ht, ← soutA_gblk _ _ ht]
  by_cases hz : t.val = 0
  · rw [show PhiS1 V c t.val = Pipeline.ΦA spec1 c by rw [hz]; rfl,
      show gcarry1 (arA V c) (arD V c) (66 * t.val) = (k1_pay1 (F := F), k1_pay2 (F := F)) by rw [hz]; rfl]
    refine (sep_mono (PhiA1_open c) .rfl).trans ?_
    iintro ⟨⟨HS1, HS2, Hr, Hg⟩, Ho, ⟨%d0, H0⟩, ⟨%d1, H1⟩, ⟨%d2, H2⟩, ⟨%d3, H3⟩, ⟨%d4, H4⟩, ⟨%d5, H5⟩⟩
    iapply (body1_A c (grid1.coords t) _ _ _ _ _ _ _ _ _ _ _ _ _ _ _ _ ((hcond1 t).mpr hz) (gblk (arA V c) (7 - t.val)) (gblk (arH V c) (7 - t.val)) (gtile (arH V c) ((7 - t.val) * 66 - 1)) (gblk (arD V c) (7 - t.val)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS1]; · iexact HS1
    isplitl [HS2]; · iexact HS2
    iintro ⟨H0, H1, H2, H3, H4, H5, HS1, HS2⟩
    isplitl [HS1 HS2 Hr Hg]
    · isplitl [HS1]; · iexact HS1
      isplitl [HS2]; · iexact HS2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := ⟨t.val - 1, by omega⟩
    rw [show PhiS1 V c t.val = iprop(owns (c : Thread nD τ) sc1 fullShare (gcarry1 (arA V c) (arD V c) (66 * t.val)).1
      ∗ owns (c : Thread nD τ) sc2 fullShare (gcarry1 (arA V c) (arD V c) (66 * t.val)).2 ∗ rest1 c ∗ (∃ r, prngReg c r)) by rw [hn]; rfl]
    iintro ⟨⟨HS1, HS2, Hr, Hg⟩, Ho, ⟨%d0, H0⟩, ⟨%d1, H1⟩, ⟨%d2, H2⟩, ⟨%d3, H3⟩, ⟨%d4, H4⟩, ⟨%d5, H5⟩⟩
    iapply (body1_B c (grid1.coords t) _ _ _ _ _ _ _ _ _ _ _ _ _ _ _ _ (fun h => hz ((hcond1 t).mp h)) (gblk (arA V c) (7 - t.val)) (gblk (arH V c) (7 - t.val)) (gtile (arH V c) ((7 - t.val) * 66 - 1)) (gblk (arD V c) (7 - t.val)) (gcarry1 (arA V c) (arD V c) (66 * t.val)).1 (gcarry1 (arA V c) (arD V c) (66 * t.val)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS1]; · iexact HS1
    isplitl [HS2]; · iexact HS2
    iintro ⟨H0, H1, H2, H3, H4, H5, HS1, HS2⟩
    isplitl [HS1 HS2 Hr Hg]
    · isplitl [HS1]; · iexact HS1
      isplitl [HS2]; · iexact HS2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

theorem row1 (t : Fin cfg1.N) : defs₀ (F := F) .tc cfg1.body (cfg1.bodyArgs t (cfg1.slots t)) = bodyAt1 t := by
  unfold defs₀; rw [Defs.onTc_tc]

/-- The backward region's body obligation. -/
theorem oblig1 (c : Dev nD) : BodyObligation (dat1 V c) (defs₀ (F := F)) Variants.none () Set.univ := fun t => by
  rw [bigSep_W1, bigSep_W1, row1]
  exact triple_restated (sound1 V c t) rfl .rfl fun _ => .rfl

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = iprop(owns (c : Thread nD τ) sc1 fullShare (gcarry1 (arA V c) (arD V c) (66 * (7 + 1))).1
      ∗ owns (c : Thread nD τ) sc2 fullShare (gcarry1 (arA V c) (arD V c) (66 * (7 + 1))).2 ∗ rest1 c ∗ (∃ r, prngReg c r)) from rfl]
  refine BIBase.Entails.trans ?_ (PhiA1_close c)
  iintro ⟨H1, H2, Hr, Hg⟩
  isplitl [H1]; · iexists _; iexact H1
  isplitl [H2]; · iexists _; iexact H2
  isplitl [Hr]; · iexact Hr
  iexact Hg

/-- Every index lies in the block of the point its row selects. -/
theorem cov1_4 (i : S4224x1280.Idx) (t : Fin cfg1.N) (ht : t.val = 7 - (i 0 : ℕ) / 528) : i ∈ ((cfg1.win 4).blk t).view.set := by
  have hi : (i 0 : ℕ) < 4224 := (i 0).isLt
  have e : (win1_4.rect t).emb (ix2 (⟨(i 0 : ℕ) % 528, Nat.mod_lt _ (by decide)⟩ : Fin 528) (i 1 : Fin 1280)) = i := by
    funext q
    refine Fin.ext ((Window.rect_emb_val win1_4 t _ q).trans ?_)
    match q with
    | ⟨0, _⟩ =>
      show win1_4.index t 0 * 528 + (i 0 : ℕ) % 528 = (i 0 : ℕ)
      rw [(idx1 t).2.2.2.2.1.1]; omega
    | ⟨1, _⟩ =>
      show win1_4.index t 1 * 1280 + (i 1 : ℕ) = (i 1 : ℕ)
      rw [(idx1 t).2.2.2.2.1.2]; omega
  exact Finset.mem_map.mpr ⟨_, Finset.mem_univ _, e⟩

/-- The gradients the backward region leaves in window 4. -/
theorem final1_4 (c : Dev nD) : (dat1 V c).arrAt 4 cfg1.N = duOut (arA V c) (arD V c) := by
  refine (dat1 V c).arrAt_eq_of_cover 4 (duOut (arA V c) (arD V c)) (fun t _ => ?_) (fun i => ?_)
  · exact (after1_4 V c t).trans (rd1_4 (F := F) (duOut (arA V c) (arD V c)) t).symm
  · have hi : (i 0 : ℕ) < 4224 := (i 0).isLt
    exact ⟨⟨7 - (i 0 : ℕ) / 528, by have := N_1; show _ < grid1.N; omega⟩, flush1_4 _, cov1_4 i _ rfl⟩

/-- Every index lies in the block of the point its row selects. -/
theorem cov1_5 (i : S4224x1280.Idx) (t : Fin cfg1.N) (ht : t.val = 7 - (i 0 : ℕ) / 528) : i ∈ ((cfg1.win 5).blk t).view.set := by
  have hi : (i 0 : ℕ) < 4224 := (i 0).isLt
  have e : (win1_5.rect t).emb (ix2 (⟨(i 0 : ℕ) % 528, Nat.mod_lt _ (by decide)⟩ : Fin 528) (i 1 : Fin 1280)) = i := by
    funext q
    refine Fin.ext ((Window.rect_emb_val win1_5 t _ q).trans ?_)
    match q with
    | ⟨0, _⟩ =>
      show win1_5.index t 0 * 528 + (i 0 : ℕ) % 528 = (i 0 : ℕ)
      rw [(idx1 t).2.2.2.2.2.1]; omega
    | ⟨1, _⟩ =>
      show win1_5.index t 1 * 1280 + (i 1 : ℕ) = (i 1 : ℕ)
      rw [(idx1 t).2.2.2.2.2.2]; omega
  exact Finset.mem_map.mpr ⟨_, Finset.mem_univ _, e⟩

/-- The gradients the backward region leaves in window 5. -/
theorem final1_5 (c : Dev nD) : (dat1 V c).arrAt 5 cfg1.N = daOut (arA V c) (arH V c) (arD V c) := by
  refine (dat1 V c).arrAt_eq_of_cover 5 (daOut (arA V c) (arH V c) (arD V c)) (fun t _ => ?_) (fun i => ?_)
  · exact (after1_5 V c t).trans (rd1_5 (F := F) (daOut (arA V c) (arH V c) (arD V c)) t).symm
  · have hi : (i 0 : ℕ) < 4224 := (i 0).isLt
    exact ⟨⟨7 - (i 0 : ℕ) / 528, by have := N_1; show _ < grid1.N; omega⟩, flush1_5 _, cov1_5 i _ rfl⟩

end Cert.ScanIdeal.Value

end
-- ==== Proof.ScanRun.lean ====
/- The run of the scan and its backward pass: both regions in sequence, the three result arrays named. -/
module

public import proofs.«01_k».proof.Proof.ScanDats

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the backward region starts: the states written. -/
def VB (c : Dev nD) : Valuation τ sig (Elt F) :=
  Function.update (V0 m c) main_v0 ((dat0 (V0 m) c).arrAt 2 cfg0.N)

/-- What they hold at the end: both gradients written. -/
def VC (c : Dev nD) : Valuation τ sig (Elt F) :=
  Function.update (Function.update (VB m c) main_v1_0 ((dat1 (VB m) c).arrAt 4 cfg1.N)) main_v1_1 ((dat1 (VB m) c).arrAt 5 cfg1.N)

/-- Both regions' proof data. -/
def pd : (p : Fin 2) → (c : Dev nD) → Dat τ (Elt F) Unit ℕ (UR sig nD τ) ℕ (cfgs p) c
  | 0 => fun c => dat0 (V0 m) c
  | 1 => fun c => dat1 (VB m) c

/-- No level is assigned. -/
abbrev lvL : GSem nD τ sig → Finset Unit := fun _ => ∅
/-- Nor used. -/
abbrev lvl : GSem nD τ sig → Unit → ℕ := fun _ _ => 0

/-- What rides beside the buffers: the generator register and the core owing nothing. -/
abbrev ride (c : Dev nD) : sProp 𝕄 :=
  iprop((∃ r, prngReg c r) ∗ ∃ W, owes (c.tc : Thread nD τ) (0 : CellTallies nD τ sig Unit) W)

set_option backward.isDefEq.respectTransparency.types false in
/-- A region entered from every unscoped buffer at `V` and left with them at `V'`. -/
def mkSeg (p : Fin 2) (kit : Pipeline.LaunchFacts₀ (nD := nD) (τ := τ) cfgs p) (V V' : Dev nD → Valuation τ sig (Elt F))
    (hbody : ∀ c, BodyObligation (pd m p c) (defs₀ (F := F)) Variants.none () Set.univ)
    (howed : ∀ c t, (pd m p c).owed t = 0)
    (hrec : ∀ c t, (pd m p c).recorded t = Set.univ)
    (hq : ∀ c w, (pd m p c).q w = Pipeline.shareOf (cfgs p).spec w)
    (hA : ∀ c w, (pd m p c).A w = V c (Proc.devRef .tc (Pipeline.arrRef (cfgs p).spec w)))
    (hF : ∀ c w, (pd m p c).arrAt w (cfgs p).N = V' c (Proc.devRef .tc (Pipeline.arrRef (cfgs p).spec w)))
    (hrest : ∀ c (b : Ref sig .tc), b ∉ Finset.univ.image (Pipeline.arrRef (cfgs p).spec) → V' c (Proc.devRef .tc b) = V c (Proc.devRef .tc b))
    (hin : ∀ c, Pipeline.ΦA (cfgs p).spec c ⊢ (pd m p c).Φ 0)
    (hout : ∀ c, (pd m p c).Φ (Fin.last (cfgs p).N) ⊢ Pipeline.ΦA (cfgs p).spec c) :
    RegionSeg (pcfgs (F := F)) adm (pd m) () defs₀ Variants.none lvL lvl p :=
  have kitP := kit.toP (Val := Elt F)
  { win := kitP.win
    block_pos := kitP.block_pos
    stage_whole := kitP.stage_whole
    K := PEmpty
    osem := fun k => k.elim
    ho := Pipeline.OwnSemFacts.none _
    hbody := fun c => (hbody c).loose
    hwaits := Pipeline.hwaits_of_owed_zero (pcfgs (F := F)) adm (pd m) () lvL lvl p howed
    pre := fun c => iprop(StableHlo.held (c.tc : Thread nD τ) (Pipeline.ucRefs τ sig) (V c) ∗ ride c)
    post := fun c => iprop(StableHlo.held (c.tc : Thread nD τ) (Pipeline.ucRefs τ sig) (V' c) ∗ ride c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c.tc : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm]
      have hsplit := Pipeline.arrays_of_unscopedBufs_shared (pcfgs (F := F)) adm (pd m) (p := p) kitP.win kitP.sharedIn kitP.arr_whole c
        (fun w _ => hq c w) (fun b => V c (Proc.devRef .tc b)) (fun w => hA c w)
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        icases HO with ⟨%W, HO⟩
        iexists W; isplitr; · ipureintro; exact fun _ _ => Or.inl (by rw [hrec c 0]; trivial)
        iexact HO
      isplitl [Hp]; · iexact Hp
      iexact Hrest
    hin := fun c => (show _ ⊢ Pipeline.ΦA (cfgs p).spec c from by
      unfold Pipeline.ΦA; iintro ⟨Hp, -, Hr⟩
      isplitl [Hr] <;> iassumption).trans (hin c)
    hout := fun c => (hout c).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays_shared (pcfgs (F := F)) adm (Ix := Unit) (Name := ℕ) (U := UR sig nD τ) (Lvl := ℕ) (p := p)
        kitP.win kitP.sharedIn kitP.arr_whole c (pd m) (fun w _ => hq c w)
        (fun b => V c (Proc.devRef .tc b)) (fun b => V' c (Proc.devRef .tc b)) ((pd m p c).arrAt · (cfgs p).N)
        (fun w => hF c w) (fun b hb => hrest c b hb)
      rw [show StableHlo.held (c.tc : Thread nD τ) (Pipeline.ucRefs τ sig) (V' c) = unscopedBufs c (fun b => V' c (Proc.devRef .tc b))
          from (Pipeline.unscopedBufs_held (Ix := Unit) (Name := ℕ) (U := UR sig nD τ) (Lvl := ℕ) c (V' c)).symm]
      iintro ⟨Ha, HO, Hp, Hrest⟩
      imodintro
      isplitl [Ha Hrest]
      · iapply hjoin; isplitl [Ha] <;> iassumption
      isplitl [Hp]; · iexact Hp
      unfold Dat.owesAt Pipeline.owesWithin
      rw [howed c (Fin.last _)]
      icases HO with ⟨%W, -, HO⟩; iexists W; iexact HO }

theorem VB_v0 (c : Dev nD) : VB m c main_v0 = (dat0 (V0 m) c).arrAt 2 cfg0.N := by unfold VB; exact Function.update_self _ _ _
theorem VB_ne (c : Dev nD) (b : Ref sig .tc) (h : b ≠ main_v0) : VB m c b = V0 m c b := by
  unfold VB
  exact Function.update_of_ne (fun e => h (Proc.devRef_injective _ e)) _ _
theorem VC_v1_1 (c : Dev nD) : VC m c main_v1_1 = (dat1 (VB m) c).arrAt 5 cfg1.N := by unfold VC; exact Function.update_self _ _ _
theorem VC_v1_0 (c : Dev nD) : VC m c main_v1_0 = (dat1 (VB m) c).arrAt 4 cfg1.N := by
  unfold VC
  rw [Function.update_of_ne (fun e => absurd (Proc.devRef_injective _ e) (by decide))]
  exact Function.update_self _ _ _
theorem VC_ne (c : Dev nD) (b : Ref sig .tc) (h : b ≠ main_v1_0) (h' : b ≠ main_v1_1) : VC m c b = VB m c b := by
  unfold VC
  rw [Function.update_of_ne (fun e => h' (Proc.devRef_injective _ e)), Function.update_of_ne (fun e => h (Proc.devRef_injective _ e))]

/-- The forward region as a segment. -/
def R0 : RegionSeg (pcfgs (F := F)) adm (pd m) () defs₀ Variants.none lvL lvl 0 :=
  mkSeg m 0 launch0.to₀ (V0 m) (VB m) (fun c => oblig0 (V0 m) c) (fun _ _ => rfl) (fun _ _ => rfl) (fun _ _ => rfl) (fun c w => A0_eq (V0 m) c w)
    (fun c w => by
      match w with
      | ⟨0, _⟩ => exact ((dat0 (V0 m) c).arrAt_in 0 rfl _).trans (VB_ne m c main_arg0 (by decide)).symm
      | ⟨1, _⟩ => exact ((dat0 (V0 m) c).arrAt_in 1 rfl _).trans (VB_ne m c main_arg1 (by decide)).symm
      | ⟨2, _⟩ => exact (VB_v0 m c).symm)
    (fun c b hb => VB_ne m c b (fun e => hb (Finset.mem_image.mpr ⟨2, Finset.mem_univ _, e.symm⟩)))
    (fun c => hin0 (V0 m) c) (fun c => hout0 (V0 m) c)

/-- The backward region as a segment. -/
def R1 : RegionSeg (pcfgs (F := F)) adm (pd m) () defs₀ Variants.none lvL lvl 1 :=
  mkSeg m 1 launch₀1 (VB m) (VC m) (fun c => oblig1 (VB m) c) (fun _ _ => rfl) (fun _ _ => rfl) (fun _ _ => rfl) (fun c w => A1_eq (VB m) c w)
    (fun c w => by
      match w with
      | ⟨0, _⟩ => exact ((dat1 (VB m) c).arrAt_in 0 rfl _).trans (VC_ne m c main_arg0 (by decide) (by decide)).symm
      | ⟨1, _⟩ => exact ((dat1 (VB m) c).arrAt_in 1 rfl _).trans (VC_ne m c main_v0 (by decide) (by decide)).symm
      | ⟨2, _⟩ => exact ((dat1 (VB m) c).arrAt_in 2 rfl _).trans (VC_ne m c main_v0 (by decide) (by decide)).symm
      | ⟨3, _⟩ => exact ((dat1 (VB m) c).arrAt_in 3 rfl _).trans (VC_ne m c main_arg2 (by decide) (by decide)).symm
      | ⟨4, _⟩ => exact (VC_v1_0 m c).symm
      | ⟨5, _⟩ => exact (VC_v1_1 m c).symm)
    (fun c b hb => VC_ne m c b (fun e => hb (Finset.mem_image.mpr ⟨4, Finset.mem_univ _, e.symm⟩)) (fun e => hb (Finset.mem_image.mpr ⟨5, Finset.mem_univ _, e.symm⟩)))
    (fun c => hin1 (VB m) c) (fun c => hout1 (VB m) c)

set_option backward.isDefEq.respectTransparency.types false in
/-- The run: every execution ends, each unscoped buffer of a core holding what the two regions leave, every semaphore at zero. -/
theorem run_all :
    θ_run defs (onTc (τ := τ) (main (F := F))) ⟨m, fun _ => 0, ρ⟩ (fun r => (∀ c : Dev nD, ∀ b ∈ Pipeline.ucRefs τ sig, r.2.mem ((c.tc : Thread nD τ).1, b) = VC m c b)
      ∧ r.2.sem = fun _ => 0) := by
  refine Pipeline.θ_run_regions_kit_dev_sems (pcfgs (F := F)) adm (pd m) () cellOf_inj emb₁ defs₀ Variants.none lvL lvl m ρ main
    (fun _ => [.region (R0 m), .region (R1 m)])
    (fun c Q => by
      rewrite [main_chain c, Seg.run_eq_chain,
        show ([.region (R0 m), .region (R1 m)] : List (Seg (pcfgs (F := F)) adm (pd m) () defs₀ Variants.none lvL lvl)).map Seg.prog = [
          Prog.lift (.customCall (Pipeline.entry 0) ()),
          Prog.lift (.customCall (Pipeline.entry 1) ()) ] from rfl]
      dsimp (config := { failIfUnchanged := false }) only
      exact .rfl)
    (fun c => by simp only [Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V0 m c) ∗ ride c))
    (Tₙ := fun c => StableHlo.held (c.tc : Thread nD τ) (Pipeline.ucRefs τ sig) (VC m c))
    (hch := fun c => ⟨.rfl, .rfl,
      (show iprop(StableHlo.held (c.tc : Thread nD τ) (Pipeline.ucRefs τ sig) (VC m c)
          ∗ (∃ r, prngReg c r) ∗ ∃ W, owes (c.tc : Thread nD τ) (0 : CellTallies nD τ sig Unit) W) ⊢ (_ : sProp 𝕄) from by
        iintro ⟨Hh, -, HO⟩
        isplitl [Hh] <;> iassumption)⟩)
    (hinit := by
      refine Pipeline.initEach lvL lvl fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = VC m c b)
    (hfin := fun c s' => by
      unfold StableHlo.held
      iintro ⟨Hh, HSI⟩
      ihave Hr := (pointsTo_read_all (Pipeline.ucRefs τ sig) (fun b => ((c.tc : Thread nD τ).1, b)) (VC m c) s') $$ [Hh HSI]
      · isplitl [Hh] <;> iassumption
      imodintro; iexact Hr)
    (hQ := fun _ h hz => ⟨h, funext fun g => hz g (.inr (regions_no_unscoped g.2))⟩)

/-- The run read at the arguments and the results. -/
theorem run_main :
    θ_run defs (onTc (τ := τ) (main (F := F))) ⟨m, fun _ => 0, ρ⟩ (fun r => (∀ c : Dev nD,
      r.2.mem ((c.tc : Thread nD τ).loc main_v0) = hsOut (m ((c.tc : Thread nD τ).loc main_arg0)) (m ((c.tc : Thread nD τ).loc main_arg1))
      ∧ r.2.mem ((c.tc : Thread nD τ).loc main_v1_0) = duOut (m ((c.tc : Thread nD τ).loc main_arg0)) (m ((c.tc : Thread nD τ).loc main_arg2))
      ∧ r.2.mem ((c.tc : Thread nD τ).loc main_v1_1) = daOut (m ((c.tc : Thread nD τ).loc main_arg0)) (hsOut (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run_all m ρ)
  have rd : ∀ b : Ref sig .tc, b.isScoped = false → r.2.mem ((c.tc : Thread nD τ).loc b) = VC m c b := fun b hb =>
    h.1 c (Proc.devRef .tc b) (Finset.mem_filter.mpr ⟨StableHlo.devRef_mem_tcRefs b, by rw [Proc.isScoped_devRef, hb]; exact Bool.false_ne_true⟩)
  have hA : VB m c main_arg0 = m ((c.tc : Thread nD τ).loc main_arg0) := VB_ne m c main_arg0 (by decide)
  have hU : VB m c main_arg1 = m ((c.tc : Thread nD τ).loc main_arg1) := VB_ne m c main_arg1 (by decide)
  have hD : VB m c main_arg2 = m ((c.tc : Thread nD τ).loc main_arg2) := VB_ne m c main_arg2 (by decide)
  have hH : VB m c main_v0 = hsOut (m ((c.tc : Thread nD τ).loc main_arg0)) (m ((c.tc : Thread nD τ).loc main_arg1)) :=
    (VB_v0 m c).trans (final0 (V0 m) c)
  refine ⟨?_, ?_, ?_, ?_, ?_, ?_⟩
  · exact (rd main_v0 rfl).trans ((VC_ne m c main_v0 (by decide) (by decide)).trans hH)
  · refine (rd main_v1_0 rfl).trans ((VC_v1_0 m c).trans ((final1_4 (VB m) c).trans ?_))
    show duOut (VB m c main_arg0) (VB m c main_arg2) = _
    rw [hA, hD]
  · refine (rd main_v1_1 rfl).trans ((VC_v1_1 m c).trans ((final1_5 (VB m) c).trans ?_))
    show daOut (VB m c main_arg0) (VB m c main_v0) (VB m c main_arg2) = _
    rw [hA, hD, hH]
  · exact (rd main_arg0 rfl).trans ((VC_ne m c main_arg0 (by decide) (by decide)).trans hA)
  · exact (rd main_arg1 rfl).trans ((VC_ne m c main_arg1 (by decide) (by decide)).trans hU)
  · exact (rd main_arg2 rfl).trans ((VC_ne m c main_arg2 (by decide) (by decide)).trans hD)

end Cert.ScanIdeal.Value

end
-- ==== Proof.ScanRefRun.lean ====
/- The run of the reference: a forward loop over the rows and a backward one, every buffer at the fold of the operations. -/
module

public import proofs.«01_k».proof.Proof.Gen.ScanRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ScanRefIdeal.Value

open Cert.ScanRefIdeal Cert.ScanRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

local notation "𝕄" => MT nD τ sig Unit (Elt F) ℕ (Option PUnit) ℕ

/-- The operations before the first loop. -/
abbrev opsPre : List (HloOp τ sig (Elt F)) :=
  [ StableHlo.nullary main_cst (constant S_ .f32 0x00000000#32),
    StableHlo.unary main_cst main_v0 (broadcastInDim S1280 ![] bcast_S_S1280 : (⟨S_, .f32⟩ : BufTy).Contents (Elt F) → (⟨S1280, .f32⟩ : BufTy).Contents (Elt F)),
    StableHlo.nullary main_cst_0 (constant S_ .f32 0x00000000#32),
    StableHlo.unary main_cst_0 main_v1 (broadcastInDim S4224x1280 ![] bcast_S_S4224x1280 : (⟨S_, .f32⟩ : BufTy).Contents (Elt F) → (⟨S4224x1280, .f32⟩ : BufTy).Contents (Elt F)),
    StableHlo.nullary main_cst_1 (constant S_ .f32 0x00000000#32),
    StableHlo.unary main_cst_1 main_v2 (broadcastInDim S4224x1280 ![] bcast_S_S4224x1280 : (⟨S_, .f32⟩ : BufTy).Contents (Elt F) → (⟨S4224x1280, .f32⟩ : BufTy).Contents (Elt F)),
    StableHlo.nullary main_c (constantI S_ 32 0#32),
    StableHlo.unary main_arg0 main_v3_0 id,
    StableHlo.unary main_arg1 main_v3_1 id,
    StableHlo.unary main_c main_v3_2 id,
    StableHlo.unary main_v0 main_v3_3 id,
    StableHlo.unary main_v1 main_v3_4 id,
    StableHlo.unary main_v2 main_v3_5 id ]

/-- Each touches the core's buffers only. -/
theorem opsPre_sub : (opsPre : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- What they write. -/
abbrev opsPre_W : List (Ref sig .tc) := [main_cst, main_v0, main_cst_0, main_v1, main_cst_1, main_v2, main_c, main_v3_0, main_v3_1, main_v3_2, main_v3_3, main_v3_4, main_v3_5]

/-- A buffer they do not write keeps its contents. -/
theorem opsPre_keep (V : Valuation τ sig (Elt F)) (r : Ref sig .tc) (h : r ∉ opsPre_W) :
    after opsPre V (Proc.devRef .tc r) = V (Proc.devRef .tc r) := after_of_writes_sub opsPre V (StableHlo.forall_writes_sub_of_map rfl) h

/-- The operations between the loops. -/
abbrev opsMid : List (HloOp τ sig (Elt F)) :=
  [ StableHlo.nullary main_cst_2 (constant S_ .f32 0x00000000#32),
    StableHlo.unary main_cst_2 main_v4 (broadcastInDim S1280 ![] bcast_S_S1280 : (⟨S_, .f32⟩ : BufTy).Contents (Elt F) → (⟨S1280, .f32⟩ : BufTy).Contents (Elt F)),
    StableHlo.nullary main_cst_3 (constant S_ .f32 0x00000000#32),
    StableHlo.unary main_cst_3 main_v5 (broadcastInDim S1280 ![] bcast_S_S1280 : (⟨S_, .f32⟩ : BufTy).Contents (Elt F) → (⟨S1280, .f32⟩ : BufTy).Contents (Elt F)),
    StableHlo.nullary main_cst_4 (constant S_ .f32 0x00000000#32),
    StableHlo.unary main_cst_4 main_v6 (broadcastInDim S4224x1280 ![] bcast_S_S4224x1280 : (⟨S_, .f32⟩ : BufTy).Contents (Elt F) → (⟨S4224x1280, .f32⟩ : BufTy).Contents (Elt F)),
    StableHlo.nullary main_cst_5 (constant S_ .f32 0x00000000#32),
    StableHlo.unary main_cst_5 main_v7 (broadcastInDim S4224x1280 ![] bcast_S_S4224x1280 : (⟨S_, .f32⟩ : BufTy).Contents (Elt F) → (⟨S4224x1280, .f32⟩ : BufTy).Contents (Elt F)),
    StableHlo.nullary main_c_6 (constantI S_ 32 0#32),
    StableHlo.unary main_arg2 main_v8_0 id,
    StableHlo.unary main_v3_5 main_v8_1 id,
    StableHlo.unary main_arg0 main_v8_2 id,
    StableHlo.unary main_c_6 main_v8_3 id,
    StableHlo.unary main_v5 main_v8_4 id,
    StableHlo.unary main_v6 main_v8_5 id,
    StableHlo.unary main_v7 main_v8_6 id ]

/-- Each touches the core's buffers only. -/
theorem opsMid_sub : (opsMid : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- What they write. -/
abbrev opsMid_W : List (Ref sig .tc) := [main_cst_2, main_v4, main_cst_3, main_v5, main_cst_4, main_v6, main_cst_5, main_v7, main_c_6, main_v8_0, main_v8_1, main_v8_2, main_v8_3, main_v8_4, main_v8_5, main_v8_6]

/-- A buffer they do not write keeps its contents. -/
theorem opsMid_keep (V : Valuation τ sig (Elt F)) (r : Ref sig .tc) (h : r ∉ opsMid_W) :
    after opsMid V (Proc.devRef .tc r) = V (Proc.devRef .tc r) := after_of_writes_sub opsMid V (StableHlo.forall_writes_sub_of_map rfl) h

/-- Part 0 of the forward loop's body. -/
abbrev fw0 : List (HloOp τ sig (Elt F)) :=
  [ StableHlo.TRef.nullary (.of main_while0b_call0_c : StableHlo.TRef sig ⟨S_, .i32⟩) (constantI S_ 32 0#32),
    StableHlo.TRef.unaryIndexed (.of main_v3_0 : StableHlo.TRef sig ⟨S4224x1280, .f32⟩) ![(.of main_v3_2 : StableHlo.TRef sig ⟨S_, .i32⟩), (.of main_while0b_call0_c : StableHlo.TRef sig ⟨S_, .i32⟩)] (.of main_while0b_call0_v0 : StableHlo.TRef sig ⟨S1x1280, .f32⟩) (fun x i => Host.dynamicSlice S1x1280 x (fun k => (i k (Shape.Idx.first h_S_)).toInt) sliceFits_S4224x1280_S1x1280),
    StableHlo.TRef.reshape (.of main_while0b_call0_v0 : StableHlo.TRef sig ⟨S1x1280, .f32⟩) (.of main_while0b_v9 : StableHlo.TRef sig ⟨S1280, .f32⟩) (rfl : (.f32 : EltTy) = .f32) shapeCasts_S1x1280_S1280 ]

/-- Each touches the core's buffers only. -/
theorem fw0_sub : (fw0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- What they write. -/
abbrev fw0_W : List (Ref sig .tc) := [main_while0b_call0_c, main_while0b_call0_v0, main_while0b_v9]

/-- A buffer they do not write keeps its contents. -/
theorem fw0_keep (V : Valuation τ sig (Elt F)) (r : Ref sig .tc) (h : r ∉ fw0_W) :
    after fw0 V (Proc.devRef .tc r) = V (Proc.devRef .tc r) := after_of_writes_sub fw0 V (StableHlo.forall_writes_sub_of_map rfl) h

/-- Part 1 of the forward loop's body. -/
abbrev fw1 : List (HloOp τ sig (Elt F)) :=
  [ StableHlo.TRef.nullary (.of main_while0b_call1_c : StableHlo.TRef sig ⟨S_, .i32⟩) (constantI S_ 32 0#32),
    StableHlo.TRef.unaryIndexed (.of main_v3_1 : StableHlo.TRef sig ⟨S4224x1280, .f32⟩) ![(.of main_v3_2 : StableHlo.TRef sig ⟨S_, .i32⟩), (.of main_while0b_call1_c : StableHlo.TRef sig ⟨S_, .i32⟩)] (.of main_while0b_call1_v0 : StableHlo.TRef sig ⟨S1x1280, .f32⟩) (fun x i => Host.dynamicSlice S1x1280 x (fun k => (i k (Shape.Idx.first h_S_)).toInt) sliceFits_S4224x1280_S1x1280),
    StableHlo.TRef.reshape (.of main_while0b_call1_v0 : StableHlo.TRef sig ⟨S1x1280, .f32⟩) (.of main_while0b_v10 : StableHlo.TRef sig ⟨S1280, .f32⟩) (rfl : (.f32 : EltTy) = .f32) shapeCasts_S1x1280_S1280 ]

/-- Each touches the core's buffers only. -/
theorem fw1_sub : (fw1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- What they write. -/
abbrev fw1_W : List (Ref sig .tc) := [main_while0b_call1_c, main_while0b_call1_v0, main_while0b_v10]

/-- A buffer they do not write keeps its contents. -/
theorem fw1_keep (V : Valuation τ sig (Elt F)) (r : Ref sig .tc) (h : r ∉ fw1_W) :
    after fw1 V (Proc.devRef .tc r) = V (Proc.devRef .tc r) := after_of_writes_sub fw1 V (StableHlo.forall_writes_sub_of_map rfl) h

/-- Part 2 of the forward loop's body. -/
abbrev fw2 : List (HloOp τ sig (Elt F)) :=
  [ StableHlo.binary main_while0b_v9 main_v3_3 main_while0b_v11 (mulf : (⟨S1280, .f32⟩ : BufTy).Contents (Elt F) → (⟨S1280, .f32⟩ : BufTy).Contents (Elt F) → (⟨S1280, .f32⟩ : BufTy).Contents (Elt F)),
    StableHlo.binary main_while0b_v11 main_while0b_v10 main_while0b_v12 (addf : (⟨S1280, .f32⟩ : BufTy).Contents (Elt F) → (⟨S1280, .f32⟩ : BufTy).Contents (Elt F) → (⟨S1280, .f32⟩ : BufTy).Contents (Elt F)) ]

/-- Each touches the core's buffers only. -/
theorem fw2_sub : (fw2 : List (HloOp τ sig (Elt F))).Forall fun op => op.bufs ⊆ StableHlo.tcRefs τ sig :=
  ⟨StableHlo.binary_bufs_sub .., StableHlo.binary_bufs_sub ..⟩

/-- What they write. -/
abbrev fw2_W : List (Ref sig .tc) := [main_while0b_v11, main_while0b_v12]

/-- A buffer they do not write keeps its contents. -/
theorem fw2_keep (V : Valuation τ sig (Elt F)) (r : Ref sig .tc) (h : r ∉ fw2_W) :
    after fw2 V (Proc.devRef .tc r) = V (Proc.devRef .tc r) := after_of_writes_sub fw2 V (StableHlo.forall_writes_sub_of_map rfl) h

/-- Part 3 of the forward loop's body. -/
abbrev fw3 : List (HloOp τ sig (Elt F)) :=
  [ StableHlo.TRef.unary (.of main_while0b_v12 : StableHlo.TRef sig ⟨S1280, .f32⟩) (.of main_while0b_call2_v0 : StableHlo.TRef sig ⟨S1x1280, .f32⟩) (broadcastInDim S1x1280 ![1] bcast_S1280_S1x1280_1),
    StableHlo.TRef.nullary (.of main_while0b_call2_c : StableHlo.TRef sig ⟨S_, .i32⟩) (constantI S_ 32 0#32),
    StableHlo.TRef.binaryIndexed (.of main_v3_4 : StableHlo.TRef sig ⟨S4224x1280, .f32⟩) (.of main_while0b_call2_v0 : StableHlo.TRef sig ⟨S1x1280, .f32⟩) ![(.of main_v3_2 : StableHlo.TRef sig ⟨S_, .i32⟩), (.of main_while0b_call2_c : StableHlo.TRef sig ⟨S_, .i32⟩)] (.of main_while0b_v13 : StableHlo.TRef sig ⟨S4224x1280, .f32⟩) (fun x u i => Host.dynamicUpdateSlice x u (fun k => (i k (Shape.Idx.first h_S_)).toInt) updateFits_S4224x1280_S1x1280) ]

/-- Each touches the core's buffers only. -/
theorem fw3_sub : (fw3 : List (HloOp τ sig (Elt F))).Forall fun op => op.bufs ⊆ StableHlo.tcRefs τ sig :=
  ⟨StableHlo.unary_bufs_sub .., StableHlo.nullary_bufs_sub .., StableHlo.binaryIndexed_bufs_sub ..⟩

/-- What they write. -/
abbrev fw3_W : List (Ref sig .tc) := [main_while0b_call2_v0, main_while0b_call2_c, main_while0b_v13]

/-- A buffer they do not write keeps its contents. -/
theorem fw3_keep (V : Valuation τ sig (Elt F)) (r : Ref sig .tc) (h : r ∉ fw3_W) :
    after fw3 V (Proc.devRef .tc r) = V (Proc.devRef .tc r) := after_of_writes_sub fw3 V (StableHlo.forall_writes_sub_of_map rfl) h

/-- Part 4 of the forward loop's body. -/
abbrev fw4 : List (HloOp τ sig (Elt F)) :=
  [ StableHlo.TRef.unary (.of main_v3_3 : StableHlo.TRef sig ⟨S1280, .f32⟩) (.of main_while0b_call3_v0 : StableHlo.TRef sig ⟨S1x1280, .f32⟩) (broadcastInDim S1x1280 ![1] bcast_S1280_S1x1280_1),
    StableHlo.TRef.nullary (.of main_while0b_call3_c : StableHlo.TRef sig ⟨S_, .i32⟩) (constantI S_ 32 0#32),
    StableHlo.TRef.binaryIndexed (.of main_v3_5 : StableHlo.TRef sig ⟨S4224x1280, .f32⟩) (.of main_while0b_call3_v0 : StableHlo.TRef sig ⟨S1x1280, .f32⟩) ![(.of main_v3_2 : StableHlo.TRef sig ⟨S_, .i32⟩), (.of main_while0b_call3_c : StableHlo.TRef sig ⟨S_, .i32⟩)] (.of main_while0b_v14 : StableHlo.TRef sig ⟨S4224x1280, .f32⟩) (fun x u i => Host.dynamicUpdateSlice x u (fun k => (i k (Shape.Idx.first h_S_)).toInt) updateFits_S4224x1280_S1x1280) ]

/-- Each touches the core's buffers only. -/
theorem fw4_sub : (fw4 : List (HloOp τ sig (Elt F))).Forall fun op => op.bufs ⊆ StableHlo.tcRefs τ sig :=
  ⟨StableHlo.unary_bufs_sub .., StableHlo.nullary_bufs_sub .., StableHlo.binaryIndexed_bufs_sub ..⟩

/-- What they write. -/
abbrev fw4_W : List (Ref sig .tc) := [main_while0b_call3_v0, main_while0b_call3_c, main_while0b_v14]

/-- A buffer they do not write keeps its contents. -/
theorem fw4_keep (V : Valuation τ sig (Elt F)) (r : Ref sig .tc) (h : r ∉ fw4_W) :
    after fw4 V (Proc.devRef .tc r) = V (Proc.devRef .tc r) := after_of_writes_sub fw4 V (StableHlo.forall_writes_sub_of_map rfl) h

/-- Part 5 of the forward loop's body. -/
abbrev fw5 : List (HloOp τ sig (Elt F)) :=
  [ StableHlo.nullary main_while0b_c_12 (constantI S_ 32 1#32),
    StableHlo.binary main_v3_2 main_while0b_c_12 main_while0b_v15 (addi : (⟨S_, .i32⟩ : BufTy).Contents (Elt F) → (⟨S_, .i32⟩ : BufTy).Contents (Elt F) → (⟨S_, .i32⟩ : BufTy).Contents (Elt F)),
    StableHlo.unary main_while0b_v15 main_v3_2 id,
    StableHlo.unary main_while0b_v12 main_v3_3 id,
    StableHlo.unary main_while0b_v13 main_v3_4 id,
    StableHlo.unary main_while0b_v14 main_v3_5 id ]

/-- Each touches the core's buffers only. -/
theorem fw5_sub : (fw5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- What they write. -/
abbrev fw5_W : List (Ref sig .tc) := [main_while0b_c_12, main_while0b_v15, main_v3_2, main_v3_3, main_v3_4, main_v3_5]

/-- A buffer they do not write keeps its contents. -/
theorem fw5_keep (V : Valuation τ sig (Elt F)) (r : Ref sig .tc) (h : r ∉ fw5_W) :
    after fw5 V (Proc.devRef .tc r) = V (Proc.devRef .tc r) := after_of_writes_sub fw5 V (StableHlo.forall_writes_sub_of_map rfl) h

/-- Part 0 of the backward loop's body. -/
abbrev bw0 : List (HloOp τ sig (Elt F)) :=
  [ StableHlo.nullary main_while1b_c_13 (constantI S_ 32 4224#32),
    StableHlo.binary main_while1b_c_13 main_v8_3 main_while1b_v9 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v9 main_while1b_c_14 main_while1b_v10 (subi : (⟨S_, .i32⟩ : BufTy).Contents (Elt F) → (⟨S_, .i32⟩ : BufTy).Contents (Elt F) → (⟨S_, .i32⟩ : BufTy).Contents (Elt F)) ]

/-- Each touches the core's buffers only. -/
theorem bw0_sub : (bw0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- What they write. -/
abbrev bw0_W : List (Ref sig .tc) := [main_while1b_c_13, main_while1b_v9, main_while1b_c_14, main_while1b_v10]

/-- A buffer they do not write keeps its contents. -/
theorem bw0_keep (V : Valuation τ sig (Elt F)) (r : Ref sig .tc) (h : r ∉ bw0_W) :
    after bw0 V (Proc.devRef .tc r) = V (Proc.devRef .tc r) := after_of_writes_sub bw0 V (StableHlo.forall_writes_sub_of_map rfl) h

/-- Part 1 of the backward loop's body. -/
abbrev bw1 : List (HloOp τ sig (Elt F)) :=
  [ StableHlo.TRef.nullary (.of main_while1b_call4_c : StableHlo.TRef sig ⟨S_, .i32⟩) (constantI S_ 32 0#32),
    StableHlo.TRef.unaryIndexed (.of main_v8_0 : StableHlo.TRef sig ⟨S4224x1280, .f32⟩) ![(.of main_while1b_v10 : StableHlo.TRef sig ⟨S_, .i32⟩), (.of main_while1b_call4_c : StableHlo.TRef sig ⟨S_, .i32⟩)] (.of main_while1b_call4_v0 : StableHlo.TRef sig ⟨S1x1280, .f32⟩) (fun x i => Host.dynamicSlice S1x1280 x (fun k => (i k (Shape.Idx.first h_S_)).toInt) sliceFits_S4224x1280_S1x1280),
    StableHlo.TRef.reshape (.of main_while1b_call4_v0 : StableHlo.TRef sig ⟨S1x1280, .f32⟩) (.of main_while1b_v11 : StableHlo.TRef sig ⟨S1280, .f32⟩) (rfl : (.f32 : EltTy) = .f32) shapeCasts_S1x1280_S1280 ]

/-- Each touches the core's buffers only. -/
theorem bw1_sub : (bw1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- What they write. -/
abbrev bw1_W : List (Ref sig .tc) := [main_while1b_call4_c, main_while1b_call4_v0, main_while1b_v11]

/-- A buffer they do not write keeps its contents. -/
theorem bw1_keep (V : Valuation τ sig (Elt F)) (r : Ref sig .tc) (h : r ∉ bw1_W) :
    after bw1 V (Proc.devRef .tc r) = V (Proc.devRef .tc r) := after_of_writes_sub bw1 V (StableHlo.forall_writes_sub_of_map rfl) h

/-- Part 2 of the backward loop's body. -/
abbrev bw2 : List (HloOp τ sig (Elt F)) :=
  [ StableHlo.TRef.nullary (.of main_while1b_call5_c : StableHlo.TRef sig ⟨S_, .i32⟩) (constantI S_ 32 0#32),
    StableHlo.TRef.unaryIndexed (.of main_v8_1 : StableHlo.TRef sig ⟨S4224x1280, .f32⟩) ![(.of main_while1b_v10 : StableHlo.TRef sig ⟨S_, .i32⟩), (.of main_while1b_call5_c : StableHlo.TRef sig ⟨S_, .i32⟩)] (.of main_while1b_call5_v0 : StableHlo.TRef sig ⟨S1x1280, .f32⟩) (fun x i => Host.dynamicSlice S1x1280 x (fun k => (i k (Shape.Idx.first h_S_)).toInt) sliceFits_S4224x1280_S1x1280),
    StableHlo.TRef.reshape (.of main_while1b_call5_v0 : StableHlo.TRef sig ⟨S1x1280, .f32⟩) (.of main_while1b_v12 : StableHlo.TRef sig ⟨S1280, .f32⟩) (rfl : (.f32 : EltTy) = .f32) shapeCasts_S1x1280_S1280 ]

/-- Each touches the core's buffers only. -/
theorem bw2_sub : (bw2 : List (HloOp τ sig (Elt F))).Forall fun op => op.bufs ⊆ StableHlo.tcRefs τ sig :=
  ⟨StableHlo.nullary_bufs_sub .., StableHlo.unaryIndexed_bufs_sub .., StableHlo.reshape_bufs_sub ..⟩

/-- What they write. -/
abbrev bw2_W : List (Ref sig .tc) := [main_while1b_call5_c, main_while1b_call5_v0, main_while1b_v12]

/-- A buffer they do not write keeps its contents. -/
theorem bw2_keep (V : Valuation τ sig (Elt F)) (r : Ref sig .tc) (h : r ∉ bw2_W) :
    after bw2 V (Proc.devRef .tc r) = V (Proc.devRef .tc r) := after_of_writes_sub bw2 V (StableHlo.forall_writes_sub_of_map rfl) h

/-- Part 3 of the backward loop's body. -/
abbrev bw3 : List (HloOp τ sig (Elt F)) :=
  [ StableHlo.TRef.nullary (.of main_while1b_call6_c : StableHlo.TRef sig ⟨S_, .i32⟩) (constantI S_ 32 0#32),
    StableHlo.TRef.unaryIndexed (.of main_v8_2 : StableHlo.TRef sig ⟨S4224x1280, .f32⟩) ![(.of main_while1b_v10 : StableHlo.TRef sig ⟨S_, .i32⟩), (.of main_while1b_call6_c : StableHlo.TRef sig ⟨S_, .i32⟩)] (.of main_while1b_call6_v0 : StableHlo.TRef sig ⟨S1x1280, .f32⟩) (fun x i => Host.dynamicSlice S1x1280 x (fun k => (i k (Shape.Idx.first h_S_)).toInt) sliceFits_S4224x1280_S1x1280),
    StableHlo.TRef.reshape (.of main_while1b_call6_v0 : StableHlo.TRef sig ⟨S1x1280, .f32⟩) (.of main_while1b_v13 : StableHlo.TRef sig ⟨S1280, .f32⟩) (rfl : (.f32 : EltTy) = .f32) shapeCasts_S1x1280_S1280 ]

/-- Each touches the core's buffers only. -/
theorem bw3_sub : (bw3 : List (HloOp τ sig (Elt F))).Forall fun op => op.bufs ⊆ StableHlo.tcRefs τ sig :=
  ⟨StableHlo.nullary_bufs_sub .., StableHlo.unaryIndexed_bufs_sub .., StableHlo.reshape_bufs_sub ..⟩

/-- What they write. -/
abbrev bw3_W : List (Ref sig .tc) := [main_while1b_call6_c, main_while1b_call6_v0, main_while1b_v13]

/-- A buffer they do not write keeps its contents. -/
theorem bw3_keep (V : Valuation τ sig (Elt F)) (r : Ref sig .tc) (h : r ∉ bw3_W) :
    after bw3 V (Proc.devRef .tc r) = V (Proc.devRef .tc r) := after_of_writes_sub bw3 V (StableHlo.forall_writes_sub_of_map rfl) h

/-- Part 4 of the backward loop's body. -/
abbrev bw4 : List (HloOp τ sig (Elt F)) :=
  [ StableHlo.binary main_v8_4 main_while1b_v11 main_while1b_v14 (addf : (⟨S1280, .f32⟩ : BufTy).Contents (Elt F) → (⟨S1280, .f32⟩ : BufTy).Contents (Elt F) → (⟨S1280, .f32⟩ : BufTy).Contents (Elt F)),
    StableHlo.binary main_while1b_v13 main_while1b_v14 main_while1b_v15 (mulf : (⟨S1280, .f32⟩ : BufTy).Contents (Elt F) → (⟨S1280, .f32⟩ : BufTy).Contents (Elt F) → (⟨S1280, .f32⟩ : BufTy).Contents (Elt F)),
    StableHlo.binary main_while1b_v14 main_while1b_v12 main_while1b_v16 (mulf : (⟨S1280, .f32⟩ : BufTy).Contents (Elt F) → (⟨S1280, .f32⟩ : BufTy).Contents (Elt F) → (⟨S1280, .f32⟩ : BufTy).Contents (Elt F)) ]

/-- Each touches the core's buffers only. -/
theorem bw4_sub : (bw4 : List (HloOp τ sig (Elt F))).Forall fun op => op.bufs ⊆ StableHlo.tcRefs τ sig :=
  ⟨StableHlo.binary_bufs_sub .., StableHlo.binary_bufs_sub .., StableHlo.binary_bufs_sub ..⟩

/-- What they write. -/
abbrev bw4_W : List (Ref sig .tc) := [main_while1b_v14, main_while1b_v15, main_while1b_v16]

/-- A buffer they do not write keeps its contents. -/
theorem bw4_keep (V : Valuation τ sig (Elt F)) (r : Ref sig .tc) (h : r ∉ bw4_W) :
    after bw4 V (Proc.devRef .tc r) = V (Proc.devRef .tc r) := after_of_writes_sub bw4 V (StableHlo.forall_writes_sub_of_map rfl) h

/-- Part 5 of the backward loop's body. -/
abbrev bw5 : List (HloOp τ sig (Elt F)) :=
  [ StableHlo.TRef.unary (.of main_while1b_v16 : StableHlo.TRef sig ⟨S1280, .f32⟩) (.of main_while1b_call7_v0 : StableHlo.TRef sig ⟨S1x1280, .f32⟩) (broadcastInDim S1x1280 ![1] bcast_S1280_S1x1280_1),
    StableHlo.TRef.nullary (.of main_while1b_call7_c : StableHlo.TRef sig ⟨S_, .i32⟩) (constantI S_ 32 0#32),
    StableHlo.TRef.binaryIndexed (.of main_v8_5 : StableHlo.TRef sig ⟨S4224x1280, .f32⟩) (.of main_while1b_call7_v0 : StableHlo.TRef sig ⟨S1x1280, .f32⟩) ![(.of main_while1b_v10 : StableHlo.TRef sig ⟨S_, .i32⟩), (.of main_while1b_call7_c : StableHlo.TRef sig ⟨S_, .i32⟩)] (.of main_while1b_v17 : StableHlo.TRef sig ⟨S4224x1280, .f32⟩) (fun x u i => Host.dynamicUpdateSlice x u (fun k => (i k (Shape.Idx.first h_S_)).toInt) updateFits_S4224x1280_S1x1280) ]

/-- Each touches the core's buffers only. -/
theorem bw5_sub : (bw5 : List (HloOp τ sig (Elt F))).Forall fun op => op.bufs ⊆ StableHlo.tcRefs τ sig :=
  ⟨StableHlo.unary_bufs_sub .., StableHlo.nullary_bufs_sub .., StableHlo.binaryIndexed_bufs_sub ..⟩

/-- What they write. -/
abbrev bw5_W : List (Ref sig .tc) := [main_while1b_call7_v0, main_while1b_call7_c, main_while1b_v17]

/-- A buffer they do not write keeps its contents. -/
theorem bw5_keep (V : Valuation τ sig (Elt F)) (r : Ref sig .tc) (h : r ∉ bw5_W) :
    after bw5 V (Proc.devRef .tc r) = V (Proc.devRef .tc r) := after_of_writes_sub bw5 V (StableHlo.forall_writes_sub_of_map rfl) h

/-- Part 6 of the backward loop's body. -/
abbrev bw6 : List (HloOp τ sig (Elt F)) :=
  [ StableHlo.TRef.unary (.of main_while1b_v14 : StableHlo.TRef sig ⟨S1280, .f32⟩) (.of main_while1b_call8_v0 : StableHlo.TRef sig ⟨S1x1280, .f32⟩) (broadcastInDim S1x1280 ![1] bcast_S1280_S1x1280_1),
    StableHlo.TRef.nullary (.of main_while1b_call8_c : StableHlo.TRef sig ⟨S_, .i32⟩) (constantI S_ 32 0#32),
    StableHlo.TRef.binaryIndexed (.of main_v8_6 : StableHlo.TRef sig ⟨S4224x1280, .f32⟩) (.of main_while1b_call8_v0 : StableHlo.TRef sig ⟨S1x1280, .f32⟩) ![(.of main_while1b_v10 : StableHlo.TRef sig ⟨S_, .i32⟩), (.of main_while1b_call8_c : StableHlo.TRef sig ⟨S_, .i32⟩)] (.of main_while1b_v18 : StableHlo.TRef sig ⟨S4224x1280, .f32⟩) (fun x u i => Host.dynamicUpdateSlice x u (fun k => (i k (Shape.Idx.first h_S_)).toInt) updateFits_S4224x1280_S1x1280) ]

/-- Each touches the core's buffers only. -/
theorem bw6_sub : (bw6 : List (HloOp τ sig (Elt F))).Forall fun op => op.bufs ⊆ StableHlo.tcRefs τ sig :=
  ⟨StableHlo.unary_bufs_sub .., StableHlo.nullary_bufs_sub .., StableHlo.binaryIndexed_bufs_sub ..⟩

/-- What they write. -/
abbrev bw6_W : List (Ref sig .tc) := [main_while1b_call8_v0, main_while1b_call8_c, main_while1b_v18]

/-- A buffer they do not write keeps its contents. -/
theorem bw6_keep (V : Valuation τ sig (Elt F)) (r : Ref sig .tc) (h : r ∉ bw6_W) :
    after bw6 V (Proc.devRef .tc r) = V (Proc.devRef .tc r) := after_of_writes_sub bw6 V (StableHlo.forall_writes_sub_of_map rfl) h

/-- Part 7 of the backward loop's body. -/
abbrev bw7 : List (HloOp τ sig (Elt F)) :=
  [ StableHlo.nullary main_while1b_c_15 (constantI S_ 32 1#32),
    StableHlo.binary main_v8_3 main_while1b_c_15 main_while1b_v19 (addi : (⟨S_, .i32⟩ : BufTy).Contents (Elt F) → (⟨S_, .i32⟩ : BufTy).Contents (Elt F) → (⟨S_, .i32⟩ : BufTy).Contents (Elt F)),
    StableHlo.unary main_while1b_v19 main_v8_3 id,
    StableHlo.unary main_while1b_v15 main_v8_4 id,
    StableHlo.unary main_while1b_v17 main_v8_5 id,
    StableHlo.unary main_while1b_v18 main_v8_6 id ]

/-- Each touches the core's buffers only. -/
theorem bw7_sub : (bw7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- What they write. -/
abbrev bw7_W : List (Ref sig .tc) := [main_while1b_c_15, main_while1b_v19, main_v8_3, main_v8_4, main_v8_5, main_v8_6]

/-- A buffer they do not write keeps its contents. -/
theorem bw7_keep (V : Valuation τ sig (Elt F)) (r : Ref sig .tc) (h : r ∉ bw7_W) :
    after bw7 V (Proc.devRef .tc r) = V (Proc.devRef .tc r) := after_of_writes_sub bw7 V (StableHlo.forall_writes_sub_of_map rfl) h

/-- @main is the chain of its items. -/
theorem main_items (c : Dev nD) : main (F := F) c = (Pipeline.chain
  [ StableHlo.seq opsPre, HostLoop.enter 0, StableHlo.seq opsMid, HostLoop.enter 1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons]
  chain_rfl

/-- The body of loop 0 is the chain of its items. -/
theorem fw_items : main_while0_body (F := F) = (Pipeline.chain [ StableHlo.seq fw0, StableHlo.seq fw1, StableHlo.seq fw2, StableHlo.seq fw3, StableHlo.seq fw4, StableHlo.seq fw5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

/-- The condition's operations of loop 0. -/
abbrev fwC : List (HloOp τ sig (Elt F)) :=
  [ StableHlo.nullary main_while0c_c_12 (constantI S_ 32 4224#32),
    StableHlo.binary main_v3_2 main_while0c_c_12 main_while0c_v9 (cmpi .slt) ]

/-- What they write. -/
abbrev fwC_W : List (Ref sig .tc) := [main_while0c_c_12, main_while0c_v9]
theorem fwC_keep (V : Valuation τ sig (Elt F)) (r : Ref sig .tc) (h : r ∉ fwC_W) :
    after fwC V (Proc.devRef .tc r) = V (Proc.devRef .tc r) := after_of_writes_sub fwC V (StableHlo.forall_writes_sub_of_map rfl) h

/-- The body's stretches. -/
abbrev fwI : List (List (HloOp τ sig (Elt F))) := [fw0, fw1, fw2, fw3, fw4, fw5]

theorem fw_plain : Plain (fwI (F := F)) := .cons fw0_sub (hf := List.forall_iff_forall_mem.mp (StableHlo.forall_fresh_of_map rfl)) (.cons fw1_sub (hf := List.forall_iff_forall_mem.mp (StableHlo.forall_fresh_of_map rfl)) (.cons fw2_sub (hf := List.forall_iff_forall_mem.mp (StableHlo.forall_fresh_of_map rfl)) (.cons fw3_sub (hf := List.forall_iff_forall_mem.mp (StableHlo.forall_fresh_of_map rfl)) (.cons fw4_sub (hf := List.forall_iff_forall_mem.mp (StableHlo.forall_fresh_of_map rfl)) (.cons fw5_sub (hf := List.forall_iff_forall_mem.mp (StableHlo.forall_fresh_of_map rfl)) (.nil))))))

/-- The body of loop 1 is the chain of its items. -/
theorem bw_items : main_while1_body (F := F) = (Pipeline.chain [ StableHlo.seq bw0, StableHlo.seq bw1, StableHlo.seq bw2, StableHlo.seq bw3, StableHlo.seq bw4, StableHlo.seq bw5, StableHlo.seq bw6, StableHlo.seq bw7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

/-- The condition's operations of loop 1. -/
abbrev bwC : List (HloOp τ sig (Elt F)) :=
  [ StableHlo.nullary main_while1c_c_13 (constantI S_ 32 4224#32),
    StableHlo.binary main_v8_3 main_while1c_c_13 main_while1c_v9 (cmpi .slt) ]

/-- What they write. -/
abbrev bwC_W : List (Ref sig .tc) := [main_while1c_c_13, main_while1c_v9]
theorem bwC_keep (V : Valuation τ sig (Elt F)) (r : Ref sig .tc) (h : r ∉ bwC_W) :
    after bwC V (Proc.devRef .tc r) = V (Proc.devRef .tc r) := after_of_writes_sub bwC V (StableHlo.forall_writes_sub_of_map rfl) h

/-- The body's stretches. -/
abbrev bwI : List (List (HloOp τ sig (Elt F))) := [bw0, bw1, bw2, bw3, bw4, bw5, bw6, bw7]

theorem bw_plain : Plain (bwI (F := F)) := .cons bw0_sub (hf := List.forall_iff_forall_mem.mp (StableHlo.forall_fresh_of_map rfl)) (.cons bw1_sub (hf := List.forall_iff_forall_mem.mp (StableHlo.forall_fresh_of_map rfl)) (.cons bw2_sub (hf := List.forall_iff_forall_mem.mp (StableHlo.forall_fresh_of_map rfl)) (.cons bw3_sub (hf := List.forall_iff_forall_mem.mp (StableHlo.forall_fresh_of_map rfl)) (.cons bw4_sub (hf := List.forall_iff_forall_mem.mp (StableHlo.forall_fresh_of_map rfl)) (.cons bw5_sub (hf := List.forall_iff_forall_mem.mp (StableHlo.forall_fresh_of_map rfl)) (.cons bw6_sub (hf := List.forall_iff_forall_mem.mp (StableHlo.forall_fresh_of_map rfl)) (.cons bw7_sub (hf := List.forall_iff_forall_mem.mp (StableHlo.forall_fresh_of_map rfl)) (.nil))))))))

theorem plainPre : Plain ([opsPre] : List (List (HloOp τ sig (Elt F)))) := .cons opsPre_sub (hf := List.forall_iff_forall_mem.mp (StableHlo.forall_fresh_of_map rfl)) .nil

theorem plainMid : Plain ([opsMid] : List (List (HloOp τ sig (Elt F)))) := .cons opsMid_sub (hf := List.forall_iff_forall_mem.mp (StableHlo.forall_fresh_of_map rfl)) .nil

variable (m : (ℓ : Loc nD τ sig) → Buf (Elt F) ℓ) (ρ : Dev nD → PrngReg)

/-- A core's buffers at the first loop's entry. -/
abbrev W0 (c : Dev nD) : Valuation τ sig (Elt F) := afterL [opsPre] (launchContents m c)
/-- Its buffers before the `k`-th test of the first loop. -/
abbrev at0 (k : ℕ) (c : Dev nD) : Valuation τ sig (Elt F) := atTrip fwC fwI (W0 m) k c
/-- Its buffers at the second loop's entry. -/
abbrev W1 (c : Dev nD) : Valuation τ sig (Elt F) := afterL [opsMid] (after fwC (at0 m 4224 c))
/-- Its buffers before the `k`-th test of the second loop. -/
abbrev at1 (k : ℕ) (c : Dev nD) : Valuation τ sig (Elt F) := atTrip bwC bwI (W1 m) k c
/-- Its buffers at the end. -/
abbrev Wend (c : Dev nD) : Valuation τ sig (Elt F) := after bwC (at1 m 4224 c)

/-- What rides beside the buffers. -/
abbrev Rd (c : Dev nD) : sProp 𝕄 := iprop(∃ W, owes (c.tc : Thread nD τ) (0 : CellTallies nD τ sig Unit) W)

/-- The last part of the body leaves the counter one step on. -/
theorem fw_ctr (X : Valuation τ sig (Elt F)) :
    after fw5 X (Proc.devRef .tc main_v3_2) = addi (X (Proc.devRef .tc main_v3_2)) (constantI S_ 32 1#32) := by
  after_results
  rfl

/-- The counter starts at zero. -/
theorem fw_ctr0 (X : Valuation τ sig (Elt F)) : after opsPre X (Proc.devRef .tc main_v3_2) = fun _ => (0#32 : BitVec 32) := by
  after_reads_simp
  rfl

/-- Before the `k`-th test the counter is `k`. -/
theorem fw_at_ctr (c : Dev nD) : ∀ k, at0 m k c (Proc.devRef .tc main_v3_2) = fun _ => Scf.iv 0#32 1#32 k
  | 0 => by
    rw [show at0 m 0 c = W0 m c from rfl]
    simp only [afterL_cons, afterL_nil]
    rw [fw_ctr0, Scf.iv_zero]
  | k + 1 => by
    rw [show at0 m (k + 1) c = afterL fwI (after fwC (at0 m k c)) from rfl]
    simp only [afterL_cons, afterL_nil]
    rw [fw_ctr, fw4_keep _ _ (by decide +kernel), fw3_keep _ _ (by decide +kernel), fw2_keep _ _ (by decide +kernel), fw1_keep _ _ (by decide +kernel), fw0_keep _ _ (by decide +kernel), fwC_keep _ _ (by decide +kernel), fw_at_ctr c k, Scf.iv_succ]
    rfl

set_option backward.isDefEq.respectTransparency.types false in
/-- The condition of loop 0 at the fold. -/
theorem fw_cond : LoopCond (Ix := Unit) (Name := ℕ) (U := Option PUnit) (Lvl := ℕ) (pcfgs (F := F)) defs₀ Variants.none loops Rd (main_while0_cond (F := F)) fwC fwI (W0 m) 4224 := by
  intro k hk c bd
  have hctr := fw_at_ctr m c k
  unfold main_while0_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v3_2 HostLoop.idx0)
        (HloOp.result _ (at0 m k c) main_while0c_c_12 HostLoop.idx0) = 1#1) (k < 4224)
    rw [nullary_result_ne _ _ _ _ (by decide), nullary_result, hctr]
    exact Scf.cmpi_slt_iv_ub_iff (lb := 0#32) (ub := 4224#32) (st := 1#32) (by decide) (show k ≤ Scf.trips 0#32 4224#32 1#32 from hk)
  isplitl [Hb]; · iexact Hb
  isplitr [HR]
  · rw [after_cons, after_cons, after_nil]; iexact Hh
  iexact HR

/-- The last part of the body leaves the counter one step on. -/
theorem bw_ctr (X : Valuation τ sig (Elt F)) :
    after bw7 X (Proc.devRef .tc main_v8_3) = addi (X (Proc.devRef .tc main_v8_3)) (constantI S_ 32 1#32) := by
  after_results
  rfl

/-- The counter starts at zero. -/
theorem bw_ctr0 (X : Valuation τ sig (Elt F)) : after opsMid X (Proc.devRef .tc main_v8_3) = fun _ => (0#32 : BitVec 32) := by
  after_reads_simp
  rfl

/-- Before the `k`-th test the counter is `k`. -/
theorem bw_at_ctr (c : Dev nD) : ∀ k, at1 m k c (Proc.devRef .tc main_v8_3) = fun _ => Scf.iv 0#32 1#32 k
  | 0 => by
    rw [show at1 m 0 c = W1 m c from rfl]
    simp only [afterL_cons, afterL_nil]
    rw [bw_ctr0, Scf.iv_zero]
  | k + 1 => by
    rw [show at1 m (k + 1) c = afterL bwI (after bwC (at1 m k c)) from rfl]
    simp only [afterL_cons, afterL_nil]
    rw [bw_ctr, bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel), bwC_keep _ _ (by decide +kernel), bw_at_ctr c k, Scf.iv_succ]
    rfl

set_option backward.isDefEq.respectTransparency.types false in
/-- The condition of loop 1 at the fold. -/
theorem bw_cond : LoopCond (Ix := Unit) (Name := ℕ) (U := Option PUnit) (Lvl := ℕ) (pcfgs (F := F)) defs₀ Variants.none loops Rd (main_while1_cond (F := F)) bwC bwI (W1 m) 4224 := by
  intro k hk c bd
  have hctr := bw_at_ctr m c k
  unfold main_while1_cond
  rw [wp_bind]
  iintro ⟨Hb, Hh, HR⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v8_3 HostLoop.idx0)
        (HloOp.result _ (at1 m k c) main_while1c_c_13 HostLoop.idx0) = 1#1) (k < 4224)
    rw [nullary_result_ne _ _ _ _ (by decide), nullary_result, hctr]
    exact Scf.cmpi_slt_iv_ub_iff (lb := 0#32) (ub := 4224#32) (st := 1#32) (by decide) (show k ≤ Scf.trips 0#32 4224#32 1#32 from hk)
  isplitl [Hb]; · iexact Hb
  isplitr [HR]
  · rw [after_cons, after_cons, after_nil]; iexact Hh
  iexact HR

/-- No pipeline: nothing admitted. -/
abbrev adm0 : (p : Fin 0) → (pcfgs (F := F) p).Adm := fun p => p.elim0
/-- No ticket. -/
abbrev tk0 : Fin 0 → Pipeline.Ticket (Ix := Unit) (Name := ℕ) (U := Option PUnit) (Lvl := ℕ) (nD := nD) (τ := τ) (pcfgs (F := F)) adm0 := fun j => j.elim0
/-- No level. -/
abbrev L0 : GSem nD τ sig → Finset Unit := fun _ => ∅
/-- None used. -/
abbrev lv0 : GSem nD τ sig → Unit → ℕ := fun _ _ => 0

/-- @main's segments: operations, the forward loop, operations, the backward loop. -/
def theSegs : List (Pipeline.CSeg (pcfgs (F := F)) adm0 defs₀ Variants.none L0 lv0 loops tk0) :=
  segsOf _ _ _ _ _ _ _ _ Rd [opsPre] plainPre (launchContents m)
    ++ loopSeg _ _ _ _ _ _ _ _ 0 main_while0_cond main_while0_body rfl fwC fwI fw_plain (by rw [fw_items]; rfl) 4224 (W0 m) Rd (fw_cond m)
      :: (segsOf _ _ _ _ _ _ _ _ Rd [opsMid] plainMid (fun c => after fwC (at0 m 4224 c))
        ++ [loopSeg _ _ _ _ _ _ _ _ 1 main_while1_cond main_while1_body rfl bwC bwI bw_plain (by rw [bw_items]; rfl) 4224 (W1 m) Rd (bw_cond m)])

/-- Their fragments are @main's items. -/
theorem theSegs_prog : (theSegs m).map Pipeline.CSeg.prog
    = [StableHlo.seq opsPre, HostLoop.enter 0, StableHlo.seq opsMid, HostLoop.enter 1] := by
  unfold theSegs
  rw [List.map_append, List.map_cons, List.map_append, segsOf_prog, segsOf_prog]
  rfl

/-- They chain from the launch to the end. -/
theorem theSegs_chains : Pipeline.CSeg.Chains (fun c => iprop(held (c : Thread nD τ) (Pipeline.ucRefs τ sig) (launchContents m c) ∗ Rd c))
    (theSegs m) (fun c => iprop(held (c : Thread nD τ) (Pipeline.ucRefs τ sig) (Wend m c) ∗ Rd c)) := by
  unfold theSegs
  exact Pipeline.CSeg.Chains.append (segsOf_chains _ _ _ _ _ _ _ _ Rd [opsPre] plainPre _)
    ⟨fun _ => .rfl, Pipeline.CSeg.Chains.append (segsOf_chains _ _ _ _ _ _ _ _ Rd [opsMid] plainMid _) ⟨fun _ => .rfl, fun _ => .rfl⟩⟩

set_option maxRecDepth 100000 in
/-- The run: every execution ends, every buffer of a core at the fold. -/
theorem run_ends : θ_run (defs (F := F)) (onTc (τ := τ) (main (F := F))) ⟨m, fun _ => 0, ρ⟩
    (fun r => ∀ (c : Dev nD) (b : Ref sig .tc), b.isScoped = false → r.2.mem ((c.tc : Thread nD τ).loc b) = Wend m c (Proc.devRef .tc b)) :=
  Pipeline.θ_run_regions_loop_kit (Ix := Unit) (Name := ℕ) (U := Option PUnit) (Lvl := ℕ) (J := Fin 0) (P := Fin 0) (Val := Elt F)
    (pcfgs (F := F)) adm0 (fun k => k.1.elim0) defs₀ Variants.none L0 lv0 loops tk0 m ρ main (theSegs m)
    (fun c Q => by
      rw [main_items c]
      show wp _ _ _ (Pipeline.chain ((theSegs m).map Pipeline.CSeg.prog)) Q ⊢ _
      rw [theSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (Pipeline.ucRefs τ sig) (launchContents m c) ∗ Rd c))
    (Tₙ := fun c => iprop(held (c : Thread nD τ) (Pipeline.ucRefs τ sig) (Wend m c)))
    (hch := theSegs_chains m)
    (hinit := by
      refine Pipeline.initEach L0 lv0 fun c => ?_
      rw [show unscopedBufs c (fun b => m ((c : Thread nD τ).loc b)) = held (c : Thread nD τ) (Pipeline.ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = Wend m c b)
    (hfin := fun c s' => by
      unfold held
      iintro ⟨Hh, HSI⟩
      ihave Hr := (pointsTo_read_all (Pipeline.ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun _ h c b hb => h c _ (Finset.mem_filter.mpr ⟨StableHlo.devRef_mem_tcRefs b, by rw [Proc.isScoped_devRef, hb]; exact Bool.false_ne_true⟩))

end Cert.ScanRefIdeal.Value

end
-- ==== Proof.ScanRefVal.lean ====
/- What the reference's two loops compute, row by row, over any float values. -/
module

public import proofs.«01_k».proof.Proof.ScanRefRun
public import Idealize.ShloMosaic.Lib.Pointwise
public import Idealize.ShloMosaic.Lib.WordCmp

@[expose] public section

set_option maxRecDepth 16384

noncomputable section

namespace Cert.ScanRefIdeal.Value

open Cert.ScanRefIdeal Cert.ScanRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

local notation "𝕄" => MT nD τ sig Unit (Elt F) ℕ (Option PUnit) ℕ

/-- Row `n` of an array. -/
def rowN (x : Vec F S4224x1280 .f32) (n : ℕ) : Vec F S1280 .f32 := fun j => x (ix2 (Fin.ofNat 4224 n) (j 0))

/-- The row of zeros. -/
def zrow : Vec F S1280 .f32 := broadcastInDim S1280 ![] bcast_S_S1280 (constant S_ .f32 0x00000000#32 : Vec F S_ .f32)

/-- The recurrence: the state after `n` rows. -/
def refH (a u : Vec F S4224x1280 .f32) : ℕ → Vec F S1280 .f32
  | 0 => zrow
  | n + 1 => addf (mulf (rowN a n) (refH a u n)) (rowN u n)

/-- The backward recurrence: what the last `j` rows send to the row before them. -/
def refG (a dy : Vec F S4224x1280 .f32) : ℕ → Vec F S1280 .f32
  | 0 => zrow
  | j + 1 => mulf (rowN a (4223 - j)) (addf (refG a dy j) (rowN dy (4223 - j)))

/-- A row read at a word that is a row's number. -/
theorem row_read (x : Vec F S4224x1280 .f32) (i : Vec F S_ .i32) (n : ℕ) (hn : n < 4224) (hi : ∀ j, (i j).toInt = n)
    (h : S4224x1280.Slices (fun _ => 0) S1x1280) (h' : S1x1280.ShapeCasts S1280) :
    shapeCast S1280 (Host.dynamicSlice S1x1280 x (fun k => (((![i, constantI S_ 32 0#32] : Fin 2 → (⟨S_, .i32⟩ : BufTy).Contents (Elt F))) k (Shape.Idx.first h_S_)).toInt) h) h'
      = rowN x n := by
  rw [WordCmp.dynamicSlice_eq_extract S1x1280 x _ h ![n, 0] ⟨rfl, by intro a; fin_cases a <;> simp <;> omega⟩ (by
    intro a; fin_cases a
    · exact hi _
    · rfl)]
  funext j
  unfold rowN
  rw [shapeCast_apply _ h' j (ix2 (0 : Fin 1) (j 0)) (by rw [Shape.rowMajor_val_two, Shape.rowMajor_val_one]; simp)]
  refine extractStridedSlice_apply _ _ _ _ _ ?_
  intro a; fin_cases a
  · show n % 4224 = n + 0; omega
  · show (j 0).val = 0 + (j 0).val; omega

/-- A row written at a word that is a row's number. -/
theorem row_write (x : Vec F S4224x1280 .f32) (v : Vec F S1280 .f32) (i : Vec F S_ .i32) (n : ℕ) (hn : n < 4224) (hi : ∀ j, (i j).toInt = n)
    (h : S4224x1280.Slices (fun _ => 0) S1x1280) (h' : S1280.BroadcastsInDim S1x1280 (![1] : Fin 1 → Fin S1x1280.rank)) (r : Fin 4224) (q : Fin 1280) :
    Host.dynamicUpdateSlice x (broadcastInDim S1x1280 ![1] h' v) (fun k => (((![i, constantI S_ 32 0#32] : Fin 2 → (⟨S_, .i32⟩ : BufTy).Contents (Elt F))) k (Shape.Idx.first h_S_)).toInt) h (ix2 r q)
      = if r.val = n then v (ix1 q) else x (ix2 r q) := by
  rw [WordCmp.dynamicUpdateSlice_eq_update x _ _ h ![n, 0] ⟨rfl, by intro a; fin_cases a <;> simp <;> omega⟩ (by
    intro a; fin_cases a
    · exact hi _
    · rfl)]
  unfold updateSlice
  by_cases hr : r.val = n
  · rw [if_pos hr, dif_pos (by
      intro a; fin_cases a
      · show n ≤ r.val ∧ r.val < n + 1; omega
      · show 0 ≤ q.val ∧ q.val < 0 + 1280; omega)]
    refine broadcastInDim_apply _ _ _ _ _ ?_
    intro a; fin_cases a
    show q.val = if (1280 : ℕ) = 1 then 0 else q.val - 0
    simp
  · rw [if_neg hr, dif_neg (by
      intro hc
      have h0 : n ≤ r.val ∧ r.val < n + 1 := hc 0
      omega)]

/-- The loops' counter as an integer. -/
theorem iv_toInt (k : ℕ) (hk : k ≤ 4224) : (Scf.iv 0#32 1#32 k).toInt = k := by
  rw [Scf.toInt_iv (lb := 0#32) (ub := 4224#32) (st := 1#32) (by decide) hk]
  show (0 : ℤ) + k * 1 = k; omega

/-- The backward loop's row number. -/
theorem rv_toInt (k : ℕ) (hk : k < 4224) : (IntOp.subi (IntOp.subi 4224#32 (Scf.iv 0#32 1#32 k)) 1#32).toInt = ((4223 - k : ℕ) : ℤ) := by
  rw [Scf.iv_eq_ofInt]
  show ((4224#32 - BitVec.ofInt 32 (0 + k * 1)) - 1#32).toInt = _
  have : (4224#32 - BitVec.ofInt 32 (0 + (k : ℤ) * 1)) - 1#32 = BitVec.ofInt 32 ((4223 - k : ℕ) : ℤ) := by
    apply BitVec.eq_of_toInt_eq
    have e : (4224#32).toInt = 4224 := by decide
    have e' : (1#32).toInt = 1 := by decide
    rw [BitVec.toInt_sub, BitVec.toInt_sub, BitVec.toInt_ofInt, BitVec.toInt_ofInt, e, e',
      Int.bmod_eq_of_le (n := (0 : ℤ) + ↑k * 1) (by norm_num <;> omega) (by norm_num <;> omega),
      Int.bmod_eq_of_le (n := (4224 : ℤ) - (0 + ↑k * 1)) (by norm_num <;> omega) (by norm_num <;> omega),
      Int.bmod_eq_of_le (by norm_num <;> omega) (by norm_num <;> omega),
      Int.bmod_eq_of_le (by norm_num <;> omega) (by norm_num <;> omega)]
    omega
  rw [this, BitVec.toInt_ofInt_eq_self (by decide) (by norm_num <;> omega) (by norm_num <;> omega)]

variable (m : (ℓ : Loc nD τ sig) → Buf (Elt F) ℓ)

theorem fw0_r (X : Valuation τ sig (Elt F)) : after fw0 X main_while0b_v9 = shapeCast S1280 (Host.dynamicSlice S1x1280 (X main_v3_0) (fun k => (((![X main_v3_2, constantI S_ 32 0#32] : Fin 2 → (⟨S_, .i32⟩ : BufTy).Contents (Elt F))) k (Shape.Idx.first h_S_)).toInt) sliceFits_S4224x1280_S1x1280) shapeCasts_S1x1280_S1280 := by
  simp only [fw0]
  after_results_entrywise [cast_eq]
theorem fw1_r (X : Valuation τ sig (Elt F)) : after fw1 X main_while0b_v10 = shapeCast S1280 (Host.dynamicSlice S1x1280 (X main_v3_1) (fun k => (((![X main_v3_2, constantI S_ 32 0#32] : Fin 2 → (⟨S_, .i32⟩ : BufTy).Contents (Elt F))) k (Shape.Idx.first h_S_)).toInt) sliceFits_S4224x1280_S1x1280) shapeCasts_S1x1280_S1280 := by
  simp only [fw1]
  after_results_entrywise [cast_eq]
theorem fw3_r (X : Valuation τ sig (Elt F)) : after fw3 X main_while0b_v13 = Host.dynamicUpdateSlice (X main_v3_4) (broadcastInDim S1x1280 ![1] bcast_S1280_S1x1280_1 (X main_while0b_v12)) (fun k => (((![X main_v3_2, constantI S_ 32 0#32] : Fin 2 → (⟨S_, .i32⟩ : BufTy).Contents (Elt F))) k (Shape.Idx.first h_S_)).toInt) updateFits_S4224x1280_S1x1280 := by
  simp only [fw3]
  after_results_entrywise [cast_eq]
theorem fw4_r (X : Valuation τ sig (Elt F)) : after fw4 X main_while0b_v14 = Host.dynamicUpdateSlice (X main_v3_5) (broadcastInDim S1x1280 ![1] bcast_S1280_S1x1280_1 (X main_v3_3)) (fun k => (((![X main_v3_2, constantI S_ 32 0#32] : Fin 2 → (⟨S_, .i32⟩ : BufTy).Contents (Elt F))) k (Shape.Idx.first h_S_)).toInt) updateFits_S4224x1280_S1x1280 := by
  simp only [fw4]
  after_results_entrywise [cast_eq]
theorem fw0_v (X : Valuation τ sig (Elt F)) (n : ℕ) (hn : n < 4224) (hi : ∀ j, ((X main_v3_2 : Vec F S_ .i32) j).toInt = n) :
    after fw0 X main_while0b_v9 = rowN (X main_v3_0) n :=
  Eq.trans (fw0_r X) (row_read (X main_v3_0) (X main_v3_2) n hn hi sliceFits_S4224x1280_S1x1280 shapeCasts_S1x1280_S1280)
theorem fw1_v (X : Valuation τ sig (Elt F)) (n : ℕ) (hn : n < 4224) (hi : ∀ j, ((X main_v3_2 : Vec F S_ .i32) j).toInt = n) :
    after fw1 X main_while0b_v10 = rowN (X main_v3_1) n :=
  Eq.trans (fw1_r X) (row_read (X main_v3_1) (X main_v3_2) n hn hi sliceFits_S4224x1280_S1x1280 shapeCasts_S1x1280_S1280)
theorem fw2_v (X : Valuation τ sig (Elt F)) :
    after fw2 X main_while0b_v12 = addf (F := F) (s := S1280) (φ := .f32) (mulf (F := F) (s := S1280) (φ := .f32) (X main_while0b_v9) (X main_v3_3)) (X main_while0b_v10) := by
  after_results
theorem fw3_v (X : Valuation τ sig (Elt F)) (n : ℕ) (hn : n < 4224) (hi : ∀ j, ((X main_v3_2 : Vec F S_ .i32) j).toInt = n) (r : Fin 4224) (q : Fin 1280) :
    (after fw3 X main_while0b_v13 : Vec F S4224x1280 .f32) (ix2 r q) = if r.val = n then (X main_while0b_v12 : Vec F S1280 .f32) (ix1 q) else (X main_v3_4 : Vec F S4224x1280 .f32) (ix2 r q) :=
  Eq.trans (congrFun (fw3_r X) _) (row_write (X main_v3_4) (X main_while0b_v12) (X main_v3_2) n hn hi updateFits_S4224x1280_S1x1280 bcast_S1280_S1x1280_1 r q)
theorem fw4_v (X : Valuation τ sig (Elt F)) (n : ℕ) (hn : n < 4224) (hi : ∀ j, ((X main_v3_2 : Vec F S_ .i32) j).toInt = n) (r : Fin 4224) (q : Fin 1280) :
    (after fw4 X main_while0b_v14 : Vec F S4224x1280 .f32) (ix2 r q) = if r.val = n then (X main_v3_3 : Vec F S1280 .f32) (ix1 q) else (X main_v3_5 : Vec F S4224x1280 .f32) (ix2 r q) :=
  Eq.trans (congrFun (fw4_r X) _) (row_write (X main_v3_5) (X main_v3_3) (X main_v3_2) n hn hi updateFits_S4224x1280_S1x1280 bcast_S1280_S1x1280_1 r q)
theorem fw5_3 (X : Valuation τ sig (Elt F)) : after fw5 X main_v3_3 = X main_while0b_v12 := by after_results; rfl
theorem fw5_4 (X : Valuation τ sig (Elt F)) : after fw5 X main_v3_4 = X main_while0b_v13 := by after_results; rfl
theorem fw5_5 (X : Valuation τ sig (Elt F)) : after fw5 X main_v3_5 = X main_while0b_v14 := by after_results; rfl

/-- What a core holds before the `k`-th test of the forward loop. -/
structure Inv0 (a u : Vec F S4224x1280 .f32) (k : ℕ) (V : Valuation τ sig (Elt F)) : Prop where
  va : V main_v3_0 = a
  vu : V main_v3_1 = u
  vi : V main_v3_2 = fun _ => Scf.iv 0#32 1#32 k
  vh : V main_v3_3 = refH a u k
  vs : ∀ (r : Fin 4224) (q : Fin 1280), r.val < k → (V main_v3_4 : Vec F S4224x1280 .f32) (ix2 r q) = refH a u (r.val + 1) (ix1 q)
  vp : ∀ (r : Fin 4224) (q : Fin 1280), r.val < k → (V main_v3_5 : Vec F S4224x1280 .f32) (ix2 r q) = refH a u r.val (ix1 q)

/-- One trip of the forward loop. -/
theorem fw_step (a u : Vec F S4224x1280 .f32) (k : ℕ) (hk : k < 4224) (V : Valuation τ sig (Elt F)) (h : Inv0 a u k V)
    (hi : (afterL fwI V) main_v3_2 = fun _ => Scf.iv 0#32 1#32 (k + 1)) : Inv0 a u (k + 1) (afterL fwI V) := by
  have hw : ∀ j, ((V main_v3_2 : Vec F S_ .i32) j).toInt = k := fun j => by rw [h.vi]; exact iv_toInt k hk.le
  have h12 : after fw2 (after fw1 (after fw0 V)) main_while0b_v12 = refH a u (k + 1) := by
    rw [fw2_v, fw1_keep _ main_while0b_v9 (by decide +kernel), fw0_v V k hk hw, fw1_keep _ main_v3_3 (by decide +kernel), fw0_keep _ main_v3_3 (by decide +kernel),
      fw1_v _ k hk (by rw [fw0_keep _ main_v3_2 (by decide +kernel)]; exact hw), fw0_keep _ main_v3_1 (by decide +kernel), h.va, h.vh, h.vu]
    rfl
  refine ⟨?_, ?_, hi, ?_, ?_, ?_⟩
  · simp only [afterL_cons, afterL_nil]
    rw [fw5_keep _ _ (by decide +kernel), fw4_keep _ _ (by decide +kernel), fw3_keep _ _ (by decide +kernel), fw2_keep _ _ (by decide +kernel), fw1_keep _ _ (by decide +kernel), fw0_keep _ _ (by decide +kernel)]
    exact h.va
  · simp only [afterL_cons, afterL_nil]
    rw [fw5_keep _ _ (by decide +kernel), fw4_keep _ _ (by decide +kernel), fw3_keep _ _ (by decide +kernel), fw2_keep _ _ (by decide +kernel), fw1_keep _ _ (by decide +kernel), fw0_keep _ _ (by decide +kernel)]
    exact h.vu
  · simp only [afterL_cons, afterL_nil]
    rw [fw5_3, fw4_keep _ _ (by decide +kernel), fw3_keep _ _ (by decide +kernel)]
    exact h12
  · intro r q hr
    simp only [afterL_cons, afterL_nil]
    rw [fw5_4, fw4_keep _ _ (by decide +kernel), fw3_v _ k hk (by
      rw [fw2_keep _ main_v3_2 (by decide +kernel), fw1_keep _ main_v3_2 (by decide +kernel), fw0_keep _ main_v3_2 (by decide +kernel)]; exact hw)]
    split
    · next e => rw [h12, e]
    · rw [fw2_keep _ _ (by decide +kernel), fw1_keep _ _ (by decide +kernel), fw0_keep _ _ (by decide +kernel)]
      exact h.vs r q (by omega)
  · intro r q hr
    simp only [afterL_cons, afterL_nil]
    rw [fw5_5, fw4_v _ k hk (by
      rw [fw3_keep _ main_v3_2 (by decide +kernel), fw2_keep _ main_v3_2 (by decide +kernel), fw1_keep _ main_v3_2 (by decide +kernel), fw0_keep _ main_v3_2 (by decide +kernel)]; exact hw)]
    split
    · next e =>
      rw [fw3_keep _ _ (by decide +kernel), fw2_keep _ _ (by decide +kernel), fw1_keep _ _ (by decide +kernel), fw0_keep _ _ (by decide +kernel), h.vh, e]
    · rw [fw3_keep _ _ (by decide +kernel), fw2_keep _ _ (by decide +kernel), fw1_keep _ _ (by decide +kernel), fw0_keep _ _ (by decide +kernel)]
      exact h.vp r q (by omega)

/-- The forward loop's test changes none of what the loop carries. -/
theorem fwC_inv (a u : Vec F S4224x1280 .f32) (k : ℕ) (V : Valuation τ sig (Elt F)) (h : Inv0 a u k V) : Inv0 a u k (after fwC V) := by
  refine ⟨?_, ?_, ?_, ?_, ?_, ?_⟩ <;> (try intro r q hr) <;> rw [fwC_keep _ _ (by decide +kernel)]
  exacts [h.va, h.vu, h.vi, h.vh, h.vs r q hr, h.vp r q hr]

/-- Before every test of the forward loop. -/
theorem inv0 (c : Dev nD) : ∀ k ≤ 4224, Inv0 (m ((c.tc : Thread nD τ).loc main_arg0)) (m ((c.tc : Thread nD τ).loc main_arg1)) k (at0 m k c)
  | 0, _ => by
    refine ⟨?_, ?_, fw_at_ctr m c 0, ?_, fun r q hr => absurd hr (Nat.not_lt_zero _), fun r q hr => absurd hr (Nat.not_lt_zero _)⟩ <;>
      rw [show at0 m 0 c = W0 m c from rfl] <;> simp only [afterL_cons, afterL_nil] <;> after_reads_simp <;> rfl
  | k + 1, hk => fw_step _ _ k hk _ (fwC_inv _ _ k _ (inv0 c k (Nat.le_of_succ_le hk))) (fw_at_ctr m c (k + 1))

theorem bw1_r (X : Valuation τ sig (Elt F)) : after bw1 X main_while1b_v11 = shapeCast S1280 (Host.dynamicSlice S1x1280 (X main_v8_0) (fun k => (((![X main_while1b_v10, constantI S_ 32 0#32] : Fin 2 → (⟨S_, .i32⟩ : BufTy).Contents (Elt F))) k (Shape.Idx.first h_S_)).toInt) sliceFits_S4224x1280_S1x1280) shapeCasts_S1x1280_S1280 := by
  simp only [bw1]
  after_results_entrywise [cast_eq]
theorem bw2_r (X : Valuation τ sig (Elt F)) : after bw2 X main_while1b_v12 = shapeCast S1280 (Host.dynamicSlice S1x1280 (X main_v8_1) (fun k => (((![X main_while1b_v10, constantI S_ 32 0#32] : Fin 2 → (⟨S_, .i32⟩ : BufTy).Contents (Elt F))) k (Shape.Idx.first h_S_)).toInt) sliceFits_S4224x1280_S1x1280) shapeCasts_S1x1280_S1280 := by
  simp only [bw2]
  after_results_entrywise [cast_eq]
theorem bw3_r (X : Valuation τ sig (Elt F)) : after bw3 X main_while1b_v13 = shapeCast S1280 (Host.dynamicSlice S1x1280 (X main_v8_2) (fun k => (((![X main_while1b_v10, constantI S_ 32 0#32] : Fin 2 → (⟨S_, .i32⟩ : BufTy).Contents (Elt F))) k (Shape.Idx.first h_S_)).toInt) sliceFits_S4224x1280_S1x1280) shapeCasts_S1x1280_S1280 := by
  simp only [bw3]
  after_results_entrywise [cast_eq]
theorem bw5_r (X : Valuation τ sig (Elt F)) : after bw5 X main_while1b_v17 = Host.dynamicUpdateSlice (X main_v8_5) (broadcastInDim S1x1280 ![1] bcast_S1280_S1x1280_1 (X main_while1b_v16)) (fun k => (((![X main_while1b_v10, constantI S_ 32 0#32] : Fin 2 → (⟨S_, .i32⟩ : BufTy).Contents (Elt F))) k (Shape.Idx.first h_S_)).toInt) updateFits_S4224x1280_S1x1280 := by
  simp only [bw5]
  after_results_entrywise [cast_eq]
theorem bw6_r (X : Valuation τ sig (Elt F)) : after bw6 X main_while1b_v18 = Host.dynamicUpdateSlice (X main_v8_6) (broadcastInDim S1x1280 ![1] bcast_S1280_S1x1280_1 (X main_while1b_v14)) (fun k => (((![X main_while1b_v10, constantI S_ 32 0#32] : Fin 2 → (⟨S_, .i32⟩ : BufTy).Contents (Elt F))) k (Shape.Idx.first h_S_)).toInt) updateFits_S4224x1280_S1x1280 := by
  simp only [bw6]
  after_results_entrywise [cast_eq]
theorem bw1_v (X : Valuation τ sig (Elt F)) (n : ℕ) (hn : n < 4224) (hi : ∀ j, ((X main_while1b_v10 : Vec F S_ .i32) j).toInt = n) :
    after bw1 X main_while1b_v11 = rowN (X main_v8_0) n :=
  Eq.trans (bw1_r X) (row_read (X main_v8_0) (X main_while1b_v10) n hn hi sliceFits_S4224x1280_S1x1280 shapeCasts_S1x1280_S1280)
theorem bw2_v (X : Valuation τ sig (Elt F)) (n : ℕ) (hn : n < 4224) (hi : ∀ j, ((X main_while1b_v10 : Vec F S_ .i32) j).toInt = n) :
    after bw2 X main_while1b_v12 = rowN (X main_v8_1) n :=
  Eq.trans (bw2_r X) (row_read (X main_v8_1) (X main_while1b_v10) n hn hi sliceFits_S4224x1280_S1x1280 shapeCasts_S1x1280_S1280)
theorem bw3_v (X : Valuation τ sig (Elt F)) (n : ℕ) (hn : n < 4224) (hi : ∀ j, ((X main_while1b_v10 : Vec F S_ .i32) j).toInt = n) :
    after bw3 X main_while1b_v13 = rowN (X main_v8_2) n :=
  Eq.trans (bw3_r X) (row_read (X main_v8_2) (X main_while1b_v10) n hn hi sliceFits_S4224x1280_S1x1280 shapeCasts_S1x1280_S1280)
theorem bw5_v (X : Valuation τ sig (Elt F)) (n : ℕ) (hn : n < 4224) (hi : ∀ j, ((X main_while1b_v10 : Vec F S_ .i32) j).toInt = n) (r : Fin 4224) (q : Fin 1280) :
    (after bw5 X main_while1b_v17 : Vec F S4224x1280 .f32) (ix2 r q) = if r.val = n then (X main_while1b_v16 : Vec F S1280 .f32) (ix1 q) else (X main_v8_5 : Vec F S4224x1280 .f32) (ix2 r q) :=
  Eq.trans (congrFun (bw5_r X) _) (row_write (X main_v8_5) (X main_while1b_v16) (X main_while1b_v10) n hn hi updateFits_S4224x1280_S1x1280 bcast_S1280_S1x1280_1 r q)
theorem bw6_v (X : Valuation τ sig (Elt F)) (n : ℕ) (hn : n < 4224) (hi : ∀ j, ((X main_while1b_v10 : Vec F S_ .i32) j).toInt = n) (r : Fin 4224) (q : Fin 1280) :
    (after bw6 X main_while1b_v18 : Vec F S4224x1280 .f32) (ix2 r q) = if r.val = n then (X main_while1b_v14 : Vec F S1280 .f32) (ix1 q) else (X main_v8_6 : Vec F S4224x1280 .f32) (ix2 r q) :=
  Eq.trans (congrFun (bw6_r X) _) (row_write (X main_v8_6) (X main_while1b_v14) (X main_while1b_v10) n hn hi updateFits_S4224x1280_S1x1280 bcast_S1280_S1x1280_1 r q)
theorem bw0_v (X : Valuation τ sig (Elt F)) : after bw0 X main_while1b_v10 = subi (s := S_) (subi (s := S_) (constantI S_ 32 4224#32) (X main_v8_3)) (constantI S_ 32 1#32) := by
  after_results
theorem bw4_14 (X : Valuation τ sig (Elt F)) : after bw4 X main_while1b_v14 = addf (F := F) (s := S1280) (φ := .f32) (X main_v8_4) (X main_while1b_v11) := by
  after_results
theorem bw4_15 (X : Valuation τ sig (Elt F)) : after bw4 X main_while1b_v15 = mulf (F := F) (s := S1280) (φ := .f32) (X main_while1b_v13) (addf (F := F) (s := S1280) (φ := .f32) (X main_v8_4) (X main_while1b_v11)) := by
  after_results
theorem bw4_16 (X : Valuation τ sig (Elt F)) : after bw4 X main_while1b_v16 = mulf (F := F) (s := S1280) (φ := .f32) (addf (F := F) (s := S1280) (φ := .f32) (X main_v8_4) (X main_while1b_v11)) (X main_while1b_v12) := by
  after_results
theorem bw7_4 (X : Valuation τ sig (Elt F)) : after bw7 X main_v8_4 = X main_while1b_v15 := by after_results; rfl
theorem bw7_5 (X : Valuation τ sig (Elt F)) : after bw7 X main_v8_5 = X main_while1b_v17 := by after_results; rfl
theorem bw7_6 (X : Valuation τ sig (Elt F)) : after bw7 X main_v8_6 = X main_while1b_v18 := by after_results; rfl

/-- The gradient of row `n`: what the rows after it send, and its own. -/
def gRow (a dy : Vec F S4224x1280 .f32) (n : ℕ) : Vec F S1280 .f32 := addf (refG a dy (4223 - n)) (rowN dy n)

/-- What a core holds before the `k`-th test of the backward loop. -/
structure Inv1 (a p dy : Vec F S4224x1280 .f32) (k : ℕ) (V : Valuation τ sig (Elt F)) : Prop where
  vd : V main_v8_0 = dy
  vp : V main_v8_1 = p
  va : V main_v8_2 = a
  vi : V main_v8_3 = fun _ => Scf.iv 0#32 1#32 k
  vg : V main_v8_4 = refG a dy k
  v5 : ∀ (r : Fin 4224) (q : Fin 1280), 4224 - k ≤ r.val → (V main_v8_5 : Vec F S4224x1280 .f32) (ix2 r q) = mulf (gRow a dy r.val) (rowN p r.val) (ix1 q)
  v6 : ∀ (r : Fin 4224) (q : Fin 1280), 4224 - k ≤ r.val → (V main_v8_6 : Vec F S4224x1280 .f32) (ix2 r q) = gRow a dy r.val (ix1 q)

/-- One trip of the backward loop. -/
theorem bw_step (a p dy : Vec F S4224x1280 .f32) (k : ℕ) (hk : k < 4224) (V : Valuation τ sig (Elt F)) (h : Inv1 a p dy k V)
    (hi : (afterL bwI V) main_v8_3 = fun _ => Scf.iv 0#32 1#32 (k + 1)) : Inv1 a p dy (k + 1) (afterL bwI V) := by
  have hn : 4223 - k < 4224 := by omega
  have hw : ∀ j, ((after bw0 V main_while1b_v10 : Vec F S_ .i32) j).toInt = ((4223 - k : ℕ) : ℤ) := fun j => by
    rw [bw0_v, h.vi]; exact rv_toInt k hk
  have e11 : after bw3 (after bw2 (after bw1 (after bw0 V))) main_while1b_v11 = rowN dy (4223 - k) := by
    rw [bw3_keep _ _ (by decide +kernel), bw2_keep _ _ (by decide +kernel), bw1_v _ _ hn hw, bw0_keep _ _ (by decide +kernel), h.vd]
  have e12 : after bw3 (after bw2 (after bw1 (after bw0 V))) main_while1b_v12 = rowN p (4223 - k) := by
    rw [bw3_keep _ _ (by decide +kernel), bw2_v _ _ hn (by rw [bw1_keep _ main_while1b_v10 (by decide +kernel)]; exact hw),
      bw1_keep _ _ (by decide +kernel), bw0_keep _ _ (by decide +kernel), h.vp]
  have e13 : after bw3 (after bw2 (after bw1 (after bw0 V))) main_while1b_v13 = rowN a (4223 - k) := by
    rw [bw3_v _ _ hn (by rw [bw2_keep _ main_while1b_v10 (by decide +kernel), bw1_keep _ main_while1b_v10 (by decide +kernel)]; exact hw),
      bw2_keep _ _ (by decide +kernel), bw1_keep _ _ (by decide +kernel), bw0_keep _ _ (by decide +kernel), h.va]
  have e4 : after bw3 (after bw2 (after bw1 (after bw0 V))) main_v8_4 = refG a dy k := by
    rw [bw3_keep _ _ (by decide +kernel), bw2_keep _ _ (by decide +kernel), bw1_keep _ _ (by decide +kernel), bw0_keep _ _ (by decide +kernel)]
    exact h.vg
  have h14 : after bw4 (after bw3 (after bw2 (after bw1 (after bw0 V)))) main_while1b_v14 = gRow a dy (4223 - k) := by
    rw [bw4_14, e4, e11]; unfold gRow; rw [show 4223 - (4223 - k) = k by omega]
  have h15 : after bw4 (after bw3 (after bw2 (after bw1 (after bw0 V)))) main_while1b_v15 = refG a dy (k + 1) := by
    rw [bw4_15, e4, e11, e13]; rfl
  have h16 : after bw4 (after bw3 (after bw2 (after bw1 (after bw0 V)))) main_while1b_v16 = mulf (gRow a dy (4223 - k)) (rowN p (4223 - k)) := by
    rw [bw4_16, e4, e11, e12]; unfold gRow; rw [show 4223 - (4223 - k) = k by omega]
  refine ⟨?_, ?_, ?_, hi, ?_, ?_, ?_⟩
  · simp only [afterL_cons, afterL_nil]
    rw [bw7_keep _ _ (by decide +kernel), bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel)]
    exact h.vd
  · simp only [afterL_cons, afterL_nil]
    rw [bw7_keep _ _ (by decide +kernel), bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel)]
    exact h.vp
  · simp only [afterL_cons, afterL_nil]
    rw [bw7_keep _ _ (by decide +kernel), bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel)]
    exact h.va
  · simp only [afterL_cons, afterL_nil]
    rw [bw7_4, bw6_keep _ _ (by decide +kernel), bw5_keep _ _ (by decide +kernel)]
    exact h15
  · intro r q hr
    simp only [afterL_cons, afterL_nil]
    rw [bw7_5, bw6_keep _ _ (by decide +kernel), bw5_v _ _ hn (by
      rw [bw4_keep _ main_while1b_v10 (by decide +kernel), bw3_keep _ main_while1b_v10 (by decide +kernel), bw2_keep _ main_while1b_v10 (by decide +kernel), bw1_keep _ main_while1b_v10 (by decide +kernel)]; exact hw)]
    split
    · next e => rw [h16, e]
    · rw [bw4_keep _ _ (by decide +kernel), bw3_keep _ _ (by decide +kernel), bw2_keep _ _ (by decide +kernel), bw1_keep _ _ (by decide +kernel), bw0_keep _ _ (by decide +kernel)]
      exact h.v5 r q (by omega)
  · intro r q hr
    simp only [afterL_cons, afterL_nil]
    rw [bw7_6, bw6_v _ _ hn (by
      rw [bw5_keep _ main_while1b_v10 (by decide +kernel), bw4_keep _ main_while1b_v10 (by decide +kernel), bw3_keep _ main_while1b_v10 (by decide +kernel), bw2_keep _ main_while1b_v10 (by decide +kernel), bw1_keep _ main_while1b_v10 (by decide +kernel)]; exact hw)]
    split
    · next e => rw [bw5_keep _ _ (by decide +kernel), h14, e]
    · rw [bw5_keep _ _ (by decide +kernel), bw4_keep _ _ (by decide +kernel), bw3_keep _ _ (by decide +kernel), bw2_keep _ _ (by decide +kernel), bw1_keep _ _ (by decide +kernel), bw0_keep _ _ (by decide +kernel)]
      exact h.v6 r q (by omega)

/-- The backward loop's test changes none of what the loop carries. -/
theorem bwC_inv (a p dy : Vec F S4224x1280 .f32) (k : ℕ) (V : Valuation τ sig (Elt F)) (h : Inv1 a p dy k V) : Inv1 a p dy k (after bwC V) := by
  refine ⟨?_, ?_, ?_, ?_, ?_, ?_, ?_⟩ <;> (try intro r q hr) <;> rw [bwC_keep _ _ (by decide +kernel)]
  exacts [h.vd, h.vp, h.va, h.vi, h.vg, h.v5 r q hr, h.v6 r q hr]

/-- A buffer the program never writes keeps its launch contents to the end of the forward loop. -/
theorem keep0 (c : Dev nD) (b : Ref sig .tc) (hp : b ∉ opsPre_W) (hC : b ∉ fwC_W) (h0 : b ∉ fw0_W) (h1 : b ∉ fw1_W) (h2 : b ∉ fw2_W) (h3 : b ∉ fw3_W)
    (h4 : b ∉ fw4_W) (h5 : b ∉ fw5_W) : ∀ k, at0 m k c (Proc.devRef .tc b) = m ((c.tc : Thread nD τ).loc b)
  | 0 => by
    rw [show at0 m 0 c = W0 m c from rfl]
    simp only [afterL_cons, afterL_nil]
    rw [opsPre_keep _ _ hp]
  | k + 1 => by
    rw [show at0 m (k + 1) c = afterL fwI (after fwC (at0 m k c)) from rfl]
    simp only [afterL_cons, afterL_nil]
    rw [fw5_keep _ _ h5, fw4_keep _ _ h4, fw3_keep _ _ h3, fw2_keep _ _ h2, fw1_keep _ _ h1, fw0_keep _ _ h0, fwC_keep _ _ hC, keep0 c b hp hC h0 h1 h2 h3 h4 h5 k]

/-- A buffer the backward loop never writes keeps what it held at the loop's entry. -/
theorem keep1 (c : Dev nD) (b : Ref sig .tc) (hC : b ∉ bwC_W) (h0 : b ∉ bw0_W) (h1 : b ∉ bw1_W) (h2 : b ∉ bw2_W) (h3 : b ∉ bw3_W)
    (h4 : b ∉ bw4_W) (h5 : b ∉ bw5_W) (h6 : b ∉ bw6_W) (h7 : b ∉ bw7_W) : ∀ k, at1 m k c (Proc.devRef .tc b) = W1 m c (Proc.devRef .tc b)
  | 0 => rfl
  | k + 1 => by
    rw [show at1 m (k + 1) c = afterL bwI (after bwC (at1 m k c)) from rfl]
    simp only [afterL_cons, afterL_nil]
    rw [bw7_keep _ _ h7, bw6_keep _ _ h6, bw5_keep _ _ h5, bw4_keep _ _ h4, bw3_keep _ _ h3, bw2_keep _ _ h2, bw1_keep _ _ h1, bw0_keep _ _ h0, bwC_keep _ _ hC]
    exact keep1 c b hC h0 h1 h2 h3 h4 h5 h6 h7 k

theorem a0_end (c : Dev nD) : at0 m 4224 c (Proc.devRef .tc main_arg0) = m ((c.tc : Thread nD τ).loc main_arg0) := by
  apply keep0 <;> decide +kernel
theorem a1_end (c : Dev nD) : at0 m 4224 c (Proc.devRef .tc main_arg1) = m ((c.tc : Thread nD τ).loc main_arg1) := by
  apply keep0 <;> decide +kernel
theorem a2_end (c : Dev nD) : at0 m 4224 c (Proc.devRef .tc main_arg2) = m ((c.tc : Thread nD τ).loc main_arg2) := by
  apply keep0 <;> decide +kernel

theorem mid_0 (X : Valuation τ sig (Elt F)) : after opsMid X main_v8_0 = X main_arg2 := by after_reads_simp; rfl
theorem mid_1 (X : Valuation τ sig (Elt F)) : after opsMid X main_v8_1 = X main_v3_5 := by after_reads_simp; rfl
theorem mid_2 (X : Valuation τ sig (Elt F)) : after opsMid X main_v8_2 = X main_arg0 := by after_reads_simp; rfl
theorem mid_4 (X : Valuation τ sig (Elt F)) : after opsMid X main_v8_4 = zrow := by after_reads_simp; rfl

/-- The states one row earlier, as the forward loop left them. -/
abbrev prevs (c : Dev nD) : Vec F S4224x1280 .f32 := at0 m 4224 c main_v3_5

/-- Before every test of the backward loop. -/
theorem inv1 (c : Dev nD) : ∀ k ≤ 4224, Inv1 (m ((c.tc : Thread nD τ).loc main_arg0)) (prevs m c) (m ((c.tc : Thread nD τ).loc main_arg2)) k (at1 m k c)
  | 0, _ => by
    refine ⟨?_, ?_, ?_, bw_at_ctr m c 0, ?_, fun r q hr => absurd r.isLt (by omega), fun r q hr => absurd r.isLt (by omega)⟩ <;>
      rw [show at1 m 0 c = W1 m c from rfl] <;> simp only [afterL_cons, afterL_nil]
    · rw [mid_0, fwC_keep _ _ (by decide +kernel), a2_end]
    · rw [mid_1, fwC_keep _ _ (by decide +kernel)]
    · rw [mid_2, fwC_keep _ _ (by decide +kernel), a0_end]
    · rw [mid_4]; rfl
  | k + 1, hk => bw_step _ _ _ k hk _ (bwC_inv _ _ _ k _ (inv1 c k (Nat.le_of_succ_le hk))) (bw_at_ctr m c (k + 1))

/-- A buffer written by nothing after the first loop ends as that loop left it. -/
theorem end_keep (c : Dev nD) (b : Ref sig .tc) (hm : b ∉ opsMid_W) (hf : b ∉ fwC_W) (hC : b ∉ bwC_W) (h0 : b ∉ bw0_W) (h1 : b ∉ bw1_W) (h2 : b ∉ bw2_W) (h3 : b ∉ bw3_W)
    (h4 : b ∉ bw4_W) (h5 : b ∉ bw5_W) (h6 : b ∉ bw6_W) (h7 : b ∉ bw7_W) : Wend m c (Proc.devRef .tc b) = at0 m 4224 c (Proc.devRef .tc b) := by
  show after bwC (at1 m 4224 c) (Proc.devRef .tc b) = _
  rw [bwC_keep _ _ hC, keep1 m c b hC h0 h1 h2 h3 h4 h5 h6 h7]
  simp only [afterL_cons, afterL_nil]
  rw [opsMid_keep _ _ hm, fwC_keep _ _ hf]

theorem end_a0 (c : Dev nD) : Wend m c (Proc.devRef .tc main_arg0) = m ((c.tc : Thread nD τ).loc main_arg0) :=
  Eq.trans (by apply end_keep <;> decide +kernel) (a0_end m c)
theorem end_a1 (c : Dev nD) : Wend m c (Proc.devRef .tc main_arg1) = m ((c.tc : Thread nD τ).loc main_arg1) :=
  Eq.trans (by apply end_keep <;> decide +kernel) (a1_end m c)
theorem end_a2 (c : Dev nD) : Wend m c (Proc.devRef .tc main_arg2) = m ((c.tc : Thread nD τ).loc main_arg2) :=
  Eq.trans (by apply end_keep <;> decide +kernel) (a2_end m c)

/-- The reference's first result: the states. -/
theorem end_h (c : Dev nD) (r : Fin 4224) (q : Fin 1280) : (Wend m c (Proc.devRef .tc main_v3_4) : Vec F S4224x1280 .f32) (ix2 r q)
    = refH (m ((c.tc : Thread nD τ).loc main_arg0)) (m ((c.tc : Thread nD τ).loc main_arg1)) (r.val + 1) (ix1 q) := by
  rw [show Wend m c (Proc.devRef .tc main_v3_4) = at0 m 4224 c (Proc.devRef .tc main_v3_4) from by apply end_keep <;> decide +kernel]
  exact (inv0 m c 4224 le_rfl).vs r q r.isLt

/-- Its second: the gradient of the inputs. -/
theorem end_du (c : Dev nD) (r : Fin 4224) (q : Fin 1280) : (Wend m c (Proc.devRef .tc main_v8_6) : Vec F S4224x1280 .f32) (ix2 r q)
    = gRow (m ((c.tc : Thread nD τ).loc main_arg0)) (m ((c.tc : Thread nD τ).loc main_arg2)) r.val (ix1 q) := by
  show (after bwC (at1 m 4224 c) (Proc.devRef .tc main_v8_6) : Vec F S4224x1280 .f32) (ix2 r q) = _
  rw [bwC_keep _ _ (by decide +kernel)]
  exact (inv1 m c 4224 le_rfl).v6 r q (by omega)

/-- Its third: the gradient of the decays. -/
theorem end_da (c : Dev nD) (r : Fin 4224) (q : Fin 1280) : (Wend m c (Proc.devRef .tc main_v8_5) : Vec F S4224x1280 .f32) (ix2 r q)
    = FloatOps.mulf (gRow (m ((c.tc : Thread nD τ).loc main_arg0)) (m ((c.tc : Thread nD τ).loc main_arg2)) r.val (ix1 q))
        (refH (m ((c.tc : Thread nD τ).loc main_arg0)) (m ((c.tc : Thread nD τ).loc main_arg1)) r.val (ix1 q)) := by
  show (after bwC (at1 m 4224 c) (Proc.devRef .tc main_v8_5) : Vec F S4224x1280 .f32) (ix2 r q) = _
  rw [bwC_keep _ _ (by decide +kernel)]
  refine ((inv1 m c 4224 le_rfl).v5 r q (by omega)).trans ?_
  have e : rowN (prevs m c) r.val (ix1 q) = refH (m ((c.tc : Thread nD τ).loc main_arg0)) (m ((c.tc : Thread nD τ).loc main_arg1)) r.val (ix1 q) := by
    show (at0 m 4224 c main_v3_5 : Vec F S4224x1280 .f32) (ix2 (Fin.ofNat 4224 r.val) q) = _
    rw [show (Fin.ofNat 4224 r.val : Fin 4224) = r from Fin.ext (Nat.mod_eq_of_lt r.isLt)]
    exact (inv0 m c 4224 le_rfl).vp r q r.isLt
  exact congrArg (FloatOps.mulf _) e

end Cert.ScanRefIdeal.Value

end
-- ==== Proof.ScanIdealVal.lean ====
/- What the scan's arrays are over the extended reals when the arguments are real: the doubling over eight rows is the
   recurrence taken row by row, forwards for the states and backwards for the gradients. -/
module

public import proofs.«01_k».proof.Proof.ScanArr
public import Idealize.ShloMosaic.Lib.IdealHost

@[expose] public section

set_option maxRecDepth 16384

noncomputable section

namespace Cert.ScanIdeal.Value

open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section rows
variable {F : FTy → Type} [FloatOps F]

/-- A row's number is at least `k`, read off the mask the kernel makes. -/
theorem ge_mask (k : BitVec 32) (i : Fin 8) (q : Fin 1280) :
    broadcastTo S8x1280 (shapeCast S8x1 (cmpi .sge rows8 (broadcast S8x1 k)) shapeCasts_S8x1_S8x1) broadcasts_S8x1_S8x1280 (ix2 i q)
      = BitVec.ofBool (k.sle (BitVec.ofNat 32 i.val)) := by
  unfold rows8
  pointwise
  rfl

/-- A row's number is less than `k`, read off the mask the kernel makes. -/
theorem lt_mask (k : BitVec 32) (i : Fin 8) (q : Fin 1280) :
    broadcastTo S8x1280 (shapeCast S8x1 (cmpi .slt rows8 (broadcast S8x1 k)) shapeCasts_S8x1_S8x1) broadcasts_S8x1_S8x1280 (ix2 i q)
      = BitVec.ofBool ((BitVec.ofNat 32 i.val).slt k) := by
  unfold rows8
  pointwise
  rfl

/-- A rotation of the eight rows. -/
theorem rot_row (x : Vec F S8x1280 .f32) (d : BitVec 32) (i : Fin 8) (q : Fin 1280) :
    dynamicRotate 0 d none x rotates_S8x1280_d0 (ix2 i q)
      = x (ix2 (⟨(i.val + 8 - d.toNat % 8) % 8, Nat.mod_lt _ (by decide)⟩ : Fin 8) q) := by
  refine (Pointwise.dynamicRotate_apply _ _ _ _ _ _).trans (congrArg x (funext fun b => Fin.ext ?_))
  match b with
  | ⟨0, _⟩ => rfl
  | ⟨1, _⟩ => rfl

/-- The row `d` rows earlier, and a constant where there is none. -/
def back (d : ℕ) (x : Vec F S8x1280 .f32) (z : F .f32) (i : Fin 8) (q : Fin 1280) : F .f32 :=
  if d ≤ i.val then x (ix2 (⟨i.val - d, by omega⟩ : Fin 8) q) else z

/-- The row `d` rows later, and another vector's entry where there is none. -/
def ahead (d : ℕ) (x : Vec F S8x1280 .f32) (z : F .f32) (i : Fin 8) (q : Fin 1280) : F .f32 :=
  if h : i.val + d < 8 then x (ix2 (⟨i.val + d, h⟩ : Fin 8) q) else z

/-- The masked rotation downwards by one, two or four rows. -/
theorem sel_back (d : BitVec 32) (hd : d = 1#32 ∨ d = 2#32 ∨ d = 4#32) (x y : Vec F S8x1280 .f32) (i : Fin 8) (q : Fin 1280) :
    select (broadcastTo S8x1280 (shapeCast S8x1 (cmpi .sge rows8 (broadcast S8x1 d)) shapeCasts_S8x1_S8x1) broadcasts_S8x1_S8x1280)
      (dynamicRotate 0 d none x rotates_S8x1280_d0) y (ix2 i q) = back d.toNat x (y (ix2 i q)) i q := by
  refine (congrArg₂ (fun b (z : F .f32) => if b = 1#1 then z else y (ix2 i q)) (ge_mask d i q) (rot_row x d i q)).trans ?_
  unfold back
  rcases hd with rfl | rfl | rfl <;> fin_cases i <;> rfl

/-- The masked rotation upwards by one, two or four rows. -/
theorem sel_ahead (d k : BitVec 32) (n : ℕ) (hd : (d = 7#32 ∧ k = 7#32 ∧ n = 1) ∨ (d = 6#32 ∧ k = 6#32 ∧ n = 2) ∨ (d = 4#32 ∧ k = 4#32 ∧ n = 4))
    (x y : Vec F S8x1280 .f32) (i : Fin 8) (q : Fin 1280) :
    select (broadcastTo S8x1280 (shapeCast S8x1 (cmpi .slt rows8 (broadcast S8x1 k)) shapeCasts_S8x1_S8x1) broadcasts_S8x1_S8x1280)
      (dynamicRotate 0 d none x rotates_S8x1280_d0) y (ix2 i q) = ahead n x (y (ix2 i q)) i q := by
  refine (congrArg₂ (fun b (z : F .f32) => if b = 1#1 then z else y (ix2 i q)) (lt_mask k i q) (rot_row x d i q)).trans ?_
  unfold ahead
  rcases hd with ⟨rfl, rfl, rfl⟩ | ⟨rfl, rfl, rfl⟩ | ⟨rfl, rfl, rfl⟩ <;> fin_cases i <;> rfl

end rows

/-- A row of a tile is real, and which reals. -/
abbrev IsRow (x : Vec Ideal S8x1280 .f32) (q : Fin 1280) (A : ℕ → ℝ) : Prop := ∀ i : Fin 8, x (ix2 i q) = ((A i.val : ℝ) : EReal)

theorem back_real {x : Vec Ideal S8x1280 .f32} {q : Fin 1280} {A : ℕ → ℝ} (h : IsRow x q A) (d : ℕ) (z : ℝ) (i : Fin 8) :
    back (F := Ideal) d x ((z : ℝ) : EReal) i q = (((if d ≤ i.val then A (i.val - d) else z) : ℝ) : EReal) := by
  unfold back
  split_ifs
  · exact h _
  · rfl

theorem ahead_real {x : Vec Ideal S8x1280 .f32} {q : Fin 1280} {A : ℕ → ℝ} (h : IsRow x q A) (d : ℕ) (z : ℝ) (i : Fin 8) :
    ahead (F := Ideal) d x ((z : ℝ) : EReal) i q = (((if i.val + d < 8 then A (i.val + d) else z) : ℝ) : EReal) := by
  unfold ahead
  split_ifs
  · exact h _
  · rfl

theorem mul_real {x y : EReal} {a b : ℝ} (hx : x = (a : EReal)) (hy : y = (b : EReal)) : FloatOps.mulf (F := Ideal) (φ := .f32) x y = ((a * b : ℝ) : EReal) := by
  rw [hx, hy, EReal.coe_mul]; rfl

theorem add_real {x y : EReal} {a b : ℝ} (hx : x = (a : EReal)) (hy : y = (b : EReal)) : FloatOps.addf (F := Ideal) (φ := .f32) x y = ((a + b : ℝ) : EReal) := by
  rw [hx, hy, EReal.coe_add]; rfl

/-- The printed one. -/
theorem one_real : (Scalar.ofBits .f32 0x3F800000#32 : Ideal .f32) = ((1 : ℝ) : EReal) := Ideal.ofBits_one_f32.trans (by norm_num)

/-- The printed zero. -/
theorem zero_real : (Scalar.ofBits .f32 0x00000000#32 : Ideal .f32) = ((0 : ℝ) : EReal) := Ideal.ofBits_zero_f32.trans (by norm_num)

/-- Zeros on every row. -/
abbrev zv : FVec Ideal S8x1280 .f32 := broadcast S8x1280 (Scalar.ofBits (F := Ideal) .f32 0x00000000#32)

/-- Ones on every row. -/
abbrev ov : FVec Ideal S8x1280 .f32 := broadcast S8x1280 (Scalar.ofBits (F := Ideal) .f32 0x3F800000#32)

/-- The recurrence over reals, from a start. -/
def rec1 (A U : ℕ → ℝ) (c : ℝ) : ℕ → ℝ
  | 0 => c
  | n + 1 => A n * rec1 A U c n + U n

/-- One doubling of the inputs. -/
def dblU (d : ℕ) (A U : ℕ → ℝ) (n : ℕ) : ℝ := U n + A n * (if d ≤ n then U (n - d) else 0)

/-- One doubling of the decays. -/
def dblA (d : ℕ) (A : ℕ → ℝ) (n : ℕ) : ℝ := A n * (if d ≤ n then A (n - d) else 1)

/-- Three doublings and the carried row are the recurrence. -/
theorem dbl_rec (A U : ℕ → ℝ) (c : ℝ) (n : ℕ) (h : n < 8) :
    dblU 4 (dblA 2 (dblA 1 A)) (dblU 2 (dblA 1 A) (dblU 1 A U)) n + dblA 4 (dblA 2 (dblA 1 A)) n * c = rec1 A U c (n + 1) := by
  interval_cases n <;> simp [dblU, dblA, rec1] <;> ring

section fwd
variable {a u g : Vec Ideal S8x1280 .f32} {q : Fin 1280} {A U : ℕ → ℝ} {c : ℝ}

theorem pay6_real (ha : IsRow a q A) : IsRow (k0_pay6 rows8 a) q (dblA 1 A) := fun i =>
  mul_real (ha i) ((sel_back (F := Ideal) 1#32 (by simp) a ov i q).trans
    ((congrArg (fun z => back (F := Ideal) 1 a z i q) one_real).trans (back_real ha 1 1 i)))

theorem pay9_real (ha : IsRow a q A) : IsRow (k0_pay9 rows8 a) q (dblA 2 (dblA 1 A)) := fun i =>
  mul_real (pay6_real ha i) ((sel_back (F := Ideal) 2#32 (by simp) (k0_pay6 rows8 a) ov i q).trans
    ((congrArg (fun z => back (F := Ideal) 2 (k0_pay6 rows8 a) z i q) one_real).trans (back_real (pay6_real ha) 2 1 i)))

/-- The inputs after one doubling. -/
def dbl1 (a u : FVec Ideal S8x1280 .f32) : FVec Ideal S8x1280 .f32 :=
  addf u (mulf a (select (broadcastTo S8x1280 (shapeCast S8x1 (cmpi .sge rows8 (broadcast S8x1 1#32)) shapeCasts_S8x1_S8x1) broadcasts_S8x1_S8x1280)
      (dynamicRotate 0 1#32 none u rotates_S8x1280_d0) zv))

theorem dbl1_real (ha : IsRow a q A) (hu : IsRow u q U) : IsRow (dbl1 a u) q (dblU 1 A U) := fun i =>
  add_real (hu i) (mul_real (ha i) ((sel_back (F := Ideal) 1#32 (by simp) u zv i q).trans
    ((congrArg (fun z => back (F := Ideal) 1 u z i q) zero_real).trans (back_real hu 1 0 i))))

theorem pay8_real (ha : IsRow a q A) (hu : IsRow u q U) : IsRow (k0_pay8 rows8 a u) q (dblU 2 (dblA 1 A) (dblU 1 A U)) := fun i =>
  add_real (dbl1_real ha hu i) (mul_real (pay6_real ha i) ((sel_back (F := Ideal) 2#32 (by simp) (dbl1 a u) zv i q).trans
    ((congrArg (fun z => back (F := Ideal) 2 (dbl1 a u) z i q) zero_real).trans (back_real (dbl1_real ha hu) 2 0 i))))

/-- One tile of states is the recurrence from the carried row. -/
theorem tileOut_real (ha : IsRow a q A) (hu : IsRow u q U) (hg : IsRow g q fun _ => c) :
    IsRow (tileOut a u g) q fun n => rec1 A U c (n + 1) := fun i => by
  refine Eq.trans (b := ((dblU 4 (dblA 2 (dblA 1 A)) (dblU 2 (dblA 1 A) (dblU 1 A U)) i.val + dblA 4 (dblA 2 (dblA 1 A)) i.val * c : ℝ) : EReal)) ?_
    (congrArg _ (dbl_rec A U c i.val i.isLt))
  refine add_real (add_real (pay8_real ha hu i) (mul_real (pay9_real ha i) ?_)) (mul_real (mul_real (pay9_real ha i) ?_) (hg i))
  · exact (sel_back (F := Ideal) 4#32 (by simp) (k0_pay8 rows8 a u) zv i q).trans
      ((congrArg (fun z => back (F := Ideal) 4 (k0_pay8 rows8 a u) z i q) zero_real).trans (back_real (pay8_real ha hu) 4 0 i))
  · exact (sel_back (F := Ideal) 4#32 (by simp) (k0_pay9 rows8 a) ov i q).trans
      ((congrArg (fun z => back (F := Ideal) 4 (k0_pay9 rows8 a) z i q) one_real).trans (back_real (pay9_real ha) 4 1 i))

/-- The last row of it goes on. -/
theorem tileCarry_real (ha : IsRow a q A) (hu : IsRow u q U) (hg : IsRow g q fun _ => c) :
    IsRow (tileCarry a u g) q fun _ => rec1 A U c 8 := fun i => by
  refine Eq.trans ?_ (tileOut_real ha hu hg (7 : Fin 8))
  show k0_pay3 _ _ _ _ _ (ix2 i q) = _
  unfold k0_pay3
  pointwise
  rfl

end fwd

section bwd
variable {a d g af h hp : Vec Ideal S8x1280 .f32} {q : Fin 1280} {A D H : ℕ → ℝ} {c e hm : ℝ}

/-- The recurrence backwards over reals: `n` rows from the end of a tile, with the decay after the tile `e`. -/
def rec2 (A D : ℕ → ℝ) (c e : ℝ) : ℕ → ℝ
  | 0 => c
  | n + 1 => (if n = 0 then e else A (8 - n)) * rec2 A D c e n + D (7 - n)

/-- The decays one row later. -/
def nxt (A : ℕ → ℝ) (e : ℝ) (n : ℕ) : ℝ := if n + 1 < 8 then A (n + 1) else e

/-- One doubling of the gradients, backwards. -/
def dblD (d : ℕ) (A U : ℕ → ℝ) (n : ℕ) : ℝ := U n + A n * (if n + d < 8 then U (n + d) else 0)

/-- One doubling of the decays, backwards. -/
def dblB (d : ℕ) (A : ℕ → ℝ) (n : ℕ) : ℝ := A n * (if n + d < 8 then A (n + d) else 1)

/-- Three doublings and the carried row are the recurrence, backwards. -/
theorem dbl_rec2 (A D : ℕ → ℝ) (c e : ℝ) (n : ℕ) (h : n < 8) :
    dblD 4 (dblB 2 (dblB 1 (nxt A e))) (dblD 2 (dblB 1 (nxt A e)) (dblD 1 (nxt A e) D)) n + dblB 4 (dblB 2 (dblB 1 (nxt A e))) n * c
      = rec2 A D c e (8 - n) := by
  interval_cases n <;> simp [dblD, dblB, nxt, rec2] <;> ring

theorem pay10_real (ha : IsRow a q A) (hf : IsRow af q fun _ => e) : IsRow (k1_pay10 rows8 af a) q (nxt A e) := fun i =>
  (sel_ahead (F := Ideal) 7#32 7#32 1 (by simp) a af i q).trans ((congrArg (fun z => ahead (F := Ideal) 1 a z i q) (hf i)).trans (ahead_real ha 1 e i))

theorem pay12_real (ha : IsRow a q A) (hf : IsRow af q fun _ => e) (hd : IsRow d q D) :
    IsRow (k1_pay12 rows8 af a d) q (dblD 1 (nxt A e) D) := fun i =>
  add_real (hd i) (mul_real (pay10_real ha hf i) ((sel_ahead (F := Ideal) 7#32 7#32 1 (by simp) d zv i q).trans
    ((congrArg (fun z => ahead (F := Ideal) 1 d z i q) zero_real).trans (ahead_real hd 1 0 i))))

theorem pay13_real (ha : IsRow a q A) (hf : IsRow af q fun _ => e) :
    IsRow (k1_pay13 rows8 af a) q (dblB 1 (nxt A e)) := fun i =>
  mul_real (pay10_real ha hf i) ((sel_ahead (F := Ideal) 7#32 7#32 1 (by simp) (k1_pay10 rows8 af a) ov i q).trans
    ((congrArg (fun z => ahead (F := Ideal) 1 (k1_pay10 rows8 af a) z i q) one_real).trans (ahead_real (pay10_real ha hf) 1 1 i)))

/-- The gradients after the second doubling. -/
def dblD2 (x y : FVec Ideal S8x1280 .f32) : FVec Ideal S8x1280 .f32 :=
  addf x (mulf y (select (broadcastTo S8x1280 (shapeCast S8x1 (cmpi .slt rows8 (broadcast S8x1 6#32)) shapeCasts_S8x1_S8x1) broadcasts_S8x1_S8x1280)
      (dynamicRotate 0 6#32 none x rotates_S8x1280_d0) zv))

/-- The decays after the second doubling. -/
def dblB2 (y : FVec Ideal S8x1280 .f32) : FVec Ideal S8x1280 .f32 :=
  mulf y (select (broadcastTo S8x1280 (shapeCast S8x1 (cmpi .slt rows8 (broadcast S8x1 6#32)) shapeCasts_S8x1_S8x1) broadcasts_S8x1_S8x1280)
      (dynamicRotate 0 6#32 none y rotates_S8x1280_d0) ov)

theorem dblD2_real {x y : Vec Ideal S8x1280 .f32} {X Y : ℕ → ℝ} (hx : IsRow x q X) (hy : IsRow y q Y) : IsRow (dblD2 x y) q (dblD 2 Y X) := fun i =>
  add_real (hx i) (mul_real (hy i) ((sel_ahead (F := Ideal) 6#32 6#32 2 (by simp) x zv i q).trans
    ((congrArg (fun z => ahead (F := Ideal) 2 x z i q) zero_real).trans (ahead_real hx 2 0 i))))

theorem dblB2_real {y : Vec Ideal S8x1280 .f32} {Y : ℕ → ℝ} (hy : IsRow y q Y) : IsRow (dblB2 y) q (dblB 2 Y) := fun i =>
  mul_real (hy i) ((sel_ahead (F := Ideal) 6#32 6#32 2 (by simp) y ov i q).trans
    ((congrArg (fun z => ahead (F := Ideal) 2 y z i q) one_real).trans (ahead_real hy 2 1 i)))

/-- The last doubling and the carried row. -/
theorem pay15_eq (g x y : FVec Ideal S8x1280 .f32) : k1_pay15 rows8 g x y k1_pay14
    = addf (addf (dblD2 x y) (mulf (dblB2 y)
        (select (broadcastTo S8x1280 (shapeCast S8x1 (cmpi .slt rows8 (broadcast S8x1 4#32)) shapeCasts_S8x1_S8x1) broadcasts_S8x1_S8x1280)
          (dynamicRotate 0 4#32 none (dblD2 x y) rotates_S8x1280_d0) zv)))
      (mulf (mulf (dblB2 y)
        (select (broadcastTo S8x1280 (shapeCast S8x1 (cmpi .slt rows8 (broadcast S8x1 4#32)) shapeCasts_S8x1_S8x1) broadcasts_S8x1_S8x1280)
          (dynamicRotate 0 4#32 none (dblB2 y) rotates_S8x1280_d0) ov)) g) := by
  unfold k1_pay15 dblD2 dblB2 k1_pay14
  rfl

/-- One tile of gradients is the recurrence backwards from the carried row. -/
theorem tileG_real (ha : IsRow a q A) (hd : IsRow d q D) (hg : IsRow g q fun _ => c) (hf : IsRow af q fun _ => e) :
    IsRow (tileG a d g af) q fun n => rec2 A D c e (8 - n) := fun i => by
  have hx := pay12_real ha hf hd
  have hy := pay13_real ha hf
  have hx2 := dblD2_real hx hy
  have hy2 := dblB2_real hy
  refine Eq.trans (b := (((dblD 4 (dblB 2 (dblB 1 (nxt A e))) (dblD 2 (dblB 1 (nxt A e)) (dblD 1 (nxt A e) D)) i.val
    + dblB 4 (dblB 2 (dblB 1 (nxt A e))) i.val * c : ℝ)) : EReal)) ?_ (congrArg _ (dbl_rec2 A D c e i.val i.isLt))
  refine (congrFun (pay15_eq g (k1_pay12 rows8 af a d) (k1_pay13 rows8 af a)) (ix2 i q)).trans ?_
  refine add_real (add_real (hx2 i) (mul_real (hy2 i) ?_)) (mul_real (mul_real (hy2 i) ?_) (hg i))
  · exact (sel_ahead (F := Ideal) 4#32 4#32 4 (by simp) (dblD2 (k1_pay12 rows8 af a d) (k1_pay13 rows8 af a)) zv i q).trans
      ((congrArg (fun z => ahead (F := Ideal) 4 (dblD2 (k1_pay12 rows8 af a d) (k1_pay13 rows8 af a)) z i q) zero_real).trans (ahead_real hx2 4 0 i))
  · exact (sel_ahead (F := Ideal) 4#32 4#32 4 (by simp) (dblB2 (k1_pay13 rows8 af a)) ov i q).trans
      ((congrArg (fun z => ahead (F := Ideal) 4 (dblB2 (k1_pay13 rows8 af a)) z i q) one_real).trans (ahead_real hy2 4 1 i))

/-- The first row of the gradients goes on. -/
theorem pay4_real {G : ℕ → ℝ} {x : Vec Ideal S8x1280 .f32} (hx : IsRow x q G) : IsRow (k1_pay4 (F := Ideal) x) q fun _ => G 0 := fun i => by
  refine Eq.trans ?_ (hx (0 : Fin 8))
  unfold k1_pay4
  pointwise

/-- And the first row of the decays. -/
theorem pay5_real {G : ℕ → ℝ} {x : Vec Ideal S8x1280 .f32} (hx : IsRow x q G) : IsRow (k1_pay5 (F := Ideal) x) q fun _ => G 0 := fun i => by
  refine Eq.trans ?_ (hx (0 : Fin 8))
  unfold k1_pay5
  pointwise

/-- One tile of gradients of the decays: the gradient times the state one row earlier. -/
theorem tileD_real (hG : IsRow (tileG a d g af) q D) (hh : IsRow h q H) (hpr : hp (ix2 (7 : Fin 8) q) = ((hm : ℝ) : EReal)) :
    IsRow (tileD a h hp d g af) q fun n => D n * (if 1 ≤ n then H (n - 1) else hm) := fun i => by
  refine mul_real (hG i) ?_
  refine (sel_back (F := Ideal) 1#32 (by simp) (k1_pay8 h) _ i q).trans ?_
  have h8 : k1_pay8 h = h := shapeCast_id _ _
  rw [h8]
  refine Eq.trans ?_ (back_real hh 1 hm i)
  refine congrArg (fun z => back (F := Ideal) 1 h z i q) ?_
  refine Eq.trans ?_ hpr
  pointwise

end bwd

/-- A column of an array is real, and which reals. -/
abbrev IsCol (x : Vec Ideal S4224x1280 .f32) (q : Fin 1280) (A : ℕ → ℝ) : Prop := ∀ r : Fin 4224, x (ix2 r q) = ((A r.val : ℝ) : EReal)

theorem gtile_row {x : Vec Ideal S4224x1280 .f32} {q : Fin 1280} {A : ℕ → ℝ} (h : IsCol x q A) (k : ℕ) (hk : k < 528) :
    IsRow (gtile x k) q fun n => A (8 * k + n) := fun i => by
  have hi := i.isLt
  refine (h (⟨(8 * k + i.val) % 4224, Nat.mod_lt _ (by decide)⟩ : Fin 4224)).trans ?_
  show ((A ((8 * k + i.val) % 4224) : ℝ) : EReal) = _
  rw [Nat.mod_eq_of_lt (by omega)]

theorem rec1_shift (A U : ℕ → ℝ) (m : ℕ) : ∀ n, rec1 (fun n => A (m + n)) (fun n => U (m + n)) (rec1 A U 0 m) n = rec1 A U 0 (m + n)
  | 0 => rfl
  | n + 1 => by
    show A (m + n) * rec1 _ _ _ n + U (m + n) = A (m + n) * rec1 A U 0 (m + n) + U (m + n)
    rw [rec1_shift A U m n]

section whole
variable {a u d h : Vec Ideal S4224x1280 .f32} {q : Fin 1280} {A U D H : ℕ → ℝ}

theorem gcarry_real (ha : IsCol a q A) (hu : IsCol u q U) : ∀ k ≤ 528, IsRow (gcarry a u k) q fun _ => rec1 A U 0 (8 * k)
  | 0, _ => fun i => by
    show k0_pay1 (F := Ideal) (ix2 i q) = _
    unfold k0_pay1
    pointwise
    exact EReal.coe_zero.symm
  | k + 1, hk => fun i => by
    refine (tileCarry_real (gtile_row ha k (by omega)) (gtile_row hu k (by omega)) (gcarry_real ha hu k (by omega)) i).trans ?_
    exact congrArg _ (rec1_shift A U (8 * k) 8)

/-- The forward kernel's states are the recurrence. -/
theorem hsOut_real (ha : IsCol a q A) (hu : IsCol u q U) : IsCol (hsOut a u) q fun r => rec1 A U 0 (r + 1) := fun r => by
  have hr := r.isLt
  refine (tileOut_real (gtile_row ha (r.val / 8) (by omega)) (gtile_row hu (r.val / 8) (by omega)) (gcarry_real ha hu (r.val / 8) (by omega))
    (⟨r.val % 8, Nat.mod_lt _ (by decide)⟩ : Fin 8)).trans ?_
  refine congrArg _ ((rec1_shift A U (8 * (r.val / 8)) (r.val % 8 + 1)).trans ?_)
  rw [show 8 * (r.val / 8) + (r.val % 8 + 1) = r.val + 1 by omega]

/-- The recurrence backwards over reals, from the last row. -/
def recB (A D : ℕ → ℝ) : ℕ → ℝ
  | 0 => 0
  | j + 1 => (if j = 0 then 0 else A (4224 - j)) * recB A D j + D (4223 - j)

theorem rec2_shift (A D : ℕ → ℝ) (j : ℕ) (hj : j < 528) : ∀ n ≤ 8,
    rec2 (fun n => A (8 * (527 - j) + n)) (fun n => D (8 * (527 - j) + n)) (recB A D (8 * j)) (if j = 0 then 0 else A (4224 - 8 * j)) n = recB A D (8 * j + n)
  | 0, _ => rfl
  | n + 1, h => by
    show (if n = 0 then (if j = 0 then 0 else A (4224 - 8 * j)) else A (8 * (527 - j) + (8 - n))) * rec2 _ _ _ _ n + D (8 * (527 - j) + (7 - n))
      = (if 8 * j + n = 0 then 0 else A (4224 - (8 * j + n))) * recB A D (8 * j + n) + D (4223 - (8 * j + n))
    rw [rec2_shift A D j hj n (by omega), show 8 * (527 - j) + (7 - n) = 4223 - (8 * j + n) by omega,
      show 8 * (527 - j) + (8 - n) = 4224 - (8 * j + n) by omega]
    rcases Nat.eq_zero_or_pos n with rfl | hn
    · simp
    · rw [if_neg (by omega), if_neg (by omega)]

theorem gcarry1_real (ha : IsCol a q A) (hd : IsCol d q D) : ∀ j ≤ 528,
    IsRow (gcarry1 a d j).1 q (fun _ => recB A D (8 * j)) ∧ IsRow (gcarry1 a d j).2 q (fun _ => if j = 0 then 0 else A (4224 - 8 * j))
  | 0, _ => ⟨fun i => by
    show k1_pay1 (F := Ideal) (ix2 i q) = _
    unfold k1_pay1
    pointwise
    exact EReal.coe_zero.symm, fun i => by
    show k1_pay2 (F := Ideal) (ix2 i q) = _
    unfold k1_pay2
    pointwise
    exact EReal.coe_zero.symm⟩
  | j + 1, hj => by
    have ih := gcarry1_real ha hd j (by omega)
    refine ⟨fun i => ?_, fun i => ?_⟩
    · refine (pay4_real (tileG_real (gtile_row ha (527 - j) (by omega)) (gtile_row hd (527 - j) (by omega)) ih.1 ih.2) i).trans ?_
      exact congrArg _ (rec2_shift A D j (by omega) 8 le_rfl)
    · refine (pay5_real (gtile_row ha (527 - j) (by omega)) i).trans ?_
      rw [if_neg (Nat.succ_ne_zero j)]
      show ((A (8 * (527 - j) + 0) : ℝ) : EReal) = _
      rw [show 8 * (527 - j) + 0 = 4224 - 8 * (j + 1) by omega]

theorem tileG_col (ha : IsCol a q A) (hd : IsCol d q D) (k : ℕ) (hk : k < 528) :
    IsRow (tileG (gtile a k) (gtile d k) (gcarry1 a d (527 - k)).1 (gcarry1 a d (527 - k)).2) q fun n => recB A D (4224 - (8 * k + n)) := fun i => by
  have hi := i.isLt
  have hc := gcarry1_real ha hd (527 - k) (by omega)
  refine (tileG_real (gtile_row ha k hk) (gtile_row hd k hk) hc.1 hc.2 i).trans (congrArg _ ?_)
  have e := rec2_shift A D (527 - k) (by omega) (8 - i.val) (by omega)
  rw [show 527 - (527 - k) = k by omega] at e
  refine e.trans ?_
  rw [show 8 * (527 - k) + (8 - i.val) = 4224 - (8 * k + i.val) by omega]

/-- The backward kernel's gradients of the inputs are the recurrence backwards. -/
theorem duOut_real (ha : IsCol a q A) (hd : IsCol d q D) : IsCol (duOut a d) q fun r => recB A D (4224 - r) := fun r => by
  have hr := r.isLt
  refine (tileG_col ha hd (r.val / 8) (by omega) (⟨r.val % 8, Nat.mod_lt _ (by decide)⟩ : Fin 8)).trans ?_
  show ((recB A D (4224 - (8 * (r.val / 8) + r.val % 8)) : ℝ) : EReal) = _
  rw [show 8 * (r.val / 8) + r.val % 8 = r.val by omega]

/-- The state before the tile. -/
theorem hpG_real (hh : IsCol h q H) (k : ℕ) (hk : k < 528) : hpG h k (ix2 (7 : Fin 8) q) = (((if k = 0 then 0 else H (8 * k - 1)) : ℝ) : EReal) := by
  unfold hpG
  split_ifs with hz
  · unfold k1_pay1
    pointwise
    exact EReal.coe_zero.symm
  · refine (gtile_row hh (k - 1) (by omega) (7 : Fin 8)).trans ?_
    show ((H (8 * (k - 1) + 7) : ℝ) : EReal) = _
    rw [show 8 * (k - 1) + 7 = 8 * k - 1 by omega]

/-- The backward kernel's gradients of the decays: the gradient times the state one row earlier. -/
theorem daOut_real (ha : IsCol a q A) (hd : IsCol d q D) (hh : IsCol h q H) :
    IsCol (daOut a h d) q fun r => recB A D (4224 - r) * (if r = 0 then 0 else H (r - 1)) := fun r => by
  have hr := r.isLt
  refine (tileD_real (tileG_col ha hd (r.val / 8) (by omega)) (gtile_row hh (r.val / 8) (by omega)) (hpG_real hh (r.val / 8) (by omega))
    (⟨r.val % 8, Nat.mod_lt _ (by decide)⟩ : Fin 8)).trans (congrArg _ ?_)
  show recB A D (4224 - (8 * (r.val / 8) + r.val % 8)) * (if 1 ≤ r.val % 8 then H (8 * (r.val / 8) + (r.val % 8 - 1)) else if r.val / 8 = 0 then 0 else H (8 * (r.val / 8) - 1)) = _
  rw [show 8 * (r.val / 8) + r.val % 8 = r.val by omega]
  congr 1
  by_cases h1 : 1 ≤ r.val % 8
  · rw [if_pos h1, if_neg (by omega), show 8 * (r.val / 8) + (r.val % 8 - 1) = r.val - 1 by omega]
  · rw [if_neg h1]
    by_cases h2 : r.val = 0
    · rw [if_pos (by omega), if_pos h2]
    · rw [if_neg (by omega), if_neg h2, show 8 * (r.val / 8) - 1 = r.val - 1 by omega]

end whole

end Cert.ScanIdeal.Value

end
-- ==== Proof.ScanMatch.lean ====
/- The two programs' results agree over the extended reals on real arguments, and the parts of the certificate. -/
module

public import proofs.«01_k».proof.Defs
public import proofs.«01_k».proof.Proof.ScanRun
public import proofs.«01_k».proof.Proof.ScanRefVal
public import proofs.«01_k».proof.Proof.ScanIdealVal

@[expose] public section

set_option maxRecDepth 16384

noncomputable section

namespace Cert.ScanMatch

open Idealize.ShloMosaic Idealize.ShloMosaic.TcCoe Idealize.SL.Sem
open Cert.ScanIdeal.Value (IsCol rec1 recB hsOut duOut daOut hsOut_real duOut_real daOut_real mul_real add_real)
open Cert.ScanRefIdeal.Value (rowN zrow refH refG gRow)

abbrev SN : Shape := ⟨2, ![4224, 1280]⟩
abbrev SR : Shape := ⟨1, ![1280]⟩

/-- The entries of a column as reals. -/
def colR (x : Vec Ideal SN .f32) (q : Fin 1280) (n : ℕ) : ℝ := (x (ix2 (Fin.ofNat 4224 n) q) : EReal).toReal

/-- Every entry is a real number. -/
def Fin2 (x : Vec Ideal SN .f32) : Prop := ∀ y : SN.Idx, (x y : EReal) ≠ ⊤ ∧ (x y : EReal) ≠ ⊥

theorem isCol_of_fin {x : Vec Ideal SN .f32} (h : Fin2 x) (q : Fin 1280) : IsCol x q (colR x q) := fun r => by
  unfold colR
  rw [show (Fin.ofNat 4224 r.val : Fin 4224) = r from Fin.ext (Nat.mod_eq_of_lt r.isLt)]
  exact (EReal.coe_toReal (h _).1 (h _).2).symm

section cols
variable {a u d : Vec Ideal SN .f32} {q : Fin 1280} {A U D : ℕ → ℝ}

theorem rowN_real (h : IsCol a q A) (n : ℕ) (hn : n < 4224) : rowN (F := Ideal) a n (ix1 q) = ((A n : ℝ) : EReal) := by
  refine (h (Fin.ofNat 4224 n)).trans ?_
  show ((A (n % 4224) : ℝ) : EReal) = _
  rw [Nat.mod_eq_of_lt hn]

theorem zrow_real : zrow (F := Ideal) (ix1 q) = ((0 : ℝ) : EReal) := by
  unfold zrow
  pointwise
  exact EReal.coe_zero.symm

/-- The reference's states are the recurrence. -/
theorem refH_real (ha : IsCol a q A) (hu : IsCol u q U) : ∀ n ≤ 4224, refH (F := Ideal) a u n (ix1 q) = ((rec1 A U 0 n : ℝ) : EReal)
  | 0, _ => zrow_real
  | n + 1, h => add_real (mul_real (rowN_real ha n (by omega)) (refH_real ha hu n (by omega))) (rowN_real hu n (by omega))

/-- The gradient the reference carries backwards. -/
theorem refG_real (ha : IsCol a q A) (hd : IsCol d q D) : ∀ j ≤ 4223,
    refG (F := Ideal) a d j (ix1 q) = (((if j = 0 then 0 else A (4224 - j)) * recB A D j : ℝ) : EReal)
  | 0, _ => by
    refine zrow_real.trans ?_
    rw [if_pos rfl, zero_mul]
  | j + 1, h => by
    refine (mul_real (rowN_real ha (4223 - j) (by omega)) (add_real (refG_real ha hd j (by omega)) (rowN_real hd (4223 - j) (by omega)))).trans ?_
    rw [if_neg (Nat.succ_ne_zero j), show 4224 - (j + 1) = 4223 - j by omega]
    rfl

theorem gRow_real (ha : IsCol a q A) (hd : IsCol d q D) (n : ℕ) (hn : n < 4224) :
    gRow (F := Ideal) a d n (ix1 q) = ((recB A D (4224 - n) : ℝ) : EReal) := by
  refine (add_real (refG_real ha hd (4223 - n) (by omega)) (rowN_real hd n hn)).trans ?_
  rw [show 4224 - n = (4223 - n) + 1 by omega]
  show _ = (((if 4223 - n = 0 then 0 else A (4224 - (4223 - n))) * recB A D (4223 - n) + D (4223 - (4223 - n)) : ℝ) : EReal)
  rw [show 4223 - (4223 - n) = n by omega]

end cols

section results
variable {a u d : Vec Ideal SN .f32}

theorem hs_eq (ha : Fin2 a) (hu : Fin2 u) (r : Fin 4224) (q : Fin 1280) : refH (F := Ideal) a u (r.val + 1) (ix1 q) = hsOut a u (ix2 r q) :=
  (refH_real (isCol_of_fin ha q) (isCol_of_fin hu q) _ (by have := r.isLt; omega)).trans (hsOut_real (isCol_of_fin ha q) (isCol_of_fin hu q) r).symm

theorem du_eq (ha : Fin2 a) (hd : Fin2 d) (r : Fin 4224) (q : Fin 1280) : gRow (F := Ideal) a d r.val (ix1 q) = duOut a d (ix2 r q) :=
  (gRow_real (isCol_of_fin ha q) (isCol_of_fin hd q) _ r.isLt).trans (duOut_real (isCol_of_fin ha q) (isCol_of_fin hd q) r).symm

theorem da_eq (ha : Fin2 a) (hu : Fin2 u) (hd : Fin2 d) (r : Fin 4224) (q : Fin 1280) :
    FloatOps.mulf (F := Ideal) (φ := .f32) (gRow (F := Ideal) a d r.val (ix1 q)) (refH (F := Ideal) a u r.val (ix1 q)) = daOut a (hsOut a u) d (ix2 r q) := by
  refine (mul_real (gRow_real (isCol_of_fin ha q) (isCol_of_fin hd q) _ r.isLt)
    (refH_real (isCol_of_fin ha q) (isCol_of_fin hu q) r.val (le_of_lt r.isLt))).trans ?_
  refine Eq.trans (congrArg _ ?_) (daOut_real (isCol_of_fin ha q) (isCol_of_fin hd q) (hsOut_real (isCol_of_fin ha q) (isCol_of_fin hu q)) r).symm
  congr 1
  by_cases h : r.val = 0
  · rw [if_pos h, h]; rfl
  · rw [if_neg h, show r.val - 1 + 1 = r.val by omega]

end results

section pre
variable [Cert.Pre_finite.Facts]

theorem inf_top : (FloatOps.ofBits .f32 0x7F800000#32 : Ideal .f32) = (⊤ : EReal) := by
  simp [Ideal.ofBits, Ideal.ieee]

theorem abs_lt {x : EReal} (h : Ideal.cmp .olt (max x (-x)) (⊤ : EReal) = 1#1) : x ≠ ⊤ ∧ x ≠ ⊥ := by
  constructor
  · rintro rfl
    simp [Ideal.cmp] at h
  · rintro rfl
    simp [Ideal.cmp] at h

/-- The precondition says that every entry is real. -/
theorem finite_of_pre {a u d : Vec Ideal SN .f32} (h : Cert.Pre_finite.fn (F := Ideal) a u d = fun _ => 1#1) : Fin2 a ∧ Fin2 u ∧ Fin2 d := by
  have key : ∀ y : SN.Idx, (Ideal.cmp .olt (max (a y) (-(a y))) (FloatOps.ofBits .f32 0x7F800000#32 : Ideal .f32)
      &&& Ideal.cmp .olt (max (u y) (-(u y))) (FloatOps.ofBits .f32 0x7F800000#32 : Ideal .f32))
      &&& Ideal.cmp .olt (max (d y) (-(d y))) (FloatOps.ofBits .f32 0x7F800000#32 : Ideal .f32) = 1#1 := fun y => congrFun h y
  rw [inf_top] at key
  have bits : ∀ p q r : BitVec 1, (p &&& q) &&& r = 1#1 → p = 1#1 ∧ q = 1#1 ∧ r = 1#1 := by decide
  exact ⟨fun y => abs_lt (bits _ _ _ (key y)).1, fun y => abs_lt (bits _ _ _ (key y)).2.1, fun y => abs_lt (bits _ _ _ (key y)).2.2⟩

end pre

end Cert.ScanMatch

end
-- ==== Proof.lean ====
/- The claim: each program runs with its arguments unchanged, and the kernel's results are its reference's on real arguments. -/
module

public import proofs.«01_k».proof.Proof.AdLMatch
public import proofs.«01_k».proof.Proof.AdSMatch
public import proofs.«01_k».proof.Proof.LoMatch
public import proofs.«01_k».proof.Proof.SmMatch
public import proofs.«01_k».proof.Proof.RgMatch
public import proofs.«01_k».proof.Proof.MlpMatch
public import proofs.«01_k».proof.Defs
public import proofs.«01_k».proof.Proof.Gen.Scan
public import proofs.«01_k».proof.Proof.Gen.Scan.Skeleton
public import proofs.«01_k».proof.Proof.Gen.Scan.Loops
public import proofs.«01_k».proof.Proof.Gen.Scan.Launch
public import proofs.«01_k».proof.Proof.Gen.Scan.Regions
public import proofs.«01_k».proof.Proof.Gen.Scan.Points
public import proofs.«01_k».proof.Proof.Gen.ScanIdeal
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Regions
public import proofs.«01_k».proof.Proof.Gen.ScanIdeal.Points
public import proofs.«01_k».proof.Proof.Gen.ScanRefIdeal
public import proofs.«01_k».proof.Proof.Gen.Pre_finite
public import proofs.«01_k».proof.Proof.ScanMatch
public import Idealize.ShloMosaic.Adequacy
public import Idealize.ShloMosaic.Init

@[expose] public section

noncomputable section

namespace Cert.Proof

open Idealize.ShloMosaic Idealize.ShloMosaic.TcCoe Idealize.SL.Sem

/-- The program runs, over any floats, its arguments unchanged and its counters at zero. -/
theorem frame_any {F : FTy → Type} [FloatOps F] (m : (ℓ : Loc ScanIdeal.nD ScanIdeal.τ ScanIdeal.sig) → Buf (Elt F) ℓ) (ρ : Dev ScanIdeal.nD → PrngReg) :
    θ_run (ScanIdeal.defs (F := F)) (onTc (τ := ScanIdeal.τ) (ScanIdeal.main (F := F))) ⟨m, fun _ => 0, ρ⟩ (fun r => (∀ c : Dev ScanIdeal.nD,
      r.2.mem ((c.tc : Thread ScanIdeal.nD ScanIdeal.τ).loc ScanIdeal.main_arg0) = m ((c.tc : Thread ScanIdeal.nD ScanIdeal.τ).loc ScanIdeal.main_arg0)
      ∧ r.2.mem ((c.tc : Thread ScanIdeal.nD ScanIdeal.τ).loc ScanIdeal.main_arg1) = m ((c.tc : Thread ScanIdeal.nD ScanIdeal.τ).loc ScanIdeal.main_arg1)
      ∧ r.2.mem ((c.tc : Thread ScanIdeal.nD ScanIdeal.τ).loc ScanIdeal.main_arg2) = m ((c.tc : Thread ScanIdeal.nD ScanIdeal.τ).loc ScanIdeal.main_arg2))
      ∧ r.2.sem = fun _ => 0) :=
  (θ_run ScanIdeal.defs _ _).mono (fun _ h => ⟨fun c => (h.1 c).2.2.2, h.2⟩) (ScanIdeal.Value.run_main m ρ)

/-- The two texts' bodies are the same. -/
theorem defs0_eq {F : FTy → Type} [FloatOps F] : Scan.defs₀ (F := F) = ScanIdeal.defs₀ (F := F) := by
  refine congrArg Defs.onTc (funext fun l => funext fun a => ?_)
  match l, a with
  | 0, (t, s) => rfl
  | 1, (t, s) => rfl
  | ⟨n + 2, h⟩, _ => exact absurd h (Nat.not_lt.2 (Nat.le_add_left _ _))

/-- And their tables with the regions. -/
theorem defs_eq {F : FTy → Type} [FloatOps F] : Scan.defs (F := F) = ScanIdeal.defs (F := F) :=
  congrArg (Pipeline.defs (ScanIdeal.pcfgs (F := F))) defs0_eq

/-- The kernel's frame: its text is the ideal program's, so the one run over any floats gives it. -/
theorem frame_scan : quiescent_Scan := fun m ρ _ => by
  have h := frame_any (F := Bits) m ρ
  rw [← defs_eq] at h
  exact h

/-- The ideal program's frame. -/
theorem frame_scanIdeal : quiescent_ScanIdeal := fun m ρ _ => frame_any (F := Ideal) m ρ

/-- The reference's frame. -/
theorem frame_scanRef : quiescent_ScanRefIdeal := fun m ρ _ =>
  (θ_run ScanRefIdeal.defs _ _).mono (fun r h => ⟨fun c => ⟨(h c _ rfl).trans (ScanRefIdeal.Value.end_a0 m c),
    (h c _ rfl).trans (ScanRefIdeal.Value.end_a1 m c), (h c _ rfl).trans (ScanRefIdeal.Value.end_a2 m c)⟩, sem_eq_zero_of_no_sems (by decide) r.2⟩)
    (ScanRefIdeal.Value.run_ends (F := Ideal) m ρ)

/-- The two programs' results agree on real arguments. -/
theorem results_agree [Pre_finite.Facts] : algebraic_ScanIdeal_ScanRefIdeal_pre_finite := fun m ρ m' ρ' hpre hagree => by
  have hf := fun c => ScanMatch.finite_of_pre (hpre c)
  refine ⟨fun c => ScanIdeal.Value.hsOut (m ((c.tc : Thread ScanIdeal.nD ScanIdeal.τ).loc ScanIdeal.main_arg0)) (m ((c.tc : Thread ScanIdeal.nD ScanIdeal.τ).loc ScanIdeal.main_arg1)),
    fun c => ScanIdeal.Value.duOut (m ((c.tc : Thread ScanIdeal.nD ScanIdeal.τ).loc ScanIdeal.main_arg0)) (m ((c.tc : Thread ScanIdeal.nD ScanIdeal.τ).loc ScanIdeal.main_arg2)),
    fun c => ScanIdeal.Value.daOut (m ((c.tc : Thread ScanIdeal.nD ScanIdeal.τ).loc ScanIdeal.main_arg0))
      (ScanIdeal.Value.hsOut (m ((c.tc : Thread ScanIdeal.nD ScanIdeal.τ).loc ScanIdeal.main_arg0)) (m ((c.tc : Thread ScanIdeal.nD ScanIdeal.τ).loc ScanIdeal.main_arg1)))
      (m ((c.tc : Thread ScanIdeal.nD ScanIdeal.τ).loc ScanIdeal.main_arg2)), ?_, ?_⟩
  · exact (θ_run ScanIdeal.defs _ _).mono (fun _ h => h.1) (ScanIdeal.Value.run_main (F := Ideal) m ρ)
  · refine (θ_run ScanRefIdeal.defs _ _).mono (fun r h c => ?_) (ScanRefIdeal.Value.run_ends (F := Ideal) m' ρ')
    obtain ⟨e0, e1, e2⟩ := hagree c
    obtain ⟨f0, f1, f2⟩ := hf c
    refine ⟨(h c _ rfl).trans (funext fun y => ?_), (h c _ rfl).trans (funext fun y => ?_), (h c _ rfl).trans (funext fun y => ?_),
      (h c _ rfl).trans (ScanRefIdeal.Value.end_a0 m' c), (h c _ rfl).trans (ScanRefIdeal.Value.end_a1 m' c),
      (h c _ rfl).trans (ScanRefIdeal.Value.end_a2 m' c)⟩
    · rw [eq_ix2 y]
      refine (ScanRefIdeal.Value.end_h m' c (y 0) (y 1)).trans ?_
      rw [e0, e1]
      exact ScanMatch.hs_eq f0 f1 (y 0) (y 1)
    · rw [eq_ix2 y]
      refine (ScanRefIdeal.Value.end_du m' c (y 0) (y 1)).trans ?_
      rw [e0, e2]
      exact ScanMatch.du_eq f0 f2 (y 0) (y 1)
    · rw [eq_ix2 y]
      refine (ScanRefIdeal.Value.end_da m' c (y 0) (y 1)).trans ?_
      rw [e0, e1, e2]
      exact ScanMatch.da_eq f0 f1 f2 (y 0) (y 1)

/-- The claim. -/
theorem claim : Cert.Claim := ⟨Scan.Gen.facts, ScanIdeal.Gen.facts, ScanRefIdeal.Gen.facts,
  Mlp.Gen.facts, MlpIdeal.Gen.facts, MlpRefIdeal.Gen.facts,
  Rg.Gen.facts, RgIdeal.Gen.facts, RgRefIdeal.Gen.facts,
  Sm.Gen.facts, SmIdeal.Gen.facts, SmRefIdeal.Gen.facts,
  AdamL.Gen.facts, AdamLIdeal.Gen.facts, AdamLRefIdeal.Gen.facts,
  AdamS.Gen.facts, AdamSIdeal.Gen.facts, AdamSRefIdeal.Gen.facts,
  Loss.Gen.facts, LossIdeal.Gen.facts, LossRefIdeal.Gen.facts, Pre_finite.Gen.facts,
  frame_scan, frame_scanIdeal, fun m ρ _ => frame_scanIdeal m ρ trivial, frame_scanRef, fun m ρ _ => frame_scanRef m ρ trivial,
  MlpMatch.frame_mlp, MlpMatch.frame_mlpIdeal, MlpMatch.frame_mlpRef,
  RgMatch.frame_rg, RgMatch.frame_rgIdeal, RgMatch.frame_rgRef,
  SmMatch.frame_sm, SmMatch.frame_smIdeal, SmMatch.frame_smRef,
  AdLMatch.frame_k, AdLMatch.frame_ideal, AdLMatch.frame_ref,
  AdSMatch.frame_k, AdSMatch.frame_ideal, AdSMatch.frame_ref,
  LoMatch.frame_k, LoMatch.frame_ideal, LoMatch.frame_ref,
  trivial, results_agree, trivial, MlpMatch.results_agree, trivial, RgMatch.results_agree, trivial, SmMatch.results_agree,
  trivial, AdLMatch.results_agree, trivial, AdSMatch.results_agree, trivial, LoMatch.results_agree⟩

end Cert.Proof

end
